-- ==== Defs.lean ====
def Pre_MergeBwd (m : (ℓ : Loc Cert.MergeBwd.nD Cert.MergeBwd.τ Cert.MergeBwd.sig) → Buf (Elt Bits) ℓ) : Prop :=
  True

def Pre_MergeBwdIdeal (m : (ℓ : Loc Cert.MergeBwdIdeal.nD Cert.MergeBwdIdeal.τ Cert.MergeBwdIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_PleLoss (m : (ℓ : Loc Cert.PleLoss.nD Cert.PleLoss.τ Cert.PleLoss.sig) → Buf (Elt Bits) ℓ) : Prop :=
  True

def Pre_PleLossIdeal (m : (ℓ : Loc Cert.PleLossIdeal.nD Cert.PleLossIdeal.τ Cert.PleLossIdeal.sig) → Buf (Elt Ideal) ℓ) : Prop :=
  True

def Pre_PleRefIdeal (m : (ℓ : Loc Cert.PleRefIdeal.nD Cert.PleRefIdeal.τ Cert.PleRefIdeal.sig) → Buf (Elt Ideal) ℓ) : Prop :=
  True

def Pre_MlpBwd (m : (ℓ : Loc Cert.MlpBwd.nD Cert.MlpBwd.τ Cert.MlpBwd.sig) → Buf (Elt Bits) ℓ) : Prop :=
  True

def Pre_MlpBwdIdeal (m : (ℓ : Loc Cert.MlpBwdIdeal.nD Cert.MlpBwdIdeal.τ Cert.MlpBwdIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_InprojBwd (m : (ℓ : Loc Cert.InprojBwd.nD Cert.InprojBwd.τ Cert.InprojBwd.sig) → Buf (Elt Bits) ℓ) : Prop :=
  True

def Pre_InprojBwdIdeal (m : (ℓ : Loc Cert.InprojBwdIdeal.nD Cert.InprojBwdIdeal.τ Cert.InprojBwdIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_KvBwd (m : (ℓ : Loc Cert.KvBwd.nD Cert.KvBwd.τ Cert.KvBwd.sig) → Buf (Elt Bits) ℓ) : Prop :=
  True

def Pre_KvBwdIdeal (m : (ℓ : Loc Cert.KvBwdIdeal.nD Cert.KvBwdIdeal.τ Cert.KvBwdIdeal.sig) → Buf (Elt Ideal) ℓ) : Prop :=
  True

def Pre_KvBwdIdeal_kv_finite [hPre_kv_finite : Cert.Pre_kv_finite.Facts] (m : (ℓ : Loc Cert.KvBwdIdeal.nD Cert.KvBwdIdeal.τ Cert.KvBwdIdeal.sig) → Buf (Elt Ideal) ℓ) : Prop :=
  ∀ c : Dev Cert.KvBwdIdeal.nD,
    (Cert.Pre_kv_finite.fn (F := Ideal) (m ((c.tc : Thread Cert.KvBwdIdeal.nD Cert.KvBwdIdeal.τ).loc Cert.KvBwdIdeal.main_arg0)) (m ((c.tc : Thread Cert.KvBwdIdeal.nD Cert.KvBwdIdeal.τ).loc Cert.KvBwdIdeal.main_arg1)) (m ((c.tc : Thread Cert.KvBwdIdeal.nD Cert.KvBwdIdeal.τ).loc Cert.KvBwdIdeal.main_arg2)) (m ((c.tc : Thread Cert.KvBwdIdeal.nD Cert.KvBwdIdeal.τ).loc Cert.KvBwdIdeal.main_arg3)) (m ((c.tc : Thread Cert.KvBwdIdeal.nD Cert.KvBwdIdeal.τ).loc Cert.KvBwdIdeal.main_arg4)) (m ((c.tc : Thread Cert.KvBwdIdeal.nD Cert.KvBwdIdeal.τ).loc Cert.KvBwdIdeal.main_arg5))).1 = (fun _ => 1#1)
    ∧ (Cert.Pre_kv_finite.fn (F := Ideal) (m ((c.tc : Thread Cert.KvBwdIdeal.nD Cert.KvBwdIdeal.τ).loc Cert.KvBwdIdeal.main_arg0)) (m ((c.tc : Thread Cert.KvBwdIdeal.nD Cert.KvBwdIdeal.τ).loc Cert.KvBwdIdeal.main_arg1)) (m ((c.tc : Thread Cert.KvBwdIdeal.nD Cert.KvBwdIdeal.τ).loc Cert.KvBwdIdeal.main_arg2)) (m ((c.tc : Thread Cert.KvBwdIdeal.nD Cert.KvBwdIdeal.τ).loc Cert.KvBwdIdeal.main_arg3)) (m ((c.tc : Thread Cert.KvBwdIdeal.nD Cert.KvBwdIdeal.τ).loc Cert.KvBwdIdeal.main_arg4)) (m ((c.tc : Thread Cert.KvBwdIdeal.nD Cert.KvBwdIdeal.τ).loc Cert.KvBwdIdeal.main_arg5))).2.1 = (fun _ => 1#1)
    ∧ (Cert.Pre_kv_finite.fn (F := Ideal) (m ((c.tc : Thread Cert.KvBwdIdeal.nD Cert.KvBwdIdeal.τ).loc Cert.KvBwdIdeal.main_arg0)) (m ((c.tc : Thread Cert.KvBwdIdeal.nD Cert.KvBwdIdeal.τ).loc Cert.KvBwdIdeal.main_arg1)) (m ((c.tc : Thread Cert.KvBwdIdeal.nD Cert.KvBwdIdeal.τ).loc Cert.KvBwdIdeal.main_arg2)) (m ((c.tc : Thread Cert.KvBwdIdeal.nD Cert.KvBwdIdeal.τ).loc Cert.KvBwdIdeal.main_arg3)) (m ((c.tc : Thread Cert.KvBwdIdeal.nD Cert.KvBwdIdeal.τ).loc Cert.KvBwdIdeal.main_arg4)) (m ((c.tc : Thread Cert.KvBwdIdeal.nD Cert.KvBwdIdeal.τ).loc Cert.KvBwdIdeal.main_arg5))).2.2.1 = (fun _ => 1#1)
    ∧ (Cert.Pre_kv_finite.fn (F := Ideal) (m ((c.tc : Thread Cert.KvBwdIdeal.nD Cert.KvBwdIdeal.τ).loc Cert.KvBwdIdeal.main_arg0)) (m ((c.tc : Thread Cert.KvBwdIdeal.nD Cert.KvBwdIdeal.τ).loc Cert.KvBwdIdeal.main_arg1)) (m ((c.tc : Thread Cert.KvBwdIdeal.nD Cert.KvBwdIdeal.τ).loc Cert.KvBwdIdeal.main_arg2)) (m ((c.tc : Thread Cert.KvBwdIdeal.nD Cert.KvBwdIdeal.τ).loc Cert.KvBwdIdeal.main_arg3)) (m ((c.tc : Thread Cert.KvBwdIdeal.nD Cert.KvBwdIdeal.τ).loc Cert.KvBwdIdeal.main_arg4)) (m ((c.tc : Thread Cert.KvBwdIdeal.nD Cert.KvBwdIdeal.τ).loc Cert.KvBwdIdeal.main_arg5))).2.2.2 = (fun _ => 1#1)

def Pre_KvRefIdeal (m : (ℓ : Loc Cert.KvRefIdeal.nD Cert.KvRefIdeal.τ Cert.KvRefIdeal.sig) → Buf (Elt Ideal) ℓ) : Prop :=
  True

def Pre_KvRefIdeal_kv_finite [hPre_kv_finite : Cert.Pre_kv_finite.Facts] (m : (ℓ : Loc Cert.KvRefIdeal.nD Cert.KvRefIdeal.τ Cert.KvRefIdeal.sig) → Buf (Elt Ideal) ℓ) : Prop :=
  ∀ c : Dev Cert.KvRefIdeal.nD,
    (Cert.Pre_kv_finite.fn (F := Ideal) (m ((c.tc : Thread Cert.KvRefIdeal.nD Cert.KvRefIdeal.τ).loc Cert.KvRefIdeal.main_arg0)) (m ((c.tc : Thread Cert.KvRefIdeal.nD Cert.KvRefIdeal.τ).loc Cert.KvRefIdeal.main_arg1)) (m ((c.tc : Thread Cert.KvRefIdeal.nD Cert.KvRefIdeal.τ).loc Cert.KvRefIdeal.main_arg2)) (m ((c.tc : Thread Cert.KvRefIdeal.nD Cert.KvRefIdeal.τ).loc Cert.KvRefIdeal.main_arg3)) (m ((c.tc : Thread Cert.KvRefIdeal.nD Cert.KvRefIdeal.τ).loc Cert.KvRefIdeal.main_arg4)) (m ((c.tc : Thread Cert.KvRefIdeal.nD Cert.KvRefIdeal.τ).loc Cert.KvRefIdeal.main_arg5))).1 = (fun _ => 1#1)
    ∧ (Cert.Pre_kv_finite.fn (F := Ideal) (m ((c.tc : Thread Cert.KvRefIdeal.nD Cert.KvRefIdeal.τ).loc Cert.KvRefIdeal.main_arg0)) (m ((c.tc : Thread Cert.KvRefIdeal.nD Cert.KvRefIdeal.τ).loc Cert.KvRefIdeal.main_arg1)) (m ((c.tc : Thread Cert.KvRefIdeal.nD Cert.KvRefIdeal.τ).loc Cert.KvRefIdeal.main_arg2)) (m ((c.tc : Thread Cert.KvRefIdeal.nD Cert.KvRefIdeal.τ).loc Cert.KvRefIdeal.main_arg3)) (m ((c.tc : Thread Cert.KvRefIdeal.nD Cert.KvRefIdeal.τ).loc Cert.KvRefIdeal.main_arg4)) (m ((c.tc : Thread Cert.KvRefIdeal.nD Cert.KvRefIdeal.τ).loc Cert.KvRefIdeal.main_arg5))).2.1 = (fun _ => 1#1)
    ∧ (Cert.Pre_kv_finite.fn (F := Ideal) (m ((c.tc : Thread Cert.KvRefIdeal.nD Cert.KvRefIdeal.τ).loc Cert.KvRefIdeal.main_arg0)) (m ((c.tc : Thread Cert.KvRefIdeal.nD Cert.KvRefIdeal.τ).loc Cert.KvRefIdeal.main_arg1)) (m ((c.tc : Thread Cert.KvRefIdeal.nD Cert.KvRefIdeal.τ).loc Cert.KvRefIdeal.main_arg2)) (m ((c.tc : Thread Cert.KvRefIdeal.nD Cert.KvRefIdeal.τ).loc Cert.KvRefIdeal.main_arg3)) (m ((c.tc : Thread Cert.KvRefIdeal.nD Cert.KvRefIdeal.τ).loc Cert.KvRefIdeal.main_arg4)) (m ((c.tc : Thread Cert.KvRefIdeal.nD Cert.KvRefIdeal.τ).loc Cert.KvRefIdeal.main_arg5))).2.2.1 = (fun _ => 1#1)
    ∧ (Cert.Pre_kv_finite.fn (F := Ideal) (m ((c.tc : Thread Cert.KvRefIdeal.nD Cert.KvRefIdeal.τ).loc Cert.KvRefIdeal.main_arg0)) (m ((c.tc : Thread Cert.KvRefIdeal.nD Cert.KvRefIdeal.τ).loc Cert.KvRefIdeal.main_arg1)) (m ((c.tc : Thread Cert.KvRefIdeal.nD Cert.KvRefIdeal.τ).loc Cert.KvRefIdeal.main_arg2)) (m ((c.tc : Thread Cert.KvRefIdeal.nD Cert.KvRefIdeal.τ).loc Cert.KvRefIdeal.main_arg3)) (m ((c.tc : Thread Cert.KvRefIdeal.nD Cert.KvRefIdeal.τ).loc Cert.KvRefIdeal.main_arg4)) (m ((c.tc : Thread Cert.KvRefIdeal.nD Cert.KvRefIdeal.τ).loc Cert.KvRefIdeal.main_arg5))).2.2.2 = (fun _ => 1#1)

def Pre_AttnBwd (m : (ℓ : Loc Cert.AttnBwd.nD Cert.AttnBwd.τ Cert.AttnBwd.sig) → Buf (Elt Bits) ℓ) : Prop :=
  True

def Pre_AttnBwdIdeal (m : (ℓ : Loc Cert.AttnBwdIdeal.nD Cert.AttnBwdIdeal.τ Cert.AttnBwdIdeal.sig) → Buf (Elt Ideal) ℓ) : Prop :=
  True

def Pre_AttnBwdIdeal_attn_finite [hPre_attn_finite : Cert.Pre_attn_finite.Facts] (m : (ℓ : Loc Cert.AttnBwdIdeal.nD Cert.AttnBwdIdeal.τ Cert.AttnBwdIdeal.sig) → Buf (Elt Ideal) ℓ) : Prop :=
  ∀ c : Dev Cert.AttnBwdIdeal.nD,
    (Cert.Pre_attn_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3)) (m ((c.tc : Thread Cert.AttnBwdIdeal.nD Cert.AttnBwdIdeal.τ).loc Cert.AttnBwdIdeal.main_arg4)) (m ((c.tc : Thread Cert.AttnBwdIdeal.nD Cert.AttnBwdIdeal.τ).loc Cert.AttnBwdIdeal.main_arg5)) (m ((c.tc : Thread Cert.AttnBwdIdeal.nD Cert.AttnBwdIdeal.τ).loc Cert.AttnBwdIdeal.main_arg6))).1 = (fun _ => 1#1)
    ∧ (Cert.Pre_attn_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3)) (m ((c.tc : Thread Cert.AttnBwdIdeal.nD Cert.AttnBwdIdeal.τ).loc Cert.AttnBwdIdeal.main_arg4)) (m ((c.tc : Thread Cert.AttnBwdIdeal.nD Cert.AttnBwdIdeal.τ).loc Cert.AttnBwdIdeal.main_arg5)) (m ((c.tc : Thread Cert.AttnBwdIdeal.nD Cert.AttnBwdIdeal.τ).loc Cert.AttnBwdIdeal.main_arg6))).2.1 = (fun _ => 1#1)
    ∧ (Cert.Pre_attn_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3)) (m ((c.tc : Thread Cert.AttnBwdIdeal.nD Cert.AttnBwdIdeal.τ).loc Cert.AttnBwdIdeal.main_arg4)) (m ((c.tc : Thread Cert.AttnBwdIdeal.nD Cert.AttnBwdIdeal.τ).loc Cert.AttnBwdIdeal.main_arg5)) (m ((c.tc : Thread Cert.AttnBwdIdeal.nD Cert.AttnBwdIdeal.τ).loc Cert.AttnBwdIdeal.main_arg6))).2.2.1 = (fun _ => 1#1)
    ∧ (Cert.Pre_attn_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3)) (m ((c.tc : Thread Cert.AttnBwdIdeal.nD Cert.AttnBwdIdeal.τ).loc Cert.AttnBwdIdeal.main_arg4)) (m ((c.tc : Thread Cert.AttnBwdIdeal.nD Cert.AttnBwdIdeal.τ).loc Cert.AttnBwdIdeal.main_arg5)) (m ((c.tc : Thread Cert.AttnBwdIdeal.nD Cert.AttnBwdIdeal.τ).loc Cert.AttnBwdIdeal.main_arg6))).2.2.2.1 = (fun _ => 1#1)
    ∧ (Cert.Pre_attn_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3)) (m ((c.tc : Thread Cert.AttnBwdIdeal.nD Cert.AttnBwdIdeal.τ).loc Cert.AttnBwdIdeal.main_arg4)) (m ((c.tc : Thread Cert.AttnBwdIdeal.nD Cert.AttnBwdIdeal.τ).loc Cert.AttnBwdIdeal.main_arg5)) (m ((c.tc : Thread Cert.AttnBwdIdeal.nD Cert.AttnBwdIdeal.τ).loc Cert.AttnBwdIdeal.main_arg6))).2.2.2.2.1 = (fun _ => 1#1)
    ∧ (Cert.Pre_attn_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3)) (m ((c.tc : Thread Cert.AttnBwdIdeal.nD Cert.AttnBwdIdeal.τ).loc Cert.AttnBwdIdeal.main_arg4)) (m ((c.tc : Thread Cert.AttnBwdIdeal.nD Cert.AttnBwdIdeal.τ).loc Cert.AttnBwdIdeal.main_arg5)) (m ((c.tc : Thread Cert.AttnBwdIdeal.nD Cert.AttnBwdIdeal.τ).loc Cert.AttnBwdIdeal.main_arg6))).2.2.2.2.2.1 = (fun _ => 1#1)
    ∧ (Cert.Pre_attn_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3)) (m ((c.tc : Thread Cert.AttnBwdIdeal.nD Cert.AttnBwdIdeal.τ).loc Cert.AttnBwdIdeal.main_arg4)) (m ((c.tc : Thread Cert.AttnBwdIdeal.nD Cert.AttnBwdIdeal.τ).loc Cert.AttnBwdIdeal.main_arg5)) (m ((c.tc : Thread Cert.AttnBwdIdeal.nD Cert.AttnBwdIdeal.τ).loc Cert.AttnBwdIdeal.main_arg6))).2.2.2.2.2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_finite [hPre_attn_finite : Cert.Pre_attn_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6))).1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6))).2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6))).2.2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6))).2.2.2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6))).2.2.2.2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6))).2.2.2.2.2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6))).2.2.2.2.2.2 = (fun _ => 1#1)

def Pre_InprojFwd (m : (ℓ : Loc Cert.InprojFwd.nD Cert.InprojFwd.τ Cert.InprojFwd.sig) → Buf (Elt Bits) ℓ) : Prop :=
  True

def Pre_InprojFwdIdeal (m : (ℓ : Loc Cert.InprojFwdIdeal.nD Cert.InprojFwdIdeal.τ Cert.InprojFwdIdeal.sig) → Buf (Elt Ideal) ℓ) : Prop :=
  True

def Pre_InprojFwdRefIdeal (m : (ℓ : Loc Cert.InprojFwdRefIdeal.nD Cert.InprojFwdRefIdeal.τ Cert.InprojFwdRefIdeal.sig) → Buf (Elt Ideal) ℓ) : Prop :=
  True

def Pre_MergeFwd (m : (ℓ : Loc Cert.MergeFwd.nD Cert.MergeFwd.τ Cert.MergeFwd.sig) → Buf (Elt Bits) ℓ) : Prop :=
  True

def Pre_MergeFwdIdeal (m : (ℓ : Loc Cert.MergeFwdIdeal.nD Cert.MergeFwdIdeal.τ Cert.MergeFwdIdeal.sig) → Buf (Elt Ideal) ℓ) : Prop :=
  True

def Pre_MergeFwdRefIdeal (m : (ℓ : Loc Cert.MergeFwdRefIdeal.nD Cert.MergeFwdRefIdeal.τ Cert.MergeFwdRefIdeal.sig) → Buf (Elt Ideal) ℓ) : Prop :=
  True

def Pre_MlpFwd (m : (ℓ : Loc Cert.MlpFwd.nD Cert.MlpFwd.τ Cert.MlpFwd.sig) → Buf (Elt Bits) ℓ) : Prop :=
  True

def Pre_MlpFwdIdeal (m : (ℓ : Loc Cert.MlpFwdIdeal.nD Cert.MlpFwdIdeal.τ Cert.MlpFwdIdeal.sig) → Buf (Elt Ideal) ℓ) : Prop :=
  True

def Pre_MlpFwdRefIdeal (m : (ℓ : Loc Cert.MlpFwdRefIdeal.nD Cert.MlpFwdRefIdeal.τ Cert.MlpFwdRefIdeal.sig) → Buf (Elt Ideal) ℓ) : Prop :=
  True

def quiescent_MergeBwd [hMergeBwd : Cert.MergeBwd.Facts] : Prop :=
  ∀ (m : (ℓ : Loc Cert.MergeBwd.nD Cert.MergeBwd.τ Cert.MergeBwd.sig) → Buf (Elt Bits) ℓ) (g : Dev Cert.MergeBwd.nD → PrngReg), Pre_MergeBwd m →
    θ_run (Cert.MergeBwd.defs (F := Bits)) (onTc (τ := Cert.MergeBwd.τ) (Cert.MergeBwd.main (F := Bits))) ⟨m, fun _ => 0, g⟩ (fun r => (∀ c : Dev Cert.MergeBwd.nD,
      r.2.mem ((c.tc : Thread Cert.MergeBwd.nD Cert.MergeBwd.τ).loc Cert.MergeBwd.main_arg0) = m ((c.tc : Thread Cert.MergeBwd.nD Cert.MergeBwd.τ).loc Cert.MergeBwd.main_arg0)
      ∧ r.2.mem ((c.tc : Thread Cert.MergeBwd.nD Cert.MergeBwd.τ).loc Cert.MergeBwd.main_arg1) = m ((c.tc : Thread Cert.MergeBwd.nD Cert.MergeBwd.τ).loc Cert.MergeBwd.main_arg1)
      ∧ r.2.mem ((c.tc : Thread Cert.MergeBwd.nD Cert.MergeBwd.τ).loc Cert.MergeBwd.main_arg2) = m ((c.tc : Thread Cert.MergeBwd.nD Cert.MergeBwd.τ).loc Cert.MergeBwd.main_arg2)
      ∧ r.2.mem ((c.tc : Thread Cert.MergeBwd.nD Cert.MergeBwd.τ).loc Cert.MergeBwd.main_arg3) = m ((c.tc : Thread Cert.MergeBwd.nD Cert.MergeBwd.τ).loc Cert.MergeBwd.main_arg3)
      ∧ r.2.mem ((c.tc : Thread Cert.MergeBwd.nD Cert.MergeBwd.τ).loc Cert.MergeBwd.main_arg4) = m ((c.tc : Thread Cert.MergeBwd.nD Cert.MergeBwd.τ).loc Cert.MergeBwd.main_arg4)
      ∧ r.2.mem ((c.tc : Thread Cert.MergeBwd.nD Cert.MergeBwd.τ).loc Cert.MergeBwd.main_arg5) = m ((c.tc : Thread Cert.MergeBwd.nD Cert.MergeBwd.τ).loc Cert.MergeBwd.main_arg5)
      ∧ r.2.mem ((c.tc : Thread Cert.MergeBwd.nD Cert.MergeBwd.τ).loc Cert.MergeBwd.main_arg6) = m ((c.tc : Thread Cert.MergeBwd.nD Cert.MergeBwd.τ).loc Cert.MergeBwd.main_arg6)
      ∧ r.2.mem ((c.tc : Thread Cert.MergeBwd.nD Cert.MergeBwd.τ).loc Cert.MergeBwd.main_arg7) = m ((c.tc : Thread Cert.MergeBwd.nD Cert.MergeBwd.τ).loc Cert.MergeBwd.main_arg7))
      ∧ r.2.sem = fun _ => 0)

def quiescent_MergeBwdIdeal [hMergeBwdIdeal : Cert.MergeBwdIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg), Pre_MergeBwdIdeal m →
    θ_run (Cert.MergeBwdIdeal.defs (F := Ideal)) (onTc (τ := Cert.MergeBwdIdeal.τ) (Cert.MergeBwdIdeal.main (F := Ideal))) ⟨m, fun _ => 0, g⟩ (fun r => (∀ c : Dev Cert.MergeBwdIdeal.nD,
      r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
      ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
      ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
      ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
      ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4)
      ∧ r.2.mem ((c.tc : Thread Cert.MergeBwdIdeal.nD Cert.MergeBwdIdeal.τ).loc Cert.MergeBwdIdeal.main_arg5) = m ((c.tc : Thread Cert.MergeBwdIdeal.nD Cert.MergeBwdIdeal.τ).loc Cert.MergeBwdIdeal.main_arg5)
      ∧ r.2.mem ((c.tc : Thread Cert.MergeBwdIdeal.nD Cert.MergeBwdIdeal.τ).loc Cert.MergeBwdIdeal.main_arg6) = m ((c.tc : Thread Cert.MergeBwdIdeal.nD Cert.MergeBwdIdeal.τ).loc Cert.MergeBwdIdeal.main_arg6)
      ∧ r.2.mem ((c.tc : Thread Cert.MergeBwdIdeal.nD Cert.MergeBwdIdeal.τ).loc Cert.MergeBwdIdeal.main_arg7) = m ((c.tc : Thread Cert.MergeBwdIdeal.nD Cert.MergeBwdIdeal.τ).loc Cert.MergeBwdIdeal.main_arg7))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7))
      ∧ r.2.sem = fun _ => 0)

def quiescent_PleLoss [hPleLoss : Cert.PleLoss.Facts] : Prop :=
  ∀ (m : (ℓ : Loc Cert.PleLoss.nD Cert.PleLoss.τ Cert.PleLoss.sig) → Buf (Elt Bits) ℓ) (g : Dev Cert.PleLoss.nD → PrngReg), Pre_PleLoss m →
    θ_run (Cert.PleLoss.defs (F := Bits)) (onTc (τ := Cert.PleLoss.τ) (Cert.PleLoss.main (F := Bits))) ⟨m, fun _ => 0, g⟩ (fun r => (∀ c : Dev Cert.PleLoss.nD,
      r.2.mem ((c.tc : Thread Cert.PleLoss.nD Cert.PleLoss.τ).loc Cert.PleLoss.main_arg0) = m ((c.tc : Thread Cert.PleLoss.nD Cert.PleLoss.τ).loc Cert.PleLoss.main_arg0)
      ∧ r.2.mem ((c.tc : Thread Cert.PleLoss.nD Cert.PleLoss.τ).loc Cert.PleLoss.main_arg1) = m ((c.tc : Thread Cert.PleLoss.nD Cert.PleLoss.τ).loc Cert.PleLoss.main_arg1)
      ∧ r.2.mem ((c.tc : Thread Cert.PleLoss.nD Cert.PleLoss.τ).loc Cert.PleLoss.main_arg2) = m ((c.tc : Thread Cert.PleLoss.nD Cert.PleLoss.τ).loc Cert.PleLoss.main_arg2)
      ∧ r.2.mem ((c.tc : Thread Cert.PleLoss.nD Cert.PleLoss.τ).loc Cert.PleLoss.main_arg3) = m ((c.tc : Thread Cert.PleLoss.nD Cert.PleLoss.τ).loc Cert.PleLoss.main_arg3)
      ∧ r.2.mem ((c.tc : Thread Cert.PleLoss.nD Cert.PleLoss.τ).loc Cert.PleLoss.main_arg4) = m ((c.tc : Thread Cert.PleLoss.nD Cert.PleLoss.τ).loc Cert.PleLoss.main_arg4)
      ∧ r.2.mem ((c.tc : Thread Cert.PleLoss.nD Cert.PleLoss.τ).loc Cert.PleLoss.main_arg5) = m ((c.tc : Thread Cert.PleLoss.nD Cert.PleLoss.τ).loc Cert.PleLoss.main_arg5))
      ∧ r.2.sem = fun _ => 0)

def quiescent_PleLossIdeal [hPleLossIdeal : Cert.PleLossIdeal.Facts] : Prop :=
  ∀ (m : (ℓ : Loc Cert.PleLossIdeal.nD Cert.PleLossIdeal.τ Cert.PleLossIdeal.sig) → Buf (Elt Ideal) ℓ) (g : Dev Cert.PleLossIdeal.nD → PrngReg), Pre_PleLossIdeal m →
    θ_run (Cert.PleLossIdeal.defs (F := Ideal)) (onTc (τ := Cert.PleLossIdeal.τ) (Cert.PleLossIdeal.main (F := Ideal))) ⟨m, fun _ => 0, g⟩ (fun r => (∀ c : Dev Cert.PleLossIdeal.nD,
      r.2.mem ((c.tc : Thread Cert.PleLossIdeal.nD Cert.PleLossIdeal.τ).loc Cert.PleLossIdeal.main_arg0) = m ((c.tc : Thread Cert.PleLossIdeal.nD Cert.PleLossIdeal.τ).loc Cert.PleLossIdeal.main_arg0)
      ∧ r.2.mem ((c.tc : Thread Cert.PleLossIdeal.nD Cert.PleLossIdeal.τ).loc Cert.PleLossIdeal.main_arg1) = m ((c.tc : Thread Cert.PleLossIdeal.nD Cert.PleLossIdeal.τ).loc Cert.PleLossIdeal.main_arg1)
      ∧ r.2.mem ((c.tc : Thread Cert.PleLossIdeal.nD Cert.PleLossIdeal.τ).loc Cert.PleLossIdeal.main_arg2) = m ((c.tc : Thread Cert.PleLossIdeal.nD Cert.PleLossIdeal.τ).loc Cert.PleLossIdeal.main_arg2)
      ∧ r.2.mem ((c.tc : Thread Cert.PleLossIdeal.nD Cert.PleLossIdeal.τ).loc Cert.PleLossIdeal.main_arg3) = m ((c.tc : Thread Cert.PleLossIdeal.nD Cert.PleLossIdeal.τ).loc Cert.PleLossIdeal.main_arg3)
      ∧ r.2.mem ((c.tc : Thread Cert.PleLossIdeal.nD Cert.PleLossIdeal.τ).loc Cert.PleLossIdeal.main_arg4) = m ((c.tc : Thread Cert.PleLossIdeal.nD Cert.PleLossIdeal.τ).loc Cert.PleLossIdeal.main_arg4)
      ∧ r.2.mem ((c.tc : Thread Cert.PleLossIdeal.nD Cert.PleLossIdeal.τ).loc Cert.PleLossIdeal.main_arg5) = m ((c.tc : Thread Cert.PleLossIdeal.nD Cert.PleLossIdeal.τ).loc Cert.PleLossIdeal.main_arg5))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4)
      ∧ r.2.mem ((c.tc : Thread Cert.PleRefIdeal.nD Cert.PleRefIdeal.τ).loc Cert.PleRefIdeal.main_arg5) = m ((c.tc : Thread Cert.PleRefIdeal.nD Cert.PleRefIdeal.τ).loc Cert.PleRefIdeal.main_arg5))
      ∧ r.2.sem = fun _ => 0)

def quiescent_MlpBwd [hMlpBwd : Cert.MlpBwd.Facts] : Prop :=
  ∀ (m : (ℓ : Loc Cert.MlpBwd.nD Cert.MlpBwd.τ Cert.MlpBwd.sig) → Buf (Elt Bits) ℓ) (g : Dev Cert.MlpBwd.nD → PrngReg), Pre_MlpBwd m →
    θ_run (Cert.MlpBwd.defs (F := Bits)) (onTc (τ := Cert.MlpBwd.τ) (Cert.MlpBwd.main (F := Bits))) ⟨m, fun _ => 0, g⟩ (fun r => (∀ c : Dev Cert.MlpBwd.nD,
      r.2.mem ((c.tc : Thread Cert.MlpBwd.nD Cert.MlpBwd.τ).loc Cert.MlpBwd.main_arg0) = m ((c.tc : Thread Cert.MlpBwd.nD Cert.MlpBwd.τ).loc Cert.MlpBwd.main_arg0)
      ∧ r.2.mem ((c.tc : Thread Cert.MlpBwd.nD Cert.MlpBwd.τ).loc Cert.MlpBwd.main_arg1) = m ((c.tc : Thread Cert.MlpBwd.nD Cert.MlpBwd.τ).loc Cert.MlpBwd.main_arg1)
      ∧ r.2.mem ((c.tc : Thread Cert.MlpBwd.nD Cert.MlpBwd.τ).loc Cert.MlpBwd.main_arg2) = m ((c.tc : Thread Cert.MlpBwd.nD Cert.MlpBwd.τ).loc Cert.MlpBwd.main_arg2)
      ∧ r.2.mem ((c.tc : Thread Cert.MlpBwd.nD Cert.MlpBwd.τ).loc Cert.MlpBwd.main_arg3) = m ((c.tc : Thread Cert.MlpBwd.nD Cert.MlpBwd.τ).loc Cert.MlpBwd.main_arg3)
      ∧ r.2.mem ((c.tc : Thread Cert.MlpBwd.nD Cert.MlpBwd.τ).loc Cert.MlpBwd.main_arg4) = m ((c.tc : Thread Cert.MlpBwd.nD Cert.MlpBwd.τ).loc Cert.MlpBwd.main_arg4))
      ∧ r.2.sem = fun _ => 0)

def quiescent_MlpBwdIdeal [hMlpBwdIdeal : Cert.MlpBwdIdeal.Facts] : Prop :=
  ∀ (m : (ℓ : Loc Cert.MlpBwdIdeal.nD Cert.MlpBwdIdeal.τ Cert.MlpBwdIdeal.sig) → Buf (Elt Ideal) ℓ) (g : Dev Cert.MlpBwdIdeal.nD → PrngReg), Pre_MlpBwdIdeal m →
    θ_run (Cert.MlpBwdIdeal.defs (F := Ideal)) (onTc (τ := Cert.MlpBwdIdeal.τ) (Cert.MlpBwdIdeal.main (F := Ideal))) ⟨m, fun _ => 0, g⟩ (fun r => (∀ c : Dev Cert.MlpBwdIdeal.nD,
      r.2.mem ((c.tc : Thread Cert.MlpBwdIdeal.nD Cert.MlpBwdIdeal.τ).loc Cert.MlpBwdIdeal.main_arg0) = m ((c.tc : Thread Cert.MlpBwdIdeal.nD Cert.MlpBwdIdeal.τ).loc Cert.MlpBwdIdeal.main_arg0)
      ∧ r.2.mem ((c.tc : Thread Cert.MlpBwdIdeal.nD Cert.MlpBwdIdeal.τ).loc Cert.MlpBwdIdeal.main_arg1) = m ((c.tc : Thread Cert.MlpBwdIdeal.nD Cert.MlpBwdIdeal.τ).loc Cert.MlpBwdIdeal.main_arg1)
      ∧ r.2.mem ((c.tc : Thread Cert.MlpBwdIdeal.nD Cert.MlpBwdIdeal.τ).loc Cert.MlpBwdIdeal.main_arg2) = m ((c.tc : Thread Cert.MlpBwdIdeal.nD Cert.MlpBwdIdeal.τ).loc Cert.MlpBwdIdeal.main_arg2)
      ∧ r.2.mem ((c.tc : Thread Cert.MlpBwdIdeal.nD Cert.MlpBwdIdeal.τ).loc Cert.MlpBwdIdeal.main_arg3) = m ((c.tc : Thread Cert.MlpBwdIdeal.nD Cert.MlpBwdIdeal.τ).loc Cert.MlpBwdIdeal.main_arg3)
      ∧ r.2.mem ((c.tc : Thread Cert.MlpBwdIdeal.nD Cert.MlpBwdIdeal.τ).loc Cert.MlpBwdIdeal.main_arg4) = m ((c.tc : Thread Cert.MlpBwdIdeal.nD Cert.MlpBwdIdeal.τ).loc Cert.MlpBwdIdeal.main_arg4))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4))
      ∧ r.2.sem = fun _ => 0)

def quiescent_InprojBwd [hInprojBwd : Cert.InprojBwd.Facts] : Prop :=
  ∀ (m : (ℓ : Loc Cert.InprojBwd.nD Cert.InprojBwd.τ Cert.InprojBwd.sig) → Buf (Elt Bits) ℓ) (g : Dev Cert.InprojBwd.nD → PrngReg), Pre_InprojBwd m →
    θ_run (Cert.InprojBwd.defs (F := Bits)) (onTc (τ := Cert.InprojBwd.τ) (Cert.InprojBwd.main (F := Bits))) ⟨m, fun _ => 0, g⟩ (fun r => (∀ c : Dev Cert.InprojBwd.nD,
      r.2.mem ((c.tc : Thread Cert.InprojBwd.nD Cert.InprojBwd.τ).loc Cert.InprojBwd.main_arg0) = m ((c.tc : Thread Cert.InprojBwd.nD Cert.InprojBwd.τ).loc Cert.InprojBwd.main_arg0)
      ∧ r.2.mem ((c.tc : Thread Cert.InprojBwd.nD Cert.InprojBwd.τ).loc Cert.InprojBwd.main_arg1) = m ((c.tc : Thread Cert.InprojBwd.nD Cert.InprojBwd.τ).loc Cert.InprojBwd.main_arg1)
      ∧ r.2.mem ((c.tc : Thread Cert.InprojBwd.nD Cert.InprojBwd.τ).loc Cert.InprojBwd.main_arg2) = m ((c.tc : Thread Cert.InprojBwd.nD Cert.InprojBwd.τ).loc Cert.InprojBwd.main_arg2)
      ∧ r.2.mem ((c.tc : Thread Cert.InprojBwd.nD Cert.InprojBwd.τ).loc Cert.InprojBwd.main_arg3) = m ((c.tc : Thread Cert.InprojBwd.nD Cert.InprojBwd.τ).loc Cert.InprojBwd.main_arg3)
      ∧ r.2.mem ((c.tc : Thread Cert.InprojBwd.nD Cert.InprojBwd.τ).loc Cert.InprojBwd.main_arg4) = m ((c.tc : Thread Cert.InprojBwd.nD Cert.InprojBwd.τ).loc Cert.InprojBwd.main_arg4)
      ∧ r.2.mem ((c.tc : Thread Cert.InprojBwd.nD Cert.InprojBwd.τ).loc Cert.InprojBwd.main_arg5) = m ((c.tc : Thread Cert.InprojBwd.nD Cert.InprojBwd.τ).loc Cert.InprojBwd.main_arg5)
      ∧ r.2.mem ((c.tc : Thread Cert.InprojBwd.nD Cert.InprojBwd.τ).loc Cert.InprojBwd.main_arg6) = m ((c.tc : Thread Cert.InprojBwd.nD Cert.InprojBwd.τ).loc Cert.InprojBwd.main_arg6)
      ∧ r.2.mem ((c.tc : Thread Cert.InprojBwd.nD Cert.InprojBwd.τ).loc Cert.InprojBwd.main_arg7) = m ((c.tc : Thread Cert.InprojBwd.nD Cert.InprojBwd.τ).loc Cert.InprojBwd.main_arg7)
      ∧ r.2.mem ((c.tc : Thread Cert.InprojBwd.nD Cert.InprojBwd.τ).loc Cert.InprojBwd.main_arg8) = m ((c.tc : Thread Cert.InprojBwd.nD Cert.InprojBwd.τ).loc Cert.InprojBwd.main_arg8)
      ∧ r.2.mem ((c.tc : Thread Cert.InprojBwd.nD Cert.InprojBwd.τ).loc Cert.InprojBwd.main_arg9) = m ((c.tc : Thread Cert.InprojBwd.nD Cert.InprojBwd.τ).loc Cert.InprojBwd.main_arg9)
      ∧ r.2.mem ((c.tc : Thread Cert.InprojBwd.nD Cert.InprojBwd.τ).loc Cert.InprojBwd.main_arg10) = m ((c.tc : Thread Cert.InprojBwd.nD Cert.InprojBwd.τ).loc Cert.InprojBwd.main_arg10))
      ∧ r.2.sem = fun _ => 0)

def quiescent_InprojBwdIdeal [hInprojBwdIdeal : Cert.InprojBwdIdeal.Facts] : Prop :=
  ∀ (m : (ℓ : Loc Cert.InprojBwdIdeal.nD Cert.InprojBwdIdeal.τ Cert.InprojBwdIdeal.sig) → Buf (Elt Ideal) ℓ) (g : Dev Cert.InprojBwdIdeal.nD → PrngReg), Pre_InprojBwdIdeal m →
    θ_run (Cert.InprojBwdIdeal.defs (F := Ideal)) (onTc (τ := Cert.InprojBwdIdeal.τ) (Cert.InprojBwdIdeal.main (F := Ideal))) ⟨m, fun _ => 0, g⟩ (fun r => (∀ c : Dev Cert.InprojBwdIdeal.nD,
      r.2.mem ((c.tc : Thread Cert.InprojBwdIdeal.nD Cert.InprojBwdIdeal.τ).loc Cert.InprojBwdIdeal.main_arg0) = m ((c.tc : Thread Cert.InprojBwdIdeal.nD Cert.InprojBwdIdeal.τ).loc Cert.InprojBwdIdeal.main_arg0)
      ∧ r.2.mem ((c.tc : Thread Cert.InprojBwdIdeal.nD Cert.InprojBwdIdeal.τ).loc Cert.InprojBwdIdeal.main_arg1) = m ((c.tc : Thread Cert.InprojBwdIdeal.nD Cert.InprojBwdIdeal.τ).loc Cert.InprojBwdIdeal.main_arg1)
      ∧ r.2.mem ((c.tc : Thread Cert.InprojBwdIdeal.nD Cert.InprojBwdIdeal.τ).loc Cert.InprojBwdIdeal.main_arg2) = m ((c.tc : Thread Cert.InprojBwdIdeal.nD Cert.InprojBwdIdeal.τ).loc Cert.InprojBwdIdeal.main_arg2)
      ∧ r.2.mem ((c.tc : Thread Cert.InprojBwdIdeal.nD Cert.InprojBwdIdeal.τ).loc Cert.InprojBwdIdeal.main_arg3) = m ((c.tc : Thread Cert.InprojBwdIdeal.nD Cert.InprojBwdIdeal.τ).loc Cert.InprojBwdIdeal.main_arg3)
      ∧ r.2.mem ((c.tc : Thread Cert.InprojBwdIdeal.nD Cert.InprojBwdIdeal.τ).loc Cert.InprojBwdIdeal.main_arg4) = m ((c.tc : Thread Cert.InprojBwdIdeal.nD Cert.InprojBwdIdeal.τ).loc Cert.InprojBwdIdeal.main_arg4)
      ∧ r.2.mem ((c.tc : Thread Cert.InprojBwdIdeal.nD Cert.InprojBwdIdeal.τ).loc Cert.InprojBwdIdeal.main_arg5) = m ((c.tc : Thread Cert.InprojBwdIdeal.nD Cert.InprojBwdIdeal.τ).loc Cert.InprojBwdIdeal.main_arg5)
      ∧ r.2.mem ((c.tc : Thread Cert.InprojBwdIdeal.nD Cert.InprojBwdIdeal.τ).loc Cert.InprojBwdIdeal.main_arg6) = m ((c.tc : Thread Cert.InprojBwdIdeal.nD Cert.InprojBwdIdeal.τ).loc Cert.InprojBwdIdeal.main_arg6)
      ∧ r.2.mem ((c.tc : Thread Cert.InprojBwdIdeal.nD Cert.InprojBwdIdeal.τ).loc Cert.InprojBwdIdeal.main_arg7) = m ((c.tc : Thread Cert.InprojBwdIdeal.nD Cert.InprojBwdIdeal.τ).loc Cert.InprojBwdIdeal.main_arg7)
      ∧ r.2.mem ((c.tc : Thread Cert.InprojBwdIdeal.nD Cert.InprojBwdIdeal.τ).loc Cert.InprojBwdIdeal.main_arg8) = m ((c.tc : Thread Cert.InprojBwdIdeal.nD Cert.InprojBwdIdeal.τ).loc Cert.InprojBwdIdeal.main_arg8)
      ∧ r.2.mem ((c.tc : Thread Cert.InprojBwdIdeal.nD Cert.InprojBwdIdeal.τ).loc Cert.InprojBwdIdeal.main_arg9) = m ((c.tc : Thread Cert.InprojBwdIdeal.nD Cert.InprojBwdIdeal.τ).loc Cert.InprojBwdIdeal.main_arg9)
      ∧ r.2.mem ((c.tc : Thread Cert.InprojBwdIdeal.nD Cert.InprojBwdIdeal.τ).loc Cert.InprojBwdIdeal.main_arg10) = m ((c.tc : Thread Cert.InprojBwdIdeal.nD Cert.InprojBwdIdeal.τ).loc Cert.InprojBwdIdeal.main_arg10))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4)
      ∧ r.2.mem ((c.tc : Thread Cert.InprojRefIdeal.nD Cert.InprojRefIdeal.τ).loc Cert.InprojRefIdeal.main_arg5) = m ((c.tc : Thread Cert.InprojRefIdeal.nD Cert.InprojRefIdeal.τ).loc Cert.InprojRefIdeal.main_arg5)
      ∧ r.2.mem ((c.tc : Thread Cert.InprojRefIdeal.nD Cert.InprojRefIdeal.τ).loc Cert.InprojRefIdeal.main_arg6) = m ((c.tc : Thread Cert.InprojRefIdeal.nD Cert.InprojRefIdeal.τ).loc Cert.InprojRefIdeal.main_arg6)
      ∧ r.2.mem ((c.tc : Thread Cert.InprojRefIdeal.nD Cert.InprojRefIdeal.τ).loc Cert.InprojRefIdeal.main_arg7) = m ((c.tc : Thread Cert.InprojRefIdeal.nD Cert.InprojRefIdeal.τ).loc Cert.InprojRefIdeal.main_arg7)
      ∧ r.2.mem ((c.tc : Thread Cert.InprojRefIdeal.nD Cert.InprojRefIdeal.τ).loc Cert.InprojRefIdeal.main_arg8) = m ((c.tc : Thread Cert.InprojRefIdeal.nD Cert.InprojRefIdeal.τ).loc Cert.InprojRefIdeal.main_arg8)
      ∧ r.2.mem ((c.tc : Thread Cert.InprojRefIdeal.nD Cert.InprojRefIdeal.τ).loc Cert.InprojRefIdeal.main_arg9) = m ((c.tc : Thread Cert.InprojRefIdeal.nD Cert.InprojRefIdeal.τ).loc Cert.InprojRefIdeal.main_arg9)
      ∧ r.2.mem ((c.tc : Thread Cert.InprojRefIdeal.nD Cert.InprojRefIdeal.τ).loc Cert.InprojRefIdeal.main_arg10) = m ((c.tc : Thread Cert.InprojRefIdeal.nD Cert.InprojRefIdeal.τ).loc Cert.InprojRefIdeal.main_arg10))
      ∧ r.2.sem = fun _ => 0)

def quiescent_KvBwd [hKvBwd : Cert.KvBwd.Facts] : Prop :=
  ∀ (m : (ℓ : Loc Cert.KvBwd.nD Cert.KvBwd.τ Cert.KvBwd.sig) → Buf (Elt Bits) ℓ) (g : Dev Cert.KvBwd.nD → PrngReg), Pre_KvBwd m →
    θ_run (Cert.KvBwd.defs (F := Bits)) (onTc (τ := Cert.KvBwd.τ) (Cert.KvBwd.main (F := Bits))) ⟨m, fun _ => 0, g⟩ (fun r => (∀ c : Dev Cert.KvBwd.nD,
      r.2.mem ((c.tc : Thread Cert.KvBwd.nD Cert.KvBwd.τ).loc Cert.KvBwd.main_arg0) = m ((c.tc : Thread Cert.KvBwd.nD Cert.KvBwd.τ).loc Cert.KvBwd.main_arg0)
      ∧ r.2.mem ((c.tc : Thread Cert.KvBwd.nD Cert.KvBwd.τ).loc Cert.KvBwd.main_arg1) = m ((c.tc : Thread Cert.KvBwd.nD Cert.KvBwd.τ).loc Cert.KvBwd.main_arg1)
      ∧ r.2.mem ((c.tc : Thread Cert.KvBwd.nD Cert.KvBwd.τ).loc Cert.KvBwd.main_arg2) = m ((c.tc : Thread Cert.KvBwd.nD Cert.KvBwd.τ).loc Cert.KvBwd.main_arg2)
      ∧ r.2.mem ((c.tc : Thread Cert.KvBwd.nD Cert.KvBwd.τ).loc Cert.KvBwd.main_arg3) = m ((c.tc : Thread Cert.KvBwd.nD Cert.KvBwd.τ).loc Cert.KvBwd.main_arg3)
      ∧ r.2.mem ((c.tc : Thread Cert.KvBwd.nD Cert.KvBwd.τ).loc Cert.KvBwd.main_arg4) = m ((c.tc : Thread Cert.KvBwd.nD Cert.KvBwd.τ).loc Cert.KvBwd.main_arg4)
      ∧ r.2.mem ((c.tc : Thread Cert.KvBwd.nD Cert.KvBwd.τ).loc Cert.KvBwd.main_arg5) = m ((c.tc : Thread Cert.KvBwd.nD Cert.KvBwd.τ).loc Cert.KvBwd.main_arg5))
      ∧ r.2.sem = fun _ => 0)

def quiescent_KvBwdIdeal [hKvBwdIdeal : Cert.KvBwdIdeal.Facts] : Prop :=
  ∀ (m : (ℓ : Loc Cert.KvBwdIdeal.nD Cert.KvBwdIdeal.τ Cert.KvBwdIdeal.sig) → Buf (Elt Ideal) ℓ) (g : Dev Cert.KvBwdIdeal.nD → PrngReg), Pre_KvBwdIdeal m →
    θ_run (Cert.KvBwdIdeal.defs (F := Ideal)) (onTc (τ := Cert.KvBwdIdeal.τ) (Cert.KvBwdIdeal.main (F := Ideal))) ⟨m, fun _ => 0, g⟩ (fun r => (∀ c : Dev Cert.KvBwdIdeal.nD,
      r.2.mem ((c.tc : Thread Cert.KvBwdIdeal.nD Cert.KvBwdIdeal.τ).loc Cert.KvBwdIdeal.main_arg0) = m ((c.tc : Thread Cert.KvBwdIdeal.nD Cert.KvBwdIdeal.τ).loc Cert.KvBwdIdeal.main_arg0)
      ∧ r.2.mem ((c.tc : Thread Cert.KvBwdIdeal.nD Cert.KvBwdIdeal.τ).loc Cert.KvBwdIdeal.main_arg1) = m ((c.tc : Thread Cert.KvBwdIdeal.nD Cert.KvBwdIdeal.τ).loc Cert.KvBwdIdeal.main_arg1)
      ∧ r.2.mem ((c.tc : Thread Cert.KvBwdIdeal.nD Cert.KvBwdIdeal.τ).loc Cert.KvBwdIdeal.main_arg2) = m ((c.tc : Thread Cert.KvBwdIdeal.nD Cert.KvBwdIdeal.τ).loc Cert.KvBwdIdeal.main_arg2)
      ∧ r.2.mem ((c.tc : Thread Cert.KvBwdIdeal.nD Cert.KvBwdIdeal.τ).loc Cert.KvBwdIdeal.main_arg3) = m ((c.tc : Thread Cert.KvBwdIdeal.nD Cert.KvBwdIdeal.τ).loc Cert.KvBwdIdeal.main_arg3)
      ∧ r.2.mem ((c.tc : Thread Cert.KvBwdIdeal.nD Cert.KvBwdIdeal.τ).loc Cert.KvBwdIdeal.main_arg4) = m ((c.tc : Thread Cert.KvBwdIdeal.nD Cert.KvBwdIdeal.τ).loc Cert.KvBwdIdeal.main_arg4)
      ∧ r.2.mem ((c.tc : Thread Cert.KvBwdIdeal.nD Cert.KvBwdIdeal.τ).loc Cert.KvBwdIdeal.main_arg5) = m ((c.tc : Thread Cert.KvBwdIdeal.nD Cert.KvBwdIdeal.τ).loc Cert.KvBwdIdeal.main_arg5))
      ∧ r.2.sem = fun _ => 0)

def quiescent_KvBwdIdeal_pre_kv_finite [hKvBwdIdeal : Cert.KvBwdIdeal.Facts] [hPre_kv_finite : Cert.Pre_kv_finite.Facts] : Prop :=
  ∀ (m : (ℓ : Loc Cert.KvBwdIdeal.nD Cert.KvBwdIdeal.τ Cert.KvBwdIdeal.sig) → Buf (Elt Ideal) ℓ) (g : Dev Cert.KvBwdIdeal.nD → PrngReg), Pre_KvBwdIdeal_kv_finite m →
    θ_run (Cert.KvBwdIdeal.defs (F := Ideal)) (onTc (τ := Cert.KvBwdIdeal.τ) (Cert.KvBwdIdeal.main (F := Ideal))) ⟨m, fun _ => 0, g⟩ (fun r => (∀ c : Dev Cert.KvBwdIdeal.nD,
      r.2.mem ((c.tc : Thread Cert.KvBwdIdeal.nD Cert.KvBwdIdeal.τ).loc Cert.KvBwdIdeal.main_arg0) = m ((c.tc : Thread Cert.KvBwdIdeal.nD Cert.KvBwdIdeal.τ).loc Cert.KvBwdIdeal.main_arg0)
      ∧ r.2.mem ((c.tc : Thread Cert.KvBwdIdeal.nD Cert.KvBwdIdeal.τ).loc Cert.KvBwdIdeal.main_arg1) = m ((c.tc : Thread Cert.KvBwdIdeal.nD Cert.KvBwdIdeal.τ).loc Cert.KvBwdIdeal.main_arg1)
      ∧ r.2.mem ((c.tc : Thread Cert.KvBwdIdeal.nD Cert.KvBwdIdeal.τ).loc Cert.KvBwdIdeal.main_arg2) = m ((c.tc : Thread Cert.KvBwdIdeal.nD Cert.KvBwdIdeal.τ).loc Cert.KvBwdIdeal.main_arg2)
      ∧ r.2.mem ((c.tc : Thread Cert.KvBwdIdeal.nD Cert.KvBwdIdeal.τ).loc Cert.KvBwdIdeal.main_arg3) = m ((c.tc : Thread Cert.KvBwdIdeal.nD Cert.KvBwdIdeal.τ).loc Cert.KvBwdIdeal.main_arg3)
      ∧ r.2.mem ((c.tc : Thread Cert.KvBwdIdeal.nD Cert.KvBwdIdeal.τ).loc Cert.KvBwdIdeal.main_arg4) = m ((c.tc : Thread Cert.KvBwdIdeal.nD Cert.KvBwdIdeal.τ).loc Cert.KvBwdIdeal.main_arg4)
      ∧ r.2.mem ((c.tc : Thread Cert.KvBwdIdeal.nD Cert.KvBwdIdeal.τ).loc Cert.KvBwdIdeal.main_arg5) = m ((c.tc : Thread Cert.KvBwdIdeal.nD Cert.KvBwdIdeal.τ).loc Cert.KvBwdIdeal.main_arg5))
      ∧ r.2.sem = fun _ => 0)

def quiescent_KvRefIdeal [hKvRefIdeal : Cert.KvRefIdeal.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1)
      ∧ r.2.mem ((c.tc : Thread Cert.KvRefIdeal.nD Cert.KvRefIdeal.τ).loc Cert.KvRefIdeal.main_arg2) = m ((c.tc : Thread Cert.KvRefIdeal.nD Cert.KvRefIdeal.τ).loc Cert.KvRefIdeal.main_arg2)
      ∧ r.2.mem ((c.tc : Thread Cert.KvRefIdeal.nD Cert.KvRefIdeal.τ).loc Cert.KvRefIdeal.main_arg3) = m ((c.tc : Thread Cert.KvRefIdeal.nD Cert.KvRefIdeal.τ).loc Cert.KvRefIdeal.main_arg3)
      ∧ r.2.mem ((c.tc : Thread Cert.KvRefIdeal.nD Cert.KvRefIdeal.τ).loc Cert.KvRefIdeal.main_arg4) = m ((c.tc : Thread Cert.KvRefIdeal.nD Cert.KvRefIdeal.τ).loc Cert.KvRefIdeal.main_arg4)
      ∧ r.2.mem ((c.tc : Thread Cert.KvRefIdeal.nD Cert.KvRefIdeal.τ).loc Cert.KvRefIdeal.main_arg5) = m ((c.tc : Thread Cert.KvRefIdeal.nD Cert.KvRefIdeal.τ).loc Cert.KvRefIdeal.main_arg5))
      ∧ r.2.sem = fun _ => 0)

def quiescent_KvRefIdeal_pre_kv_finite [hKvRefIdeal : Cert.KvRefIdeal.Facts] [hPre_kv_finite : Cert.Pre_kv_finite.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal_kv_finite m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1)
      ∧ r.2.mem ((c.tc : Thread Cert.KvRefIdeal.nD Cert.KvRefIdeal.τ).loc Cert.KvRefIdeal.main_arg2) = m ((c.tc : Thread Cert.KvRefIdeal.nD Cert.KvRefIdeal.τ).loc Cert.KvRefIdeal.main_arg2)
      ∧ r.2.mem ((c.tc : Thread Cert.KvRefIdeal.nD Cert.KvRefIdeal.τ).loc Cert.KvRefIdeal.main_arg3) = m ((c.tc : Thread Cert.KvRefIdeal.nD Cert.KvRefIdeal.τ).loc Cert.KvRefIdeal.main_arg3)
      ∧ r.2.mem ((c.tc : Thread Cert.KvRefIdeal.nD Cert.KvRefIdeal.τ).loc Cert.KvRefIdeal.main_arg4) = m ((c.tc : Thread Cert.KvRefIdeal.nD Cert.KvRefIdeal.τ).loc Cert.KvRefIdeal.main_arg4)
      ∧ r.2.mem ((c.tc : Thread Cert.KvRefIdeal.nD Cert.KvRefIdeal.τ).loc Cert.KvRefIdeal.main_arg5) = m ((c.tc : Thread Cert.KvRefIdeal.nD Cert.KvRefIdeal.τ).loc Cert.KvRefIdeal.main_arg5))
      ∧ r.2.sem = fun _ => 0)

def quiescent_AttnBwd [hAttnBwd : Cert.AttnBwd.Facts] : Prop :=
  ∀ (m : (ℓ : Loc Cert.AttnBwd.nD Cert.AttnBwd.τ Cert.AttnBwd.sig) → Buf (Elt Bits) ℓ) (g : Dev Cert.AttnBwd.nD → PrngReg), Pre_AttnBwd m →
    θ_run (Cert.AttnBwd.defs (F := Bits)) (onTc (τ := Cert.AttnBwd.τ) (Cert.AttnBwd.main (F := Bits))) ⟨m, fun _ => 0, g⟩ (fun r => (∀ c : Dev Cert.AttnBwd.nD,
      r.2.mem ((c.tc : Thread Cert.AttnBwd.nD Cert.AttnBwd.τ).loc Cert.AttnBwd.main_arg0) = m ((c.tc : Thread Cert.AttnBwd.nD Cert.AttnBwd.τ).loc Cert.AttnBwd.main_arg0)
      ∧ r.2.mem ((c.tc : Thread Cert.AttnBwd.nD Cert.AttnBwd.τ).loc Cert.AttnBwd.main_arg1) = m ((c.tc : Thread Cert.AttnBwd.nD Cert.AttnBwd.τ).loc Cert.AttnBwd.main_arg1)
      ∧ r.2.mem ((c.tc : Thread Cert.AttnBwd.nD Cert.AttnBwd.τ).loc Cert.AttnBwd.main_arg2) = m ((c.tc : Thread Cert.AttnBwd.nD Cert.AttnBwd.τ).loc Cert.AttnBwd.main_arg2)
      ∧ r.2.mem ((c.tc : Thread Cert.AttnBwd.nD Cert.AttnBwd.τ).loc Cert.AttnBwd.main_arg3) = m ((c.tc : Thread Cert.AttnBwd.nD Cert.AttnBwd.τ).loc Cert.AttnBwd.main_arg3)
      ∧ r.2.mem ((c.tc : Thread Cert.AttnBwd.nD Cert.AttnBwd.τ).loc Cert.AttnBwd.main_arg4) = m ((c.tc : Thread Cert.AttnBwd.nD Cert.AttnBwd.τ).loc Cert.AttnBwd.main_arg4)
      ∧ r.2.mem ((c.tc : Thread Cert.AttnBwd.nD Cert.AttnBwd.τ).loc Cert.AttnBwd.main_arg5) = m ((c.tc : Thread Cert.AttnBwd.nD Cert.AttnBwd.τ).loc Cert.AttnBwd.main_arg5)
      ∧ r.2.mem ((c.tc : Thread Cert.AttnBwd.nD Cert.AttnBwd.τ).loc Cert.AttnBwd.main_arg6) = m ((c.tc : Thread Cert.AttnBwd.nD Cert.AttnBwd.τ).loc Cert.AttnBwd.main_arg6))
      ∧ r.2.sem = fun _ => 0)

def quiescent_AttnBwdIdeal [hAttnBwdIdeal : Cert.AttnBwdIdeal.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3)
      ∧ r.2.mem ((c.tc : Thread Cert.AttnBwdIdeal.nD Cert.AttnBwdIdeal.τ).loc Cert.AttnBwdIdeal.main_arg4) = m ((c.tc : Thread Cert.AttnBwdIdeal.nD Cert.AttnBwdIdeal.τ).loc Cert.AttnBwdIdeal.main_arg4)
      ∧ r.2.mem ((c.tc : Thread Cert.AttnBwdIdeal.nD Cert.AttnBwdIdeal.τ).loc Cert.AttnBwdIdeal.main_arg5) = m ((c.tc : Thread Cert.AttnBwdIdeal.nD Cert.AttnBwdIdeal.τ).loc Cert.AttnBwdIdeal.main_arg5)
      ∧ r.2.mem ((c.tc : Thread Cert.AttnBwdIdeal.nD Cert.AttnBwdIdeal.τ).loc Cert.AttnBwdIdeal.main_arg6) = m ((c.tc : Thread Cert.AttnBwdIdeal.nD Cert.AttnBwdIdeal.τ).loc Cert.AttnBwdIdeal.main_arg6))
      ∧ r.2.sem = fun _ => 0)

def quiescent_AttnBwdIdeal_pre_attn_finite [hAttnBwdIdeal : Cert.AttnBwdIdeal.Facts] [hPre_attn_finite : Cert.Pre_attn_finite.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal_attn_finite m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3)
      ∧ r.2.mem ((c.tc : Thread Cert.AttnBwdIdeal.nD Cert.AttnBwdIdeal.τ).loc Cert.AttnBwdIdeal.main_arg4) = m ((c.tc : Thread Cert.AttnBwdIdeal.nD Cert.AttnBwdIdeal.τ).loc Cert.AttnBwdIdeal.main_arg4)
      ∧ r.2.mem ((c.tc : Thread Cert.AttnBwdIdeal.nD Cert.AttnBwdIdeal.τ).loc Cert.AttnBwdIdeal.main_arg5) = m ((c.tc : Thread Cert.AttnBwdIdeal.nD Cert.AttnBwdIdeal.τ).loc Cert.AttnBwdIdeal.main_arg5)
      ∧ r.2.mem ((c.tc : Thread Cert.AttnBwdIdeal.nD Cert.AttnBwdIdeal.τ).loc Cert.AttnBwdIdeal.main_arg6) = m ((c.tc : Thread Cert.AttnBwdIdeal.nD Cert.AttnBwdIdeal.τ).loc Cert.AttnBwdIdeal.main_arg6))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6))
      ∧ r.2.sem = fun _ => 0)

def quiescent_AttnRefIdeal_pre_attn_finite [hAttnRefIdeal : Cert.AttnRefIdeal.Facts] [hPre_attn_finite : Cert.Pre_attn_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6))
      ∧ r.2.sem = fun _ => 0)

def quiescent_InprojFwd [hInprojFwd : Cert.InprojFwd.Facts] : Prop :=
  ∀ (m : (ℓ : Loc Cert.InprojFwd.nD Cert.InprojFwd.τ Cert.InprojFwd.sig) → Buf (Elt Bits) ℓ) (g : Dev Cert.InprojFwd.nD → PrngReg), Pre_InprojFwd m →
    θ_run (Cert.InprojFwd.defs (F := Bits)) (onTc (τ := Cert.InprojFwd.τ) (Cert.InprojFwd.main (F := Bits))) ⟨m, fun _ => 0, g⟩ (fun r => (∀ c : Dev Cert.InprojFwd.nD,
      r.2.mem ((c.tc : Thread Cert.InprojFwd.nD Cert.InprojFwd.τ).loc Cert.InprojFwd.main_arg0) = m ((c.tc : Thread Cert.InprojFwd.nD Cert.InprojFwd.τ).loc Cert.InprojFwd.main_arg0)
      ∧ r.2.mem ((c.tc : Thread Cert.InprojFwd.nD Cert.InprojFwd.τ).loc Cert.InprojFwd.main_arg1) = m ((c.tc : Thread Cert.InprojFwd.nD Cert.InprojFwd.τ).loc Cert.InprojFwd.main_arg1)
      ∧ r.2.mem ((c.tc : Thread Cert.InprojFwd.nD Cert.InprojFwd.τ).loc Cert.InprojFwd.main_arg2) = m ((c.tc : Thread Cert.InprojFwd.nD Cert.InprojFwd.τ).loc Cert.InprojFwd.main_arg2))
      ∧ r.2.sem = fun _ => 0)

def quiescent_InprojFwdIdeal [hInprojFwdIdeal : Cert.InprojFwdIdeal.Facts] : Prop :=
  ∀ (m : (ℓ : Loc Cert.InprojFwdIdeal.nD Cert.InprojFwdIdeal.τ Cert.InprojFwdIdeal.sig) → Buf (Elt Ideal) ℓ) (g : Dev Cert.InprojFwdIdeal.nD → PrngReg), Pre_InprojFwdIdeal m →
    θ_run (Cert.InprojFwdIdeal.defs (F := Ideal)) (onTc (τ := Cert.InprojFwdIdeal.τ) (Cert.InprojFwdIdeal.main (F := Ideal))) ⟨m, fun _ => 0, g⟩ (fun r => (∀ c : Dev Cert.InprojFwdIdeal.nD,
      r.2.mem ((c.tc : Thread Cert.InprojFwdIdeal.nD Cert.InprojFwdIdeal.τ).loc Cert.InprojFwdIdeal.main_arg0) = m ((c.tc : Thread Cert.InprojFwdIdeal.nD Cert.InprojFwdIdeal.τ).loc Cert.InprojFwdIdeal.main_arg0)
      ∧ r.2.mem ((c.tc : Thread Cert.InprojFwdIdeal.nD Cert.InprojFwdIdeal.τ).loc Cert.InprojFwdIdeal.main_arg1) = m ((c.tc : Thread Cert.InprojFwdIdeal.nD Cert.InprojFwdIdeal.τ).loc Cert.InprojFwdIdeal.main_arg1)
      ∧ r.2.mem ((c.tc : Thread Cert.InprojFwdIdeal.nD Cert.InprojFwdIdeal.τ).loc Cert.InprojFwdIdeal.main_arg2) = m ((c.tc : Thread Cert.InprojFwdIdeal.nD Cert.InprojFwdIdeal.τ).loc Cert.InprojFwdIdeal.main_arg2))
      ∧ r.2.sem = fun _ => 0)

def quiescent_InprojFwdRefIdeal [hInprojFwdRefIdeal : Cert.InprojFwdRefIdeal.Facts] : Prop :=
  ∀ (m : (ℓ : Loc Cert.InprojFwdRefIdeal.nD Cert.InprojFwdRefIdeal.τ Cert.InprojFwdRefIdeal.sig) → Buf (Elt Ideal) ℓ) (g : Dev Cert.InprojFwdRefIdeal.nD → PrngReg), Pre_InprojFwdRefIdeal m →
    θ_run (Cert.InprojFwdRefIdeal.defs (F := Ideal)) (onTc (τ := Cert.InprojFwdRefIdeal.τ) (Cert.InprojFwdRefIdeal.main (F := Ideal))) ⟨m, fun _ => 0, g⟩ (fun r => (∀ c : Dev Cert.InprojFwdRefIdeal.nD,
      r.2.mem ((c.tc : Thread Cert.InprojFwdRefIdeal.nD Cert.InprojFwdRefIdeal.τ).loc Cert.InprojFwdRefIdeal.main_arg0) = m ((c.tc : Thread Cert.InprojFwdRefIdeal.nD Cert.InprojFwdRefIdeal.τ).loc Cert.InprojFwdRefIdeal.main_arg0)
      ∧ r.2.mem ((c.tc : Thread Cert.InprojFwdRefIdeal.nD Cert.InprojFwdRefIdeal.τ).loc Cert.InprojFwdRefIdeal.main_arg1) = m ((c.tc : Thread Cert.InprojFwdRefIdeal.nD Cert.InprojFwdRefIdeal.τ).loc Cert.InprojFwdRefIdeal.main_arg1)
      ∧ r.2.mem ((c.tc : Thread Cert.InprojFwdRefIdeal.nD Cert.InprojFwdRefIdeal.τ).loc Cert.InprojFwdRefIdeal.main_arg2) = m ((c.tc : Thread Cert.InprojFwdRefIdeal.nD Cert.InprojFwdRefIdeal.τ).loc Cert.InprojFwdRefIdeal.main_arg2))
      ∧ r.2.sem = fun _ => 0)

def quiescent_MergeFwd [hMergeFwd : Cert.MergeFwd.Facts] : Prop :=
  ∀ (m : (ℓ : Loc Cert.MergeFwd.nD Cert.MergeFwd.τ Cert.MergeFwd.sig) → Buf (Elt Bits) ℓ) (g : Dev Cert.MergeFwd.nD → PrngReg), Pre_MergeFwd m →
    θ_run (Cert.MergeFwd.defs (F := Bits)) (onTc (τ := Cert.MergeFwd.τ) (Cert.MergeFwd.main (F := Bits))) ⟨m, fun _ => 0, g⟩ (fun r => (∀ c : Dev Cert.MergeFwd.nD,
      r.2.mem ((c.tc : Thread Cert.MergeFwd.nD Cert.MergeFwd.τ).loc Cert.MergeFwd.main_arg0) = m ((c.tc : Thread Cert.MergeFwd.nD Cert.MergeFwd.τ).loc Cert.MergeFwd.main_arg0)
      ∧ r.2.mem ((c.tc : Thread Cert.MergeFwd.nD Cert.MergeFwd.τ).loc Cert.MergeFwd.main_arg1) = m ((c.tc : Thread Cert.MergeFwd.nD Cert.MergeFwd.τ).loc Cert.MergeFwd.main_arg1)
      ∧ r.2.mem ((c.tc : Thread Cert.MergeFwd.nD Cert.MergeFwd.τ).loc Cert.MergeFwd.main_arg2) = m ((c.tc : Thread Cert.MergeFwd.nD Cert.MergeFwd.τ).loc Cert.MergeFwd.main_arg2)
      ∧ r.2.mem ((c.tc : Thread Cert.MergeFwd.nD Cert.MergeFwd.τ).loc Cert.MergeFwd.main_arg3) = m ((c.tc : Thread Cert.MergeFwd.nD Cert.MergeFwd.τ).loc Cert.MergeFwd.main_arg3)
      ∧ r.2.mem ((c.tc : Thread Cert.MergeFwd.nD Cert.MergeFwd.τ).loc Cert.MergeFwd.main_arg4) = m ((c.tc : Thread Cert.MergeFwd.nD Cert.MergeFwd.τ).loc Cert.MergeFwd.main_arg4)
      ∧ r.2.mem ((c.tc : Thread Cert.MergeFwd.nD Cert.MergeFwd.τ).loc Cert.MergeFwd.main_arg5) = m ((c.tc : Thread Cert.MergeFwd.nD Cert.MergeFwd.τ).loc Cert.MergeFwd.main_arg5)
      ∧ r.2.mem ((c.tc : Thread Cert.MergeFwd.nD Cert.MergeFwd.τ).loc Cert.MergeFwd.main_arg6) = m ((c.tc : Thread Cert.MergeFwd.nD Cert.MergeFwd.τ).loc Cert.MergeFwd.main_arg6)
      ∧ r.2.mem ((c.tc : Thread Cert.MergeFwd.nD Cert.MergeFwd.τ).loc Cert.MergeFwd.main_arg7) = m ((c.tc : Thread Cert.MergeFwd.nD Cert.MergeFwd.τ).loc Cert.MergeFwd.main_arg7))
      ∧ r.2.sem = fun _ => 0)

def quiescent_MergeFwdIdeal [hMergeFwdIdeal : Cert.MergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
      ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
      ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
      ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4)
      ∧ r.2.mem ((c.tc : Thread Cert.MergeFwdIdeal.nD Cert.MergeFwdIdeal.τ).loc Cert.MergeFwdIdeal.main_arg5) = m ((c.tc : Thread Cert.MergeFwdIdeal.nD Cert.MergeFwdIdeal.τ).loc Cert.MergeFwdIdeal.main_arg5)
      ∧ r.2.mem ((c.tc : Thread Cert.MergeFwdIdeal.nD Cert.MergeFwdIdeal.τ).loc Cert.MergeFwdIdeal.main_arg6) = m ((c.tc : Thread Cert.MergeFwdIdeal.nD Cert.MergeFwdIdeal.τ).loc Cert.MergeFwdIdeal.main_arg6)
      ∧ r.2.mem ((c.tc : Thread Cert.MergeFwdIdeal.nD Cert.MergeFwdIdeal.τ).loc Cert.MergeFwdIdeal.main_arg7) = m ((c.tc : Thread Cert.MergeFwdIdeal.nD Cert.MergeFwdIdeal.τ).loc Cert.MergeFwdIdeal.main_arg7))
      ∧ r.2.sem = fun _ => 0)

def quiescent_MergeFwdRefIdeal [hMergeFwdRefIdeal : Cert.MergeFwdRefIdeal.Facts] : Prop :=
  ∀ (m : (ℓ : Loc Cert.MergeFwdRefIdeal.nD Cert.MergeFwdRefIdeal.τ Cert.MergeFwdRefIdeal.sig) → Buf (Elt Ideal) ℓ) (g : Dev Cert.MergeFwdRefIdeal.nD → PrngReg), Pre_MergeFwdRefIdeal m →
    θ_run (Cert.MergeFwdRefIdeal.defs (F := Ideal)) (onTc (τ := Cert.MergeFwdRefIdeal.τ) (Cert.MergeFwdRefIdeal.main (F := Ideal))) ⟨m, fun _ => 0, g⟩ (fun r => (∀ c : Dev Cert.MergeFwdRefIdeal.nD,
      r.2.mem ((c.tc : Thread Cert.MergeFwdRefIdeal.nD Cert.MergeFwdRefIdeal.τ).loc Cert.MergeFwdRefIdeal.main_arg0) = m ((c.tc : Thread Cert.MergeFwdRefIdeal.nD Cert.MergeFwdRefIdeal.τ).loc Cert.MergeFwdRefIdeal.main_arg0)
      ∧ r.2.mem ((c.tc : Thread Cert.MergeFwdRefIdeal.nD Cert.MergeFwdRefIdeal.τ).loc Cert.MergeFwdRefIdeal.main_arg1) = m ((c.tc : Thread Cert.MergeFwdRefIdeal.nD Cert.MergeFwdRefIdeal.τ).loc Cert.MergeFwdRefIdeal.main_arg1)
      ∧ r.2.mem ((c.tc : Thread Cert.MergeFwdRefIdeal.nD Cert.MergeFwdRefIdeal.τ).loc Cert.MergeFwdRefIdeal.main_arg2) = m ((c.tc : Thread Cert.MergeFwdRefIdeal.nD Cert.MergeFwdRefIdeal.τ).loc Cert.MergeFwdRefIdeal.main_arg2)
      ∧ r.2.mem ((c.tc : Thread Cert.MergeFwdRefIdeal.nD Cert.MergeFwdRefIdeal.τ).loc Cert.MergeFwdRefIdeal.main_arg3) = m ((c.tc : Thread Cert.MergeFwdRefIdeal.nD Cert.MergeFwdRefIdeal.τ).loc Cert.MergeFwdRefIdeal.main_arg3)
      ∧ r.2.mem ((c.tc : Thread Cert.MergeFwdRefIdeal.nD Cert.MergeFwdRefIdeal.τ).loc Cert.MergeFwdRefIdeal.main_arg4) = m ((c.tc : Thread Cert.MergeFwdRefIdeal.nD Cert.MergeFwdRefIdeal.τ).loc Cert.MergeFwdRefIdeal.main_arg4)
      ∧ r.2.mem ((c.tc : Thread Cert.MergeFwdRefIdeal.nD Cert.MergeFwdRefIdeal.τ).loc Cert.MergeFwdRefIdeal.main_arg5) = m ((c.tc : Thread Cert.MergeFwdRefIdeal.nD Cert.MergeFwdRefIdeal.τ).loc Cert.MergeFwdRefIdeal.main_arg5)
      ∧ r.2.mem ((c.tc : Thread Cert.MergeFwdRefIdeal.nD Cert.MergeFwdRefIdeal.τ).loc Cert.MergeFwdRefIdeal.main_arg6) = m ((c.tc : Thread Cert.MergeFwdRefIdeal.nD Cert.MergeFwdRefIdeal.τ).loc Cert.MergeFwdRefIdeal.main_arg6)
      ∧ r.2.mem ((c.tc : Thread Cert.MergeFwdRefIdeal.nD Cert.MergeFwdRefIdeal.τ).loc Cert.MergeFwdRefIdeal.main_arg7) = m ((c.tc : Thread Cert.MergeFwdRefIdeal.nD Cert.MergeFwdRefIdeal.τ).loc Cert.MergeFwdRefIdeal.main_arg7))
      ∧ r.2.sem = fun _ => 0)

def quiescent_MlpFwd [hMlpFwd : Cert.MlpFwd.Facts] : Prop :=
  ∀ (m : (ℓ : Loc Cert.MlpFwd.nD Cert.MlpFwd.τ Cert.MlpFwd.sig) → Buf (Elt Bits) ℓ) (g : Dev Cert.MlpFwd.nD → PrngReg), Pre_MlpFwd m →
    θ_run (Cert.MlpFwd.defs (F := Bits)) (onTc (τ := Cert.MlpFwd.τ) (Cert.MlpFwd.main (F := Bits))) ⟨m, fun _ => 0, g⟩ (fun r => (∀ c : Dev Cert.MlpFwd.nD,
      r.2.mem ((c.tc : Thread Cert.MlpFwd.nD Cert.MlpFwd.τ).loc Cert.MlpFwd.main_arg0) = m ((c.tc : Thread Cert.MlpFwd.nD Cert.MlpFwd.τ).loc Cert.MlpFwd.main_arg0)
      ∧ r.2.mem ((c.tc : Thread Cert.MlpFwd.nD Cert.MlpFwd.τ).loc Cert.MlpFwd.main_arg1) = m ((c.tc : Thread Cert.MlpFwd.nD Cert.MlpFwd.τ).loc Cert.MlpFwd.main_arg1)
      ∧ r.2.mem ((c.tc : Thread Cert.MlpFwd.nD Cert.MlpFwd.τ).loc Cert.MlpFwd.main_arg2) = m ((c.tc : Thread Cert.MlpFwd.nD Cert.MlpFwd.τ).loc Cert.MlpFwd.main_arg2)
      ∧ r.2.mem ((c.tc : Thread Cert.MlpFwd.nD Cert.MlpFwd.τ).loc Cert.MlpFwd.main_arg3) = m ((c.tc : Thread Cert.MlpFwd.nD Cert.MlpFwd.τ).loc Cert.MlpFwd.main_arg3))
      ∧ r.2.sem = fun _ => 0)

def quiescent_MlpFwdIdeal [hMlpFwdIdeal : Cert.MlpFwdIdeal.Facts] : Prop :=
  ∀ (m : (ℓ : Loc Cert.MlpFwdIdeal.nD Cert.MlpFwdIdeal.τ Cert.MlpFwdIdeal.sig) → Buf (Elt Ideal) ℓ) (g : Dev Cert.MlpFwdIdeal.nD → PrngReg), Pre_MlpFwdIdeal m →
    θ_run (Cert.MlpFwdIdeal.defs (F := Ideal)) (onTc (τ := Cert.MlpFwdIdeal.τ) (Cert.MlpFwdIdeal.main (F := Ideal))) ⟨m, fun _ => 0, g⟩ (fun r => (∀ c : Dev Cert.MlpFwdIdeal.nD,
      r.2.mem ((c.tc : Thread Cert.MlpFwdIdeal.nD Cert.MlpFwdIdeal.τ).loc Cert.MlpFwdIdeal.main_arg0) = m ((c.tc : Thread Cert.MlpFwdIdeal.nD Cert.MlpFwdIdeal.τ).loc Cert.MlpFwdIdeal.main_arg0)
      ∧ r.2.mem ((c.tc : Thread Cert.MlpFwdIdeal.nD Cert.MlpFwdIdeal.τ).loc Cert.MlpFwdIdeal.main_arg1) = m ((c.tc : Thread Cert.MlpFwdIdeal.nD Cert.MlpFwdIdeal.τ).loc Cert.MlpFwdIdeal.main_arg1)
      ∧ r.2.mem ((c.tc : Thread Cert.MlpFwdIdeal.nD Cert.MlpFwdIdeal.τ).loc Cert.MlpFwdIdeal.main_arg2) = m ((c.tc : Thread Cert.MlpFwdIdeal.nD Cert.MlpFwdIdeal.τ).loc Cert.MlpFwdIdeal.main_arg2)
      ∧ r.2.mem ((c.tc : Thread Cert.MlpFwdIdeal.nD Cert.MlpFwdIdeal.τ).loc Cert.MlpFwdIdeal.main_arg3) = m ((c.tc : Thread Cert.MlpFwdIdeal.nD Cert.MlpFwdIdeal.τ).loc Cert.MlpFwdIdeal.main_arg3))
      ∧ r.2.sem = fun _ => 0)

def quiescent_MlpFwdRefIdeal [hMlpFwdRefIdeal : Cert.MlpFwdRefIdeal.Facts] : Prop :=
  ∀ (m : (ℓ : Loc Cert.MlpFwdRefIdeal.nD Cert.MlpFwdRefIdeal.τ Cert.MlpFwdRefIdeal.sig) → Buf (Elt Ideal) ℓ) (g : Dev Cert.MlpFwdRefIdeal.nD → PrngReg), Pre_MlpFwdRefIdeal m →
    θ_run (Cert.MlpFwdRefIdeal.defs (F := Ideal)) (onTc (τ := Cert.MlpFwdRefIdeal.τ) (Cert.MlpFwdRefIdeal.main (F := Ideal))) ⟨m, fun _ => 0, g⟩ (fun r => (∀ c : Dev Cert.MlpFwdRefIdeal.nD,
      r.2.mem ((c.tc : Thread Cert.MlpFwdRefIdeal.nD Cert.MlpFwdRefIdeal.τ).loc Cert.MlpFwdRefIdeal.main_arg0) = m ((c.tc : Thread Cert.MlpFwdRefIdeal.nD Cert.MlpFwdRefIdeal.τ).loc Cert.MlpFwdRefIdeal.main_arg0)
      ∧ r.2.mem ((c.tc : Thread Cert.MlpFwdRefIdeal.nD Cert.MlpFwdRefIdeal.τ).loc Cert.MlpFwdRefIdeal.main_arg1) = m ((c.tc : Thread Cert.MlpFwdRefIdeal.nD Cert.MlpFwdRefIdeal.τ).loc Cert.MlpFwdRefIdeal.main_arg1)
      ∧ r.2.mem ((c.tc : Thread Cert.MlpFwdRefIdeal.nD Cert.MlpFwdRefIdeal.τ).loc Cert.MlpFwdRefIdeal.main_arg2) = m ((c.tc : Thread Cert.MlpFwdRefIdeal.nD Cert.MlpFwdRefIdeal.τ).loc Cert.MlpFwdRefIdeal.main_arg2)
      ∧ r.2.mem ((c.tc : Thread Cert.MlpFwdRefIdeal.nD Cert.MlpFwdRefIdeal.τ).loc Cert.MlpFwdRefIdeal.main_arg3) = m ((c.tc : Thread Cert.MlpFwdRefIdeal.nD Cert.MlpFwdRefIdeal.τ).loc Cert.MlpFwdRefIdeal.main_arg3))
      ∧ r.2.sem = fun _ => 0)

def preserves_MergeBwd_MergeBwdIdeal : Prop :=
  True

def algebraic_MergeBwdIdeal_MergeRefIdeal [hMergeBwdIdeal : Cert.MergeBwdIdeal.Facts] [hMergeRefIdeal : Cert.MergeRefIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeBwdIdeal m →
    (∀ c : Dev Cert.MergeBwdIdeal.nD,
      m' ((c.tc : Thread Cert.MergeRefIdeal.nD Cert.MergeRefIdeal.τ).loc Cert.MergeRefIdeal.main_arg0) = m ((c.tc : Thread Cert.MergeBwdIdeal.nD Cert.MergeBwdIdeal.τ).loc Cert.MergeBwdIdeal.main_arg0)
      ∧ m' ((c.tc : Thread Cert.MergeRefIdeal.nD Cert.MergeRefIdeal.τ).loc Cert.MergeRefIdeal.main_arg1) = m ((c.tc : Thread Cert.MergeBwdIdeal.nD Cert.MergeBwdIdeal.τ).loc Cert.MergeBwdIdeal.main_arg1)
      ∧ m' ((c.tc : Thread Cert.MergeRefIdeal.nD Cert.MergeRefIdeal.τ).loc Cert.MergeRefIdeal.main_arg2) = m ((c.tc : Thread Cert.MergeBwdIdeal.nD Cert.MergeBwdIdeal.τ).loc Cert.MergeBwdIdeal.main_arg2)
      ∧ m' ((c.tc : Thread Cert.MergeRefIdeal.nD Cert.MergeRefIdeal.τ).loc Cert.MergeRefIdeal.main_arg3) = m ((c.tc : Thread Cert.MergeBwdIdeal.nD Cert.MergeBwdIdeal.τ).loc Cert.MergeBwdIdeal.main_arg3)
      ∧ m' ((c.tc : Thread Cert.MergeRefIdeal.nD Cert.MergeRefIdeal.τ).loc Cert.MergeRefIdeal.main_arg4) = m ((c.tc : Thread Cert.MergeBwdIdeal.nD Cert.MergeBwdIdeal.τ).loc Cert.MergeBwdIdeal.main_arg4)
      ∧ m' ((c.tc : Thread Cert.MergeRefIdeal.nD Cert.MergeRefIdeal.τ).loc Cert.MergeRefIdeal.main_arg5) = m ((c.tc : Thread Cert.MergeBwdIdeal.nD Cert.MergeBwdIdeal.τ).loc Cert.MergeBwdIdeal.main_arg5)
      ∧ m' ((c.tc : Thread Cert.MergeRefIdeal.nD Cert.MergeRefIdeal.τ).loc Cert.MergeRefIdeal.main_arg6) = m ((c.tc : Thread Cert.MergeBwdIdeal.nD Cert.MergeBwdIdeal.τ).loc Cert.MergeBwdIdeal.main_arg6)
      ∧ m' ((c.tc : Thread Cert.MergeRefIdeal.nD Cert.MergeRefIdeal.τ).loc Cert.MergeRefIdeal.main_arg7) = m ((c.tc : Thread Cert.MergeBwdIdeal.nD Cert.MergeBwdIdeal.τ).loc Cert.MergeBwdIdeal.main_arg7)) →
    ∃ (v0 : (c : Dev Cert.MergeBwdIdeal.nD) → Buf (Elt Ideal) ((c.tc : Thread Cert.MergeBwdIdeal.nD Cert.MergeBwdIdeal.τ).loc Cert.MergeBwdIdeal.main_v6_0)) (v1 : (c : Dev Cert.MergeBwdIdeal.nD) → Buf (Elt Ideal) ((c.tc : Thread Cert.MergeBwdIdeal.nD Cert.MergeBwdIdeal.τ).loc Cert.MergeBwdIdeal.main_v6_1)) (v2 : (c : Dev Cert.MergeBwdIdeal.nD) → Buf (Elt Ideal) ((c.tc : Thread Cert.MergeBwdIdeal.nD Cert.MergeBwdIdeal.τ).loc Cert.MergeBwdIdeal.main_v6_2)) (v3 : (c : Dev Cert.MergeBwdIdeal.nD) → Buf (Elt Ideal) ((c.tc : Thread Cert.MergeBwdIdeal.nD Cert.MergeBwdIdeal.τ).loc Cert.MergeBwdIdeal.main_v6_3)) (v4 : (c : Dev Cert.MergeBwdIdeal.nD) → Buf (Elt Ideal) ((c.tc : Thread Cert.MergeBwdIdeal.nD Cert.MergeBwdIdeal.τ).loc Cert.MergeBwdIdeal.main_v6_4)) (v5 : (c : Dev Cert.MergeBwdIdeal.nD) → Buf (Elt Ideal) ((c.tc : Thread Cert.MergeBwdIdeal.nD Cert.MergeBwdIdeal.τ).loc Cert.MergeBwdIdeal.main_v6_5)),
      θ_run (Cert.MergeBwdIdeal.defs (F := Ideal)) (onTc (τ := Cert.MergeBwdIdeal.τ) (Cert.MergeBwdIdeal.main (F := Ideal))) ⟨m, fun _ => 0, g⟩ (fun r => ∀ c : Dev Cert.MergeBwdIdeal.nD,
          r.2.mem ((c.tc : Thread Cert.MergeBwdIdeal.nD Cert.MergeBwdIdeal.τ).loc Cert.MergeBwdIdeal.main_v6_0) = v0 c
          ∧ r.2.mem ((c.tc : Thread Cert.MergeBwdIdeal.nD Cert.MergeBwdIdeal.τ).loc Cert.MergeBwdIdeal.main_v6_1) = v1 c
          ∧ r.2.mem ((c.tc : Thread Cert.MergeBwdIdeal.nD Cert.MergeBwdIdeal.τ).loc Cert.MergeBwdIdeal.main_v6_2) = v2 c
          ∧ r.2.mem ((c.tc : Thread Cert.MergeBwdIdeal.nD Cert.MergeBwdIdeal.τ).loc Cert.MergeBwdIdeal.main_v6_3) = v3 c
          ∧ r.2.mem ((c.tc : Thread Cert.MergeBwdIdeal.nD Cert.MergeBwdIdeal.τ).loc Cert.MergeBwdIdeal.main_v6_4) = v4 c
          ∧ r.2.mem ((c.tc : Thread Cert.MergeBwdIdeal.nD Cert.MergeBwdIdeal.τ).loc Cert.MergeBwdIdeal.main_v6_5) = v5 c
          ∧ r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
          ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
          ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
          ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
          ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4)
          ∧ r.2.mem ((c.tc : Thread Cert.MergeBwdIdeal.nD Cert.MergeBwdIdeal.τ).loc Cert.MergeBwdIdeal.main_arg5) = m ((c.tc : Thread Cert.MergeBwdIdeal.nD Cert.MergeBwdIdeal.τ).loc Cert.MergeBwdIdeal.main_arg5)
          ∧ r.2.mem ((c.tc : Thread Cert.MergeBwdIdeal.nD Cert.MergeBwdIdeal.τ).loc Cert.MergeBwdIdeal.main_arg6) = m ((c.tc : Thread Cert.MergeBwdIdeal.nD Cert.MergeBwdIdeal.τ).loc Cert.MergeBwdIdeal.main_arg6)
          ∧ r.2.mem ((c.tc : Thread Cert.MergeBwdIdeal.nD Cert.MergeBwdIdeal.τ).loc Cert.MergeBwdIdeal.main_arg7) = m ((c.tc : Thread Cert.MergeBwdIdeal.nD Cert.MergeBwdIdeal.τ).loc Cert.MergeBwdIdeal.main_arg7))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v38) = v0 c
          ∧ r.2.mem ((c.tc : Thread Cert.MergeRefIdeal.nD Cert.MergeRefIdeal.τ).loc Cert.MergeRefIdeal.main_v39) = v1 c
          ∧ r.2.mem ((c.tc : Thread Cert.MergeRefIdeal.nD Cert.MergeRefIdeal.τ).loc Cert.MergeRefIdeal.main_v40) = v2 c
          ∧ r.2.mem ((c.tc : Thread Cert.MergeRefIdeal.nD Cert.MergeRefIdeal.τ).loc Cert.MergeRefIdeal.main_v41) = v3 c
          ∧ r.2.mem ((c.tc : Thread Cert.MergeRefIdeal.nD Cert.MergeRefIdeal.τ).loc Cert.MergeRefIdeal.main_v37) = v4 c
          ∧ r.2.mem ((c.tc : Thread Cert.MergeRefIdeal.nD Cert.MergeRefIdeal.τ).loc Cert.MergeRefIdeal.main_v36) = v5 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7))

def preserves_PleLoss_PleLossIdeal : Prop :=
  True

def algebraic_PleLossIdeal_PleRefIdeal [hPleLossIdeal : Cert.PleLossIdeal.Facts] [hPleRefIdeal : Cert.PleRefIdeal.Facts] : Prop :=
  ∀ (m : (ℓ : Loc Cert.PleLossIdeal.nD Cert.PleLossIdeal.τ Cert.PleLossIdeal.sig) → Buf (Elt Ideal) ℓ) (g : Dev Cert.PleLossIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleLossIdeal m →
    (∀ c : Dev Cert.PleLossIdeal.nD,
      m' ((c.tc : Thread Cert.PleRefIdeal.nD Cert.PleRefIdeal.τ).loc Cert.PleRefIdeal.main_arg0) = m ((c.tc : Thread Cert.PleLossIdeal.nD Cert.PleLossIdeal.τ).loc Cert.PleLossIdeal.main_arg0)
      ∧ m' ((c.tc : Thread Cert.PleRefIdeal.nD Cert.PleRefIdeal.τ).loc Cert.PleRefIdeal.main_arg1) = m ((c.tc : Thread Cert.PleLossIdeal.nD Cert.PleLossIdeal.τ).loc Cert.PleLossIdeal.main_arg1)
      ∧ m' ((c.tc : Thread Cert.PleRefIdeal.nD Cert.PleRefIdeal.τ).loc Cert.PleRefIdeal.main_arg2) = m ((c.tc : Thread Cert.PleLossIdeal.nD Cert.PleLossIdeal.τ).loc Cert.PleLossIdeal.main_arg2)
      ∧ m' ((c.tc : Thread Cert.PleRefIdeal.nD Cert.PleRefIdeal.τ).loc Cert.PleRefIdeal.main_arg3) = m ((c.tc : Thread Cert.PleLossIdeal.nD Cert.PleLossIdeal.τ).loc Cert.PleLossIdeal.main_arg3)
      ∧ m' ((c.tc : Thread Cert.PleRefIdeal.nD Cert.PleRefIdeal.τ).loc Cert.PleRefIdeal.main_arg4) = m ((c.tc : Thread Cert.PleLossIdeal.nD Cert.PleLossIdeal.τ).loc Cert.PleLossIdeal.main_arg4)
      ∧ m' ((c.tc : Thread Cert.PleRefIdeal.nD Cert.PleRefIdeal.τ).loc Cert.PleRefIdeal.main_arg5) = m ((c.tc : Thread Cert.PleLossIdeal.nD Cert.PleLossIdeal.τ).loc Cert.PleLossIdeal.main_arg5)) →
    ∃ (v0 : (c : Dev Cert.PleLossIdeal.nD) → Buf (Elt Ideal) ((c.tc : Thread Cert.PleLossIdeal.nD Cert.PleLossIdeal.τ).loc Cert.PleLossIdeal.main_v8)) (v1 : (c : Dev Cert.PleLossIdeal.nD) → Buf (Elt Ideal) ((c.tc : Thread Cert.PleLossIdeal.nD Cert.PleLossIdeal.τ).loc Cert.PleLossIdeal.main_v6_1)) (v2 : (c : Dev Cert.PleLossIdeal.nD) → Buf (Elt Ideal) ((c.tc : Thread Cert.PleLossIdeal.nD Cert.PleLossIdeal.τ).loc Cert.PleLossIdeal.main_v6_2)) (v3 : (c : Dev Cert.PleLossIdeal.nD) → Buf (Elt Ideal) ((c.tc : Thread Cert.PleLossIdeal.nD Cert.PleLossIdeal.τ).loc Cert.PleLossIdeal.main_v6_3)) (v4 : (c : Dev Cert.PleLossIdeal.nD) → Buf (Elt Ideal) ((c.tc : Thread Cert.PleLossIdeal.nD Cert.PleLossIdeal.τ).loc Cert.PleLossIdeal.main_v6_4)) (v5 : (c : Dev Cert.PleLossIdeal.nD) → Buf (Elt Ideal) ((c.tc : Thread Cert.PleLossIdeal.nD Cert.PleLossIdeal.τ).loc Cert.PleLossIdeal.main_v6_5)) (v6 : (c : Dev Cert.PleLossIdeal.nD) → Buf (Elt Ideal) ((c.tc : Thread Cert.PleLossIdeal.nD Cert.PleLossIdeal.τ).loc Cert.PleLossIdeal.main_v6_6)),
      θ_run (Cert.PleLossIdeal.defs (F := Ideal)) (onTc (τ := Cert.PleLossIdeal.τ) (Cert.PleLossIdeal.main (F := Ideal))) ⟨m, fun _ => 0, g⟩ (fun r => ∀ c : Dev Cert.PleLossIdeal.nD,
          r.2.mem ((c.tc : Thread Cert.PleLossIdeal.nD Cert.PleLossIdeal.τ).loc Cert.PleLossIdeal.main_v8) = v0 c
          ∧ r.2.mem ((c.tc : Thread Cert.PleLossIdeal.nD Cert.PleLossIdeal.τ).loc Cert.PleLossIdeal.main_v6_1) = v1 c
          ∧ r.2.mem ((c.tc : Thread Cert.PleLossIdeal.nD Cert.PleLossIdeal.τ).loc Cert.PleLossIdeal.main_v6_2) = v2 c
          ∧ r.2.mem ((c.tc : Thread Cert.PleLossIdeal.nD Cert.PleLossIdeal.τ).loc Cert.PleLossIdeal.main_v6_3) = v3 c
          ∧ r.2.mem ((c.tc : Thread Cert.PleLossIdeal.nD Cert.PleLossIdeal.τ).loc Cert.PleLossIdeal.main_v6_4) = v4 c
          ∧ r.2.mem ((c.tc : Thread Cert.PleLossIdeal.nD Cert.PleLossIdeal.τ).loc Cert.PleLossIdeal.main_v6_5) = v5 c
          ∧ r.2.mem ((c.tc : Thread Cert.PleLossIdeal.nD Cert.PleLossIdeal.τ).loc Cert.PleLossIdeal.main_v6_6) = v6 c
          ∧ r.2.mem ((c.tc : Thread Cert.PleLossIdeal.nD Cert.PleLossIdeal.τ).loc Cert.PleLossIdeal.main_arg0) = m ((c.tc : Thread Cert.PleLossIdeal.nD Cert.PleLossIdeal.τ).loc Cert.PleLossIdeal.main_arg0)
          ∧ r.2.mem ((c.tc : Thread Cert.PleLossIdeal.nD Cert.PleLossIdeal.τ).loc Cert.PleLossIdeal.main_arg1) = m ((c.tc : Thread Cert.PleLossIdeal.nD Cert.PleLossIdeal.τ).loc Cert.PleLossIdeal.main_arg1)
          ∧ r.2.mem ((c.tc : Thread Cert.PleLossIdeal.nD Cert.PleLossIdeal.τ).loc Cert.PleLossIdeal.main_arg2) = m ((c.tc : Thread Cert.PleLossIdeal.nD Cert.PleLossIdeal.τ).loc Cert.PleLossIdeal.main_arg2)
          ∧ r.2.mem ((c.tc : Thread Cert.PleLossIdeal.nD Cert.PleLossIdeal.τ).loc Cert.PleLossIdeal.main_arg3) = m ((c.tc : Thread Cert.PleLossIdeal.nD Cert.PleLossIdeal.τ).loc Cert.PleLossIdeal.main_arg3)
          ∧ r.2.mem ((c.tc : Thread Cert.PleLossIdeal.nD Cert.PleLossIdeal.τ).loc Cert.PleLossIdeal.main_arg4) = m ((c.tc : Thread Cert.PleLossIdeal.nD Cert.PleLossIdeal.τ).loc Cert.PleLossIdeal.main_arg4)
          ∧ r.2.mem ((c.tc : Thread Cert.PleLossIdeal.nD Cert.PleLossIdeal.τ).loc Cert.PleLossIdeal.main_arg5) = m ((c.tc : Thread Cert.PleLossIdeal.nD Cert.PleLossIdeal.τ).loc Cert.PleLossIdeal.main_arg5))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v40) = v0 c
          ∧ r.2.mem ((c.tc : Thread Cert.PleRefIdeal.nD Cert.PleRefIdeal.τ).loc Cert.PleRefIdeal.main_v71) = v1 c
          ∧ r.2.mem ((c.tc : Thread Cert.PleRefIdeal.nD Cert.PleRefIdeal.τ).loc Cert.PleRefIdeal.main_v72) = v2 c
          ∧ r.2.mem ((c.tc : Thread Cert.PleRefIdeal.nD Cert.PleRefIdeal.τ).loc Cert.PleRefIdeal.main_v73) = v3 c
          ∧ r.2.mem ((c.tc : Thread Cert.PleRefIdeal.nD Cert.PleRefIdeal.τ).loc Cert.PleRefIdeal.main_v74) = v4 c
          ∧ r.2.mem ((c.tc : Thread Cert.PleRefIdeal.nD Cert.PleRefIdeal.τ).loc Cert.PleRefIdeal.main_v75) = v5 c
          ∧ r.2.mem ((c.tc : Thread Cert.PleRefIdeal.nD Cert.PleRefIdeal.τ).loc Cert.PleRefIdeal.main_v76) = v6 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4)
          ∧ r.2.mem ((c.tc : Thread Cert.PleRefIdeal.nD Cert.PleRefIdeal.τ).loc Cert.PleRefIdeal.main_arg5) = m' ((c.tc : Thread Cert.PleRefIdeal.nD Cert.PleRefIdeal.τ).loc Cert.PleRefIdeal.main_arg5))

def preserves_MlpBwd_MlpBwdIdeal : Prop :=
  True

def algebraic_MlpBwdIdeal_MlpRefIdeal [hMlpBwdIdeal : Cert.MlpBwdIdeal.Facts] [hMlpRefIdeal : Cert.MlpRefIdeal.Facts] : Prop :=
  ∀ (m : (ℓ : Loc Cert.MlpBwdIdeal.nD Cert.MlpBwdIdeal.τ Cert.MlpBwdIdeal.sig) → Buf (Elt Ideal) ℓ) (g : Dev Cert.MlpBwdIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpBwdIdeal m →
    (∀ c : Dev Cert.MlpBwdIdeal.nD,
      m' ((c.tc : Thread Cert.MlpRefIdeal.nD Cert.MlpRefIdeal.τ).loc Cert.MlpRefIdeal.main_arg0) = m ((c.tc : Thread Cert.MlpBwdIdeal.nD Cert.MlpBwdIdeal.τ).loc Cert.MlpBwdIdeal.main_arg0)
      ∧ m' ((c.tc : Thread Cert.MlpRefIdeal.nD Cert.MlpRefIdeal.τ).loc Cert.MlpRefIdeal.main_arg1) = m ((c.tc : Thread Cert.MlpBwdIdeal.nD Cert.MlpBwdIdeal.τ).loc Cert.MlpBwdIdeal.main_arg1)
      ∧ m' ((c.tc : Thread Cert.MlpRefIdeal.nD Cert.MlpRefIdeal.τ).loc Cert.MlpRefIdeal.main_arg2) = m ((c.tc : Thread Cert.MlpBwdIdeal.nD Cert.MlpBwdIdeal.τ).loc Cert.MlpBwdIdeal.main_arg2)
      ∧ m' ((c.tc : Thread Cert.MlpRefIdeal.nD Cert.MlpRefIdeal.τ).loc Cert.MlpRefIdeal.main_arg3) = m ((c.tc : Thread Cert.MlpBwdIdeal.nD Cert.MlpBwdIdeal.τ).loc Cert.MlpBwdIdeal.main_arg3)
      ∧ m' ((c.tc : Thread Cert.MlpRefIdeal.nD Cert.MlpRefIdeal.τ).loc Cert.MlpRefIdeal.main_arg4) = m ((c.tc : Thread Cert.MlpBwdIdeal.nD Cert.MlpBwdIdeal.τ).loc Cert.MlpBwdIdeal.main_arg4)) →
    ∃ (v0 : (c : Dev Cert.MlpBwdIdeal.nD) → Buf (Elt Ideal) ((c.tc : Thread Cert.MlpBwdIdeal.nD Cert.MlpBwdIdeal.τ).loc Cert.MlpBwdIdeal.main_v7_0)) (v1 : (c : Dev Cert.MlpBwdIdeal.nD) → Buf (Elt Ideal) ((c.tc : Thread Cert.MlpBwdIdeal.nD Cert.MlpBwdIdeal.τ).loc Cert.MlpBwdIdeal.main_v7_1)) (v2 : (c : Dev Cert.MlpBwdIdeal.nD) → Buf (Elt Ideal) ((c.tc : Thread Cert.MlpBwdIdeal.nD Cert.MlpBwdIdeal.τ).loc Cert.MlpBwdIdeal.main_v7_2)),
      θ_run (Cert.MlpBwdIdeal.defs (F := Ideal)) (onTc (τ := Cert.MlpBwdIdeal.τ) (Cert.MlpBwdIdeal.main (F := Ideal))) ⟨m, fun _ => 0, g⟩ (fun r => ∀ c : Dev Cert.MlpBwdIdeal.nD,
          r.2.mem ((c.tc : Thread Cert.MlpBwdIdeal.nD Cert.MlpBwdIdeal.τ).loc Cert.MlpBwdIdeal.main_v7_0) = v0 c
          ∧ r.2.mem ((c.tc : Thread Cert.MlpBwdIdeal.nD Cert.MlpBwdIdeal.τ).loc Cert.MlpBwdIdeal.main_v7_1) = v1 c
          ∧ r.2.mem ((c.tc : Thread Cert.MlpBwdIdeal.nD Cert.MlpBwdIdeal.τ).loc Cert.MlpBwdIdeal.main_v7_2) = v2 c
          ∧ r.2.mem ((c.tc : Thread Cert.MlpBwdIdeal.nD Cert.MlpBwdIdeal.τ).loc Cert.MlpBwdIdeal.main_arg0) = m ((c.tc : Thread Cert.MlpBwdIdeal.nD Cert.MlpBwdIdeal.τ).loc Cert.MlpBwdIdeal.main_arg0)
          ∧ r.2.mem ((c.tc : Thread Cert.MlpBwdIdeal.nD Cert.MlpBwdIdeal.τ).loc Cert.MlpBwdIdeal.main_arg1) = m ((c.tc : Thread Cert.MlpBwdIdeal.nD Cert.MlpBwdIdeal.τ).loc Cert.MlpBwdIdeal.main_arg1)
          ∧ r.2.mem ((c.tc : Thread Cert.MlpBwdIdeal.nD Cert.MlpBwdIdeal.τ).loc Cert.MlpBwdIdeal.main_arg2) = m ((c.tc : Thread Cert.MlpBwdIdeal.nD Cert.MlpBwdIdeal.τ).loc Cert.MlpBwdIdeal.main_arg2)
          ∧ r.2.mem ((c.tc : Thread Cert.MlpBwdIdeal.nD Cert.MlpBwdIdeal.τ).loc Cert.MlpBwdIdeal.main_arg3) = m ((c.tc : Thread Cert.MlpBwdIdeal.nD Cert.MlpBwdIdeal.τ).loc Cert.MlpBwdIdeal.main_arg3)
          ∧ r.2.mem ((c.tc : Thread Cert.MlpBwdIdeal.nD Cert.MlpBwdIdeal.τ).loc Cert.MlpBwdIdeal.main_arg4) = m ((c.tc : Thread Cert.MlpBwdIdeal.nD Cert.MlpBwdIdeal.τ).loc Cert.MlpBwdIdeal.main_arg4))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v53) = v0 c
          ∧ r.2.mem ((c.tc : Thread Cert.MlpRefIdeal.nD Cert.MlpRefIdeal.τ).loc Cert.MlpRefIdeal.main_v54) = v1 c
          ∧ r.2.mem ((c.tc : Thread Cert.MlpRefIdeal.nD Cert.MlpRefIdeal.τ).loc Cert.MlpRefIdeal.main_v55) = v2 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4))

def preserves_InprojBwd_InprojBwdIdeal : Prop :=
  True

def algebraic_InprojBwdIdeal_InprojRefIdeal [hInprojBwdIdeal : Cert.InprojBwdIdeal.Facts] [hInprojRefIdeal : Cert.InprojRefIdeal.Facts] : Prop :=
  ∀ (m : (ℓ : Loc Cert.InprojBwdIdeal.nD Cert.InprojBwdIdeal.τ Cert.InprojBwdIdeal.sig) → Buf (Elt Ideal) ℓ) (g : Dev Cert.InprojBwdIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojBwdIdeal m →
    (∀ c : Dev Cert.InprojBwdIdeal.nD,
      m' ((c.tc : Thread Cert.InprojRefIdeal.nD Cert.InprojRefIdeal.τ).loc Cert.InprojRefIdeal.main_arg0) = m ((c.tc : Thread Cert.InprojBwdIdeal.nD Cert.InprojBwdIdeal.τ).loc Cert.InprojBwdIdeal.main_arg0)
      ∧ m' ((c.tc : Thread Cert.InprojRefIdeal.nD Cert.InprojRefIdeal.τ).loc Cert.InprojRefIdeal.main_arg1) = m ((c.tc : Thread Cert.InprojBwdIdeal.nD Cert.InprojBwdIdeal.τ).loc Cert.InprojBwdIdeal.main_arg1)
      ∧ m' ((c.tc : Thread Cert.InprojRefIdeal.nD Cert.InprojRefIdeal.τ).loc Cert.InprojRefIdeal.main_arg2) = m ((c.tc : Thread Cert.InprojBwdIdeal.nD Cert.InprojBwdIdeal.τ).loc Cert.InprojBwdIdeal.main_arg2)
      ∧ m' ((c.tc : Thread Cert.InprojRefIdeal.nD Cert.InprojRefIdeal.τ).loc Cert.InprojRefIdeal.main_arg3) = m ((c.tc : Thread Cert.InprojBwdIdeal.nD Cert.InprojBwdIdeal.τ).loc Cert.InprojBwdIdeal.main_arg3)
      ∧ m' ((c.tc : Thread Cert.InprojRefIdeal.nD Cert.InprojRefIdeal.τ).loc Cert.InprojRefIdeal.main_arg4) = m ((c.tc : Thread Cert.InprojBwdIdeal.nD Cert.InprojBwdIdeal.τ).loc Cert.InprojBwdIdeal.main_arg4)
      ∧ m' ((c.tc : Thread Cert.InprojRefIdeal.nD Cert.InprojRefIdeal.τ).loc Cert.InprojRefIdeal.main_arg5) = m ((c.tc : Thread Cert.InprojBwdIdeal.nD Cert.InprojBwdIdeal.τ).loc Cert.InprojBwdIdeal.main_arg5)
      ∧ m' ((c.tc : Thread Cert.InprojRefIdeal.nD Cert.InprojRefIdeal.τ).loc Cert.InprojRefIdeal.main_arg6) = m ((c.tc : Thread Cert.InprojBwdIdeal.nD Cert.InprojBwdIdeal.τ).loc Cert.InprojBwdIdeal.main_arg6)
      ∧ m' ((c.tc : Thread Cert.InprojRefIdeal.nD Cert.InprojRefIdeal.τ).loc Cert.InprojRefIdeal.main_arg7) = m ((c.tc : Thread Cert.InprojBwdIdeal.nD Cert.InprojBwdIdeal.τ).loc Cert.InprojBwdIdeal.main_arg7)
      ∧ m' ((c.tc : Thread Cert.InprojRefIdeal.nD Cert.InprojRefIdeal.τ).loc Cert.InprojRefIdeal.main_arg8) = m ((c.tc : Thread Cert.InprojBwdIdeal.nD Cert.InprojBwdIdeal.τ).loc Cert.InprojBwdIdeal.main_arg8)
      ∧ m' ((c.tc : Thread Cert.InprojRefIdeal.nD Cert.InprojRefIdeal.τ).loc Cert.InprojRefIdeal.main_arg9) = m ((c.tc : Thread Cert.InprojBwdIdeal.nD Cert.InprojBwdIdeal.τ).loc Cert.InprojBwdIdeal.main_arg9)
      ∧ m' ((c.tc : Thread Cert.InprojRefIdeal.nD Cert.InprojRefIdeal.τ).loc Cert.InprojRefIdeal.main_arg10) = m ((c.tc : Thread Cert.InprojBwdIdeal.nD Cert.InprojBwdIdeal.τ).loc Cert.InprojBwdIdeal.main_arg10)) →
    ∃ (v0 : (c : Dev Cert.InprojBwdIdeal.nD) → Buf (Elt Ideal) ((c.tc : Thread Cert.InprojBwdIdeal.nD Cert.InprojBwdIdeal.τ).loc Cert.InprojBwdIdeal.main_v4_0)) (v1 : (c : Dev Cert.InprojBwdIdeal.nD) → Buf (Elt Ideal) ((c.tc : Thread Cert.InprojBwdIdeal.nD Cert.InprojBwdIdeal.τ).loc Cert.InprojBwdIdeal.main_v4_1)),
      θ_run (Cert.InprojBwdIdeal.defs (F := Ideal)) (onTc (τ := Cert.InprojBwdIdeal.τ) (Cert.InprojBwdIdeal.main (F := Ideal))) ⟨m, fun _ => 0, g⟩ (fun r => ∀ c : Dev Cert.InprojBwdIdeal.nD,
          r.2.mem ((c.tc : Thread Cert.InprojBwdIdeal.nD Cert.InprojBwdIdeal.τ).loc Cert.InprojBwdIdeal.main_v4_0) = v0 c
          ∧ r.2.mem ((c.tc : Thread Cert.InprojBwdIdeal.nD Cert.InprojBwdIdeal.τ).loc Cert.InprojBwdIdeal.main_v4_1) = v1 c
          ∧ r.2.mem ((c.tc : Thread Cert.InprojBwdIdeal.nD Cert.InprojBwdIdeal.τ).loc Cert.InprojBwdIdeal.main_arg0) = m ((c.tc : Thread Cert.InprojBwdIdeal.nD Cert.InprojBwdIdeal.τ).loc Cert.InprojBwdIdeal.main_arg0)
          ∧ r.2.mem ((c.tc : Thread Cert.InprojBwdIdeal.nD Cert.InprojBwdIdeal.τ).loc Cert.InprojBwdIdeal.main_arg1) = m ((c.tc : Thread Cert.InprojBwdIdeal.nD Cert.InprojBwdIdeal.τ).loc Cert.InprojBwdIdeal.main_arg1)
          ∧ r.2.mem ((c.tc : Thread Cert.InprojBwdIdeal.nD Cert.InprojBwdIdeal.τ).loc Cert.InprojBwdIdeal.main_arg2) = m ((c.tc : Thread Cert.InprojBwdIdeal.nD Cert.InprojBwdIdeal.τ).loc Cert.InprojBwdIdeal.main_arg2)
          ∧ r.2.mem ((c.tc : Thread Cert.InprojBwdIdeal.nD Cert.InprojBwdIdeal.τ).loc Cert.InprojBwdIdeal.main_arg3) = m ((c.tc : Thread Cert.InprojBwdIdeal.nD Cert.InprojBwdIdeal.τ).loc Cert.InprojBwdIdeal.main_arg3)
          ∧ r.2.mem ((c.tc : Thread Cert.InprojBwdIdeal.nD Cert.InprojBwdIdeal.τ).loc Cert.InprojBwdIdeal.main_arg4) = m ((c.tc : Thread Cert.InprojBwdIdeal.nD Cert.InprojBwdIdeal.τ).loc Cert.InprojBwdIdeal.main_arg4)
          ∧ r.2.mem ((c.tc : Thread Cert.InprojBwdIdeal.nD Cert.InprojBwdIdeal.τ).loc Cert.InprojBwdIdeal.main_arg5) = m ((c.tc : Thread Cert.InprojBwdIdeal.nD Cert.InprojBwdIdeal.τ).loc Cert.InprojBwdIdeal.main_arg5)
          ∧ r.2.mem ((c.tc : Thread Cert.InprojBwdIdeal.nD Cert.InprojBwdIdeal.τ).loc Cert.InprojBwdIdeal.main_arg6) = m ((c.tc : Thread Cert.InprojBwdIdeal.nD Cert.InprojBwdIdeal.τ).loc Cert.InprojBwdIdeal.main_arg6)
          ∧ r.2.mem ((c.tc : Thread Cert.InprojBwdIdeal.nD Cert.InprojBwdIdeal.τ).loc Cert.InprojBwdIdeal.main_arg7) = m ((c.tc : Thread Cert.InprojBwdIdeal.nD Cert.InprojBwdIdeal.τ).loc Cert.InprojBwdIdeal.main_arg7)
          ∧ r.2.mem ((c.tc : Thread Cert.InprojBwdIdeal.nD Cert.InprojBwdIdeal.τ).loc Cert.InprojBwdIdeal.main_arg8) = m ((c.tc : Thread Cert.InprojBwdIdeal.nD Cert.InprojBwdIdeal.τ).loc Cert.InprojBwdIdeal.main_arg8)
          ∧ r.2.mem ((c.tc : Thread Cert.InprojBwdIdeal.nD Cert.InprojBwdIdeal.τ).loc Cert.InprojBwdIdeal.main_arg9) = m ((c.tc : Thread Cert.InprojBwdIdeal.nD Cert.InprojBwdIdeal.τ).loc Cert.InprojBwdIdeal.main_arg9)
          ∧ r.2.mem ((c.tc : Thread Cert.InprojBwdIdeal.nD Cert.InprojBwdIdeal.τ).loc Cert.InprojBwdIdeal.main_arg10) = m ((c.tc : Thread Cert.InprojBwdIdeal.nD Cert.InprojBwdIdeal.τ).loc Cert.InprojBwdIdeal.main_arg10))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v55) = v0 c
          ∧ r.2.mem ((c.tc : Thread Cert.InprojRefIdeal.nD Cert.InprojRefIdeal.τ).loc Cert.InprojRefIdeal.main_v56) = v1 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4)
          ∧ r.2.mem ((c.tc : Thread Cert.InprojRefIdeal.nD Cert.InprojRefIdeal.τ).loc Cert.InprojRefIdeal.main_arg5) = m' ((c.tc : Thread Cert.InprojRefIdeal.nD Cert.InprojRefIdeal.τ).loc Cert.InprojRefIdeal.main_arg5)
          ∧ r.2.mem ((c.tc : Thread Cert.InprojRefIdeal.nD Cert.InprojRefIdeal.τ).loc Cert.InprojRefIdeal.main_arg6) = m' ((c.tc : Thread Cert.InprojRefIdeal.nD Cert.InprojRefIdeal.τ).loc Cert.InprojRefIdeal.main_arg6)
          ∧ r.2.mem ((c.tc : Thread Cert.InprojRefIdeal.nD Cert.InprojRefIdeal.τ).loc Cert.InprojRefIdeal.main_arg7) = m' ((c.tc : Thread Cert.InprojRefIdeal.nD Cert.InprojRefIdeal.τ).loc Cert.InprojRefIdeal.main_arg7)
          ∧ r.2.mem ((c.tc : Thread Cert.InprojRefIdeal.nD Cert.InprojRefIdeal.τ).loc Cert.InprojRefIdeal.main_arg8) = m' ((c.tc : Thread Cert.InprojRefIdeal.nD Cert.InprojRefIdeal.τ).loc Cert.InprojRefIdeal.main_arg8)
          ∧ r.2.mem ((c.tc : Thread Cert.InprojRefIdeal.nD Cert.InprojRefIdeal.τ).loc Cert.InprojRefIdeal.main_arg9) = m' ((c.tc : Thread Cert.InprojRefIdeal.nD Cert.InprojRefIdeal.τ).loc Cert.InprojRefIdeal.main_arg9)
          ∧ r.2.mem ((c.tc : Thread Cert.InprojRefIdeal.nD Cert.InprojRefIdeal.τ).loc Cert.InprojRefIdeal.main_arg10) = m' ((c.tc : Thread Cert.InprojRefIdeal.nD Cert.InprojRefIdeal.τ).loc Cert.InprojRefIdeal.main_arg10))

def preserves_KvBwd_KvBwdIdeal : Prop :=
  True

def algebraic_KvBwdIdeal_KvRefIdeal_pre_kv_finite [hKvBwdIdeal : Cert.KvBwdIdeal.Facts] [hKvRefIdeal : Cert.KvRefIdeal.Facts] [hPre_kv_finite : Cert.Pre_kv_finite.Facts] : Prop :=
  ∀ (m : (ℓ : Loc Cert.KvBwdIdeal.nD Cert.KvBwdIdeal.τ Cert.KvBwdIdeal.sig) → Buf (Elt Ideal) ℓ) (g : Dev Cert.KvBwdIdeal.nD → PrngReg)
    (m' : (ℓ : Loc Cert.KvRefIdeal.nD Cert.KvRefIdeal.τ Cert.KvRefIdeal.sig) → Buf (Elt Ideal) ℓ) (g' : Dev Cert.KvRefIdeal.nD → PrngReg), Pre_KvBwdIdeal_kv_finite m →
    (∀ c : Dev Cert.KvBwdIdeal.nD,
      m' ((c.tc : Thread Cert.KvRefIdeal.nD Cert.KvRefIdeal.τ).loc Cert.KvRefIdeal.main_arg0) = m ((c.tc : Thread Cert.KvBwdIdeal.nD Cert.KvBwdIdeal.τ).loc Cert.KvBwdIdeal.main_arg0)
      ∧ m' ((c.tc : Thread Cert.KvRefIdeal.nD Cert.KvRefIdeal.τ).loc Cert.KvRefIdeal.main_arg1) = m ((c.tc : Thread Cert.KvBwdIdeal.nD Cert.KvBwdIdeal.τ).loc Cert.KvBwdIdeal.main_arg1)
      ∧ m' ((c.tc : Thread Cert.KvRefIdeal.nD Cert.KvRefIdeal.τ).loc Cert.KvRefIdeal.main_arg2) = m ((c.tc : Thread Cert.KvBwdIdeal.nD Cert.KvBwdIdeal.τ).loc Cert.KvBwdIdeal.main_arg2)
      ∧ m' ((c.tc : Thread Cert.KvRefIdeal.nD Cert.KvRefIdeal.τ).loc Cert.KvRefIdeal.main_arg3) = m ((c.tc : Thread Cert.KvBwdIdeal.nD Cert.KvBwdIdeal.τ).loc Cert.KvBwdIdeal.main_arg3)
      ∧ m' ((c.tc : Thread Cert.KvRefIdeal.nD Cert.KvRefIdeal.τ).loc Cert.KvRefIdeal.main_arg4) = m ((c.tc : Thread Cert.KvBwdIdeal.nD Cert.KvBwdIdeal.τ).loc Cert.KvBwdIdeal.main_arg4)
      ∧ m' ((c.tc : Thread Cert.KvRefIdeal.nD Cert.KvRefIdeal.τ).loc Cert.KvRefIdeal.main_arg5) = m ((c.tc : Thread Cert.KvBwdIdeal.nD Cert.KvBwdIdeal.τ).loc Cert.KvBwdIdeal.main_arg5)) →
    ∃ (v0 : (c : Dev Cert.KvBwdIdeal.nD) → Buf (Elt Ideal) ((c.tc : Thread Cert.KvBwdIdeal.nD Cert.KvBwdIdeal.τ).loc Cert.KvBwdIdeal.main_v42_0)) (v1 : (c : Dev Cert.KvBwdIdeal.nD) → Buf (Elt Ideal) ((c.tc : Thread Cert.KvBwdIdeal.nD Cert.KvBwdIdeal.τ).loc Cert.KvBwdIdeal.main_v42_1)) (v2 : (c : Dev Cert.KvBwdIdeal.nD) → Buf (Elt Ideal) ((c.tc : Thread Cert.KvBwdIdeal.nD Cert.KvBwdIdeal.τ).loc Cert.KvBwdIdeal.main_v44)),
      θ_run (Cert.KvBwdIdeal.defs (F := Ideal)) (onTc (τ := Cert.KvBwdIdeal.τ) (Cert.KvBwdIdeal.main (F := Ideal))) ⟨m, fun _ => 0, g⟩ (fun r => ∀ c : Dev Cert.KvBwdIdeal.nD,
          r.2.mem ((c.tc : Thread Cert.KvBwdIdeal.nD Cert.KvBwdIdeal.τ).loc Cert.KvBwdIdeal.main_v42_0) = v0 c
          ∧ r.2.mem ((c.tc : Thread Cert.KvBwdIdeal.nD Cert.KvBwdIdeal.τ).loc Cert.KvBwdIdeal.main_v42_1) = v1 c
          ∧ r.2.mem ((c.tc : Thread Cert.KvBwdIdeal.nD Cert.KvBwdIdeal.τ).loc Cert.KvBwdIdeal.main_v44) = v2 c
          ∧ r.2.mem ((c.tc : Thread Cert.KvBwdIdeal.nD Cert.KvBwdIdeal.τ).loc Cert.KvBwdIdeal.main_arg0) = m ((c.tc : Thread Cert.KvBwdIdeal.nD Cert.KvBwdIdeal.τ).loc Cert.KvBwdIdeal.main_arg0)
          ∧ r.2.mem ((c.tc : Thread Cert.KvBwdIdeal.nD Cert.KvBwdIdeal.τ).loc Cert.KvBwdIdeal.main_arg1) = m ((c.tc : Thread Cert.KvBwdIdeal.nD Cert.KvBwdIdeal.τ).loc Cert.KvBwdIdeal.main_arg1)
          ∧ r.2.mem ((c.tc : Thread Cert.KvBwdIdeal.nD Cert.KvBwdIdeal.τ).loc Cert.KvBwdIdeal.main_arg2) = m ((c.tc : Thread Cert.KvBwdIdeal.nD Cert.KvBwdIdeal.τ).loc Cert.KvBwdIdeal.main_arg2)
          ∧ r.2.mem ((c.tc : Thread Cert.KvBwdIdeal.nD Cert.KvBwdIdeal.τ).loc Cert.KvBwdIdeal.main_arg3) = m ((c.tc : Thread Cert.KvBwdIdeal.nD Cert.KvBwdIdeal.τ).loc Cert.KvBwdIdeal.main_arg3)
          ∧ r.2.mem ((c.tc : Thread Cert.KvBwdIdeal.nD Cert.KvBwdIdeal.τ).loc Cert.KvBwdIdeal.main_arg4) = m ((c.tc : Thread Cert.KvBwdIdeal.nD Cert.KvBwdIdeal.τ).loc Cert.KvBwdIdeal.main_arg4)
          ∧ r.2.mem ((c.tc : Thread Cert.KvBwdIdeal.nD Cert.KvBwdIdeal.τ).loc Cert.KvBwdIdeal.main_arg5) = m ((c.tc : Thread Cert.KvBwdIdeal.nD Cert.KvBwdIdeal.τ).loc Cert.KvBwdIdeal.main_arg5))
      ∧ θ_run (Cert.KvRefIdeal.defs (F := Ideal)) (onTc (τ := Cert.KvRefIdeal.τ) (Cert.KvRefIdeal.main (F := Ideal))) ⟨m', fun _ => 0, g'⟩ (fun r => ∀ c : Dev Cert.KvRefIdeal.nD,
          r.2.mem ((c.tc : Thread Cert.KvRefIdeal.nD Cert.KvRefIdeal.τ).loc Cert.KvRefIdeal.main_v119) = v0 c
          ∧ r.2.mem ((c.tc : Thread Cert.KvRefIdeal.nD Cert.KvRefIdeal.τ).loc Cert.KvRefIdeal.main_v121) = v1 c
          ∧ r.2.mem ((c.tc : Thread Cert.KvRefIdeal.nD Cert.KvRefIdeal.τ).loc Cert.KvRefIdeal.main_v103) = v2 c
          ∧ r.2.mem ((c.tc : Thread Cert.KvRefIdeal.nD Cert.KvRefIdeal.τ).loc Cert.KvRefIdeal.main_arg0) = m' ((c.tc : Thread Cert.KvRefIdeal.nD Cert.KvRefIdeal.τ).loc Cert.KvRefIdeal.main_arg0)
          ∧ r.2.mem ((c.tc : Thread Cert.KvRefIdeal.nD Cert.KvRefIdeal.τ).loc Cert.KvRefIdeal.main_arg1) = m' ((c.tc : Thread Cert.KvRefIdeal.nD Cert.KvRefIdeal.τ).loc Cert.KvRefIdeal.main_arg1)
          ∧ r.2.mem ((c.tc : Thread Cert.KvRefIdeal.nD Cert.KvRefIdeal.τ).loc Cert.KvRefIdeal.main_arg2) = m' ((c.tc : Thread Cert.KvRefIdeal.nD Cert.KvRefIdeal.τ).loc Cert.KvRefIdeal.main_arg2)
          ∧ r.2.mem ((c.tc : Thread Cert.KvRefIdeal.nD Cert.KvRefIdeal.τ).loc Cert.KvRefIdeal.main_arg3) = m' ((c.tc : Thread Cert.KvRefIdeal.nD Cert.KvRefIdeal.τ).loc Cert.KvRefIdeal.main_arg3)
          ∧ r.2.mem ((c.tc : Thread Cert.KvRefIdeal.nD Cert.KvRefIdeal.τ).loc Cert.KvRefIdeal.main_arg4) = m' ((c.tc : Thread Cert.KvRefIdeal.nD Cert.KvRefIdeal.τ).loc Cert.KvRefIdeal.main_arg4)
          ∧ r.2.mem ((c.tc : Thread Cert.KvRefIdeal.nD Cert.KvRefIdeal.τ).loc Cert.KvRefIdeal.main_arg5) = m' ((c.tc : Thread Cert.KvRefIdeal.nD Cert.KvRefIdeal.τ).loc Cert.KvRefIdeal.main_arg5))

def preserves_AttnBwd_AttnBwdIdeal : Prop :=
  IdealRules.named_const.Statement Cert.AttnBwdIdeal.κ "mask" .f32 0xF149F2CA#32 ⊥

def algebraic_AttnBwdIdeal_AttnRefIdeal_pre_attn_finite [hAttnBwdIdeal : Cert.AttnBwdIdeal.Facts] [hAttnRefIdeal : Cert.AttnRefIdeal.Facts] [hPre_attn_finite : Cert.Pre_attn_finite.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnBwdIdeal_attn_finite m →
    (∀ c : Dev Cert.AttnBwdIdeal.nD,
      m' ((c.tc : Thread Cert.AttnRefIdeal.nD Cert.AttnRefIdeal.τ).loc Cert.AttnRefIdeal.main_arg0) = m ((c.tc : Thread Cert.AttnBwdIdeal.nD Cert.AttnBwdIdeal.τ).loc Cert.AttnBwdIdeal.main_arg0)
      ∧ m' ((c.tc : Thread Cert.AttnRefIdeal.nD Cert.AttnRefIdeal.τ).loc Cert.AttnRefIdeal.main_arg1) = m ((c.tc : Thread Cert.AttnBwdIdeal.nD Cert.AttnBwdIdeal.τ).loc Cert.AttnBwdIdeal.main_arg1)
      ∧ m' ((c.tc : Thread Cert.AttnRefIdeal.nD Cert.AttnRefIdeal.τ).loc Cert.AttnRefIdeal.main_arg2) = m ((c.tc : Thread Cert.AttnBwdIdeal.nD Cert.AttnBwdIdeal.τ).loc Cert.AttnBwdIdeal.main_arg2)
      ∧ m' ((c.tc : Thread Cert.AttnRefIdeal.nD Cert.AttnRefIdeal.τ).loc Cert.AttnRefIdeal.main_arg3) = m ((c.tc : Thread Cert.AttnBwdIdeal.nD Cert.AttnBwdIdeal.τ).loc Cert.AttnBwdIdeal.main_arg3)
      ∧ m' ((c.tc : Thread Cert.AttnRefIdeal.nD Cert.AttnRefIdeal.τ).loc Cert.AttnRefIdeal.main_arg4) = m ((c.tc : Thread Cert.AttnBwdIdeal.nD Cert.AttnBwdIdeal.τ).loc Cert.AttnBwdIdeal.main_arg4)
      ∧ m' ((c.tc : Thread Cert.AttnRefIdeal.nD Cert.AttnRefIdeal.τ).loc Cert.AttnRefIdeal.main_arg5) = m ((c.tc : Thread Cert.AttnBwdIdeal.nD Cert.AttnBwdIdeal.τ).loc Cert.AttnBwdIdeal.main_arg5)
      ∧ m' ((c.tc : Thread Cert.AttnRefIdeal.nD Cert.AttnRefIdeal.τ).loc Cert.AttnRefIdeal.main_arg6) = m ((c.tc : Thread Cert.AttnBwdIdeal.nD Cert.AttnBwdIdeal.τ).loc Cert.AttnBwdIdeal.main_arg6)) →
    ∃ (v0 : (c : Dev Cert.AttnBwdIdeal.nD) → Buf (Elt Ideal) ((c.tc : Thread Cert.AttnBwdIdeal.nD Cert.AttnBwdIdeal.τ).loc Cert.AttnBwdIdeal.main_v58_0)) (v1 : (c : Dev Cert.AttnBwdIdeal.nD) → Buf (Elt Ideal) ((c.tc : Thread Cert.AttnBwdIdeal.nD Cert.AttnBwdIdeal.τ).loc Cert.AttnBwdIdeal.main_v58_1)) (v2 : (c : Dev Cert.AttnBwdIdeal.nD) → Buf (Elt Ideal) ((c.tc : Thread Cert.AttnBwdIdeal.nD Cert.AttnBwdIdeal.τ).loc Cert.AttnBwdIdeal.main_v58_2)) (v3 : (c : Dev Cert.AttnBwdIdeal.nD) → Buf (Elt Ideal) ((c.tc : Thread Cert.AttnBwdIdeal.nD Cert.AttnBwdIdeal.τ).loc Cert.AttnBwdIdeal.main_v58_3)) (v4 : (c : Dev Cert.AttnBwdIdeal.nD) → Buf (Elt Ideal) ((c.tc : Thread Cert.AttnBwdIdeal.nD Cert.AttnBwdIdeal.τ).loc Cert.AttnBwdIdeal.main_v58_4)) (v5 : (c : Dev Cert.AttnBwdIdeal.nD) → Buf (Elt Ideal) ((c.tc : Thread Cert.AttnBwdIdeal.nD Cert.AttnBwdIdeal.τ).loc Cert.AttnBwdIdeal.main_v60)) (v6 : (c : Dev Cert.AttnBwdIdeal.nD) → Buf (Elt Ideal) ((c.tc : Thread Cert.AttnBwdIdeal.nD Cert.AttnBwdIdeal.τ).loc Cert.AttnBwdIdeal.main_v61)),
      θ_run (Cert.AttnBwdIdeal.defs (F := Ideal)) (onTc (τ := Cert.AttnBwdIdeal.τ) (Cert.AttnBwdIdeal.main (F := Ideal))) ⟨m, fun _ => 0, g⟩ (fun r => ∀ c : Dev Cert.AttnBwdIdeal.nD,
          r.2.mem ((c.tc : Thread Cert.AttnBwdIdeal.nD Cert.AttnBwdIdeal.τ).loc Cert.AttnBwdIdeal.main_v58_0) = v0 c
          ∧ r.2.mem ((c.tc : Thread Cert.AttnBwdIdeal.nD Cert.AttnBwdIdeal.τ).loc Cert.AttnBwdIdeal.main_v58_1) = v1 c
          ∧ r.2.mem ((c.tc : Thread Cert.AttnBwdIdeal.nD Cert.AttnBwdIdeal.τ).loc Cert.AttnBwdIdeal.main_v58_2) = v2 c
          ∧ r.2.mem ((c.tc : Thread Cert.AttnBwdIdeal.nD Cert.AttnBwdIdeal.τ).loc Cert.AttnBwdIdeal.main_v58_3) = v3 c
          ∧ r.2.mem ((c.tc : Thread Cert.AttnBwdIdeal.nD Cert.AttnBwdIdeal.τ).loc Cert.AttnBwdIdeal.main_v58_4) = v4 c
          ∧ r.2.mem ((c.tc : Thread Cert.AttnBwdIdeal.nD Cert.AttnBwdIdeal.τ).loc Cert.AttnBwdIdeal.main_v60) = v5 c
          ∧ r.2.mem ((c.tc : Thread Cert.AttnBwdIdeal.nD Cert.AttnBwdIdeal.τ).loc Cert.AttnBwdIdeal.main_v61) = v6 c
          ∧ r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
          ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
          ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
          ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3)
          ∧ r.2.mem ((c.tc : Thread Cert.AttnBwdIdeal.nD Cert.AttnBwdIdeal.τ).loc Cert.AttnBwdIdeal.main_arg4) = m ((c.tc : Thread Cert.AttnBwdIdeal.nD Cert.AttnBwdIdeal.τ).loc Cert.AttnBwdIdeal.main_arg4)
          ∧ r.2.mem ((c.tc : Thread Cert.AttnBwdIdeal.nD Cert.AttnBwdIdeal.τ).loc Cert.AttnBwdIdeal.main_arg5) = m ((c.tc : Thread Cert.AttnBwdIdeal.nD Cert.AttnBwdIdeal.τ).loc Cert.AttnBwdIdeal.main_arg5)
          ∧ r.2.mem ((c.tc : Thread Cert.AttnBwdIdeal.nD Cert.AttnBwdIdeal.τ).loc Cert.AttnBwdIdeal.main_arg6) = m ((c.tc : Thread Cert.AttnBwdIdeal.nD Cert.AttnBwdIdeal.τ).loc Cert.AttnBwdIdeal.main_arg6))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v276) = v0 c
          ∧ r.2.mem ((c.tc : Thread Cert.AttnRefIdeal.nD Cert.AttnRefIdeal.τ).loc Cert.AttnRefIdeal.main_v278) = v1 c
          ∧ r.2.mem ((c.tc : Thread Cert.AttnRefIdeal.nD Cert.AttnRefIdeal.τ).loc Cert.AttnRefIdeal.main_v280) = v2 c
          ∧ r.2.mem ((c.tc : Thread Cert.AttnRefIdeal.nD Cert.AttnRefIdeal.τ).loc Cert.AttnRefIdeal.main_v282) = v3 c
          ∧ r.2.mem ((c.tc : Thread Cert.AttnRefIdeal.nD Cert.AttnRefIdeal.τ).loc Cert.AttnRefIdeal.main_v284) = v4 c
          ∧ r.2.mem ((c.tc : Thread Cert.AttnRefIdeal.nD Cert.AttnRefIdeal.τ).loc Cert.AttnRefIdeal.main_v260) = v5 c
          ∧ r.2.mem ((c.tc : Thread Cert.AttnRefIdeal.nD Cert.AttnRefIdeal.τ).loc Cert.AttnRefIdeal.main_v231) = v6 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5)
          ∧ r.2.mem ((c.tc : Thread Cert.AttnRefIdeal.nD Cert.AttnRefIdeal.τ).loc Cert.AttnRefIdeal.main_arg6) = m' ((c.tc : Thread Cert.AttnRefIdeal.nD Cert.AttnRefIdeal.τ).loc Cert.AttnRefIdeal.main_arg6))

def preserves_InprojFwd_InprojFwdIdeal : Prop :=
  True

def algebraic_InprojFwdIdeal_InprojFwdRefIdeal [hInprojFwdIdeal : Cert.InprojFwdIdeal.Facts] [hInprojFwdRefIdeal : Cert.InprojFwdRefIdeal.Facts] : Prop :=
  ∀ (m : (ℓ : Loc Cert.InprojFwdIdeal.nD Cert.InprojFwdIdeal.τ Cert.InprojFwdIdeal.sig) → Buf (Elt Ideal) ℓ) (g : Dev Cert.InprojFwdIdeal.nD → PrngReg)
    (m' : (ℓ : Loc Cert.InprojFwdRefIdeal.nD Cert.InprojFwdRefIdeal.τ Cert.InprojFwdRefIdeal.sig) → Buf (Elt Ideal) ℓ) (g' : Dev Cert.InprojFwdRefIdeal.nD → PrngReg), Pre_InprojFwdIdeal m →
    (∀ c : Dev Cert.InprojFwdIdeal.nD,
      m' ((c.tc : Thread Cert.InprojFwdRefIdeal.nD Cert.InprojFwdRefIdeal.τ).loc Cert.InprojFwdRefIdeal.main_arg0) = m ((c.tc : Thread Cert.InprojFwdIdeal.nD Cert.InprojFwdIdeal.τ).loc Cert.InprojFwdIdeal.main_arg0)
      ∧ m' ((c.tc : Thread Cert.InprojFwdRefIdeal.nD Cert.InprojFwdRefIdeal.τ).loc Cert.InprojFwdRefIdeal.main_arg1) = m ((c.tc : Thread Cert.InprojFwdIdeal.nD Cert.InprojFwdIdeal.τ).loc Cert.InprojFwdIdeal.main_arg1)
      ∧ m' ((c.tc : Thread Cert.InprojFwdRefIdeal.nD Cert.InprojFwdRefIdeal.τ).loc Cert.InprojFwdRefIdeal.main_arg2) = m ((c.tc : Thread Cert.InprojFwdIdeal.nD Cert.InprojFwdIdeal.τ).loc Cert.InprojFwdIdeal.main_arg2)) →
    ∃ (v0 : (c : Dev Cert.InprojFwdIdeal.nD) → Buf (Elt Ideal) ((c.tc : Thread Cert.InprojFwdIdeal.nD Cert.InprojFwdIdeal.τ).loc Cert.InprojFwdIdeal.main_v4_0)) (v1 : (c : Dev Cert.InprojFwdIdeal.nD) → Buf (Elt Ideal) ((c.tc : Thread Cert.InprojFwdIdeal.nD Cert.InprojFwdIdeal.τ).loc Cert.InprojFwdIdeal.main_v4_1)) (v2 : (c : Dev Cert.InprojFwdIdeal.nD) → Buf (Elt Ideal) ((c.tc : Thread Cert.InprojFwdIdeal.nD Cert.InprojFwdIdeal.τ).loc Cert.InprojFwdIdeal.main_v4_2)) (v3 : (c : Dev Cert.InprojFwdIdeal.nD) → Buf (Elt Ideal) ((c.tc : Thread Cert.InprojFwdIdeal.nD Cert.InprojFwdIdeal.τ).loc Cert.InprojFwdIdeal.main_v4_3)) (v4 : (c : Dev Cert.InprojFwdIdeal.nD) → Buf (Elt Ideal) ((c.tc : Thread Cert.InprojFwdIdeal.nD Cert.InprojFwdIdeal.τ).loc Cert.InprojFwdIdeal.main_v4_4)) (v5 : (c : Dev Cert.InprojFwdIdeal.nD) → Buf (Elt Ideal) ((c.tc : Thread Cert.InprojFwdIdeal.nD Cert.InprojFwdIdeal.τ).loc Cert.InprojFwdIdeal.main_v4_5)) (v6 : (c : Dev Cert.InprojFwdIdeal.nD) → Buf (Elt Ideal) ((c.tc : Thread Cert.InprojFwdIdeal.nD Cert.InprojFwdIdeal.τ).loc Cert.InprojFwdIdeal.main_v4_6)) (v7 : (c : Dev Cert.InprojFwdIdeal.nD) → Buf (Elt Ideal) ((c.tc : Thread Cert.InprojFwdIdeal.nD Cert.InprojFwdIdeal.τ).loc Cert.InprojFwdIdeal.main_v4_7)),
      θ_run (Cert.InprojFwdIdeal.defs (F := Ideal)) (onTc (τ := Cert.InprojFwdIdeal.τ) (Cert.InprojFwdIdeal.main (F := Ideal))) ⟨m, fun _ => 0, g⟩ (fun r => ∀ c : Dev Cert.InprojFwdIdeal.nD,
          r.2.mem ((c.tc : Thread Cert.InprojFwdIdeal.nD Cert.InprojFwdIdeal.τ).loc Cert.InprojFwdIdeal.main_v4_0) = v0 c
          ∧ r.2.mem ((c.tc : Thread Cert.InprojFwdIdeal.nD Cert.InprojFwdIdeal.τ).loc Cert.InprojFwdIdeal.main_v4_1) = v1 c
          ∧ r.2.mem ((c.tc : Thread Cert.InprojFwdIdeal.nD Cert.InprojFwdIdeal.τ).loc Cert.InprojFwdIdeal.main_v4_2) = v2 c
          ∧ r.2.mem ((c.tc : Thread Cert.InprojFwdIdeal.nD Cert.InprojFwdIdeal.τ).loc Cert.InprojFwdIdeal.main_v4_3) = v3 c
          ∧ r.2.mem ((c.tc : Thread Cert.InprojFwdIdeal.nD Cert.InprojFwdIdeal.τ).loc Cert.InprojFwdIdeal.main_v4_4) = v4 c
          ∧ r.2.mem ((c.tc : Thread Cert.InprojFwdIdeal.nD Cert.InprojFwdIdeal.τ).loc Cert.InprojFwdIdeal.main_v4_5) = v5 c
          ∧ r.2.mem ((c.tc : Thread Cert.InprojFwdIdeal.nD Cert.InprojFwdIdeal.τ).loc Cert.InprojFwdIdeal.main_v4_6) = v6 c
          ∧ r.2.mem ((c.tc : Thread Cert.InprojFwdIdeal.nD Cert.InprojFwdIdeal.τ).loc Cert.InprojFwdIdeal.main_v4_7) = v7 c
          ∧ r.2.mem ((c.tc : Thread Cert.InprojFwdIdeal.nD Cert.InprojFwdIdeal.τ).loc Cert.InprojFwdIdeal.main_arg0) = m ((c.tc : Thread Cert.InprojFwdIdeal.nD Cert.InprojFwdIdeal.τ).loc Cert.InprojFwdIdeal.main_arg0)
          ∧ r.2.mem ((c.tc : Thread Cert.InprojFwdIdeal.nD Cert.InprojFwdIdeal.τ).loc Cert.InprojFwdIdeal.main_arg1) = m ((c.tc : Thread Cert.InprojFwdIdeal.nD Cert.InprojFwdIdeal.τ).loc Cert.InprojFwdIdeal.main_arg1)
          ∧ r.2.mem ((c.tc : Thread Cert.InprojFwdIdeal.nD Cert.InprojFwdIdeal.τ).loc Cert.InprojFwdIdeal.main_arg2) = m ((c.tc : Thread Cert.InprojFwdIdeal.nD Cert.InprojFwdIdeal.τ).loc Cert.InprojFwdIdeal.main_arg2))
      ∧ θ_run (Cert.InprojFwdRefIdeal.defs (F := Ideal)) (onTc (τ := Cert.InprojFwdRefIdeal.τ) (Cert.InprojFwdRefIdeal.main (F := Ideal))) ⟨m', fun _ => 0, g'⟩ (fun r => ∀ c : Dev Cert.InprojFwdRefIdeal.nD,
          r.2.mem ((c.tc : Thread Cert.InprojFwdRefIdeal.nD Cert.InprojFwdRefIdeal.τ).loc Cert.InprojFwdRefIdeal.main_v16) = v0 c
          ∧ r.2.mem ((c.tc : Thread Cert.InprojFwdRefIdeal.nD Cert.InprojFwdRefIdeal.τ).loc Cert.InprojFwdRefIdeal.main_v17) = v1 c
          ∧ r.2.mem ((c.tc : Thread Cert.InprojFwdRefIdeal.nD Cert.InprojFwdRefIdeal.τ).loc Cert.InprojFwdRefIdeal.main_v18) = v2 c
          ∧ r.2.mem ((c.tc : Thread Cert.InprojFwdRefIdeal.nD Cert.InprojFwdRefIdeal.τ).loc Cert.InprojFwdRefIdeal.main_v19) = v3 c
          ∧ r.2.mem ((c.tc : Thread Cert.InprojFwdRefIdeal.nD Cert.InprojFwdRefIdeal.τ).loc Cert.InprojFwdRefIdeal.main_v20) = v4 c
          ∧ r.2.mem ((c.tc : Thread Cert.InprojFwdRefIdeal.nD Cert.InprojFwdRefIdeal.τ).loc Cert.InprojFwdRefIdeal.main_v21) = v5 c
          ∧ r.2.mem ((c.tc : Thread Cert.InprojFwdRefIdeal.nD Cert.InprojFwdRefIdeal.τ).loc Cert.InprojFwdRefIdeal.main_v22) = v6 c
          ∧ r.2.mem ((c.tc : Thread Cert.InprojFwdRefIdeal.nD Cert.InprojFwdRefIdeal.τ).loc Cert.InprojFwdRefIdeal.main_v23) = v7 c
          ∧ r.2.mem ((c.tc : Thread Cert.InprojFwdRefIdeal.nD Cert.InprojFwdRefIdeal.τ).loc Cert.InprojFwdRefIdeal.main_arg0) = m' ((c.tc : Thread Cert.InprojFwdRefIdeal.nD Cert.InprojFwdRefIdeal.τ).loc Cert.InprojFwdRefIdeal.main_arg0)
          ∧ r.2.mem ((c.tc : Thread Cert.InprojFwdRefIdeal.nD Cert.InprojFwdRefIdeal.τ).loc Cert.InprojFwdRefIdeal.main_arg1) = m' ((c.tc : Thread Cert.InprojFwdRefIdeal.nD Cert.InprojFwdRefIdeal.τ).loc Cert.InprojFwdRefIdeal.main_arg1)
          ∧ r.2.mem ((c.tc : Thread Cert.InprojFwdRefIdeal.nD Cert.InprojFwdRefIdeal.τ).loc Cert.InprojFwdRefIdeal.main_arg2) = m' ((c.tc : Thread Cert.InprojFwdRefIdeal.nD Cert.InprojFwdRefIdeal.τ).loc Cert.InprojFwdRefIdeal.main_arg2))

def preserves_MergeFwd_MergeFwdIdeal : Prop :=
  True

def algebraic_MergeFwdIdeal_MergeFwdRefIdeal [hMergeFwdIdeal : Cert.MergeFwdIdeal.Facts] [hMergeFwdRefIdeal : Cert.MergeFwdRefIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg)
    (m' : (ℓ : Loc Cert.MergeFwdRefIdeal.nD Cert.MergeFwdRefIdeal.τ Cert.MergeFwdRefIdeal.sig) → Buf (Elt Ideal) ℓ) (g' : Dev Cert.MergeFwdRefIdeal.nD → PrngReg), Pre_MergeFwdIdeal m →
    (∀ c : Dev Cert.MergeFwdIdeal.nD,
      m' ((c.tc : Thread Cert.MergeFwdRefIdeal.nD Cert.MergeFwdRefIdeal.τ).loc Cert.MergeFwdRefIdeal.main_arg0) = m ((c.tc : Thread Cert.MergeFwdIdeal.nD Cert.MergeFwdIdeal.τ).loc Cert.MergeFwdIdeal.main_arg0)
      ∧ m' ((c.tc : Thread Cert.MergeFwdRefIdeal.nD Cert.MergeFwdRefIdeal.τ).loc Cert.MergeFwdRefIdeal.main_arg1) = m ((c.tc : Thread Cert.MergeFwdIdeal.nD Cert.MergeFwdIdeal.τ).loc Cert.MergeFwdIdeal.main_arg1)
      ∧ m' ((c.tc : Thread Cert.MergeFwdRefIdeal.nD Cert.MergeFwdRefIdeal.τ).loc Cert.MergeFwdRefIdeal.main_arg2) = m ((c.tc : Thread Cert.MergeFwdIdeal.nD Cert.MergeFwdIdeal.τ).loc Cert.MergeFwdIdeal.main_arg2)
      ∧ m' ((c.tc : Thread Cert.MergeFwdRefIdeal.nD Cert.MergeFwdRefIdeal.τ).loc Cert.MergeFwdRefIdeal.main_arg3) = m ((c.tc : Thread Cert.MergeFwdIdeal.nD Cert.MergeFwdIdeal.τ).loc Cert.MergeFwdIdeal.main_arg3)
      ∧ m' ((c.tc : Thread Cert.MergeFwdRefIdeal.nD Cert.MergeFwdRefIdeal.τ).loc Cert.MergeFwdRefIdeal.main_arg4) = m ((c.tc : Thread Cert.MergeFwdIdeal.nD Cert.MergeFwdIdeal.τ).loc Cert.MergeFwdIdeal.main_arg4)
      ∧ m' ((c.tc : Thread Cert.MergeFwdRefIdeal.nD Cert.MergeFwdRefIdeal.τ).loc Cert.MergeFwdRefIdeal.main_arg5) = m ((c.tc : Thread Cert.MergeFwdIdeal.nD Cert.MergeFwdIdeal.τ).loc Cert.MergeFwdIdeal.main_arg5)
      ∧ m' ((c.tc : Thread Cert.MergeFwdRefIdeal.nD Cert.MergeFwdRefIdeal.τ).loc Cert.MergeFwdRefIdeal.main_arg6) = m ((c.tc : Thread Cert.MergeFwdIdeal.nD Cert.MergeFwdIdeal.τ).loc Cert.MergeFwdIdeal.main_arg6)
      ∧ m' ((c.tc : Thread Cert.MergeFwdRefIdeal.nD Cert.MergeFwdRefIdeal.τ).loc Cert.MergeFwdRefIdeal.main_arg7) = m ((c.tc : Thread Cert.MergeFwdIdeal.nD Cert.MergeFwdIdeal.τ).loc Cert.MergeFwdIdeal.main_arg7)) →
    ∃ (v0 : (c : Dev Cert.MergeFwdIdeal.nD) → Buf (Elt Ideal) ((c.tc : Thread Cert.MergeFwdIdeal.nD Cert.MergeFwdIdeal.τ).loc Cert.MergeFwdIdeal.main_v6_0)) (v1 : (c : Dev Cert.MergeFwdIdeal.nD) → Buf (Elt Ideal) ((c.tc : Thread Cert.MergeFwdIdeal.nD Cert.MergeFwdIdeal.τ).loc Cert.MergeFwdIdeal.main_v6_1)),
      θ_run (Cert.MergeFwdIdeal.defs (F := Ideal)) (onTc (τ := Cert.MergeFwdIdeal.τ) (Cert.MergeFwdIdeal.main (F := Ideal))) ⟨m, fun _ => 0, g⟩ (fun r => ∀ c : Dev Cert.MergeFwdIdeal.nD,
          r.2.mem ((c.tc : Thread Cert.MergeFwdIdeal.nD Cert.MergeFwdIdeal.τ).loc Cert.MergeFwdIdeal.main_v6_0) = v0 c
          ∧ r.2.mem ((c.tc : Thread Cert.MergeFwdIdeal.nD Cert.MergeFwdIdeal.τ).loc Cert.MergeFwdIdeal.main_v6_1) = v1 c
          ∧ r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
          ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
          ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
          ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
          ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4)
          ∧ r.2.mem ((c.tc : Thread Cert.MergeFwdIdeal.nD Cert.MergeFwdIdeal.τ).loc Cert.MergeFwdIdeal.main_arg5) = m ((c.tc : Thread Cert.MergeFwdIdeal.nD Cert.MergeFwdIdeal.τ).loc Cert.MergeFwdIdeal.main_arg5)
          ∧ r.2.mem ((c.tc : Thread Cert.MergeFwdIdeal.nD Cert.MergeFwdIdeal.τ).loc Cert.MergeFwdIdeal.main_arg6) = m ((c.tc : Thread Cert.MergeFwdIdeal.nD Cert.MergeFwdIdeal.τ).loc Cert.MergeFwdIdeal.main_arg6)
          ∧ r.2.mem ((c.tc : Thread Cert.MergeFwdIdeal.nD Cert.MergeFwdIdeal.τ).loc Cert.MergeFwdIdeal.main_arg7) = m ((c.tc : Thread Cert.MergeFwdIdeal.nD Cert.MergeFwdIdeal.τ).loc Cert.MergeFwdIdeal.main_arg7))
      ∧ θ_run (Cert.MergeFwdRefIdeal.defs (F := Ideal)) (onTc (τ := Cert.MergeFwdRefIdeal.τ) (Cert.MergeFwdRefIdeal.main (F := Ideal))) ⟨m', fun _ => 0, g'⟩ (fun r => ∀ c : Dev Cert.MergeFwdRefIdeal.nD,
          r.2.mem ((c.tc : Thread Cert.MergeFwdRefIdeal.nD Cert.MergeFwdRefIdeal.τ).loc Cert.MergeFwdRefIdeal.main_v23) = v0 c
          ∧ r.2.mem ((c.tc : Thread Cert.MergeFwdRefIdeal.nD Cert.MergeFwdRefIdeal.τ).loc Cert.MergeFwdRefIdeal.main_v24) = v1 c
          ∧ r.2.mem ((c.tc : Thread Cert.MergeFwdRefIdeal.nD Cert.MergeFwdRefIdeal.τ).loc Cert.MergeFwdRefIdeal.main_arg0) = m' ((c.tc : Thread Cert.MergeFwdRefIdeal.nD Cert.MergeFwdRefIdeal.τ).loc Cert.MergeFwdRefIdeal.main_arg0)
          ∧ r.2.mem ((c.tc : Thread Cert.MergeFwdRefIdeal.nD Cert.MergeFwdRefIdeal.τ).loc Cert.MergeFwdRefIdeal.main_arg1) = m' ((c.tc : Thread Cert.MergeFwdRefIdeal.nD Cert.MergeFwdRefIdeal.τ).loc Cert.MergeFwdRefIdeal.main_arg1)
          ∧ r.2.mem ((c.tc : Thread Cert.MergeFwdRefIdeal.nD Cert.MergeFwdRefIdeal.τ).loc Cert.MergeFwdRefIdeal.main_arg2) = m' ((c.tc : Thread Cert.MergeFwdRefIdeal.nD Cert.MergeFwdRefIdeal.τ).loc Cert.MergeFwdRefIdeal.main_arg2)
          ∧ r.2.mem ((c.tc : Thread Cert.MergeFwdRefIdeal.nD Cert.MergeFwdRefIdeal.τ).loc Cert.MergeFwdRefIdeal.main_arg3) = m' ((c.tc : Thread Cert.MergeFwdRefIdeal.nD Cert.MergeFwdRefIdeal.τ).loc Cert.MergeFwdRefIdeal.main_arg3)
          ∧ r.2.mem ((c.tc : Thread Cert.MergeFwdRefIdeal.nD Cert.MergeFwdRefIdeal.τ).loc Cert.MergeFwdRefIdeal.main_arg4) = m' ((c.tc : Thread Cert.MergeFwdRefIdeal.nD Cert.MergeFwdRefIdeal.τ).loc Cert.MergeFwdRefIdeal.main_arg4)
          ∧ r.2.mem ((c.tc : Thread Cert.MergeFwdRefIdeal.nD Cert.MergeFwdRefIdeal.τ).loc Cert.MergeFwdRefIdeal.main_arg5) = m' ((c.tc : Thread Cert.MergeFwdRefIdeal.nD Cert.MergeFwdRefIdeal.τ).loc Cert.MergeFwdRefIdeal.main_arg5)
          ∧ r.2.mem ((c.tc : Thread Cert.MergeFwdRefIdeal.nD Cert.MergeFwdRefIdeal.τ).loc Cert.MergeFwdRefIdeal.main_arg6) = m' ((c.tc : Thread Cert.MergeFwdRefIdeal.nD Cert.MergeFwdRefIdeal.τ).loc Cert.MergeFwdRefIdeal.main_arg6)
          ∧ r.2.mem ((c.tc : Thread Cert.MergeFwdRefIdeal.nD Cert.MergeFwdRefIdeal.τ).loc Cert.MergeFwdRefIdeal.main_arg7) = m' ((c.tc : Thread Cert.MergeFwdRefIdeal.nD Cert.MergeFwdRefIdeal.τ).loc Cert.MergeFwdRefIdeal.main_arg7))

def preserves_MlpFwd_MlpFwdIdeal : Prop :=
  True

def algebraic_MlpFwdIdeal_MlpFwdRefIdeal [hMlpFwdIdeal : Cert.MlpFwdIdeal.Facts] [hMlpFwdRefIdeal : Cert.MlpFwdRefIdeal.Facts] : Prop :=
  ∀ (m : (ℓ : Loc Cert.MlpFwdIdeal.nD Cert.MlpFwdIdeal.τ Cert.MlpFwdIdeal.sig) → Buf (Elt Ideal) ℓ) (g : Dev Cert.MlpFwdIdeal.nD → PrngReg)
    (m' : (ℓ : Loc Cert.MlpFwdRefIdeal.nD Cert.MlpFwdRefIdeal.τ Cert.MlpFwdRefIdeal.sig) → Buf (Elt Ideal) ℓ) (g' : Dev Cert.MlpFwdRefIdeal.nD → PrngReg), Pre_MlpFwdIdeal m →
    (∀ c : Dev Cert.MlpFwdIdeal.nD,
      m' ((c.tc : Thread Cert.MlpFwdRefIdeal.nD Cert.MlpFwdRefIdeal.τ).loc Cert.MlpFwdRefIdeal.main_arg0) = m ((c.tc : Thread Cert.MlpFwdIdeal.nD Cert.MlpFwdIdeal.τ).loc Cert.MlpFwdIdeal.main_arg0)
      ∧ m' ((c.tc : Thread Cert.MlpFwdRefIdeal.nD Cert.MlpFwdRefIdeal.τ).loc Cert.MlpFwdRefIdeal.main_arg1) = m ((c.tc : Thread Cert.MlpFwdIdeal.nD Cert.MlpFwdIdeal.τ).loc Cert.MlpFwdIdeal.main_arg1)
      ∧ m' ((c.tc : Thread Cert.MlpFwdRefIdeal.nD Cert.MlpFwdRefIdeal.τ).loc Cert.MlpFwdRefIdeal.main_arg2) = m ((c.tc : Thread Cert.MlpFwdIdeal.nD Cert.MlpFwdIdeal.τ).loc Cert.MlpFwdIdeal.main_arg2)
      ∧ m' ((c.tc : Thread Cert.MlpFwdRefIdeal.nD Cert.MlpFwdRefIdeal.τ).loc Cert.MlpFwdRefIdeal.main_arg3) = m ((c.tc : Thread Cert.MlpFwdIdeal.nD Cert.MlpFwdIdeal.τ).loc Cert.MlpFwdIdeal.main_arg3)) →
    ∃ (v0 : (c : Dev Cert.MlpFwdIdeal.nD) → Buf (Elt Ideal) ((c.tc : Thread Cert.MlpFwdIdeal.nD Cert.MlpFwdIdeal.τ).loc Cert.MlpFwdIdeal.main_v6_0)) (v1 : (c : Dev Cert.MlpFwdIdeal.nD) → Buf (Elt Ideal) ((c.tc : Thread Cert.MlpFwdIdeal.nD Cert.MlpFwdIdeal.τ).loc Cert.MlpFwdIdeal.main_v6_1)) (v2 : (c : Dev Cert.MlpFwdIdeal.nD) → Buf (Elt Ideal) ((c.tc : Thread Cert.MlpFwdIdeal.nD Cert.MlpFwdIdeal.τ).loc Cert.MlpFwdIdeal.main_v6_2)) (v3 : (c : Dev Cert.MlpFwdIdeal.nD) → Buf (Elt Ideal) ((c.tc : Thread Cert.MlpFwdIdeal.nD Cert.MlpFwdIdeal.τ).loc Cert.MlpFwdIdeal.main_v6_3)),
      θ_run (Cert.MlpFwdIdeal.defs (F := Ideal)) (onTc (τ := Cert.MlpFwdIdeal.τ) (Cert.MlpFwdIdeal.main (F := Ideal))) ⟨m, fun _ => 0, g⟩ (fun r => ∀ c : Dev Cert.MlpFwdIdeal.nD,
          r.2.mem ((c.tc : Thread Cert.MlpFwdIdeal.nD Cert.MlpFwdIdeal.τ).loc Cert.MlpFwdIdeal.main_v6_0) = v0 c
          ∧ r.2.mem ((c.tc : Thread Cert.MlpFwdIdeal.nD Cert.MlpFwdIdeal.τ).loc Cert.MlpFwdIdeal.main_v6_1) = v1 c
          ∧ r.2.mem ((c.tc : Thread Cert.MlpFwdIdeal.nD Cert.MlpFwdIdeal.τ).loc Cert.MlpFwdIdeal.main_v6_2) = v2 c
          ∧ r.2.mem ((c.tc : Thread Cert.MlpFwdIdeal.nD Cert.MlpFwdIdeal.τ).loc Cert.MlpFwdIdeal.main_v6_3) = v3 c
          ∧ r.2.mem ((c.tc : Thread Cert.MlpFwdIdeal.nD Cert.MlpFwdIdeal.τ).loc Cert.MlpFwdIdeal.main_arg0) = m ((c.tc : Thread Cert.MlpFwdIdeal.nD Cert.MlpFwdIdeal.τ).loc Cert.MlpFwdIdeal.main_arg0)
          ∧ r.2.mem ((c.tc : Thread Cert.MlpFwdIdeal.nD Cert.MlpFwdIdeal.τ).loc Cert.MlpFwdIdeal.main_arg1) = m ((c.tc : Thread Cert.MlpFwdIdeal.nD Cert.MlpFwdIdeal.τ).loc Cert.MlpFwdIdeal.main_arg1)
          ∧ r.2.mem ((c.tc : Thread Cert.MlpFwdIdeal.nD Cert.MlpFwdIdeal.τ).loc Cert.MlpFwdIdeal.main_arg2) = m ((c.tc : Thread Cert.MlpFwdIdeal.nD Cert.MlpFwdIdeal.τ).loc Cert.MlpFwdIdeal.main_arg2)
          ∧ r.2.mem ((c.tc : Thread Cert.MlpFwdIdeal.nD Cert.MlpFwdIdeal.τ).loc Cert.MlpFwdIdeal.main_arg3) = m ((c.tc : Thread Cert.MlpFwdIdeal.nD Cert.MlpFwdIdeal.τ).loc Cert.MlpFwdIdeal.main_arg3))
      ∧ θ_run (Cert.MlpFwdRefIdeal.defs (F := Ideal)) (onTc (τ := Cert.MlpFwdRefIdeal.τ) (Cert.MlpFwdRefIdeal.main (F := Ideal))) ⟨m', fun _ => 0, g'⟩ (fun r => ∀ c : Dev Cert.MlpFwdRefIdeal.nD,
          r.2.mem ((c.tc : Thread Cert.MlpFwdRefIdeal.nD Cert.MlpFwdRefIdeal.τ).loc Cert.MlpFwdRefIdeal.main_v20) = v0 c
          ∧ r.2.mem ((c.tc : Thread Cert.MlpFwdRefIdeal.nD Cert.MlpFwdRefIdeal.τ).loc Cert.MlpFwdRefIdeal.main_v21) = v1 c
          ∧ r.2.mem ((c.tc : Thread Cert.MlpFwdRefIdeal.nD Cert.MlpFwdRefIdeal.τ).loc Cert.MlpFwdRefIdeal.main_v15) = v2 c
          ∧ r.2.mem ((c.tc : Thread Cert.MlpFwdRefIdeal.nD Cert.MlpFwdRefIdeal.τ).loc Cert.MlpFwdRefIdeal.main_v22) = v3 c
          ∧ r.2.mem ((c.tc : Thread Cert.MlpFwdRefIdeal.nD Cert.MlpFwdRefIdeal.τ).loc Cert.MlpFwdRefIdeal.main_arg0) = m' ((c.tc : Thread Cert.MlpFwdRefIdeal.nD Cert.MlpFwdRefIdeal.τ).loc Cert.MlpFwdRefIdeal.main_arg0)
          ∧ r.2.mem ((c.tc : Thread Cert.MlpFwdRefIdeal.nD Cert.MlpFwdRefIdeal.τ).loc Cert.MlpFwdRefIdeal.main_arg1) = m' ((c.tc : Thread Cert.MlpFwdRefIdeal.nD Cert.MlpFwdRefIdeal.τ).loc Cert.MlpFwdRefIdeal.main_arg1)
          ∧ r.2.mem ((c.tc : Thread Cert.MlpFwdRefIdeal.nD Cert.MlpFwdRefIdeal.τ).loc Cert.MlpFwdRefIdeal.main_arg2) = m' ((c.tc : Thread Cert.MlpFwdRefIdeal.nD Cert.MlpFwdRefIdeal.τ).loc Cert.MlpFwdRefIdeal.main_arg2)
          ∧ r.2.mem ((c.tc : Thread Cert.MlpFwdRefIdeal.nD Cert.MlpFwdRefIdeal.τ).loc Cert.MlpFwdRefIdeal.main_arg3) = m' ((c.tc : Thread Cert.MlpFwdRefIdeal.nD Cert.MlpFwdRefIdeal.τ).loc Cert.MlpFwdRefIdeal.main_arg3))

def Claim : Prop :=
  ∃ (hMergeBwd : Cert.MergeBwd.Facts) (hMergeBwdIdeal : Cert.MergeBwdIdeal.Facts) (hMergeRefIdeal : Cert.MergeRefIdeal.Facts) (hPleLoss : Cert.PleLoss.Facts) (hPleLossIdeal : Cert.PleLossIdeal.Facts) (hPleRefIdeal : Cert.PleRefIdeal.Facts) (hMlpBwd : Cert.MlpBwd.Facts) (hMlpBwdIdeal : Cert.MlpBwdIdeal.Facts) (hMlpRefIdeal : Cert.MlpRefIdeal.Facts) (hInprojBwd : Cert.InprojBwd.Facts) (hInprojBwdIdeal : Cert.InprojBwdIdeal.Facts) (hInprojRefIdeal : Cert.InprojRefIdeal.Facts) (hKvBwd : Cert.KvBwd.Facts) (hKvBwdIdeal : Cert.KvBwdIdeal.Facts) (hKvRefIdeal : Cert.KvRefIdeal.Facts) (hAttnBwd : Cert.AttnBwd.Facts) (hAttnBwdIdeal : Cert.AttnBwdIdeal.Facts) (hAttnRefIdeal : Cert.AttnRefIdeal.Facts) (hInprojFwd : Cert.InprojFwd.Facts) (hInprojFwdIdeal : Cert.InprojFwdIdeal.Facts) (hInprojFwdRefIdeal : Cert.InprojFwdRefIdeal.Facts) (hMergeFwd : Cert.MergeFwd.Facts) (hMergeFwdIdeal : Cert.MergeFwdIdeal.Facts) (hMergeFwdRefIdeal : Cert.MergeFwdRefIdeal.Facts) (hMlpFwd : Cert.MlpFwd.Facts) (hMlpFwdIdeal : Cert.MlpFwdIdeal.Facts) (hMlpFwdRefIdeal : Cert.MlpFwdRefIdeal.Facts) (hPre_kv_finite : Cert.Pre_kv_finite.Facts) (hPre_attn_finite : Cert.Pre_attn_finite.Facts),
    quiescent_MergeBwd (hMergeBwd := hMergeBwd)
    ∧ quiescent_MergeBwdIdeal (hMergeBwdIdeal := hMergeBwdIdeal)
    ∧ quiescent_MergeRefIdeal (hMergeRefIdeal := hMergeRefIdeal)
    ∧ quiescent_PleLoss (hPleLoss := hPleLoss)
    ∧ quiescent_PleLossIdeal (hPleLossIdeal := hPleLossIdeal)
    ∧ quiescent_PleRefIdeal (hPleRefIdeal := hPleRefIdeal)
    ∧ quiescent_MlpBwd (hMlpBwd := hMlpBwd)
    ∧ quiescent_MlpBwdIdeal (hMlpBwdIdeal := hMlpBwdIdeal)
    ∧ quiescent_MlpRefIdeal (hMlpRefIdeal := hMlpRefIdeal)
    ∧ quiescent_InprojBwd (hInprojBwd := hInprojBwd)
    ∧ quiescent_InprojBwdIdeal (hInprojBwdIdeal := hInprojBwdIdeal)
    ∧ quiescent_InprojRefIdeal (hInprojRefIdeal := hInprojRefIdeal)
    ∧ quiescent_KvBwd (hKvBwd := hKvBwd)
    ∧ quiescent_KvBwdIdeal (hKvBwdIdeal := hKvBwdIdeal)
    ∧ quiescent_KvBwdIdeal_pre_kv_finite (hKvBwdIdeal := hKvBwdIdeal) (hPre_kv_finite := hPre_kv_finite)
    ∧ quiescent_KvRefIdeal (hKvRefIdeal := hKvRefIdeal)
    ∧ quiescent_KvRefIdeal_pre_kv_finite (hKvRefIdeal := hKvRefIdeal) (hPre_kv_finite := hPre_kv_finite)
    ∧ quiescent_AttnBwd (hAttnBwd := hAttnBwd)
    ∧ quiescent_AttnBwdIdeal (hAttnBwdIdeal := hAttnBwdIdeal)
    ∧ quiescent_AttnBwdIdeal_pre_attn_finite (hAttnBwdIdeal := hAttnBwdIdeal) (hPre_attn_finite := hPre_attn_finite)
    ∧ quiescent_AttnRefIdeal (hAttnRefIdeal := hAttnRefIdeal)
    ∧ quiescent_AttnRefIdeal_pre_attn_finite (hAttnRefIdeal := hAttnRefIdeal) (hPre_attn_finite := hPre_attn_finite)
    ∧ quiescent_InprojFwd (hInprojFwd := hInprojFwd)
    ∧ quiescent_InprojFwdIdeal (hInprojFwdIdeal := hInprojFwdIdeal)
    ∧ quiescent_InprojFwdRefIdeal (hInprojFwdRefIdeal := hInprojFwdRefIdeal)
    ∧ quiescent_MergeFwd (hMergeFwd := hMergeFwd)
    ∧ quiescent_MergeFwdIdeal (hMergeFwdIdeal := hMergeFwdIdeal)
    ∧ quiescent_MergeFwdRefIdeal (hMergeFwdRefIdeal := hMergeFwdRefIdeal)
    ∧ quiescent_MlpFwd (hMlpFwd := hMlpFwd)
    ∧ quiescent_MlpFwdIdeal (hMlpFwdIdeal := hMlpFwdIdeal)
    ∧ quiescent_MlpFwdRefIdeal (hMlpFwdRefIdeal := hMlpFwdRefIdeal)
    ∧ preserves_MergeBwd_MergeBwdIdeal
    ∧ algebraic_MergeBwdIdeal_MergeRefIdeal (hMergeBwdIdeal := hMergeBwdIdeal) (hMergeRefIdeal := hMergeRefIdeal)
    ∧ preserves_PleLoss_PleLossIdeal
    ∧ algebraic_PleLossIdeal_PleRefIdeal (hPleLossIdeal := hPleLossIdeal) (hPleRefIdeal := hPleRefIdeal)
    ∧ preserves_MlpBwd_MlpBwdIdeal
    ∧ algebraic_MlpBwdIdeal_MlpRefIdeal (hMlpBwdIdeal := hMlpBwdIdeal) (hMlpRefIdeal := hMlpRefIdeal)
    ∧ preserves_InprojBwd_InprojBwdIdeal
    ∧ algebraic_InprojBwdIdeal_InprojRefIdeal (hInprojBwdIdeal := hInprojBwdIdeal) (hInprojRefIdeal := hInprojRefIdeal)
    ∧ preserves_KvBwd_KvBwdIdeal
    ∧ algebraic_KvBwdIdeal_KvRefIdeal_pre_kv_finite (hKvBwdIdeal := hKvBwdIdeal) (hKvRefIdeal := hKvRefIdeal) (hPre_kv_finite := hPre_kv_finite)
    ∧ preserves_AttnBwd_AttnBwdIdeal
    ∧ algebraic_AttnBwdIdeal_AttnRefIdeal_pre_attn_finite (hAttnBwdIdeal := hAttnBwdIdeal) (hAttnRefIdeal := hAttnRefIdeal) (hPre_attn_finite := hPre_attn_finite)
    ∧ preserves_InprojFwd_InprojFwdIdeal
    ∧ algebraic_InprojFwdIdeal_InprojFwdRefIdeal (hInprojFwdIdeal := hInprojFwdIdeal) (hInprojFwdRefIdeal := hInprojFwdRefIdeal)
    ∧ preserves_MergeFwd_MergeFwdIdeal
    ∧ algebraic_MergeFwdIdeal_MergeFwdRefIdeal (hMergeFwdIdeal := hMergeFwdIdeal) (hMergeFwdRefIdeal := hMergeFwdRefIdeal)
    ∧ preserves_MlpFwd_MlpFwdIdeal
    ∧ algebraic_MlpFwdIdeal_MlpFwdRefIdeal (hMlpFwdIdeal := hMlpFwdIdeal) (hMlpFwdRefIdeal := hMlpFwdRefIdeal)
-- ==== Pre_attn_finite.lean ====
abbrev S4096x1024 : Shape := ⟨2, ![4096, 1024]⟩
abbrev S4096x256 : Shape := ⟨2, ![4096, 256]⟩
abbrev S1x64 : Shape := ⟨2, ![1, 64]⟩
abbrev S1x16 : Shape := ⟨2, ![1, 16]⟩
abbrev S_ : Shape := ⟨0, ![]⟩

class Facts : Prop where
  bcast_S_S4096x1024 : S_.BroadcastsInDim S4096x1024 (![] : Fin 0 → Fin S4096x1024.rank)
  bcast_S_S4096x256 : S_.BroadcastsInDim S4096x256 (![] : Fin 0 → Fin S4096x256.rank)
  bcast_S_S1x64 : S_.BroadcastsInDim S1x64 (![] : Fin 0 → Fin S1x64.rank)
  bcast_S_S1x16 : S_.BroadcastsInDim S1x16 (![] : Fin 0 → Fin S1x16.rank)

variable [Facts]

def fn_part1 {F : FTy → Type} [FloatOps F] (main_arg6 : FVec F S1x16 .f32) (main_v2 : IVec S4096x1024 1) (main_v5 : IVec S4096x1024 1) (main_v8 : IVec S4096x256 1) (main_v11 : IVec S4096x256 1) (main_v14 : IVec S1x64 1) (main_v17 : IVec S1x64 1) : IVec S4096x1024 1 × IVec S4096x1024 1 × IVec S4096x256 1 × IVec S4096x256 1 × IVec S1x64 1 × IVec S1x64 1 × IVec S1x16 1 :=
  let main_v18 : FVec F S1x16 .f32 := Host.absf main_arg6
  let main_cst_5 : FVec F S_ .f32 := constant S_ .f32 0x7F800000#32
  let main_v19 : FVec F S1x16 .f32 := broadcastInDim S1x16 ![] bcast_S_S1x16 main_cst_5
  let main_v20 : IVec S1x16 1 := cmpf .olt main_v18 main_v19
  (main_v2, main_v5, main_v8, main_v11, main_v14, main_v17, main_v20)

def fn {F : FTy → Type} [FloatOps F] (main_arg0 : FVec F S4096x1024 .f32) (main_arg1 : FVec F S4096x1024 .f32) (main_arg2 : FVec F S4096x256 .f32) (main_arg3 : FVec F S4096x256 .f32) (main_arg4 : FVec F S1x64 .f32) (main_arg5 : FVec F S1x64 .f32) (main_arg6 : FVec F S1x16 .f32) : IVec S4096x1024 1 × IVec S4096x1024 1 × IVec S4096x256 1 × IVec S4096x256 1 × IVec S1x64 1 × IVec S1x64 1 × IVec S1x16 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S4096x256 .f32 := Host.absf main_arg2
  let main_cst_1 : FVec F S_ .f32 := constant S_ .f32 0x7F800000#32
  let main_v7 : FVec F S4096x256 .f32 := broadcastInDim S4096x256 ![] bcast_S_S4096x256 main_cst_1
  let main_v8 : IVec S4096x256 1 := cmpf .olt main_v6 main_v7
  let main_v9 : FVec F S4096x256 .f32 := Host.absf main_arg3
  let main_cst_2 : FVec F S_ .f32 := constant S_ .f32 0x7F800000#32
  let main_v10 : FVec F S4096x256 .f32 := broadcastInDim S4096x256 ![] bcast_S_S4096x256 main_cst_2
  let main_v11 : IVec S4096x256 1 := cmpf .olt main_v9 main_v10
  let main_v12 : FVec F S1x64 .f32 := Host.absf main_arg4
  let main_cst_3 : FVec F S_ .f32 := constant S_ .f32 0x7F800000#32
  let main_v13 : FVec F S1x64 .f32 := broadcastInDim S1x64 ![] bcast_S_S1x64 main_cst_3
  let main_v14 : IVec S1x64 1 := cmpf .olt main_v12 main_v13
  let main_v15 : FVec F S1x64 .f32 := Host.absf main_arg5
  let main_cst_4 : FVec F S_ .f32 := constant S_ .f32 0x7F800000#32
  let main_v16 : FVec F S1x64 .f32 := broadcastInDim S1x64 ![] bcast_S_S1x64 main_cst_4
  let main_v17 : IVec S1x64 1 := cmpf .olt main_v15 main_v16
  fn_part1 (F := F) main_arg6 main_v2 main_v5 main_v8 main_v11 main_v14 main_v17
-- ==== Pre_kv_finite.lean ====
abbrev S4096x256 : Shape := ⟨2, ![4096, 256]⟩
abbrev S1x64 : Shape := ⟨2, ![1, 64]⟩
abbrev S_ : Shape := ⟨0, ![]⟩

class Facts : Prop where
  bcast_S_S4096x256 : S_.BroadcastsInDim S4096x256 (![] : Fin 0 → Fin S4096x256.rank)
  bcast_S_S1x64 : S_.BroadcastsInDim S1x64 (![] : Fin 0 → Fin S1x64.rank)

variable [Facts]

def fn {F : FTy → Type} [FloatOps F] (main_arg0 : FVec F S4096x256 .f32) (main_arg1 : FVec F S4096x256 .f32) (main_arg2 : FVec F S4096x256 .f32) (main_arg3 : FVec F S4096x256 .f32) (main_arg4 : FVec F S4096x256 .f32) (main_arg5 : FVec F S1x64 .f32) : IVec S4096x256 1 × IVec S4096x256 1 × IVec S4096x256 1 × IVec S1x64 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_v3 : FVec F S4096x256 .f32 := Host.absf main_arg1
  let main_cst_0 : FVec F S_ .f32 := constant S_ .f32 0x7F800000#32
  let main_v4 : FVec F S4096x256 .f32 := broadcastInDim S4096x256 ![] bcast_S_S4096x256 main_cst_0
  let main_v5 : IVec S4096x256 1 := cmpf .olt main_v3 main_v4
  let main_v6 : FVec F S4096x256 .f32 := Host.absf main_arg4
  let main_cst_1 : FVec F S_ .f32 := constant S_ .f32 0x7F800000#32
  let main_v7 : FVec F S4096x256 .f32 := broadcastInDim S4096x256 ![] bcast_S_S4096x256 main_cst_1
  let main_v8 : IVec S4096x256 1 := cmpf .olt main_v6 main_v7
  let main_v9 : FVec F S1x64 .f32 := Host.absf main_arg5
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  (main_v2, main_v5, main_v8, main_v11)
-- ==== MergeBwd.lean ====
abbrev S4096x1024 : Shape := ⟨2, ![4096, 1024]⟩
abbrev S1x1024x1024 : Shape := ⟨3, ![1, 1024, 1024]⟩
abbrev S1024x1024 : Shape := ⟨2, ![1024, 1024]⟩
abbrev S512x1024 : Shape := ⟨2, ![512, 1024]⟩

abbrev nBuf : Space → Nat
  | .hbm => 20
  | .vmem => 25
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .bf16⟩
  | .hbm, ⟨4, _⟩ => ⟨S4096x1024, .bf16⟩
  | .hbm, ⟨5, _⟩ => ⟨S1x1024x1024, .f32⟩
  | .hbm, ⟨6, _⟩ => ⟨S1x1024x1024, .f32⟩
  | .hbm, ⟨7, _⟩ => ⟨S1x1024x1024, .f32⟩
  | .hbm, ⟨8, _⟩ => ⟨S1024x1024, .f32⟩
  | .hbm, ⟨9, _⟩ => ⟨S1024x1024, .bf16⟩
  | .hbm, ⟨10, _⟩ => ⟨S1024x1024, .f32⟩
  | .hbm, ⟨11, _⟩ => ⟨S1024x1024, .bf16⟩
  | .hbm, ⟨12, _⟩ => ⟨S1024x1024, .f32⟩
  | .hbm, ⟨13, _⟩ => ⟨S1024x1024, .bf16⟩
  | .hbm, ⟨14, _⟩ => ⟨S4096x1024, .bf16⟩
  | .hbm, ⟨15, _⟩ => ⟨S4096x1024, .bf16⟩
  | .hbm, ⟨16, _⟩ => ⟨S4096x1024, .bf16⟩
  | .hbm, ⟨17, _⟩ => ⟨S4096x1024, .bf16⟩
  | .hbm, ⟨18, _⟩ => ⟨S4096x1024, .f32⟩
  | .hbm, ⟨19, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .f32⟩
  | .local _ .vmem, ⟨22, _⟩ => ⟨S512x1024, .f32⟩
  | .local _ .vmem, ⟨23, _⟩ => ⟨S512x1024, .f32⟩
  | .local _ .vmem, ⟨24, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev main_v6_4 : Ref sig .tc := ⟨.hbm, 18, rfl⟩
abbrev main_v6_5 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== MergeRefIdeal.lean ====
abbrev S4096x1024 : Shape := ⟨2, ![4096, 1024]⟩
abbrev S1x1024x1024 : Shape := ⟨3, ![1, 1024, 1024]⟩
abbrev S1024x1024 : Shape := ⟨2, ![1024, 1024]⟩
abbrev S_ : Shape := ⟨0, ![]⟩

abbrev nBuf : Space → Nat
  | .hbm => 56
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .bf16⟩
  | .hbm, ⟨4, _⟩ => ⟨S4096x1024, .bf16⟩
  | .hbm, ⟨5, _⟩ => ⟨S1x1024x1024, .f32⟩
  | .hbm, ⟨6, _⟩ => ⟨S1x1024x1024, .f32⟩
  | .hbm, ⟨7, _⟩ => ⟨S1x1024x1024, .f32⟩
  | .hbm, ⟨8, _⟩ => ⟨S4096x1024, .f32⟩
  | .hbm, ⟨9, _⟩ => ⟨S4096x1024, .f32⟩
  | .hbm, ⟨10, _⟩ => ⟨S1024x1024, .f32⟩
  | .hbm, ⟨11, _⟩ => ⟨S4096x1024, .f32⟩
  | .hbm, ⟨12, _⟩ => ⟨S1024x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S1024x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .bf16⟩
  | .hbm, ⟨53, _⟩ => ⟨S4096x1024, .bf16⟩
  | .hbm, ⟨54, _⟩ => ⟨S4096x1024, .bf16⟩
  | .hbm, ⟨55, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== PleLoss.lean ====
abbrev S4096x1024 : Shape := ⟨2, ![4096, 1024]⟩
abbrev S4096x256 : Shape := ⟨2, ![4096, 256]⟩
abbrev S1x1024 : Shape := ⟨2, ![1, 1024]⟩
abbrev S1x1024x1024 : Shape := ⟨3, ![1, 1024, 1024]⟩
abbrev S1x256x1024 : Shape := ⟨3, ![1, 256, 1024]⟩
abbrev S1024x1024 : Shape := ⟨2, ![1024, 1024]⟩
abbrev S256x1024 : Shape := ⟨2, ![256, 1024]⟩
abbrev S256x4x256 : Shape := ⟨3, ![256, 4, 256]⟩
abbrev S4x256x256 : Shape := ⟨3, ![4, 256, 256]⟩
abbrev S8x128 : Shape := ⟨2, ![8, 128]⟩
abbrev S512x1024 : Shape := ⟨2, ![512, 1024]⟩
abbrev S512x256 : Shape := ⟨2, ![512, 256]⟩
abbrev S1x256x256 : Shape := ⟨3, ![1, 256, 256]⟩
abbrev S256x256 : Shape := ⟨2, ![256, 256]⟩
abbrev S512 : Shape := ⟨1, ![512]⟩
abbrev S512x1 : Shape := ⟨2, ![512, 1]⟩
abbrev S1x512x1024 : Shape := ⟨3, ![1, 512, 1024]⟩
abbrev S1 : Shape := ⟨1, ![1]⟩
abbrev S1x1x1 : Shape := ⟨3, ![1, 1, 1]⟩
abbrev S1024 : Shape := ⟨1, ![1024]⟩
abbrev S1x1 : Shape := ⟨2, ![1, 1]⟩
abbrev S_ : Shape := ⟨0, ![]⟩

abbrev nBuf : Space → Nat
  | .hbm => 21
  | .vmem => 21
  | .smem => 0
  | _ => 0

abbrev bufTy : (tb : Table) → Fin (tcTables nBuf tb) → BufTy
  | .hbm, ⟨0, _⟩ => ⟨S4096x1024, .f32⟩
  | .hbm, ⟨1, _⟩ => ⟨S4096x256, .f32⟩
  | .hbm, ⟨2, _⟩ => ⟨S4096x1024, .f32⟩
  | .hbm, ⟨3, _⟩ => ⟨S1x1024, .f32⟩
  | .hbm, ⟨4, _⟩ => ⟨S1x1024x1024, .f32⟩
  | .hbm, ⟨5, _⟩ => ⟨S1x256x1024, .f32⟩
  | .hbm, ⟨6, _⟩ => ⟨S1024x1024, .f32⟩
  | .hbm, ⟨7, _⟩ => ⟨S1024x1024, .bf16⟩
  | .hbm, ⟨8, _⟩ => ⟨S256x1024, .f32⟩
  | .hbm, ⟨9, _⟩ => ⟨S256x1024, .bf16⟩
  | .hbm, ⟨10, _⟩ => ⟨S256x4x256, .bf16⟩
  | .hbm, ⟨11, _⟩ => ⟨S4x256x256, .bf16⟩
  | .hbm, ⟨12, _⟩ => ⟨S8x128, .f32⟩
  | .hbm, ⟨13, _⟩ => ⟨S4096x1024, .f32⟩
  | .hbm, ⟨14, _⟩ => ⟨S4096x256, .bf16⟩
  | .hbm, ⟨15, _⟩ => ⟨S4096x1024, .bf16⟩
  | .hbm, ⟨16, _⟩ => ⟨S4096x1024, .bf16⟩
  | .hbm, ⟨17, _⟩ => ⟨S4096x1024, .bf16⟩
  | .hbm, ⟨18, _⟩ => ⟨S1x1024, .f32⟩
  | .hbm, ⟨19, _⟩ => ⟨S1x1, .f32⟩
  | .hbm, ⟨20, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1024x1024, .bf16⟩
  | .local _ .vmem, ⟨8, _⟩ => ⟨S4x256x256, .bf16⟩
  | .local _ .vmem, ⟨9, _⟩ => ⟨S8x128, .f32⟩
  | .local _ .vmem, ⟨10, _⟩ => ⟨S512x1024, .f32⟩
  | .local _ .vmem, ⟨11, _⟩ => ⟨S512x1024, .f32⟩
  | .local _ .vmem, ⟨12, _⟩ => ⟨S512x256, .bf16⟩
  | .local _ .vmem, ⟨13, _⟩ => ⟨S512x256, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v6_3 : Ref sig .tc := ⟨.hbm, 15, rfl⟩
abbrev main_v6_4 : Ref sig .tc := ⟨.hbm, 16, rfl⟩
abbrev main_v6_5 : Ref sig .tc := ⟨.hbm, 17, rfl⟩
abbrev main_v6_6 : Ref sig .tc := ⟨.hbm, 18, rfl⟩
abbrev main_v7 : Ref sig .tc := ⟨.hbm, 19, rfl⟩
abbrev main_v8 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== PleRefIdeal.lean ====
abbrev S4096x1024 : Shape := ⟨2, ![4096, 1024]⟩
abbrev S4096x256 : Shape := ⟨2, ![4096, 256]⟩
abbrev S1x1024 : Shape := ⟨2, ![1, 1024]⟩
abbrev S1x1024x1024 : Shape := ⟨3, ![1, 1024, 1024]⟩
abbrev S1x256x1024 : Shape := ⟨3, ![1, 256, 1024]⟩
abbrev S256x1024 : Shape := ⟨2, ![256, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x1024 : Shape := ⟨2, ![1024, 1024]⟩

abbrev nBuf : Space → Nat
  | .hbm => 103
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x256, .f32⟩
  | .hbm, ⟨2, _⟩ => ⟨S4096x1024, .f32⟩
  | .hbm, ⟨3, _⟩ => ⟨S1x1024, .f32⟩
  | .hbm, ⟨4, _⟩ => ⟨S1x1024x1024, .f32⟩
  | .hbm, ⟨5, _⟩ => ⟨S1x256x1024, .f32⟩
  | .hbm, ⟨6, _⟩ => ⟨S256x1024, .f32⟩
  | .hbm, ⟨7, _⟩ => ⟨S4096x1024, .f32⟩
  | .hbm, ⟨8, _⟩ => ⟨S1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S1024x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S4096, .f32⟩
  | .hbm, ⟨52, _⟩ => ⟨S_, .f32⟩
  | .hbm, ⟨53, _⟩ => ⟨S4096, .f32⟩
  | .hbm, ⟨54, _⟩ => ⟨S4096, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S4096, .f32⟩
  | .hbm, ⟨63, _⟩ => ⟨S_, .f32⟩
  | .hbm, ⟨64, _⟩ => ⟨S4096, .f32⟩
  | .hbm, ⟨65, _⟩ => ⟨S4096, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S_, .f32⟩
  | .hbm, ⟨74, _⟩ => ⟨S1024, .f32⟩
  | .hbm, ⟨75, _⟩ => ⟨S1x1024, .f32⟩
  | .hbm, ⟨76, _⟩ => ⟨S4096x1024, .f32⟩
  | .hbm, ⟨77, _⟩ => ⟨S4096x1024, .f32⟩
  | .hbm, ⟨78, _⟩ => ⟨S_, .f32⟩
  | .hbm, ⟨79, _⟩ => ⟨S1024, .f32⟩
  | .hbm, ⟨80, _⟩ => ⟨S4096x1024, .f32⟩
  | .hbm, ⟨81, _⟩ => ⟨S_, .f32⟩
  | .hbm, ⟨82, _⟩ => ⟨S4096, .f32⟩
  | .hbm, ⟨83, _⟩ => ⟨S4096x1, .f32⟩
  | .hbm, ⟨84, _⟩ => ⟨S4096x1024, .f32⟩
  | .hbm, ⟨85, _⟩ => ⟨S4096x1024, .f32⟩
  | .hbm, ⟨86, _⟩ => ⟨S4096x1, .f32⟩
  | .hbm, ⟨87, _⟩ => ⟨S_, .f32⟩
  | .hbm, ⟨88, _⟩ => ⟨S4096x1, .f32⟩
  | .hbm, ⟨89, _⟩ => ⟨S4096x1, .f32⟩
  | .hbm, ⟨90, _⟩ => ⟨S_, .f32⟩
  | .hbm, ⟨91, _⟩ => ⟨S4096, .f32⟩
  | .hbm, ⟨92, _⟩ => ⟨S4096x1024, .f32⟩
  | .hbm, ⟨93, _⟩ => ⟨S4096x1024, .f32⟩
  | .hbm, ⟨94, _⟩ => ⟨S4096x1024, .f32⟩
  | .hbm, ⟨95, _⟩ => ⟨S4096x1024, .f32⟩
  | .hbm, ⟨96, _⟩ => ⟨S4096x1024, .f32⟩
  | .hbm, ⟨97, _⟩ => ⟨S4096x1024, .f32⟩
  | .hbm, ⟨98, _⟩ => ⟨S4096x256, .bf16⟩
  | .hbm, ⟨99, _⟩ => ⟨S4096x1024, .bf16⟩
  | .hbm, ⟨100, _⟩ => ⟨S4096x1024, .bf16⟩
  | .hbm, ⟨101, _⟩ => ⟨S4096x1024, .bf16⟩
  | .hbm, ⟨102, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_cst_8 : Ref sig .tc := ⟨.hbm, 52, rfl⟩
abbrev main_v37 : Ref sig .tc := ⟨.hbm, 53, rfl⟩
abbrev main_v38 : Ref sig .tc := ⟨.hbm, 54, rfl⟩
abbrev main_cst_9 : Ref sig .tc := ⟨.hbm, 55, rfl⟩
abbrev main_v39 : Ref sig .tc := ⟨.hbm, 56, rfl⟩
abbrev main_cst_10 : Ref sig .tc := ⟨.hbm, 57, rfl⟩
abbrev main_v40 : Ref sig .tc := ⟨.hbm, 58, rfl⟩
abbrev main_cst_11 : Ref sig .tc := ⟨.hbm, 59, rfl⟩
abbrev main_cst_12 : Ref sig .tc := ⟨.hbm, 60, rfl⟩
abbrev main_v41 : Ref sig .tc := ⟨.hbm, 61, rfl⟩
abbrev main_v42 : Ref sig .tc := ⟨.hbm, 62, rfl⟩
abbrev main_cst_13 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_14 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_15 : Ref sig .tc := ⟨.hbm, 78, rfl⟩
abbrev main_v56 : Ref sig .tc := ⟨.hbm, 79, rfl⟩
abbrev main_v57 : Ref sig .tc := ⟨.hbm, 80, rfl⟩
abbrev main_cst_16 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_17 : Ref sig .tc := ⟨.hbm, 87, rfl⟩
abbrev main_v63 : Ref sig .tc := ⟨.hbm, 88, rfl⟩
abbrev main_v64 : Ref sig .tc := ⟨.hbm, 89, rfl⟩
abbrev main_cst_18 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩

abbrev nD : Nat := 1
abbrev τ : Topo := Topo.v7x

variable {F : FTy → Type} [FloatOps F]
-- ==== MlpBwd.lean ====
abbrev S4096x1024 : Shape := ⟨2, ![4096, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S4096x4096 : Shape := ⟨2, ![4096, 4096]⟩
abbrev S256x1024 : Shape := ⟨2, ![256, 1024]⟩
abbrev S256x4096 : Shape := ⟨2, ![256, 4096]⟩
abbrev S256 : Shape := ⟨1, ![256]⟩
abbrev S256x1 : Shape := ⟨2, ![256, 1]⟩
abbrev S1x1024x1024 : Shape := ⟨3, ![1, 1024, 1024]⟩
abbrev S1024x1024 : Shape := ⟨2, ![1024, 1024]⟩
abbrev S1024 : Shape := ⟨1, ![1024]⟩

abbrev nBuf : Space → Nat
  | .hbm => 18
  | .vmem => 27
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024x4096, .f32⟩
  | .hbm, ⟨4, _⟩ => ⟨S1x4096x1024, .f32⟩
  | .hbm, ⟨5, _⟩ => ⟨S1024x4096, .f32⟩
  | .hbm, ⟨6, _⟩ => ⟨S1024x4096, .bf16⟩
  | .hbm, ⟨7, _⟩ => ⟨S1024x4x1024, .bf16⟩
  | .hbm, ⟨8, _⟩ => ⟨S4x1024x1024, .bf16⟩
  | .hbm, ⟨9, _⟩ => ⟨S4096x1024, .f32⟩
  | .hbm, ⟨10, _⟩ => ⟨S4096x1024, .bf16⟩
  | .hbm, ⟨11, _⟩ => ⟨S4096x1024, .f32⟩
  | .hbm, ⟨12, _⟩ => ⟨S4096x1024, .bf16⟩
  | .hbm, ⟨13, _⟩ => ⟨S4096x4096, .f32⟩
  | .hbm, ⟨14, _⟩ => ⟨S4096x4096, .bf16⟩
  | .hbm, ⟨15, _⟩ => ⟨S4096x1024, .f32⟩
  | .hbm, ⟨16, _⟩ => ⟨S4096x4096, .bf16⟩
  | .hbm, ⟨17, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S4x1024x1024, .bf16⟩
  | .local _ .vmem, ⟨4, _⟩ => ⟨S4096x1024, .bf16⟩
  | .local _ .vmem, ⟨5, _⟩ => ⟨S256x1024, .f32⟩
  | .local _ .vmem, ⟨6, _⟩ => ⟨S256x1024, .f32⟩
  | .local _ .vmem, ⟨7, _⟩ => ⟨S256x1024, .bf16⟩
  | .local _ .vmem, ⟨8, _⟩ => ⟨S256x1024, .bf16⟩
  | .local _ .vmem, ⟨9, _⟩ => ⟨S256x4096, .f32⟩
  | .local _ .vmem, ⟨10, _⟩ => ⟨S256x4096, .f32⟩
  | .local _ .vmem, ⟨11, _⟩ => ⟨S256x4096, .bf16⟩
  | .local _ .vmem, ⟨12, _⟩ => ⟨S256x4096, .bf16⟩
  | .local _ .vmem, ⟨13, _⟩ => ⟨S256x1024, .f32⟩
  | .local _ .vmem, ⟨14, _⟩ => ⟨S256x1024, .f32⟩
  | .local _ .vmem, ⟨15, _⟩ => ⟨S256x4096, .f32⟩
  | .local _ .vmem, ⟨16, _⟩ => ⟨S256x4096, .f32⟩
  | .local _ .vmem, ⟨17, _⟩ => ⟨S256x1024, .f32⟩
  | .local _ .vmem, ⟨18, _⟩ => ⟨S256x1024, .f32⟩
  | .local _ .vmem, ⟨19, _⟩ => ⟨S1x1024, .f32⟩
  | .local _ .vmem, ⟨20, _⟩ => ⟨S4x1024x1024, .bf16⟩
  | .local _ .vmem, ⟨21, _⟩ => ⟨S4096x1024, .bf16⟩
  | .local _ .vmem, ⟨22, _⟩ => ⟨S256x1024, .f32⟩
  | .local _ .vmem, ⟨23, _⟩ => ⟨S256x1024, .f32⟩
  | .local _ .vmem, ⟨24, _⟩ => ⟨S256x4096, .bf16⟩
  | .local _ .vmem, ⟨25, _⟩ => ⟨S256x4096, .bf16⟩
  | .local _ .vmem, ⟨26, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v6_3 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem6_1 : DmaSem sig := 23
abbrev cc1_sem7_0 : DmaSem sig := 24
abbrev cc1_sem7_1 : DmaSem sig := 25
abbrev cc1_sem8_0 : DmaSem sig := 26

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S4x1024x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S4096x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S256x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S256x4096 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S1x1024 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]
-- ==== MlpRefIdeal.lean ====
abbrev S4096x1024 : Shape := ⟨2, ![4096, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x4096 : Shape := ⟨2, ![1024, 4096]⟩
abbrev S4096x4096 : Shape := ⟨2, ![4096, 4096]⟩

abbrev nBuf : Space → Nat
  | .hbm => 76
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024x4096, .f32⟩
  | .hbm, ⟨4, _⟩ => ⟨S1x4096x1024, .f32⟩
  | .hbm, ⟨5, _⟩ => ⟨S1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S1024x4096, .f32⟩
  | .hbm, ⟨27, _⟩ => ⟨S4096x4096, .f32⟩
  | .hbm, ⟨28, _⟩ => ⟨S_, .f32⟩
  | .hbm, ⟨29, _⟩ => ⟨S4096x4096, .f32⟩
  | .hbm, ⟨30, _⟩ => ⟨S4096x4096, .f32⟩
  | .hbm, ⟨31, _⟩ => ⟨S_, .f32⟩
  | .hbm, ⟨32, _⟩ => ⟨S4096x4096, .f32⟩
  | .hbm, ⟨33, _⟩ => ⟨S4096x4096, .i1⟩
  | .hbm, ⟨34, _⟩ => ⟨S_, .f32⟩
  | .hbm, ⟨35, _⟩ => ⟨S4096x4096, .f32⟩
  | .hbm, ⟨36, _⟩ => ⟨S4096x4096, .f32⟩
  | .hbm, ⟨37, _⟩ => ⟨S_, .f32⟩
  | .hbm, ⟨38, _⟩ => ⟨S4096x4096, .f32⟩
  | .hbm, ⟨39, _⟩ => ⟨S4096x4096, .f32⟩
  | .hbm, ⟨40, _⟩ => ⟨S4096x1024, .f32⟩
  | .hbm, ⟨41, _⟩ => ⟨S4096x1024, .f32⟩
  | .hbm, ⟨42, _⟩ => ⟨S4096x4096, .f32⟩
  | .hbm, ⟨43, _⟩ => ⟨S4096x4096, .f32⟩
  | .hbm, ⟨44, _⟩ => ⟨S_, .f32⟩
  | .hbm, ⟨45, _⟩ => ⟨S4096x4096, .f32⟩
  | .hbm, ⟨46, _⟩ => ⟨S4096x4096, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S1024, .f32⟩
  | .hbm, ⟨56, _⟩ => ⟨S4096x1024, .f32⟩
  | .hbm, ⟨57, _⟩ => ⟨S_, .f32⟩
  | .hbm, ⟨58, _⟩ => ⟨S4096, .f32⟩
  | .hbm, ⟨59, _⟩ => ⟨S4096x1, .f32⟩
  | .hbm, ⟨60, _⟩ => ⟨S4096x1024, .f32⟩
  | .hbm, ⟨61, _⟩ => ⟨S4096x1024, .f32⟩
  | .hbm, ⟨62, _⟩ => ⟨S4096x1, .f32⟩
  | .hbm, ⟨63, _⟩ => ⟨S_, .f32⟩
  | .hbm, ⟨64, _⟩ => ⟨S4096x1, .f32⟩
  | .hbm, ⟨65, _⟩ => ⟨S4096x1, .f32⟩
  | .hbm, ⟨66, _⟩ => ⟨S_, .f32⟩
  | .hbm, ⟨67, _⟩ => ⟨S4096, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x4096, .bf16⟩
  | .hbm, ⟨75, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_cst : Ref sig .tc := ⟨.hbm, 28, rfl⟩
abbrev main_call0_v0 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_8 : Ref sig .tc := ⟨.hbm, 54, rfl⟩
abbrev main_v38 : Ref sig .tc := ⟨.hbm, 55, rfl⟩
abbrev main_v39 : Ref sig .tc := ⟨.hbm, 56, rfl⟩
abbrev main_cst_9 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_10 : Ref sig .tc := ⟨.hbm, 63, rfl⟩
abbrev main_v45 : Ref sig .tc := ⟨.hbm, 64, rfl⟩
abbrev main_v46 : Ref sig .tc := ⟨.hbm, 65, rfl⟩
abbrev main_cst_11 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩

abbrev nD : Nat := 1
abbrev τ : Topo := Topo.v7x

variable {F : FTy → Type} [FloatOps F]
-- ==== InprojBwd.lean ====
abbrev S4096x1024 : Shape := ⟨2, ![4096, 1024]⟩
abbrev S4096x256 : Shape := ⟨2, ![4096, 256]⟩
abbrev S1x1024x5632 : Shape := ⟨3, ![1, 1024, 5632]⟩
abbrev S1x1024 : Shape := ⟨2, ![1, 1024]⟩
abbrev S1024x5632 : Shape := ⟨2, ![1024, 5632]⟩
abbrev S1024x4x1408 : Shape := ⟨3, ![1024, 4, 1408]⟩
abbrev S4x1024x1408 : Shape := ⟨3, ![4, 1024, 1408]⟩
abbrev S512x1024 : Shape := ⟨2, ![512, 1024]⟩
abbrev S512x256 : Shape := ⟨2, ![512, 256]⟩
abbrev S512x5632 : Shape := ⟨2, ![512, 5632]⟩
abbrev S512x1408 : Shape := ⟨2, ![512, 1408]⟩
abbrev S1x1024x1408 : Shape := ⟨3, ![1, 1024, 1408]⟩
abbrev S1024x1408 : Shape := ⟨2, ![1024, 1408]⟩
abbrev S512 : Shape := ⟨1, ![512]⟩
abbrev S512x1 : Shape := ⟨2, ![512, 1]⟩
abbrev S1024 : Shape := ⟨1, ![1024]⟩

abbrev nBuf : Space → Nat
  | .hbm => 17
  | .vmem => 24
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x256, .bf16⟩
  | .hbm, ⟨4, _⟩ => ⟨S4096x256, .bf16⟩
  | .hbm, ⟨5, _⟩ => ⟨S4096x1024, .bf16⟩
  | .hbm, ⟨6, _⟩ => ⟨S4096x1024, .bf16⟩
  | .hbm, ⟨7, _⟩ => ⟨S1x1024x5632, .f32⟩
  | .hbm, ⟨8, _⟩ => ⟨S4096x1024, .f32⟩
  | .hbm, ⟨9, _⟩ => ⟨S1x1024, .f32⟩
  | .hbm, ⟨10, _⟩ => ⟨S4096x1024, .f32⟩
  | .hbm, ⟨11, _⟩ => ⟨S1024x5632, .f32⟩
  | .hbm, ⟨12, _⟩ => ⟨S1024x5632, .bf16⟩
  | .hbm, ⟨13, _⟩ => ⟨S1024x4x1408, .bf16⟩
  | .hbm, ⟨14, _⟩ => ⟨S4x1024x1408, .bf16⟩
  | .hbm, ⟨15, _⟩ => ⟨S4096x1024, .f32⟩
  | .hbm, ⟨16, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x256, .bf16⟩
  | .local _ .vmem, ⟨7, _⟩ => ⟨S512x256, .bf16⟩
  | .local _ .vmem, ⟨8, _⟩ => ⟨S512x256, .bf16⟩
  | .local _ .vmem, ⟨9, _⟩ => ⟨S512x256, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S4x1024x1408, .bf16⟩
  | .local _ .vmem, ⟨15, _⟩ => ⟨S512x1024, .f32⟩
  | .local _ .vmem, ⟨16, _⟩ => ⟨S512x1024, .f32⟩
  | .local _ .vmem, ⟨17, _⟩ => ⟨S1x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S1x1024, .f32⟩
  | .local _ .vmem, ⟨23, _⟩ => ⟨S512x5632, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4_0 : Ref sig .tc := ⟨.hbm, 15, rfl⟩
abbrev main_v4_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x1024x1408 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== InprojRefIdeal.lean ====
abbrev S4096x1024 : Shape := ⟨2, ![4096, 1024]⟩
abbrev S4096x256 : Shape := ⟨2, ![4096, 256]⟩
abbrev S1x1024x5632 : Shape := ⟨3, ![1, 1024, 5632]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x5632 : Shape := ⟨2, ![1024, 5632]⟩
abbrev S4096x5632 : Shape := ⟨2, ![4096, 5632]⟩

abbrev nBuf : Space → Nat
  | .hbm => 77
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x256, .bf16⟩
  | .hbm, ⟨4, _⟩ => ⟨S4096x256, .bf16⟩
  | .hbm, ⟨5, _⟩ => ⟨S4096x1024, .bf16⟩
  | .hbm, ⟨6, _⟩ => ⟨S4096x1024, .bf16⟩
  | .hbm, ⟨7, _⟩ => ⟨S1x1024x5632, .f32⟩
  | .hbm, ⟨8, _⟩ => ⟨S4096x1024, .f32⟩
  | .hbm, ⟨9, _⟩ => ⟨S1x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x256, .f32⟩
  | .hbm, ⟨15, _⟩ => ⟨S4096x256, .f32⟩
  | .hbm, ⟨16, _⟩ => ⟨S4096x1024, .f32⟩
  | .hbm, ⟨17, _⟩ => ⟨S4096x1024, .f32⟩
  | .hbm, ⟨18, _⟩ => ⟨S1024, .f32⟩
  | .hbm, ⟨19, _⟩ => ⟨S4096x1024, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1024, .f32⟩
  | .hbm, ⟨35, _⟩ => ⟨S4096x1024, .f32⟩
  | .hbm, ⟨36, _⟩ => ⟨S1x1024, .f32⟩
  | .hbm, ⟨37, _⟩ => ⟨S4096x1024, .f32⟩
  | .hbm, ⟨38, _⟩ => ⟨S4096x1024, .f32⟩
  | .hbm, ⟨39, _⟩ => ⟨S1024x5632, .f32⟩
  | .hbm, ⟨40, _⟩ => ⟨S4096x5632, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x256, .f32⟩
  | .hbm, ⟨45, _⟩ => ⟨S4096x256, .f32⟩
  | .hbm, ⟨46, _⟩ => ⟨S4096x1024, .f32⟩
  | .hbm, ⟨47, _⟩ => ⟨S4096x1024, .f32⟩
  | .hbm, ⟨48, _⟩ => ⟨S4096x5632, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S1024, .f32⟩
  | .hbm, ⟨58, _⟩ => ⟨S4096x1024, .f32⟩
  | .hbm, ⟨59, _⟩ => ⟨S_, .f32⟩
  | .hbm, ⟨60, _⟩ => ⟨S4096, .f32⟩
  | .hbm, ⟨61, _⟩ => ⟨S4096x1, .f32⟩
  | .hbm, ⟨62, _⟩ => ⟨S4096x1024, .f32⟩
  | .hbm, ⟨63, _⟩ => ⟨S4096x1024, .f32⟩
  | .hbm, ⟨64, _⟩ => ⟨S4096x1, .f32⟩
  | .hbm, ⟨65, _⟩ => ⟨S_, .f32⟩
  | .hbm, ⟨66, _⟩ => ⟨S4096x1, .f32⟩
  | .hbm, ⟨67, _⟩ => ⟨S4096x1, .f32⟩
  | .hbm, ⟨68, _⟩ => ⟨S_, .f32⟩
  | .hbm, ⟨69, _⟩ => ⟨S4096, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S1x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_v10 : Ref sig .tc := ⟨.hbm, 22, rfl⟩
abbrev main_cst_0 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_3 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_4 : Ref sig .tc := ⟨.hbm, 56, rfl⟩
abbrev main_v40 : Ref sig .tc := ⟨.hbm, 57, rfl⟩
abbrev main_v41 : Ref sig .tc := ⟨.hbm, 58, rfl⟩
abbrev main_cst_5 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_6 : Ref sig .tc := ⟨.hbm, 65, rfl⟩
abbrev main_v47 : Ref sig .tc := ⟨.hbm, 66, rfl⟩
abbrev main_v48 : Ref sig .tc := ⟨.hbm, 67, rfl⟩
abbrev main_cst_7 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩

abbrev nD : Nat := 1
abbrev τ : Topo := Topo.v7x

variable {F : FTy → Type} [FloatOps F]
-- ==== KvBwd.lean ====
abbrev S4096x256 : Shape := ⟨2, ![4096, 256]⟩
abbrev S1x64 : Shape := ⟨2, ![1, 64]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S4x128 : Shape := ⟨2, ![4, 128]⟩
abbrev S4x1x128 : Shape := ⟨3, ![4, 1, 128]⟩
abbrev S4x64x128 : Shape := ⟨3, ![4, 64, 128]⟩
abbrev S256x128 : Shape := ⟨2, ![256, 128]⟩
abbrev S128x256 : Shape := ⟨2, ![128, 256]⟩
abbrev S1x1x1x64 : Shape := ⟨4, ![1, 1, 1, 64]⟩
abbrev S1x1x4x64 : Shape := ⟨4, ![1, 1, 4, 64]⟩
abbrev S1x256 : Shape := ⟨2, ![1, 256]⟩
abbrev S1024x256 : Shape := ⟨2, ![1024, 256]⟩
abbrev S1024x128 : Shape := ⟨2, ![1024, 128]⟩
abbrev S896x256 : Shape := ⟨2, ![896, 256]⟩
abbrev S256 : Shape := ⟨1, ![256]⟩
abbrev S4x64 : Shape := ⟨2, ![4, 64]⟩
abbrev S64 : Shape := ⟨1, ![64]⟩

abbrev nBuf : Space → Nat
  | .hbm => 59
  | .vmem => 26
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x256, .f32⟩
  | .hbm, ⟨3, _⟩ => ⟨S4096x256, .f32⟩
  | .hbm, ⟨4, _⟩ => ⟨S4096x256, .f32⟩
  | .hbm, ⟨5, _⟩ => ⟨S1x64, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S2048, .f32⟩
  | .hbm, ⟨21, _⟩ => ⟨S2048x1, .f32⟩
  | .hbm, ⟨22, _⟩ => ⟨S1x32, .f32⟩
  | .hbm, ⟨23, _⟩ => ⟨S2048x32, .f32⟩
  | .hbm, ⟨24, _⟩ => ⟨S2048x32, .f32⟩
  | .hbm, ⟨25, _⟩ => ⟨S2048x32, .f32⟩
  | .hbm, ⟨26, _⟩ => ⟨S2048x32, .f32⟩
  | .hbm, ⟨27, _⟩ => ⟨S2048x32, .f32⟩
  | .hbm, ⟨28, _⟩ => ⟨S2048x64, .f32⟩
  | .hbm, ⟨29, _⟩ => ⟨S1x2048x1x64, .f32⟩
  | .hbm, ⟨30, _⟩ => ⟨S1x2048x2x64, .f32⟩
  | .hbm, ⟨31, _⟩ => ⟨S2048x128, .f32⟩
  | .hbm, ⟨32, _⟩ => ⟨S2048x32, .f32⟩
  | .hbm, ⟨33, _⟩ => ⟨S2048x64, .f32⟩
  | .hbm, ⟨34, _⟩ => ⟨S1x2048x1x64, .f32⟩
  | .hbm, ⟨35, _⟩ => ⟨S1x2048x2x64, .f32⟩
  | .hbm, ⟨36, _⟩ => ⟨S2048x128, .f32⟩
  | .hbm, ⟨37, _⟩ => ⟨S4x128, .i32⟩
  | .hbm, ⟨38, _⟩ => ⟨S4x128, .i32⟩
  | .hbm, ⟨39, _⟩ => ⟨S_, .i32⟩
  | .hbm, ⟨40, _⟩ => ⟨S4x128, .i32⟩
  | .hbm, ⟨41, _⟩ => ⟨S4x128, .i32⟩
  | .hbm, ⟨42, _⟩ => ⟨S4x128, .i1⟩
  | .hbm, ⟨43, _⟩ => ⟨S4x128, .f32⟩
  | .hbm, ⟨44, _⟩ => ⟨S4x1x128, .f32⟩
  | .hbm, ⟨45, _⟩ => ⟨S4x64x128, .f32⟩
  | .hbm, ⟨46, _⟩ => ⟨S256x128, .f32⟩
  | .hbm, ⟨47, _⟩ => ⟨S256x128, .bf16⟩
  | .hbm, ⟨48, _⟩ => ⟨S128x256, .f32⟩
  | .hbm, ⟨49, _⟩ => ⟨S128x256, .bf16⟩
  | .hbm, ⟨50, _⟩ => ⟨S1x1x1x64, .f32⟩
  | .hbm, ⟨51, _⟩ => ⟨S1x1x4x64, .f32⟩
  | .hbm, ⟨52, _⟩ => ⟨S1x256, .f32⟩
  | .hbm, ⟨53, _⟩ => ⟨S4096x256, .bf16⟩
  | .hbm, ⟨54, _⟩ => ⟨S4096x256, .bf16⟩
  | .hbm, ⟨55, _⟩ => ⟨S1x256, .f32⟩
  | .hbm, ⟨56, _⟩ => ⟨S4x64, .f32⟩
  | .hbm, ⟨57, _⟩ => ⟨S_, .f32⟩
  | .hbm, ⟨58, _⟩ => ⟨S64, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S128x256, .f32⟩
  | .local _ .vmem, ⟨5, _⟩ => ⟨S128x256, .f32⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | .local _ .vmem, ⟨9, _⟩ => ⟨S1024x256, .f32⟩
  | .local _ .vmem, ⟨10, _⟩ => ⟨S128x256, .f32⟩
  | .local _ .vmem, ⟨11, _⟩ => ⟨S128x256, .f32⟩
  | .local _ .vmem, ⟨12, _⟩ => ⟨S1024x256, .f32⟩
  | .local _ .vmem, ⟨13, _⟩ => ⟨S1024x256, .f32⟩
  | .local _ .vmem, ⟨14, _⟩ => ⟨S1x256, .f32⟩
  | .local _ .vmem, ⟨15, _⟩ => ⟨S1024x128, .f32⟩
  | .local _ .vmem, ⟨16, _⟩ => ⟨S1024x128, .f32⟩
  | .local _ .vmem, ⟨17, _⟩ => ⟨S1024x128, .f32⟩
  | .local _ .vmem, ⟨18, _⟩ => ⟨S1024x128, .f32⟩
  | .local _ .vmem, ⟨19, _⟩ => ⟨S256x128, .bf16⟩
  | .local _ .vmem, ⟨20, _⟩ => ⟨S128x256, .bf16⟩
  | .local _ .vmem, ⟨21, _⟩ => ⟨S1024x256, .bf16⟩
  | .local _ .vmem, ⟨22, _⟩ => ⟨S1024x256, .bf16⟩
  | .local _ .vmem, ⟨23, _⟩ => ⟨S1024x256, .bf16⟩
  | .local _ .vmem, ⟨24, _⟩ => ⟨S1024x256, .bf16⟩
  | .local _ .vmem, ⟨25, _⟩ => ⟨S1x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42_0 : Ref sig .tc := ⟨.hbm, 53, rfl⟩
abbrev main_v42_1 : Ref sig .tc := ⟨.hbm, 54, rfl⟩
abbrev main_v42_2 : Ref sig .tc := ⟨.hbm, 55, rfl⟩
abbrev main_v43 : Ref sig .tc := ⟨.hbm, 56, rfl⟩
abbrev main_cst_3 : Ref sig .tc := ⟨.hbm, 57, rfl⟩
abbrev main_v44 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem11_0 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.addi arg1 c1_i32
  let c8_i32 : BitVec 32 := 8#32
  let v2 : BitVec 32 := Scalar.muli v1 c8_i32
  let c15_i32 : BitVec 32 := 15#32
  let v3 : BitVec 32 := Scalar.minsi v2 c15_i32
  let v4 : BitVec 32 := Scalar.addi v0 v3
  let c0_i32 : BitVec 32 := 0#32
  let c0_i32_0 : BitVec 32 := 0#32
  ![v4.toNat, c0_i32.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.addi arg1 c1_i32
  let c8_i32 : BitVec 32 := 8#32
  let v2 : BitVec 32 := Scalar.muli v1 c8_i32
  let c15_i32 : BitVec 32 := 15#32
  let v3 : BitVec 32 := Scalar.minsi v2 c15_i32
  let v4 : BitVec 32 := Scalar.addi v0 v3
  let c0_i32 : BitVec 32 := 0#32
  let c0_i32_0 : BitVec 32 := 0#32
  ![v4.toNat, c0_i32.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 1 → Memref sig .tc .vmem S256x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S128x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1024x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1024x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]
-- ==== KvRefIdeal.lean ====
abbrev S4096x256 : Shape := ⟨2, ![4096, 256]⟩
abbrev S1x64 : Shape := ⟨2, ![1, 64]⟩
abbrev S2x2048x4x64 : Shape := ⟨4, ![2, 2048, 4, 64]⟩
abbrev S64 : Shape := ⟨1, ![64]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S1x2048x1x32 : Shape := ⟨4, ![1, 2048, 1, 32]⟩
abbrev S2x2048x4 : Shape := ⟨3, ![2, 2048, 4]⟩
abbrev S2x2048x4x1 : Shape := ⟨4, ![2, 2048, 4, 1]⟩
abbrev S1x1x1x64 : Shape := ⟨4, ![1, 1, 1, 64]⟩
abbrev S2x2048x4x32 : Shape := ⟨4, ![2, 2048, 4, 32]⟩
abbrev S2x16x128x4x64 : Shape := ⟨5, ![2, 16, 128, 4, 64]⟩
abbrev S2x1x128x4x64 : Shape := ⟨5, ![2, 1, 128, 4, 64]⟩
abbrev S2x15x128x4x64 : Shape := ⟨5, ![2, 15, 128, 4, 64]⟩
abbrev S2x16x256x4x64 : Shape := ⟨5, ![2, 16, 256, 4, 64]⟩

abbrev nBuf : Space → Nat
  | .hbm => 147
  | .vmem => 0
  | .smem => 0
  | _ => 0

abbrev hbmTy0_0 (i : Nat) : BufTy := match i % 128 with
  | 0 => ⟨S4096x256, .f32⟩
  | 1 => ⟨S4096x256, .f32⟩
  | 2 => ⟨S4096x256, .f32⟩
  | 3 => ⟨S4096x256, .f32⟩
  | 4 => ⟨S4096x256, .f32⟩
  | 5 => ⟨S1x64, .f32⟩
  | 6 => ⟨S2x2048x4x64, .f32⟩
  | 7 => ⟨S2x2048x4x64, .f32⟩
  | 8 => ⟨S64, .f32⟩
  | 9 => ⟨S32, .f32⟩
  | 10 => ⟨S_, .f32⟩
  | 11 => ⟨S32, .f32⟩
  | 12 => ⟨S32, .f32⟩
  | 13 => ⟨S_, .f32⟩
  | 14 => ⟨S32, .f32⟩
  | 15 => ⟨S32, .f32⟩
  | 16 => ⟨S32, .f32⟩
  | 17 => ⟨S_, .f32⟩
  | 18 => ⟨S32, .f32⟩
  | 19 => ⟨S32, .f32⟩
  | 20 => ⟨S_, .f32⟩
  | 21 => ⟨S32, .f32⟩
  | 22 => ⟨S32, .f32⟩
  | 23 => ⟨S2048, .f32⟩
  | 24 => ⟨S2048x1, .f32⟩
  | 25 => ⟨S1x32, .f32⟩
  | 26 => ⟨S2048x32, .f32⟩
  | 27 => ⟨S2048x32, .f32⟩
  | 28 => ⟨S2048x32, .f32⟩
  | 29 => ⟨S2048x32, .f32⟩
  | 30 => ⟨S1x2048x1x32, .f32⟩
  | 31 => ⟨S2048x32, .f32⟩
  | 32 => ⟨S1x2048x1x32, .f32⟩
  | 33 => ⟨S2x2048x4x64, .f32⟩
  | 34 => ⟨S_, .f32⟩
  | 35 => ⟨S2x2048x4, .f32⟩
  | 36 => ⟨S2x2048x4x1, .f32⟩
  | 37 => ⟨S_, .f32⟩
  | 38 => ⟨S2x2048x4x1, .f32⟩
  | 39 => ⟨S2x2048x4x1, .f32⟩
  | 40 => ⟨S_, .f32⟩
  | 41 => ⟨S2x2048x4x1, .f32⟩
  | 42 => ⟨S2x2048x4x1, .f32⟩
  | 43 => ⟨S2x2048x4x1, .f32⟩
  | 44 => ⟨S2x2048x4x1, .f32⟩
  | 45 => ⟨S_, .f32⟩
  | 46 => ⟨S2x2048x4x1, .f32⟩
  | 47 => ⟨S2x2048x4x1, .f32⟩
  | 48 => ⟨S2x2048x4x64, .f32⟩
  | 49 => ⟨S2x2048x4x64, .f32⟩
  | 50 => ⟨S1x1x1x64, .f32⟩
  | 51 => ⟨S2x2048x4x64, .f32⟩
  | 52 => ⟨S2x2048x4x64, .f32⟩
  | 53 => ⟨S2x2048x4x32, .f32⟩
  | 54 => ⟨S2x2048x4x32, .f32⟩
  | 55 => ⟨S2x2048x4x32, .f32⟩
  | 56 => ⟨S2x2048x4x32, .f32⟩
  | 57 => ⟨S2x2048x4x32, .f32⟩
  | 58 => ⟨S2x2048x4x32, .f32⟩
  | 59 => ⟨S2x2048x4x32, .f32⟩
  | 60 => ⟨S2x2048x4x32, .f32⟩
  | 61 => ⟨S2x2048x4x32, .f32⟩
  | 62 => ⟨S2x2048x4x32, .f32⟩
  | 63 => ⟨S2x2048x4x32, .f32⟩
  | 64 => ⟨S2x2048x4x32, .f32⟩
  | 65 => ⟨S2x2048x4x64, .f32⟩
  | 66 => ⟨S2x16x128x4x64, .f32⟩
  | 67 => ⟨S_, .f32⟩
  | 68 => ⟨S2x1x128x4x64, .f32⟩
  | 69 => ⟨S2x15x128x4x64, .f32⟩
  | 70 => ⟨S2x16x128x4x64, .f32⟩
  | 71 => ⟨S_, .f32⟩
  | 72 => ⟨S2x1x128x4x64, .f32⟩
  | 73 => ⟨S2x16x256x4x64, .f32⟩
  | 74 => ⟨S2x16x128x4x64, .f32⟩
  | 75 => ⟨S_, .f32⟩
  | 76 => ⟨S2x1x128x4x64, .f32⟩
  | 77 => ⟨S2x15x128x4x64, .f32⟩
  | 78 => ⟨S2x16x128x4x64, .f32⟩
  | 79 => ⟨S_, .f32⟩
  | 80 => ⟨S2x1x128x4x64, .f32⟩
  | 81 => ⟨S2x16x256x4x64, .f32⟩
  | 82 => ⟨S2x16x128x4x64, .f32⟩
  | 83 => ⟨S2x16x128x4x64, .f32⟩
  | 84 => ⟨S2x16x256x4x64, .f32⟩
  | 85 => ⟨S2x16x128x4x64, .f32⟩
  | 86 => ⟨S2x16x128x4x64, .f32⟩
  | 87 => ⟨S2x16x256x4x64, .f32⟩
  | 88 => ⟨S2x16x128x4x64, .f32⟩
  | 89 => ⟨S2x16x128x4x64, .f32⟩
  | 90 => ⟨S2x1x128x4x64, .f32⟩
  | 91 => ⟨S2x15x128x4x64, .f32⟩
  | 92 => ⟨S_, .f32⟩
  | 93 => ⟨S2x16x128x4x64, .f32⟩
  | 94 => ⟨S2x16x128x4x64, .f32⟩
  | 95 => ⟨S2x2048x4x64, .f32⟩
  | 96 => ⟨S2x16x128x4x64, .f32⟩
  | 97 => ⟨S2x16x128x4x64, .f32⟩
  | 98 => ⟨S2x1x128x4x64, .f32⟩
  | 99 => ⟨S2x15x128x4x64, .f32⟩
  | 100 => ⟨S_, .f32⟩
  | 101 => ⟨S2x16x128x4x64, .f32⟩
  | 102 => ⟨S2x16x128x4x64, .f32⟩
  | 103 => ⟨S2x2048x4x64, .f32⟩
  | 104 => ⟨S2x2048x4x32, .f32⟩
  | 105 => ⟨S2x2048x4x32, .f32⟩
  | 106 => ⟨S2x2048x4x32, .f32⟩
  | 107 => ⟨S2x2048x4x32, .f32⟩
  | 108 => ⟨S2x2048x4x32, .f32⟩
  | 109 => ⟨S2x2048x4x32, .f32⟩
  | 110 => ⟨S2x2048x4x32, .f32⟩
  | 111 => ⟨S2x2048x4x32, .f32⟩
  | 112 => ⟨S2x2048x4x32, .f32⟩
  | 113 => ⟨S2x2048x4x32, .f32⟩
  | 114 => ⟨S2x2048x4x32, .f32⟩
  | 115 => ⟨S2x2048x4x32, .f32⟩
  | 116 => ⟨S2x2048x4x32, .f32⟩
  | 117 => ⟨S2x2048x4x64, .f32⟩
  | 118 => ⟨S2x2048x4x64, .f32⟩
  | 119 => ⟨S_, .f32⟩
  | 120 => ⟨S64, .f32⟩
  | 121 => ⟨S1x1x1x64, .f32⟩
  | 122 => ⟨S2x2048x4x64, .f32⟩
  | 123 => ⟨S2x2048x4x64, .f32⟩
  | 124 => ⟨S_, .f32⟩
  | 125 => ⟨S64, .f32⟩
  | 126 => ⟨S2x2048x4x64, .f32⟩
  | 127 => ⟨S_, .f32⟩
  | _ => ⟨S4096x256, .f32⟩

abbrev hbmTy0_1 (i : Nat) : BufTy := match i % 128 with
  | 0 => ⟨S2x2048x4, .f32⟩
  | 1 => ⟨S2x2048x4x1, .f32⟩
  | 2 => ⟨S2x2048x4x64, .f32⟩
  | 3 => ⟨S2x2048x4x64, .f32⟩
  | 4 => ⟨S2x2048x4x1, .f32⟩
  | 5 => ⟨S_, .f32⟩
  | 6 => ⟨S2x2048x4x1, .f32⟩
  | 7 => ⟨S2x2048x4x1, .f32⟩
  | 8 => ⟨S_, .f32⟩
  | 9 => ⟨S2x2048x4, .f32⟩
  | 10 => ⟨S2x2048x4x64, .f32⟩
  | 11 => ⟨S2x2048x4x64, .f32⟩
  | 12 => ⟨S2x2048x4x64, .f32⟩
  | 13 => ⟨S2x2048x4x64, .f32⟩
  | 14 => ⟨S2x2048x4x64, .f32⟩
  | 15 => ⟨S4096x256, .f32⟩
  | 16 => ⟨S4096x256, .bf16⟩
  | 17 => ⟨S4096x256, .f32⟩
  | 18 => ⟨S4096x256, .bf16⟩
  | _ => ⟨S4096x256, .f32⟩

abbrev hbmTy (i : Nat) : BufTy := match i / 128 with
  | 0 => hbmTy0_0 i
  | 1 => hbmTy0_1 i
  | _ => ⟨S4096x256, .f32⟩

abbrev bufTy : (tb : Table) → Fin (tcTables nBuf tb) → BufTy
  | .hbm, ⟨i, _⟩ => hbmTy i
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_7 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_8 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_9 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_cst_10 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_cst_11 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_cst_12 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_cst_13 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_cst_14 : Ref sig .tc := ⟨.hbm, 124, rfl⟩
abbrev main_v103 : Ref sig .tc := ⟨.hbm, 125, rfl⟩
abbrev main_v104 : Ref sig .tc := ⟨.hbm, 126, rfl⟩
abbrev main_cst_15 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_cst_16 : Ref sig .tc := ⟨.hbm, 133, rfl⟩
abbrev main_v110 : Ref sig .tc := ⟨.hbm, 134, rfl⟩
abbrev main_v111 : Ref sig .tc := ⟨.hbm, 135, rfl⟩
abbrev main_cst_17 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩

abbrev nD : Nat := 1
abbrev τ : Topo := Topo.v7x

variable {F : FTy → Type} [FloatOps F]
-- ==== AttnBwd.lean ====
abbrev S4096x1024 : Shape := ⟨2, ![4096, 1024]⟩
abbrev S4096x256 : Shape := ⟨2, ![4096, 256]⟩
abbrev S1x64 : Shape := ⟨2, ![1, 64]⟩
abbrev S1x16 : Shape := ⟨2, ![1, 16]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S16x128 : Shape := ⟨2, ![16, 128]⟩
abbrev S16x1x128 : Shape := ⟨3, ![16, 1, 128]⟩
abbrev S16x64x128 : Shape := ⟨3, ![16, 64, 128]⟩
abbrev S1024x128 : Shape := ⟨2, ![1024, 128]⟩
abbrev S128x1024 : Shape := ⟨2, ![128, 1024]⟩
abbrev S4x128 : Shape := ⟨2, ![4, 128]⟩
abbrev S4x1x128 : Shape := ⟨3, ![4, 1, 128]⟩
abbrev S4x64x128 : Shape := ⟨3, ![4, 64, 128]⟩
abbrev S256x128 : Shape := ⟨2, ![256, 128]⟩
abbrev S128x256 : Shape := ⟨2, ![128, 256]⟩
abbrev S1x1x1x64 : Shape := ⟨4, ![1, 1, 1, 64]⟩
abbrev S1x1x16x64 : Shape := ⟨4, ![1, 1, 16, 64]⟩
abbrev S1x1024 : Shape := ⟨2, ![1, 1024]⟩
abbrev S1x1x4x64 : Shape := ⟨4, ![1, 1, 4, 64]⟩
abbrev S1x256 : Shape := ⟨2, ![1, 256]⟩
abbrev S16 : Shape := ⟨1, ![16]⟩
abbrev S128x128 : Shape := ⟨2, ![128, 128]⟩
abbrev S256x256 : Shape := ⟨2, ![256, 256]⟩
abbrev S1x128x1024 : Shape := ⟨3, ![1, 128, 1024]⟩
abbrev S1x256x256 : Shape := ⟨3, ![1, 256, 256]⟩
abbrev S1x2x256x512 : Shape := ⟨4, ![1, 2, 256, 512]⟩
abbrev S1x4x512x128 : Shape := ⟨4, ![1, 4, 512, 128]⟩
abbrev S1x4x256x128 : Shape := ⟨4, ![1, 4, 256, 128]⟩
abbrev S256x512 : Shape := ⟨2, ![256, 512]⟩
abbrev S512x128 : Shape := ⟨2, ![512, 128]⟩
abbrev S1x1x512x128 : Shape := ⟨4, ![1, 1, 512, 128]⟩
abbrev S1x1x256x128 : Shape := ⟨4, ![1, 1, 256, 128]⟩
abbrev S2x256x512 : Shape := ⟨3, ![2, 256, 512]⟩
abbrev S1x256x512 : Shape := ⟨3, ![1, 256, 512]⟩
abbrev S1 : Shape := ⟨1, ![1]⟩
abbrev S1x64x128 : Shape := ⟨3, ![1, 64, 128]⟩
abbrev S64x128 : Shape := ⟨2, ![64, 128]⟩
abbrev S8x8x128 : Shape := ⟨3, ![8, 8, 128]⟩
abbrev S8x128 : Shape := ⟨2, ![8, 128]⟩
abbrev S128 : Shape := ⟨1, ![128]⟩
abbrev S1x128 : Shape := ⟨2, ![1, 128]⟩
abbrev S1x1x64x128 : Shape := ⟨4, ![1, 1, 64, 128]⟩
abbrev S1x128x128 : Shape := ⟨3, ![1, 128, 128]⟩
abbrev S1x256x128 : Shape := ⟨3, ![1, 256, 128]⟩
abbrev S1024 : Shape := ⟨1, ![1024]⟩
abbrev S1x128x256 : Shape := ⟨3, ![1, 128, 256]⟩
abbrev S16x64 : Shape := ⟨2, ![16, 64]⟩
abbrev S64 : Shape := ⟨1, ![64]⟩

abbrev nBuf : Space → Nat
  | .hbm => 83
  | .vmem => 43
  | .smem => 1
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x256, .f32⟩
  | .hbm, ⟨3, _⟩ => ⟨S4096x256, .f32⟩
  | .hbm, ⟨4, _⟩ => ⟨S1x64, .f32⟩
  | .hbm, ⟨5, _⟩ => ⟨S1x64, .f32⟩
  | .hbm, ⟨6, _⟩ => ⟨S1x16, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S2048, .f32⟩
  | .hbm, ⟨22, _⟩ => ⟨S2048x1, .f32⟩
  | .hbm, ⟨23, _⟩ => ⟨S1x32, .f32⟩
  | .hbm, ⟨24, _⟩ => ⟨S2048x32, .f32⟩
  | .hbm, ⟨25, _⟩ => ⟨S2048x32, .f32⟩
  | .hbm, ⟨26, _⟩ => ⟨S2048x32, .f32⟩
  | .hbm, ⟨27, _⟩ => ⟨S2048x32, .f32⟩
  | .hbm, ⟨28, _⟩ => ⟨S2048x32, .f32⟩
  | .hbm, ⟨29, _⟩ => ⟨S2048x64, .f32⟩
  | .hbm, ⟨30, _⟩ => ⟨S1x2048x1x64, .f32⟩
  | .hbm, ⟨31, _⟩ => ⟨S1x2048x2x64, .f32⟩
  | .hbm, ⟨32, _⟩ => ⟨S2048x128, .f32⟩
  | .hbm, ⟨33, _⟩ => ⟨S2048x32, .f32⟩
  | .hbm, ⟨34, _⟩ => ⟨S2048x64, .f32⟩
  | .hbm, ⟨35, _⟩ => ⟨S1x2048x1x64, .f32⟩
  | .hbm, ⟨36, _⟩ => ⟨S1x2048x2x64, .f32⟩
  | .hbm, ⟨37, _⟩ => ⟨S2048x128, .f32⟩
  | .hbm, ⟨38, _⟩ => ⟨S16x128, .i32⟩
  | .hbm, ⟨39, _⟩ => ⟨S16x128, .i32⟩
  | .hbm, ⟨40, _⟩ => ⟨S_, .i32⟩
  | .hbm, ⟨41, _⟩ => ⟨S16x128, .i32⟩
  | .hbm, ⟨42, _⟩ => ⟨S16x128, .i32⟩
  | .hbm, ⟨43, _⟩ => ⟨S16x128, .i1⟩
  | .hbm, ⟨44, _⟩ => ⟨S16x128, .f32⟩
  | .hbm, ⟨45, _⟩ => ⟨S16x1x128, .f32⟩
  | .hbm, ⟨46, _⟩ => ⟨S16x64x128, .f32⟩
  | .hbm, ⟨47, _⟩ => ⟨S1024x128, .f32⟩
  | .hbm, ⟨48, _⟩ => ⟨S1024x128, .bf16⟩
  | .hbm, ⟨49, _⟩ => ⟨S128x1024, .f32⟩
  | .hbm, ⟨50, _⟩ => ⟨S128x1024, .bf16⟩
  | .hbm, ⟨51, _⟩ => ⟨S4x128, .i32⟩
  | .hbm, ⟨52, _⟩ => ⟨S4x128, .i32⟩
  | .hbm, ⟨53, _⟩ => ⟨S_, .i32⟩
  | .hbm, ⟨54, _⟩ => ⟨S4x128, .i32⟩
  | .hbm, ⟨55, _⟩ => ⟨S4x128, .i32⟩
  | .hbm, ⟨56, _⟩ => ⟨S4x128, .i1⟩
  | .hbm, ⟨57, _⟩ => ⟨S4x128, .f32⟩
  | .hbm, ⟨58, _⟩ => ⟨S4x1x128, .f32⟩
  | .hbm, ⟨59, _⟩ => ⟨S4x64x128, .f32⟩
  | .hbm, ⟨60, _⟩ => ⟨S256x128, .f32⟩
  | .hbm, ⟨61, _⟩ => ⟨S256x128, .bf16⟩
  | .hbm, ⟨62, _⟩ => ⟨S128x256, .f32⟩
  | .hbm, ⟨63, _⟩ => ⟨S128x256, .bf16⟩
  | .hbm, ⟨64, _⟩ => ⟨S1x1x1x64, .f32⟩
  | .hbm, ⟨65, _⟩ => ⟨S1x1x16x64, .f32⟩
  | .hbm, ⟨66, _⟩ => ⟨S1x1024, .f32⟩
  | .hbm, ⟨67, _⟩ => ⟨S1x1x1x64, .f32⟩
  | .hbm, ⟨68, _⟩ => ⟨S1x1x4x64, .f32⟩
  | .hbm, ⟨69, _⟩ => ⟨S1x256, .f32⟩
  | .hbm, ⟨70, _⟩ => ⟨S16, .f32⟩
  | .hbm, ⟨71, _⟩ => ⟨S4096x1024, .bf16⟩
  | .hbm, ⟨72, _⟩ => ⟨S4096x256, .f32⟩
  | .hbm, ⟨73, _⟩ => ⟨S4096x256, .f32⟩
  | .hbm, ⟨74, _⟩ => ⟨S4096x256, .f32⟩
  | .hbm, ⟨75, _⟩ => ⟨S4096x256, .f32⟩
  | .hbm, ⟨76, _⟩ => ⟨S1x1024, .f32⟩
  | .hbm, ⟨77, _⟩ => ⟨S16x128, .f32⟩
  | .hbm, ⟨78, _⟩ => ⟨S16x64, .f32⟩
  | .hbm, ⟨79, _⟩ => ⟨S_, .f32⟩
  | .hbm, ⟨80, _⟩ => ⟨S64, .f32⟩
  | .hbm, ⟨81, _⟩ => ⟨S_, .f32⟩
  | .hbm, ⟨82, _⟩ => ⟨S16, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S1x1024, .f32⟩
  | .local _ .vmem, ⟨9, _⟩ => ⟨S1x256, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S1024x128, .bf16⟩
  | .local _ .vmem, ⟨15, _⟩ => ⟨S128x1024, .bf16⟩
  | .local _ .vmem, ⟨16, _⟩ => ⟨S256x128, .bf16⟩
  | .local _ .vmem, ⟨17, _⟩ => ⟨S128x256, .bf16⟩
  | .local _ .vmem, ⟨18, _⟩ => ⟨S128x1024, .bf16⟩
  | .local _ .vmem, ⟨19, _⟩ => ⟨S128x1024, .bf16⟩
  | .local _ .vmem, ⟨20, _⟩ => ⟨S128x256, .f32⟩
  | .local _ .vmem, ⟨21, _⟩ => ⟨S128x256, .f32⟩
  | .local _ .vmem, ⟨22, _⟩ => ⟨S128x256, .f32⟩
  | .local _ .vmem, ⟨23, _⟩ => ⟨S128x256, .f32⟩
  | .local _ .vmem, ⟨24, _⟩ => ⟨S128x256, .f32⟩
  | .local _ .vmem, ⟨25, _⟩ => ⟨S128x256, .f32⟩
  | .local _ .vmem, ⟨26, _⟩ => ⟨S128x256, .f32⟩
  | .local _ .vmem, ⟨27, _⟩ => ⟨S128x256, .f32⟩
  | .local _ .vmem, ⟨28, _⟩ => ⟨S1x1024, .f32⟩
  | .local _ .vmem, ⟨29, _⟩ => ⟨S16x128, .f32⟩
  | .local _ .vmem, ⟨30, _⟩ => ⟨S256x256, .f32⟩
  | .local _ .vmem, ⟨31, _⟩ => ⟨S256x256, .f32⟩
  | .local _ .vmem, ⟨32, _⟩ => ⟨S1x128x1024, .f32⟩
  | .local _ .vmem, ⟨33, _⟩ => ⟨S1x256x256, .f32⟩
  | .local _ .vmem, ⟨34, _⟩ => ⟨S1x256x256, .f32⟩
  | .local _ .vmem, ⟨35, _⟩ => ⟨S1x2x256x512, .f32⟩
  | .local _ .vmem, ⟨36, _⟩ => ⟨S1x2x256x512, .f32⟩
  | .local _ .vmem, ⟨37, _⟩ => ⟨S1x2x256x512, .bf16⟩
  | .local _ .vmem, ⟨38, _⟩ => ⟨S1x2x256x512, .bf16⟩
  | .local _ .vmem, ⟨39, _⟩ => ⟨S1x4x512x128, .bf16⟩
  | .local _ .vmem, ⟨40, _⟩ => ⟨S1x4x512x128, .bf16⟩
  | .local _ .vmem, ⟨41, _⟩ => ⟨S1x4x256x128, .bf16⟩
  | .local _ .vmem, ⟨42, _⟩ => ⟨S1x4x256x128, .bf16⟩
  | .local _ .smem, ⟨0, _⟩ => ⟨S16, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .smem, ⟨0, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_c : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_c_3 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58_0 : Ref sig .tc := ⟨.hbm, 71, rfl⟩
abbrev main_v58_1 : Ref sig .tc := ⟨.hbm, 72, rfl⟩
abbrev main_v58_2 : Ref sig .tc := ⟨.hbm, 73, rfl⟩
abbrev main_v58_3 : Ref sig .tc := ⟨.hbm, 74, rfl⟩
abbrev main_v58_4 : Ref sig .tc := ⟨.hbm, 75, rfl⟩
abbrev main_v58_5 : Ref sig .tc := ⟨.hbm, 76, rfl⟩
abbrev main_v58_6 : Ref sig .tc := ⟨.hbm, 77, rfl⟩
abbrev main_v59 : Ref sig .tc := ⟨.hbm, 78, rfl⟩
abbrev main_cst_4 : Ref sig .tc := ⟨.hbm, 79, rfl⟩
abbrev main_v60 : Ref sig .tc := ⟨.hbm, 80, rfl⟩
abbrev main_cst_5 : Ref sig .tc := ⟨.hbm, 81, rfl⟩
abbrev main_v61 : Ref sig .tc := ⟨.hbm, 82, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg19_0 : Ref sig .tc := ⟨.vmem, 29, rfl⟩
abbrev cc0_scratch0 : Ref sig .tc := ⟨.vmem, 30, rfl⟩
abbrev cc0_scratch1 : Ref sig .tc := ⟨.vmem, 31, rfl⟩
abbrev cc0_scratch2 : Ref sig .tc := ⟨.vmem, 32, rfl⟩
abbrev cc0_scratch3 : Ref sig .tc := ⟨.vmem, 33, rfl⟩
abbrev cc0_scratch4 : Ref sig .tc := ⟨.vmem, 34, rfl⟩
abbrev cc0_scratch5 : Ref sig .tc := ⟨.vmem, 35, rfl⟩
abbrev cc0_scratch6 : Ref sig .tc := ⟨.vmem, 36, rfl⟩
abbrev cc0_scratch7 : Ref sig .tc := ⟨.vmem, 37, rfl⟩
abbrev cc0_scratch8 : Ref sig .tc := ⟨.vmem, 38, rfl⟩
abbrev cc0_scratch9 : Ref sig .tc := ⟨.vmem, 39, rfl⟩
abbrev cc0_scratch10 : Ref sig .tc := ⟨.vmem, 40, rfl⟩
abbrev cc0_scratch11 : Ref sig .tc := ⟨.vmem, 41, rfl⟩
abbrev cc0_scratch12 : Ref sig .tc := ⟨.vmem, 42, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem19_0 : DmaSem sig := 30

abbrev nD : Nat := 1
abbrev τ : Topo := Topo.v7x

variable {F : FTy → Type} [FloatOps F]

abbrev grid0 : Pipeline.Grid := ⟨2, ![2, 16], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_15 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_16 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_17 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 1 → Memref sig .tc .vmem S1024x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S128x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S256x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S128x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S128x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S128x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S128x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S128x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S128x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S16x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]
-- ==== AttnBwdIdeal.lean ====
variable {F : FTy → Type} [FloatOps F] [Named F]
def κ : String → Option EReal := fun
  | "mask" => some ⊥
  | _ => none
-- ==== AttnRefIdeal.lean ====
abbrev S4096x1024 : Shape := ⟨2, ![4096, 1024]⟩
abbrev S4096x256 : Shape := ⟨2, ![4096, 256]⟩
abbrev S1x64 : Shape := ⟨2, ![1, 64]⟩
abbrev S1x16 : Shape := ⟨2, ![1, 16]⟩
abbrev S2x2048x4x64 : Shape := ⟨4, ![2, 2048, 4, 64]⟩
abbrev S64 : Shape := ⟨1, ![64]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S1x2048x1x32 : Shape := ⟨4, ![1, 2048, 1, 32]⟩
abbrev S2x2048x4 : Shape := ⟨3, ![2, 2048, 4]⟩
abbrev S2x2048x4x1 : Shape := ⟨4, ![2, 2048, 4, 1]⟩
abbrev S1x1x1x64 : Shape := ⟨4, ![1, 1, 1, 64]⟩
abbrev S2x2048x4x32 : Shape := ⟨4, ![2, 2048, 4, 32]⟩
abbrev S2x16x128x4x64 : Shape := ⟨5, ![2, 16, 128, 4, 64]⟩
abbrev S2x1x128x4x64 : Shape := ⟨5, ![2, 1, 128, 4, 64]⟩
abbrev S2x15x128x4x64 : Shape := ⟨5, ![2, 15, 128, 4, 64]⟩
abbrev S2x16x256x4x64 : Shape := ⟨5, ![2, 16, 256, 4, 64]⟩
abbrev S2x2048x16x64 : Shape := ⟨4, ![2, 2048, 16, 64]⟩
abbrev S16 : Shape := ⟨1, ![16]⟩
abbrev S2x2048x16 : Shape := ⟨3, ![2, 2048, 16]⟩
abbrev S2x2048x16x1 : Shape := ⟨4, ![2, 2048, 16, 1]⟩
abbrev S2x2048x16x32 : Shape := ⟨4, ![2, 2048, 16, 32]⟩
abbrev S2x16x128x4x4x64 : Shape := ⟨6, ![2, 16, 128, 4, 4, 64]⟩
abbrev S2x16x4x256x128x4 : Shape := ⟨6, ![2, 16, 4, 256, 128, 4]⟩
abbrev S2x16x4x4x128x256 : Shape := ⟨6, ![2, 16, 4, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16x1x1 : Shape := ⟨3, ![16, 1, 1]⟩
abbrev S1x1x256 : Shape := ⟨3, ![1, 1, 256]⟩
abbrev S16x1x256 : Shape := ⟨3, ![16, 1, 256]⟩
abbrev S1x128x256 : Shape := ⟨3, ![1, 128, 256]⟩
abbrev S16x128x256 : Shape := ⟨3, ![16, 128, 256]⟩
abbrev S1x16x1x1x128x256 : Shape := ⟨6, ![1, 16, 1, 1, 128, 256]⟩
abbrev S4x4 : Shape := ⟨2, ![4, 4]⟩
abbrev S1x1x4x4x1x1 : Shape := ⟨6, ![1, 1, 4, 4, 1, 1]⟩
abbrev S2x16x4x4x128 : Shape := ⟨5, ![2, 16, 4, 4, 128]⟩
abbrev S2x16x4x4x128x1 : Shape := ⟨6, ![2, 16, 4, 4, 128, 1]⟩
abbrev S2x16x4x64x4x128 : Shape := ⟨6, ![2, 16, 4, 64, 4, 128]⟩
abbrev S2x2048x1024 : Shape := ⟨3, ![2, 2048, 1024]⟩
abbrev S2x16x4x64x256 : Shape := ⟨5, ![2, 16, 4, 64, 256]⟩
abbrev S4x4x1 : Shape := ⟨3, ![4, 4, 1]⟩
abbrev S2x16x4x128x4x64 : Shape := ⟨6, ![2, 16, 4, 128, 4, 64]⟩
abbrev S2x16x4x256x64 : Shape := ⟨5, ![2, 16, 4, 256, 64]⟩

abbrev nBuf : Space → Nat
  | .hbm => 347
  | .vmem => 0
  | .smem => 0
  | _ => 0

abbrev hbmTy0_0 (i : Nat) : BufTy := match i % 128 with
  | 0 => ⟨S4096x1024, .f32⟩
  | 1 => ⟨S4096x1024, .f32⟩
  | 2 => ⟨S4096x256, .f32⟩
  | 3 => ⟨S4096x256, .f32⟩
  | 4 => ⟨S1x64, .f32⟩
  | 5 => ⟨S1x64, .f32⟩
  | 6 => ⟨S1x16, .f32⟩
  | 7 => ⟨S2x2048x4x64, .f32⟩
  | 8 => ⟨S64, .f32⟩
  | 9 => ⟨S32, .f32⟩
  | 10 => ⟨S_, .f32⟩
  | 11 => ⟨S32, .f32⟩
  | 12 => ⟨S32, .f32⟩
  | 13 => ⟨S_, .f32⟩
  | 14 => ⟨S32, .f32⟩
  | 15 => ⟨S32, .f32⟩
  | 16 => ⟨S32, .f32⟩
  | 17 => ⟨S_, .f32⟩
  | 18 => ⟨S32, .f32⟩
  | 19 => ⟨S32, .f32⟩
  | 20 => ⟨S_, .f32⟩
  | 21 => ⟨S32, .f32⟩
  | 22 => ⟨S32, .f32⟩
  | 23 => ⟨S2048, .f32⟩
  | 24 => ⟨S2048x1, .f32⟩
  | 25 => ⟨S1x32, .f32⟩
  | 26 => ⟨S2048x32, .f32⟩
  | 27 => ⟨S2048x32, .f32⟩
  | 28 => ⟨S2048x32, .f32⟩
  | 29 => ⟨S2048x32, .f32⟩
  | 30 => ⟨S1x2048x1x32, .f32⟩
  | 31 => ⟨S2048x32, .f32⟩
  | 32 => ⟨S1x2048x1x32, .f32⟩
  | 33 => ⟨S2x2048x4x64, .f32⟩
  | 34 => ⟨S_, .f32⟩
  | 35 => ⟨S2x2048x4, .f32⟩
  | 36 => ⟨S2x2048x4x1, .f32⟩
  | 37 => ⟨S_, .f32⟩
  | 38 => ⟨S2x2048x4x1, .f32⟩
  | 39 => ⟨S2x2048x4x1, .f32⟩
  | 40 => ⟨S_, .f32⟩
  | 41 => ⟨S2x2048x4x1, .f32⟩
  | 42 => ⟨S2x2048x4x1, .f32⟩
  | 43 => ⟨S2x2048x4x1, .f32⟩
  | 44 => ⟨S2x2048x4x64, .f32⟩
  | 45 => ⟨S2x2048x4x64, .f32⟩
  | 46 => ⟨S1x1x1x64, .f32⟩
  | 47 => ⟨S2x2048x4x64, .f32⟩
  | 48 => ⟨S2x2048x4x64, .f32⟩
  | 49 => ⟨S2x2048x4x32, .f32⟩
  | 50 => ⟨S2x2048x4x32, .f32⟩
  | 51 => ⟨S2x2048x4x32, .f32⟩
  | 52 => ⟨S2x2048x4x32, .f32⟩
  | 53 => ⟨S2x2048x4x32, .f32⟩
  | 54 => ⟨S2x2048x4x32, .f32⟩
  | 55 => ⟨S2x2048x4x32, .f32⟩
  | 56 => ⟨S2x2048x4x32, .f32⟩
  | 57 => ⟨S2x2048x4x32, .f32⟩
  | 58 => ⟨S2x2048x4x32, .f32⟩
  | 59 => ⟨S2x2048x4x32, .f32⟩
  | 60 => ⟨S2x2048x4x32, .f32⟩
  | 61 => ⟨S2x2048x4x64, .f32⟩
  | 62 => ⟨S2x16x128x4x64, .f32⟩
  | 63 => ⟨S_, .f32⟩
  | 64 => ⟨S2x1x128x4x64, .f32⟩
  | 65 => ⟨S2x15x128x4x64, .f32⟩
  | 66 => ⟨S2x16x128x4x64, .f32⟩
  | 67 => ⟨S2x16x256x4x64, .f32⟩
  | 68 => ⟨S2x2048x4x64, .f32⟩
  | 69 => ⟨S2x16x128x4x64, .f32⟩
  | 70 => ⟨S_, .f32⟩
  | 71 => ⟨S2x1x128x4x64, .f32⟩
  | 72 => ⟨S2x15x128x4x64, .f32⟩
  | 73 => ⟨S2x16x128x4x64, .f32⟩
  | 74 => ⟨S2x16x256x4x64, .f32⟩
  | 75 => ⟨S2x2048x16x64, .f32⟩
  | 76 => ⟨S64, .f32⟩
  | 77 => ⟨S16, .f32⟩
  | 78 => ⟨S32, .f32⟩
  | 79 => ⟨S_, .f32⟩
  | 80 => ⟨S32, .f32⟩
  | 81 => ⟨S32, .f32⟩
  | 82 => ⟨S_, .f32⟩
  | 83 => ⟨S32, .f32⟩
  | 84 => ⟨S32, .f32⟩
  | 85 => ⟨S32, .f32⟩
  | 86 => ⟨S_, .f32⟩
  | 87 => ⟨S32, .f32⟩
  | 88 => ⟨S32, .f32⟩
  | 89 => ⟨S_, .f32⟩
  | 90 => ⟨S32, .f32⟩
  | 91 => ⟨S32, .f32⟩
  | 92 => ⟨S2048, .f32⟩
  | 93 => ⟨S2048x1, .f32⟩
  | 94 => ⟨S1x32, .f32⟩
  | 95 => ⟨S2048x32, .f32⟩
  | 96 => ⟨S2048x32, .f32⟩
  | 97 => ⟨S2048x32, .f32⟩
  | 98 => ⟨S2048x32, .f32⟩
  | 99 => ⟨S1x2048x1x32, .f32⟩
  | 100 => ⟨S2048x32, .f32⟩
  | 101 => ⟨S1x2048x1x32, .f32⟩
  | 102 => ⟨S2x2048x16x64, .f32⟩
  | 103 => ⟨S_, .f32⟩
  | 104 => ⟨S2x2048x16, .f32⟩
  | 105 => ⟨S2x2048x16x1, .f32⟩
  | 106 => ⟨S_, .f32⟩
  | 107 => ⟨S2x2048x16x1, .f32⟩
  | 108 => ⟨S2x2048x16x1, .f32⟩
  | 109 => ⟨S_, .f32⟩
  | 110 => ⟨S2x2048x16x1, .f32⟩
  | 111 => ⟨S2x2048x16x1, .f32⟩
  | 112 => ⟨S2x2048x16x1, .f32⟩
  | 113 => ⟨S2x2048x16x1, .f32⟩
  | 114 => ⟨S_, .f32⟩
  | 115 => ⟨S2x2048x16x1, .f32⟩
  | 116 => ⟨S2x2048x16x1, .f32⟩
  | 117 => ⟨S2x2048x16x64, .f32⟩
  | 118 => ⟨S2x2048x16x64, .f32⟩
  | 119 => ⟨S1x1x1x64, .f32⟩
  | 120 => ⟨S2x2048x16x64, .f32⟩
  | 121 => ⟨S2x2048x16x64, .f32⟩
  | 122 => ⟨S2x2048x16x32, .f32⟩
  | 123 => ⟨S2x2048x16x32, .f32⟩
  | 124 => ⟨S2x2048x16x32, .f32⟩
  | 125 => ⟨S2x2048x16x32, .f32⟩
  | 126 => ⟨S2x2048x16x32, .f32⟩
  | 127 => ⟨S2x2048x16x32, .f32⟩
  | _ => ⟨S4096x1024, .f32⟩

abbrev hbmTy0_1 (i : Nat) : BufTy := match i % 128 with
  | 0 => ⟨S2x2048x16x32, .f32⟩
  | 1 => ⟨S2x2048x16x32, .f32⟩
  | 2 => ⟨S2x2048x16x32, .f32⟩
  | 3 => ⟨S2x2048x16x32, .f32⟩
  | 4 => ⟨S2x2048x16x32, .f32⟩
  | 5 => ⟨S2x2048x16x32, .f32⟩
  | 6 => ⟨S2x2048x16x64, .f32⟩
  | 7 => ⟨S2x16x128x4x4x64, .f32⟩
  | 8 => ⟨S2x16x4x256x128x4, .f32⟩
  | 9 => ⟨S2x16x4x4x128x256, .f32⟩
  | 10 => ⟨S_, .f32⟩
  | 11 => ⟨S2x16x4x4x128x256, .f32⟩
  | 12 => ⟨S2x16x4x4x128x256, .f32⟩
  | 13 => ⟨S128, .i32⟩
  | 14 => ⟨S128x1, .i32⟩
  | 15 => ⟨S256, .i32⟩
  | 16 => ⟨S1x256, .i32⟩
  | 17 => ⟨S_, .i32⟩
  | 18 => ⟨S128x1, .i32⟩
  | 19 => ⟨S128x1, .i32⟩
  | 20 => ⟨S128x256, .i32⟩
  | 21 => ⟨S128x256, .i32⟩
  | 22 => ⟨S128x256, .i32⟩
  | 23 => ⟨S16, .i32⟩
  | 24 => ⟨S16x1x1, .i32⟩
  | 25 => ⟨S_, .i32⟩
  | 26 => ⟨S128x256, .i32⟩
  | 27 => ⟨S128x256, .i1⟩
  | 28 => ⟨S_, .i32⟩
  | 29 => ⟨S128x256, .i32⟩
  | 30 => ⟨S128x256, .i1⟩
  | 31 => ⟨S128x256, .i1⟩
  | 32 => ⟨S_, .i32⟩
  | 33 => ⟨S16x1x1, .i32⟩
  | 34 => ⟨S16x1x1, .i32⟩
  | 35 => ⟨S_, .i32⟩
  | 36 => ⟨S16x1x1, .i32⟩
  | 37 => ⟨S16x1x1, .i32⟩
  | 38 => ⟨S1x1x256, .i32⟩
  | 39 => ⟨S16x1x256, .i32⟩
  | 40 => ⟨S16x1x256, .i32⟩
  | 41 => ⟨S16x1x256, .i32⟩
  | 42 => ⟨S_, .i32⟩
  | 43 => ⟨S16x1x256, .i32⟩
  | 44 => ⟨S16x1x256, .i1⟩
  | 45 => ⟨S1x128x256, .i1⟩
  | 46 => ⟨S16x128x256, .i1⟩
  | 47 => ⟨S16x128x256, .i1⟩
  | 48 => ⟨S16x128x256, .i1⟩
  | 49 => ⟨S1x16x1x1x128x256, .i1⟩
  | 50 => ⟨S_, .f32⟩
  | 51 => ⟨S_, .f32⟩
  | 52 => ⟨S2x16x4x4x128x256, .i1⟩
  | 53 => ⟨S2x16x4x4x128x256, .f32⟩
  | 54 => ⟨S2x16x4x4x128x256, .f32⟩
  | 55 => ⟨S_, .f32⟩
  | 56 => ⟨S2x16x4x4x128x256, .f32⟩
  | 57 => ⟨S4x4, .f32⟩
  | 58 => ⟨S1x1x4x4x1x1, .f32⟩
  | 59 => ⟨S_, .f32⟩
  | 60 => ⟨S2x16x4x4x128, .f32⟩
  | 61 => ⟨S2x16x4x4x128x1, .f32⟩
  | 62 => ⟨S2x16x4x4x128x256, .f32⟩
  | 63 => ⟨S2x16x4x4x128x256, .i1⟩
  | 64 => ⟨S2x16x4x4x128x256, .f32⟩
  | 65 => ⟨S_, .f32⟩
  | 66 => ⟨S2x16x4x4x128, .f32⟩
  | 67 => ⟨S2x16x4x4x128x1, .f32⟩
  | 68 => ⟨S2x16x4x4x128x1, .f32⟩
  | 69 => ⟨S2x16x4x4x128x1, .f32⟩
  | 70 => ⟨S2x16x4x4x128x1, .f32⟩
  | 71 => ⟨S2x16x4x4x128x1, .i1⟩
  | 72 => ⟨S2x16x4x4x128x1, .f32⟩
  | 73 => ⟨S2x16x4x4x128x1, .i1⟩
  | 74 => ⟨S_, .f32⟩
  | 75 => ⟨S2x16x4x4x128x1, .f32⟩
  | 76 => ⟨S_, .f32⟩
  | 77 => ⟨S2x16x4x4x128x1, .f32⟩
  | 78 => ⟨S_, .f32⟩
  | 79 => ⟨S2x16x4x4x128x1, .f32⟩
  | 80 => ⟨S2x16x4x4x128x1, .f32⟩
  | 81 => ⟨S2x16x4x4x128x1, .f32⟩
  | 82 => ⟨S2x16x4x4x128x1, .f32⟩
  | 83 => ⟨S2x16x4x4x128x1, .i1⟩
  | 84 => ⟨S2x16x4x4x128x1, .f32⟩
  | 85 => ⟨S2x16x4x4x128x1, .i1⟩
  | 86 => ⟨S_, .f32⟩
  | 87 => ⟨S2x16x4x4x128x1, .f32⟩
  | 88 => ⟨S_, .f32⟩
  | 89 => ⟨S2x16x4x4x128x1, .f32⟩
  | 90 => ⟨S_, .f32⟩
  | 91 => ⟨S2x16x4x4x128x1, .f32⟩
  | 92 => ⟨S2x16x4x4x128x1, .f32⟩
  | 93 => ⟨S2x16x4x4x128x1, .f32⟩
  | 94 => ⟨S2x16x4x4x128x256, .f32⟩
  | 95 => ⟨S2x16x4x4x128x256, .f32⟩
  | 96 => ⟨S2x16x4x4x128x256, .f32⟩
  | 97 => ⟨S_, .f32⟩
  | 98 => ⟨S2x16x4x4x128, .f32⟩
  | 99 => ⟨S2x16x4x4x128x1, .f32⟩
  | 100 => ⟨S2x16x4x4x128x1, .f32⟩
  | 101 => ⟨S2x16x4x4x128x1, .f32⟩
  | 102 => ⟨S2x16x4x4x128x1, .f32⟩
  | 103 => ⟨S2x16x4x4x128x1, .f32⟩
  | 104 => ⟨S2x16x4x4x128x256, .f32⟩
  | 105 => ⟨S2x16x4x4x128x256, .f32⟩
  | 106 => ⟨S2x16x4x4x128x1, .f32⟩
  | 107 => ⟨S_, .f32⟩
  | 108 => ⟨S2x16x4x4x128x1, .f32⟩
  | 109 => ⟨S2x16x4x4x128x1, .f32⟩
  | 110 => ⟨S2x16x4x64x4x128, .f32⟩
  | 111 => ⟨S2x16x128x4x4x64, .f32⟩
  | 112 => ⟨S2x2048x1024, .f32⟩
  | 113 => ⟨S2x2048x1024, .f32⟩
  | 114 => ⟨S2x16x128x4x4x64, .f32⟩
  | 115 => ⟨S2x16x4x64x4x128, .f32⟩
  | 116 => ⟨S2x16x4x4x128x256, .f32⟩
  | 117 => ⟨S2x16x4x64x256, .f32⟩
  | 118 => ⟨S2x16x256x4x64, .f32⟩
  | 119 => ⟨S2x16x4x4x128x256, .f32⟩
  | 120 => ⟨S2x16x4x4x128x256, .f32⟩
  | 121 => ⟨S2x16x4x4x128x256, .f32⟩
  | 122 => ⟨S_, .f32⟩
  | 123 => ⟨S2x16x4x4x128, .f32⟩
  | 124 => ⟨S2x16x4x4x128x1, .f32⟩
  | 125 => ⟨S2x16x4x4x128x1, .f32⟩
  | 126 => ⟨S2x16x4x4x128x256, .f32⟩
  | 127 => ⟨S2x16x4x4x128x256, .f32⟩
  | _ => ⟨S4096x1024, .f32⟩

abbrev hbmTy0_2 (i : Nat) : BufTy := match i % 128 with
  | 0 => ⟨S2x16x4x4x128x1, .f32⟩
  | 1 => ⟨S_, .f32⟩
  | 2 => ⟨S4x4x1, .f32⟩
  | 3 => ⟨S1x1x4x4x1x1, .f32⟩
  | 4 => ⟨S2x16x4x4x128x1, .f32⟩
  | 5 => ⟨S_, .f32⟩
  | 6 => ⟨S2x16x4x4x128, .f32⟩
  | 7 => ⟨S2x16x4x4x128x256, .f32⟩
  | 8 => ⟨S2x16x4x4x128x256, .f32⟩
  | 9 => ⟨S2x16x4x4x128x256, .f32⟩
  | 10 => ⟨S2x16x4x4x128x256, .f32⟩
  | 11 => ⟨S_, .f32⟩
  | 12 => ⟨S2x16x4x4x128, .f32⟩
  | 13 => ⟨S2x16x4x4x128x1, .f32⟩
  | 14 => ⟨S2x16x4x4x128x1, .f32⟩
  | 15 => ⟨S2x16x4x4x128x1, .f32⟩
  | 16 => ⟨S_, .f32⟩
  | 17 => ⟨S4x4x1, .f32⟩
  | 18 => ⟨S1x1x4x4x1x1, .f32⟩
  | 19 => ⟨S1x1x4x4x1x1, .f32⟩
  | 20 => ⟨S2x16x4x4x128x1, .f32⟩
  | 21 => ⟨S_, .f32⟩
  | 22 => ⟨S2x16x4x4x128, .f32⟩
  | 23 => ⟨S2x16x4x4x128, .f32⟩
  | 24 => ⟨S2x16x4x4x128x256, .f32⟩
  | 25 => ⟨S2x16x4x4x128x256, .f32⟩
  | 26 => ⟨S2x16x4x4x128x256, .f32⟩
  | 27 => ⟨S_, .f32⟩
  | 28 => ⟨S4x4, .f32⟩
  | 29 => ⟨S16, .f32⟩
  | 30 => ⟨S_, .f32⟩
  | 31 => ⟨S2x16x4x4x128x256, .f32⟩
  | 32 => ⟨S2x16x4x4x128x256, .f32⟩
  | 33 => ⟨S_, .f32⟩
  | 34 => ⟨S2x16x4x4x128x256, .f32⟩
  | 35 => ⟨S2x16x4x4x128x256, .f32⟩
  | 36 => ⟨S2x16x4x256x128x4, .f32⟩
  | 37 => ⟨S2x16x4x128x4x64, .f32⟩
  | 38 => ⟨S2x16x128x4x4x64, .f32⟩
  | 39 => ⟨S2x16x4x256x64, .f32⟩
  | 40 => ⟨S2x16x256x4x64, .f32⟩
  | 41 => ⟨S2x2048x16x64, .f32⟩
  | 42 => ⟨S2x2048x16x32, .f32⟩
  | 43 => ⟨S2x2048x16x32, .f32⟩
  | 44 => ⟨S2x2048x16x32, .f32⟩
  | 45 => ⟨S2x2048x16x32, .f32⟩
  | 46 => ⟨S2x2048x16x32, .f32⟩
  | 47 => ⟨S2x2048x16x32, .f32⟩
  | 48 => ⟨S2x2048x16x32, .f32⟩
  | 49 => ⟨S2x2048x16x32, .f32⟩
  | 50 => ⟨S2x2048x16x32, .f32⟩
  | 51 => ⟨S2x2048x16x32, .f32⟩
  | 52 => ⟨S2x2048x16x32, .f32⟩
  | 53 => ⟨S2x2048x16x32, .f32⟩
  | 54 => ⟨S2x2048x16x32, .f32⟩
  | 55 => ⟨S2x2048x16x64, .f32⟩
  | 56 => ⟨S2x2048x16x64, .f32⟩
  | 57 => ⟨S_, .f32⟩
  | 58 => ⟨S64, .f32⟩
  | 59 => ⟨S1x1x1x64, .f32⟩
  | 60 => ⟨S2x2048x16x64, .f32⟩
  | 61 => ⟨S2x2048x16x64, .f32⟩
  | 62 => ⟨S_, .f32⟩
  | 63 => ⟨S64, .f32⟩
  | 64 => ⟨S2x2048x16x64, .f32⟩
  | 65 => ⟨S_, .f32⟩
  | 66 => ⟨S2x2048x16, .f32⟩
  | 67 => ⟨S2x2048x16x1, .f32⟩
  | 68 => ⟨S2x2048x16x64, .f32⟩
  | 69 => ⟨S2x2048x16x64, .f32⟩
  | 70 => ⟨S2x2048x16x1, .f32⟩
  | 71 => ⟨S_, .f32⟩
  | 72 => ⟨S2x2048x16x1, .f32⟩
  | 73 => ⟨S2x2048x16x1, .f32⟩
  | 74 => ⟨S_, .f32⟩
  | 75 => ⟨S2x2048x16, .f32⟩
  | 76 => ⟨S2x2048x16x64, .f32⟩
  | 77 => ⟨S2x2048x16x64, .f32⟩
  | 78 => ⟨S2x2048x16x64, .f32⟩
  | 79 => ⟨S2x2048x16x64, .f32⟩
  | 80 => ⟨S2x2048x16x64, .f32⟩
  | 81 => ⟨S4096x1024, .f32⟩
  | 82 => ⟨S4096x1024, .bf16⟩
  | 83 => ⟨S2x16x128x4x64, .f32⟩
  | 84 => ⟨S4096x256, .f32⟩
  | 85 => ⟨S2x16x128x4x64, .f32⟩
  | 86 => ⟨S4096x256, .f32⟩
  | 87 => ⟨S2x16x128x4x64, .f32⟩
  | 88 => ⟨S4096x256, .f32⟩
  | 89 => ⟨S2x16x128x4x64, .f32⟩
  | 90 => ⟨S4096x256, .f32⟩
  | _ => ⟨S4096x1024, .f32⟩

abbrev hbmTy (i : Nat) : BufTy := match i / 128 with
  | 0 => hbmTy0_0 i
  | 1 => hbmTy0_1 i
  | 2 => hbmTy0_2 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_6 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_7 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_cst_8 : Ref sig .tc := ⟨.hbm, 79, rfl⟩
abbrev main_v63 : Ref sig .tc := ⟨.hbm, 80, rfl⟩
abbrev main_v64 : Ref sig .tc := ⟨.hbm, 81, rfl⟩
abbrev main_cst_9 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_cst_10 : Ref sig .tc := ⟨.hbm, 86, rfl⟩
abbrev main_v68 : Ref sig .tc := ⟨.hbm, 87, rfl⟩
abbrev main_v69 : Ref sig .tc := ⟨.hbm, 88, rfl⟩
abbrev main_cst_11 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_cst_12 : Ref sig .tc := ⟨.hbm, 103, rfl⟩
abbrev main_v83 : Ref sig .tc := ⟨.hbm, 104, rfl⟩
abbrev main_v84 : Ref sig .tc := ⟨.hbm, 105, rfl⟩
abbrev main_cst_13 : Ref sig .tc := ⟨.hbm, 106, rfl⟩
abbrev main_v85 : Ref sig .tc := ⟨.hbm, 107, rfl⟩
abbrev main_v86 : Ref sig .tc := ⟨.hbm, 108, rfl⟩
abbrev main_cst_14 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_cst_15 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_cst_16 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_c : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_c_17 : Ref sig .tc := ⟨.hbm, 153, rfl⟩
abbrev main_v127 : Ref sig .tc := ⟨.hbm, 154, rfl⟩
abbrev main_v128 : Ref sig .tc := ⟨.hbm, 155, rfl⟩
abbrev main_c_18 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_c_19 : Ref sig .tc := ⟨.hbm, 160, rfl⟩
abbrev main_v132 : Ref sig .tc := ⟨.hbm, 161, rfl⟩
abbrev main_v133 : Ref sig .tc := ⟨.hbm, 162, rfl⟩
abbrev main_c_20 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_c_21 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_cst_22 : Ref sig .tc := ⟨.hbm, 178, rfl⟩
abbrev main_call0_v0 : Ref sig .tc := ⟨.hbm, 179, rfl⟩
abbrev main_v147_1 : Ref sig .tc := ⟨.hbm, 180, rfl⟩
abbrev main_call0_v2 : Ref sig .tc := ⟨.hbm, 181, rfl⟩
abbrev main_v147_0 : Ref sig .tc := ⟨.hbm, 182, rfl⟩
abbrev main_call0_cst : Ref sig .tc := ⟨.hbm, 183, rfl⟩
abbrev main_v147_2 : Ref sig .tc := ⟨.hbm, 184, rfl⟩
abbrev main_v148 : Ref sig .tc := ⟨.hbm, 185, rfl⟩
abbrev main_v149 : Ref sig .tc := ⟨.hbm, 186, rfl⟩
abbrev main_cst_23 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩
abbrev main_cst_24 : Ref sig .tc := ⟨.hbm, 193, rfl⟩
abbrev main_v155 : Ref sig .tc := ⟨.hbm, 194, rfl⟩
abbrev main_v156 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_v161 : Ref sig .tc := ⟨.hbm, 200, rfl⟩
abbrev main_v162 : Ref sig .tc := ⟨.hbm, 201, rfl⟩
abbrev main_cst_25 : Ref sig .tc := ⟨.hbm, 202, rfl⟩
abbrev main_v163 : Ref sig .tc := ⟨.hbm, 203, rfl⟩
abbrev main_cst_26 : Ref sig .tc := ⟨.hbm, 204, rfl⟩
abbrev main_v164 : Ref sig .tc := ⟨.hbm, 205, rfl⟩
abbrev main_cst_27 : Ref sig .tc := ⟨.hbm, 206, rfl⟩
abbrev main_v165 : Ref sig .tc := ⟨.hbm, 207, rfl⟩
abbrev main_v166 : Ref sig .tc := ⟨.hbm, 208, rfl⟩
abbrev main_v167 : Ref sig .tc := ⟨.hbm, 209, rfl⟩
abbrev main_v168 : Ref sig .tc := ⟨.hbm, 210, rfl⟩
abbrev main_v169 : Ref sig .tc := ⟨.hbm, 211, rfl⟩
abbrev main_v170 : Ref sig .tc := ⟨.hbm, 212, rfl⟩
abbrev main_v171 : Ref sig .tc := ⟨.hbm, 213, rfl⟩
abbrev main_cst_28 : Ref sig .tc := ⟨.hbm, 214, rfl⟩
abbrev main_v172 : Ref sig .tc := ⟨.hbm, 215, rfl⟩
abbrev main_cst_29 : Ref sig .tc := ⟨.hbm, 216, rfl⟩
abbrev main_v173 : Ref sig .tc := ⟨.hbm, 217, rfl⟩
abbrev main_cst_30 : Ref sig .tc := ⟨.hbm, 218, rfl⟩
abbrev main_v174 : Ref sig .tc := ⟨.hbm, 219, rfl⟩
abbrev main_v175 : Ref sig .tc := ⟨.hbm, 220, rfl⟩
abbrev main_v176 : Ref sig .tc := ⟨.hbm, 221, rfl⟩
abbrev main_v177 : Ref sig .tc := ⟨.hbm, 222, rfl⟩
abbrev main_v178 : Ref sig .tc := ⟨.hbm, 223, rfl⟩
abbrev main_v179 : Ref sig .tc := ⟨.hbm, 224, rfl⟩
abbrev main_cst_31 : Ref sig .tc := ⟨.hbm, 225, rfl⟩
abbrev main_v180 : Ref sig .tc := ⟨.hbm, 226, rfl⟩
abbrev main_v181 : Ref sig .tc := ⟨.hbm, 227, rfl⟩
abbrev main_v182 : Ref sig .tc := ⟨.hbm, 228, rfl⟩
abbrev main_v183 : Ref sig .tc := ⟨.hbm, 229, rfl⟩
abbrev main_v184 : Ref sig .tc := ⟨.hbm, 230, rfl⟩
abbrev main_v185 : Ref sig .tc := ⟨.hbm, 231, rfl⟩
abbrev main_v186 : Ref sig .tc := ⟨.hbm, 232, rfl⟩
abbrev main_v187 : Ref sig .tc := ⟨.hbm, 233, rfl⟩
abbrev main_v188 : Ref sig .tc := ⟨.hbm, 234, rfl⟩
abbrev main_cst_32 : Ref sig .tc := ⟨.hbm, 235, rfl⟩
abbrev main_v189 : Ref sig .tc := ⟨.hbm, 236, rfl⟩
abbrev main_v190 : Ref sig .tc := ⟨.hbm, 237, rfl⟩
abbrev main_v191 : Ref sig .tc := ⟨.hbm, 238, rfl⟩
abbrev main_v192 : Ref sig .tc := ⟨.hbm, 239, rfl⟩
abbrev main_v193 : Ref sig .tc := ⟨.hbm, 240, rfl⟩
abbrev main_v194 : Ref sig .tc := ⟨.hbm, 241, rfl⟩
abbrev main_v195 : Ref sig .tc := ⟨.hbm, 242, rfl⟩
abbrev main_v196 : Ref sig .tc := ⟨.hbm, 243, rfl⟩
abbrev main_v197 : Ref sig .tc := ⟨.hbm, 244, rfl⟩
abbrev main_v198 : Ref sig .tc := ⟨.hbm, 245, rfl⟩
abbrev main_v199 : Ref sig .tc := ⟨.hbm, 246, rfl⟩
abbrev main_v200 : Ref sig .tc := ⟨.hbm, 247, rfl⟩
abbrev main_v201 : Ref sig .tc := ⟨.hbm, 248, rfl⟩
abbrev main_v202 : Ref sig .tc := ⟨.hbm, 249, rfl⟩
abbrev main_cst_33 : Ref sig .tc := ⟨.hbm, 250, rfl⟩
abbrev main_v203 : Ref sig .tc := ⟨.hbm, 251, rfl⟩
abbrev main_v204 : Ref sig .tc := ⟨.hbm, 252, rfl⟩
abbrev main_v205 : Ref sig .tc := ⟨.hbm, 253, rfl⟩
abbrev main_v206 : Ref sig .tc := ⟨.hbm, 254, rfl⟩
abbrev main_v207 : Ref sig .tc := ⟨.hbm, 255, rfl⟩
abbrev main_v208 : Ref sig .tc := ⟨.hbm, 256, rfl⟩
abbrev main_cst_34 : Ref sig .tc := ⟨.hbm, 257, rfl⟩
abbrev main_v209 : Ref sig .tc := ⟨.hbm, 258, rfl⟩
abbrev main_v210 : Ref sig .tc := ⟨.hbm, 259, rfl⟩
abbrev main_v211 : Ref sig .tc := ⟨.hbm, 260, rfl⟩
abbrev main_cst_35 : Ref sig .tc := ⟨.hbm, 261, rfl⟩
abbrev main_v212 : Ref sig .tc := ⟨.hbm, 262, rfl⟩
abbrev main_v213 : Ref sig .tc := ⟨.hbm, 263, rfl⟩
abbrev main_v214 : Ref sig .tc := ⟨.hbm, 264, rfl⟩
abbrev main_v215 : Ref sig .tc := ⟨.hbm, 265, rfl⟩
abbrev main_v216 : Ref sig .tc := ⟨.hbm, 266, rfl⟩
abbrev main_cst_36 : Ref sig .tc := ⟨.hbm, 267, rfl⟩
abbrev main_v217 : Ref sig .tc := ⟨.hbm, 268, rfl⟩
abbrev main_v218 : Ref sig .tc := ⟨.hbm, 269, rfl⟩
abbrev main_v219 : Ref sig .tc := ⟨.hbm, 270, rfl⟩
abbrev main_v220 : Ref sig .tc := ⟨.hbm, 271, rfl⟩
abbrev main_cst_37 : Ref sig .tc := ⟨.hbm, 272, rfl⟩
abbrev main_v221 : Ref sig .tc := ⟨.hbm, 273, rfl⟩
abbrev main_v222 : Ref sig .tc := ⟨.hbm, 274, rfl⟩
abbrev main_v223 : Ref sig .tc := ⟨.hbm, 275, rfl⟩
abbrev main_v224 : Ref sig .tc := ⟨.hbm, 276, rfl⟩
abbrev main_cst_38 : Ref sig .tc := ⟨.hbm, 277, rfl⟩
abbrev main_v225 : Ref sig .tc := ⟨.hbm, 278, rfl⟩
abbrev main_v226 : Ref sig .tc := ⟨.hbm, 279, rfl⟩
abbrev main_v227 : Ref sig .tc := ⟨.hbm, 280, rfl⟩
abbrev main_v228 : Ref sig .tc := ⟨.hbm, 281, rfl⟩
abbrev main_v229 : Ref sig .tc := ⟨.hbm, 282, rfl⟩
abbrev main_cst_39 : Ref sig .tc := ⟨.hbm, 283, rfl⟩
abbrev main_v230 : Ref sig .tc := ⟨.hbm, 284, rfl⟩
abbrev main_v231 : Ref sig .tc := ⟨.hbm, 285, rfl⟩
abbrev main_call1_cst : Ref sig .tc := ⟨.hbm, 286, rfl⟩
abbrev main_call1_v0 : Ref sig .tc := ⟨.hbm, 287, rfl⟩
abbrev main_v232 : Ref sig .tc := ⟨.hbm, 288, rfl⟩
abbrev main_cst_40 : Ref sig .tc := ⟨.hbm, 289, rfl⟩
abbrev main_v233 : Ref sig .tc := ⟨.hbm, 290, rfl⟩
abbrev main_v234 : Ref sig .tc := ⟨.hbm, 291, rfl⟩
abbrev main_v235 : Ref sig .tc := ⟨.hbm, 292, rfl⟩
abbrev main_v236 : Ref sig .tc := ⟨.hbm, 293, rfl⟩
abbrev main_v237 : Ref sig .tc := ⟨.hbm, 294, rfl⟩
abbrev main_v238 : Ref sig .tc := ⟨.hbm, 295, rfl⟩
abbrev main_v239 : Ref sig .tc := ⟨.hbm, 296, rfl⟩
abbrev main_v240 : Ref sig .tc := ⟨.hbm, 297, rfl⟩
abbrev main_v241 : Ref sig .tc := ⟨.hbm, 298, rfl⟩
abbrev main_v242 : Ref sig .tc := ⟨.hbm, 299, rfl⟩
abbrev main_v243 : Ref sig .tc := ⟨.hbm, 300, rfl⟩
abbrev main_v244 : Ref sig .tc := ⟨.hbm, 301, rfl⟩
abbrev main_v245 : Ref sig .tc := ⟨.hbm, 302, rfl⟩
abbrev main_v246 : Ref sig .tc := ⟨.hbm, 303, rfl⟩
abbrev main_v247 : Ref sig .tc := ⟨.hbm, 304, rfl⟩
abbrev main_v248 : Ref sig .tc := ⟨.hbm, 305, rfl⟩
abbrev main_v249 : Ref sig .tc := ⟨.hbm, 306, rfl⟩
abbrev main_v250 : Ref sig .tc := ⟨.hbm, 307, rfl⟩
abbrev main_v251 : Ref sig .tc := ⟨.hbm, 308, rfl⟩
abbrev main_v252 : Ref sig .tc := ⟨.hbm, 309, rfl⟩
abbrev main_v253 : Ref sig .tc := ⟨.hbm, 310, rfl⟩
abbrev main_v254 : Ref sig .tc := ⟨.hbm, 311, rfl⟩
abbrev main_v255 : Ref sig .tc := ⟨.hbm, 312, rfl⟩
abbrev main_cst_41 : Ref sig .tc := ⟨.hbm, 313, rfl⟩
abbrev main_v256 : Ref sig .tc := ⟨.hbm, 314, rfl⟩
abbrev main_v257 : Ref sig .tc := ⟨.hbm, 315, rfl⟩
abbrev main_v258 : Ref sig .tc := ⟨.hbm, 316, rfl⟩
abbrev main_v259 : Ref sig .tc := ⟨.hbm, 317, rfl⟩
abbrev main_cst_42 : Ref sig .tc := ⟨.hbm, 318, rfl⟩
abbrev main_v260 : Ref sig .tc := ⟨.hbm, 319, rfl⟩
abbrev main_v261 : Ref sig .tc := ⟨.hbm, 320, rfl⟩
abbrev main_cst_43 : Ref sig .tc := ⟨.hbm, 321, rfl⟩
abbrev main_v262 : Ref sig .tc := ⟨.hbm, 322, rfl⟩
abbrev main_v263 : Ref sig .tc := ⟨.hbm, 323, rfl⟩
abbrev main_v264 : Ref sig .tc := ⟨.hbm, 324, rfl⟩
abbrev main_v265 : Ref sig .tc := ⟨.hbm, 325, rfl⟩
abbrev main_v266 : Ref sig .tc := ⟨.hbm, 326, rfl⟩
abbrev main_cst_44 : Ref sig .tc := ⟨.hbm, 327, rfl⟩
abbrev main_v267 : Ref sig .tc := ⟨.hbm, 328, rfl⟩
abbrev main_v268 : Ref sig .tc := ⟨.hbm, 329, rfl⟩
abbrev main_cst_45 : Ref sig .tc := ⟨.hbm, 330, rfl⟩
abbrev main_v269 : Ref sig .tc := ⟨.hbm, 331, rfl⟩
abbrev main_v270 : Ref sig .tc := ⟨.hbm, 332, rfl⟩
abbrev main_v271 : Ref sig .tc := ⟨.hbm, 333, rfl⟩
abbrev main_v272 : Ref sig .tc := ⟨.hbm, 334, rfl⟩
abbrev main_v273 : Ref sig .tc := ⟨.hbm, 335, rfl⟩
abbrev main_v274 : Ref sig .tc := ⟨.hbm, 336, rfl⟩
abbrev main_v275 : Ref sig .tc := ⟨.hbm, 337, rfl⟩
abbrev main_v276 : Ref sig .tc := ⟨.hbm, 338, rfl⟩
abbrev main_v277 : Ref sig .tc := ⟨.hbm, 339, rfl⟩
abbrev main_v278 : Ref sig .tc := ⟨.hbm, 340, rfl⟩
abbrev main_v279 : Ref sig .tc := ⟨.hbm, 341, rfl⟩
abbrev main_v280 : Ref sig .tc := ⟨.hbm, 342, rfl⟩
abbrev main_v281 : Ref sig .tc := ⟨.hbm, 343, rfl⟩
abbrev main_v282 : Ref sig .tc := ⟨.hbm, 344, rfl⟩
abbrev main_v283 : Ref sig .tc := ⟨.hbm, 345, rfl⟩
abbrev main_v284 : Ref sig .tc := ⟨.hbm, 346, rfl⟩

abbrev nD : Nat := 1
abbrev τ : Topo := Topo.v7x

variable {F : FTy → Type} [FloatOps F]
-- ==== InprojFwd.lean ====
abbrev S4096x1024 : Shape := ⟨2, ![4096, 1024]⟩
abbrev S1x1024 : Shape := ⟨2, ![1, 1024]⟩
abbrev S1x1024x5632 : Shape := ⟨3, ![1, 1024, 5632]⟩
abbrev S1024x5632 : Shape := ⟨2, ![1024, 5632]⟩
abbrev S1024x4x1408 : Shape := ⟨3, ![1024, 4, 1408]⟩
abbrev S4x1024x1408 : Shape := ⟨3, ![4, 1024, 1408]⟩
abbrev S4096x256 : Shape := ⟨2, ![4096, 256]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩
abbrev S1x1024x1408 : Shape := ⟨3, ![1, 1024, 1408]⟩
abbrev S1024x1408 : Shape := ⟨2, ![1024, 1408]⟩
abbrev S512x1408 : Shape := ⟨2, ![512, 1408]⟩
abbrev S512x384 : Shape := ⟨2, ![512, 384]⟩
abbrev S512x640 : Shape := ⟨2, ![512, 640]⟩
abbrev S512x768 : Shape := ⟨2, ![512, 768]⟩

abbrev nBuf : Space → Nat
  | .hbm => 15
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024x5632, .f32⟩
  | .hbm, ⟨3, _⟩ => ⟨S1024x5632, .f32⟩
  | .hbm, ⟨4, _⟩ => ⟨S1024x5632, .bf16⟩
  | .hbm, ⟨5, _⟩ => ⟨S1024x4x1408, .bf16⟩
  | .hbm, ⟨6, _⟩ => ⟨S4x1024x1408, .bf16⟩
  | .hbm, ⟨7, _⟩ => ⟨S4096x1024, .bf16⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x256, .f32⟩
  | .hbm, ⟨12, _⟩ => ⟨S4096x256, .f32⟩
  | .hbm, ⟨13, _⟩ => ⟨S4096x1024, .f32⟩
  | .hbm, ⟨14, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x1024x1408, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev main_v4_3 : Ref sig .tc := ⟨.hbm, 10, rfl⟩
abbrev main_v4_4 : Ref sig .tc := ⟨.hbm, 11, rfl⟩
abbrev main_v4_5 : Ref sig .tc := ⟨.hbm, 12, rfl⟩
abbrev main_v4_6 : Ref sig .tc := ⟨.hbm, 13, rfl⟩
abbrev main_v4_7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x1408 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== InprojFwdRefIdeal.lean ====
abbrev S4096x1024 : Shape := ⟨2, ![4096, 1024]⟩
abbrev S1x1024 : Shape := ⟨2, ![1, 1024]⟩
abbrev S1x1024x5632 : Shape := ⟨3, ![1, 1024, 5632]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x5632 : Shape := ⟨2, ![1024, 5632]⟩
abbrev S4096x5632 : Shape := ⟨2, ![4096, 5632]⟩
abbrev S4096x256 : Shape := ⟨2, ![4096, 256]⟩

abbrev nBuf : Space → Nat
  | .hbm => 30
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024x5632, .f32⟩
  | .hbm, ⟨3, _⟩ => ⟨S1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S1024x5632, .f32⟩
  | .hbm, ⟨21, _⟩ => ⟨S4096x5632, .f32⟩
  | .hbm, ⟨22, _⟩ => ⟨S4096x1024, .bf16⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x256, .f32⟩
  | .hbm, ⟨27, _⟩ => ⟨S4096x256, .f32⟩
  | .hbm, ⟨28, _⟩ => ⟨S4096x1024, .f32⟩
  | .hbm, ⟨29, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]
-- ==== MergeFwd.lean ====
abbrev S4096x1024 : Shape := ⟨2, ![4096, 1024]⟩
abbrev S1x1024x1024 : Shape := ⟨3, ![1, 1024, 1024]⟩
abbrev S1024x1024 : Shape := ⟨2, ![1024, 1024]⟩
abbrev S512x1024 : Shape := ⟨2, ![512, 1024]⟩

abbrev nBuf : Space → Nat
  | .hbm => 16
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S4096x1024, .bf16⟩
  | .hbm, ⟨3, _⟩ => ⟨S4096x1024, .f32⟩
  | .hbm, ⟨4, _⟩ => ⟨S4096x1024, .f32⟩
  | .hbm, ⟨5, _⟩ => ⟨S1x1024x1024, .f32⟩
  | .hbm, ⟨6, _⟩ => ⟨S1x1024x1024, .f32⟩
  | .hbm, ⟨7, _⟩ => ⟨S1x1024x1024, .f32⟩
  | .hbm, ⟨8, _⟩ => ⟨S1024x1024, .f32⟩
  | .hbm, ⟨9, _⟩ => ⟨S1024x1024, .bf16⟩
  | .hbm, ⟨10, _⟩ => ⟨S1024x1024, .f32⟩
  | .hbm, ⟨11, _⟩ => ⟨S1024x1024, .bf16⟩
  | .hbm, ⟨12, _⟩ => ⟨S1024x1024, .f32⟩
  | .hbm, ⟨13, _⟩ => ⟨S1024x1024, .bf16⟩
  | .hbm, ⟨14, _⟩ => ⟨S4096x1024, .f32⟩
  | .hbm, ⟨15, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MergeFwdRefIdeal.lean ====
abbrev S4096x1024 : Shape := ⟨2, ![4096, 1024]⟩
abbrev S1x1024x1024 : Shape := ⟨3, ![1, 1024, 1024]⟩
abbrev S1024x1024 : Shape := ⟨2, ![1024, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S4096x1024, .bf16⟩
  | .hbm, ⟨3, _⟩ => ⟨S4096x1024, .f32⟩
  | .hbm, ⟨4, _⟩ => ⟨S4096x1024, .f32⟩
  | .hbm, ⟨5, _⟩ => ⟨S1x1024x1024, .f32⟩
  | .hbm, ⟨6, _⟩ => ⟨S1x1024x1024, .f32⟩
  | .hbm, ⟨7, _⟩ => ⟨S1x1024x1024, .f32⟩
  | .hbm, ⟨8, _⟩ => ⟨S4096x1024, .f32⟩
  | .hbm, ⟨9, _⟩ => ⟨S1024x1024, .f32⟩
  | .hbm, ⟨10, _⟩ => ⟨S4096x1024, .f32⟩
  | .hbm, ⟨11, _⟩ => ⟨S4096x1024, .f32⟩
  | .hbm, ⟨12, _⟩ => ⟨S1024x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S1024x1024, .f32⟩
  | .hbm, ⟨34, _⟩ => ⟨S4096x1024, .f32⟩
  | .hbm, ⟨35, _⟩ => ⟨S4096x1024, .f32⟩
  | .hbm, ⟨36, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩

abbrev nD : Nat := 1
abbrev τ : Topo := Topo.v7x

variable {F : FTy → Type} [FloatOps F]
-- ==== MlpFwd.lean ====
abbrev S4096x1024 : Shape := ⟨2, ![4096, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S4096x4096 : Shape := ⟨2, ![4096, 4096]⟩
abbrev S256x1024 : Shape := ⟨2, ![256, 1024]⟩
abbrev S256x4096 : Shape := ⟨2, ![256, 4096]⟩
abbrev S256 : Shape := ⟨1, ![256]⟩
abbrev S256x1 : Shape := ⟨2, ![256, 1]⟩
abbrev S1x1024x1024 : Shape := ⟨3, ![1, 1024, 1024]⟩
abbrev S1024x1024 : Shape := ⟨2, ![1024, 1024]⟩

abbrev nBuf : Space → Nat
  | .hbm => 14
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024x4096, .f32⟩
  | .hbm, ⟨3, _⟩ => ⟨S1x4096x1024, .f32⟩
  | .hbm, ⟨4, _⟩ => ⟨S1024x4096, .f32⟩
  | .hbm, ⟨5, _⟩ => ⟨S1024x4096, .bf16⟩
  | .hbm, ⟨6, _⟩ => ⟨S1024x4x1024, .bf16⟩
  | .hbm, ⟨7, _⟩ => ⟨S4x1024x1024, .bf16⟩
  | .hbm, ⟨8, _⟩ => ⟨S4096x1024, .f32⟩
  | .hbm, ⟨9, _⟩ => ⟨S4096x1024, .bf16⟩
  | .hbm, ⟨10, _⟩ => ⟨S4096x1024, .f32⟩
  | .hbm, ⟨11, _⟩ => ⟨S4096x1024, .bf16⟩
  | .hbm, ⟨12, _⟩ => ⟨S4096x4096, .f32⟩
  | .hbm, ⟨13, _⟩ => ⟨S4096x4096, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S4x1024x1024, .bf16⟩
  | .local _ .vmem, ⟨4, _⟩ => ⟨S4096x1024, .bf16⟩
  | .local _ .vmem, ⟨5, _⟩ => ⟨S256x1024, .f32⟩
  | .local _ .vmem, ⟨6, _⟩ => ⟨S256x1024, .f32⟩
  | .local _ .vmem, ⟨7, _⟩ => ⟨S256x1024, .bf16⟩
  | .local _ .vmem, ⟨8, _⟩ => ⟨S256x1024, .bf16⟩
  | .local _ .vmem, ⟨9, _⟩ => ⟨S256x4096, .f32⟩
  | .local _ .vmem, ⟨10, _⟩ => ⟨S256x4096, .f32⟩
  | .local _ .vmem, ⟨11, _⟩ => ⟨S256x4096, .bf16⟩
  | .local _ .vmem, ⟨12, _⟩ => ⟨S256x4096, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev main_v6_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MlpFwdRefIdeal.lean ====
abbrev S4096x1024 : Shape := ⟨2, ![4096, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x4096 : Shape := ⟨2, ![1024, 4096]⟩
abbrev S4096x4096 : Shape := ⟨2, ![4096, 4096]⟩

abbrev nBuf : Space → Nat
  | .hbm => 32
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024x4096, .f32⟩
  | .hbm, ⟨3, _⟩ => ⟨S1x4096x1024, .f32⟩
  | .hbm, ⟨4, _⟩ => ⟨S1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S1024x4096, .f32⟩
  | .hbm, ⟨22, _⟩ => ⟨S4096x4096, .f32⟩
  | .hbm, ⟨23, _⟩ => ⟨S_, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .bf16⟩
  | .hbm, ⟨31, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_cst : Ref sig .tc := ⟨.hbm, 23, rfl⟩
abbrev main_call0_v0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== Proof.Merge.lean ====
module

public import proofs.«01_k».proof.Proof.Gen.MergeBwdIdeal.Value
public import proofs.«01_k».proof.Proof.Gen.MergeRefIdeal.Run
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

/-! The gradient of the gated merge `out = (σ(gate_a)·(ya·w_rnn) + σ(gate_b)·(o·w_attn))·w_out`, written at an index. -/
namespace Cert.Merge

/-- Token rows, and the square weights as the layer stores them. -/
abbrev Row : Shape := ⟨2, ![4096, 1024]⟩
abbrev Wt : Shape := ⟨3, ![1, 1024, 1024]⟩

/-- The logistic function as both programs spell it. -/
def sgm (x : EReal) : EReal := Ideal.div 1 (1 + Ideal.exp (-x))

/-- `x·w` at row `r`, column `n`. -/
def prod (x : Row.Idx → EReal) (w : Wt.Idx → EReal) (r : Fin 4096) (n : Fin 1024) : EReal :=
  ∑ k : Fin 1024, x (ix2 r k) * w (ix3 0 k n)

/-- `x·wᵀ` at row `r`, column `n`. -/
def prodT (x : Row.Idx → EReal) (w : Wt.Idx → EReal) (r : Fin 4096) (n : Fin 1024) : EReal :=
  ∑ k : Fin 1024, x (ix2 r k) * w (ix3 0 n k)

/-- The gradient of a gate's pre-activation: the merged value's gradient, times the gated product, times `σ'`. -/
def dgate (dx g y : Row.Idx → EReal) (w wo : Wt.Idx → EReal) (j : Row.Idx) : EReal :=
  prodT dx wo (j 0) (j 1) * prod y w (j 0) (j 1) * (sgm (g j) * (1 - sgm (g j)))

/-- The gradient of a mixer's projected output. -/
def dproj (dx g : Row.Idx → EReal) (wo : Wt.Idx → EReal) (j : Row.Idx) : EReal :=
  prodT dx wo (j 0) (j 1) * sgm (g j)

/-- The gradient of a mixer's output before its projection. -/
def dmix (dx g : Row.Idx → EReal) (w wo : Wt.Idx → EReal) (j : Row.Idx) : EReal :=
  prodT (dproj dx g wo) w (j 0) (j 1)

end Cert.Merge

namespace Cert.MergeBwdIdeal.Value
open Cert.MergeBwdIdeal Cert.MergeBwdIdeal.Gen Cert.Merge
variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![0, 0]
    ∧ win0_7.index t = ![0, 0] ∧ win0_8.index t = ![t.val, 0] ∧ win0_9.index t = ![t.val, 0] ∧ win0_10.index t = ![t.val, 0]
    ∧ win0_11.index t = ![t.val, 0] ∧ win0_12.index t = ![t.val, 0] ∧ win0_13.index t = ![t.val, 0] :=
  (by decide +kernel : ∀ t : Fin grid0.N, _)

/-- The array of gate_a's gradient. -/
theorem final8 (c : Dev nD) : (dats m 0 c).arrAt 8 (cfgs 0).N
    = dgate (m ((c : Thread nD τ).loc main_arg0)) (m ((c : Thread nD τ).loc main_arg1)) (m ((c : Thread nD τ).loc main_arg3)) (m ((c : Thread nD τ).loc main_arg5)) (m ((c : Thread nD τ).loc main_arg7)) := by
  refine (dats m 0 c).arrAt_eq_of_covers 8 _ (by decide +kernel) fun t _ y => ?_
  blk_simp
  rw [after0_8]; frame_out
  idx_vars y
  pointwise [k0_pay10, k0_pay11, k0_pay12, k0_pay9, k0_pay6, k0_pay7, dgate, prod, prodT, sgm, zero_sub]
  blk_point [iblk, V, idx t]

/-- The array of gate_b's gradient. -/
theorem final9 (c : Dev nD) : (dats m 0 c).arrAt 9 (cfgs 0).N
    = dgate (m ((c : Thread nD τ).loc main_arg0)) (m ((c : Thread nD τ).loc main_arg2)) (m ((c : Thread nD τ).loc main_arg4)) (m ((c : Thread nD τ).loc main_arg6)) (m ((c : Thread nD τ).loc main_arg7)) := by
  refine (dats m 0 c).arrAt_eq_of_covers 9 _ (by decide +kernel) fun t _ y => ?_
  blk_simp
  rw [after0_9]; frame_out
  idx_vars y
  pointwise [k0_pay10, k0_pay11, k0_pay12, k0_pay1, k0_pay6, k0_pay8, dgate, prod, prodT, sgm, zero_sub]
  blk_point [iblk, V, idx t]

/-- The array of the recurrent mixer's projected gradient. -/
theorem final10 (c : Dev nD) : (dats m 0 c).arrAt 10 (cfgs 0).N
    = dproj (m ((c : Thread nD τ).loc main_arg0)) (m ((c : Thread nD τ).loc main_arg1)) (m ((c : Thread nD τ).loc main_arg7)) := by
  refine (dats m 0 c).arrAt_eq_of_covers 10 _ (by decide +kernel) fun t _ y => ?_
  blk_simp
  rw [after0_10]; frame_out
  idx_vars y
  pointwise [k0_pay10, k0_pay11, k0_pay12, k0_pay2, k0_pay6, k0_pay7, dproj, prodT, sgm, zero_sub]
  blk_point [iblk, V, idx t]

/-- The array of the attention's projected gradient. -/
theorem final11 (c : Dev nD) : (dats m 0 c).arrAt 11 (cfgs 0).N
    = dproj (m ((c : Thread nD τ).loc main_arg0)) (m ((c : Thread nD τ).loc main_arg2)) (m ((c : Thread nD τ).loc main_arg7)) := by
  refine (dats m 0 c).arrAt_eq_of_covers 11 _ (by decide +kernel) fun t _ y => ?_
  blk_simp
  rw [after0_11]; frame_out
  idx_vars y
  pointwise [k0_pay10, k0_pay11, k0_pay12, k0_pay3, k0_pay6, k0_pay8, dproj, prodT, sgm, zero_sub]
  blk_point [iblk, V, idx t]

/-- The array of the recurrent mixer's gradient. -/
theorem final12 (c : Dev nD) : (dats m 0 c).arrAt 12 (cfgs 0).N
    = dmix (m ((c : Thread nD τ).loc main_arg0)) (m ((c : Thread nD τ).loc main_arg1)) (m ((c : Thread nD τ).loc main_arg5)) (m ((c : Thread nD τ).loc main_arg7)) := by
  refine (dats m 0 c).arrAt_eq_of_covers 12 _ (by decide +kernel) fun t _ y => ?_
  blk_simp
  rw [after0_12]; frame_out
  idx_vars y
  pointwise [k0_pay10, k0_pay11, k0_pay12, k0_pay4, k0_pay2, k0_pay6, k0_pay7, dmix, dproj, prodT, sgm, zero_sub]
  blk_point [iblk, V, idx t]

/-- The array of the attention output's gradient. -/
theorem final13 (c : Dev nD) : (dats m 0 c).arrAt 13 (cfgs 0).N
    = dmix (m ((c : Thread nD τ).loc main_arg0)) (m ((c : Thread nD τ).loc main_arg2)) (m ((c : Thread nD τ).loc main_arg6)) (m ((c : Thread nD τ).loc main_arg7)) := by
  refine (dats m 0 c).arrAt_eq_of_covers 13 _ (by decide +kernel) fun t _ y => ?_
  blk_simp
  rw [after0_13]; frame_out
  idx_vars y
  pointwise [k0_pay10, k0_pay11, k0_pay12, k0_pay5, k0_pay3, k0_pay6, k0_pay8, dmix, dproj, prodT, sgm, zero_sub]
  blk_point [iblk, V, idx t]

end Cert.MergeBwdIdeal.Value
-- ==== Proof.MergePair.lean ====
module

public import proofs.«01_k».proof.Proof.Merge
public import proofs.«01_k».proof.Proof.Gen.MergeRefIdeal.Run
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Merge

open Cert.MergeRefIdeal Cert.MergeRefIdeal.Gen in
/-- The reference's logistic function at an index. -/
theorem ref_sgm (g : FVec Ideal S4096x1024 .f32) (y) :
    (Host.divf (broadcastInDim S4096x1024 ![] bcast_S_S4096x1024 (constant S_ .f32 0x3F800000#32))
      (addf (broadcastInDim S4096x1024 ![] bcast_S_S4096x1024 (constant S_ .f32 0x3F800000#32)) (Host.exp (Host.negf g)))
        : FVec Ideal S4096x1024 .f32) y = sgm (g y) := by
  pointwise [sgm]

open Cert.MergeRefIdeal Cert.MergeRefIdeal.Gen in
/-- The reference's product with a transposed weight at an index. -/
theorem ref_prodT (x : FVec Ideal S4096x1024 .f32) (w : FVec Ideal S1x1024x1024 .f32) (y : Row.Idx) :
    (Host.dotGeneral dot_S4096x1024_S1024x1024_S4096x1024_1_1_0_0_n_n none x
      (shapeCast S1024x1024 w shapeCasts_S1x1024x1024_S1024x1024) : FVec Ideal S4096x1024 .f32) y = prodT x w (y 0) (y 1) := by
  idx_vars y
  pointwise [prodT]

open Cert.MergeRefIdeal Cert.MergeRefIdeal.Gen in
/-- The reference's product with a weight at an index. -/
theorem ref_prod (x : FVec Ideal S4096x1024 .f32) (w : FVec Ideal S1x1024x1024 .f32) (y : Row.Idx) :
    (Host.dotGeneral dot_S4096x1024_S1024x1024_S4096x1024_1_0_0_1_n_n none x
      (shapeCast S1024x1024 w shapeCasts_S1x1024x1024_S1024x1024) : FVec Ideal S4096x1024 .f32) y = prod x w (y 0) (y 1) := by
  idx_vars y
  pointwise [prod]

open Cert.MergeRefIdeal Cert.MergeRefIdeal.Gen in
/-- The reference's gate gradient. -/
theorem ref_dgate (dx g : FVec Ideal S4096x1024 .f32) (h : FVec Ideal S4096x1024 .bf16) (w wo : FVec Ideal S1x1024x1024 .f32) :
    (truncf .bf16 (mulf (mulf (Host.dotGeneral dot_S4096x1024_S1024x1024_S4096x1024_1_1_0_0_n_n none dx (shapeCast S1024x1024 wo shapeCasts_S1x1024x1024_S1024x1024) : FVec Ideal S4096x1024 .f32) (Host.dotGeneral dot_S4096x1024_S1024x1024_S4096x1024_1_0_0_1_n_n none (extf .f32 h bitsLt_bf16_f32) (shapeCast S1024x1024 w shapeCasts_S1x1024x1024_S1024x1024) : FVec Ideal S4096x1024 .f32)) (mulf (Host.divf (broadcastInDim S4096x1024 ![] bcast_S_S4096x1024 (constant S_ .f32 0x3F800000#32)) (addf (broadcastInDim S4096x1024 ![] bcast_S_S4096x1024 (constant S_ .f32 0x3F800000#32)) (Host.exp (Host.negf g))) : FVec Ideal S4096x1024 .f32) (subf (broadcastInDim S4096x1024 ![] bcast_S_S4096x1024 (constant S_ .f32 0x3F800000#32)) (Host.divf (broadcastInDim S4096x1024 ![] bcast_S_S4096x1024 (constant S_ .f32 0x3F800000#32)) (addf (broadcastInDim S4096x1024 ![] bcast_S_S4096x1024 (constant S_ .f32 0x3F800000#32)) (Host.exp (Host.negf g))) : FVec Ideal S4096x1024 .f32)))) bitsLt_bf16_f32
      : FVec Ideal S4096x1024 .bf16) = dgate dx g h w wo := by
  funext y
  have e (f : FVec Ideal S4096x1024 .f32) (k : Row.Idx) : (subf (broadcastInDim S4096x1024 ![] bcast_S_S4096x1024 (constant S_ .f32 0x3F800000#32)) f : FVec Ideal S4096x1024 .f32) k = 1 - f k := by
    pointwise []
  change ((Host.dotGeneral dot_S4096x1024_S1024x1024_S4096x1024_1_1_0_0_n_n none dx (shapeCast S1024x1024 wo shapeCasts_S1x1024x1024_S1024x1024) : FVec Ideal S4096x1024 .f32) y * (Host.dotGeneral dot_S4096x1024_S1024x1024_S4096x1024_1_0_0_1_n_n none (extf .f32 h bitsLt_bf16_f32) (shapeCast S1024x1024 w shapeCasts_S1x1024x1024_S1024x1024) : FVec Ideal S4096x1024 .f32) y) * ((Host.divf (broadcastInDim S4096x1024 ![] bcast_S_S4096x1024 (constant S_ .f32 0x3F800000#32)) (addf (broadcastInDim S4096x1024 ![] bcast_S_S4096x1024 (constant S_ .f32 0x3F800000#32)) (Host.exp (Host.negf g))) : FVec Ideal S4096x1024 .f32) y * (subf (broadcastInDim S4096x1024 ![] bcast_S_S4096x1024 (constant S_ .f32 0x3F800000#32)) (Host.divf (broadcastInDim S4096x1024 ![] bcast_S_S4096x1024 (constant S_ .f32 0x3F800000#32)) (addf (broadcastInDim S4096x1024 ![] bcast_S_S4096x1024 (constant S_ .f32 0x3F800000#32)) (Host.exp (Host.negf g))) : FVec Ideal S4096x1024 .f32) : FVec Ideal S4096x1024 .f32) y) = _
  rw [e, ref_sgm, ref_prodT, ref_prod]
  rfl

open Cert.MergeRefIdeal Cert.MergeRefIdeal.Gen in
/-- The reference's gradient of a projected mixer output. -/
theorem ref_dproj (dx g : FVec Ideal S4096x1024 .f32) (wo : FVec Ideal S1x1024x1024 .f32) :
    (mulf (Host.divf (broadcastInDim S4096x1024 ![] bcast_S_S4096x1024 (constant S_ .f32 0x3F800000#32)) (addf (broadcastInDim S4096x1024 ![] bcast_S_S4096x1024 (constant S_ .f32 0x3F800000#32)) (Host.exp (Host.negf g))) : FVec Ideal S4096x1024 .f32) (Host.dotGeneral dot_S4096x1024_S1024x1024_S4096x1024_1_1_0_0_n_n none dx (shapeCast S1024x1024 wo shapeCasts_S1x1024x1024_S1024x1024) : FVec Ideal S4096x1024 .f32) : FVec Ideal S4096x1024 .f32) = dproj dx g wo := by
  funext y
  change (Host.divf (broadcastInDim S4096x1024 ![] bcast_S_S4096x1024 (constant S_ .f32 0x3F800000#32)) (addf (broadcastInDim S4096x1024 ![] bcast_S_S4096x1024 (constant S_ .f32 0x3F800000#32)) (Host.exp (Host.negf g))) : FVec Ideal S4096x1024 .f32) y * (Host.dotGeneral dot_S4096x1024_S1024x1024_S4096x1024_1_1_0_0_n_n none dx (shapeCast S1024x1024 wo shapeCasts_S1x1024x1024_S1024x1024) : FVec Ideal S4096x1024 .f32) y = _
  rw [ref_sgm, ref_prodT]
  exact mul_comm _ _

set_option maxHeartbeats 800000 in
/-- Over the extended reals the kernel's six gradients are the reference's. -/
theorem algebraic : Cert.algebraic_MergeBwdIdeal_MergeRefIdeal := by
  pair_intro
  · run_from Cert.MergeBwdIdeal.Gen.run_main m g
  · run_from Cert.MergeRefIdeal.Value.run m' g'
    · rw [Cert.MergeBwdIdeal.Value.final8]
      exact ref_dgate _ _ _ _ _
    · rw [Cert.MergeBwdIdeal.Value.final9]
      exact ref_dgate _ _ _ _ _
    · rw [Cert.MergeBwdIdeal.Value.final10]
      exact ref_dproj _ _ _
    · rw [Cert.MergeBwdIdeal.Value.final11]
      exact ref_dproj _ _ _
    · rw [Cert.MergeBwdIdeal.Value.final12]
      exact funext fun y => (ref_prodT _ _ y).trans (congrArg (fun f => prodT f _ (y 0) (y 1)) (ref_dproj _ _ _))
    · rw [Cert.MergeBwdIdeal.Value.final13]
      exact funext fun y => (ref_prodT _ _ y).trans (congrArg (fun f => prodT f _ (y 0) (y 1)) (ref_dproj _ _ _))

end Cert.Merge
-- ==== Proof.Norm.lean ====
module

public import Idealize.ShloMosaic.Lib.Pipeline.ValueKit
public import Idealize.ShloMosaic.Lib.Pointwise
public import Idealize.ShloMosaic.Lib.IdealHost
public import Idealize.ShloMosaic.PureOps.Ideal

@[expose] public section

noncomputable section

open Idealize.ShloMosaic

/-! The root-mean-square norm of a row and its gradient over the extended reals: the closed form a kernel computes is the
one differentiation gives, for every row whatever its values. -/
namespace Cert.Norm

/-- The width of a row and the norm's epsilon, as both programs spell them. -/
abbrev wid : EReal := Ideal.ofBits .f32 0x44800000#32
abbrev eps : EReal := Ideal.ofBits .f32 0x358637BD#32

theorem wid_eq : wid = ((1024 : ℝ) : EReal) := by
  simp [wid, Ideal.ofBits, Ideal.ieee]; rw [← EReal.coe_mul]; norm_num

theorem half_eq : Ideal.ofBits .f32 0x3F000000#32 = ((1 / 2 : ℝ) : EReal) := by
  simp [Ideal.ofBits, Ideal.ieee]; rw [← EReal.coe_mul]; norm_num

theorem neg_half_eq : Ideal.ofBits .f32 0xBF000000#32 = ((-(1 / 2) : ℝ) : EReal) := by
  simp [Ideal.ofBits, Ideal.ieee]; rw [← EReal.coe_mul]; norm_num

theorem two_eq : Ideal.ofBits .f32 0x40000000#32 = ((2 : ℝ) : EReal) := by
  simp [Ideal.ofBits, Ideal.ieee]; rw [← EReal.coe_mul]; norm_num

theorem inv_wid_eq : Ideal.ofBits .f32 0x3A800000#32 = ((1 / 1024 : ℝ) : EReal) := by
  simp [Ideal.ofBits, Ideal.ieee]; rw [← EReal.coe_mul]; norm_num

theorem half_inv_wid_eq : Ideal.ofBits .f32 0x3A000000#32 = ((1 / 2048 : ℝ) : EReal) := by
  simp [Ideal.ofBits, Ideal.ieee]; rw [← EReal.coe_mul]; norm_num

theorem eps_pos : 0 < eps := by
  simp [eps, Ideal.ofBits, Ideal.ieee]; rw [← EReal.coe_mul]; exact EReal.coe_pos.mpr (by norm_num)

theorem div_wid (x : EReal) : Ideal.div x wid = x * ((1 / 1024 : ℝ) : EReal) := by
  rw [wid_eq]; exact Ideal.div_coe (by norm_num) x

/-- The mean square of a row plus epsilon, and its reciprocal root. -/
def ms (x : Fin 1024 → EReal) : EReal := Ideal.div (∑ k, x k * x k) wid + eps
def rinv (x : Fin 1024 → EReal) : EReal := Ideal.rsqrt (ms x)

/-- The normed row with its gain. -/
def nrm (x g : Fin 1024 → EReal) (n : Fin 1024) : EReal := x n * rinv x * g n

/-- The norm's gradient with respect to its row, in closed form. -/
def dnrm (x g dy : Fin 1024 → EReal) (n : Fin 1024) : EReal :=
  rinv x * (dy n * g n) - x n * (rinv x * rinv x * rinv x * Ideal.div (∑ k, dy k * g k * x k) wid)

/-- The part of the norm's gradient that goes through the mean square, as differentiation gives it. -/
def dms (x g dy : Fin 1024 → EReal) : EReal :=
  Ideal.div ((∑ k, x k * (dy k * g k)) * (Ideal.ofBits .f32 0xBF000000#32 * Ideal.div (rinv x) (ms x))) wid

theorem sq_nonneg (a : EReal) : 0 ≤ a * a := by
  rcases le_total 0 a with h | h
  · exact mul_nonneg h h
  · have := mul_nonneg (EReal.neg_nonneg.mpr h) (EReal.neg_nonneg.mpr h)
    rwa [neg_mul_neg] at this

theorem ms_pos (x : Fin 1024 → EReal) : 0 < ms x := by
  refine lt_of_lt_of_le eps_pos ?_
  unfold ms
  rw [div_wid]
  refine le_add_of_nonneg_left (mul_nonneg (Finset.sum_nonneg fun k _ => sq_nonneg _) ?_)
  exact_mod_cast (by norm_num : (0 : ℝ) ≤ 1 / 1024)

/-- The reciprocal root over its argument is the reciprocal root's cube. -/
theorem rsqrt_div {a : EReal} (h : 0 < a) : Ideal.div (Ideal.rsqrt a) a = Ideal.rsqrt a * Ideal.rsqrt a * Ideal.rsqrt a := by
  induction a with
  | bot => exact absurd h (by simp)
  | top => rw [show Ideal.rsqrt ⊤ = 0 from rfl]; simp [Ideal.div]
  | coe r =>
    have hr : 0 < r := by exact_mod_cast h
    have hs := Real.sqrt_pos.mpr hr
    have e := Real.mul_self_sqrt hr.le
    have hq : Ideal.rsqrt (r : EReal) = (((Real.sqrt r)⁻¹ : ℝ) : EReal) := by
      show (if r < 0 then (⊥ : EReal) else if r = 0 then ⊤ else ((Real.sqrt r)⁻¹ : ℝ)) = _
      rw [if_neg hr.not_gt, if_neg hr.ne']
    rw [Ideal.div_coe hr.ne', hq, ← EReal.coe_mul, ← EReal.coe_mul, ← EReal.coe_mul, ← mul_inv, e, one_div, mul_comm]

theorem half_add_half (y : EReal) : ((-(1 / 2) : ℝ) : EReal) * y + ((-(1 / 2) : ℝ) : EReal) * y = -y := by
  induction y with
  | bot => rw [EReal.coe_mul_bot_of_neg (by norm_num)]; rfl
  | top => rw [EReal.coe_mul_top_of_neg (by norm_num)]; rfl
  | coe r => norm_cast; ring

/-- The gradient as differentiation gives it is the closed form. -/
theorem dnrm_ref (x g dy : Fin 1024 → EReal) (n : Fin 1024) :
    dy n * g n * rinv x + x n * dms x g dy + dms x g dy * x n = dnrm x g dy n := by
  have hq : x n * dms x g dy = ((-(1 / 2) : ℝ) : EReal) * (x n * (rinv x * rinv x * rinv x * Ideal.div (∑ k, dy k * g k * x k) wid)) := by
    unfold dms
    rw [show Ideal.div (rinv x) (ms x) = rinv x * rinv x * rinv x from rsqrt_div (ms_pos x), neg_half_eq, div_wid, div_wid,
      show ∑ k, x k * (dy k * g k) = ∑ k, dy k * g k * x k from Finset.sum_congr rfl fun k _ => mul_comm _ _]
    ac_rfl
  rw [mul_comm (dms x g dy) (x n), add_assoc, hq, half_add_half, dnrm, sub_eq_add_neg, mul_comm (rinv x) (dy n * g n)]

/-- A factor goes into a sum of numbers that are not negative. -/
theorem mul_sum_nonneg {ι : Type} (s : Finset ι) (c : EReal) (f : ι → EReal) (hf : ∀ i, 0 ≤ f i) :
    c * ∑ i ∈ s, f i = ∑ i ∈ s, c * f i := by
  classical
  induction s using Finset.induction_on with
  | empty => simp
  | insert a s ha ih =>
    rw [Finset.sum_insert ha, Finset.sum_insert ha, EReal.left_distrib_of_nonneg (hf a) (Finset.sum_nonneg fun i _ => hf i), ih]

end Cert.Norm
-- ==== Proof.Ple.lean ====
module

public import proofs.«01_k».proof.Proof.Gen.PleLossIdeal.Frame
public import proofs.«01_k».proof.Proof.Norm
public import proofs.«01_k».proof.Proof.Merge
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

/-! The loss, and the gradient through the gated per-layer embedding and its norm, written row by row. -/
namespace Cert.Ple
open Cert.Norm
open Cert.Merge (sgm Row Wt)

/-- The embedding table's weight, and the embedded tokens. -/
abbrev Wp : Shape := ⟨3, ![1, 256, 1024]⟩
abbrev Tok : Shape := ⟨2, ![4096, 256]⟩
abbrev Gain : Shape := ⟨2, ![1, 1024]⟩

section rows
variable (x e t g : Fin 1024 → EReal) (w : Fin 1024 → Fin 1024 → EReal)

/-- The gate of a row, the row's error against its target, and the error's gradient. -/
def gate (n : Fin 1024) : EReal := sgm (∑ k, nrm x g k * w k n)
def err (n : Fin 1024) : EReal := x n + e n * gate x g w n - t n
def derr (n : Fin 1024) : EReal := err x e t g w n * Ideal.ofBits .f32 0x3A800000#32

/-- The gradients of the embedding, of the gate's pre-activation, of the normed row, and of the row. -/
def demb (n : Fin 1024) : EReal := derr x e t g w n * gate x g w n
def dpre (n : Fin 1024) : EReal := derr x e t g w n * e n * (gate x g w n * (1 - gate x g w n))
def dhid (k : Fin 1024) : EReal := ∑ n, dpre x e t g w n * w k n
def drow (n : Fin 1024) : EReal := derr x e t g w n + dnrm x g (dhid x e t g w) n

/-- The row's part of the loss and of the gain's gradient. -/
def lossRow : EReal := ∑ n, err x e t g w n * err x e t g w n
def gainRow (n : Fin 1024) : EReal := dhid x e t g w n * (x n * rinv x)
end rows

/-- The embedding of a token. -/
def emb (p : Fin 256 → EReal) (w : Fin 256 → Fin 1024 → EReal) (n : Fin 1024) : EReal := ∑ k, p k * w k n

/-- A row of an array, the norm's gain, a stored weight, and the embedding of row `r`'s token. -/
def rowOf (x : Row.Idx → EReal) (r : Fin 4096) (k : Fin 1024) : EReal := x (ix2 r k)
def gainOf (g : Gain.Idx → EReal) (k : Fin 1024) : EReal := g (ix2 0 k)
def wOf (w : Wt.Idx → EReal) (k n : Fin 1024) : EReal := w (ix3 0 k n)
def embOf (p : Tok.Idx → EReal) (wp : Wp.Idx → EReal) (r : Fin 4096) : Fin 1024 → EReal :=
  emb (fun k => p (ix2 r k)) fun k n => wp (ix3 0 k n)

section arrays
variable (x : Row.Idx → EReal) (p : Tok.Idx → EReal) (t : Row.Idx → EReal) (g : Gain.Idx → EReal) (w : Wt.Idx → EReal) (wp : Wp.Idx → EReal)

/-- The arrays the call returns. -/
def dxArr (j : Row.Idx) : EReal := drow (rowOf x (j 0)) (embOf p wp (j 0)) (rowOf t (j 0)) (gainOf g) (wOf w) (j 1)
def deArr (j : Row.Idx) : EReal := demb (rowOf x (j 0)) (embOf p wp (j 0)) (rowOf t (j 0)) (gainOf g) (wOf w) (j 1)
def hArr (j : Row.Idx) : EReal := nrm (rowOf x (j 0)) (gainOf g) (j 1)
def dtArr (j : Row.Idx) : EReal := dpre (rowOf x (j 0)) (embOf p wp (j 0)) (rowOf t (j 0)) (gainOf g) (wOf w) (j 1)
def lossSum : EReal := ∑ r : Fin 4096, lossRow (rowOf x r) (embOf p wp r) (rowOf t r) (gainOf g) (wOf w)
def dgArr (j : Gain.Idx) : EReal := ∑ r : Fin 4096, gainRow (rowOf x r) (embOf p wp r) (rowOf t r) (gainOf g) (wOf w) (j 1)
end arrays

end Cert.Ple

namespace Cert.PleLossIdeal.Value
open Cert.PleLossIdeal Cert.PleLossIdeal.Gen Cert.Norm Cert.Ple
open Cert.Merge (sgm Row Wt)

section payloads
variable (x : Vec Ideal S512x1024 .f32) (g : Vec Ideal S1x1024 .f32) (e : FVec Ideal S512x1024 .f32)
  (w : Vec Ideal S1024x1024 .bf16) (t : Vec Ideal S512x1024 .f32) (r : Fin 512) (n : Fin 1024)

theorem emb_at (p : Vec Ideal S512x256 .f32) (wp : Vec Ideal S4x256x256 .bf16) :
    k0_pay8 (F := Ideal) p (View.ld wp (Rect.unit (s := S4x256x256) ![0, 0, 0] S1x256x256.size inb_S4x256x256_S1x256x256_0_0_0)) (View.ld wp (Rect.unit (s := S4x256x256) ![1, 0, 0] S1x256x256.size inb_S4x256x256_S1x256x256_1_0_0)) (View.ld wp (Rect.unit (s := S4x256x256) ![2, 0, 0] S1x256x256.size inb_S4x256x256_S1x256x256_2_0_0)) (View.ld wp (Rect.unit (s := S4x256x256) ![3, 0, 0] S1x256x256.size inb_S4x256x256_S1x256x256_3_0_0)) (ix2 r n)
      = emb (fun k => p (ix2 r k)) (fun k n => wp (ix3 ⟨(n : ℕ) / 256, by omega⟩ k ⟨(n : ℕ) % 256, by omega⟩)) n := by
  pointwise [k0_pay8, k0_pay7, emb]
  blk_point []

theorem rinv_at : k0_pay10 (F := Ideal) (k0_pay9 x) (ix2 r 0) = rinv fun k => x (ix2 r k) := by
  pointwise [k0_pay10, k0_pay9, rinv, ms]

theorem nrm_at : k0_pay11 (F := Ideal) x g (k0_pay9 x) (ix2 r n) = nrm (fun k => x (ix2 r k)) (fun k => g (ix2 0 k)) n := by
  pointwise [k0_pay11, nrm, rinv_at]

theorem gate_at : k0_pay12 (F := Ideal) x g (k0_pay9 x) w (ix2 r n)
    = gate (fun k => x (ix2 r k)) (fun k => g (ix2 0 k)) (fun k n => w (ix2 k n)) n := by
  pointwise [k0_pay12, gate, sgm, nrm_at, zero_sub]

theorem err_at : k0_pay13 (F := Ideal) x g e (k0_pay9 x) w t (ix2 r n)
    = err (fun k => x (ix2 r k)) (fun k => e (ix2 r k)) (fun k => t (ix2 r k)) (fun k => g (ix2 0 k)) (fun k n => w (ix2 k n)) n := by
  pointwise [k0_pay13, err, gate_at]

theorem derr_at : k0_pay15 (F := Ideal) x g e (k0_pay9 x) w t (ix2 r n)
    = derr (fun k => x (ix2 r k)) (fun k => e (ix2 r k)) (fun k => t (ix2 r k)) (fun k => g (ix2 0 k)) (fun k n => w (ix2 k n)) n := by
  pointwise [k0_pay15, derr, err_at]

theorem demb_at : k0_pay16 (F := Ideal) x g e (k0_pay9 x) w t (ix2 r n)
    = demb (fun k => x (ix2 r k)) (fun k => e (ix2 r k)) (fun k => t (ix2 r k)) (fun k => g (ix2 0 k)) (fun k n => w (ix2 k n)) n := by
  pointwise [k0_pay16, demb, derr_at, gate_at]

theorem dpre_at : k0_pay1 (F := Ideal) (k0_pay12 x g (k0_pay9 x) w) (k0_pay17 x g e (k0_pay9 x) w t) (ix2 r n)
    = dpre (fun k => x (ix2 r k)) (fun k => e (ix2 r k)) (fun k => t (ix2 r k)) (fun k => g (ix2 0 k)) (fun k n => w (ix2 k n)) n := by
  pointwise [k0_pay1, k0_pay17, dpre, derr_at, gate_at]

theorem dhid_at : k0_pay2 (F := Ideal) (k0_pay12 x g (k0_pay9 x) w) (k0_pay17 x g e (k0_pay9 x) w t) w (ix2 r n)
    = dhid (fun k => x (ix2 r k)) (fun k => e (ix2 r k)) (fun k => t (ix2 r k)) (fun k => g (ix2 0 k)) (fun k n => w (ix2 k n)) n := by
  pointwise [k0_pay2, dhid, dpre_at]

theorem drow_at : k0_pay3 (F := Ideal) x g (k0_pay10 (k0_pay9 x)) (k0_pay12 x g (k0_pay9 x) w) (k0_pay15 x g e (k0_pay9 x) w t) (k0_pay17 x g e (k0_pay9 x) w t) w (ix2 r n)
    = drow (fun k => x (ix2 r k)) (fun k => e (ix2 r k)) (fun k => t (ix2 r k)) (fun k => g (ix2 0 k)) (fun k n => w (ix2 k n)) n := by
  pointwise [k0_pay3, drow, dnrm, dhid_at, derr_at, rinv_at]

theorem gain_at (a : Vec Ideal S1x1024 .f32) : k0_pay4 (F := Ideal) x (k0_pay10 (k0_pay9 x)) (k0_pay12 x g (k0_pay9 x) w) (k0_pay17 x g e (k0_pay9 x) w t) w a (ix2 0 n)
    = a (ix2 0 n) + ∑ r : Fin 512, gainRow (fun k => x (ix2 r k)) (fun k => e (ix2 r k)) (fun k => t (ix2 r k)) (fun k => g (ix2 0 k)) (fun k n => w (ix2 k n)) n := by
  pointwise [k0_pay4, gainRow, dhid_at, rinv_at]

theorem loss_at (a : Vec Ideal S8x128 .f32) (y) : k0_pay14 (F := Ideal) x g e (k0_pay9 x) w t a y
    = a y + (∑ r : Fin 512, lossRow (fun k => x (ix2 r k)) (fun k => e (ix2 r k)) (fun k => t (ix2 r k)) (fun k => g (ix2 0 k)) (fun k n => w (ix2 k n))) * Ideal.ofBits .f32 0x3A000000#32 := by
  pointwise [k0_pay14, lossRow, err_at]
end payloads

end Cert.PleLossIdeal.Value
-- ==== Proof.PleBlk.lean ====
module

public import proofs.«01_k».proof.Proof.Gen.PleLossIdeal.Frame
public import proofs.«01_k».proof.Proof.Ple
public import proofs.«01_k».proof.Proof.Merge
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

/-! The blocks of the loss call's windows, and the arrays it leaves. -/
namespace Cert.PleLossIdeal.Value
open Cert.PleLossIdeal Cert.PleLossIdeal.Gen Cert.Norm Cert.Ple
open Cert.Merge (sgm Row Wt)

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0, 0] ∧ win0_6.index t = ![0, 0]
    ∧ win0_7.index t = ![t.val, 0] ∧ win0_8.index t = ![t.val, 0] ∧ win0_9.index t = ![t.val, 0] ∧ win0_10.index t = ![t.val, 0]
    ∧ win0_11.index t = ![t.val, 0] ∧ win0_12.index t = ![0, 0] :=
  (by decide +kernel : ∀ t : Fin grid0.N, _)

/-- The array's row that is row `r` of tile `t`. -/
def row (t : Fin cfg0.N) (r : Fin 512) : Fin 4096 := ⟨t.val * 512 + r.val, by have h : t.val < 8 := lt_of_lt_of_eq t.isLt N_0; omega⟩

section blocks
variable (c : Dev nD) (t : Fin cfg0.N) (r : Fin 512)

theorem x_row : (fun k => iblk m c 0 t (ix2 r k)) = rowOf (m ((c : Thread nD τ).loc main_arg0)) (row t r) := by
  funext k; unfold rowOf row; blk_point [iblk, V, idx t]

theorem t_row : (fun k => iblk m c 2 t (ix2 r k)) = rowOf (m ((c : Thread nD τ).loc main_arg2)) (row t r) := by
  funext k; unfold rowOf row; blk_point [iblk, V, idx t]

theorem g_row : (fun k => iblk m c 3 t (ix2 0 k)) = gainOf (m ((c : Thread nD τ).loc main_arg3)) := by
  funext k; unfold gainOf; blk_point [iblk, V, idx t]

theorem w_at (w : FVec Ideal S1x1024x1024 .f32) (k n : Fin 1024) :
    (truncf .bf16 (shapeCast S1024x1024 w shapeCasts_S1x1024x1024_S1024x1024) bitsLt_bf16_f32 : FVec Ideal S1024x1024 .bf16) (ix2 k n) = w (ix3 0 k n) := by
  pointwise

theorem wp_at (w : FVec Ideal S1x256x1024 .f32) (j : Fin 4) (k q : Fin 256) :
    (transpose S4x256x256 [1, 0, 2] (shapeCast S256x4x256 (truncf .bf16 (shapeCast S256x1024 w shapeCasts_S1x256x1024_S256x1024) bitsLt_bf16_f32 : FVec Ideal S256x1024 .bf16) shapeCasts_S256x1024_S256x4x256) transposes_S256x4x256_S4x256x256_1_0_2 : FVec Ideal S4x256x256 .bf16) (ix3 j k q)
      = w (ix3 0 k ⟨j.val * 256 + q.val, by omega⟩) := by
  pointwise

theorem V_w : (V m c main_v1 : FVec Ideal S1024x1024 .bf16) = (truncf .bf16 (shapeCast S1024x1024 (m ((c : Thread nD τ).loc main_arg4) : FVec Ideal S1x1024x1024 .f32) shapeCasts_S1x1024x1024_S1024x1024 : FVec Ideal S1024x1024 .f32) bitsLt_bf16_f32 : FVec Ideal S1024x1024 .bf16) := by
  rfl

theorem V_wp : (V m c main_v5 : FVec Ideal S4x256x256 .bf16) = transpose S4x256x256 [1, 0, 2] (shapeCast S256x4x256 (truncf .bf16 (shapeCast S256x1024 (m ((c : Thread nD τ).loc main_arg5) : FVec Ideal S1x256x1024 .f32) shapeCasts_S1x256x1024_S256x1024) bitsLt_bf16_f32 : FVec Ideal S256x1024 .bf16) shapeCasts_S256x1024_S256x4x256) transposes_S256x4x256_S4x256x256_1_0_2 := by
  unfold V; after_results; try rfl

theorem w_blk : (fun k n => iblk m c 4 t (ix2 k n)) = wOf (m ((c : Thread nD τ).loc main_arg4)) := by
  funext k n; unfold wOf; refine Eq.trans ?_ (w_at (m ((c : Thread nD τ).loc main_arg4)) k n); rw [← V_w]; blk_ext [iblk, idx t]

theorem e_row : (fun n => k0_pay8 (F := Ideal) (iblk m c 1 t) (View.ld (iblk m c 5 t) (Rect.unit (s := S4x256x256) ![0, 0, 0] ![1, 256, 256] inb_S4x256x256_S1x256x256_0_0_0)) (View.ld (iblk m c 5 t) (Rect.unit (s := S4x256x256) ![1, 0, 0] ![1, 256, 256] inb_S4x256x256_S1x256x256_1_0_0)) (View.ld (iblk m c 5 t) (Rect.unit (s := S4x256x256) ![2, 0, 0] ![1, 256, 256] inb_S4x256x256_S1x256x256_2_0_0)) (View.ld (iblk m c 5 t) (Rect.unit (s := S4x256x256) ![3, 0, 0] ![1, 256, 256] inb_S4x256x256_S1x256x256_3_0_0)) (ix2 r n))
    = embOf (m ((c : Thread nD τ).loc main_arg1)) (m ((c : Thread nD τ).loc main_arg5)) (row t r) := by
  funext n
  refine (emb_at r n (iblk m c 1 t) (iblk m c 5 t)).trans ?_
  unfold embOf emb row
  refine Finset.sum_congr rfl fun k _ => ?_
  congr 1
  · blk_point [iblk, V, idx t]
  · have hn : n = ⟨(⟨n.val / 256, by omega⟩ : Fin 4).val * 256 + (⟨n.val % 256, by omega⟩ : Fin 256).val, by dsimp only; omega⟩ := Fin.ext (by dsimp only; omega)
    conv_rhs => rw [hn]
    refine Eq.trans ?_ (wp_at (m ((c : Thread nD τ).loc main_arg5)) _ k _); rw [← V_wp]; blk_ext [iblk, idx t]

theorem emb7 (f : Row.Idx → EReal) (n : Fin 1024) : f ((win0_7.blk t).view.emb (ix2 r n)) = f (ix2 (row t r) n) := by
  unfold row; blk_ext [idx t]

theorem emb9 (f : Row.Idx → EReal) (n : Fin 1024) : f ((win0_9.blk t).view.emb (ix2 r n)) = f (ix2 (row t r) n) := by
  unfold row; blk_ext [idx t]

theorem emb10 (f : Row.Idx → EReal) (n : Fin 1024) : f ((win0_10.blk t).view.emb (ix2 r n)) = f (ix2 (row t r) n) := by
  unfold row; blk_ext [idx t]

theorem emb11 (f : Row.Idx → EReal) (n : Fin 1024) : f ((win0_11.blk t).view.emb (ix2 r n)) = f (ix2 (row t r) n) := by
  unfold row; blk_ext [idx t]
end blocks

/-- The block the embedding is computed into. -/
abbrev eblk (c : Dev nD) (t : Fin cfg0.N) : FVec Ideal S512x1024 .f32 :=
  k0_pay8 (F := Ideal) (iblk m c 1 t) (View.ld (iblk m c 5 t) (Rect.unit (s := S4x256x256) ![0, 0, 0] ![1, 256, 256] inb_S4x256x256_S1x256x256_0_0_0)) (View.ld (iblk m c 5 t) (Rect.unit (s := S4x256x256) ![1, 0, 0] ![1, 256, 256] inb_S4x256x256_S1x256x256_1_0_0)) (View.ld (iblk m c 5 t) (Rect.unit (s := S4x256x256) ![2, 0, 0] ![1, 256, 256] inb_S4x256x256_S1x256x256_2_0_0)) (View.ld (iblk m c 5 t) (Rect.unit (s := S4x256x256) ![3, 0, 0] ![1, 256, 256] inb_S4x256x256_S1x256x256_3_0_0))

theorem tile_sum (f : Fin 4096 → EReal) : ∑ p : Fin cfg0.N, ∑ r : Fin 512, f (row p r) = ∑ l : Fin 4096, f l :=
  Fin.sum_mul_add_congr (fun p r hl => rfl) (by rw [show cfg0.N = 8 from N_0])

section points
variable (c : Dev nD) (t : Fin cfg0.N) (r : Fin 512) (n : Fin 1024)

theorem pt7 : k0_pay3 (F := Ideal) (iblk m c 0 t) (iblk m c 3 t) (k0_pay10 (k0_pay9 (iblk m c 0 t))) (k0_pay12 (iblk m c 0 t) (iblk m c 3 t) (k0_pay9 (iblk m c 0 t)) (iblk m c 4 t)) (k0_pay15 (iblk m c 0 t) (iblk m c 3 t) (eblk m c t) (k0_pay9 (iblk m c 0 t)) (iblk m c 4 t) (iblk m c 2 t)) (k0_pay17 (iblk m c 0 t) (iblk m c 3 t) (eblk m c t) (k0_pay9 (iblk m c 0 t)) (iblk m c 4 t) (iblk m c 2 t)) (iblk m c 4 t) (ix2 r n)
    = dxArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) ((win0_7.blk t).view.emb (ix2 r n)) := by
  refine Eq.trans ?_ (emb7 t r (dxArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) n).symm
  rw [drow_at, x_row, t_row, g_row, w_blk]
  exact congrArg (fun e => drow _ e _ _ _ _) (e_row m c t r)

theorem pt9 : k0_pay16 (F := Ideal) (iblk m c 0 t) (iblk m c 3 t) (eblk m c t) (k0_pay9 (iblk m c 0 t)) (iblk m c 4 t) (iblk m c 2 t) (ix2 r n)
    = deArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) ((win0_9.blk t).view.emb (ix2 r n)) := by
  refine Eq.trans ?_ (emb9 t r (deArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) n).symm
  rw [demb_at, x_row, t_row, g_row, w_blk]
  exact congrArg (fun e => demb _ e _ _ _ _) (e_row m c t r)

theorem pt10 : k0_pay11 (F := Ideal) (iblk m c 0 t) (iblk m c 3 t) (k0_pay9 (iblk m c 0 t)) (ix2 r n)
    = hArr (m ((c : Thread nD τ).loc main_arg0)) (m ((c : Thread nD τ).loc main_arg3)) ((win0_10.blk t).view.emb (ix2 r n)) := by
  refine Eq.trans ?_ (emb10 t r (hArr (m ((c : Thread nD τ).loc main_arg0)) (m ((c : Thread nD τ).loc main_arg3))) n).symm
  rw [nrm_at, x_row, g_row]
  rfl

theorem pt11 : k0_pay1 (F := Ideal) (k0_pay12 (iblk m c 0 t) (iblk m c 3 t) (k0_pay9 (iblk m c 0 t)) (iblk m c 4 t)) (k0_pay17 (iblk m c 0 t) (iblk m c 3 t) (eblk m c t) (k0_pay9 (iblk m c 0 t)) (iblk m c 4 t) (iblk m c 2 t)) (ix2 r n)
    = dtArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) ((win0_11.blk t).view.emb (ix2 r n)) := by
  refine Eq.trans ?_ (emb11 t r (dtArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) n).symm
  rw [dpre_at, x_row, t_row, g_row, w_blk]
  exact congrArg (fun e => dpre _ e _ _ _ _) (e_row m c t r)

theorem pt12 (a : Vec Ideal S1x1024 .f32) (z : Fin 1) : k0_pay4 (F := Ideal) (iblk m c 0 t) (k0_pay10 (k0_pay9 (iblk m c 0 t))) (k0_pay12 (iblk m c 0 t) (iblk m c 3 t) (k0_pay9 (iblk m c 0 t)) (iblk m c 4 t)) (k0_pay17 (iblk m c 0 t) (iblk m c 3 t) (eblk m c t) (k0_pay9 (iblk m c 0 t)) (iblk m c 4 t) (iblk m c 2 t)) (iblk m c 4 t) a (ix2 z n)
    = a (ix2 z n) + ∑ r : Fin 512, gainRow (rowOf (m ((c : Thread nD τ).loc main_arg0)) (row t r)) (embOf (m ((c : Thread nD τ).loc main_arg1)) (m ((c : Thread nD τ).loc main_arg5)) (row t r)) (rowOf (m ((c : Thread nD τ).loc main_arg2)) (row t r)) (gainOf (m ((c : Thread nD τ).loc main_arg3))) (wOf (m ((c : Thread nD τ).loc main_arg4))) n := by
  obtain rfl : z = 0 := Subsingleton.elim _ _
  rw [gain_at, g_row, w_blk]
  refine congrArg _ (Finset.sum_congr rfl fun r _ => ?_)
  rw [x_row, t_row]
  exact congrArg (fun e => gainRow _ e _ _ _ _) (e_row m c t r)

theorem pt6 (a : Vec Ideal S8x128 .f32) (j : S8x128.Idx) : k0_pay14 (F := Ideal) (iblk m c 0 t) (iblk m c 3 t) (eblk m c t) (k0_pay9 (iblk m c 0 t)) (iblk m c 4 t) (iblk m c 2 t) a j
    = a j + (∑ r : Fin 512, lossRow (rowOf (m ((c : Thread nD τ).loc main_arg0)) (row t r)) (embOf (m ((c : Thread nD τ).loc main_arg1)) (m ((c : Thread nD τ).loc main_arg5)) (row t r)) (rowOf (m ((c : Thread nD τ).loc main_arg2)) (row t r)) (gainOf (m ((c : Thread nD τ).loc main_arg3))) (wOf (m ((c : Thread nD τ).loc main_arg4)))) * Ideal.ofBits .f32 0x3A000000#32 := by
  rw [loss_at, g_row, w_blk]
  refine congrArg (fun s => a j + s * _) (Finset.sum_congr rfl fun r _ => ?_)
  rw [x_row, t_row]
  exact congrArg (fun e => lossRow _ e _ _ _) (e_row m c t r)
end points

/-- The rows' gradient. -/
theorem final7 (c : Dev nD) : (dats m 0 c).arrAt 7 (cfgs 0).N
    = dxArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t _ y => ?_
  blk_simp
  by_cases h : t.val % 8 = 0
  · rw [after0_7, outsAt0_A m c t h]; frame_out
    idx_vars y
    exact pt7 m c t y0 y1
  · rw [after0_7, outsAt0_B m c t h]; frame_out
    idx_vars y
    exact pt7 m c t y0 y1

/-- The embedding's gradient. -/
theorem final9 (c : Dev nD) : (dats m 0 c).arrAt 9 (cfgs 0).N
    = deArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 9 _ (by decide +kernel) fun t _ y => ?_
  blk_simp
  by_cases h : t.val % 8 = 0
  · rw [after0_9, outsAt0_A m c t h]; frame_out
    idx_vars y
    exact pt9 m c t y0 y1
  · rw [after0_9, outsAt0_B m c t h]; frame_out
    idx_vars y
    exact pt9 m c t y0 y1

/-- The normed rows. -/
theorem final10 (c : Dev nD) : (dats m 0 c).arrAt 10 (cfgs 0).N
    = hArr (m ((c : Thread nD τ).loc main_arg0)) (m ((c : Thread nD τ).loc main_arg3)) := by
  refine (dats m 0 c).arrAt_eq_of_covers 10 _ (by decide +kernel) fun t _ y => ?_
  blk_simp
  by_cases h : t.val % 8 = 0
  · rw [after0_10, outsAt0_A m c t h]; frame_out
    idx_vars y
    exact pt10 m c t y0 y1
  · rw [after0_10, outsAt0_B m c t h]; frame_out
    idx_vars y
    exact pt10 m c t y0 y1

/-- The gradient of the gate's pre-activation. -/
theorem final11 (c : Dev nD) : (dats m 0 c).arrAt 11 (cfgs 0).N
    = dtArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 11 _ (by decide +kernel) fun t _ y => ?_
  blk_simp
  by_cases h : t.val % 8 = 0
  · rw [after0_11, outsAt0_A m c t h]; frame_out
    idx_vars y
    exact pt11 m c t y0 y1
  · rw [after0_11, outsAt0_B m c t h]; frame_out
    idx_vars y
    exact pt11 m c t y0 y1

/-- The tokens' values, handed on. -/
theorem final8 (c : Dev nD) : (dats m 0 c).arrAt 8 (cfgs 0).N = (m ((c : Thread nD τ).loc main_arg1)) := by
  refine (dats m 0 c).arrAt_eq_of_covers 8 _ (by decide +kernel) fun t _ y => ?_
  blk_simp
  by_cases h : t.val % 8 = 0
  · rw [after0_8, outsAt0_A m c t h]; frame_out
    idx_vars y
    pointwise [k0_pay7]
    blk_point [iblk, V, idx t]
  · rw [after0_8, outsAt0_B m c t h]; frame_out
    idx_vars y
    pointwise [k0_pay7]
    blk_point [iblk, V, idx t]

theorem lossRow_nonneg (x e t g : Fin 1024 → EReal) (w : Fin 1024 → Fin 1024 → EReal) : 0 ≤ lossRow x e t g w :=
  Finset.sum_nonneg fun n _ => sq_nonneg _

theorem loss_zero (j : S8x128.Idx) : k0_pay6 (F := Ideal) j = 0 := by pointwise! [k0_pay6]

theorem gain_zero (j : S1x1024.Idx) : k0_pay5 (F := Ideal) j = 0 := by pointwise! [k0_pay5]

/-- The gain's gradient, summed over the tiles. -/
theorem final12 (c : Dev nD) : (dats m 0 c).arrAt 12 (cfgs 0).N
    = dgArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_after_last 12 t0_7 (by decide +kernel) _ fun j => ?_
  blk_simp
  rw [after0_12, Pipeline.eq_sum_fin_of_reset_step_apply_last (fun n h => (outsAt0 m c n h).2.2.2.2.2.2) 8 (fun _ => 0)
    (fun t j => ∑ r : Fin 512, gainRow (rowOf (m ((c : Thread nD τ).loc main_arg0)) (row t r)) (embOf (m ((c : Thread nD τ).loc main_arg1)) (m ((c : Thread nD τ).loc main_arg5)) (row t r)) (rowOf (m ((c : Thread nD τ).loc main_arg2)) (row t r)) (gainOf (m ((c : Thread nD τ).loc main_arg3))) (wOf (m ((c : Thread nD τ).loc main_arg4))) (j 1))
    (fun t h j => by rw [outsAt0_A m c t h]; frame_out; idx_vars j; exact (pt12 m c t j1 _ j0).trans (by rw [gain_zero]))
    (fun t h j => by rw [outsAt0_B m c t h]; frame_out; idx_vars j; exact pt12 m c t j1 _ j0)
    (le_of_eq N_0) t0_7 rfl j, zero_add]
  exact tile_sum fun r => gainRow (rowOf (m ((c : Thread nD τ).loc main_arg0)) r) (embOf (m ((c : Thread nD τ).loc main_arg1)) (m ((c : Thread nD τ).loc main_arg5)) r) (rowOf (m ((c : Thread nD τ).loc main_arg2)) r) (gainOf (m ((c : Thread nD τ).loc main_arg3))) (wOf (m ((c : Thread nD τ).loc main_arg4))) (j 1)

/-- The loss's tile sums, halved and divided by the row length. -/
theorem final6 (c : Dev nD) : (dats m 0 c).arrAt 6 (cfgs 0).N
    = fun _ => lossSum (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) * Ideal.ofBits .f32 0x3A000000#32 := by
  refine (dats m 0 c).arrAt_eq_of_after_last 6 t0_7 (by decide +kernel) _ fun j => ?_
  blk_simp
  rw [after0_6, Pipeline.eq_sum_fin_of_reset_step_apply_last (fun n h => (outsAt0 m c n h).1) 8 (fun _ => 0)
    (fun t j => (∑ r : Fin 512, lossRow (rowOf (m ((c : Thread nD τ).loc main_arg0)) (row t r)) (embOf (m ((c : Thread nD τ).loc main_arg1)) (m ((c : Thread nD τ).loc main_arg5)) (row t r)) (rowOf (m ((c : Thread nD τ).loc main_arg2)) (row t r)) (gainOf (m ((c : Thread nD τ).loc main_arg3))) (wOf (m ((c : Thread nD τ).loc main_arg4)))) * Ideal.ofBits .f32 0x3A000000#32)
    (fun t h j => by rw [outsAt0_A m c t h]; frame_out; exact (pt6 m c t _ j).trans (by rw [loss_zero]))
    (fun t h j => by rw [outsAt0_B m c t h]; frame_out; exact pt6 m c t _ j)
    (le_of_eq N_0) t0_7 rfl j, zero_add]
  simp only [mul_comm _ (Ideal.ofBits FTy.f32 _)]
  rw [← mul_sum_nonneg _ _ _ fun p => Finset.sum_nonneg fun r _ => lossRow_nonneg _ _ _ _ _]
  exact congrArg _ (tile_sum fun r => lossRow (rowOf (m ((c : Thread nD τ).loc main_arg0)) r) (embOf (m ((c : Thread nD τ).loc main_arg1)) (m ((c : Thread nD τ).loc main_arg5)) r) (rowOf (m ((c : Thread nD τ).loc main_arg2)) r) (gainOf (m ((c : Thread nD τ).loc main_arg3))) (wOf (m ((c : Thread nD τ).loc main_arg4))))

end Cert.PleLossIdeal.Value
-- ==== Proof.PlePair.lean ====
module

public import proofs.«01_k».proof.Proof.Gen.PleLossIdeal.Frame
public import proofs.«01_k».proof.Proof.Gen.PleRefIdeal.Run
public import proofs.«01_k».proof.Proof.PleBlk
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

/-! The reference of the loss call, stage by stage at an index, and the pair's value claim. -/
namespace Cert.PleRefIdeal.Stage
open Cert.PleRefIdeal Cert.PleRefIdeal.Gen Cert.Norm Cert.Ple
open Cert.Merge (sgm Row Wt)

/-- Half the derivative of a square, over the row length. -/
theorem scale_err (e : EReal) : Ideal.div (Ideal.ofBits .f32 0x3F000000#32) wid * (Ideal.ofBits .f32 0x40000000#32 * e)
    = e * Ideal.ofBits .f32 0x3A800000#32 := by
  rw [div_wid, half_eq, two_eq, inv_wid_eq, ← mul_assoc, ← EReal.coe_mul, ← EReal.coe_mul, mul_comm e]
  norm_num

/-- Half the sum of the rows' means is the sum over a fixed scale: the summands are squares. -/
theorem scale_loss (f : Fin 4096 → EReal) (hf : ∀ r, 0 ≤ f r) :
    Ideal.ofBits .f32 0x3F000000#32 * ∑ r, Ideal.div (f r) wid = (∑ r, f r) * Ideal.ofBits .f32 0x3A000000#32 := by
  simp only [div_wid, mul_comm _ ((1 / 1024 : ℝ) : EReal)]
  rw [← mul_sum_nonneg _ _ _ hf, half_eq, half_inv_wid_eq, ← mul_assoc, ← EReal.coe_mul, mul_comm (∑ r, f r)]
  norm_num

section
variable (a0 : FVec Ideal S4096x1024 .f32) (a1 : FVec Ideal S4096x256 .f32) (a2 : FVec Ideal S4096x1024 .f32) (a3 : FVec Ideal S1x1024 .f32) (a4 : FVec Ideal S1x1024x1024 .f32) (a5 : FVec Ideal S1x256x1024 .f32)

/-- The embedded tokens. -/
def s1 : FVec Ideal S4096x1024 .f32 :=
  Host.dotGeneral dot_S4096x256_S256x1024_S4096x1024_1_0_0_1_n_n none a1 (shapeCast S256x1024 a5 shapeCasts_S1x256x1024_S256x1024)

/-- The rows' mean squares, and their inverse roots. -/
def s9 : FVec Ideal S4096x1 .f32 :=
  addf (Host.divf (broadcastInDim S4096x1 ![0] bcast_S4096_S4096x1_0 (Host.reduceAdd (mulf a0 a0) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))

def s10 : FVec Ideal S4096x1 .f32 :=
  Host.rsqrt (s9 a0)

/-- The scaled rows, the normed rows, the gate and the error. -/
def s15 : FVec Ideal S4096x1024 .f32 :=
  mulf a0 (broadcastInDim S4096x1024 ![0, 1] bcast_S4096x1_S4096x1024_0_1 (s10 a0))

def s18 : FVec Ideal S4096x1024 .f32 :=
  mulf (s15 a0) (broadcastInDim S4096x1024 ![0, 1] bcast_S1x1024_S4096x1024_0_1 (broadcastInDim S1x1024 ![1] bcast_S1024_S1x1024_1 (shapeCast S1024 a3 shapeCasts_S1x1024_S1024)))

def s26 : FVec Ideal S4096x1024 .f32 :=
  Host.divf (broadcastInDim S4096x1024 ![] bcast_S_S4096x1024 (constant S_ .f32 0x3F800000#32)) (addf (broadcastInDim S4096x1024 ![] bcast_S_S4096x1024 (constant S_ .f32 0x3F800000#32)) (Host.exp (Host.negf (Host.dotGeneral dot_S4096x1024_S1024x1024_S4096x1024_1_0_0_1_n_n none (s18 a0 a3) (shapeCast S1024x1024 a4 shapeCasts_S1x1024x1024_S1024x1024)))))

def s32 : FVec Ideal S4096x1024 .f32 :=
  subf (addf a0 (mulf (s1 a1 a5) (s26 a0 a3 a4))) a2

/-- The loss. -/
def s40 : FVec Ideal S_ .f32 :=
  mulf (constant S_ .f32 0x3F000000#32) (Host.reduceAdd (Host.divf (Host.reduceAdd (mulf (s32 a0 a1 a2 a3 a4 a5) (s32 a0 a1 a2 a3 a4 a5)) (constant S_ .f32 0x00000000#32) reducesTo_S4096x1024_S4096_d1 h_S_) (broadcastInDim S4096 ![] bcast_S_S4096 (constant S_ .f32 0x44800000#32))) (constant S_ .f32 0x00000000#32) reducesTo_S4096_S_d0 h_S_)

/-- The error's gradient, and the gradient of the gate's pre-activation. -/
def s46 : FVec Ideal S4096x1024 .f32 :=
  mulf (broadcastInDim S4096x1024 ![0] bcast_S4096_S4096x1024_0 (Host.divf (broadcastInDim S4096 ![] bcast_S_S4096 (mulf (constant S_ .f32 0x3F000000#32) (constant S_ .f32 0x3F800000#32))) (broadcastInDim S4096 ![] bcast_S_S4096 (constant S_ .f32 0x44800000#32)))) (mulf (broadcastInDim S4096x1024 ![] bcast_S_S4096x1024 (constant S_ .f32 0x40000000#32)) (s32 a0 a1 a2 a3 a4 a5))

def s49 : FVec Ideal S4096x1024 .f32 :=
  mulf (mulf (s1 a1 a5) (s46 a0 a1 a2 a3 a4 a5)) (mulf (s26 a0 a3 a4) (subf (broadcastInDim S4096x1024 ![] bcast_S_S4096x1024 (constant S_ .f32 0x3F800000#32)) (s26 a0 a3 a4)))

/-- The gradient of the normed rows. -/
def s50 : FVec Ideal S4096x1024 .f32 :=
  Host.dotGeneral dot_S4096x1024_S1024x1024_S4096x1024_1_1_0_0_n_n none (s49 a0 a1 a2 a3 a4 a5) (shapeCast S1024x1024 a4 shapeCasts_S1x1024x1024_S1024x1024)

def s55 : FVec Ideal S4096x1024 .f32 :=
  mulf (s50 a0 a1 a2 a3 a4 a5) (broadcastInDim S4096x1024 ![0, 1] bcast_S1x1024_S4096x1024_0_1 (broadcastInDim S1x1024 ![1] bcast_S1024_S1x1024_1 (shapeCast S1024 a3 shapeCasts_S1x1024_S1024)))

/-- The gradient through the mean squares. -/
def s58 : FVec Ideal S4096 .f32 :=
  Host.reduceAdd (mulf a0 (s55 a0 a1 a2 a3 a4 a5)) (constant S_ .f32 0x00000000#32) reducesTo_S4096x1024_S4096_d1 h_S_

def s66 : FVec Ideal S4096x1024 .f32 :=
  broadcastInDim S4096x1024 ![0] bcast_S4096_S4096x1024_0 (Host.reduceAdd (Host.divf (mulf (shapeCast S4096x1 (s58 a0 a1 a2 a3 a4 a5) shapeCasts_S4096_S4096x1) (mulf (broadcastInDim S4096x1 ![] bcast_S_S4096x1 (constant S_ .f32 0xBF000000#32)) (Host.divf (s10 a0) (s9 a0)))) (broadcastInDim S4096x1 ![] bcast_S_S4096x1 (constant S_ .f32 0x44800000#32))) (constant S_ .f32 0x00000000#32) reducesTo_S4096x1_S4096_d1 h_S_)

/-- The rows' gradient. -/
def s71 : FVec Ideal S4096x1024 .f32 :=
  addf (s46 a0 a1 a2 a3 a4 a5) (addf (addf (mulf (s55 a0 a1 a2 a3 a4 a5) (broadcastInDim S4096x1024 ![0, 1] bcast_S4096x1_S4096x1024_0_1 (s10 a0))) (mulf a0 (s66 a0 a1 a2 a3 a4 a5))) (mulf (s66 a0 a1 a2 a3 a4 a5) a0))

/-- The gain's gradient. -/
def s76 : FVec Ideal S1x1024 .f32 :=
  shapeCast S1x1024 (Host.reduceAdd (shapeCast S1x1024 (Host.reduceAdd (mulf (s15 a0) (s50 a0 a1 a2 a3 a4 a5)) (constant S_ .f32 0x00000000#32) reducesTo_S4096x1024_S1024_d0 h_S_) shapeCasts_S1024_S1x1024) (constant S_ .f32 0x00000000#32) reducesTo_S1x1024_S1024_d0 h_S_) shapeCasts_S1024_S1x1024

variable (r : Fin 4096) (n : Fin 1024)

theorem s1_at : s1 a1 a5 (ix2 r n) = embOf a1 a5 r n := by
  pointwise [s1, embOf, emb]

theorem s9_at : s9 a0 (ix2 r 0) = ms (rowOf a0 r) := by
  pointwise [s9, ms, rowOf]

theorem s10_at : s10 a0 (ix2 r 0) = rinv (rowOf a0 r) := by
  pointwise [s10, rinv, s9_at]

theorem s15_at : s15 a0 (ix2 r n) = rowOf a0 r n * rinv (rowOf a0 r) := by
  pointwise [s15, s10_at, rowOf]

theorem s18_at : s18 a0 a3 (ix2 r n) = nrm (rowOf a0 r) (gainOf a3) n := by
  pointwise [s18, s15_at, nrm, gainOf]

theorem s26_at : s26 a0 a3 a4 (ix2 r n) = gate (rowOf a0 r) (gainOf a3) (wOf a4) n := by
  pointwise [s26, s18_at, gate, sgm, wOf]

theorem s32_at : s32 a0 a1 a2 a3 a4 a5 (ix2 r n) = err (rowOf a0 r) (embOf a1 a5 r) (rowOf a2 r) (gainOf a3) (wOf a4) n := by
  pointwise [s32, s26_at, s1_at, err, rowOf]

theorem s46_at : s46 a0 a1 a2 a3 a4 a5 (ix2 r n) = derr (rowOf a0 r) (embOf a1 a5 r) (rowOf a2 r) (gainOf a3) (wOf a4) n := by
  pointwise [s46, s32_at, derr]
  exact scale_err _

theorem s49_at : s49 a0 a1 a2 a3 a4 a5 (ix2 r n) = dpre (rowOf a0 r) (embOf a1 a5 r) (rowOf a2 r) (gainOf a3) (wOf a4) n := by
  pointwise [s49, s46_at, s26_at, s1_at, dpre]
  rw [mul_comm (embOf a1 a5 r n)]

theorem s50_at : s50 a0 a1 a2 a3 a4 a5 (ix2 r n) = dhid (rowOf a0 r) (embOf a1 a5 r) (rowOf a2 r) (gainOf a3) (wOf a4) n := by
  pointwise [s50, s49_at, dhid, wOf]

theorem s55_at : s55 a0 a1 a2 a3 a4 a5 (ix2 r n) = dhid (rowOf a0 r) (embOf a1 a5 r) (rowOf a2 r) (gainOf a3) (wOf a4) n * gainOf a3 n := by
  pointwise [s55, s50_at, gainOf]

theorem s66_at : s66 a0 a1 a2 a3 a4 a5 (ix2 r n) = dms (rowOf a0 r) (gainOf a3) (dhid (rowOf a0 r) (embOf a1 a5 r) (rowOf a2 r) (gainOf a3) (wOf a4)) := by
  pointwise [s66, s58, s55_at, dms]
  rw [Fin.sum_univ_one, s10_at, s9_at]
  rfl

theorem s71_at : s71 a0 a1 a2 a3 a4 a5 (ix2 r n) = drow (rowOf a0 r) (embOf a1 a5 r) (rowOf a2 r) (gainOf a3) (wOf a4) n := by
  unfold drow
  rw [← dnrm_ref]
  pointwise [s71, s46_at, s55_at, s66_at, s10_at]
  rfl

theorem s76_at : s76 a0 a1 a2 a3 a4 a5 (ix2 0 n) = ∑ r : Fin 4096, gainRow (rowOf a0 r) (embOf a1 a5 r) (rowOf a2 r) (gainOf a3) (wOf a4) n := by
  pointwise [s76, s50_at, s15_at, gainRow]
  rw [Fin.sum_univ_one]
  exact Finset.sum_congr rfl fun r _ => mul_comm _ _

theorem s40_at (i) : s40 a0 a1 a2 a3 a4 a5 i = lossSum a0 a1 a2 a3 a4 a5 * Ideal.ofBits .f32 0x3A000000#32 := by
  unfold lossSum lossRow
  pointwise [s40, s32_at]
  exact scale_loss _ fun r => Finset.sum_nonneg fun n _ => sq_nonneg _

theorem s40_eq : s40 a0 a1 a2 a3 a4 a5 = fun _ => lossSum a0 a1 a2 a3 a4 a5 * Ideal.ofBits .f32 0x3A000000#32 :=
  funext (s40_at a0 a1 a2 a3 a4 a5)

theorem s71_eq : s71 a0 a1 a2 a3 a4 a5 = dxArr a0 a1 a2 a3 a4 a5 := by
  funext y; idx_vars y; exact s71_at ..

theorem s73_eq : (truncf .bf16 (mulf (s46 a0 a1 a2 a3 a4 a5) (s26 a0 a3 a4)) bitsLt_bf16_f32 : FVec Ideal S4096x1024 .bf16) = deArr a0 a1 a2 a3 a4 a5 := by
  funext y; idx_vars y
  pointwise [s46_at, s26_at, deArr, demb]

theorem s74_eq : (truncf .bf16 (s18 a0 a3) bitsLt_bf16_f32 : FVec Ideal S4096x1024 .bf16) = hArr a0 a3 := by
  funext y; idx_vars y; exact s18_at ..

theorem s75_eq : (truncf .bf16 (s49 a0 a1 a2 a3 a4 a5) bitsLt_bf16_f32 : FVec Ideal S4096x1024 .bf16) = dtArr a0 a1 a2 a3 a4 a5 := by
  funext y; idx_vars y; exact s49_at ..

theorem s76_eq : s76 a0 a1 a2 a3 a4 a5 = dgArr a0 a1 a2 a3 a4 a5 := by
  funext y
  idx_vars y
  obtain rfl : y0 = 0 := Subsingleton.elim _ _
  exact s76_at ..
end

end Cert.PleRefIdeal.Stage

namespace Cert.PleLossIdeal.Value
open Cert.PleLossIdeal Cert.PleLossIdeal.Gen Cert.Norm Cert.Ple

/-- The loss the host line reads out of the region's array. -/
theorem tail_loss (m : (ℓ : Loc nD τ sig) → Buf (Elt Ideal) ℓ) (c : Dev nD) :
    (Pipeline.afterTail₀ cfgs (dats m) 0 (V0 m) [hostOps1] c main_v8 : FVec Ideal S_ .f32)
      = fun _ => lossSum (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) * Ideal.ofBits .f32 0x3A000000#32 := by
  unfold Pipeline.afterTail₀
  show StableHlo.after hostOps1 _ (Proc.devRef .tc main_v8) = _
  after_results
  have e : Pipeline.withArrays (cfgs 0).spec c (V0 m c) (fun w => (dats m 0 c).arrAt w (cfgs 0).N) (Proc.devRef .tc main_v6_0)
      = (dats m 0 c).arrAt 6 cfg0.N := Pipeline.withArrays_arr (cfgs 0).spec (by decide +kernel) c (V0 m c) _ 6
  rw [e, final6]
  funext i
  rfl
end Cert.PleLossIdeal.Value

namespace Cert.PleRefIdeal.Stage
open Cert.PleRefIdeal Cert.PleRefIdeal.Gen Cert.Norm Cert.Ple

section
variable (m : (ℓ : Loc nD τ sig) → Buf (Elt Ideal) ℓ) (c : Dev nD)

theorem res71 : Value.res_main_v71 m c = s71 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := rfl
theorem res75 : Value.res_main_v75 m c = (truncf .bf16 (s49 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) bitsLt_bf16_f32 : FVec Ideal S4096x1024 .bf16) := rfl
theorem res76 : Value.res_main_v76 m c = s76 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := rfl
end
end Cert.PleRefIdeal.Stage

namespace Cert.Ple
open Cert.PleRefIdeal.Stage

set_option maxHeartbeats 800000 in
/-- Over the extended reals the kernel's loss and gradients are the reference's. -/
theorem algebraic : Cert.algebraic_PleLossIdeal_PleRefIdeal := by
  pair_intro
  · run_from Cert.PleLossIdeal.Gen.run_main m g
    · exact Cert.PleLossIdeal.Gen.W_main_arg4 m (Cert.PleLossIdeal.Gen.dats m) c
    · exact Cert.PleLossIdeal.Gen.W_main_arg5 m (Cert.PleLossIdeal.Gen.dats m) c
  · run_from Cert.PleRefIdeal.Value.run m' g'
    · rw [Cert.PleLossIdeal.Value.tail_loss]
      exact s40_eq ..
    · rw [Cert.PleLossIdeal.Value.final7]
      obtain ⟨h0, h1, h2, h3, h4, h5⟩ := hagree c
      rw [res71, h0, h1, h2, h3, h4, h5]
      exact s71_eq ..
    · rw [Cert.PleLossIdeal.Value.final8]
      rfl
    · rw [Cert.PleLossIdeal.Value.final9]
      exact s73_eq ..
    · rw [Cert.PleLossIdeal.Value.final10]
      exact s74_eq ..
    · rw [Cert.PleLossIdeal.Value.final11]
      obtain ⟨h0, h1, h2, h3, h4, h5⟩ := hagree c
      rw [res75, h0, h1, h2, h3, h4, h5]
      exact s75_eq ..
    · rw [Cert.PleLossIdeal.Value.final12]
      obtain ⟨h0, h1, h2, h3, h4, h5⟩ := hagree c
      rw [res76, h0, h1, h2, h3, h4, h5]
      exact s76_eq ..

end Cert.Ple
-- ==== Proof.Mlp.lean ====
module

public import proofs.«01_k».proof.Proof.Gen.MlpBwdIdeal.Frame
public import proofs.«01_k».proof.Proof.Ple
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

/-! The gradient through the two-layer network with a squared rectifier and its norm, written row by row. -/
namespace Cert.Mlp
open Cert.Norm Cert.Ple
open Cert.Merge (Row)

/-- The two weights as stored, and the hidden layer of all the tokens. -/
abbrev Up : Shape := ⟨3, ![1, 1024, 4096]⟩
abbrev Down : Shape := ⟨3, ![1, 4096, 1024]⟩
abbrev Hid : Shape := ⟨2, ![4096, 4096]⟩

section rows
variable (d x g : Fin 1024 → EReal) (u : Fin 4096 → EReal) (wu : Fin 1024 → Fin 4096 → EReal) (wd : Fin 4096 → Fin 1024 → EReal)

/-- The hidden layer of a row. -/
def hid (l : Fin 4096) : EReal := ∑ k, nrm x g k * wu k l

/-- The gradient of the hidden layer, of the normed row, of the row, and the row's part of the gain's gradient. -/
def dhidden (l : Fin 4096) : EReal := (∑ n, d n * wd l n) * (Ideal.ofBits .f32 0x40000000#32 * max (u l) 0)
def dnorm (k : Fin 1024) : EReal := ∑ l, dhidden d u wd l * wu k l
def dxRow (n : Fin 1024) : EReal := d n + dnrm x g (dnorm d u wu wd) n
def dgRow (n : Fin 1024) : EReal := dnorm d u wu wd n * (x n * rinv x)
end rows

/-- A row of the hidden layer, and the weights as functions. -/
def hidOf (u : Hid.Idx → EReal) (r : Fin 4096) (l : Fin 4096) : EReal := u (ix2 r l)
def upOf (w : Up.Idx → EReal) (k : Fin 1024) (l : Fin 4096) : EReal := w (ix3 0 k l)
def downOf (w : Down.Idx → EReal) (l : Fin 4096) (n : Fin 1024) : EReal := w (ix3 0 l n)

section arrays
variable (d x : Row.Idx → EReal) (g : Gain.Idx → EReal) (wu : Fin 1024 → Fin 4096 → EReal) (wd : Fin 4096 → Fin 1024 → EReal)

/-- The hidden layer, and the arrays the call returns. -/
def uArr (j : Hid.Idx) : EReal := hid (rowOf x (j 0)) (gainOf g) wu (j 1)
variable (u : Hid.Idx → EReal)
def duArr (j : Hid.Idx) : EReal := dhidden (rowOf d (j 0)) (hidOf u (j 0)) wd (j 1)
def dxArr (j : Row.Idx) : EReal := dxRow (rowOf d (j 0)) (rowOf x (j 0)) (gainOf g) (hidOf u (j 0)) wu wd (j 1)
def dgArr (j : Gain.Idx) : EReal := ∑ r : Fin 4096, dgRow (rowOf d r) (rowOf x r) (hidOf u r) wu wd (j 1)
end arrays

/-- A sum over the hidden layer, block of columns by block. -/
theorem sum_blocks (f : Fin 4096 → EReal) : (∑ k : Fin 1024, f ⟨k.val, by omega⟩) + (∑ k : Fin 1024, f ⟨1024 + k.val, by omega⟩)
    + (∑ k : Fin 1024, f ⟨2048 + k.val, by omega⟩) + (∑ k : Fin 1024, f ⟨3072 + k.val, by omega⟩) = ∑ l, f l := by
  rw [← Fin.sum_mul_add_congr (S := 4) (n := 1024) (F := fun j k => f ⟨j.val * 1024 + k.val, by omega⟩) (fun p r hl => rfl) (by norm_num), Fin.sum_univ_four]
  simp

/-- The first weight, stored in four blocks of columns, as a function. -/
abbrev Up4 : Shape := ⟨3, ![4, 1024, 1024]⟩
def upOf4 (w : Up4.Idx → EReal) (k : Fin 1024) (l : Fin 4096) : EReal := w (ix3 ⟨l.val / 1024, by omega⟩ k ⟨l.val % 1024, by omega⟩)

theorem upOf4_at (w : Up4.Idx → EReal) (k : Fin 1024) (l : Fin 4096) (j : Fin 4) (q : Fin 1024) (h : l.val = j.val * 1024 + q.val) :
    upOf4 w k l = w (ix3 j k q) := by
  unfold upOf4
  rw [show (⟨l.val / 1024, by omega⟩ : Fin 4) = j from Fin.ext (by dsimp only; omega), show (⟨l.val % 1024, by omega⟩ : Fin 1024) = q from Fin.ext (by dsimp only; omega)]

end Cert.Mlp

namespace Cert.MlpBwdIdeal.Value
open Cert.MlpBwdIdeal Cert.MlpBwdIdeal.Gen Cert.Norm Cert.Ple Cert.Mlp
open Cert.Merge (Row)

section payloads
variable (x : Vec Ideal S256x1024 .f32) (g : Vec Ideal S1x1024 .f32) (r : Fin 256) (n : Fin 1024)

theorem nrm_at : k0_pay1 (F := Ideal) x g (ix2 r n) = nrm (fun k => x (ix2 r k)) (fun k => g (ix2 0 k)) n := by
  pointwise [k0_pay1, nrm, rinv, ms]

variable (w : Vec Ideal S4x1024x1024 .bf16)

theorem up_at0 : k0_pay2 (F := Ideal) x g (View.ld w (Rect.unit (s := S4x1024x1024) ![0, 0, 0] ![1, 1024, 1024] inb_S4x1024x1024_S1x1024x1024_0_0_0)) (ix2 r n) = ∑ k, nrm (fun k => x (ix2 r k)) (fun k => g (ix2 0 k)) k * w (ix3 0 k n) := by
  pointwise [k0_pay2, nrm_at]

theorem up_at1 : k0_pay4 (F := Ideal) x g (View.ld w (Rect.unit (s := S4x1024x1024) ![1, 0, 0] ![1, 1024, 1024] inb_S4x1024x1024_S1x1024x1024_1_0_0)) (ix2 r n) = ∑ k, nrm (fun k => x (ix2 r k)) (fun k => g (ix2 0 k)) k * w (ix3 1 k n) := by
  pointwise [k0_pay4, nrm_at]

theorem up_at2 : k0_pay7 (F := Ideal) (k0_pay1 x g) (View.ld w (Rect.unit (s := S4x1024x1024) ![2, 0, 0] ![1, 1024, 1024] inb_S4x1024x1024_S1x1024x1024_2_0_0)) (ix2 r n) = ∑ k, nrm (fun k => x (ix2 r k)) (fun k => g (ix2 0 k)) k * w (ix3 2 k n) := by
  pointwise [k0_pay7, nrm_at]

theorem up_at3 : k0_pay9 (F := Ideal) (k0_pay1 x g) (View.ld w (Rect.unit (s := S4x1024x1024) ![3, 0, 0] ![1, 1024, 1024] inb_S4x1024x1024_S1x1024x1024_3_0_0)) (ix2 r n) = ∑ k, nrm (fun k => x (ix2 r k)) (fun k => g (ix2 0 k)) k * w (ix3 3 k n) := by
  pointwise [k0_pay9, nrm_at]

end payloads

variable (V : (c : Dev nD) → (b : Ref sig .tc) → Buf (Elt Ideal) ((c : Thread nD τ).loc b))

theorem idx0 : ∀ t : Fin cfg0.N, win0_0.index t = ![t.val, 0] ∧ win0_1.index t = ![0, 0] ∧ win0_2.index t = ![0, 0, 0]
    ∧ win0_3.index t = ![0, 0] ∧ win0_4.index t = ![t.val, 0] ∧ win0_5.index t = ![t.val, 0] ∧ win0_6.index t = ![t.val, 0] :=
  (by decide +kernel : ∀ t : Fin grid0.N, _)

/-- The array's row that is row `r` of tile `t`. -/
def row0 (t : Fin cfg0.N) (r : Fin 256) : Fin 4096 := ⟨t.val * 256 + r.val, by have h : t.val < 16 := lt_of_lt_of_eq t.isLt N_0; omega⟩

section blocks0
variable (c : Dev nD) (t : Fin cfg0.N) (r : Fin 256)

theorem x_row0 : (fun k => iblk0 V c 0 t (ix2 r k)) = rowOf (V c main_arg1) (row0 t r) := by
  funext k; unfold rowOf row0; blk_point [iblk0, idx0 t]

theorem g_row0 : (fun k => iblk0 V c 1 t (ix2 0 k)) = gainOf (V c main_arg2) := by
  funext k; unfold gainOf; blk_point [iblk0, idx0 t]

theorem emb6 (f : Hid.Idx → EReal) (l : Fin 4096) : f ((win0_6.blk t).view.emb (ix2 r l)) = f (ix2 (row0 t r) l) := by
  unfold row0; blk_ext [idx0 t]

theorem w_blk0 (j : Fin 4) (k q : Fin 1024) : iblk0 V c 2 t (ix3 j k q) = (V c main_v3 : Up4.Idx → EReal) (ix3 j k q) := by
  blk_point [iblk0, idx0 t]

/-- A column of block `j` of the hidden layer. -/
theorem pt0_6 (j : Fin 4) (q : Fin 1024) (l : Fin 4096) (h : l.val = j.val * 1024 + q.val) :
    (∑ k, nrm (fun k => iblk0 V c 0 t (ix2 r k)) (fun k => iblk0 V c 1 t (ix2 0 k)) k * (iblk0 V c 2 t : Up4.Idx → EReal) (ix3 j k q))
      = uArr (V c main_arg1) (V c main_arg2) (upOf4 (V c main_v3)) ((win0_6.blk t).view.emb (ix2 r l)) := by
  refine Eq.trans ?_ (emb6 t r (uArr (V c main_arg1) (V c main_arg2) (upOf4 (V c main_v3))) l).symm
  rw [x_row0, g_row0]
  show _ = ∑ k, nrm _ _ k * upOf4 _ k l
  refine Finset.sum_congr rfl fun k _ => ?_
  rw [w_blk0]
  exact congrArg _ (upOf4_at _ k l j q h).symm
end blocks0

/-- The hidden layer the forward kernel leaves. -/
theorem final0_6 (c : Dev nD) : (dat0 V c).arrAt 6 cfg0.N = uArr (V c main_arg1) (V c main_arg2) (upOf4 (V c main_v3)) := by
  refine (dat0 V c).arrAt_eq_of_covers 6 _ (by decide +kernel) fun t _ y => ?_
  blk_simp
  rw [after0_6]
  unfold outsAt0
  frame_out
  idx_vars y
  canon_tiles x h
  · idx_vars x
    obtain rfl : y0 = x0 := Fin.ext h0
    exact (up_at3 _ _ y0 x1 _).trans (pt0_6 V c t y0 3 x1 y1 (by simpa using h1))
  · idx_vars x
    obtain rfl : y0 = x0 := Fin.ext h0
    exact (up_at2 _ _ y0 x1 _).trans (pt0_6 V c t y0 2 x1 y1 (by simpa using h1))
  · idx_vars x
    obtain rfl : y0 = x0 := Fin.ext h0
    exact (up_at1 _ _ y0 x1 _).trans (pt0_6 V c t y0 1 x1 y1 (by simpa using h1))
  · idx_vars x
    obtain rfl : y0 = x0 := Fin.ext h0
    exact (up_at0 _ _ y0 x1 _).trans (pt0_6 V c t y0 0 x1 y1 (by simpa using h1))

section payloads1
variable (v : View sig .tc .vmem S256x4096 .bf16) (d x : Vec Ideal S256x1024 .f32) (g : Vec Ideal S1x1024 .f32) (u : Vec Ideal S256x4096 .f32)
  (du : Vec Ideal S256x4096 .bf16) (w : Vec Ideal S4x1024x1024 .bf16) (wd : Vec Ideal S4096x1024 .bf16) (r : Fin 256) (n : Fin 1024)

theorem du_at (l : Fin 4096) : k1_pay4 (F := Ideal) d wd u (ix2 r l) = dhidden (fun k => d (ix2 r k)) (fun l => u (ix2 r l)) (fun l n => wd (ix2 l n)) l := by
  pointwise [k1_pay4, dhidden]

theorem cut0 (k : Fin 1024) : (v.readCov [(⟨Rect.unit (s := S256x4096) ![0, 0] ![256, 4096] inb_S256x4096_S256x4096_0_0, du⟩ : View.Piece (Elt Ideal) S256x4096 .bf16)] (Rect.unit (s := S256x4096) ![0, 0] ![256, 1024] inb_S256x4096_S256x1024_0_0).toLoadRect) (ix2 r k) = du (ix2 r ⟨k.val, by omega⟩) := by
  rw [View.readCov_eq_canon', View.canon_cons_unit_lit _ _ _ (by decide)]
  show View.ld du (Rect.unit (s := S256x4096) ![0, 0] ![256, 1024] inb_S256x4096_S256x1024_0_0) (ix2 r k) = _
  pointwise

theorem cut1024 (k : Fin 1024) : (v.readCov [(⟨Rect.unit (s := S256x4096) ![0, 0] ![256, 4096] inb_S256x4096_S256x4096_0_0, du⟩ : View.Piece (Elt Ideal) S256x4096 .bf16)] (Rect.unit (s := S256x4096) ![0, 1024] ![256, 1024] inb_S256x4096_S256x1024_0_1024).toLoadRect) (ix2 r k) = du (ix2 r ⟨1024 + k.val, by omega⟩) := by
  rw [View.readCov_eq_canon', View.canon_cons_unit_lit _ _ _ (by decide)]
  show View.ld du (Rect.unit (s := S256x4096) ![0, 1024] ![256, 1024] inb_S256x4096_S256x1024_0_1024) (ix2 r k) = _
  pointwise

theorem cut2048 (k : Fin 1024) : (v.readCov [(⟨Rect.unit (s := S256x4096) ![0, 0] ![256, 4096] inb_S256x4096_S256x4096_0_0, du⟩ : View.Piece (Elt Ideal) S256x4096 .bf16)] (Rect.unit (s := S256x4096) ![0, 2048] ![256, 1024] inb_S256x4096_S256x1024_0_2048).toLoadRect) (ix2 r k) = du (ix2 r ⟨2048 + k.val, by omega⟩) := by
  rw [View.readCov_eq_canon', View.canon_cons_unit_lit _ _ _ (by decide)]
  show View.ld du (Rect.unit (s := S256x4096) ![0, 2048] ![256, 1024] inb_S256x4096_S256x1024_0_2048) (ix2 r k) = _
  pointwise

theorem cut3072 (k : Fin 1024) : (v.readCov [(⟨Rect.unit (s := S256x4096) ![0, 0] ![256, 4096] inb_S256x4096_S256x4096_0_0, du⟩ : View.Piece (Elt Ideal) S256x4096 .bf16)] (Rect.unit (s := S256x4096) ![0, 3072] ![256, 1024] inb_S256x4096_S256x1024_0_3072).toLoadRect) (ix2 r k) = du (ix2 r ⟨3072 + k.val, by omega⟩) := by
  rw [View.readCov_eq_canon', View.canon_cons_unit_lit _ _ _ (by decide)]
  show View.ld du (Rect.unit (s := S256x4096) ![0, 3072] ![256, 1024] inb_S256x4096_S256x1024_0_3072) (ix2 r k) = _
  pointwise

theorem dnorm_at : k1_pay6 (F := Ideal) (k1_pay5 (v.readCov [(⟨Rect.unit (s := S256x4096) ![0, 0] ![256, 4096] inb_S256x4096_S256x4096_0_0, du⟩ : View.Piece (Elt Ideal) S256x4096 .bf16)] (Rect.unit (s := S256x4096) ![0, 0] ![256, 1024] inb_S256x4096_S256x1024_0_0).toLoadRect) (View.ld w (Rect.unit (s := S4x1024x1024) ![0, 0, 0] ![1, 1024, 1024] inb_S4x1024x1024_S1x1024x1024_0_0_0)) (v.readCov [(⟨Rect.unit (s := S256x4096) ![0, 0] ![256, 4096] inb_S256x4096_S256x4096_0_0, du⟩ : View.Piece (Elt Ideal) S256x4096 .bf16)] (Rect.unit (s := S256x4096) ![0, 1024] ![256, 1024] inb_S256x4096_S256x1024_0_1024).toLoadRect) (View.ld w (Rect.unit (s := S4x1024x1024) ![1, 0, 0] ![1, 1024, 1024] inb_S4x1024x1024_S1x1024x1024_1_0_0))) (v.readCov [(⟨Rect.unit (s := S256x4096) ![0, 0] ![256, 4096] inb_S256x4096_S256x4096_0_0, du⟩ : View.Piece (Elt Ideal) S256x4096 .bf16)] (Rect.unit (s := S256x4096) ![0, 2048] ![256, 1024] inb_S256x4096_S256x1024_0_2048).toLoadRect) (View.ld w (Rect.unit (s := S4x1024x1024) ![2, 0, 0] ![1, 1024, 1024] inb_S4x1024x1024_S1x1024x1024_2_0_0)) (v.readCov [(⟨Rect.unit (s := S256x4096) ![0, 0] ![256, 4096] inb_S256x4096_S256x4096_0_0, du⟩ : View.Piece (Elt Ideal) S256x4096 .bf16)] (Rect.unit (s := S256x4096) ![0, 3072] ![256, 1024] inb_S256x4096_S256x1024_0_3072).toLoadRect) (View.ld w (Rect.unit (s := S4x1024x1024) ![3, 0, 0] ![1, 1024, 1024] inb_S4x1024x1024_S1x1024x1024_3_0_0)) (ix2 r n) = ∑ l, du (ix2 r l) * upOf4 w n l := by
  rw [← sum_blocks]
  pointwise [k1_pay6, k1_pay5, cut0, cut1024, cut2048, cut3072]
  refine congrArg₂ (· + ·) (congrArg₂ (· + ·) (congrArg₂ (· + ·) ?_ ?_) ?_) ?_ <;>
    exact Finset.sum_congr rfl fun x _ => congrArg _ (upOf4_at w n _ _ x (by simp)).symm

theorem rinv_at : k1_pay7 (F := Ideal) x (ix2 r 0) = rinv fun k => x (ix2 r k) := by
  pointwise [k1_pay7, rinv, ms]

theorem dnorm_eq : k1_pay6 (F := Ideal) (k1_pay5 (v.readCov [(⟨Rect.unit (s := S256x4096) ![0, 0] ![256, 4096] inb_S256x4096_S256x4096_0_0, (k1_pay4 d wd u)⟩ : View.Piece (Elt Ideal) S256x4096 .bf16)] (Rect.unit (s := S256x4096) ![0, 0] ![256, 1024] inb_S256x4096_S256x1024_0_0).toLoadRect) (View.ld w (Rect.unit (s := S4x1024x1024) ![0, 0, 0] ![1, 1024, 1024] inb_S4x1024x1024_S1x1024x1024_0_0_0)) (v.readCov [(⟨Rect.unit (s := S256x4096) ![0, 0] ![256, 4096] inb_S256x4096_S256x4096_0_0, (k1_pay4 d wd u)⟩ : View.Piece (Elt Ideal) S256x4096 .bf16)] (Rect.unit (s := S256x4096) ![0, 1024] ![256, 1024] inb_S256x4096_S256x1024_0_1024).toLoadRect) (View.ld w (Rect.unit (s := S4x1024x1024) ![1, 0, 0] ![1, 1024, 1024] inb_S4x1024x1024_S1x1024x1024_1_0_0))) (v.readCov [(⟨Rect.unit (s := S256x4096) ![0, 0] ![256, 4096] inb_S256x4096_S256x4096_0_0, (k1_pay4 d wd u)⟩ : View.Piece (Elt Ideal) S256x4096 .bf16)] (Rect.unit (s := S256x4096) ![0, 2048] ![256, 1024] inb_S256x4096_S256x1024_0_2048).toLoadRect) (View.ld w (Rect.unit (s := S4x1024x1024) ![2, 0, 0] ![1, 1024, 1024] inb_S4x1024x1024_S1x1024x1024_2_0_0)) (v.readCov [(⟨Rect.unit (s := S256x4096) ![0, 0] ![256, 4096] inb_S256x4096_S256x4096_0_0, (k1_pay4 d wd u)⟩ : View.Piece (Elt Ideal) S256x4096 .bf16)] (Rect.unit (s := S256x4096) ![0, 3072] ![256, 1024] inb_S256x4096_S256x1024_0_3072).toLoadRect) (View.ld w (Rect.unit (s := S4x1024x1024) ![3, 0, 0] ![1, 1024, 1024] inb_S4x1024x1024_S1x1024x1024_3_0_0)) (ix2 r n) = dnorm (fun k => d (ix2 r k)) (fun l => u (ix2 r l)) (upOf4 w) (fun l n => wd (ix2 l n)) n := by
  rw [dnorm_at]
  exact Finset.sum_congr rfl fun l _ => by rw [du_at]

theorem drow_at : k1_pay1 (F := Ideal) d (k1_pay8 (k1_pay5 (v.readCov [(⟨Rect.unit (s := S256x4096) ![0, 0] ![256, 4096] inb_S256x4096_S256x4096_0_0, (k1_pay4 d wd u)⟩ : View.Piece (Elt Ideal) S256x4096 .bf16)] (Rect.unit (s := S256x4096) ![0, 0] ![256, 1024] inb_S256x4096_S256x1024_0_0).toLoadRect) (View.ld w (Rect.unit (s := S4x1024x1024) ![0, 0, 0] ![1, 1024, 1024] inb_S4x1024x1024_S1x1024x1024_0_0_0)) (v.readCov [(⟨Rect.unit (s := S256x4096) ![0, 0] ![256, 4096] inb_S256x4096_S256x4096_0_0, (k1_pay4 d wd u)⟩ : View.Piece (Elt Ideal) S256x4096 .bf16)] (Rect.unit (s := S256x4096) ![0, 1024] ![256, 1024] inb_S256x4096_S256x1024_0_1024).toLoadRect) (View.ld w (Rect.unit (s := S4x1024x1024) ![1, 0, 0] ![1, 1024, 1024] inb_S4x1024x1024_S1x1024x1024_1_0_0))) (v.readCov [(⟨Rect.unit (s := S256x4096) ![0, 0] ![256, 4096] inb_S256x4096_S256x4096_0_0, (k1_pay4 d wd u)⟩ : View.Piece (Elt Ideal) S256x4096 .bf16)] (Rect.unit (s := S256x4096) ![0, 2048] ![256, 1024] inb_S256x4096_S256x1024_0_2048).toLoadRect) (View.ld w (Rect.unit (s := S4x1024x1024) ![2, 0, 0] ![1, 1024, 1024] inb_S4x1024x1024_S1x1024x1024_2_0_0)) (v.readCov [(⟨Rect.unit (s := S256x4096) ![0, 0] ![256, 4096] inb_S256x4096_S256x4096_0_0, (k1_pay4 d wd u)⟩ : View.Piece (Elt Ideal) S256x4096 .bf16)] (Rect.unit (s := S256x4096) ![0, 3072] ![256, 1024] inb_S256x4096_S256x1024_0_3072).toLoadRect) (View.ld w (Rect.unit (s := S4x1024x1024) ![3, 0, 0] ![1, 1024, 1024] inb_S4x1024x1024_S1x1024x1024_3_0_0)) x g) (ix2 r n) = dxRow (fun k => d (ix2 r k)) (fun k => x (ix2 r k)) (fun k => g (ix2 0 k)) (fun l => u (ix2 r l)) (upOf4 w) (fun l n => wd (ix2 l n)) n := by
  pointwise [k1_pay1, k1_pay8, dxRow, dnrm, dnorm_eq, rinv_at]

theorem gain_at (a : Vec Ideal S1x1024 .f32) : k1_pay2 (F := Ideal) (k1_pay9 (k1_pay5 (v.readCov [(⟨Rect.unit (s := S256x4096) ![0, 0] ![256, 4096] inb_S256x4096_S256x4096_0_0, (k1_pay4 d wd u)⟩ : View.Piece (Elt Ideal) S256x4096 .bf16)] (Rect.unit (s := S256x4096) ![0, 0] ![256, 1024] inb_S256x4096_S256x1024_0_0).toLoadRect) (View.ld w (Rect.unit (s := S4x1024x1024) ![0, 0, 0] ![1, 1024, 1024] inb_S4x1024x1024_S1x1024x1024_0_0_0)) (v.readCov [(⟨Rect.unit (s := S256x4096) ![0, 0] ![256, 4096] inb_S256x4096_S256x4096_0_0, (k1_pay4 d wd u)⟩ : View.Piece (Elt Ideal) S256x4096 .bf16)] (Rect.unit (s := S256x4096) ![0, 1024] ![256, 1024] inb_S256x4096_S256x1024_0_1024).toLoadRect) (View.ld w (Rect.unit (s := S4x1024x1024) ![1, 0, 0] ![1, 1024, 1024] inb_S4x1024x1024_S1x1024x1024_1_0_0))) (v.readCov [(⟨Rect.unit (s := S256x4096) ![0, 0] ![256, 4096] inb_S256x4096_S256x4096_0_0, (k1_pay4 d wd u)⟩ : View.Piece (Elt Ideal) S256x4096 .bf16)] (Rect.unit (s := S256x4096) ![0, 2048] ![256, 1024] inb_S256x4096_S256x1024_0_2048).toLoadRect) (View.ld w (Rect.unit (s := S4x1024x1024) ![2, 0, 0] ![1, 1024, 1024] inb_S4x1024x1024_S1x1024x1024_2_0_0)) (v.readCov [(⟨Rect.unit (s := S256x4096) ![0, 0] ![256, 4096] inb_S256x4096_S256x4096_0_0, (k1_pay4 d wd u)⟩ : View.Piece (Elt Ideal) S256x4096 .bf16)] (Rect.unit (s := S256x4096) ![0, 3072] ![256, 1024] inb_S256x4096_S256x1024_0_3072).toLoadRect) (View.ld w (Rect.unit (s := S4x1024x1024) ![3, 0, 0] ![1, 1024, 1024] inb_S4x1024x1024_S1x1024x1024_3_0_0)) x) a (ix2 0 n)
    = a (ix2 0 n) + ∑ r : Fin 256, dgRow (fun k => d (ix2 r k)) (fun k => x (ix2 r k)) (fun l => u (ix2 r l)) (upOf4 w) (fun l n => wd (ix2 l n)) n := by
  pointwise [k1_pay2, k1_pay9, dgRow, dnorm_eq, rinv_at]
end payloads1

end Cert.MlpBwdIdeal.Value
-- ==== Proof.MlpBlk.lean ====
module

public import proofs.«01_k».proof.Proof.Gen.MlpBwdIdeal.Frame
public import proofs.«01_k».proof.Proof.Mlp
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

/-! What the two regions of the call leave in memory, and the run that says so. -/
namespace Cert.MlpBwdIdeal.Value
open Cert.MlpBwdIdeal Cert.MlpBwdIdeal.Gen Cert.Norm Cert.Ple Cert.Mlp
open Cert.Merge (Row)

section region1
variable (V : (c : Dev nD) → (b : Ref sig .tc) → Buf (Elt Ideal) ((c : Thread nD τ).loc b))

theorem idx1 : ∀ t : Fin cfg1.N, win1_0.index t = ![t.val, 0] ∧ win1_1.index t = ![t.val, 0] ∧ win1_2.index t = ![t.val, 0]
    ∧ win1_3.index t = ![0, 0] ∧ win1_4.index t = ![0, 0, 0] ∧ win1_5.index t = ![0, 0] ∧ win1_6.index t = ![t.val, 0]
    ∧ win1_7.index t = ![t.val, 0] ∧ win1_8.index t = ![0, 0] :=
  (by decide +kernel : ∀ t : Fin grid1.N, _)

/-- The array's row that is row `r` of tile `t`. -/
def row1 (t : Fin cfg1.N) (r : Fin 256) : Fin 4096 := ⟨t.val * 256 + r.val, by have h : t.val < 16 := lt_of_lt_of_eq t.isLt N_1; omega⟩

/-- The second weight as its block holds it. -/
def downBlk (w : (⟨2, ![4096, 1024]⟩ : Shape).Idx → EReal) (l : Fin 4096) (n : Fin 1024) : EReal := w (ix2 l n)

section blocks
variable (c : Dev nD) (t : Fin cfg1.N) (r : Fin 256)

theorem d_row : (fun k => iblk1 V c 0 t (ix2 r k)) = rowOf (V c main_arg0) (row1 t r) := by
  funext k; unfold rowOf row1; blk_point [iblk1, idx1 t]

theorem u_row : (fun l => iblk1 V c 1 t (ix2 r l)) = hidOf (V c main_v6_2) (row1 t r) := by
  funext k; unfold hidOf row1; blk_point [iblk1, idx1 t]

theorem x_row : (fun k => iblk1 V c 2 t (ix2 r k)) = rowOf (V c main_arg1) (row1 t r) := by
  funext k; unfold rowOf row1; blk_point [iblk1, idx1 t]

theorem g_row : (fun k => iblk1 V c 3 t (ix2 0 k)) = gainOf (V c main_arg2) := by
  funext k; unfold gainOf; blk_point [iblk1, idx1 t]

theorem wd_blk : (fun l n => iblk1 V c 5 t (ix2 l n)) = downBlk (V c main_v5) := by
  funext l n; unfold downBlk; blk_point [iblk1, idx1 t]

theorem wu_blk : upOf4 (iblk1 V c 4 t) = upOf4 (V c main_v3) := by
  funext k l; unfold upOf4; blk_point [iblk1, idx1 t]

theorem emb1_6 (f : Row.Idx → EReal) (n : Fin 1024) : f ((win1_6.blk t).view.emb (ix2 r n)) = f (ix2 (row1 t r) n) := by
  unfold row1; blk_ext [idx1 t]

theorem emb1_7 (f : Hid.Idx → EReal) (l : Fin 4096) : f ((win1_7.blk t).view.emb (ix2 r l)) = f (ix2 (row1 t r) l) := by
  unfold row1; blk_ext [idx1 t]
end blocks

theorem tile_sum (f : Fin 4096 → EReal) : ∑ p : Fin cfg1.N, ∑ r : Fin 256, f (row1 p r) = ∑ l : Fin 4096, f l :=
  Fin.sum_mul_add_congr (fun p r hl => rfl) (by rw [show cfg1.N = 16 from N_1])

/-- The rows' gradient. -/
theorem final1_6 (c : Dev nD) : (dat1 V c).arrAt 6 cfg1.N = dxArr (V c main_arg0) (V c main_arg1) (V c main_arg2) (upOf4 (V c main_v3)) (downBlk (V c main_v5)) (V c main_v6_2) := by
  refine (dat1 V c).arrAt_eq_of_covers 6 _ (by decide +kernel) fun t _ y => ?_
  blk_simp
  by_cases h : t.val % 16 = 0
  · rw [after1_6, outsAt1_A V c t h]; frame_out
    idx_vars y
    refine Eq.trans ?_ (emb1_6 t y0 (dxArr (V c main_arg0) (V c main_arg1) (V c main_arg2) (upOf4 (V c main_v3)) (downBlk (V c main_v5)) (V c main_v6_2)) y1).symm
    rw [drow_at, d_row, u_row, x_row, g_row, wd_blk, wu_blk]
    rfl
  · rw [after1_6, outsAt1_B V c t h]; frame_out
    idx_vars y
    refine Eq.trans ?_ (emb1_6 t y0 (dxArr (V c main_arg0) (V c main_arg1) (V c main_arg2) (upOf4 (V c main_v3)) (downBlk (V c main_v5)) (V c main_v6_2)) y1).symm
    rw [drow_at, d_row, u_row, x_row, g_row, wd_blk, wu_blk]
    rfl

/-- The hidden layer's gradient. -/
theorem final1_7 (c : Dev nD) : (dat1 V c).arrAt 7 cfg1.N = duArr (V c main_arg0) (downBlk (V c main_v5)) (V c main_v6_2) := by
  refine (dat1 V c).arrAt_eq_of_covers 7 _ (by decide +kernel) fun t _ y => ?_
  blk_simp
  by_cases h : t.val % 16 = 0
  · rw [after1_7, outsAt1_A V c t h]; frame_out
    idx_vars y
    refine Eq.trans ?_ (emb1_7 t y0 (duArr (V c main_arg0) (downBlk (V c main_v5)) (V c main_v6_2)) y1).symm
    rw [du_at, d_row, u_row, wd_blk]
    rfl
  · rw [after1_7, outsAt1_B V c t h]; frame_out
    idx_vars y
    refine Eq.trans ?_ (emb1_7 t y0 (duArr (V c main_arg0) (downBlk (V c main_v5)) (V c main_v6_2)) y1).symm
    rw [du_at, d_row, u_row, wd_blk]
    rfl

theorem gain_zero (j : S1x1024.Idx) : k1_pay3 (F := Ideal) j = 0 := by pointwise! [k1_pay3]

/-- The part of the gain's gradient a tile adds. -/
def dgTile (c : Dev nD) (t : Fin cfg1.N) (n : Fin 1024) : EReal :=
  ∑ r : Fin 256, dgRow (rowOf (V c main_arg0) (row1 t r)) (rowOf (V c main_arg1) (row1 t r)) (hidOf (V c main_v6_2) (row1 t r)) (upOf4 (V c main_v3)) (downBlk (V c main_v5)) n

theorem dgTile_eq (c : Dev nD) (t : Fin cfg1.N) (n : Fin 1024) :
    (∑ r : Fin 256, dgRow (fun k => iblk1 V c 0 t (ix2 r k)) (fun k => iblk1 V c 2 t (ix2 r k)) (fun l => iblk1 V c 1 t (ix2 r l)) (upOf4 (iblk1 V c 4 t)) (fun l n => iblk1 V c 5 t (ix2 l n)) n) = dgTile V c t n := by
  refine Finset.sum_congr rfl fun r _ => ?_
  rw [d_row, u_row, x_row, wd_blk, wu_blk]

/-- The gain's gradient, summed over the tiles. -/
theorem final1_8 (c : Dev nD) : (dat1 V c).arrAt 8 cfg1.N = dgArr (V c main_arg0) (V c main_arg1) (upOf4 (V c main_v3)) (downBlk (V c main_v5)) (V c main_v6_2) := by
  refine (dat1 V c).arrAt_eq_of_after_last 8 t1_15 (by decide +kernel) _ fun j => ?_
  blk_simp
  rw [after1_8, Pipeline.eq_sum_fin_of_reset_step_apply_last (fun n h => (outsAt1 V c n h).2.2) 16 (fun _ => 0)
    (fun t j => dgTile V c t (j 1))
    (fun t h j => by
      rw [outsAt1_A V c t h]; frame_out; idx_vars j
      obtain rfl : j0 = 0 := Subsingleton.elim _ _
      rw [gain_at, gain_zero]
      exact congrArg _ (dgTile_eq V c t j1))
    (fun t h j => by
      rw [outsAt1_B V c t h]; frame_out; idx_vars j
      obtain rfl : j0 = 0 := Subsingleton.elim _ _
      rw [gain_at]
      exact congrArg _ (dgTile_eq V c t j1))
    (le_of_eq N_1) t1_15 rfl j, zero_add]
  exact tile_sum fun r => dgRow (rowOf (V c main_arg0) r) (rowOf (V c main_arg1) r) (hidOf (V c main_v6_2) r) (upOf4 (V c main_v3)) (downBlk (V c main_v5)) (j 1)
end region1

variable (m : (ℓ : Loc nD τ sig) → Buf (Elt Ideal) ℓ) (ρ : Dev nD → PrngReg)

theorem up_at (w : FVec Ideal S1x1024x4096 .f32) (j : Fin 4) (k q : Fin 1024) :
    (transpose S4x1024x1024 [1, 0, 2] (shapeCast S1024x4x1024 (truncf .bf16 (shapeCast S1024x4096 w shapeCasts_S1x1024x4096_S1024x4096) bitsLt_bf16_f32 : FVec Ideal S1024x4096 .bf16) shapeCasts_S1024x4096_S1024x4x1024) transposes_S1024x4x1024_S4x1024x1024_1_0_2 : FVec Ideal S4x1024x1024 .bf16) (ix3 j k q)
      = w (ix3 0 k ⟨j.val * 1024 + q.val, by omega⟩) := by
  pointwise

theorem down_at (w : FVec Ideal S1x4096x1024 .f32) (l : Fin 4096) (n : Fin 1024) :
    (truncf .bf16 (shapeCast S4096x1024 w shapeCasts_S1x4096x1024_S4096x1024) bitsLt_bf16_f32 : FVec Ideal S4096x1024 .bf16) (ix2 l n) = w (ix3 0 l n) := by
  pointwise

section entry
variable (c : Dev nD)

theorem V1_v3 : (V1 m ρ c main_v3 : FVec Ideal S4x1024x1024 .bf16) = transpose S4x1024x1024 [1, 0, 2] (shapeCast S1024x4x1024 (truncf .bf16 (shapeCast S1024x4096 (m ((c : Thread nD τ).loc main_arg3) : FVec Ideal S1x1024x4096 .f32) shapeCasts_S1x1024x4096_S1024x4096) bitsLt_bf16_f32 : FVec Ideal S1024x4096 .bf16) shapeCasts_S1024x4096_S1024x4x1024) transposes_S1024x4x1024_S4x1024x1024_1_0_2 := by
  unfold V1 W1; after_results; try rfl

theorem V1_v5 : (V1 m ρ c main_v5 : FVec Ideal S4096x1024 .bf16) = (truncf .bf16 (shapeCast S4096x1024 (m ((c : Thread nD τ).loc main_arg4) : FVec Ideal S1x4096x1024 .f32) shapeCasts_S1x4096x1024_S4096x1024) bitsLt_bf16_f32 : FVec Ideal S4096x1024 .bf16) := by
  unfold V1 W1; after_results; try rfl

theorem V1_up : upOf4 (V1 m ρ c main_v3) = upOf (m ((c : Thread nD τ).loc main_arg3)) := by
  funext k l
  have h := up_at (m ((c : Thread nD τ).loc main_arg3)) ⟨l.val / 1024, by omega⟩ k ⟨l.val % 1024, by omega⟩
  rw [← V1_v3 m ρ c] at h
  refine h.trans ?_
  show _ = m ((c : Thread nD τ).loc main_arg3) (ix3 0 k l)
  congr 2
  exact Fin.ext (by dsimp only; omega)

theorem V1_down : downBlk (V1 m ρ c main_v5) = downOf (m ((c : Thread nD τ).loc main_arg4)) := by
  funext l n
  have h := down_at (m ((c : Thread nD τ).loc main_arg4)) l n
  rw [← V1_v5 m ρ c] at h
  exact h

theorem V2_arg0 : V2 m ρ c main_arg0 = m ((c : Thread nD τ).loc main_arg0) := W2_args m ρ c main_arg0 (by decide)
theorem V2_arg1 : V2 m ρ c main_arg1 = m ((c : Thread nD τ).loc main_arg1) := W2_args m ρ c main_arg1 (by decide)
theorem V2_arg2 : V2 m ρ c main_arg2 = m ((c : Thread nD τ).loc main_arg2) := W2_args m ρ c main_arg2 (by decide)
theorem V2_v3 : V2 m ρ c main_v3 = V1 m ρ c main_v3 := W2_of m ρ c main_v3 (by decide +kernel)
theorem V2_v5 : V2 m ρ c main_v5 = V1 m ρ c main_v5 := W2_of m ρ c main_v5 (by decide +kernel)

/-- The hidden layer at the second region's entry. -/
theorem V2_u : V2 m ρ c main_v6_2 = uArr (m ((c : Thread nD τ).loc main_arg1)) (m ((c : Thread nD τ).loc main_arg2)) (upOf (m ((c : Thread nD τ).loc main_arg3))) := by
  refine (W2_arr m ρ c 6).trans ?_
  rw [final0_6, V1_up, show V1 m ρ c main_arg1 = _ from W1_args m ρ c main_arg1 (by decide), show V1 m ρ c main_arg2 = _ from W1_args m ρ c main_arg2 (by decide)]

/-- What the call leaves in its three results. -/
theorem W3_dx : W3 m ρ c (Proc.devRef .tc main_v7_0) = dxArr (m ((c : Thread nD τ).loc main_arg0)) (m ((c : Thread nD τ).loc main_arg1)) (m ((c : Thread nD τ).loc main_arg2)) (upOf (m ((c : Thread nD τ).loc main_arg3))) (downOf (m ((c : Thread nD τ).loc main_arg4)))
    (uArr (m ((c : Thread nD τ).loc main_arg1)) (m ((c : Thread nD τ).loc main_arg2)) (upOf (m ((c : Thread nD τ).loc main_arg3)))) := by
  refine (W3_arr m ρ c 6).trans ?_
  rw [final1_6, V2_arg0, V2_arg1, V2_arg2, V2_v3, V2_v5, V2_u, V1_up, V1_down]

theorem W3_du : W3 m ρ c (Proc.devRef .tc main_v7_1) = duArr (m ((c : Thread nD τ).loc main_arg0)) (downOf (m ((c : Thread nD τ).loc main_arg4)))
    (uArr (m ((c : Thread nD τ).loc main_arg1)) (m ((c : Thread nD τ).loc main_arg2)) (upOf (m ((c : Thread nD τ).loc main_arg3)))) := by
  refine (W3_arr m ρ c 7).trans ?_
  rw [final1_7, V2_arg0, V2_v5, V2_u, V1_down]

theorem W3_dg : W3 m ρ c (Proc.devRef .tc main_v7_2) = dgArr (m ((c : Thread nD τ).loc main_arg0)) (m ((c : Thread nD τ).loc main_arg1)) (upOf (m ((c : Thread nD τ).loc main_arg3))) (downOf (m ((c : Thread nD τ).loc main_arg4)))
    (uArr (m ((c : Thread nD τ).loc main_arg1)) (m ((c : Thread nD τ).loc main_arg2)) (upOf (m ((c : Thread nD τ).loc main_arg3)))) := by
  refine (W3_arr m ρ c 8).trans ?_
  rw [final1_8, V2_arg0, V2_arg1, V2_v3, V2_v5, V2_u, V1_up, V1_down]
end entry

open Idealize.SL Idealize.SL.RA Idealize.SL.BI
open scoped Idealize.SL.BI
open Idealize.SL.BI.BIBase Idealize.SL.BI.Laws Idealize.SL.ProofMode
open Idealize.ShloMosaic.Rounds

set_option backward.isDefEq.respectTransparency.types false in
/-- The call runs to its end and leaves every buffer that is no region's own at the contents the two regions give it. -/
theorem run : θ_run defs (onTc (τ := τ) (main (F := Ideal))) ⟨m, fun _ => 0, ρ⟩ (fun r => ∀ c : Dev nD,
    ∀ b ∈ Pipeline.ucRefs τ sig, r.2.mem (((c : Thread nD τ)).1, b) = W3 m ρ c b) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

end Cert.MlpBwdIdeal.Value
-- ==== Proof.MlpPair.lean ====
module

public import proofs.«01_k».proof.Proof.Gen.MlpBwdIdeal.Frame
public import proofs.«01_k».proof.Proof.Gen.MlpRefIdeal.Run
public import proofs.«01_k».proof.Proof.MlpBlk
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

/-! The reference of the gated layer's gradient, stage by stage at an index, and the pair's value claim. -/
namespace Cert.MlpRefIdeal.Stage
open Cert.MlpRefIdeal Cert.MlpRefIdeal.Gen Cert.Norm Cert.Mlp
open Cert.Ple (rowOf gainOf)
open Cert.Merge (Row)

/-- Where the pre-activation is not positive both forms of the squared positive part's derivative vanish. -/
theorem gate_ref (u e : EReal) : (if 0 < u then e * (Ideal.ofBits .f32 0x40000000#32 * max u 0) else 0) = e * (Ideal.ofBits .f32 0x40000000#32 * max u 0) := by
  split
  · rfl
  · rw [max_eq_right (not_lt.mp ‹_›), mul_zero, mul_zero]

section
variable (a0 : FVec Ideal S4096x1024 .f32) (a1 : FVec Ideal S4096x1024 .f32) (a2 : FVec Ideal S1x1024 .f32) (a3 : FVec Ideal S1x1024x4096 .f32) (a4 : FVec Ideal S1x4096x1024 .f32)

/-- The rows' inverse root mean squares. -/
def s8 : FVec Ideal S4096x1 .f32 :=
  Host.rsqrt (addf (Host.divf (broadcastInDim S4096x1 ![0] bcast_S4096_S4096x1_0 (Host.reduceAdd (mulf a1 a1) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))

/-- The inverse roots over the mean squares. -/
def s9 : FVec Ideal S4096x1 .f32 :=
  Host.divf (s8 a1) (addf (Host.divf (broadcastInDim S4096x1 ![0] bcast_S4096_S4096x1_0 (Host.reduceAdd (mulf a1 a1) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))

/-- The scaled rows, the normed rows, the hidden pre-activation and its positive part. -/
def s13 : FVec Ideal S4096x1024 .f32 :=
  mulf a1 (broadcastInDim S4096x1024 ![0, 1] bcast_S4096x1_S4096x1024_0_1 (s8 a1))

def s16 : FVec Ideal S4096x1024 .f32 :=
  mulf (s13 a1) (broadcastInDim S4096x1024 ![0, 1] bcast_S1x1024_S4096x1024_0_1 (broadcastInDim S1x1024 ![1] bcast_S1024_S1x1024_1 (shapeCast S1024 a2 shapeCasts_S1x1024_S1024)))

def s18 : FVec Ideal S4096x4096 .f32 :=
  Host.dotGeneral dot_S4096x1024_S1024x4096_S4096x4096_1_0_0_1_n_n none (s16 a1 a2) (shapeCast S1024x4096 a3 shapeCasts_S1x1024x4096_S1024x4096)

def s19 : FVec Ideal S4096x4096 .f32 :=
  maximumf (s18 a1 a2 a3) (broadcastInDim S4096x4096 ![] bcast_S_S4096x4096 (constant S_ .f32 0x00000000#32))

/-- The gradient at the hidden layer, and at its pre-activation. -/
def s28 : FVec Ideal S4096x4096 .f32 :=
  Host.dotGeneral dot_S4096x1024_S4096x1024_S4096x4096_1_1_0_0_n_n none a0 (shapeCast S4096x1024 a4 shapeCasts_S1x4096x1024_S4096x1024)

def s31 : FVec Ideal S4096x4096 .f32 :=
  select (cmpf .ogt (s18 a1 a2 a3) (broadcastInDim S4096x4096 ![] bcast_S_S4096x4096 (constant S_ .f32 0x00000000#32))) (mulf (s28 a0 a4) (mulf (broadcastInDim S4096x4096 ![] bcast_S_S4096x4096 (constant S_ .f32 0x40000000#32)) (s19 a1 a2 a3))) (broadcastInDim S4096x4096 ![] bcast_S_S4096x4096 (constant S_ .f32 0x00000000#32))

/-- The gradient of the normed rows. -/
def s32 : FVec Ideal S4096x1024 .f32 :=
  Host.dotGeneral dot_S4096x4096_S1024x4096_S4096x1024_1_1_0_0_n_n none (s31 a0 a1 a2 a3 a4) (shapeCast S1024x4096 a3 shapeCasts_S1x1024x4096_S1024x4096)

def s37 : FVec Ideal S4096x1024 .f32 :=
  mulf (s32 a0 a1 a2 a3 a4) (broadcastInDim S4096x1024 ![0, 1] bcast_S1x1024_S4096x1024_0_1 (broadcastInDim S1x1024 ![1] bcast_S1024_S1x1024_1 (shapeCast S1024 a2 shapeCasts_S1x1024_S1024)))

/-- The gradient through the mean squares. -/
def s40 : FVec Ideal S4096 .f32 :=
  Host.reduceAdd (mulf a1 (s37 a0 a1 a2 a3 a4)) (constant S_ .f32 0x00000000#32) reducesTo_S4096x1024_S4096_d1 h_S_

def s48 : FVec Ideal S4096x1024 .f32 :=
  broadcastInDim S4096x1024 ![0] bcast_S4096_S4096x1024_0 (Host.reduceAdd (Host.divf (mulf (shapeCast S4096x1 (s40 a0 a1 a2 a3 a4) shapeCasts_S4096_S4096x1) (mulf (broadcastInDim S4096x1 ![] bcast_S_S4096x1 (constant S_ .f32 0xBF000000#32)) (s9 a1))) (broadcastInDim S4096x1 ![] bcast_S_S4096x1 (constant S_ .f32 0x44800000#32))) (constant S_ .f32 0x00000000#32) reducesTo_S4096x1_S4096_d1 h_S_)

/-- The rows' gradient. -/
def s53 : FVec Ideal S4096x1024 .f32 :=
  addf a0 (addf (addf (mulf (s37 a0 a1 a2 a3 a4) (broadcastInDim S4096x1024 ![0, 1] bcast_S4096x1_S4096x1024_0_1 (s8 a1))) (mulf a1 (s48 a0 a1 a2 a3 a4))) (mulf (s48 a0 a1 a2 a3 a4) a1))

/-- The gain's gradient. -/
def s55 : FVec Ideal S1x1024 .f32 :=
  shapeCast S1x1024 (Host.reduceAdd (shapeCast S1x1024 (Host.reduceAdd (mulf (s13 a1) (s32 a0 a1 a2 a3 a4)) (constant S_ .f32 0x00000000#32) reducesTo_S4096x1024_S1024_d0 h_S_) shapeCasts_S1024_S1x1024) (constant S_ .f32 0x00000000#32) reducesTo_S1x1024_S1024_d0 h_S_) shapeCasts_S1024_S1x1024

variable (r : Fin 4096) (n : Fin 1024) (l : Fin 4096)

theorem s8_at : s8 a1 (ix2 r 0) = rinv (rowOf a1 r) := by
  pointwise [s8, rinv, ms, rowOf]

theorem s9_at : s9 a1 (ix2 r 0) = Ideal.div (rinv (rowOf a1 r)) (ms (rowOf a1 r)) := by
  pointwise [s9, s8_at, ms, rowOf]

theorem s13_at : s13 a1 (ix2 r n) = rowOf a1 r n * rinv (rowOf a1 r) := by
  pointwise [s13, s8_at, rowOf]

theorem s16_at : s16 a1 a2 (ix2 r n) = nrm (rowOf a1 r) (gainOf a2) n := by
  pointwise [s16, s13_at, nrm, gainOf]

theorem s18_at : s18 a1 a2 a3 (ix2 r l) = uArr a1 a2 (upOf a3) (ix2 r l) := by
  pointwise [s18, s16_at, uArr, hid, upOf]

theorem s19_at : s19 a1 a2 a3 (ix2 r l) = max (uArr a1 a2 (upOf a3) (ix2 r l)) 0 := by
  pointwise [s19, s18_at]

theorem s28_at : s28 a0 a4 (ix2 r l) = ∑ n, rowOf a0 r n * downOf a4 l n := by
  pointwise [s28, rowOf, downOf]

theorem s31_at : s31 a0 a1 a2 a3 a4 (ix2 r l) = dhidden (rowOf a0 r) (hidOf (uArr a1 a2 (upOf a3)) r) (downOf a4) l := by
  pointwise [s31, s18_at, s19_at, s28_at, dhidden, hidOf]
  exact gate_ref _ _

theorem s32_at : s32 a0 a1 a2 a3 a4 (ix2 r n) = dnorm (rowOf a0 r) (hidOf (uArr a1 a2 (upOf a3)) r) (upOf a3) (downOf a4) n := by
  pointwise [s32, s31_at, dnorm, upOf]

theorem s37_at : s37 a0 a1 a2 a3 a4 (ix2 r n) = dnorm (rowOf a0 r) (hidOf (uArr a1 a2 (upOf a3)) r) (upOf a3) (downOf a4) n * gainOf a2 n := by
  pointwise [s37, s32_at, gainOf]

theorem s48_at : s48 a0 a1 a2 a3 a4 (ix2 r n) = dms (rowOf a1 r) (gainOf a2) (dnorm (rowOf a0 r) (hidOf (uArr a1 a2 (upOf a3)) r) (upOf a3) (downOf a4)) := by
  pointwise [s48, s40, s37_at, dms]
  rw [Fin.sum_univ_one, s9_at]
  rfl

theorem s53_at : s53 a0 a1 a2 a3 a4 (ix2 r n) = dxRow (rowOf a0 r) (rowOf a1 r) (gainOf a2) (hidOf (uArr a1 a2 (upOf a3)) r) (upOf a3) (downOf a4) n := by
  unfold dxRow
  rw [← dnrm_ref]
  pointwise [s53, s37_at, s48_at, s8_at]
  rfl

theorem s55_at : s55 a0 a1 a2 a3 a4 (ix2 0 n) = ∑ r : Fin 4096, dgRow (rowOf a0 r) (rowOf a1 r) (hidOf (uArr a1 a2 (upOf a3)) r) (upOf a3) (downOf a4) n := by
  pointwise [s55, s32_at, s13_at, dgRow]
  rw [Fin.sum_univ_one]
  exact Finset.sum_congr rfl fun r _ => mul_comm _ _

theorem s53_eq : s53 a0 a1 a2 a3 a4 = dxArr a0 a1 a2 (upOf a3) (downOf a4) (uArr a1 a2 (upOf a3)) := by
  funext y; idx_vars y; exact s53_at ..

theorem s54_eq : (truncf .bf16 (s31 a0 a1 a2 a3 a4) bitsLt_bf16_f32 : FVec Ideal S4096x4096 .bf16) = duArr a0 (downOf a4) (uArr a1 a2 (upOf a3)) := by
  funext y; idx_vars y; exact s31_at ..

theorem s55_eq : s55 a0 a1 a2 a3 a4 = dgArr a0 a1 (upOf a3) (downOf a4) (uArr a1 a2 (upOf a3)) := by
  funext y
  idx_vars y
  obtain rfl : y0 = 0 := Subsingleton.elim _ _
  exact s55_at ..
end

section
variable (m : (ℓ : Loc nD τ sig) → Buf (Elt Ideal) ℓ) (c : Dev nD)
theorem res53 : Value.res_main_v53 m c = s53 (m ((c : Thread nD τ).loc main_arg0)) (m ((c : Thread nD τ).loc main_arg1)) (m ((c : Thread nD τ).loc main_arg2)) (m ((c : Thread nD τ).loc main_arg3)) (m ((c : Thread nD τ).loc main_arg4)) := rfl
end
end Cert.MlpRefIdeal.Stage

namespace Cert.MlpBwdIdeal.Value
open Cert.MlpBwdIdeal Cert.MlpBwdIdeal.Gen Cert.Norm Cert.Mlp

set_option maxHeartbeats 800000 in
/-- The run at the results and the arguments. -/
theorem run_main (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v7_0) = dxArr (m ((c : Thread nD τ).loc main_arg0)) (m ((c : Thread nD τ).loc main_arg1)) (m ((c : Thread nD τ).loc main_arg2)) (upOf (m ((c : Thread nD τ).loc main_arg3))) (downOf (m ((c : Thread nD τ).loc main_arg4)))
          (uArr (m ((c : Thread nD τ).loc main_arg1)) (m ((c : Thread nD τ).loc main_arg2)) (upOf (m ((c : Thread nD τ).loc main_arg3))))
      ∧ r.2.mem ((c.tc : Thread nD τ).loc main_v7_1) = duArr (m ((c : Thread nD τ).loc main_arg0)) (downOf (m ((c : Thread nD τ).loc main_arg4)))
          (uArr (m ((c : Thread nD τ).loc main_arg1)) (m ((c : Thread nD τ).loc main_arg2)) (upOf (m ((c : Thread nD τ).loc main_arg3))))
      ∧ r.2.mem ((c.tc : Thread nD τ).loc main_v7_2) = dgArr (m ((c : Thread nD τ).loc main_arg0)) (m ((c : Thread nD τ).loc main_arg1)) (upOf (m ((c : Thread nD τ).loc main_arg3))) (downOf (m ((c : Thread nD τ).loc main_arg4)))
          (uArr (m ((c : Thread nD τ).loc main_arg1)) (m ((c : Thread nD τ).loc main_arg2)) (upOf (m ((c : Thread nD τ).loc main_arg3))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c _ (mem_uc main_v7_0 (by decide))).trans (W3_dx m ρ c),
    (h c _ (mem_uc main_v7_1 (by decide))).trans (W3_du m ρ c), (h c _ (mem_uc main_v7_2 (by decide))).trans (W3_dg m ρ c),
    (h c _ (mem_uc main_arg0 (by decide))).trans (W3_main_arg0 m ρ c), (h c _ (mem_uc main_arg1 (by decide))).trans (W3_main_arg1 m ρ c),
    (h c _ (mem_uc main_arg2 (by decide))).trans (W3_main_arg2 m ρ c), (h c _ (mem_uc main_arg3 (by decide))).trans (W3_main_arg3 m ρ c),
    (h c _ (mem_uc main_arg4 (by decide))).trans (W3_main_arg4 m ρ c)⟩) (run m ρ)
end Cert.MlpBwdIdeal.Value

namespace Cert.Mlp
open Cert.MlpRefIdeal.Stage

set_option maxHeartbeats 800000 in
/-- Over the extended reals the kernel's gradients are the reference's. -/
theorem algebraic : Cert.algebraic_MlpBwdIdeal_MlpRefIdeal := by
  pair_intro
  · run_from Cert.MlpBwdIdeal.Value.run_main m g
  · run_from Cert.MlpRefIdeal.Value.run m' g'
    · obtain ⟨h0, h1, h2, h3, h4⟩ := hagree c
      rw [res53, h0, h1, h2, h3, h4]
      exact s53_eq ..
    · exact s54_eq ..
    · exact s55_eq ..

end Cert.Mlp
-- ==== Proof.Inproj.lean ====
module

public import proofs.«01_k».proof.Proof.Gen.InprojBwdIdeal.Frame
public import proofs.«01_k».proof.Proof.Ple
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

/-! The gradient through the combined input projection and its norm, written row by row. -/
namespace Cert.Inproj
open Cert.Norm Cert.Ple
open Cert.Merge (Row)

/-- The shapes of the narrow segments and of the weights. -/
abbrev Narrow : Shape := ⟨2, ![4096, 256]⟩
abbrev Proj : Shape := ⟨3, ![1, 1024, 5632]⟩
abbrev Proj4 : Shape := ⟨3, ![4, 1024, 1408]⟩

/-- A row of the projection's output, its seven segments side by side. -/
def seg (a b q : Fin 1024 → EReal) (k v : Fin 256 → EReal) (s w : Fin 1024 → EReal) (l : Fin 5632) : EReal :=
  if h0 : l.val < 1024 then a ⟨l.val, h0⟩ else
  if h1 : l.val < 2048 then b ⟨l.val - 1024, by omega⟩ else
  if h2 : l.val < 3072 then q ⟨l.val - 2048, by omega⟩ else
  if h3 : l.val < 3328 then k ⟨l.val - 3072, by omega⟩ else
  if h4 : l.val < 3584 then v ⟨l.val - 3328, by omega⟩ else
  if h5 : l.val < 4608 then s ⟨l.val - 3584, by omega⟩ else w ⟨l.val - 4608, by omega⟩

section rows
variable (z : Fin 5632 → EReal) (w : Fin 1024 → Fin 5632 → EReal) (x g e : Fin 1024 → EReal)

/-- The gradient of the normed row, of the row with the gradient it is added to, and the row's part of the gain's gradient. -/
def dnorm (k : Fin 1024) : EReal := ∑ l, z l * w k l
def gxRow (n : Fin 1024) : EReal := e n + dnrm x g (dnorm z w) n
def dgRow (n : Fin 1024) : EReal := dnorm z w n * (x n * rinv x)
end rows

/-- A narrow row, and the weights as a function. -/
def narrowOf (a : Narrow.Idx → EReal) (r : Fin 4096) (k : Fin 256) : EReal := a (ix2 r k)
def projOf (w : Proj.Idx → EReal) (k : Fin 1024) (l : Fin 5632) : EReal := w (ix3 0 k l)

section arrays
variable (a b q : Row.Idx → EReal) (k v : Narrow.Idx → EReal) (s w : Row.Idx → EReal) (p : Fin 1024 → Fin 5632 → EReal) (x : Row.Idx → EReal) (g : Gain.Idx → EReal) (e : Row.Idx → EReal)

/-- A row of the projection's output, and the arrays the call returns. -/
def segOf (r : Fin 4096) : Fin 5632 → EReal := seg (rowOf a r) (rowOf b r) (rowOf q r) (narrowOf k r) (narrowOf v r) (rowOf s r) (rowOf w r)
def gxArr (j : Row.Idx) : EReal := gxRow (segOf a b q k v s w (j 0)) p (rowOf x (j 0)) (gainOf g) (rowOf e (j 0)) (j 1)
def dgArr (j : Gain.Idx) : EReal := ∑ r : Fin 4096, dgRow (segOf a b q k v s w r) p (rowOf x r) (j 1)
end arrays

/-- A sum over the projection's columns, block by block. -/
theorem sum_blocks (f : Fin 5632 → EReal) : (∑ k : Fin 1408, f ⟨k.val, by omega⟩) + (∑ k : Fin 1408, f ⟨1408 + k.val, by omega⟩)
    + (∑ k : Fin 1408, f ⟨2816 + k.val, by omega⟩) + (∑ k : Fin 1408, f ⟨4224 + k.val, by omega⟩) = ∑ l, f l := by
  rw [← Fin.sum_mul_add_congr (S := 4) (n := 1408) (F := fun j k => f ⟨j.val * 1408 + k.val, by omega⟩) (fun p r hl => rfl) (by norm_num), Fin.sum_univ_four]
  simp

/-- The weights, stored in four blocks of columns, as a function. -/
def projOf4 (w : Proj4.Idx → EReal) (k : Fin 1024) (l : Fin 5632) : EReal := w (ix3 ⟨l.val / 1408, by omega⟩ k ⟨l.val % 1408, by omega⟩)

theorem projOf4_at (w : Proj4.Idx → EReal) (k : Fin 1024) (l : Fin 5632) (j : Fin 4) (q : Fin 1408) (h : l.val = j.val * 1408 + q.val) :
    projOf4 w k l = w (ix3 j k q) := by
  unfold projOf4
  rw [show (⟨l.val / 1408, by omega⟩ : Fin 4) = j from Fin.ext (by dsimp only; omega), show (⟨l.val % 1408, by omega⟩ : Fin 1408) = q from Fin.ext (by dsimp only; omega)]

end Cert.Inproj

namespace Cert.InprojBwdIdeal.Value
open Cert.InprojBwdIdeal Cert.InprojBwdIdeal.Gen Cert.Norm Cert.Ple Cert.Inproj
open Cert.Merge (Row)

section scratch
variable (v : View sig .tc .vmem S512x5632 .bf16) (a b q s w : Vec Ideal S512x1024 .bf16) (k e : Vec Ideal S512x256 .bf16) (r : Fin 512)

/-- The seven stores into the scratch buffer, the last one first. -/
abbrev stores : List (View.Piece (Elt Ideal) S512x5632 .bf16) :=
  [⟨Rect.unit (s := S512x5632) ![0, 4608] ![512, 1024] inb_S512x5632_S512x1024_0_4608, k0_pay11 w⟩,
   ⟨Rect.unit (s := S512x5632) ![0, 3584] ![512, 1024] inb_S512x5632_S512x1024_0_3584, k0_pay10 s⟩,
   ⟨Rect.unit (s := S512x5632) ![0, 3328] ![512, 256] inb_S512x5632_S512x256_0_3328, k0_pay9 e⟩,
   ⟨Rect.unit (s := S512x5632) ![0, 3072] ![512, 256] inb_S512x5632_S512x256_0_3072, k0_pay8 k⟩,
   ⟨Rect.unit (s := S512x5632) ![0, 2048] ![512, 1024] inb_S512x5632_S512x1024_0_2048, k0_pay7 q⟩,
   ⟨Rect.unit (s := S512x5632) ![0, 1024] ![512, 1024] inb_S512x5632_S512x1024_0_1024, k0_pay6 b⟩,
   ⟨Rect.unit (s := S512x5632) ![0, 0] ![512, 1024] inb_S512x5632_S512x1024_0_0, k0_pay5 a⟩]

/-- A row of the scratch buffer. -/
def scr : Fin 5632 → EReal :=
  seg (fun n => a (ix2 r n)) (fun n => b (ix2 r n)) (fun n => q (ix2 r n)) (fun n => k (ix2 r n)) (fun n => e (ix2 r n)) (fun n => s (ix2 r n)) (fun n => w (ix2 r n))

theorem stored (l : Fin 5632) : ∃ p ∈ stores a b q s w k e, ix2 r l ∈ p.1.set := by
  have hr := r.isLt
  have hl := l.isLt
  unfold stores
  simp only [List.mem_cons, List.not_mem_nil, exists_eq_or_imp, or_false, exists_eq_left]
  have pick : ∀ (o n : ℕ) (inb : ∀ a, ![0, o] a + ![512, n] a ≤ S512x5632.size a), o ≤ l.val ∧ l.val < o + n → ix2 r l ∈ (Rect.unit (s := S512x5632) ![0, o] ![512, n] inb).set :=
    fun o n inb h => Rect.mem_set_unit.mpr fun c => by
      match c with
      | 0 => exact ⟨Nat.zero_le _, by show r.val < 0 + 512; omega⟩
      | 1 => exact h
  rcases lt_or_ge l.val 1024 with h | h
  · exact .inr (.inr (.inr (.inr (.inr (.inr (pick _ _ _ (by omega)))))))
  rcases lt_or_ge l.val 2048 with h | h
  · exact .inr (.inr (.inr (.inr (.inr (.inl (pick _ _ _ (by omega)))))))
  rcases lt_or_ge l.val 3072 with h | h
  · exact .inr (.inr (.inr (.inr (.inl (pick _ _ _ (by omega))))))
  rcases lt_or_ge l.val 3328 with h | h
  · exact .inr (.inr (.inr (.inl (pick _ _ _ (by omega)))))
  rcases lt_or_ge l.val 3584 with h | h
  · exact .inr (.inr (.inl (pick _ _ _ (by omega))))
  rcases lt_or_ge l.val 4608 with h | h
  · exact .inr (.inl (pick _ _ _ (by omega)))
  · exact .inl (pick _ _ _ (by omega))

theorem scr_at (l : Fin 5632) : View.canon (stores a b q s w k e) (ix2 r l) = scr a b q s w k e r l := by
  have cov := stored a b q s w k e r l
  unfold stores at cov ⊢
  unfold scr seg
  canon_tiles x h using cov
  all_goals
    idx_vars x
    obtain rfl : r = x0 := Fin.ext h0
    pointwise [k0_pay5, k0_pay6, k0_pay7, k0_pay8, k0_pay9, k0_pay10, k0_pay11, h1]
  all_goals split_ifs <;> first | rfl | (exfalso; omega)

theorem cut0 (i : Fin 1408) : (v.readCov (stores a b q s w k e) (Rect.unit (s := S512x5632) ![0, 0] ![512, 1408] inb_S512x5632_S512x1408_0_0).toLoadRect : Vec Ideal S512x1408 .bf16) (ix2 r i) = scr a b q s w k e r ⟨i.val, by omega⟩ := by
  rw [View.readCov_eq_canon', ← scr_at]
  show View.ld (View.canon (stores a b q s w k e)) (Rect.unit (s := S512x5632) ![0, 0] ![512, 1408] inb_S512x5632_S512x1408_0_0) (ix2 r i) = _
  generalize View.canon (stores a b q s w k e) = d
  pointwise
theorem cut1408 (i : Fin 1408) : (v.readCov (stores a b q s w k e) (Rect.unit (s := S512x5632) ![0, 1408] ![512, 1408] inb_S512x5632_S512x1408_0_1408).toLoadRect : Vec Ideal S512x1408 .bf16) (ix2 r i) = scr a b q s w k e r ⟨1408 + i.val, by omega⟩ := by
  rw [View.readCov_eq_canon', ← scr_at]
  show View.ld (View.canon (stores a b q s w k e)) (Rect.unit (s := S512x5632) ![0, 1408] ![512, 1408] inb_S512x5632_S512x1408_0_1408) (ix2 r i) = _
  generalize View.canon (stores a b q s w k e) = d
  pointwise
theorem cut2816 (i : Fin 1408) : (v.readCov (stores a b q s w k e) (Rect.unit (s := S512x5632) ![0, 2816] ![512, 1408] inb_S512x5632_S512x1408_0_2816).toLoadRect : Vec Ideal S512x1408 .bf16) (ix2 r i) = scr a b q s w k e r ⟨2816 + i.val, by omega⟩ := by
  rw [View.readCov_eq_canon', ← scr_at]
  show View.ld (View.canon (stores a b q s w k e)) (Rect.unit (s := S512x5632) ![0, 2816] ![512, 1408] inb_S512x5632_S512x1408_0_2816) (ix2 r i) = _
  generalize View.canon (stores a b q s w k e) = d
  pointwise
theorem cut4224 (i : Fin 1408) : (v.readCov (stores a b q s w k e) (Rect.unit (s := S512x5632) ![0, 4224] ![512, 1408] inb_S512x5632_S512x1408_0_4224).toLoadRect : Vec Ideal S512x1408 .bf16) (ix2 r i) = scr a b q s w k e r ⟨4224 + i.val, by omega⟩ := by
  rw [View.readCov_eq_canon', ← scr_at]
  show View.ld (View.canon (stores a b q s w k e)) (Rect.unit (s := S512x5632) ![0, 4224] ![512, 1408] inb_S512x5632_S512x1408_0_4224) (ix2 r i) = _
  generalize View.canon (stores a b q s w k e) = d
  pointwise
end scratch

section payloads
variable (v : View sig .tc .vmem S512x5632 .bf16) (a b q s w : Vec Ideal S512x1024 .bf16) (k e : Vec Ideal S512x256 .bf16) (p : Vec Ideal S4x1024x1408 .bf16)
  (x d : Vec Ideal S512x1024 .f32) (g : Vec Ideal S1x1024 .f32) (r : Fin 512) (n : Fin 1024)

/-- The gradient of the normed rows, from the scratch buffer's blocks of columns. -/
abbrev dnb : FVec Ideal S512x1024 .f32 :=
  k0_pay12 (F := Ideal) (v.readCov (stores a b q s w k e) (Rect.unit (s := S512x5632) ![0, 0] ![512, 1408] inb_S512x5632_S512x1408_0_0).toLoadRect)
    (View.ld p (Rect.unit (s := S4x1024x1408) ![0, 0, 0] ![1, 1024, 1408] inb_S4x1024x1408_S1x1024x1408_0_0_0))
    (v.readCov (stores a b q s w k e) (Rect.unit (s := S512x5632) ![0, 1408] ![512, 1408] inb_S512x5632_S512x1408_0_1408).toLoadRect)
    (View.ld p (Rect.unit (s := S4x1024x1408) ![1, 0, 0] ![1, 1024, 1408] inb_S4x1024x1408_S1x1024x1408_1_0_0))
    (v.readCov (stores a b q s w k e) (Rect.unit (s := S512x5632) ![0, 2816] ![512, 1408] inb_S512x5632_S512x1408_0_2816).toLoadRect)
    (View.ld p (Rect.unit (s := S4x1024x1408) ![2, 0, 0] ![1, 1024, 1408] inb_S4x1024x1408_S1x1024x1408_2_0_0))
    (v.readCov (stores a b q s w k e) (Rect.unit (s := S512x5632) ![0, 4224] ![512, 1408] inb_S512x5632_S512x1408_0_4224).toLoadRect)
    (View.ld p (Rect.unit (s := S4x1024x1408) ![3, 0, 0] ![1, 1024, 1408] inb_S4x1024x1408_S1x1024x1408_3_0_0))

theorem dnorm_at : dnb v a b q s w k e p (ix2 r n) = dnorm (scr a b q s w k e r) (projOf4 p) n := by
  unfold dnorm
  rw [← sum_blocks]
  pointwise [k0_pay12, cut0, cut1408, cut2816, cut4224]
  refine congrArg₂ (· + ·) (congrArg₂ (· + ·) (congrArg₂ (· + ·) ?_ ?_) ?_) ?_ <;>
    exact Finset.sum_congr rfl fun x _ => congrArg _ (projOf4_at p n _ _ x (by simp)).symm

theorem rinv_at : k0_pay1 (F := Ideal) x (ix2 r 0) = rinv fun k => x (ix2 r k) := by
  pointwise [k0_pay1, rinv, ms]

theorem gx_at : k0_pay2 (F := Ideal) (dnb v a b q s w k e p) x g d (ix2 r n)
    = gxRow (scr a b q s w k e r) (projOf4 p) (fun k => x (ix2 r k)) (fun k => g (ix2 0 k)) (fun k => d (ix2 r k)) n := by
  have hd := dnorm_at v a b q s w k e p r
  generalize dnb v a b q s w k e p = D at hd ⊢
  pointwise [k0_pay2, gxRow, dnrm, hd, rinv_at]

theorem gain_at (t : Vec Ideal S1x1024 .f32) : k0_pay3 (F := Ideal) (dnb v a b q s w k e p) x t (ix2 0 n)
    = t (ix2 0 n) + ∑ r : Fin 512, dgRow (scr a b q s w k e r) (projOf4 p) (fun k => x (ix2 r k)) n := by
  have hd := dnorm_at v a b q s w k e p
  generalize dnb v a b q s w k e p = D at hd ⊢
  pointwise [k0_pay3, dgRow, hd, rinv_at]

theorem gain_zero (j : S1x1024.Idx) : k0_pay4 (F := Ideal) j = 0 := by pointwise! [k0_pay4]
end payloads

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![0, 0, 0] ∧ win0_8.index t = ![t.val, 0] ∧ win0_9.index t = ![0, 0] ∧ win0_10.index t = ![t.val, 0]
    ∧ win0_11.index t = ![t.val, 0] ∧ win0_12.index t = ![0, 0] :=
  (by decide +kernel : ∀ t : Fin grid0.N, _)

/-- The array's row that is row `r` of tile `t`. -/
def row (t : Fin cfg0.N) (r : Fin 512) : Fin 4096 := ⟨t.val * 512 + r.val, by have h : t.val < 8 := lt_of_lt_of_eq t.isLt N_0; omega⟩

section blocks
variable (c : Dev nD) (t : Fin cfg0.N) (r : Fin 512)

theorem x_row : (fun k => iblk m c 8 t (ix2 r k)) = rowOf (m ((c : Thread nD τ).loc main_arg8)) (row t r) := by
  funext k; unfold rowOf row; blk_point [iblk, V, idx t]

theorem e_row : (fun k => iblk m c 10 t (ix2 r k)) = rowOf (m ((c : Thread nD τ).loc main_arg10)) (row t r) := by
  funext k; unfold rowOf row; blk_point [iblk, V, idx t]

theorem g_row : (fun k => iblk m c 9 t (ix2 0 k)) = gainOf (m ((c : Thread nD τ).loc main_arg9)) := by
  funext k; unfold gainOf; blk_point [iblk, V, idx t]

theorem scr_row : scr (iblk m c 0 t) (iblk m c 1 t) (iblk m c 2 t) (iblk m c 5 t) (iblk m c 6 t) (iblk m c 3 t) (iblk m c 4 t) r
    = segOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (row t r) := by
  unfold scr segOf
  congr 1 <;> funext k <;> unfold row <;> first | unfold rowOf | unfold narrowOf
  all_goals blk_point [iblk, V, idx t]

theorem p_at (w : FVec Ideal S1x1024x5632 .f32) (j : Fin 4) (k : Fin 1024) (q : Fin 1408) :
    (transpose S4x1024x1408 [1, 0, 2] (shapeCast S1024x4x1408 (truncf .bf16 (shapeCast S1024x5632 w shapeCasts_S1x1024x5632_S1024x5632) bitsLt_bf16_f32 : FVec Ideal S1024x5632 .bf16) shapeCasts_S1024x5632_S1024x4x1408) transposes_S1024x4x1408_S4x1024x1408_1_0_2) (ix3 j k q)
      = w (ix3 0 k ⟨j.val * 1408 + q.val, by omega⟩) := by
  pointwise

theorem V_p : (V m c main_v3 : FVec Ideal S4x1024x1408 .bf16) = transpose S4x1024x1408 [1, 0, 2] (shapeCast S1024x4x1408 (truncf .bf16 (shapeCast S1024x5632 (m ((c : Thread nD τ).loc main_arg7) : FVec Ideal S1x1024x5632 .f32) shapeCasts_S1x1024x5632_S1024x5632) bitsLt_bf16_f32 : FVec Ideal S1024x5632 .bf16) shapeCasts_S1024x5632_S1024x4x1408) transposes_S1024x4x1408_S4x1024x1408_1_0_2 := by
  unfold V; after_results; try rfl

theorem p_blk : projOf4 (iblk m c 7 t) = projOf (m ((c : Thread nD τ).loc main_arg7)) := by
  funext k l
  have hl : l = ⟨(⟨l.val / 1408, by omega⟩ : Fin 4).val * 1408 + (⟨l.val % 1408, by omega⟩ : Fin 1408).val, by dsimp only; omega⟩ := Fin.ext (by dsimp only; omega)
  unfold projOf4 projOf
  conv_rhs => rw [hl]
  refine Eq.trans ?_ (p_at (m ((c : Thread nD τ).loc main_arg7)) _ k _)
  rw [← V_p]
  blk_ext [iblk, idx t]

theorem emb11 (f : Row.Idx → EReal) (n : Fin 1024) : f ((win0_11.blk t).view.emb (ix2 r n)) = f (ix2 (row t r) n) := by
  unfold row; blk_ext [idx t]
end blocks

theorem tile_sum (f : Fin 4096 → EReal) : ∑ p : Fin cfg0.N, ∑ r : Fin 512, f (row p r) = ∑ l : Fin 4096, f l :=
  Fin.sum_mul_add_congr (fun p r hl => rfl) (by rw [show cfg0.N = 8 from N_0])

section finals
variable (c : Dev nD)

/-- A row of the projection's gradient, of the arguments. -/
abbrev segM : Fin 4096 → Fin 5632 → EReal :=
  segOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

/-- The rows' gradient. -/
theorem final11 : (dats m 0 c).arrAt 11 cfg0.N = (fun j : Row.Idx => gxRow (segM m c (j 0)) (projOf (m ((c : Thread nD τ).loc main_arg7))) (rowOf (m ((c : Thread nD τ).loc main_arg8)) (j 0)) (gainOf (m ((c : Thread nD τ).loc main_arg9))) (rowOf (m ((c : Thread nD τ).loc main_arg10)) (j 0)) (j 1)) := by
  refine (dats m 0 c).arrAt_eq_of_covers 11 _ (by decide +kernel) fun t _ y => ?_
  blk_simp
  by_cases h : t.val % 8 = 0
  · rw [after0_11, outsAt0_A m c t h]
    frame_out
    idx_vars y
    refine Eq.trans ?_ (emb11 t y0 (fun j : Row.Idx => gxRow (segM m c (j 0)) (projOf (m ((c : Thread nD τ).loc main_arg7))) (rowOf (m ((c : Thread nD τ).loc main_arg8)) (j 0)) (gainOf (m ((c : Thread nD τ).loc main_arg9))) (rowOf (m ((c : Thread nD τ).loc main_arg10)) (j 0)) (j 1)) y1).symm
    refine (gx_at ..).trans ?_
    rw [scr_row, x_row, e_row, g_row, p_blk]
    rfl
  · rw [after0_11, outsAt0_B m c t h]
    frame_out
    idx_vars y
    refine Eq.trans ?_ (emb11 t y0 (fun j : Row.Idx => gxRow (segM m c (j 0)) (projOf (m ((c : Thread nD τ).loc main_arg7))) (rowOf (m ((c : Thread nD τ).loc main_arg8)) (j 0)) (gainOf (m ((c : Thread nD τ).loc main_arg9))) (rowOf (m ((c : Thread nD τ).loc main_arg10)) (j 0)) (j 1)) y1).symm
    refine (gx_at ..).trans ?_
    rw [scr_row, x_row, e_row, g_row, p_blk]
    rfl

/-- The part of the gain's gradient a tile adds. -/
def dgTile (t : Fin cfg0.N) (n : Fin 1024) : EReal :=
  ∑ r : Fin 512, dgRow (segM m c (row t r)) (projOf (m ((c : Thread nD τ).loc main_arg7))) (rowOf (m ((c : Thread nD τ).loc main_arg8)) (row t r)) n

theorem dgTile_eq (t : Fin cfg0.N) (n : Fin 1024) :
    (∑ r : Fin 512, dgRow (scr (iblk m c 0 t) (iblk m c 1 t) (iblk m c 2 t) (iblk m c 5 t) (iblk m c 6 t) (iblk m c 3 t) (iblk m c 4 t) r) (projOf4 (iblk m c 7 t)) (fun k => iblk m c 8 t (ix2 r k)) n) = dgTile m c t n := by
  refine Finset.sum_congr rfl fun r _ => ?_
  rw [scr_row, x_row, p_blk]

/-- The gain's gradient, summed over the tiles. -/
theorem final12 : (dats m 0 c).arrAt 12 cfg0.N = (fun j : Gain.Idx => ∑ r : Fin 4096, dgRow (segM m c r) (projOf (m ((c : Thread nD τ).loc main_arg7))) (rowOf (m ((c : Thread nD τ).loc main_arg8)) r) (j 1)) := by
  refine (dats m 0 c).arrAt_eq_of_after_last 12 t0_7 (by decide +kernel) _ fun j => ?_
  blk_simp
  rw [after0_12, Pipeline.eq_sum_fin_of_reset_step_apply_last (fun n h => (outsAt0 m c n h).2) 8 (fun _ => 0)
    (fun t j => dgTile m c t (j 1))
    (fun t h j => by
      rw [outsAt0_A m c t h]; frame_out; idx_vars j
      obtain rfl : j0 = 0 := Subsingleton.elim _ _
      refine (gain_at ..).trans ?_
      rw [gain_zero]
      exact congrArg _ (dgTile_eq m c t j1))
    (fun t h j => by
      rw [outsAt0_B m c t h]; frame_out; idx_vars j
      obtain rfl : j0 = 0 := Subsingleton.elim _ _
      refine (gain_at ..).trans ?_
      exact congrArg _ (dgTile_eq m c t j1))
    (le_of_eq N_0) t0_7 rfl j, zero_add]
  exact tile_sum fun r => dgRow (segM m c r) (projOf (m ((c : Thread nD τ).loc main_arg7))) (rowOf (m ((c : Thread nD τ).loc main_arg8)) r) (j 1)
end finals
end Cert.InprojBwdIdeal.Value
-- ==== Proof.InprojPair.lean ====
module

public import proofs.«01_k».proof.Proof.Gen.InprojBwdIdeal.Frame
public import proofs.«01_k».proof.Proof.Gen.InprojRefIdeal.Run
public import proofs.«01_k».proof.Proof.Inproj
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

/-! The reference of the input projection's gradient, stage by stage at an index, and the pair's value claim. -/
namespace Cert.InprojRefIdeal.Stage
open Cert.InprojRefIdeal Cert.InprojRefIdeal.Gen Cert.Norm Cert.Inproj
open Cert.Ple (rowOf gainOf Gain)
open Cert.Merge (Row)

section
variable (a0 : FVec Ideal S4096x1024 .bf16) (a1 : FVec Ideal S4096x1024 .bf16) (a2 : FVec Ideal S4096x1024 .bf16) (a3 : FVec Ideal S4096x256 .bf16) (a4 : FVec Ideal S4096x256 .bf16) (a5 : FVec Ideal S4096x1024 .bf16) (a6 : FVec Ideal S4096x1024 .bf16) (a7 : FVec Ideal S1x1024x5632 .f32) (a8 : FVec Ideal S4096x1024 .f32) (a9 : FVec Ideal S1x1024 .f32) (a10 : FVec Ideal S4096x1024 .f32)

/-- The seven segments' gradients side by side. -/
def s33 : FVec Ideal S4096x5632 .f32 :=
  concatenate S4096x5632 1 [⟨S4096x1024, (extf .f32 a0 bitsLt_bf16_f32 : FVec Ideal S4096x1024 .f32)⟩, ⟨S4096x1024, (extf .f32 a1 bitsLt_bf16_f32 : FVec Ideal S4096x1024 .f32)⟩, ⟨S4096x1024, (extf .f32 a2 bitsLt_bf16_f32 : FVec Ideal S4096x1024 .f32)⟩, ⟨S4096x256, (extf .f32 a3 bitsLt_bf16_f32 : FVec Ideal S4096x256 .f32)⟩, ⟨S4096x256, (extf .f32 a4 bitsLt_bf16_f32 : FVec Ideal S4096x256 .f32)⟩, ⟨S4096x1024, (extf .f32 a5 bitsLt_bf16_f32 : FVec Ideal S4096x1024 .f32)⟩, ⟨S4096x1024, (extf .f32 a6 bitsLt_bf16_f32 : FVec Ideal S4096x1024 .f32)⟩] concatenates_S4096x1024_S4096x1024_S4096x1024_S4096x256_S4096x256_S4096x1024_S4096x1024_S4096x5632_d1

/-- The rows' mean squares, their inverse roots, and the scaled rows. -/
def s14 : FVec Ideal S4096x1 .f32 :=
  addf (Host.divf (broadcastInDim S4096x1 ![0] bcast_S4096_S4096x1_0 (Host.reduceAdd (mulf a8 a8) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))

def s15 : FVec Ideal S4096x1 .f32 :=
  Host.rsqrt (s14 a8)

def s16 : FVec Ideal S4096x1 .f32 :=
  Host.divf (s15 a8) (s14 a8)

def s20 : FVec Ideal S4096x1024 .f32 :=
  mulf a8 (broadcastInDim S4096x1024 ![0, 1] bcast_S4096x1_S4096x1024_0_1 (s15 a8))

/-- The gradient of the normed rows. -/
def s34 : FVec Ideal S4096x1024 .f32 :=
  Host.dotGeneral dot_S4096x5632_S1024x5632_S4096x1024_1_1_0_0_n_n none (s33 a0 a1 a2 a3 a4 a5 a6) (shapeCast S1024x5632 a7 shapeCasts_S1x1024x5632_S1024x5632)

def s39 : FVec Ideal S4096x1024 .f32 :=
  mulf (s34 a0 a1 a2 a3 a4 a5 a6 a7) (broadcastInDim S4096x1024 ![0, 1] bcast_S1x1024_S4096x1024_0_1 (broadcastInDim S1x1024 ![1] bcast_S1024_S1x1024_1 (shapeCast S1024 a9 shapeCasts_S1x1024_S1024)))

/-- The gradient through the mean squares. -/
def s42 : FVec Ideal S4096 .f32 :=
  Host.reduceAdd (mulf a8 (s39 a0 a1 a2 a3 a4 a5 a6 a7 a9)) (constant S_ .f32 0x00000000#32) reducesTo_S4096x1024_S4096_d1 h_S_

def s50 : FVec Ideal S4096x1024 .f32 :=
  broadcastInDim S4096x1024 ![0] bcast_S4096_S4096x1024_0 (Host.reduceAdd (Host.divf (mulf (shapeCast S4096x1 (s42 a0 a1 a2 a3 a4 a5 a6 a7 a8 a9) shapeCasts_S4096_S4096x1) (mulf (broadcastInDim S4096x1 ![] bcast_S_S4096x1 (constant S_ .f32 0xBF000000#32)) (s16 a8))) (broadcastInDim S4096x1 ![] bcast_S_S4096x1 (constant S_ .f32 0x44800000#32))) (constant S_ .f32 0x00000000#32) reducesTo_S4096x1_S4096_d1 h_S_)

/-- The rows' gradient, and the gain's. -/
def s55 : FVec Ideal S4096x1024 .f32 :=
  addf a10 (addf (addf (mulf (s39 a0 a1 a2 a3 a4 a5 a6 a7 a9) (broadcastInDim S4096x1024 ![0, 1] bcast_S4096x1_S4096x1024_0_1 (s15 a8))) (mulf a8 (s50 a0 a1 a2 a3 a4 a5 a6 a7 a8 a9))) (mulf (s50 a0 a1 a2 a3 a4 a5 a6 a7 a8 a9) a8))

def s56 : FVec Ideal S1x1024 .f32 :=
  shapeCast S1x1024 (Host.reduceAdd (shapeCast S1x1024 (Host.reduceAdd (mulf (s20 a8) (s34 a0 a1 a2 a3 a4 a5 a6 a7)) (constant S_ .f32 0x00000000#32) reducesTo_S4096x1024_S1024_d0 h_S_) shapeCasts_S1024_S1x1024) (constant S_ .f32 0x00000000#32) reducesTo_S1x1024_S1024_d0 h_S_) shapeCasts_S1024_S1x1024

variable (r : Fin 4096) (n : Fin 1024)

set_option maxHeartbeats 2000000 in
theorem s33_at (l : Fin 5632) : s33 a0 a1 a2 a3 a4 a5 a6 (ix2 r l) = segOf a0 a1 a2 a3 a4 a5 a6 r l := by
  unfold segOf seg
  pointwise [s33, rowOf, narrowOf]
  split_ifs
  all_goals first | (exfalso; omega) | skip
  all_goals repeat first | rw [dif_pos (by omega)] | rw [dif_neg (by omega)]
  all_goals first | with_reducible rfl | simp only [Nat.sub_sub, Nat.reduceAdd]

theorem s14_at : s14 a8 (ix2 r 0) = ms (rowOf a8 r) := by
  pointwise [s14, ms, rowOf]

theorem s15_at : s15 a8 (ix2 r 0) = rinv (rowOf a8 r) := by
  pointwise [s15, rinv, s14_at]

theorem s20_at : s20 a8 (ix2 r n) = rowOf a8 r n * rinv (rowOf a8 r) := by
  pointwise [s20, s15_at, rowOf]

theorem s34_at : s34 a0 a1 a2 a3 a4 a5 a6 a7 (ix2 r n) = (dnorm (segOf a0 a1 a2 a3 a4 a5 a6 r) (projOf a7)) n := by
  pointwise [s34, s33_at, dnorm, projOf]

theorem s39_at : s39 a0 a1 a2 a3 a4 a5 a6 a7 a9 (ix2 r n) = (dnorm (segOf a0 a1 a2 a3 a4 a5 a6 r) (projOf a7)) n * gainOf a9 n := by
  pointwise [s39, s34_at, gainOf]

theorem s50_at : s50 a0 a1 a2 a3 a4 a5 a6 a7 a8 a9 (ix2 r n) = dms (rowOf a8 r) (gainOf a9) (dnorm (segOf a0 a1 a2 a3 a4 a5 a6 r) (projOf a7)) := by
  pointwise [s50, s42, s39_at, dms]
  rw [Fin.sum_univ_one]
  pointwise [s16, s15_at, s14_at]
  rfl

theorem s55_at : s55 a0 a1 a2 a3 a4 a5 a6 a7 a8 a9 a10 (ix2 r n) = gxRow (segOf a0 a1 a2 a3 a4 a5 a6 r) (projOf a7) (rowOf a8 r) (gainOf a9) (rowOf a10 r) n := by
  unfold gxRow
  rw [← dnrm_ref]
  pointwise [s55, s39_at, s50_at, s15_at]
  rfl

theorem s56_at : s56 a0 a1 a2 a3 a4 a5 a6 a7 a8 (ix2 0 n) = ∑ r : Fin 4096, dgRow (segOf a0 a1 a2 a3 a4 a5 a6 r) (projOf a7) (rowOf a8 r) n := by
  pointwise [s56, s34_at, s20_at, dgRow]
  rw [Fin.sum_univ_one]
  exact Finset.sum_congr rfl fun r _ => mul_comm _ _

theorem s55_eq : s55 a0 a1 a2 a3 a4 a5 a6 a7 a8 a9 a10 = (fun j : Row.Idx => gxRow (segOf a0 a1 a2 a3 a4 a5 a6 (j 0)) (projOf a7) (rowOf a8 (j 0)) (gainOf a9) (rowOf a10 (j 0)) (j 1)) := by
  funext y; idx_vars y; exact s55_at ..

theorem s56_eq : s56 a0 a1 a2 a3 a4 a5 a6 a7 a8 = (fun j : Gain.Idx => ∑ r : Fin 4096, dgRow (segOf a0 a1 a2 a3 a4 a5 a6 r) (projOf a7) (rowOf a8 r) (j 1)) := by
  funext y
  idx_vars y
  obtain rfl : y0 = 0 := Subsingleton.elim _ _
  exact s56_at ..
end

section
variable (m : (ℓ : Loc nD τ sig) → Buf (Elt Ideal) ℓ) (c : Dev nD)
theorem res55 : Value.res_main_v55 m c = s55 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := rfl
end
end Cert.InprojRefIdeal.Stage

namespace Cert.Inproj
open Cert.InprojRefIdeal.Stage

set_option maxHeartbeats 800000 in
/-- Over the extended reals the kernel's gradients are the reference's. -/
theorem algebraic : Cert.algebraic_InprojBwdIdeal_InprojRefIdeal := by
  pair_intro
  · run_from Cert.InprojBwdIdeal.Gen.run_main m g
  · run_from Cert.InprojRefIdeal.Value.run m' g'
    · rw [Cert.InprojBwdIdeal.Value.final11]
      obtain ⟨h0, h1, h2, h3, h4, h5, h6, h7, h8, h9, h10⟩ := hagree c
      rw [res55, h0, h1, h2, h3, h4, h5, h6, h7, h8, h9, h10]
      exact s55_eq ..
    · rw [Cert.InprojBwdIdeal.Value.final12]
      obtain ⟨-, -, -, -, h4, h5, h6, -⟩ := hagree c
      rw [h4, h5, h6]
      exact s56_eq ..

end Cert.Inproj
-- ==== Proof.Finite.lean ====
module

public import Idealize.ShloMosaic.Lib.Pipeline.ValueKit
public import Idealize.ShloMosaic.Lib.Pointwise
public import Idealize.ShloMosaic.Lib.IdealHost
public import Idealize.ShloMosaic.PureOps.Ideal

@[expose] public section

noncomputable section

open Idealize.ShloMosaic

/-! Numbers of the extended line that are real numbers, and the operations that stay among them. -/
namespace Cert.Finite

/-- The number is a real number. -/
def IsReal (x : EReal) : Prop := ∃ r : ℝ, x = r

variable {x y : EReal}

theorem real_coe (r : ℝ) : IsReal r := ⟨r, rfl⟩
theorem real_zero : IsReal 0 := ⟨0, rfl⟩
theorem real_one : IsReal 1 := ⟨1, rfl⟩

theorem IsReal.add (hx : IsReal x) (hy : IsReal y) : IsReal (x + y) := by
  obtain ⟨a, rfl⟩ := hx; obtain ⟨b, rfl⟩ := hy; exact ⟨a + b, (EReal.coe_add a b).symm⟩

theorem IsReal.mul (hx : IsReal x) (hy : IsReal y) : IsReal (x * y) := by
  obtain ⟨a, rfl⟩ := hx; obtain ⟨b, rfl⟩ := hy; exact ⟨a * b, (EReal.coe_mul a b).symm⟩

theorem IsReal.neg (hx : IsReal x) : IsReal (-x) := by
  obtain ⟨a, rfl⟩ := hx; exact ⟨-a, (EReal.coe_neg a).symm⟩

theorem IsReal.sub (hx : IsReal x) (hy : IsReal y) : IsReal (x - y) := by
  obtain ⟨a, rfl⟩ := hx; obtain ⟨b, rfl⟩ := hy; exact ⟨a - b, (EReal.coe_sub a b).symm⟩

theorem IsReal.max (hx : IsReal x) (hy : IsReal y) : IsReal (max x y) := by
  rcases le_total x y with h | h
  · rwa [max_eq_right h]
  · rwa [max_eq_left h]

theorem IsReal.sum {ι : Type} (s : Finset ι) (f : ι → EReal) (hf : ∀ i, IsReal (f i)) : IsReal (∑ i ∈ s, f i) := by
  classical
  induction s using Finset.induction_on with
  | empty => exact real_zero
  | insert a s ha ih => rw [Finset.sum_insert ha]; exact (hf a).add ih

theorem IsReal.sub_self (hx : IsReal x) : x - x = 0 := by
  obtain ⟨a, rfl⟩ := hx; rw [← EReal.coe_sub, _root_.sub_self]; rfl

theorem IsReal.div (hx : IsReal x) {r : ℝ} (hr : r ≠ 0) : IsReal (Ideal.div x r) := by
  rw [Ideal.div_coe hr]; exact hx.mul (real_coe _)

theorem IsReal.exp (hx : IsReal x) : IsReal (Ideal.exp x) := by
  obtain ⟨a, rfl⟩ := hx; exact ⟨Real.exp a, rfl⟩

theorem IsReal.cos (hx : IsReal x) : IsReal (Ideal.cos x) := by
  obtain ⟨a, rfl⟩ := hx; exact ⟨Real.cos a, rfl⟩

theorem IsReal.sin (hx : IsReal x) : IsReal (Ideal.sin x) := by
  obtain ⟨a, rfl⟩ := hx; exact ⟨Real.sin a, rfl⟩

theorem IsReal.pow (hx : IsReal x) (hy : IsReal y) : IsReal (Ideal.pow x y) := by
  obtain ⟨a, rfl⟩ := hx; obtain ⟨b, rfl⟩ := hy; exact ⟨Real.rpow a b, rfl⟩

theorem rsqrt_real {r : ℝ} (h : 0 < r) : Ideal.rsqrt r = (((Real.sqrt r)⁻¹ : ℝ) : EReal) := by
  show (if r < 0 then (⊥ : EReal) else if r = 0 then ⊤ else ((Real.sqrt r)⁻¹ : ℝ)) = _
  rw [if_neg h.not_gt, if_neg h.ne']

theorem IsReal.rsqrt (hx : IsReal x) (h : 0 < x) : IsReal (Ideal.rsqrt x) := by
  obtain ⟨a, rfl⟩ := hx; exact ⟨_, rsqrt_real (by exact_mod_cast h)⟩

/-- The comparison a precondition makes holds only of a real number. -/
theorem real_of_abs (h : Ideal.cmp .olt (max x (-x)) (Ideal.ofBits .f32 0x7F800000#32) = 1#1) : IsReal x := by
  have e : Ideal.ofBits .f32 0x7F800000#32 = ⊤ := by simp [Ideal.ofBits, Ideal.ieee]
  rw [e] at h
  induction x with
  | bot => simp [Ideal.cmp] at h
  | top => simp [Ideal.cmp] at h
  | coe r => exact real_coe r

end Cert.Finite
-- ==== Proof.Heads.lean ====
module

public import proofs.«01_k».proof.Proof.Norm
public import proofs.«01_k».proof.Proof.Finite
public import Idealize.ShloMosaic.Lib.Pointwise

@[expose] public section

noncomputable section

open Idealize.ShloMosaic Idealize.ShloMosaic.TcCoe

/-! The norm of a head's sixty-four lanes, the rotation by the position's angles, and their gradients; a sum over a head's
lanes as a product with the heads' indicator. -/
namespace Cert.Heads
open Cert.Norm Cert.Finite

/-- A head's width. -/
abbrev hw : EReal := Ideal.ofBits .f32 0x42800000#32

theorem hw_eq : hw = ((64 : ℝ) : EReal) := by
  simp [hw, Ideal.ofBits, Ideal.ieee]; rw [← EReal.coe_mul]; norm_num

theorem inv_hw_eq : Ideal.ofBits .f32 0x3C800000#32 = ((1 / 64 : ℝ) : EReal) := by
  simp [Ideal.ofBits, Ideal.ieee]; rw [← EReal.coe_mul]; norm_num

theorem eps_real : IsReal eps := by
  refine ⟨8796093 / 8796093022208, ?_⟩
  simp [eps, Ideal.ofBits, Ideal.ieee]; rw [← EReal.coe_mul]; norm_num

theorem base_real : IsReal (Ideal.ofBits .f32 0x461C4000#32) := by
  refine ⟨10000, ?_⟩
  simp [Ideal.ofBits, Ideal.ieee]; rw [← EReal.coe_mul]; norm_num

theorem div_hw (x : EReal) : Ideal.div x hw = x * ((1 / 64 : ℝ) : EReal) := by
  rw [hw_eq]; exact Ideal.div_coe (by norm_num) x

/-- The mean square of a head plus epsilon, and its reciprocal root. -/
def hms (x : Fin 64 → EReal) : EReal := Ideal.div (∑ k, x k * x k) hw + eps
def hr (x : Fin 64 → EReal) : EReal := Ideal.rsqrt (hms x)

/-- The normed head with its gain. -/
def hnrm (x g : Fin 64 → EReal) (d : Fin 64) : EReal := x d * hr x * g d

/-- The norm's gradient in closed form, and its part through the mean square as differentiation gives it. -/
def hdnrm (x g dy : Fin 64 → EReal) (d : Fin 64) : EReal :=
  hr x * (dy d * g d) - x d * (hr x * hr x * hr x * Ideal.div (∑ k, dy k * g k * x k) hw)
def hdms (x g dy : Fin 64 → EReal) : EReal :=
  Ideal.div ((∑ k, x k * (dy k * g k)) * (Ideal.ofBits .f32 0xBF000000#32 * Ideal.div (hr x) (hms x))) hw

theorem hms_pos (x : Fin 64 → EReal) : 0 < hms x := by
  refine lt_of_lt_of_le eps_pos ?_
  unfold hms
  rw [div_hw]
  refine le_add_of_nonneg_left (mul_nonneg (Finset.sum_nonneg fun k _ => sq_nonneg _) ?_)
  exact_mod_cast (by norm_num : (0 : ℝ) ≤ 1 / 64)

/-- The gradient as differentiation gives it is the closed form. -/
theorem hdnrm_ref (x g dy : Fin 64 → EReal) (d : Fin 64) :
    dy d * g d * hr x + x d * hdms x g dy + hdms x g dy * x d = hdnrm x g dy d := by
  have hq : x d * hdms x g dy = ((-(1 / 2) : ℝ) : EReal) * (x d * (hr x * hr x * hr x * Ideal.div (∑ k, dy k * g k * x k) hw)) := by
    unfold hdms
    rw [show Ideal.div (hr x) (hms x) = hr x * hr x * hr x from rsqrt_div (hms_pos x), neg_half_eq, div_hw, div_hw,
      show ∑ k, x k * (dy k * g k) = ∑ k, dy k * g k * x k from Finset.sum_congr rfl fun k _ => mul_comm _ _]
    ac_rfl
  rw [mul_comm (hdms x g dy) (x d), add_assoc, hq, half_add_half, hdnrm, sub_eq_add_neg, mul_comm (hr x) (dy d * g d)]

theorem hms_real {x : Fin 64 → EReal} (h : ∀ d, IsReal (x d)) : IsReal (hms x) := by
  unfold hms
  rw [div_hw]
  exact ((IsReal.sum _ _ fun k => (h k).mul (h k)).mul (real_coe _)).add eps_real

theorem hr_real {x : Fin 64 → EReal} (h : ∀ d, IsReal (x d)) : IsReal (hr x) := (hms_real h).rsqrt (hms_pos x)

/-- The angle of a position's pair of lanes. -/
def ang (p : ℕ) (j : Fin 32) : EReal :=
  ((BitVec.ofNat 32 p).toInt : ℝ) * Ideal.pow (Ideal.ofBits .f32 0x461C4000#32)
    (Ideal.div (-(Ideal.ofBits .f32 0x40000000#32 * ((BitVec.ofNat 32 j.val).toInt : ℝ))) hw)
def cs (p : ℕ) (j : Fin 32) : EReal := Ideal.cos (ang p j)
def sn (p : ℕ) (j : Fin 32) : EReal := Ideal.sin (ang p j)

theorem ang_real (p : ℕ) (j : Fin 32) : IsReal (ang p j) := by
  unfold ang
  rw [div_hw, two_eq]
  exact (real_coe _).mul (base_real.pow ((((real_coe _).mul (real_coe _)).neg).mul (real_coe _)))

theorem cs_real (p : ℕ) (j : Fin 32) : IsReal (cs p j) := (ang_real p j).cos
theorem sn_real (p : ℕ) (j : Fin 32) : IsReal (sn p j) := (ang_real p j).sin

/-- A head turned by its position's angles, and turned back. -/
def rot (p : ℕ) (y : Fin 64 → EReal) (d : Fin 64) : EReal :=
  if h : d.val < 32 then y d * cs p ⟨d.val, h⟩ - y ⟨d.val + 32, by omega⟩ * sn p ⟨d.val, h⟩
  else y d * cs p ⟨d.val - 32, by omega⟩ + y ⟨d.val - 32, by omega⟩ * sn p ⟨d.val - 32, by omega⟩
def unrot (p : ℕ) (y : Fin 64 → EReal) (d : Fin 64) : EReal :=
  if h : d.val < 32 then y d * cs p ⟨d.val, h⟩ + y ⟨d.val + 32, by omega⟩ * sn p ⟨d.val, h⟩
  else y d * cs p ⟨d.val - 32, by omega⟩ + y ⟨d.val - 32, by omega⟩ * -sn p ⟨d.val - 32, by omega⟩

theorem unrot_real (p : ℕ) {y : Fin 64 → EReal} (h : ∀ d, IsReal (y d)) (d : Fin 64) : IsReal (unrot p y d) := by
  unfold unrot
  split_ifs
  · exact ((h _).mul (cs_real ..)).add ((h _).mul (sn_real ..))
  · exact ((h _).mul (cs_real ..)).add ((h _).mul (sn_real ..).neg)

theorem rot_real (p : ℕ) {y : Fin 64 → EReal} (h : ∀ d, IsReal (y d)) (d : Fin 64) : IsReal (rot p y d) := by
  unfold rot
  split_ifs
  · exact ((h _).mul (cs_real ..)).sub ((h _).mul (sn_real ..))
  · exact ((h _).mul (cs_real ..)).add ((h _).mul (sn_real ..))

/-- A lane's place in its head. -/
def pl {n : ℕ} (l : Fin n) : Fin 64 := ⟨l.val % 64, by omega⟩

section lanes
variable {n H : ℕ} (hn : n = H * 64)

/-- The lane of a head, and the lane's head. -/
def lane (h : Fin H) (d : Fin 64) : Fin n := ⟨h.val * 64 + d.val, by have := h.isLt; omega⟩
def hd (l : Fin n) : Fin H := ⟨l.val / 64, by have := l.isLt; omega⟩

theorem lane_hd (l : Fin n) : lane hn (hd hn l) (pl l) = l := Fin.ext (by simp only [lane, hd, pl]; omega)

/-- A product with the indicator's column of a head sums the head's lanes. -/
theorem sum_ind (x e : Fin n → EReal) (h : Fin H) (he : ∀ l, e l = if l.val / 64 = h.val then 1 else 0) :
    ∑ l, x l * e l = ∑ d : Fin 64, x (lane hn h d) := by
  subst hn
  rw [← Fin.sum_mul_add_congr (S := H) (n := 64) (F := fun p d => if p = h then x (lane rfl p d) else 0)
    (fun p d hl => by
      rw [he, show (p.val * 64 + d.val) / 64 = p.val from by omega, mul_ite, mul_one, mul_zero]; simp only [Fin.ext_iff]; rfl) rfl]
  rw [Finset.sum_eq_single h (fun p _ hp => Finset.sum_eq_zero fun d _ => if_neg hp) (fun h' => absurd (Finset.mem_univ _) h')]
  exact Finset.sum_congr rfl fun d _ => if_pos rfl

/-- The same with the part a narrower copy leaves out, which is nothing. -/
theorem split_ind (x e : Fin n → EReal) (h : Fin H) (he : ∀ l, e l = if l.val / 64 = h.val then 1 else 0) (hx : ∀ d, IsReal (x (lane hn h d))) :
    (∑ l, x l * e l) + ∑ l, (x l - x l) * e l = ∑ d : Fin 64, x (lane hn h d) := by
  rw [sum_ind hn x e h he, sum_ind hn (fun l => x l - x l) e h he, Finset.sum_eq_zero fun d _ => (hx d).sub_self, add_zero]

/-- A product with the indicator's row of a lane picks the lane's head. -/
theorem pick_ind {w : ℕ} (x e : Fin w → EReal) (j : Fin w) (he : ∀ i, e i = if j.val = i.val then 1 else 0) : ∑ i, x i * e i = x j := by
  rw [Finset.sum_eq_single j (fun i _ hi => by rw [he, if_neg fun h => hi (Fin.ext h.symm), mul_zero]) (fun h' => absurd (Finset.mem_univ _) h'), he, if_pos rfl, mul_one]

theorem split_pick {w : ℕ} (x e : Fin w → EReal) (j : Fin w) (he : ∀ i, e i = if j.val = i.val then 1 else 0) (hx : IsReal (x j)) :
    (∑ i, x i * e i) + ∑ i, (x i - x i) * e i = x j := by
  rw [pick_ind x e j he, pick_ind (fun i => x i - x i) e j he, hx.sub_self, add_zero]
end lanes

/-- A host sum over all axes but the last. -/
theorem sum_rows {n0 n1 n2 n3 : ℕ} (h : (⟨4, ![n0, n1, n2, n3]⟩ : Shape).ReducesTo [0, 1, 2] ⟨1, ![n3]⟩) (v : (⟨4, ![n0, n1, n2, n3]⟩ : Shape).Idx → EReal) (z : EReal) (d : Fin n3) :
    Ideal.hostReduceAdd h v z (ix1 d) = z + ∑ a : Fin n0, ∑ b : Fin n1, ∑ c : Fin n2, v (ix4 a b c d) := by
  refine congrArg (z + ·) ?_
  rw [Finset.sum_filter_eq_sum_of_fiber _ (fun k : Fin n0 × Fin n1 × Fin n2 => ix4 k.1 k.2.1 k.2.2 d)
    (fun _ _ e => Prod.ext (congrFun e 0) (Prod.ext (congrFun e 1) (congrFun e 2))) (fun i => ?_) v]
  · simp only [Fintype.sum_prod_type]
  · constructor
    · intro e
      refine ⟨(i 0, i 1, i 2), funext fun a => Fin.ext ?_⟩
      match a with
      | ⟨0, _⟩ => rfl
      | ⟨1, _⟩ => rfl
      | ⟨2, _⟩ => rfl
      | ⟨3, _⟩ => exact (congrArg Fin.val (congrFun e 0)).symm
    · rintro ⟨k, rfl⟩
      funext b
      obtain rfl : b = 0 := Subsingleton.elim _ _
      exact Fin.ext rfl

end Cert.Heads
-- ==== Proof.Tables.lean ====
module

public import proofs.«01_k».proof.Proof.Heads

@[expose] public section

set_option maxRecDepth 16384

noncomputable section

open Idealize.ShloMosaic Idealize.ShloMosaic.TcCoe

/-! The tables the host code prepares for the attention's calls: the angles' cosines and sines for two heads side by side, and
the indicator of the heads. -/
namespace Cert.Tables
open Cert.Norm Cert.Heads

abbrev E0 : Shape := ⟨0, ![]⟩
abbrev E32 : Shape := ⟨1, ![32]⟩
abbrev E2048 : Shape := ⟨1, ![2048]⟩
abbrev Ang : Shape := ⟨2, ![2048, 32]⟩
abbrev Pair : Shape := ⟨2, ![2048, 64]⟩
abbrev Tab : Shape := ⟨2, ![2048, 128]⟩

theorem b_scalar : E0.BroadcastsInDim E32 (![] : Fin 0 → Fin E32.rank) := by decide
theorem b_pos : E2048.BroadcastsInDim ⟨2, ![2048, 1]⟩ (![0] : Fin 1 → Fin 2) := by decide
theorem b_pair : E32.BroadcastsInDim ⟨2, ![1, 32]⟩ (![1] : Fin 1 → Fin 2) := by decide
theorem b_rows : Shape.BroadcastsInDim ⟨2, ![2048, 1]⟩ Ang (![0, 1] : Fin 2 → Fin 2) := by decide
theorem b_cols : Shape.BroadcastsInDim ⟨2, ![1, 32]⟩ Ang (![0, 1] : Fin 2 → Fin 2) := by decide
theorem c_halves : Shape.Concatenates [Ang, Ang] Pair 1 := by decide
theorem r_pair : Pair.ShapeCasts ⟨4, ![1, 2048, 1, 64]⟩ := by decide
theorem b_two : Shape.BroadcastsInDim ⟨4, ![1, 2048, 1, 64]⟩ ⟨4, ![1, 2048, 2, 64]⟩ (![0, 1, 2, 3] : Fin 4 → Fin 4) := by decide
theorem r_two : Shape.ShapeCasts ⟨4, ![1, 2048, 2, 64]⟩ Tab := by decide

/-- The angles. -/
def angT : FVec Ideal Ang .f32 :=
  mulf (broadcastInDim Ang ![0, 1] b_rows (broadcastInDim ⟨2, ![2048, 1]⟩ ![0] b_pos (sitofp .f32 (iotaInDim E2048 32 0) : FVec Ideal E2048 .f32)))
    (broadcastInDim Ang ![0, 1] b_cols (broadcastInDim ⟨2, ![1, 32]⟩ ![1] b_pair
      (Host.powf (broadcastInDim E32 ![] b_scalar (constant E0 .f32 0x461C4000#32))
        (Host.divf (Host.negf (addf (broadcastInDim E32 ![] b_scalar (constant E0 .f32 0x00000000#32))
          (mulf (broadcastInDim E32 ![] b_scalar (constant E0 .f32 0x40000000#32)) (sitofp .f32 (iotaInDim E32 32 0)))))
          (broadcastInDim E32 ![] b_scalar (constant E0 .f32 0x42800000#32))))))

theorem angT_at (p : Fin 2048) (j : Fin 32) : angT (ix2 p j) = ang p.val j := by
  pointwise [angT, ang]
  rfl

/-- A head's table for two heads side by side. -/
def twice (a b : FVec Ideal Ang .f32) : FVec Ideal Tab .f32 :=
  shapeCast Tab (broadcastInDim ⟨4, ![1, 2048, 2, 64]⟩ ![0, 1, 2, 3] b_two
    (shapeCast ⟨4, ![1, 2048, 1, 64]⟩ (concatenate Pair 1 [⟨Ang, a⟩, ⟨Ang, b⟩] c_halves) r_pair)) r_two

theorem twice_at (a b : FVec Ideal Ang .f32) (p : Fin 2048) (l : Fin 128) :
    twice a b (ix2 p l) = if l.val % 64 < 32 then a (ix2 p ⟨l.val % 32, by omega⟩) else b (ix2 p ⟨l.val % 32, by omega⟩) := by
  pointwise [twice]
  by_cases h : l.val % 64 < 32
  · rw [dif_pos h, if_pos h]
    exact congrArg a (congrArg (ix2 p) (Fin.ext (show l.val % 64 = l.val % 32 by omega)))
  · rw [dif_neg h, if_neg h]
    exact congrArg b (congrArg (ix2 p) (Fin.ext (show l.val % 64 - 32 = l.val % 32 by omega)))

def cosT : FVec Ideal Tab .f32 := twice (Host.cos angT) (Host.cos angT)
def sinT : FVec Ideal Tab .f32 := twice (Host.negf (Host.sin angT)) (Host.sin angT)

theorem cosT_at (p : Fin 2048) (l : Fin 128) : cosT (ix2 p l) = cs p.val ⟨l.val % 32, by omega⟩ := by
  unfold cosT
  rw [twice_at, ite_self]
  pointwise [angT_at, cs]

theorem sinT_at (p : Fin 2048) (l : Fin 128) :
    sinT (ix2 p l) = if l.val % 64 < 32 then -sn p.val ⟨l.val % 32, by omega⟩ else sn p.val ⟨l.val % 32, by omega⟩ := by
  unfold sinT
  rw [twice_at]
  pointwise [angT_at, sn]

/-- The indicator of `H` heads: a column of heads, one at the rows of that head. -/
def indT (H w : ℕ) (hb : Shape.BroadcastsInDim ⟨2, ![H, 128]⟩ ⟨3, ![H, 1, 128]⟩ ![0, 2]) (hc : Shape.BroadcastsInDim ⟨3, ![H, 1, 128]⟩ ⟨3, ![H, 64, 128]⟩ ![0, 1, 2])
    (he : Shape.BroadcastsInDim E0 ⟨2, ![H, 128]⟩ ![]) (hs : Shape.ShapeCasts ⟨3, ![H, 64, 128]⟩ ⟨2, ![w, 128]⟩) : FVec Ideal ⟨2, ![w, 128]⟩ .f32 :=
  shapeCast ⟨2, ![w, 128]⟩ (broadcastInDim ⟨3, ![H, 64, 128]⟩ ![0, 1, 2] hc (broadcastInDim ⟨3, ![H, 1, 128]⟩ ![0, 2] hb
    (uitofp .f32 (cmpi .eq (addi (iotaInDim ⟨2, ![H, 128]⟩ 32 0) (broadcastInDim ⟨2, ![H, 128]⟩ ![] he (constantI E0 32 0#32))) (iotaInDim ⟨2, ![H, 128]⟩ 32 1)) : FVec Ideal ⟨2, ![H, 128]⟩ .f32))) hs

theorem ind_word (a b : ℕ) (ha : a < 2 ^ 32) (hb : b < 2 ^ 32) :
    (FloatOps.uitofp FTy.f32 (IntOp.cmpi CmpIPredicate.eq (IntOp.addi (BitVec.ofNat 32 a) 0#32) (BitVec.ofNat 32 b)) : Ideal .f32) = (if a = b then 1 else 0 : EReal) := by
  have e : IntOp.addi (BitVec.ofNat 32 a) 0#32 = BitVec.ofNat 32 a := by simp [IntOp.addi]
  rw [e]
  by_cases h : a = b
  · subst h
    rw [if_pos rfl]
    simp [IntOp.cmpi, FloatOps.uitofp]
  · have hne : BitVec.ofNat 32 a ≠ BitVec.ofNat 32 b := fun he => h (by
      have := congrArg BitVec.toNat he
      rwa [BitVec.toNat_ofNat, BitVec.toNat_ofNat, Nat.mod_eq_of_lt ha, Nat.mod_eq_of_lt hb] at this)
    rw [if_neg h]
    simp [IntOp.cmpi, FloatOps.uitofp, hne]

theorem ind4_at (hb hc he hs) (l : Fin 256) (j : Fin 128) : indT 4 256 hb hc he hs (ix2 l j) = if l.val / 64 = j.val then 1 else 0 := by
  pointwise [indT]
  exact ind_word _ _ (by omega) (by omega)

theorem ind16_at (hb hc he hs) (l : Fin 1024) (j : Fin 128) : indT 16 1024 hb hc he hs (ix2 l j) = if l.val / 64 = j.val then 1 else 0 := by
  pointwise [indT]
  exact ind_word _ _ (by omega) (by omega)

end Cert.Tables
-- ==== Proof.Kv.lean ====
module

public import proofs.«01_k».proof.Proof.Gen.KvBwdIdeal.Frame
public import proofs.«01_k».proof.Proof.Tables
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

/-! The gradient of the keys and the values: the two blocks a key serves, the rotation, and the head's norm. -/
namespace Cert.Kv
open Cert.Norm Cert.Heads Cert.Finite

/-- The shapes of the keys and of a head's gain. -/
abbrev Wide : Shape := ⟨2, ![4096, 256]⟩
abbrev Gain : Shape := ⟨2, ![1, 64]⟩

section arrays
variable (k : Wide.Idx → EReal) (g : Gain.Idx → EReal) (a b : Wide.Idx → EReal)

/-- A head's lanes of a row, and its gain. -/
def kRow (r : Fin 4096) (h : Fin 4) (d : Fin 64) : EReal := k (ix2 r (lane (by decide) h d))
def gRow (d : Fin 64) : EReal := g (ix2 0 d)

/-- The two parts of a row's gradient: from its own block, and from the next block if the sequence has one. -/
def two (r : Fin 4096) (l : Fin 256) : EReal :=
  a (ix2 r l) + if h : r.val % 2048 / 128 < 15 then b (ix2 ⟨r.val + 128, by omega⟩ l) else 0
def twoRow (r : Fin 4096) (h : Fin 4) (d : Fin 64) : EReal := two a b r (lane (by decide) h d)

/-- The gradient turned back by the position's angles. -/
def back (r : Fin 4096) (h : Fin 4) : Fin 64 → EReal := unrot (r.val % 2048) (twoRow a b r h)

/-- The keys' gradient, the values', and the gain's before its heads are summed. -/
def dkArr (j : Wide.Idx) : EReal := hdnrm (kRow k (j 0) (hd (H := 4) (by decide) (j 1))) (gRow g) (back a b (j 0) (hd (H := 4) (by decide) (j 1))) (pl (j 1))
def dvArr (j : Wide.Idx) : EReal := two a b (j 0) (j 1)
def dgHead (h : Fin 4) (d : Fin 64) : EReal := ∑ r : Fin 4096, back a b r h d * (kRow k r h d * hr (kRow k r h))

variable {k g a b}

theorem two_real (ha : ∀ j, IsReal (a j)) (hb : ∀ j, IsReal (b j)) (r : Fin 4096) (l : Fin 256) : IsReal (two a b r l) := by
  unfold two
  split_ifs
  · exact (ha _).add (hb _)
  · exact (ha _).add real_zero

theorem back_real (ha : ∀ j, IsReal (a j)) (hb : ∀ j, IsReal (b j)) (r : Fin 4096) (h : Fin 4) (d : Fin 64) : IsReal (back a b r h d) :=
  unrot_real _ (fun d => two_real ha hb r _) d
end arrays

end Cert.Kv

namespace Cert.KvBwdIdeal.Value
open Cert.KvBwdIdeal Cert.KvBwdIdeal.Gen Cert.Norm Cert.Heads Cert.Finite Cert.Tables Cert.Kv

section payloads
variable (x y : Vec Ideal S1024x256 .f32) (i : Vec Ideal S256x128 .bf16) (it : Vec Ideal S128x256 .bf16)
  (hi : ∀ l j, i (ix2 l j) = if l.val / 64 = j.val then 1 else 0) (hit : ∀ j l, it (ix2 j l) = if l.val / 64 = j.val then 1 else 0)
  (c s : Vec Ideal S1024x128 .f32) (p : Fin 1024 → ℕ) (hc : ∀ r l, c (ix2 r l) = cs (p r) ⟨l.val % 32, by omega⟩)
  (hs : ∀ r l, s (ix2 r l) = if l.val % 64 < 32 then -sn (p r) ⟨l.val % 32, by omega⟩ else sn (p r) ⟨l.val % 32, by omega⟩)
  (r : Fin 1024) (l : Fin 256) (h : Fin 4) (d : Fin 64)

/-- A head's lanes of a row. -/
def hrow (x : Vec Ideal S1024x256 .f32) (r : Fin 1024) (h : Fin 4) (d : Fin 64) : EReal := x (ix2 r (lane (by decide) h d))

include hi in
theorem sq_at (hx : ∀ d, IsReal (hrow x r h d)) : k0_pay10 (F := Ideal) x i (ix2 r ⟨h.val, by omega⟩) + k0_pay11 (F := Ideal) (ix2 r ⟨h.val, by omega⟩) = hms (hrow x r h) := by
  pointwise [k0_pay10, k0_pay11]
  rw [split_ind (H := 4) (by decide) (fun l => x (ix2 r l) * x (ix2 r l)) (fun l => i (ix2 l ⟨h.val, by omega⟩)) h (fun l => hi l _) (fun d => (hx d).mul (hx d)),
    hms, div_hw, inv_hw_eq]
  rfl

include hi hit in
theorem rstd_at (hx : ∀ d, IsReal (hrow x r h d)) : k0_pay12 (F := Ideal) (k0_pay9 it) (k0_pay10 x i) k0_pay11 (ix2 r (lane (by decide) h d)) = hr (hrow x r h) := by
  have hq := sq_at x i hi r h hx
  generalize k0_pay10 x i = q at hq ⊢
  generalize k0_pay11 (F := Ideal) = e at hq ⊢
  pointwise [k0_pay12, k0_pay9]
  rw [split_pick (fun j => Ideal.rsqrt (q (ix2 r j) + e (ix2 r j))) (fun j => it (ix2 j (lane (by decide) h d))) ⟨h.val, by omega⟩
    (fun j => by simp only [hit, lane, show (h.val * 64 + d.val) / 64 = h.val from by omega]) (by rw [hq]; exact hr_real hx), hq, hr]

theorem mask_at (t : grid0.Coords) : k0_pay4 t (ix2 r l) = if (t 1).val * 8 + r.val / 128 < 15 then 1#1 else 0#1 := by
  pointwise [k0_pay4]
  have ht : (t 1).val < 2 := (t 1).isLt
  generalize (t 1).val = b at ht ⊢
  obtain ⟨r, hr⟩ := r
  clear l
  revert r b
  decide +kernel

include hc in
theorem cos_at : k0_pay7 (F := Ideal) c (ix2 r l) = cs (p r) ⟨l.val % 32, by omega⟩ := by
  pointwise [k0_pay7, hc]
  split_ifs
  all_goals first | rfl | contradiction | exact congrArg (cs (p r)) (Fin.ext (by dsimp only; omega))

include hs in
theorem sin_at : k0_pay8 (F := Ideal) s (ix2 r l) = if l.val % 64 < 32 then -sn (p r) ⟨l.val % 32, by omega⟩ else sn (p r) ⟨l.val % 32, by omega⟩ := by
  pointwise [k0_pay8, hs]
  by_cases h0 : l.val < 128
  · rw [dif_pos h0]
  · have e1 : (l.val - 128) % 64 = l.val % 64 := by omega
    have e2 : (l.val - 128) % 32 = l.val % 32 := by omega
    rw [dif_neg h0]
    simp only [e1, e2, if_true]

/-- The lanes whose pair is thirty-two further on. -/
def half (b : BitVec 32) : BitVec 1 :=
  let w := Scalar.select (Scalar.cmpi CmpIPredicate.eq 64#32 0#32) 1#32 64#32
  IntOp.cmpi CmpIPredicate.slt
    (Scalar.select
      (IntOp.andi (IntOp.xori (IntOp.cmpi CmpIPredicate.slt (IntOp.remsi ArithUnit.vector b w) 0#32) (Scalar.cmpi CmpIPredicate.slt w 0#32))
        (IntOp.cmpi CmpIPredicate.ne (IntOp.remsi ArithUnit.vector b w) 0#32))
      (IntOp.addi (IntOp.remsi ArithUnit.vector b w) w) (IntOp.remsi ArithUnit.vector b w)) 32#32

theorem half_eq : ∀ (h : Fin 4) (d : Fin 64), half (BitVec.ofNat 32 (lane (n := 256) (by decide) h d).val) = if d.val < 32 then 1#1 else 0#1 := by decide +kernel

include hc hs in
theorem dtn_at : k0_pay15 (F := Ideal) (iota .tc S1024x256 32 [1] iota_S1024x256_d1_w32) x (k0_pay7 c) (k0_pay8 s) (ix2 r (lane (by decide) h d)) = unrot (p r) (hrow x r h) d := by
  have ec := cos_at c p hc
  have es := sin_at s p hs
  generalize k0_pay7 (F := Ideal) c = C at ec ⊢
  generalize k0_pay8 (F := Ideal) s = S at es ⊢
  pointwise [k0_pay15]
  generalize hm : IntOp.cmpi CmpIPredicate.slt _ 32#32 = m
  have key : m = if d.val < 32 then 1#1 else 0#1 := by
    rw [← hm]
    exact half_eq h d
  rw [key]
  unfold unrot hrow
  have := h.isLt
  rw [ec, es, es]
  by_cases hd : d.val < 32
  · rw [if_pos hd, dif_pos hd, if_neg (by simp only [lane]; omega)]
    refine congrArg₂ (· + ·) (congrArg _ (congrArg (cs (p r)) (Fin.ext ?_))) (congrArg₂ (· * ·) (congrArg x (congrArg (ix2 r) (Fin.ext ?_))) (congrArg (sn (p r)) (Fin.ext ?_))) <;>
      simp only [lane] <;> omega
  · rw [if_neg hd, dif_neg hd, if_pos (by simp only [lane]; omega : ((lane (by decide) h d : Fin 256).val + 256 - 32) % 256 % 64 < 32)]
    refine congrArg₂ (· + ·) (congrArg _ (congrArg (cs (p r)) (Fin.ext ?_))) (congrArg₂ (· * ·) (congrArg x (congrArg (ix2 r) (Fin.ext ?_))) (congrArg (fun j => -sn (p r) j) (Fin.ext ?_))) <;>
      simp only [lane] <;> omega

variable (g : Vec Ideal S1x256 .f32) (D : FVec Ideal S1024x256 .f32)

/-- The gain of a head's lanes. -/
def hgain (g : Vec Ideal S1x256 .f32) (h : Fin 4) (d : Fin 64) : EReal := g (ix2 0 (lane (by decide) h d))

include hi hit in
theorem dk_at (hx : ∀ d, IsReal (hrow x r h d)) (hD : ∀ d, IsReal (hrow D r h d)) (hg : ∀ d, IsReal (hgain g h d)) :
    k0_pay1 (F := Ideal) x (k0_pay12 (k0_pay9 it) (k0_pay10 x i) k0_pay11) g (k0_pay13 i) (k0_pay14 it) D (ix2 r (lane (by decide) h d))
      = hdnrm (hrow x r h) (hgain g h) (hrow D r h) d := by
  have e := rstd_at x i it hi hit r h d hx
  generalize k0_pay12 (F := Ideal) (k0_pay9 it) (k0_pay10 x i) k0_pay11 = R at e ⊢
  pointwise [k0_pay1, k0_pay13, k0_pay14, e]
  have hm := split_ind (H := 4) (by decide) (fun l => D (ix2 r l) * g (ix2 0 l) * x (ix2 r l)) (fun l => i (ix2 l ⟨h.val, by omega⟩)) h (fun l => hi l _) (fun d => ((hD d).mul (hg d)).mul (hx d))
  rw [split_pick (fun j => (∑ l, D (ix2 r l) * g (ix2 0 l) * x (ix2 r l) * i (ix2 l j)) + ∑ l, (D (ix2 r l) * g (ix2 0 l) * x (ix2 r l) - D (ix2 r l) * g (ix2 0 l) * x (ix2 r l)) * i (ix2 l j))
    (fun j => it (ix2 j (lane (by decide) h d))) ⟨h.val, by omega⟩ (fun j => by simp only [hit, lane, show (h.val * 64 + d.val) / 64 = h.val from by omega])
    (by rw [hm]; exact IsReal.sum _ _ fun d => ((hD d).mul (hg d)).mul (hx d)), hm, hdnrm, div_hw, inv_hw_eq]
  rfl

include hi hit hc hs in
theorem dg_at (hx : ∀ r d, IsReal (hrow x r h d)) (z : Vec Ideal S1x256 .f32) :
    k0_pay2 (F := Ideal) (k0_pay16 (iota .tc S1024x256 32 [1] iota_S1024x256_d1_w32) y (k0_pay7 c) (k0_pay8 s) x (k0_pay9 it) (k0_pay10 x i) k0_pay11) z (ix2 0 (lane (by decide) h d))
      = z (ix2 0 (lane (by decide) h d)) + ∑ r : Fin 1024, unrot (p r) (hrow y r h) d * (hrow x r h d * hr (hrow x r h)) := by
  have e := fun r => rstd_at x i it hi hit r h d (hx r)
  have e' := fun r => dtn_at y c s p hc hs r h d
  unfold k0_pay16
  generalize k0_pay12 (F := Ideal) (k0_pay9 it) (k0_pay10 x i) k0_pay11 = R at e ⊢
  generalize k0_pay15 (F := Ideal) (iota .tc S1024x256 32 [1] iota_S1024x256_d1_w32) y (k0_pay7 c) (k0_pay8 s) = R' at e' ⊢
  pointwise [k0_pay2, e, e']
  rfl

theorem dk_zero (j : S1x256.Idx) : k0_pay3 (F := Ideal) j = 0 := by pointwise! [k0_pay3]

variable (t : grid0.Coords) (w : Vec Ideal S128x256 .f32)

/-- A row of the gradient of the keys or values from the two blocks that read it: its own, and, but for the last block, the next. -/
theorem two_at : k0_pay5 (F := Ideal) (k0_pay4 t) x (View.ld y (Rect.unit (s := S1024x256) ![128, 0] ![896, 256] inb_S1024x256_S896x256_128_0)) w (ix2 r l)
    = x (ix2 r l) + if (t 1).val * 8 + r.val / 128 < 15 then (if h : r.val < 896 then y (ix2 ⟨r.val + 128, by omega⟩ l) else w (ix2 ⟨r.val - 896, by omega⟩ l)) else 0 := by
  have e := mask_at (l := l) r t
  generalize k0_pay4 t = M at e ⊢
  pointwise [k0_pay5, e]
  split_ifs <;> simp [Scalar.select, Nat.add_comm]
end payloads

variable (m : (ℓ : Loc nD τ sig) → Buf (Elt Ideal) ℓ)

theorem idx : ∀ t : Fin cfg0.N, win0_0.index t = ![t.val, 0] ∧ win0_1.index t = ![t.val, 0]
    ∧ win0_2.index t = ![t.val / 2 * 16 + min (t.val % 2 * 8 + 8) 15, 0] ∧ win0_3.index t = ![t.val, 0] ∧ win0_4.index t = ![t.val, 0]
    ∧ win0_5.index t = ![t.val / 2 * 16 + min (t.val % 2 * 8 + 8) 15, 0] ∧ win0_6.index t = ![t.val, 0]
    ∧ win0_7.index t = ![0, 0] ∧ win0_8.index t = ![t.val % 2, 0] ∧ win0_9.index t = ![t.val % 2, 0] ∧ win0_10.index t = ![0, 0]
    ∧ win0_11.index t = ![0, 0] ∧ win0_12.index t = ![t.val, 0] ∧ win0_13.index t = ![t.val, 0] ∧ win0_14.index t = ![0, 0] :=
  (by decide +kernel : ∀ t : Fin grid0.N, _)

theorem coord : ∀ t : Fin cfg0.N, (grid0.coords t 1).val = t.val % 2 := (by decide +kernel : ∀ t : Fin grid0.N, _)

/-- The array's row that is row `r` of tile `t`, and the row's position. -/
def row (t : Fin cfg0.N) (r : Fin 1024) : Fin 4096 := ⟨t.val * 1024 + r.val, by have h : t.val < 4 := lt_of_lt_of_eq t.isLt N_0; omega⟩
def pos (t : Fin cfg0.N) (r : Fin 1024) : ℕ := t.val % 2 * 1024 + r.val

theorem row_pos (t : Fin cfg0.N) (r : Fin 1024) : (row t r).val % 2048 = pos t r := by
  have h : t.val < 4 := lt_of_lt_of_eq t.isLt N_0
  simp only [row, pos]; omega

section blocks
variable (c : Dev nD) (t : Fin cfg0.N) (r : Fin 1024) (l : Fin 256) (h : Fin 4) (d : Fin 64)

theorem dk_cur : iblk m c 0 t (ix2 r l) = (m ((c : Thread nD τ).loc main_arg0)) (ix2 (row t r) l) := by unfold row; blk_point [iblk, V, idx t]
theorem dk_nxt : iblk m c 1 t (ix2 r l) = (m ((c : Thread nD τ).loc main_arg1)) (ix2 (row t r) l) := by unfold row; blk_point [iblk, V, idx t]
theorem dv_cur : iblk m c 3 t (ix2 r l) = (m ((c : Thread nD τ).loc main_arg2)) (ix2 (row t r) l) := by unfold row; blk_point [iblk, V, idx t]
theorem dv_nxt : iblk m c 4 t (ix2 r l) = (m ((c : Thread nD τ).loc main_arg3)) (ix2 (row t r) l) := by unfold row; blk_point [iblk, V, idx t]
theorem k_row : hrow (iblk m c 6 t) r h = kRow (m ((c : Thread nD τ).loc main_arg4)) (row t r) h := by funext d; unfold hrow kRow row; blk_point [iblk, V, idx t]

/-- The block after a tile, where the sequence goes on. -/
theorem dk_far (r : Fin 128) (hr : t.val % 2 * 8 + 8 ≤ 15) (hl : (t.val + 1) * 1024 + r.val < 4096) :
    iblk m c 2 t (ix2 r l) = (m ((c : Thread nD τ).loc main_arg1)) (ix2 ⟨(t.val + 1) * 1024 + r.val, hl⟩ l) := by blk_point [iblk, V, idx t]
theorem dv_far (r : Fin 128) (hr : t.val % 2 * 8 + 8 ≤ 15) (hl : (t.val + 1) * 1024 + r.val < 4096) :
    iblk m c 5 t (ix2 r l) = (m ((c : Thread nD τ).loc main_arg3)) (ix2 ⟨(t.val + 1) * 1024 + r.val, hl⟩ l) := by blk_point [iblk, V, idx t]

theorem V_cos : (V m c main_v21 : FVec Ideal S2048x128 .f32) = cosT := by show StableHlo.after hostOps0 (fun b => m (c, b)) (Proc.devRef .tc main_v21) = _; after_results; try rfl
theorem V_sin : (V m c main_v26 : FVec Ideal S2048x128 .f32) = sinT := by show StableHlo.after hostOps0 (fun b => m (c, b)) (Proc.devRef .tc main_v26) = _; after_results; try rfl
theorem V_ind : (V m c main_v36 : FVec Ideal S256x128 .bf16) = truncf .bf16 (indT 4 256 bcast_S4x128_S4x1x128_0_2 bcast_S4x1x128_S4x64x128_0_1_2 bcast_S_S4x128 shapeCasts_S4x64x128_S256x128) bitsLt_bf16_f32 := by
  show StableHlo.after hostOps0 (fun b => m (c, b)) (Proc.devRef .tc main_v36) = _; after_results; try rfl
theorem V_indt : (V m c main_v38 : FVec Ideal S128x256 .bf16) = truncf .bf16 (transpose S128x256 [1, 0] (indT 4 256 bcast_S4x128_S4x1x128_0_2 bcast_S4x1x128_S4x64x128_0_1_2 bcast_S_S4x128 shapeCasts_S4x64x128_S256x128) transposes_S256x128_S128x256_1_0) bitsLt_bf16_f32 := by
  show StableHlo.after hostOps0 (fun b => m (c, b)) (Proc.devRef .tc main_v38) = _; after_results; try rfl
theorem V_gain : (V m c main_v41 : FVec Ideal S1x256 .f32) = shapeCast S1x256 (broadcastInDim S1x1x4x64 ![0, 1, 2, 3] bcast_S1x1x1x64_S1x1x4x64_0_1_2_3 (shapeCast S1x1x1x64 ((m ((c : Thread nD τ).loc main_arg5)) : FVec Ideal S1x64 .f32) shapeCasts_S1x64_S1x1x1x64)) shapeCasts_S1x1x4x64_S1x256 := by
  show StableHlo.after hostOps0 (fun b => m (c, b)) (Proc.devRef .tc main_v41) = _; after_results; try rfl

theorem cos_blk (l : Fin 128) : iblk m c 8 t (ix2 r l) = cs (pos t r) ⟨l.val % 32, by omega⟩ := by
  refine Eq.trans ?_ (cosT_at ⟨pos t r, by unfold pos; omega⟩ l)
  rw [← V_cos m c]
  unfold pos
  blk_ext [iblk, idx t]

theorem sin_blk (l : Fin 128) : iblk m c 9 t (ix2 r l) = if l.val % 64 < 32 then -sn (pos t r) ⟨l.val % 32, by omega⟩ else sn (pos t r) ⟨l.val % 32, by omega⟩ := by
  refine Eq.trans ?_ (sinT_at ⟨pos t r, by unfold pos; omega⟩ l)
  rw [← V_sin m c]
  unfold pos
  blk_ext [iblk, idx t]

theorem ind_blk (j : Fin 128) : iblk m c 10 t (ix2 l j) = (if l.val / 64 = j.val then 1 else 0 : EReal) := by
  refine Eq.trans ?_ (ind4_at bcast_S4x128_S4x1x128_0_2 bcast_S4x1x128_S4x64x128_0_1_2 bcast_S_S4x128 shapeCasts_S4x64x128_S256x128 l j)
  refine Eq.trans ?_ (congrFun (V_ind m c) (ix2 l j))
  blk_ext [iblk, idx t]

theorem indt_blk (j : Fin 128) : iblk m c 11 t (ix2 j l) = (if l.val / 64 = j.val then 1 else 0 : EReal) := by
  refine Eq.trans ?_ (ind4_at bcast_S4x128_S4x1x128_0_2 bcast_S4x1x128_S4x64x128_0_1_2 bcast_S_S4x128 shapeCasts_S4x64x128_S256x128 l j)
  generalize hI : indT 4 256 bcast_S4x128_S4x1x128_0_2 bcast_S4x1x128_S4x64x128_0_1_2 bcast_S_S4x128 shapeCasts_S4x64x128_S256x128 = I
  have e := congrFun (V_indt m c) (ix2 j l)
  rw [hI] at e
  refine Eq.trans (Eq.trans ?_ e) (by pointwise)
  blk_ext [iblk, idx t]

theorem gain_blk : hgain (iblk m c 7 t) h = gRow (m ((c : Thread nD τ).loc main_arg5)) := by
  funext d
  unfold hgain gRow
  have e : ∀ g : FVec Ideal S1x64 .f32, (shapeCast S1x256 (broadcastInDim S1x1x4x64 ![0, 1, 2, 3] bcast_S1x1x1x64_S1x1x4x64_0_1_2_3 (shapeCast S1x1x1x64 g shapeCasts_S1x64_S1x1x1x64)) shapeCasts_S1x1x4x64_S1x256 : FVec Ideal S1x256 .f32) (ix2 0 (lane (by decide) h d)) = g (ix2 0 d) := fun g => by
    pointwise [lane]
  refine Eq.trans ?_ (e _)
  refine Eq.trans ?_ (congrFun (V_gain m c) (ix2 0 (lane (by decide) h d)))
  blk_ext [iblk, idx t]

theorem emb12 (f : Wide.Idx → EReal) : f ((win0_12.blk t).view.emb (ix2 r l)) = f (ix2 (row t r) l) := by
  unfold row; blk_ext [idx t]
theorem emb13 (f : Wide.Idx → EReal) : f ((win0_13.blk t).view.emb (ix2 r l)) = f (ix2 (row t r) l) := by
  unfold row; blk_ext [idx t]
end blocks

theorem two6_at (t : grid0.Coords) (x y : Vec Ideal S1024x256 .f32) (w : Vec Ideal S128x256 .f32) (r : Fin 1024) (l : Fin 256) :
    k0_pay6 (F := Ideal) (k0_pay4 t) x (View.ld y (Rect.unit (s := S1024x256) ![128, 0] ![896, 256] inb_S1024x256_S896x256_128_0)) w (ix2 r l)
    = k0_pay5 (F := Ideal) (k0_pay4 t) x (View.ld y (Rect.unit (s := S1024x256) ![128, 0] ![896, 256] inb_S1024x256_S896x256_128_0)) w (ix2 r l) := rfl

/-- What a tile adds of its two blocks is the array's row of both parts. -/
theorem two_blk (t : Fin cfg0.N) (A B : Wide.Idx → EReal) (x y : Vec Ideal S1024x256 .f32) (w : Vec Ideal S128x256 .f32) (r : Fin 1024) (l : Fin 256)
    (hx : ∀ r l, x (ix2 r l) = A (ix2 (row t r) l)) (hy : ∀ r l, y (ix2 r l) = B (ix2 (row t r) l))
    (hw : ∀ (r : Fin 128) (l : Fin 256), t.val % 2 * 8 + 8 ≤ 15 → ∀ hl : (t.val + 1) * 1024 + r.val < 4096, w (ix2 r l) = B (ix2 ⟨(t.val + 1) * 1024 + r.val, hl⟩ l)) :
    k0_pay5 (F := Ideal) (k0_pay4 (grid0.coords t)) x (View.ld y (Rect.unit (s := S1024x256) ![128, 0] ![896, 256] inb_S1024x256_S896x256_128_0)) w (ix2 r l)
      = two A B (row t r) l := by
  rw [two_at, hx, two, coord]
  have ht : t.val < 4 := lt_of_lt_of_eq t.isLt N_0
  have hr := r.isLt
  have hp := row_pos t r
  refine congrArg (_ + ·) ?_
  by_cases h : t.val % 2 * 8 + r.val / 128 < 15
  · have h' : (row t r).val % 2048 / 128 < 15 := by rw [hp, pos]; omega
    rw [if_pos h, dif_pos h']
    by_cases h8 : r.val < 896
    · rw [dif_pos h8, hy]
      exact congrArg (fun q => B (ix2 q l)) (Fin.ext (by simp only [row]; omega))
    · rw [dif_neg h8, hw _ _ (by omega) (by simp only []; omega)]
      exact congrArg (fun q => B (ix2 q l)) (Fin.ext (by simp only [row]; omega))
  · have h' : ¬ (row t r).val % 2048 / 128 < 15 := by rw [hp, pos]; omega
    rw [if_neg h, dif_neg h']

section finals
variable (c : Dev nD)

/-- The arguments as arrays. -/
def aK : Wide.Idx → EReal := m ((c : Thread nD τ).loc main_arg4)
def aG : Gain.Idx → EReal := m ((c : Thread nD τ).loc main_arg5)
def aCur : Wide.Idx → EReal := m ((c : Thread nD τ).loc main_arg0)
def aNxt : Wide.Idx → EReal := m ((c : Thread nD τ).loc main_arg1)

theorem dk_two (t : Fin cfg0.N) (r : Fin 1024) (h : Fin 4) :
    hrow (k0_pay5 (F := Ideal) (k0_pay4 (grid0.coords t)) (iblk m c 0 t) (View.ld (iblk m c 1 t) (Rect.unit (s := S1024x256) ![128, 0] ![896, 256] inb_S1024x256_S896x256_128_0)) (iblk m c 2 t)) r h
      = twoRow (aCur m c) (aNxt m c) (row t r) h :=
  funext fun d => two_blk t _ _ _ _ _ r _ (dk_cur m c t) (dk_nxt m c t) (fun r l h hl => dk_far m c t l r h hl)

theorem dv_two (t : Fin cfg0.N) (r : Fin 1024) (l : Fin 256) :
    k0_pay6 (F := Ideal) (k0_pay4 (grid0.coords t)) (iblk m c 3 t) (View.ld (iblk m c 4 t) (Rect.unit (s := S1024x256) ![128, 0] ![896, 256] inb_S1024x256_S896x256_128_0)) (iblk m c 5 t) (ix2 r l)
      = two (m ((c : Thread nD τ).loc main_arg2)) (m ((c : Thread nD τ).loc main_arg3)) (row t r) l :=
  (two6_at ..).trans (two_blk t _ _ _ _ _ r l (dv_cur m c t) (dv_nxt m c t) (fun r l h hl => dv_far m c t l r h hl))

theorem final13 : (dats m 0 c).arrAt 13 cfg0.N = dvArr (m ((c : Thread nD τ).loc main_arg2)) (m ((c : Thread nD τ).loc main_arg3)) := by
  refine (dats m 0 c).arrAt_eq_of_covers 13 _ (by decide +kernel) fun t _ y => ?_
  blk_simp
  by_cases h : t.val % 4 = 0
  · rw [after0_13, outsAt0_A m c t h]
    frame_out
    idx_vars y
    exact (dv_two m c t y0 y1).trans (emb13 t y0 y1 (dvArr (m ((c : Thread nD τ).loc main_arg2)) (m ((c : Thread nD τ).loc main_arg3)))).symm
  · rw [after0_13, outsAt0_B m c t h]
    frame_out
    idx_vars y
    exact (dv_two m c t y0 y1).trans (emb13 t y0 y1 (dvArr (m ((c : Thread nD τ).loc main_arg2)) (m ((c : Thread nD τ).loc main_arg3)))).symm

variable (h0 : ∀ j, IsReal (aCur m c j)) (h1 : ∀ j, IsReal (aNxt m c j)) (h4 : ∀ j, IsReal (aK m c j)) (h5 : ∀ j, IsReal (aG m c j))

/-- The turned gradient of a tile. -/
def dtn (t : Fin cfg0.N) : FVec Ideal S1024x256 .f32 :=
  k0_pay15 (iota .tc S1024x256 32 [1] iota_S1024x256_d1_w32) (k0_pay5 (k0_pay4 (grid0.coords t)) (iblk m c 0 t) (View.ld (iblk m c 1 t) (Rect.unit (s := S1024x256) ![128, 0] ![896, 256] inb_S1024x256_S896x256_128_0)) (iblk m c 2 t)) (k0_pay7 (iblk m c 8 t)) (k0_pay8 (iblk m c 9 t))

theorem dtn_row (t : Fin cfg0.N) (r : Fin 1024) (h : Fin 4) : hrow (dtn m c t) r h = back (aCur m c) (aNxt m c) (row t r) h := by
  funext d
  refine (dtn_at _ (iblk m c 8 t) (iblk m c 9 t) (pos t) (cos_blk m c t) (sin_blk m c t) r h d).trans ?_
  rw [dk_two, back, row_pos]

include h0 h1 h4 h5 in
/-- The keys' gradient of a tile's row. -/
theorem dk_blk (t : Fin cfg0.N) (r : Fin 1024) (l : Fin 256) :
    k0_pay1 (F := Ideal) (iblk m c 6 t) (k0_pay12 (k0_pay9 (iblk m c 11 t)) (k0_pay10 (iblk m c 6 t) (iblk m c 10 t)) k0_pay11) (iblk m c 7 t) (k0_pay13 (iblk m c 10 t)) (k0_pay14 (iblk m c 11 t)) (dtn m c t) (ix2 r l)
      = dkArr (aK m c) (aG m c) (aCur m c) (aNxt m c) (ix2 (row t r) l) := by
  have e := dk_at (iblk m c 6 t) (iblk m c 10 t) (iblk m c 11 t) (fun l j => ind_blk m c t l j) (fun j l => indt_blk m c t l j) r (hd (H := 4) (by decide) l) (pl l) (iblk m c 7 t) (dtn m c t)
    (fun d => by rw [k_row]; exact h4 _) (fun d => by rw [dtn_row]; exact back_real h0 h1 ..) (fun d => by rw [gain_blk]; exact h5 _)
  rw [lane_hd] at e
  rw [e, k_row, dtn_row, gain_blk]
  rfl

include h0 h1 h4 h5 in
theorem final12 : (dats m 0 c).arrAt 12 cfg0.N = dkArr (aK m c) (aG m c) (aCur m c) (aNxt m c) := by
  refine (dats m 0 c).arrAt_eq_of_covers 12 _ (by decide +kernel) fun t _ y => ?_
  blk_simp
  by_cases h : t.val % 4 = 0
  · rw [after0_12, outsAt0_A m c t h]
    frame_out
    idx_vars y
    exact (dk_blk m c h0 h1 h4 h5 t y0 y1).trans (emb12 t y0 y1 (dkArr (aK m c) (aG m c) (aCur m c) (aNxt m c))).symm
  · rw [after0_12, outsAt0_B m c t h]
    frame_out
    idx_vars y
    exact (dk_blk m c h0 h1 h4 h5 t y0 y1).trans (emb12 t y0 y1 (dkArr (aK m c) (aG m c) (aCur m c) (aNxt m c))).symm

/-- The part of the gain's gradient a tile adds. -/
def dgTile (t : Fin cfg0.N) (h : Fin 4) (d : Fin 64) : EReal :=
  ∑ r : Fin 1024, back (aCur m c) (aNxt m c) (row t r) h d * (kRow (aK m c) (row t r) h d * hr (kRow (aK m c) (row t r) h))

include h4 in
theorem dg_blk (t : Fin cfg0.N) (z : Vec Ideal S1x256 .f32) (l : Fin 256) :
    k0_pay2 (F := Ideal) (k0_pay16 (iota .tc S1024x256 32 [1] iota_S1024x256_d1_w32) (k0_pay5 (k0_pay4 (grid0.coords t)) (iblk m c 0 t) (View.ld (iblk m c 1 t) (Rect.unit (s := S1024x256) ![128, 0] ![896, 256] inb_S1024x256_S896x256_128_0)) (iblk m c 2 t)) (k0_pay7 (iblk m c 8 t)) (k0_pay8 (iblk m c 9 t)) (iblk m c 6 t) (k0_pay9 (iblk m c 11 t)) (k0_pay10 (iblk m c 6 t) (iblk m c 10 t)) k0_pay11) z (ix2 0 l)
      = z (ix2 0 l) + dgTile m c t (hd (H := 4) (by decide) l) (pl l) := by
  have e := dg_at (iblk m c 6 t) (k0_pay5 (k0_pay4 (grid0.coords t)) (iblk m c 0 t) (View.ld (iblk m c 1 t) (Rect.unit (s := S1024x256) ![128, 0] ![896, 256] inb_S1024x256_S896x256_128_0)) (iblk m c 2 t))
    (iblk m c 10 t) (iblk m c 11 t) (fun l j => ind_blk m c t l j) (fun j l => indt_blk m c t l j) (iblk m c 8 t) (iblk m c 9 t) (pos t) (cos_blk m c t) (sin_blk m c t)
    (hd (H := 4) (by decide) l) (pl l) (fun r d => by rw [k_row]; exact h4 _) z
  rw [lane_hd] at e
  refine e.trans (congrArg (_ + ·) (Finset.sum_congr rfl fun r _ => ?_))
  rw [k_row, dk_two, back, row_pos]
  rfl

/-- The tiles' rows together are all the rows. -/
theorem tile_sum (f : Fin 4096 → EReal) : ∑ p : Fin cfg0.N, ∑ r : Fin 1024, f (row p r) = ∑ l : Fin 4096, f l :=
  Fin.sum_mul_add_congr (fun p r hl => rfl) (by rw [show cfg0.N = _ from N_0])

include h4 in
/-- The gain's gradient before its heads are summed, over the tiles. -/
theorem final14 : (dats m 0 c).arrAt 14 cfg0.N = fun j : S1x256.Idx => dgHead (aK m c) (aCur m c) (aNxt m c) (hd (H := 4) (by decide) (j 1)) (pl (j 1)) := by
  refine (dats m 0 c).arrAt_eq_of_after_last 14 t0_3 (by decide +kernel) _ fun j => ?_
  blk_simp
  rw [after0_14, Pipeline.eq_sum_fin_of_reset_step_apply_last (fun n h => (outsAt0 m c n h).2.2) 4 (fun _ => 0)
    (fun t j => dgTile m c t (hd (H := 4) (by decide) (j 1)) (pl (j 1)))
    (fun t h j => by
      rw [outsAt0_A m c t h]; frame_out; idx_vars j
      obtain rfl : j0 = 0 := Subsingleton.elim _ _
      refine (dg_blk m c h4 t _ j1).trans ?_
      rw [dk_zero]
      rfl)
    (fun t h j => by
      rw [outsAt0_B m c t h]; frame_out; idx_vars j
      obtain rfl : j0 = 0 := Subsingleton.elim _ _
      exact dg_blk m c h4 t _ j1)
    (le_of_eq N_0) t0_3 rfl j, zero_add]
  exact tile_sum fun r => back (aCur m c) (aNxt m c) r (hd (H := 4) (by decide) (j 1)) (pl (j 1)) * (kRow (aK m c) r (hd (H := 4) (by decide) (j 1)) (pl (j 1)) * hr (kRow (aK m c) r (hd (H := 4) (by decide) (j 1))))

omit m in
/-- The gain's array stands in one window alone, so the lines after the region read that window's array. -/
theorem arr14 (V : Valuation τ sig (Elt Ideal)) (A : (w : Fin (cfgs 0).W) → Buf (Elt Ideal) (((cfgs 0).spec w).arr.view.loc (c.tc : Thread nD τ))) :
    Pipeline.withArrays (cfgs 0).spec c V A (Proc.devRef .tc main_v42_2) = A 14 := by
  have u : ∀ w, Pipeline.arrRef (cfgs 0).spec w = main_v42_2 → w = 14 := by decide +kernel
  have h : ∃ w, Proc.devRef .tc (Pipeline.arrRef (cfgs 0).spec w) = Proc.devRef (τ := τ) .tc main_v42_2 := ⟨14, rfl⟩
  unfold Pipeline.withArrays
  rw [dif_pos h]
  have k : ∀ w (e : Proc.devRef .tc (Pipeline.arrRef (cfgs 0).spec w) = Proc.devRef (τ := τ) .tc main_v42_2),
      cast (congrArg (fun b : DevRef τ sig => b.ty.Contents (Elt Ideal)) e) (A w) = A 14 := by
    intro w e
    obtain rfl := u w (Proc.devRef_injective _ e)
    rfl
  exact k _ h.choose_spec

include h4 in
/-- The gain's gradient, its heads summed by the host's line. -/
theorem tail_gain : (Pipeline.afterTail₀ cfgs (dats m) 0 (V0 m) [hostOps1] c main_v44 : FVec Ideal S64 .f32)
      = fun j => ∑ h : Fin 4, dgHead (aK m c) (aCur m c) (aNxt m c) h (j 0) := by
  unfold Pipeline.afterTail₀
  show StableHlo.after hostOps1 _ (Proc.devRef .tc main_v44) = _
  after_results
  have e : Pipeline.withArrays (cfgs 0).spec c (V0 m c) (fun w => (dats m 0 c).arrAt w (cfgs 0).N) (Proc.devRef .tc main_v42_2)
      = (dats m 0 c).arrAt 14 cfg0.N := arr14 c (V0 m c) _
  rw [e, final14 m c h4]
  funext j
  idx_vars j
  pointwise
  refine Finset.sum_congr rfl fun h _ => ?_
  exact congrArg₂ (dgHead (aK m c) (aCur m c) (aNxt m c)) (Fin.ext (by simp only [hd]; omega)) (Fin.ext (by simp only [pl]; omega))
end finals
end Cert.KvBwdIdeal.Value
-- ==== Proof.KvPair.lean ====
module

public import proofs.«01_k».proof.Proof.Gen.KvBwdIdeal.Frame
public import proofs.«01_k».proof.Proof.Gen.Pre_kv_finite
public import proofs.«01_k».proof.Proof.Gen.KvRefIdeal.Run
public import proofs.«01_k».proof.Proof.Kv
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

/-! The reference of the keys' and values' gradient, stage by stage at an index, and the pair's value claim. -/
namespace Cert.KvRefIdeal.Stage
open Cert.KvRefIdeal Cert.KvRefIdeal.Gen Cert.Norm Cert.Heads Cert.Finite Cert.Kv

section
variable (a0 a1 a2 a3 a4 : FVec Ideal S4096x256 .f32) (a5 : FVec Ideal S1x64 .f32)

/-- The angles, their cosines and sines. -/
def s18 : FVec Ideal S2048x32 .f32 :=
  mulf (broadcastInDim S2048x32 ![0, 1] bcast_S2048x1_S2048x32_0_1 (broadcastInDim S2048x1 ![0] bcast_S2048_S2048x1_0 (sitofp .f32 (iotaInDim S2048 32 0)))) (broadcastInDim S2048x32 ![0, 1] bcast_S1x32_S2048x32_0_1 (broadcastInDim S1x32 ![1] bcast_S32_S1x32_1 (Host.powf (broadcastInDim S32 ![] bcast_S_S32 (constant S_ .f32 0x461C4000#32)) (Host.divf (Host.negf (addf (broadcastInDim S32 ![] bcast_S_S32 (constant S_ .f32 0x00000000#32)) (mulf (broadcastInDim S32 ![] bcast_S_S32 (constant S_ .f32 0x40000000#32)) (sitofp .f32 (iotaInDim S32 32 0))))) (broadcastInDim S32 ![] bcast_S_S32 (constant S_ .f32 0x42800000#32))))))

def s20 : FVec Ideal S1x2048x1x32 .f32 :=
  broadcastInDim S1x2048x1x32 ![1, 3] bcast_S2048x32_S1x2048x1x32_1_3 (Host.cos s18)

def s22 : FVec Ideal S1x2048x1x32 .f32 :=
  broadcastInDim S1x2048x1x32 ![1, 3] bcast_S2048x32_S1x2048x1x32_1_3 (Host.sin s18)

/-- The heads' mean squares, their inverse roots, and the scaled heads. -/
def s29 : FVec Ideal S2x2048x4x1 .f32 :=
  addf (Host.divf (broadcastInDim S2x2048x4x1 ![0, 1, 2] bcast_S2x2048x4_S2x2048x4x1_0_1_2 (Host.reduceAdd (mulf (shapeCast S2x2048x4x64 a4 shapeCasts_S4096x256_S2x2048x4x64) (shapeCast S2x2048x4x64 a4 shapeCasts_S4096x256_S2x2048x4x64)) (constant S_ .f32 0x00000000#32) reducesTo_S2x2048x4x64_S2x2048x4_d3 h_S_)) (broadcastInDim S2x2048x4x1 ![] bcast_S_S2x2048x4x1 (constant S_ .f32 0x42800000#32))) (broadcastInDim S2x2048x4x1 ![] bcast_S_S2x2048x4x1 (constant S_ .f32 0x358637BD#32))

def s30 : FVec Ideal S2x2048x4x1 .f32 :=
  Host.rsqrt (s29 a4)

def s33 : FVec Ideal S2x2048x4x1 .f32 :=
  mulf (broadcastInDim S2x2048x4x1 ![] bcast_S_S2x2048x4x1 (constant S_ .f32 0xBF000000#32)) (Host.divf (s30 a4) (s29 a4))

def s35 : FVec Ideal S2x2048x4x64 .f32 :=
  mulf (shapeCast S2x2048x4x64 a4 shapeCasts_S4096x256_S2x2048x4x64) (broadcastInDim S2x2048x4x64 ![0, 1, 2, 3] bcast_S2x2048x4x1_S2x2048x4x64_0_1_2_3 (s30 a4))

/-- The values' and keys' gradients from the two blocks that read them. -/
def s75 : FVec Ideal S2x16x128x4x64 .f32 :=
  addf (extractStridedSlice S2x16x128x4x64 ![0, 0, 128, 0, 0] (concatenate S2x16x256x4x64 2 [⟨S2x16x128x4x64, (shapeCast S2x16x128x4x64 a3 shapeCasts_S4096x256_S2x16x128x4x64)⟩, ⟨S2x16x128x4x64, (shapeCast S2x16x128x4x64 a2 shapeCasts_S4096x256_S2x16x128x4x64)⟩] concatenates_S2x16x128x4x64_S2x16x128x4x64_S2x16x256x4x64_d2) slices_S2x16x256x4x64_S2x16x128x4x64_0_0_128_0_0) (pad S2x16x128x4x64 ![0, 0, 0, 0, 0] ![0, 1, 0, 0, 0] ![0, 0, 0, 0, 0] (extractStridedSlice S2x15x128x4x64 ![0, 1, 0, 0, 0] (extractStridedSlice S2x16x128x4x64 ![0, 0, 0, 0, 0] (concatenate S2x16x256x4x64 2 [⟨S2x16x128x4x64, (shapeCast S2x16x128x4x64 a3 shapeCasts_S4096x256_S2x16x128x4x64)⟩, ⟨S2x16x128x4x64, (shapeCast S2x16x128x4x64 a2 shapeCasts_S4096x256_S2x16x128x4x64)⟩] concatenates_S2x16x128x4x64_S2x16x128x4x64_S2x16x256x4x64_d2) slices_S2x16x256x4x64_S2x16x128x4x64_0_0_0_0_0) slices_S2x16x128x4x64_S2x15x128x4x64_0_1_0_0_0) (constant S_ .f32 0x00000000#32) pads_S2x15x128x4x64_S2x16x128x4x64_000_010_000_000_000 h_S_)

def s82 : FVec Ideal S2x16x128x4x64 .f32 :=
  addf (extractStridedSlice S2x16x128x4x64 ![0, 0, 128, 0, 0] (concatenate S2x16x256x4x64 2 [⟨S2x16x128x4x64, (shapeCast S2x16x128x4x64 a1 shapeCasts_S4096x256_S2x16x128x4x64)⟩, ⟨S2x16x128x4x64, (shapeCast S2x16x128x4x64 a0 shapeCasts_S4096x256_S2x16x128x4x64)⟩] concatenates_S2x16x128x4x64_S2x16x128x4x64_S2x16x256x4x64_d2) slices_S2x16x256x4x64_S2x16x128x4x64_0_0_128_0_0) (pad S2x16x128x4x64 ![0, 0, 0, 0, 0] ![0, 1, 0, 0, 0] ![0, 0, 0, 0, 0] (extractStridedSlice S2x15x128x4x64 ![0, 1, 0, 0, 0] (extractStridedSlice S2x16x128x4x64 ![0, 0, 0, 0, 0] (concatenate S2x16x256x4x64 2 [⟨S2x16x128x4x64, (shapeCast S2x16x128x4x64 a1 shapeCasts_S4096x256_S2x16x128x4x64)⟩, ⟨S2x16x128x4x64, (shapeCast S2x16x128x4x64 a0 shapeCasts_S4096x256_S2x16x128x4x64)⟩] concatenates_S2x16x128x4x64_S2x16x128x4x64_S2x16x256x4x64_d2) slices_S2x16x256x4x64_S2x16x128x4x64_0_0_0_0_0) slices_S2x16x128x4x64_S2x15x128x4x64_0_1_0_0_0) (constant S_ .f32 0x00000000#32) pads_S2x15x128x4x64_S2x16x128x4x64_000_010_000_000_000 h_S_)

def s83 : FVec Ideal S2x2048x4x64 .f32 :=
  shapeCast S2x2048x4x64 (s82 a0 a1) shapeCasts_S2x16x128x4x64_S2x2048x4x64

/-- The keys' gradient turned back. -/
def s97 : FVec Ideal S2x2048x4x64 .f32 :=
  concatenate S2x2048x4x64 3 [⟨S2x2048x4x32, (addf (mulf (extractStridedSlice S2x2048x4x32 ![0, 0, 0, 32] (s83 a0 a1) slices_S2x2048x4x64_S2x2048x4x32_0_0_0_32) (broadcastInDim S2x2048x4x32 ![0, 1, 2, 3] bcast_S1x2048x1x32_S2x2048x4x32_0_1_2_3 s22)) (mulf (extractStridedSlice S2x2048x4x32 ![0, 0, 0, 0] (s83 a0 a1) slices_S2x2048x4x64_S2x2048x4x32_0_0_0_0) (broadcastInDim S2x2048x4x32 ![0, 1, 2, 3] bcast_S1x2048x1x32_S2x2048x4x32_0_1_2_3 s20)))⟩, ⟨S2x2048x4x32, (addf (mulf (extractStridedSlice S2x2048x4x32 ![0, 0, 0, 32] (s83 a0 a1) slices_S2x2048x4x64_S2x2048x4x32_0_0_0_32) (broadcastInDim S2x2048x4x32 ![0, 1, 2, 3] bcast_S1x2048x1x32_S2x2048x4x32_0_1_2_3 s20)) (mulf (Host.negf (extractStridedSlice S2x2048x4x32 ![0, 0, 0, 0] (s83 a0 a1) slices_S2x2048x4x64_S2x2048x4x32_0_0_0_0)) (broadcastInDim S2x2048x4x32 ![0, 1, 2, 3] bcast_S1x2048x1x32_S2x2048x4x32_0_1_2_3 s22)))⟩] concatenates_S2x2048x4x32_S2x2048x4x32_S2x2048x4x64_d3

/-- The gain's gradient. -/
def s98 : FVec Ideal S2x2048x4x64 .f32 :=
  mulf (s35 a4) (s97 a0 a1)

def s99 : FVec Ideal S64 .f32 :=
  Host.reduceAdd (s98 a0 a1 a4) (constant S_ .f32 0x00000000#32) reducesTo_S2x2048x4x64_S64_d0_1_2 h_S_

def s103 : FVec Ideal S64 .f32 :=
  Host.reduceAdd (shapeCast S1x1x1x64 (s99 a0 a1 a4) shapeCasts_S64_S1x1x1x64) (constant S_ .f32 0x00000000#32) reducesTo_S1x1x1x64_S64_d0_1_2 h_S_

/-- The gradient through the gain, the mean squares and the scale. -/
def s102 : FVec Ideal S2x2048x4x64 .f32 :=
  mulf (s97 a0 a1) (broadcastInDim S2x2048x4x64 ![0, 1, 2, 3] bcast_S1x1x1x64_S2x2048x4x64_0_1_2_3 (broadcastInDim S1x1x1x64 ![3] bcast_S64_S1x1x1x64_3 (shapeCast S64 a5 shapeCasts_S1x64_S64)))

def s106 : FVec Ideal S2x2048x4x1 .f32 :=
  shapeCast S2x2048x4x1 (Host.reduceAdd (mulf (shapeCast S2x2048x4x64 a4 shapeCasts_S4096x256_S2x2048x4x64) (s102 a0 a1 a5)) (constant S_ .f32 0x00000000#32) reducesTo_S2x2048x4x64_S2x2048x4_d3 h_S_) shapeCasts_S2x2048x4_S2x2048x4x1

def s108 : FVec Ideal S2x2048x4x64 .f32 :=
  mulf (s102 a0 a1 a5) (broadcastInDim S2x2048x4x64 ![0, 1, 2, 3] bcast_S2x2048x4x1_S2x2048x4x64_0_1_2_3 (s30 a4))

def s113 : FVec Ideal S2x2048x4x64 .f32 :=
  broadcastInDim S2x2048x4x64 ![0, 1, 2] bcast_S2x2048x4_S2x2048x4x64_0_1_2 (Host.reduceAdd (Host.divf (mulf (s106 a0 a1 a4 a5) (s33 a4)) (broadcastInDim S2x2048x4x1 ![] bcast_S_S2x2048x4x1 (constant S_ .f32 0x42800000#32))) (constant S_ .f32 0x00000000#32) reducesTo_S2x2048x4x1_S2x2048x4_d3 h_S_)

def s117 : FVec Ideal S2x2048x4x64 .f32 :=
  addf (addf (s108 a0 a1 a4 a5) (mulf (shapeCast S2x2048x4x64 a4 shapeCasts_S4096x256_S2x2048x4x64) (s113 a0 a1 a4 a5))) (mulf (s113 a0 a1 a4 a5) (shapeCast S2x2048x4x64 a4 shapeCasts_S4096x256_S2x2048x4x64))

/-- The row of a sequence's position. -/
def rowBP (b : Fin 2) (p : Fin 2048) : Fin 4096 := ⟨b.val * 2048 + p.val, by omega⟩

theorem rowBP_mod (b : Fin 2) (p : Fin 2048) : (rowBP b p).val % 2048 = p.val := by simp only [rowBP]; omega

variable (b : Fin 2) (p : Fin 2048) (h : Fin 4) (d : Fin 64)

theorem head_at (a : FVec Ideal S4096x256 .f32) : (shapeCast S2x2048x4x64 a shapeCasts_S4096x256_S2x2048x4x64 : FVec Ideal S2x2048x4x64 .f32) (ix4 b p h d) = kRow a (rowBP b p) h d := by
  pointwise [kRow, rowBP, lane]

theorem s18_at (j : Fin 32) : s18 (ix2 p j) = ang p.val j := by
  pointwise [s18, ang]
  rfl

theorem s20_at (j : Fin 32) : s20 (ix4 0 p 0 j) = cs p.val j := by
  pointwise [s20, s18_at, cs]

theorem s22_at (j : Fin 32) : s22 (ix4 0 p 0 j) = sn p.val j := by
  pointwise [s22, s18_at, sn]

theorem s29_at : s29 a4 (ix4 b p h 0) = hms (kRow a4 (rowBP b p) h) := by
  pointwise [s29, hms, kRow, rowBP, lane]

theorem s30_at : s30 a4 (ix4 b p h 0) = hr (kRow a4 (rowBP b p) h) := by
  pointwise [s30, hr, s29_at]

theorem s35_at : s35 a4 (ix4 b p h d) = kRow a4 (rowBP b p) h d * hr (kRow a4 (rowBP b p) h) := by
  pointwise [s35, s30_at, kRow, rowBP, lane]

theorem s75_at (n : Fin 16) (q : Fin 128) : s75 a2 a3 (ix5 b n q h d) = two a2 a3 ⟨(b.val * 16 + n.val) * 128 + q.val, by omega⟩ (lane (by decide) h d) := by
  pointwise [s75, two, lane]
  refine congrArg₂ (· + ·) (congrArg a2 (congrArg (ix2 · _) (Fin.ext (by dsimp only; omega)))) ?_
  by_cases hn : n.val < 15
  · rw [dif_pos hn, dif_pos (by omega)]
    exact congrArg a3 (congrArg (ix2 · _) (Fin.ext (by dsimp only; omega)))
  · rw [dif_neg hn, dif_neg (by omega)]

theorem s82_at (n : Fin 16) (q : Fin 128) : s82 a0 a1 (ix5 b n q h d) = two a0 a1 ⟨(b.val * 16 + n.val) * 128 + q.val, by omega⟩ (lane (by decide) h d) := s75_at ..

theorem s83_at : s83 a0 a1 (ix4 b p h d) = twoRow a0 a1 (rowBP b p) h d := by
  pointwise [s83, s82_at, twoRow, rowBP]
  exact congrArg (two a0 a1 · _) (Fin.ext (by dsimp only; omega))

theorem s97_at : s97 a0 a1 (ix4 b p h d) = back a0 a1 (rowBP b p) h d := by
  pointwise [s97, s83_at, s20_at, s22_at]
  unfold back unrot
  rw [rowBP_mod]
  by_cases hd : d.val < 32
  · rw [dif_pos hd, dif_pos hd, add_comm]
    exact congrArg (_ + · * _) (congrArg (twoRow a0 a1 (rowBP b p) h) (Fin.ext (add_comm ..)))
  · rw [dif_neg hd, dif_neg hd, EReal.neg_mul, mul_neg]
    exact congrArg (· * _ + _) (congrArg (twoRow a0 a1 (rowBP b p) h) (Fin.ext (by dsimp only; omega)))

theorem s102_at : s102 a0 a1 a5 (ix4 b p h d) = back a0 a1 (rowBP b p) h d * gRow a5 d := by
  pointwise [s102, s97_at, gRow]

theorem s113_at : s113 a0 a1 a4 a5 (ix4 b p h d) = hdms (kRow a4 (rowBP b p) h) (gRow a5) (back a0 a1 (rowBP b p) h) := by
  pointwise [s113]
  rw [Fin.sum_univ_one]
  pointwise [s106, s33, s30_at, s29_at, s102_at, hdms, kRow, rowBP, lane]

theorem s117_at : s117 a0 a1 a4 a5 (ix4 b p h d) = hdnrm (kRow a4 (rowBP b p) h) (gRow a5) (back a0 a1 (rowBP b p) h) d := by
  rw [← hdnrm_ref]
  pointwise [s117, s108, s102_at, s113_at, s30_at]
  rfl

theorem s119_eq : (truncf .bf16 (shapeCast S4096x256 (s117 a0 a1 a4 a5) shapeCasts_S2x2048x4x64_S4096x256) bitsLt_bf16_f32 : FVec Ideal S4096x256 .bf16) = dkArr a4 a5 a0 a1 := by
  funext y; idx_vars y
  pointwise [s117_at, dkArr, rowBP]
  rw [show (⟨y0.val / 2048 * 2048 + y0.val % 2048, by omega⟩ : Fin 4096) = y0 from Fin.ext (Nat.div_add_mod' ..)]
  rfl

theorem s121_eq : (truncf .bf16 (shapeCast S4096x256 (shapeCast S2x2048x4x64 (s75 a2 a3) shapeCasts_S2x16x128x4x64_S2x2048x4x64) shapeCasts_S2x2048x4x64_S4096x256) bitsLt_bf16_f32 : FVec Ideal S4096x256 .bf16) = dvArr a2 a3 := by
  funext y; idx_vars y
  pointwise [s75_at, dvArr]
  exact congrArg₂ (two a2 a3) (Fin.ext (by dsimp only; omega)) (Fin.ext (by simp only [lane]; omega))

theorem s103_eq : s103 a0 a1 a4 = (fun j : S64.Idx => ∑ h : Fin 4, dgHead a4 a0 a1 h (j 0)) := by
  funext y
  idx_vars y
  pointwise [s103, dgHead]
  rw [sum_rows, zero_add]
  simp only [Fin.sum_univ_one]
  pointwise [s99]
  rw [sum_rows, zero_add]
  pointwise [s98, s35_at, s97_at]
  rw [Finset.sum_comm (f := fun x r => back a0 a1 r x y0 * (kRow a4 r x y0 * hr (kRow a4 r x))),
    ← Fin.sum_mul_add_congr (S := 2) (n := 2048) (F := fun b p => ∑ h, kRow a4 (rowBP b p) h y0 * hr (kRow a4 (rowBP b p) h) * back a0 a1 (rowBP b p) h y0)
      (fun b p hl => Finset.sum_congr rfl fun h _ => mul_comm _ _) rfl]
end

section
variable (m : (ℓ : Loc nD τ sig) → Buf (Elt Ideal) ℓ) (c : Dev nD)
theorem res103 : Value.res_main_v103 m c = s103 (m ((c : Thread nD τ).loc main_arg0)) (m ((c : Thread nD τ).loc main_arg1)) (m ((c : Thread nD τ).loc main_arg4)) := rfl
theorem res119 : Value.res_main_v119 m c = (truncf .bf16 (shapeCast S4096x256 (s117 (m ((c : Thread nD τ).loc main_arg0)) (m ((c : Thread nD τ).loc main_arg1)) (m ((c : Thread nD τ).loc main_arg4)) (m ((c : Thread nD τ).loc main_arg5))) shapeCasts_S2x2048x4x64_S4096x256) bitsLt_bf16_f32 : FVec Ideal S4096x256 .bf16) := rfl
end
end Cert.KvRefIdeal.Stage

namespace Cert.Kv
open Cert.KvRefIdeal.Stage Cert.Finite

set_option maxHeartbeats 800000 in
/-- Over the extended reals, at finite keys, gain and gradients, the kernel's gradients are the reference's. -/
theorem algebraic : Cert.algebraic_KvBwdIdeal_KvRefIdeal_pre_kv_finite := by
  pair_intro
  · run_from Cert.KvBwdIdeal.Gen.run_main m g
    · exact Cert.KvBwdIdeal.Gen.W_main_arg5 m (Cert.KvBwdIdeal.Gen.dats m) c
  · run_from Cert.KvRefIdeal.Value.run m' g'
    · rw [Cert.KvBwdIdeal.Value.final12 m c (fun j => real_of_abs (congrFun (hpre c).1 j)) (fun j => real_of_abs (congrFun (hpre c).2.1 j))
        (fun j => real_of_abs (congrFun (hpre c).2.2.1 j)) (fun j => real_of_abs (congrFun (hpre c).2.2.2 j))]
      obtain ⟨h0, h1, h2, h3, h4, h5⟩ := hagree c
      rw [res119, h0, h1, h4, h5]
      exact s119_eq ..
    · rw [Cert.KvBwdIdeal.Value.final13]
      obtain ⟨h0, h1, h2, h3, h4, h5⟩ := hagree c
      rw [h2, h3]
      exact s121_eq ..
    · rw [Cert.KvBwdIdeal.Value.tail_gain m c (fun j => real_of_abs (congrFun (hpre c).2.2.1 j))]
      obtain ⟨h0, h1, h2, h3, h4, h5⟩ := hagree c
      rw [res103, h0, h1, h4]
      exact s103_eq ..

end Cert.Kv
-- ==== Proof.AttnBody.lean ====
module

public import proofs.«01_k».proof.Proof.Gen.AttnBwdIdeal.Frame
public import Idealize.ShloMosaic.Lib.Pipeline.ValueKit
public import Idealize.ShloMosaic.Lib.Pointwise

/-!
One grid step of the attention's gradient as functions of the blocks it loads: the normalised and
rotated queries and keys, the stacked heads, the scores of one key head, the softmax of one query
head over four chunks of keys, and the gradients summed over heads.  The stage buffers are kept as
the lists of stores that fill them, exactly as the step fills them.
-/

@[expose] public section

set_option maxRecDepth 16384
noncomputable section

open Idealize.ShloMosaic Idealize.ShloMosaic.TcCoe Idealize.SL.Sem

namespace Cert.Attn
open Cert.AttnBwdIdeal Cert.AttnBwdIdeal.Gen

/-- Values of one shape and format over the extended reals. -/
abbrev T (s : Shape) (e : FTy) := FVec Ideal s e
/-- A store into a buffer. -/
abbrev St (s : Shape) (e : EltTy) := View.Piece (Elt Ideal) s e

/-- What one grid step loads: sinks, cotangent, queries, gain, tables, indicators, keys and values
    with the block before, and the block's number. -/
structure Blk where
  sk : Fin 16 → Ideal .f32
  d : T S128x1024 .f32
  q : T S128x1024 .f32
  g : T S1x1024 .f32
  cs : T S128x128 .f32
  sn : T S128x128 .f32
  iq : T S1024x128 .bf16
  iqt : T S128x1024 .bf16
  kc : T S256x256 .f32
  vc : T S256x256 .f32
  n : BitVec 32

/-- Lane numbers of a row block. -/
def lanes : IVec S128x1024 32 := iota .tc S128x1024 32 [1] iota_S128x1024_d1_w32

/-- A product by an indicator with the left operand split in two. -/
def splitQ (x : T S128x1024 .f32) (w : T S1024x128 .bf16) : T S128x128 .f32 :=
  addf (matmul dot_S128x1024_S1024x128_S128x128_1_0_0_1_n_n none (truncf .bf16 x bitsLt_bf16_f32) w (constant S128x128 .f32 0x00000000#32))
    (matmul dot_S128x1024_S1024x128_S128x128_1_0_0_1_n_n none
      (truncf .bf16 (subf x (extf .f32 (truncf .bf16 x bitsLt_bf16_f32) bitsLt_bf16_f32)) bitsLt_bf16_f32) w
      (constant S128x128 .f32 0x00000000#32))

/-- The same back from heads to lanes. -/
def spreadQ (x : T S128x128 .f32) (w : T S128x1024 .bf16) : T S128x1024 .f32 :=
  addf (matmul dot_S128x128_S128x1024_S128x1024_1_0_0_1_n_n none (truncf .bf16 x bitsLt_bf16_f32) w (constant S128x1024 .f32 0x00000000#32))
    (matmul dot_S128x128_S128x1024_S128x1024_1_0_0_1_n_n none
      (truncf .bf16 (subf x (extf .f32 (truncf .bf16 x bitsLt_bf16_f32) bitsLt_bf16_f32)) bitsLt_bf16_f32) w
      (constant S128x1024 .f32 0x00000000#32))

/-- The queries' reciprocal root mean square. -/
def rq (x : Blk) : T S128x1024 .f32 := k0_pay17 (k0_pay12 x.iq) (k0_pay13 x.iqt) (k0_pay15 x.q) (k0_pay16 x.q)

/-- The rotated queries. -/
def qr (x : Blk) : T S128x1024 .f32 :=
  k0_pay18 lanes (k0_pay10 x.cs) (k0_pay11 x.sn) x.q x.g (k0_pay12 x.iq) (k0_pay13 x.iqt) (k0_pay15 x.q) (k0_pay16 x.q)

/-- The rotated keys of the step's own block. -/
def kr (cs sn : T S128x128 .f32) (k : T S128x256 .f32) (g : T S1x256 .f32) (w : T S256x128 .bf16) (w' : T S128x256 .bf16) : T S128x256 .f32 :=
  k0_pay26 (k0_pay19 (k0_pay11 sn)) (k0_pay20 k g w w') (k0_pay21 (k0_pay10 cs) k g w w') 64#32 (k0_pay22 k0_pay7) (k0_pay23 k0_pay7) (k0_pay24 k0_pay7) k0_pay25

theorem slices_pair : ∀ (k : Fin 4) (h : Fin 2), S128x1024.Slices ![0, 256 * k.val + 128 * h.val] S128x128 := by decide

/-- One pair of heads' lanes. -/
def pr (x : T S128x1024 .f32) (k : Fin 4) (h : Fin 2) : T S128x128 .f32 :=
  extractStridedSlice S128x128 ![0, 256 * k.val + 128 * h.val] x (slices_pair k h)

def z128 : T S128x128 .f32 := broadcast S128x128 (Scalar.ofBits .f32 0x00000000#32)

/-- The four heads of one key head stacked by rows, the other head's lanes zeroed. -/
def stack (x : T S128x1024 .f32) (k : Fin 4) : T S1x1x512x128 .bf16 :=
  shapeCast S1x1x512x128 (truncf .bf16 (concatenate S512x128 0
    [⟨S128x128, select k0_pay8 (pr x k 0) z128⟩, ⟨S128x128, select k0_pay8 z128 (pr x k 0)⟩,
     ⟨S128x128, select k0_pay8 (pr x k 1) z128⟩, ⟨S128x128, select k0_pay8 z128 (pr x k 1)⟩]
    concatenates_S128x128_S128x128_S128x128_S128x128_S512x128_d0) bitsLt_bf16_f32) shapeCasts_S512x128_S1x1x512x128

theorem slices_kv : ∀ m : Fin 2, S256x256.Slices ![0, 128 * m.val] S256x128 := by decide

/-- One pair of key heads' lanes. -/
def prk (x : T S256x256 .f32) (m : Fin 2) : T S256x128 .f32 := extractStridedSlice S256x128 ![0, 128 * m.val] x (slices_kv m)

def turn (x : T S256x128 .f32) : T S256x128 .f32 := dynamicRotate 1 64#32 none x rotates_S256x128_d1

/-- A key head in both halves of the lanes. -/
def dupE (x : T S256x256 .f32) (m : Fin 2) : T S1x1x256x128 .bf16 :=
  shapeCast S1x1x256x128 (truncf .bf16 (select k0_pay9 (prk x m) (turn (prk x m))) bitsLt_bf16_f32) shapeCasts_S256x128_S1x1x256x128
def dupO (x : T S256x256 .f32) (m : Fin 2) : T S1x1x256x128 .bf16 :=
  shapeCast S1x1x256x128 (truncf .bf16 (select k0_pay9 (turn (prk x m)) (prk x m)) bitsLt_bf16_f32) shapeCasts_S256x128_S1x1x256x128

theorem inb4q : ∀ k : Fin 4, ∀ a, (![0, k.val, 0, 0] : Fin 4 → Nat) a + S1x1x512x128.size a ≤ S1x4x512x128.size a := by decide
theorem inb4k : ∀ k : Fin 4, ∀ a, (![0, k.val, 0, 0] : Fin 4 → Nat) a + S1x1x256x128.size a ≤ S1x4x256x128.size a := by decide

def r4q (k : Fin 4) : Rect S1x4x512x128 := Rect.unit ![0, k.val, 0, 0] S1x1x512x128.size (inb4q k)
def r4k (k : Fin 4) : Rect S1x4x256x128 := Rect.unit ![0, k.val, 0, 0] S1x1x256x128.size (inb4k k)

/-- The four heads, stored one after the other and read back. -/
def heads (x : T S128x1024 .f32) : List (St S1x4x512x128 .bf16) :=
  [⟨r4q 3, stack x 3⟩, ⟨r4q 2, stack x 2⟩, ⟨r4q 1, stack x 1⟩, ⟨r4q 0, stack x 0⟩]
def dups (x : T S256x256 .f32) : List (St S1x4x256x128 .bf16) :=
  [⟨r4k 3, dupO x 1⟩, ⟨r4k 2, dupE x 1⟩, ⟨r4k 1, dupO x 0⟩, ⟨r4k 0, dupE x 0⟩]

def qs (x : Blk) (k : Fin 4) : T S1x1x512x128 .bf16 := View.readCov (Val := Elt Ideal) scM0_9.view (heads (k0_pay31 (qr x))) (r4q k).toLoadRect
def dos (x : Blk) (k : Fin 4) : T S1x1x512x128 .bf16 := View.readCov (Val := Elt Ideal) scM0_10.view (heads x.d) (r4q k).toLoadRect
def kd (x : Blk) (k : Fin 4) : T S1x1x256x128 .bf16 := View.readCov (Val := Elt Ideal) scM0_11.view (dups x.kc) (r4k k).toLoadRect
def vd (x : Blk) (k : Fin 4) : T S1x1x256x128 .bf16 := View.readCov (Val := Elt Ideal) scM0_12.view (dups x.vc) (r4k k).toLoadRect

/-- The masked scores of one key head. -/
def sc (x : Blk) (k : Fin 4) : T S1x256x512 .f32 := k0_pay63 (k0_pay30 (k0_pay29 x.n)) (kd x k) (qs x k)
/-- The cotangent against the values. -/
def dpm (x : Blk) (k : Fin 4) : T S1x256x512 .f32 := k0_pay66 (k0_pay64 (vd x k)) (k0_pay65 (dos x k))

/-! The stage buffers hold two key heads. -/

theorem inb2 : ∀ b : Fin 2, ∀ a, (![b.val, 0, 0] : Fin 3 → Nat) a + S1x256x512.size a ≤ S2x256x512.size a := by decide
theorem inb2c : ∀ (b : Fin 2) (c r : Fin 4), ∀ a, (![b.val, 64 * c.val, 128 * r.val] : Fin 3 → Nat) a + S1x64x128.size a ≤ S2x256x512.size a := by decide
theorem inb2d : ∀ (b : Fin 2) (c r : Fin 4), ∀ a, (![0, b.val, 64 * c.val, 128 * r.val] : Fin 4 → Nat) a + S1x1x64x128.size a ≤ S1x2x256x512.size a := by decide

def whole2 : Rect S1x2x256x512 := Rect.unit ![0, 0, 0, 0] S1x2x256x512.size inb_S1x2x256x512_S1x2x256x512_0_0_0_0
def slotR (b : Fin 2) : Rect S1x2x256x512 :=
  whole2.within ((Rect.unit (s := S2x256x512) ![b.val, 0, 0] S1x256x512.size (inb2 b)).consLift ![1, 2, 256, 512] rfl (fun _ => rfl)) (fun _ => rfl)
def slot (b : Fin 2) (X : T S1x256x512 .f32) : St S1x2x256x512 .f32 :=
  ⟨slotR b, Rect.payAlong (Rect.numel_consLift (Rect.unit (s := S2x256x512) ![b.val, 0, 0] S1x256x512.size (inb2 b)) ![1, 2, 256, 512] rfl (fun _ => rfl)) X⟩

def chunkL (b : Fin 2) (c r : Fin 4) : LoadRect S1x2x256x512 :=
  whole2.withinL ((Rect.unit (s := S2x256x512) ![b.val, 64 * c.val, 128 * r.val] S1x64x128.size (inb2c b c r)).toLoadRect.consLift ![1, 2, 256, 512] rfl (fun _ => rfl)) (fun _ => rfl)
def ld (v : View sig .tc .vmem S1x2x256x512 .f32) (L : List (St S1x2x256x512 .f32)) (b : Fin 2) (r c : Fin 4) : T S64x128 .f32 :=
  shapeCast S64x128 (LoadRect.valAlong (LoadRect.numel_consLift (Rect.unit (s := S2x256x512) ![b.val, 64 * c.val, 128 * r.val] S1x64x128.size (inb2c b c r)).toLoadRect ![1, 2, 256, 512] rfl (fun _ => rfl))
    (View.readCov (Val := Elt Ideal) v L (chunkL b c r))) shapeCasts_S1x64x128_S64x128

def slotL (b : Fin 2) : LoadRect S1x2x256x512 :=
  whole2.withinL ((Rect.unit (s := S2x256x512) ![b.val, 0, 0] S1x256x512.size (inb2 b)).toLoadRect.consLift ![1, 2, 256, 512] rfl (fun _ => rfl)) (fun _ => rfl)
def ldm (v : View sig .tc .vmem S1x2x256x512 .bf16) (L : List (St S1x2x256x512 .bf16)) (b : Fin 2) : T S256x512 .bf16 :=
  shapeCast S256x512 (LoadRect.valAlong (LoadRect.numel_consLift (Rect.unit (s := S2x256x512) ![b.val, 0, 0] S1x256x512.size (inb2 b)).toLoadRect ![1, 2, 256, 512] rfl (fun _ => rfl))
    (View.readCov (Val := Elt Ideal) v L (slotL b))) shapeCasts_S1x256x512_S256x512

def piece (b : Fin 2) (r c : Fin 4) (w : T S1x1x64x128 .bf16) : St S1x2x256x512 .bf16 :=
  ⟨Rect.unit ![0, b.val, 64 * c.val, 128 * r.val] S1x1x64x128.size (inb2d b c r), w⟩
/-- The four chunks of one query head, last first. -/
def four (b : Fin 2) (r : Fin 4) (w : Fin 4 → T S1x1x64x128 .bf16) (L : List (St S1x2x256x512 .bf16)) : List (St S1x2x256x512 .bf16) :=
  piece b r 3 (w 3) :: piece b r 2 (w 2) :: piece b r 1 (w 1) :: piece b r 0 (w 0) :: L
def pcs (b : Fin 2) (w : Fin 4 → Fin 4 → T S1x1x64x128 .bf16) (L : List (St S1x2x256x512 .bf16)) : List (St S1x2x256x512 .bf16) :=
  four b 3 (w 3) (four b 2 (w 2) (four b 1 (w 1) (four b 0 (w 0) L)))

/-! The softmax of one query head over four chunks of keys. -/

def fmax (x : T S64x128 .f32) : T S8x128 .f32 :=
  multiReduction .maximumf [0] S8x128 (shapeCast S8x8x128 x shapeCasts_S64x128_S8x8x128) 0xFF800000#32 reduces_S8x8x128_S8x128 (.inl rfl) rfl
def fsum (x : T S64x128 .f32) : T S8x128 .f32 :=
  multiReduction .add [0] S8x128 (shapeCast S8x8x128 x shapeCasts_S64x128_S8x8x128) 0x00000000#32 reduces_S8x8x128_S8x128 (.inl rfl) rfl
def mx (s : Fin 4 → T S64x128 .f32) (k : Ideal .f32) : T S1x128 .f32 :=
  maximumf (shapeCast S1x128 (multiReduction .maximumf [0] S128 (maximumf (maximumf (maximumf (fmax (s 0)) (fmax (s 1))) (fmax (s 2))) (fmax (s 3)))
    0xFF800000#32 reduces_S8x128_S128 (.inl rfl) rfl) shapeCasts_S128_S1x128) (broadcast S1x128 k)
def tot (e : Fin 4 → T S64x128 .f32) : T S1x128 .f32 :=
  shapeCast S1x128 (multiReduction .add [0] S128 (addf (addf (addf (fsum (e 0)) (fsum (e 1))) (fsum (e 2))) (fsum (e 3)))
    0x00000000#32 reduces_S8x128_S128 (.inl rfl) rfl) shapeCasts_S128_S1x128
def rows64 (x : T S1x128 .f32) : T S64x128 .f32 := broadcastTo S64x128 x broadcasts_S1x128_S64x128
def ex (s : Fin 4 → T S64x128 .f32) (k : Ideal .f32) (c : Fin 4) : T S64x128 .f32 := exp (subf (s c) (rows64 (mx s k)))
def es (s : Fin 4 → T S64x128 .f32) (k : Ideal .f32) : T S1x128 .f32 := exp (subf (broadcast S1x128 k) (mx s k))
def inv (s : Fin 4 → T S64x128 .f32) (k : Ideal .f32) : T S1x128 .f32 :=
  divf (broadcast S1x128 (Scalar.ofBits .f32 0x3F800000#32)) (addf (tot (ex s k)) (es s k))
def dd (s p : Fin 4 → T S64x128 .f32) (k : Ideal .f32) : T S1x128 .f32 :=
  mulf (tot (fun c => mulf (ex s k c) (p c))) (inv s k)
def pm (s : Fin 4 → T S64x128 .f32) (k : Ideal .f32) (c : Fin 4) : T S64x128 .f32 := mulf (ex s k c) (rows64 (inv s k))
def dsm (s p : Fin 4 → T S64x128 .f32) (k : Ideal .f32) (c : Fin 4) : T S64x128 .f32 :=
  mulf (pm s k c) (subf (p c) (rows64 (dd s p k)))
/-- What the sink's gradient loses. -/
def psd (s p : Fin 4 → T S64x128 .f32) (k : Ideal .f32) : T S1x128 .f32 := mulf (mulf (es s k) (inv s k)) (dd s p k)
def cut (x : T S64x128 .f32) : T S1x1x64x128 .bf16 :=
  shapeCast S1x1x64x128 (shapeCast S1x64x128 (truncf .bf16 x bitsLt_bf16_f32) shapeCasts_S64x128_S1x64x128) shapeCasts_S1x64x128_S1x1x64x128

/-! The stages of the four key heads, in the order of the step. -/

def LS0 (X : Fin 4 → T S1x256x512 .f32) : List (St S1x2x256x512 .f32) := [slot 1 (X 1), slot 0 (X 0)]
def LS1 (X : Fin 4 → T S1x256x512 .f32) : List (St S1x2x256x512 .f32) := slot 0 (X 2) :: LS0 X
def LS2 (X : Fin 4 → T S1x256x512 .f32) : List (St S1x2x256x512 .f32) := slot 1 (X 3) :: LS1 X
def sS (x : Blk) (L : (Fin 4 → T S1x256x512 .f32) → List (St S1x2x256x512 .f32)) (b : Fin 2) (r c : Fin 4) : T S64x128 .f32 := ld scM0_5.view (L (sc x)) b r c
def sD (x : Blk) (L : (Fin 4 → T S1x256x512 .f32) → List (St S1x2x256x512 .f32)) (b : Fin 2) (r c : Fin 4) : T S64x128 .f32 := ld scM0_6.view (L (dpm x)) b r c

def wP (x : Blk) (L : (Fin 4 → T S1x256x512 .f32) → List (St S1x2x256x512 .f32)) (b : Fin 2) (h : Fin 4 → Fin 16) (r c : Fin 4) : T S1x1x64x128 .bf16 :=
  cut (pm (sS x L b r) (x.sk (h r)) c)
def wD (x : Blk) (L : (Fin 4 → T S1x256x512 .f32) → List (St S1x2x256x512 .f32)) (b : Fin 2) (h : Fin 4 → Fin 16) (r c : Fin 4) : T S1x1x64x128 .bf16 :=
  cut (dsm (sS x L b r) (sD x L b r) (x.sk (h r)) c)

def h0 : Fin 4 → Fin 16 := ![0, 1, 2, 3]
def h1 : Fin 4 → Fin 16 := ![4, 5, 6, 7]
def h2 : Fin 4 → Fin 16 := ![8, 9, 10, 11]
def h3 : Fin 4 → Fin 16 := ![12, 13, 14, 15]

def LP1 (x : Blk) := pcs 0 (wP x LS0 0 h0) []
def LP2 (x : Blk) := pcs 1 (wP x LS1 1 h1) (LP1 x)
def LP3 (x : Blk) := pcs 0 (wP x LS2 0 h2) (LP2 x)
def LP4 (x : Blk) := pcs 1 (wP x LS2 1 h3) (LP3 x)
def LD1 (x : Blk) := pcs 0 (wD x LS0 0 h0) []
def LD2 (x : Blk) := pcs 1 (wD x LS1 1 h1) (LD1 x)
def LD3 (x : Blk) := pcs 0 (wD x LS2 0 h2) (LD2 x)
def LD4 (x : Blk) := pcs 1 (wD x LS2 1 h3) (LD3 x)

/-- The probabilities and the scores' gradient of one key head, read back. -/
def pk (x : Blk) : Fin 4 → T S256x512 .bf16 :=
  ![ldm scM0_7.view (LP1 x) 0, ldm scM0_7.view (LP2 x) 1, ldm scM0_7.view (LP3 x) 0, ldm scM0_7.view (LP4 x) 1]
def dk (x : Blk) : Fin 4 → T S256x512 .bf16 :=
  ![ldm scM0_8.view (LD1 x) 0, ldm scM0_8.view (LD2 x) 1, ldm scM0_8.view (LD3 x) 0, ldm scM0_8.view (LD4 x) 1]

/-! Gradients of queries, keys and values. -/

def dqm (x : Blk) (k : Fin 4) : T S512x128 .f32 :=
  mulf (matmul dot_S256x512_S256x128_S512x128_0_0_1_1_n_n none (dk x k) (shapeCast S256x128 (kd x k) shapeCasts_S1x1x256x128_S256x128)
    (constant S512x128 .f32 0x00000000#32)) (broadcast S512x128 (Scalar.ofBits .f32 0x3E000000#32))
def unA (x : T S512x128 .f32) : T S1x128x128 .f32 :=
  shapeCast S1x128x128 (select k0_pay8 (extractStridedSlice S128x128 ![0, 0] x slices_S512x128_o0_0_S128x128)
    (extractStridedSlice S128x128 ![128, 0] x slices_S512x128_o128_0_S128x128)) shapeCasts_S128x128_S1x128x128
def unB (x : T S512x128 .f32) : T S1x128x128 .f32 :=
  shapeCast S1x128x128 (select k0_pay8 (extractStridedSlice S128x128 ![256, 0] x slices_S512x128_o256_0_S128x128)
    (extractStridedSlice S128x128 ![384, 0] x slices_S512x128_o384_0_S128x128)) shapeCasts_S128x128_S1x128x128

theorem inbq : ∀ (k : Fin 4) (h : Fin 2), ∀ a, (![0, 0, 256 * k.val + 128 * h.val] : Fin 3 → Nat) a + S1x128x128.size a ≤ S1x128x1024.size a := by decide
def rq3 (k : Fin 4) (h : Fin 2) : Rect S1x128x1024 := Rect.unit ![0, 0, 256 * k.val + 128 * h.val] S1x128x128.size (inbq k h)
def LQ (x : Blk) : List (St S1x128x1024 .f32) :=
  [⟨rq3 3 1, unB (dqm x 3)⟩, ⟨rq3 3 0, unA (dqm x 3)⟩, ⟨rq3 2 1, unB (dqm x 2)⟩, ⟨rq3 2 0, unA (dqm x 2)⟩,
   ⟨rq3 1 1, unB (dqm x 1)⟩, ⟨rq3 1 0, unA (dqm x 1)⟩, ⟨rq3 0 1, unB (dqm x 0)⟩, ⟨rq3 0 0, unA (dqm x 0)⟩]
/-- The rotated queries' gradient. -/
def dqr (x : Blk) : T S1x128x1024 .f32 :=
  View.readCov (Val := Elt Ideal) scM0_2.view (LQ x) (Rect.unit (s := S1x128x1024) ![0, 0, 0] S1x128x1024.size inb_S1x128x1024_S1x128x1024_0_0_0).toLoadRect

def z256 : T S256x128 .f32 := broadcast S256x128 (Scalar.ofBits .f32 0x00000000#32)
def fold (own : IVec S256x128 1) (x : T S256x128 .f32) : T S256x128 .f32 := select own (addf x (turn x)) z256
def own1 : IVec S256x128 1 := xori k0_pay9 (constantI S256x128 1 1#1)

theorem inbk : ∀ m : Fin 2, ∀ a, (![0, 0, 128 * m.val] : Fin 3 → Nat) a + S1x256x128.size a ≤ S1x256x256.size a := by decide
def rk3 (m : Fin 2) : Rect S1x256x256 := Rect.unit ![0, 0, 128 * m.val] S1x256x128.size (inbk m)
/-- One key head's gradient added onto its half. -/
def accK (v : View sig .tc .vmem S1x256x256 .f32) (L : List (St S1x256x256 .f32)) (m : Fin 2) (own : IVec S256x128 1) (a : T S256x512 .bf16) (b : T S1x1x512x128 .bf16) :
    List (St S1x256x256 .f32) :=
  ⟨rk3 m, shapeCast S1x256x128 (addf (shapeCast S256x128 (View.readCov (Val := Elt Ideal) v L (rk3 m).toLoadRect) shapeCasts_S1x256x128_S256x128)
    (fold own (matmul dot_S256x512_S512x128_S256x128_1_0_0_1_n_n none a (shapeCast S512x128 b shapeCasts_S1x1x512x128_S512x128)
      (constant S256x128 .f32 0x00000000#32)))) shapeCasts_S256x128_S1x256x128⟩ :: L
def LZ : List (St S1x256x256 .f32) := [⟨Rect.unit (s := S1x256x256) ![0, 0, 0] S1x256x256.size inb_S1x256x256_S1x256x256_0_0_0, k0_pay32 (F := Ideal)⟩]
def LA (v : View sig .tc .vmem S1x256x256 .f32) (a : Fin 4 → T S256x512 .bf16) (b : Fin 4 → T S1x1x512x128 .bf16) : List (St S1x256x256 .f32) :=
  accK v (accK v (accK v (accK v LZ 0 k0_pay9 (a 0) (b 0)) 0 own1 (a 1) (b 1)) 1 k0_pay9 (a 2) (b 2)) 1 own1 (a 3) (b 3)

theorem inbh : ∀ h : Fin 2, ∀ a, (![0, 128 * h.val, 0] : Fin 3 → Nat) a + S1x128x256.size a ≤ S1x256x256.size a := by decide
/-- The half of a band's gradient: 0 the block before, 1 the step's own. -/
def half (v : View sig .tc .vmem S1x256x256 .f32) (L : List (St S1x256x256 .f32)) (h : Fin 2) : T S128x256 .f32 :=
  shapeCast S128x256 (View.readCov (Val := Elt Ideal) v L (Rect.unit (s := S1x256x256) ![0, 128 * h.val, 0] S1x128x256.size (inbh h)).toLoadRect) shapeCasts_S1x128x256_S128x256
def dkh (x : Blk) (h : Fin 2) : T S128x256 .f32 := half scM0_3.view (LA scM0_3.view (dk x) (qs x)) h
def dvh (x : Blk) (h : Fin 2) : T S128x256 .f32 := half scM0_4.view (LA scM0_4.view (pk x) (dos x)) h

/-- The normalised queries' gradient, and its product by the normalised queries. -/
def dtn (x : Blk) : T S128x1024 .f32 := k0_pay523 lanes (k0_pay10 x.cs) (k0_pay11 x.sn) (dqr x)
def dgain (x : Blk) : T S1x1024 .f32 :=
  shapeCast S1x1024 (multiReduction .add [0] S1024 (mulf (dtn x) (mulf x.q (rq x))) 0x00000000#32 reduces_S128x1024_S1024 (.inl rfl) rfl) shapeCasts_S1024_S1x1024
def dn (x : Blk) : T S128x1024 .f32 := mulf (dtn x) (broadcastTo S128x1024 x.g broadcasts_S1x1024_S128x1024)
def dq (x : Blk) : T S128x1024 .bf16 :=
  truncf .bf16 (subf (mulf (rq x) (dn x)) (mulf x.q (mulf (mulf (mulf (rq x) (rq x)) (rq x))
    (mulf (spreadQ (splitQ (mulf (dn x) x.q) (k0_pay12 x.iq)) (k0_pay13 x.iqt)) (broadcast S128x1024 (Scalar.ofBits .f32 0x3C800000#32)))))) bitsLt_bf16_f32

/-- What each head's sink gradient loses over the step's rows. -/
def pdr (x : Blk) : Fin 16 → T S1x128 .f32 :=
  ![psd (sS x LS0 0 0) (sD x LS0 0 0) (x.sk 0), psd (sS x LS0 0 1) (sD x LS0 0 1) (x.sk 1),
    psd (sS x LS0 0 2) (sD x LS0 0 2) (x.sk 2), psd (sS x LS0 0 3) (sD x LS0 0 3) (x.sk 3),
    psd (sS x LS1 1 0) (sD x LS1 1 0) (x.sk 4), psd (sS x LS1 1 1) (sD x LS1 1 1) (x.sk 5),
    psd (sS x LS1 1 2) (sD x LS1 1 2) (x.sk 6), psd (sS x LS1 1 3) (sD x LS1 1 3) (x.sk 7),
    psd (sS x LS2 0 0) (sD x LS2 0 0) (x.sk 8), psd (sS x LS2 0 1) (sD x LS2 0 1) (x.sk 9),
    psd (sS x LS2 0 2) (sD x LS2 0 2) (x.sk 10), psd (sS x LS2 0 3) (sD x LS2 0 3) (x.sk 11),
    psd (sS x LS2 1 0) (sD x LS2 1 0) (x.sk 12), psd (sS x LS2 1 1) (sD x LS2 1 1) (x.sk 13),
    psd (sS x LS2 1 2) (sD x LS2 1 2) (x.sk 14), psd (sS x LS2 1 3) (sD x LS2 1 3) (x.sk 15)]

theorem inb19 : ∀ k : Fin 16, ∀ a, (![k.val, 0] : Fin 2 → Nat) a + S1x128.size a ≤ S16x128.size a := by decide
def r19 (k : Fin 16) : Rect S16x128 := Rect.unit ![k.val, 0] S1x128.size (inb19 k)
/-- One head's row after a step that adds onto what stands. -/
def row19 {M : Memref sig .tc .vmem S16x128 .f32} (h : M.IsWhole) (old : T S16x128 .f32) (x : Blk) (k : Fin 16) : St S16x128 .f32 :=
  ⟨r19 k, subf (shapeCast S1x128 (View.readAt (Elt Ideal) M.view (r19 k).toLoadRect (h.unread old)) shapeCasts_S1x128_S1x128) (pdr x k)⟩
def rows19 {M : Memref sig .tc .vmem S16x128 .f32} (h : M.IsWhole) (old : T S16x128 .f32) (x : Blk) : List (St S16x128 .f32) :=
  [row19 h old x 15, row19 h old x 14, row19 h old x 13, row19 h old x 12, row19 h old x 11, row19 h old x 10, row19 h old x 9, row19 h old x 8,
   row19 h old x 7, row19 h old x 6, row19 h old x 5, row19 h old x 4, row19 h old x 3, row19 h old x 2, row19 h old x 1, row19 h old x 0]
/-- One head's row stored onto the list. -/
def st19 (v : View sig .tc .vmem S16x128 .f32) (x : Blk) (k : Fin 16) (L : List (St S16x128 .f32)) : List (St S16x128 .f32) :=
  ⟨r19 k, subf (shapeCast S1x128 (View.readCov (Val := Elt Ideal) v L (r19 k).toLoadRect) shapeCasts_S1x128_S1x128) (pdr x k)⟩ :: L
def first19 (v : View sig .tc .vmem S16x128 .f32) (x : Blk) : List (St S16x128 .f32) :=
  st19 v x 15 <| st19 v x 14 <| st19 v x 13 <| st19 v x 12 <| st19 v x 11 <| st19 v x 10 <| st19 v x 9 <| st19 v x 8 <|
  st19 v x 7 <| st19 v x 6 <| st19 v x 5 <| st19 v x 4 <| st19 v x 3 <| st19 v x 2 <| st19 v x 1 <| st19 v x 0
    [⟨Rect.unit (s := S16x128) ![0, 0] S16x128.size inb_S16x128_S16x128_0_0, broadcast S16x128 (Scalar.ofBits (F := Ideal) .f32 0x00000000#32)⟩]

end Cert.Attn
-- ==== Proof.AttnRead.lean ====
module

public import proofs.«01_k».proof.Proof.AttnBody

/-!
What the stage buffers of a grid step hold, read back at an index.
-/

@[expose] public section

set_option maxRecDepth 16384
noncomputable section

open Idealize.ShloMosaic Idealize.ShloMosaic.TcCoe Idealize.SL.Sem

namespace Cert.Attn
open Cert.AttnBwdIdeal Cert.AttnBwdIdeal.Gen

section stores
variable {s : Shape} {e : EltTy} (r : Rect s) (w : r.shape.Idx → Elt Ideal e) (L : List (St s e)) (y : s.Idx)

/-- Under the last store the buffer holds what was stored. -/
theorem canon_hit (x : r.shape.Idx) (h : ∀ a, (y a).val = r.off a + r.stride a * (x a).val) : View.canon (⟨r, w⟩ :: L) y = w x := by
  obtain rfl : r.emb x = y := funext fun a => Fin.ext (by rw [h a]; rfl)
  exact View.canon_cons_emb r w L x

/-- Off it, what the earlier stores left. -/
theorem canon_miss (a : Fin s.rank) (h : ∀ i < r.size a, (y a).val ≠ r.off a + r.stride a * i) : View.canon (⟨r, w⟩ :: L) y = View.canon L y := by
  refine View.canon_cons_of_not_mem ⟨r, w⟩ L fun hy => ?_
  obtain ⟨x, hx⟩ := r.exists_idx_of_mem hy
  refine h (x a).val (x a).isLt ?_
  rw [← hx]
  rfl

variable (off : Fin s.rank → Nat) (sz : Fin s.rank → Nat) (hb : ∀ a, off a + sz a ≤ s.size a) (u : (⟨s.rank, sz⟩ : Shape).Idx → Elt Ideal e)

/-- The same for a store of a box of neighbouring elements, and the load of one. -/
theorem unit_hit (x : (⟨s.rank, sz⟩ : Shape).Idx) (h : ∀ a, (y a).val = off a + (x a).val) : View.canon (⟨Rect.unit off sz hb, u⟩ :: L) y = u x :=
  canon_hit (Rect.unit off sz hb) u L y x fun a => (h a).trans (congrArg (off a + ·) (Nat.one_mul _).symm)

theorem unit_miss (a : Fin s.rank) (h : (y a).val < off a ∨ off a + sz a ≤ (y a).val) : View.canon (⟨Rect.unit off sz hb, u⟩ :: L) y = View.canon L y :=
  canon_miss (Rect.unit off sz hb) u L y a fun i hi => by
    have hi : i < sz a := hi
    show (y a).val ≠ off a + 1 * i
    omega

theorem unit_read (v : View sig .tc .vmem s e) (x : (⟨s.rank, sz⟩ : Shape).Idx) (h : ∀ a, (y a).val = off a + (x a).val) :
    View.readCov (Val := Elt Ideal) v L (Rect.unit off sz hb).toLoadRect x = View.canon L y := by
  rw [View.readCov_eq_canon']
  exact congrArg (View.canon L) (funext fun a => Fin.ext ((congrArg (off a + ·) (Nat.one_mul _)).trans (h a).symm))
end stores

variable (v : View sig .tc .vmem S1x2x256x512 .f32) (v' : View sig .tc .vmem S1x2x256x512 .bf16)
  (L : List (St S1x2x256x512 .f32)) (L' : List (St S1x2x256x512 .bf16)) (b b' : Fin 2) (r c : Fin 4) (i : Fin 64) (l q : Fin 128) (j : Fin 256) (p : Fin 512)

/-- A chunk's row among the band's, and a head's lane among the key head's. -/
def key (c : Fin 4) (i : Fin 64) : Fin 256 := ⟨c.val * 64 + i.val, by omega⟩
def col (r : Fin 4) (l : Fin 128) : Fin 512 := ⟨r.val * 128 + l.val, by omega⟩

theorem sq_at {e : FTy} (w : T S1x64x128 e) : shapeCast S64x128 w shapeCasts_S1x64x128_S64x128 (ix2 i l) = w (ix3 0 i l) := by pointwise
theorem sqm_at {e : FTy} (w : T S1x256x512 e) : shapeCast S256x512 w shapeCasts_S1x256x512_S256x512 (ix2 j p) = w (ix3 0 j p) := by pointwise

theorem ld_at : ld v L b r c (ix2 i l) = View.canon L (ix4 0 b (key c i) (col r l)) := by
  unfold ld
  rw [View.readCov_eq_canon', sq_at]
  have e := Shape.reshapeEquiv_cons_one (d := ![1, 64, 128]) (LoadRect.numel_consLift (Rect.unit (s := S2x256x512) ![b.val, 64 * c.val, 128 * r.val] S1x64x128.size (inb2c b c r)).toLoadRect ![1, 2, 256, 512] rfl (fun _ => rfl)) (ix3 0 i l)
  refine congrArg (View.canon L) (funext fun a => Fin.ext (((chunkL b c r).idx_apply _ a).trans ((congrArg (fun y : (chunkL b c r).shape.Idx => (chunkL b c r).off a + (chunkL b c r).stride a * (y a).val) e).trans ?_)))
  fin_cases a
  · rfl
  · exact (by omega : 0 + b.val + 1 * 0 = b.val)
  · exact (by omega : 0 + 64 * c.val + 1 * i.val = c.val * 64 + i.val)
  · exact (by omega : 0 + 128 * r.val + 1 * l.val = r.val * 128 + l.val)

theorem ldm_at : ldm v' L' b (ix2 j p) = View.canon L' (ix4 0 b j p) := by
  unfold ldm
  rw [View.readCov_eq_canon', sqm_at]
  have e := Shape.reshapeEquiv_cons_one (d := ![1, 256, 512]) (LoadRect.numel_consLift (Rect.unit (s := S2x256x512) ![b.val, 0, 0] S1x256x512.size (inb2 b)).toLoadRect ![1, 2, 256, 512] rfl (fun _ => rfl)) (ix3 0 j p)
  refine congrArg (View.canon L') (funext fun a => Fin.ext (((slotL b).idx_apply _ a).trans ((congrArg (fun y : (slotL b).shape.Idx => (slotL b).off a + (slotL b).stride a * (y a).val) e).trans ?_)))
  fin_cases a
  · rfl
  · exact (by omega : 0 + b.val + 1 * 0 = b.val)
  · exact (by omega : 0 + 0 + 1 * j.val = j.val)
  · exact (by omega : 0 + 0 + 1 * p.val = p.val)

variable (X : T S1x256x512 .f32) (Y : Fin 4 → T S1x256x512 .f32)

theorem slot_hit : View.canon (slot b X :: L) (ix4 0 b j p) = X (ix3 0 j p) := by
  refine (canon_hit (slotR b) (slot b X).2 L (ix4 0 b j p) (show (slotR b).shape.Idx from ix4 (0 : Fin 1) (0 : Fin 1) j p) fun a => ?_).trans
    (Rect.payAlong_consLift (Rect.unit (s := S2x256x512) ![b.val, 0, 0] S1x256x512.size (inb2 b)) ![1, 2, 256, 512] rfl (fun _ => rfl) X _ _ (ix3 0 j p) fun a => by fin_cases a <;> rfl)
  fin_cases a
  · rfl
  · exact (by omega : b.val = 0 + b.val + 1 * 0)
  · exact (by omega : j.val = 0 + 0 + 1 * j.val)
  · exact (by omega : p.val = 0 + 0 + 1 * p.val)

theorem slot_miss (h : b'.val ≠ b.val) : View.canon (slot b X :: L) (ix4 0 b' j p) = View.canon L (ix4 0 b' j p) := by
  refine canon_miss (slotR b) (slot b X).2 L (ix4 0 b' j p) 1 fun i hi => ?_
  have hi : i < 1 := hi
  exact (by omega : b'.val ≠ 0 + b.val + 1 * i)

theorem LS0_at : View.canon (LS0 Y) (ix4 0 0 j p) = Y 0 (ix3 0 j p) := (slot_miss _ 1 0 j p _ (by decide)).trans (slot_hit _ 0 j p _)
theorem LS1_at : View.canon (LS1 Y) (ix4 0 1 j p) = Y 1 (ix3 0 j p) := (slot_miss _ 0 1 j p _ (by decide)).trans (slot_hit _ 1 j p _)
theorem LS2_at0 : View.canon (LS2 Y) (ix4 0 0 j p) = Y 2 (ix3 0 j p) := (slot_miss _ 1 0 j p _ (by decide)).trans (slot_hit _ 0 j p _)
theorem LS2_at1 : View.canon (LS2 Y) (ix4 0 1 j p) = Y 3 (ix3 0 j p) := slot_hit _ 1 j p _

variable (w : Fin 4 → Fin 4 → T S1x1x64x128 .bf16) (u : T S1x1x64x128 .bf16)

theorem piece_hit : View.canon (piece b r c u :: L') (ix4 0 b (key c i) (col r l)) = u (ix4 0 0 i l) := by
  refine unit_hit (s := S1x2x256x512) L' (ix4 0 b (key c i) (col r l)) ![0, b.val, 64 * c.val, 128 * r.val] S1x1x64x128.size (inb2d b c r) u (ix4 0 0 i l) fun a => ?_
  fin_cases a
  · rfl
  · rfl
  · exact congrArg (· + i.val) (Nat.mul_comm c.val 64)
  · exact congrArg (· + l.val) (Nat.mul_comm r.val 128)

theorem piece_miss (r' c' : Fin 4) (h : r'.val ≠ r.val ∨ c'.val ≠ c.val) : View.canon (piece b r' c' u :: L') (ix4 0 b (key c i) (col r l)) = View.canon L' (ix4 0 b (key c i) (col r l)) := by
  rcases h with h | h
  · refine unit_miss (s := S1x2x256x512) L' (ix4 0 b (key c i) (col r l)) ![0, b.val, 64 * c'.val, 128 * r'.val] S1x1x64x128.size (inb2d b c' r') u 3 ?_
    exact (by omega : r.val * 128 + l.val < 128 * r'.val ∨ 128 * r'.val + 128 ≤ r.val * 128 + l.val)
  · refine unit_miss (s := S1x2x256x512) L' (ix4 0 b (key c i) (col r l)) ![0, b.val, 64 * c'.val, 128 * r'.val] S1x1x64x128.size (inb2d b c' r') u 2 ?_
    exact (by omega : c.val * 64 + i.val < 64 * c'.val ∨ 64 * c'.val + 64 ≤ c.val * 64 + i.val)

theorem four_hit (g : Fin 4 → T S1x1x64x128 .bf16) : View.canon (four b r g L') (ix4 0 b (key c i) (col r l)) = g c (ix4 0 0 i l) := by
  unfold four
  fin_cases c
  · refine (piece_miss _ b r _ i l _ r 3 (.inr (by decide))).trans ((piece_miss _ b r _ i l _ r 2 (.inr (by decide))).trans ((piece_miss _ b r _ i l _ r 1 (.inr (by decide))).trans ?_))
    exact piece_hit _ b r 0 i l _
  · refine (piece_miss _ b r _ i l _ r 3 (.inr (by decide))).trans ((piece_miss _ b r _ i l _ r 2 (.inr (by decide))).trans ?_)
    exact piece_hit _ b r 1 i l _
  · refine (piece_miss _ b r _ i l _ r 3 (.inr (by decide))).trans ?_
    exact piece_hit _ b r 2 i l _
  · exact piece_hit _ b r 3 i l _

theorem four_miss (g : Fin 4 → T S1x1x64x128 .bf16) (r' : Fin 4) (h : r'.val ≠ r.val) : View.canon (four b r' g L') (ix4 0 b (key c i) (col r l)) = View.canon L' (ix4 0 b (key c i) (col r l)) := by
  unfold four
  refine (piece_miss _ b r c i l _ r' 3 (.inl h)).trans ((piece_miss _ b r c i l _ r' 2 (.inl h)).trans ((piece_miss _ b r c i l _ r' 1 (.inl h)).trans ((piece_miss _ b r c i l _ r' 0 (.inl h)).trans rfl)))

theorem pcs_at : View.canon (pcs b w L') (ix4 0 b (key c i) (col r l)) = w r c (ix4 0 0 i l) := by
  unfold pcs
  fin_cases r
  · refine (four_miss _ b _ c i l _ 3 (by decide)).trans ((four_miss _ b _ c i l _ 2 (by decide)).trans ((four_miss _ b _ c i l _ 1 (by decide)).trans ?_))
    exact four_hit _ b 0 c i l _
  · refine (four_miss _ b _ c i l _ 3 (by decide)).trans ((four_miss _ b _ c i l _ 2 (by decide)).trans ?_)
    exact four_hit _ b 1 c i l _
  · refine (four_miss _ b _ c i l _ 3 (by decide)).trans ?_
    exact four_hit _ b 2 c i l _
  · exact four_hit _ b 3 c i l _

variable (k k' : Fin 4)

theorem q4_hit (L : List (St S1x4x512x128 .bf16)) (w : T S1x1x512x128 .bf16) : View.canon (⟨r4q k, w⟩ :: L) (ix4 0 k p l) = w (ix4 0 0 p l) :=
  unit_hit (s := S1x4x512x128) L (ix4 0 k p l) ![0, k.val, 0, 0] S1x1x512x128.size (inb4q k) w (ix4 0 0 p l) fun a => by
    fin_cases a
    · rfl
    · rfl
    · exact (Nat.zero_add _).symm
    · exact (Nat.zero_add _).symm
theorem q4_miss (L : List (St S1x4x512x128 .bf16)) (w : T S1x1x512x128 .bf16) (h : k.val ≠ k'.val) : View.canon (⟨r4q k', w⟩ :: L) (ix4 0 k p l) = View.canon L (ix4 0 k p l) :=
  unit_miss (s := S1x4x512x128) L (ix4 0 k p l) ![0, k'.val, 0, 0] S1x1x512x128.size (inb4q k') w 1
    (show k.val < k'.val ∨ k'.val + 1 ≤ k.val by omega)
theorem k4_hit (L : List (St S1x4x256x128 .bf16)) (w : T S1x1x256x128 .bf16) : View.canon (⟨r4k k, w⟩ :: L) (ix4 0 k j l) = w (ix4 0 0 j l) :=
  unit_hit (s := S1x4x256x128) L (ix4 0 k j l) ![0, k.val, 0, 0] S1x1x256x128.size (inb4k k) w (ix4 0 0 j l) fun a => by
    fin_cases a
    · rfl
    · rfl
    · exact (Nat.zero_add _).symm
    · exact (Nat.zero_add _).symm
theorem k4_miss (L : List (St S1x4x256x128 .bf16)) (w : T S1x1x256x128 .bf16) (h : k.val ≠ k'.val) : View.canon (⟨r4k k', w⟩ :: L) (ix4 0 k j l) = View.canon L (ix4 0 k j l) :=
  unit_miss (s := S1x4x256x128) L (ix4 0 k j l) ![0, k'.val, 0, 0] S1x1x256x128.size (inb4k k') w 1
    (show k.val < k'.val ∨ k'.val + 1 ≤ k.val by omega)

variable (x : T S128x1024 .f32) (y : T S256x256 .f32)

theorem heads_read (v : View sig .tc .vmem S1x4x512x128 .bf16) :
    View.readCov (Val := Elt Ideal) v (heads x) (r4q k).toLoadRect (ix4 0 0 p l) = stack x k (ix4 0 0 p l) := by
  refine (unit_read (s := S1x4x512x128) (heads x) (ix4 0 k p l) ![0, k.val, 0, 0] S1x1x512x128.size (inb4q k) v (ix4 0 0 p l) fun a => ?_).trans ?_
  · fin_cases a
    · rfl
    · rfl
    · exact (Nat.zero_add _).symm
    · exact (Nat.zero_add _).symm
  unfold heads
  fin_cases k
  · refine (q4_miss _ _ _ 3 _ _ (by decide)).trans ((q4_miss _ _ _ 2 _ _ (by decide)).trans ((q4_miss _ _ _ 1 _ _ (by decide)).trans ?_))
    exact q4_hit _ _ 0 _ _
  · refine (q4_miss _ _ _ 3 _ _ (by decide)).trans ((q4_miss _ _ _ 2 _ _ (by decide)).trans ?_)
    exact q4_hit _ _ 1 _ _
  · refine (q4_miss _ _ _ 3 _ _ (by decide)).trans ?_
    exact q4_hit _ _ 2 _ _
  · exact q4_hit _ _ 3 _ _

def dup (y : T S256x256 .f32) : Fin 4 → T S1x1x256x128 .bf16 := ![dupE y 0, dupO y 0, dupE y 1, dupO y 1]

theorem dups_read (v : View sig .tc .vmem S1x4x256x128 .bf16) :
    View.readCov (Val := Elt Ideal) v (dups y) (r4k k).toLoadRect (ix4 0 0 j l) = dup y k (ix4 0 0 j l) := by
  refine (unit_read (s := S1x4x256x128) (dups y) (ix4 0 k j l) ![0, k.val, 0, 0] S1x1x256x128.size (inb4k k) v (ix4 0 0 j l) fun a => ?_).trans ?_
  · fin_cases a
    · rfl
    · rfl
    · exact (Nat.zero_add _).symm
    · exact (Nat.zero_add _).symm
  unfold dups
  fin_cases k
  · refine (k4_miss _ _ _ 3 _ _ (by decide)).trans ((k4_miss _ _ _ 2 _ _ (by decide)).trans ((k4_miss _ _ _ 1 _ _ (by decide)).trans ?_))
    exact k4_hit _ _ 0 _ _
  · refine (k4_miss _ _ _ 3 _ _ (by decide)).trans ((k4_miss _ _ _ 2 _ _ (by decide)).trans ?_)
    exact k4_hit _ _ 1 _ _
  · refine (k4_miss _ _ _ 3 _ _ (by decide)).trans ?_
    exact k4_hit _ _ 2 _ _
  · exact k4_hit _ _ 3 _ _

/-! The queries' gradient: eight column blocks. -/

def cq (k : Fin 4) (h : Fin 2) (l : Fin 128) : Fin 1024 := ⟨256 * k.val + 128 * h.val + l.val, by omega⟩

theorem rq_hit (L : List (St S1x128x1024 .f32)) (h : Fin 2) (w : T S1x128x128 .f32) : View.canon (⟨rq3 k h, w⟩ :: L) (ix3 0 q (cq k h l)) = w (ix3 0 q l) :=
  unit_hit (s := S1x128x1024) L (ix3 0 q (cq k h l)) ![0, 0, 256 * k.val + 128 * h.val] S1x128x128.size (inbq k h) w (ix3 0 q l) fun a => by
    fin_cases a
    · rfl
    · exact (Nat.zero_add _).symm
    · rfl
theorem rq_miss (L : List (St S1x128x1024 .f32)) (h h' : Fin 2) (w : T S1x128x128 .f32) (hk : k.val ≠ k'.val ∨ h.val ≠ h'.val) :
    View.canon (⟨rq3 k' h', w⟩ :: L) (ix3 0 q (cq k h l)) = View.canon L (ix3 0 q (cq k h l)) :=
  unit_miss (s := S1x128x1024) L (ix3 0 q (cq k h l)) ![0, 0, 256 * k'.val + 128 * h'.val] S1x128x128.size (inbq k' h') w 2
    (show 256 * k.val + 128 * h.val + l.val < 256 * k'.val + 128 * h'.val ∨ 256 * k'.val + 128 * h'.val + 128 ≤ 256 * k.val + 128 * h.val + l.val by omega)

def un (z : T S512x128 .f32) : Fin 2 → T S1x128x128 .f32 := ![unA z, unB z]

theorem dqr_at (x : Blk) (h : Fin 2) : dqr x (ix3 0 q (cq k h l)) = un (dqm x k) h (ix3 0 q l) := by
  refine (unit_read (s := S1x128x1024) (LQ x) (ix3 0 q (cq k h l)) ![0, 0, 0] S1x128x1024.size inb_S1x128x1024_S1x128x1024_0_0_0 scM0_2.view (ix3 0 q (cq k h l)) fun a => ?_).trans ?_
  · fin_cases a <;> exact (Nat.zero_add _).symm
  unfold LQ
  fin_cases k <;> fin_cases h
  · refine (rq_miss l q 0 3 _ 0 1 _ (by decide)).trans ((rq_miss l q 0 3 _ 0 0 _ (by decide)).trans ((rq_miss l q 0 2 _ 0 1 _ (by decide)).trans ((rq_miss l q 0 2 _ 0 0 _ (by decide)).trans ((rq_miss l q 0 1 _ 0 1 _ (by decide)).trans ((rq_miss l q 0 1 _ 0 0 _ (by decide)).trans ((rq_miss l q 0 0 _ 0 1 _ (by decide)).trans ?_))))))
    exact rq_hit l q 0 _ 0 _
  · refine (rq_miss l q 0 3 _ 1 1 _ (by decide)).trans ((rq_miss l q 0 3 _ 1 0 _ (by decide)).trans ((rq_miss l q 0 2 _ 1 1 _ (by decide)).trans ((rq_miss l q 0 2 _ 1 0 _ (by decide)).trans ((rq_miss l q 0 1 _ 1 1 _ (by decide)).trans ((rq_miss l q 0 1 _ 1 0 _ (by decide)).trans ?_)))))
    exact rq_hit l q 0 _ 1 _
  · refine (rq_miss l q 1 3 _ 0 1 _ (by decide)).trans ((rq_miss l q 1 3 _ 0 0 _ (by decide)).trans ((rq_miss l q 1 2 _ 0 1 _ (by decide)).trans ((rq_miss l q 1 2 _ 0 0 _ (by decide)).trans ((rq_miss l q 1 1 _ 0 1 _ (by decide)).trans ?_))))
    exact rq_hit l q 1 _ 0 _
  · refine (rq_miss l q 1 3 _ 1 1 _ (by decide)).trans ((rq_miss l q 1 3 _ 1 0 _ (by decide)).trans ((rq_miss l q 1 2 _ 1 1 _ (by decide)).trans ((rq_miss l q 1 2 _ 1 0 _ (by decide)).trans ?_)))
    exact rq_hit l q 1 _ 1 _
  · refine (rq_miss l q 2 3 _ 0 1 _ (by decide)).trans ((rq_miss l q 2 3 _ 0 0 _ (by decide)).trans ((rq_miss l q 2 2 _ 0 1 _ (by decide)).trans ?_))
    exact rq_hit l q 2 _ 0 _
  · refine (rq_miss l q 2 3 _ 1 1 _ (by decide)).trans ((rq_miss l q 2 3 _ 1 0 _ (by decide)).trans ?_)
    exact rq_hit l q 2 _ 1 _
  · refine (rq_miss l q 3 3 _ 0 1 _ (by decide)).trans ?_
    exact rq_hit l q 3 _ 0 _
  · exact rq_hit l q 3 _ 1 _

/-! The keys' and values' gradient: two halves of 128 lanes, each added onto twice. -/

def ck (m : Fin 2) (l : Fin 128) : Fin 256 := ⟨128 * m.val + l.val, by omega⟩

variable (m m' : Fin 2)

theorem rk_read (v : View sig .tc .vmem S1x256x256 .f32) (L : List (St S1x256x256 .f32)) :
    View.readCov (Val := Elt Ideal) v L (rk3 m).toLoadRect (ix3 0 j l) = View.canon L (ix3 0 j (ck m l)) :=
  unit_read (s := S1x256x256) L (ix3 0 j (ck m l)) ![0, 0, 128 * m.val] S1x256x128.size (inbk m) v (ix3 0 j l) fun a => by
    fin_cases a
    · rfl
    · exact (Nat.zero_add _).symm
    · rfl

/-- What one key head's step adds. -/
def addK (own : IVec S256x128 1) (a : T S256x512 .bf16) (b : T S1x1x512x128 .bf16) : T S256x128 .f32 :=
  fold own (matmul dot_S256x512_S512x128_S256x128_1_0_0_1_n_n none a (shapeCast S512x128 b shapeCasts_S1x1x512x128_S512x128)
      (constant S256x128 .f32 0x00000000#32))

theorem acc_cast (t : T S1x256x128 .f32) (z : T S256x128 .f32) :
    shapeCast S1x256x128 (addf (shapeCast S256x128 t shapeCasts_S1x256x128_S256x128) z) shapeCasts_S256x128_S1x256x128 (ix3 0 j l) = t (ix3 0 j l) + z (ix2 j l) := by
  pointwise

theorem accK_hit (v : View sig .tc .vmem S1x256x256 .f32) (L : List (St S1x256x256 .f32)) (own : IVec S256x128 1) (a : T S256x512 .bf16) (b : T S1x1x512x128 .bf16) :
    View.canon (accK v L m own a b) (ix3 0 j (ck m l)) = View.canon L (ix3 0 j (ck m l)) + addK own a b (ix2 j l) := by
  refine (unit_hit (s := S1x256x256) L (ix3 0 j (ck m l)) ![0, 0, 128 * m.val] S1x256x128.size (inbk m) _ (ix3 0 j l) fun a => ?_).trans ?_
  · fin_cases a
    · rfl
    · exact (Nat.zero_add _).symm
    · rfl
  exact (acc_cast l j _ _).trans (congrArg (· + addK own a b (ix2 j l)) (rk_read l j m v L))

theorem accK_miss (v : View sig .tc .vmem S1x256x256 .f32) (L : List (St S1x256x256 .f32)) (own : IVec S256x128 1) (a : T S256x512 .bf16) (b : T S1x1x512x128 .bf16)
    (h : m.val ≠ m'.val) : View.canon (accK v L m' own a b) (ix3 0 j (ck m l)) = View.canon L (ix3 0 j (ck m l)) :=
  unit_miss (s := S1x256x256) L (ix3 0 j (ck m l)) ![0, 0, 128 * m'.val] S1x256x128.size (inbk m') _ 2
    (show 128 * m.val + l.val < 128 * m'.val ∨ 128 * m'.val + 128 ≤ 128 * m.val + l.val by omega)

theorem LZ_at (n : Fin 256) : View.canon LZ (ix3 0 j n) = (0 : EReal) := by
  refine (unit_hit (s := S1x256x256) (e := EltTy.f32) [] (ix3 0 j n) ![0, 0, 0] S1x256x256.size inb_S1x256x256_S1x256x256_0_0_0 (k0_pay32 (F := Ideal)) (ix3 0 j n) fun a => ?_).trans ?_
  · fin_cases a <;> exact (Nat.zero_add _).symm
  · unfold k0_pay32
    pointwise

theorem LA_at0 (v : View sig .tc .vmem S1x256x256 .f32) (a : Fin 4 → T S256x512 .bf16) (b : Fin 4 → T S1x1x512x128 .bf16) :
    View.canon (LA v a b) (ix3 0 j (ck 0 l)) = addK k0_pay9 (a 0) (b 0) (ix2 j l) + addK own1 (a 1) (b 1) (ix2 j l) := by
  unfold LA
  rw [accK_miss _ _ 0 1 (h := by decide), accK_miss _ _ 0 1 (h := by decide), accK_hit, accK_hit, LZ_at, zero_add]
theorem LA_at1 (v : View sig .tc .vmem S1x256x256 .f32) (a : Fin 4 → T S256x512 .bf16) (b : Fin 4 → T S1x1x512x128 .bf16) :
    View.canon (LA v a b) (ix3 0 j (ck 1 l)) = addK k0_pay9 (a 2) (b 2) (ix2 j l) + addK own1 (a 3) (b 3) (ix2 j l) := by
  unfold LA
  rw [accK_hit, accK_hit, accK_miss _ _ 1 0 (h := by decide), accK_miss _ _ 1 0 (h := by decide), LZ_at, zero_add]

def hrow (h : Fin 2) (q : Fin 128) : Fin 256 := ⟨128 * h.val + q.val, by omega⟩

theorem half_cast (w : T S1x128x256 .f32) (q : Fin 128) (n : Fin 256) : shapeCast S128x256 w shapeCasts_S1x128x256_S128x256 (ix2 q n) = w (ix3 0 q n) := by pointwise

theorem half_at (v : View sig .tc .vmem S1x256x256 .f32) (L : List (St S1x256x256 .f32)) (h : Fin 2) (q : Fin 128) (n : Fin 256) :
    half v L h (ix2 q n) = View.canon L (ix3 0 (hrow h q) n) := by
  refine Eq.trans ?_ (unit_read (s := S1x256x256) L (ix3 0 (hrow h q) n) ![0, 128 * h.val, 0] S1x128x256.size (inbh h) v (ix3 0 q n) fun a => ?_)
  · exact half_cast _ q n
  · fin_cases a
    · rfl
    · rfl
    · exact (Nat.zero_add _).symm

end Cert.Attn
-- ==== Proof.AttnVal.lean ====
module

public import proofs.«01_k».proof.Proof.AttnRead
public import proofs.«01_k».proof.Proof.Tables

/-!
The values of a grid step's stages in terms of the heads' rows it loads.
-/

@[expose] public section

set_option maxRecDepth 16384
noncomputable section

open Idealize.ShloMosaic Idealize.ShloMosaic.TcCoe Idealize.SL.Sem

namespace Cert.Attn
open Cert.AttnBwdIdeal Cert.AttnBwdIdeal.Gen Cert.Heads Cert.Finite

/-- The query head of a key head. -/
def qh (k r : Fin 4) : Fin 16 := ⟨4 * k.val + r.val, by omega⟩

section blocks
variable (x : T S128x1024 .f32) (y : T S256x256 .f32) (k r : Fin 4) (i : Fin 128) (j : Fin 256) (d : Fin 64) (l : Fin 128)

def hq (x : T S128x1024 .f32) (i : Fin 128) (H : Fin 16) (d : Fin 64) : EReal := x (ix2 i (lane (by decide) H d))
def hk (y : T S256x256 .f32) (j : Fin 256) (k : Fin 4) (d : Fin 64) : EReal := y (ix2 j (lane (by decide) k d))

theorem lt64 : ∀ l : Fin 128, IntOp.cmpi CmpIPredicate.slt (BitVec.ofNat 32 l.val) 64#32 = if l.val < 64 then 1#1 else 0#1 := by decide +kernel

theorem pay8_at : k0_pay8 (ix2 i l) = if l.val < 64 then 1#1 else 0#1 := by
  pointwise [k0_pay8]
  exact lt64 l
theorem pay9_at : k0_pay9 (ix2 j l) = if l.val < 64 then 1#1 else 0#1 := by
  pointwise [k0_pay9]
  exact lt64 l

theorem sel_if {α : Type} (p : Prop) [Decidable p] (a b : α) : Scalar.select (if p then 1#1 else 0#1) a b = if p then a else b := by
  split_ifs <;> rfl

theorem ixe {n m : ℕ} (x : (⟨2, ![n, m]⟩ : Shape).Idx → EReal) (a a' : Fin n) (b b' : Fin m) (h : a.val = a'.val) (h' : b.val = b'.val) : x (ix2 a b) = x (ix2 a' b') := by
  rw [Fin.ext h, Fin.ext h']

theorem stack_at : stack x k (ix4 0 0 (col r i) l) = if l.val / 64 = r.val % 2 then hq x i (qh k r) (pl l) else (0 : EReal) := by
  have e := fun i => pay8_at i l
  unfold stack pr z128 hq
  generalize k0_pay8 = m at e ⊢
  pointwise
  simp only [e, sel_if]
  have ec : (col r i).val = r.val * 128 + i.val := rfl
  have ln : (lane (n := 1024) (by decide) (qh k r) (pl l)).val = (4 * k.val + r.val) * 64 + l.val % 64 := rfl
  by_cases hl : l.val < 64 <;> by_cases hr : l.val / 64 = r.val % 2
  all_goals
    simp only [hl, hr, if_true, if_false]
    split_ifs
    all_goals first
      | rfl
      | (exfalso; omega)
      | exact ixe x _ _ _ _ (by (try dsimp only) <;> omega) (by (try dsimp only) <;> omega)

theorem turn_at (z : T S256x128 .f32) : turn z (ix2 j l) = z (ix2 j ⟨(l.val + 64) % 128, by omega⟩) := by
  unfold turn
  pointwise
  exact congrArg z (congrArg (ix2 j) (Fin.ext (by dsimp only; omega)))

theorem prk_at (m : Fin 2) : prk y m (ix2 j l) = y (ix2 j (ck m l)) := by
  unfold prk
  pointwise
  rfl

theorem dupE_at (m : Fin 2) : dupE y m (ix4 0 0 j l) = if l.val < 64 then prk y m (ix2 j l) else turn (prk y m) (ix2 j l) := by
  have e := pay9_at j l
  unfold dupE
  generalize k0_pay9 = w at e ⊢
  generalize prk y m = z
  generalize turn z = z'
  pointwise
  rw [e, sel_if]
theorem dupO_at (m : Fin 2) : dupO y m (ix4 0 0 j l) = if l.val < 64 then turn (prk y m) (ix2 j l) else prk y m (ix2 j l) := by
  have e := pay9_at j l
  unfold dupO
  generalize k0_pay9 = w at e ⊢
  generalize prk y m = z
  generalize turn z = z'
  pointwise
  rw [e, sel_if]

theorem dup_at : dup y k (ix4 0 0 j l) = hk y j k (pl l) := by
  have c : ∀ (m : Fin 2) (n : Fin 256), (ck m l).val = n.val ∨ (ck m ⟨(l.val + 64) % 128, by omega⟩).val = n.val → True := fun _ _ _ => trivial
  unfold hk
  fin_cases k
  · refine (dupE_at y j l 0).trans ?_
    rw [turn_at, prk_at, prk_at]
    split_ifs <;> exact congrArg y (congrArg (ix2 j) (Fin.ext (by simp only [lane, ck, pl]; omega)))
  · refine (dupO_at y j l 0).trans ?_
    rw [turn_at, prk_at, prk_at]
    split_ifs <;> exact congrArg y (congrArg (ix2 j) (Fin.ext (by simp only [lane, ck, pl]; omega)))
  · refine (dupE_at y j l 1).trans ?_
    rw [turn_at, prk_at, prk_at]
    split_ifs <;> exact congrArg y (congrArg (ix2 j) (Fin.ext (by simp only [lane, ck, pl]; omega)))
  · refine (dupO_at y j l 1).trans ?_
    rw [turn_at, prk_at, prk_at]
    split_ifs <;> exact congrArg y (congrArg (ix2 j) (Fin.ext (by simp only [lane, ck, pl]; omega)))

/-- A sum over 128 lanes, one half of which is nothing. -/
theorem sum_half (f : Fin 128 → EReal) (g : Fin 64 → EReal) (b : ℕ) (hb : b < 2) (h : ∀ l, f l = if l.val / 64 = b then g (pl l) else 0) : ∑ l, f l = ∑ d, g d := by
  rw [← Fin.sum_mul_add_congr (S := 2) (n := 64) (F := fun p d => if p.val = b then g d else 0)
    (fun p d hl => by
      rw [h, show (p.val * 64 + d.val) / 64 = p.val from by omega, show pl (⟨p.val * 64 + d.val, hl⟩ : Fin 128) = d from Fin.ext (by simp only [pl]; omega)]) rfl]
  rw [Finset.sum_eq_single (⟨b, hb⟩ : Fin 2) (fun p _ hp => Finset.sum_eq_zero fun d _ => if_neg fun e => hp (Fin.ext e)) (fun h' => absurd (Finset.mem_univ _) h')]
  exact Finset.sum_congr rfl fun d _ => if_pos rfl

/-- The masked keys of a query. -/
def vis (n : BitVec 32) (j : Fin 256) (q : Fin 128) : BitVec 1 :=
  IntOp.andi (IntOp.andi (IntOp.cmpi .sge (IntOp.subi (IntOp.addi 128#32 (BitVec.ofNat 32 q.val)) (BitVec.ofNat 32 j.val)) 0#32)
    (IntOp.cmpi .slt (IntOp.subi (IntOp.addi 128#32 (BitVec.ofNat 32 q.val)) (BitVec.ofNat 32 j.val)) 128#32))
    (IntOp.ori (IntOp.cmpi .sge (BitVec.ofNat 32 j.val) 128#32) (Scalar.cmpi .sgt n 0#32))

theorem mask_at (n : BitVec 32) : k0_pay30 (k0_pay29 n) (ix2 j (col r i)) = vis n j i := by
  have e : ∀ i, k0_pay29 n (ix2 j i) = vis n j i := fun i => by
    pointwise [k0_pay29]
    rfl
  generalize k0_pay29 n = m at e ⊢
  pointwise [k0_pay30]
  have ec : (col r i).val = r.val * 128 + i.val := rfl
  simp only [e]
  split_ifs <;> exact congrArg (vis n j) (Fin.ext (by dsimp only; omega))

variable (b : Blk)

/-- The scaled queries, the cotangent, the keys and the values by head. -/
def Q (b : Blk) (i : Fin 128) (H : Fin 16) (d : Fin 64) : EReal := hq (qr b) i H d * Ideal.ofBits .f32 0x3E000000#32
/-- The scores and the cotangent against the values. -/
def sS' (b : Blk) (k r : Fin 4) (i : Fin 128) (j : Fin 256) : EReal := if vis b.n j i = 1#1 then ∑ d, hk b.kc j k d * Q b i (qh k r) d else ⊥
def sD' (b : Blk) (k r : Fin 4) (i : Fin 128) (j : Fin 256) : EReal := ∑ d, hk b.vc j k d * hq b.d i (qh k r) d

theorem qs_at : qs b k (ix4 0 0 (col r i) l) = if l.val / 64 = r.val % 2 then Q b i (qh k r) (pl l) else (0 : EReal) := by
  refine (heads_read _ _ _ _ _).trans ((stack_at _ k r i l).trans ?_)
  rfl
theorem dos_at : dos b k (ix4 0 0 (col r i) l) = if l.val / 64 = r.val % 2 then hq b.d i (qh k r) (pl l) else (0 : EReal) :=
  (heads_read _ _ _ _ _).trans (stack_at _ k r i l)
theorem kd_at : kd b k (ix4 0 0 j l) = hk b.kc j k (pl l) := (dups_read _ _ _ _ _).trans (dup_at _ k j l)
theorem vd_at : vd b k (ix4 0 0 j l) = hk b.vc j k (pl l) := (dups_read _ _ _ _ _).trans (dup_at _ k j l)

theorem select_if {α : Type} (v : BitVec 1) (a b : α) : Scalar.select v a b = if v = 1#1 then a else b := rfl

theorem mask_bot : (Named.named κ "mask" 0xF149F2CA#32 : Ideal .f32) = (⊥ : EReal) := rfl

theorem sc_at : sc b k (ix3 0 j (col r i)) = sS' b k r i j := by
  have ek := fun l => kd_at k j l b
  have eq := fun l => qs_at k r i l b
  have em := mask_at r i j b.n
  unfold sc sS'
  generalize k0_pay30 (k0_pay29 b.n) = m at em ⊢
  generalize kd b k = K at ek ⊢
  generalize qs b k = R at eq ⊢
  pointwise [k0_pay63]
  rw [em, select_if, mask_bot, sum_half _ (fun d => hk b.kc j k d * Q b i (qh k r) d) (r.val % 2) (by omega) fun l => ?_]
  rw [ek, eq, mul_ite, mul_zero]

theorem dpm_at : dpm b k (ix3 0 j (col r i)) = sD' b k r i j := by
  have ek := fun l => vd_at k j l b
  have eq := fun l => dos_at k r i l b
  unfold dpm sD'
  generalize vd b k = K at ek ⊢
  generalize dos b k = R at eq ⊢
  pointwise [k0_pay66, k0_pay65, k0_pay64]
  rw [sum_half _ (fun d => hk b.vc j k d * hq b.d i (qh k r) d) (r.val % 2) (by omega) fun l => ?_]
  rw [ek, eq, mul_ite, mul_zero]

end blocks

/-! The softmax of one query over its keys, and its gradient. -/

section soft
variable (s p : Fin 256 → EReal) (σ : EReal)

def sM : EReal := max (Finset.univ.fold max ⊥ s) σ
def sE (j : Fin 256) : EReal := Ideal.exp (s j - sM s σ)
def sEs : EReal := Ideal.exp (σ - sM s σ)
def sI : EReal := Ideal.div 1 ((∑ j, sE s σ j) + sEs s σ)
def sDD : EReal := (∑ j, sE s σ j * p j) * sI s σ
def sP (j : Fin 256) : EReal := sE s σ j * sI s σ
def sG (j : Fin 256) : EReal := sP s σ j * (p j - sDD s p σ)
def sL : EReal := sEs s σ * sI s σ * sDD s p σ
end soft

section chunks
variable (s p : Fin 4 → T S64x128 .f32) (σ : Ideal .f32) (i : Fin 128) (c : Fin 4) (a : Fin 64)
  (S P : Fin 256 → EReal) (hs : ∀ c a, s c (ix2 a i) = S (key c a)) (hp : ∀ c a, p c (ix2 a i) = P (key c a))

def oct (a b : Fin 8) : Fin 64 := ⟨a.val * 8 + b.val, by omega⟩

theorem fsum_at (x : T S64x128 .f32) (b : Fin 8) : fsum x (ix2 b i) = ∑ a : Fin 8, x (ix2 (oct a b) i) := by
  unfold fsum
  pointwise
  rfl

theorem neg_inf : Ideal.ofBits FTy.f32 4286578688#32 = (⊥ : EReal) := by
  simp [Ideal.ofBits, Ideal.ieee]

theorem fold_sup {ι : Type} [Fintype ι] (f : ι → EReal) : Finset.univ.fold max ⊥ f = Finset.univ.sup f := rfl

theorem fmax_at (x : T S64x128 .f32) (b : Fin 8) : fmax x (ix2 b i) = Finset.univ.sup fun a : Fin 8 => x (ix2 (oct a b) i) := by
  unfold fmax
  pointwise
  rw [neg_inf, fold_sup]
  rfl

/-- A sum over the keys by chunks and groups of eight rows. -/
theorem sum_keys (f : Fin 256 → EReal) : ∑ j, f j = ∑ c : Fin 4, ∑ b : Fin 8, ∑ a : Fin 8, f (key c (oct a b)) := by
  rw [← Fin.sum_mul_add_congr (S := 4) (n := 64) (F := fun c i => f (key c i)) (fun c i hl => rfl) rfl]
  refine Finset.sum_congr rfl fun c _ => ?_
  rw [← Fin.sum_mul_add_congr (S := 8) (n := 8) (F := fun a b => f (key c (oct a b))) (fun a b hl => rfl) rfl, Finset.sum_comm]

include hs in
theorem tot_at : tot s (ix2 0 i) = ∑ j : Fin 256, S j := by
  have e := fun c b => fsum_at i (s c) b
  simp only [hs] at e
  unfold tot
  rw [sum_keys, Fin.sum_univ_four, ← Finset.sum_add_distrib, ← Finset.sum_add_distrib, ← Finset.sum_add_distrib]
  simp only [← e]
  generalize fsum (s 0) = s0
  generalize fsum (s 1) = s1
  generalize fsum (s 2) = s2
  generalize fsum (s 3) = s3
  pointwise

include hs in
theorem mx_at : mx s σ (ix2 0 i) = sM S σ := by
  have e := fun c b => fmax_at i (s c) b
  simp only [hs] at e
  unfold mx sM
  have h : (Finset.univ.sup fun b : Fin 8 => max (max (max (fmax (s 0) (ix2 b i)) (fmax (s 1) (ix2 b i))) (fmax (s 2) (ix2 b i))) (fmax (s 3) (ix2 b i)))
      = Finset.univ.sup S := by
    simp only [e]
    refine le_antisymm (Finset.sup_le fun b _ => ?_) (Finset.sup_le fun j _ => ?_)
    · exact max_le (max_le (max_le (Finset.sup_le fun a _ => Finset.le_sup (f := S) (Finset.mem_univ _)) (Finset.sup_le fun a _ => Finset.le_sup (f := S) (Finset.mem_univ _)))
        (Finset.sup_le fun a _ => Finset.le_sup (f := S) (Finset.mem_univ _))) (Finset.sup_le fun a _ => Finset.le_sup (f := S) (Finset.mem_univ _))
    · obtain ⟨c, a, b, rfl⟩ : ∃ c a b, j = key c (oct a b) := ⟨⟨j.val / 64, by omega⟩, ⟨j.val % 64 / 8, by omega⟩, ⟨j.val % 8, by omega⟩, Fin.ext (by simp only [key, oct]; omega)⟩
      refine le_trans ?_ (Finset.le_sup (Finset.mem_univ b))
      have g := fun c => Finset.le_sup (f := fun a : Fin 8 => S (key c (oct a b))) (Finset.mem_univ a)
      fin_cases c
      · exact le_max_of_le_left (le_max_of_le_left (le_max_of_le_left (g 0)))
      · exact le_max_of_le_left (le_max_of_le_left (le_max_of_le_right (g 1)))
      · exact le_max_of_le_left (le_max_of_le_right (g 2))
      · exact le_max_of_le_right (g 3)
  rw [fold_sup, ← h]
  generalize fmax (s 0) = s0
  generalize fmax (s 1) = s1
  generalize fmax (s 2) = s2
  generalize fmax (s 3) = s3
  pointwise
  rw [neg_inf, fold_sup]

include hs in
theorem ex_at : ex s σ c (ix2 a i) = sE S σ (key c a) := by
  have em := mx_at s σ i S hs
  have es := hs c a
  unfold ex rows64 sE
  generalize mx s σ = m at em ⊢
  generalize s c = z at es ⊢
  pointwise
  rw [em, es]

include hs in
theorem es_at : es s σ (ix2 0 i) = sEs S σ := by
  have em := mx_at s σ i S hs
  unfold es sEs
  generalize mx s σ = m at em ⊢
  pointwise
  rw [em]

theorem one_at : Ideal.ofBits FTy.f32 0x3F800000#32 = (1 : EReal) := by
  simp [Ideal.ofBits, Ideal.ieee]; rw [← EReal.coe_mul]; norm_num

include hs in
theorem inv_at : inv s σ (ix2 0 i) = sI S σ := by
  have et := tot_at (ex s σ) i (sE S σ) fun c a => ex_at s σ i c a S hs
  have ee := es_at s σ i S hs
  unfold inv sI
  generalize tot (ex s σ) = t at et ⊢
  generalize es s σ = e at ee ⊢
  pointwise
  rw [et, ee]
  try rw [one_at]

include hs hp in
theorem dd_at : dd s p σ (ix2 0 i) = sDD S P σ := by
  have et := tot_at (fun c => mulf (ex s σ c) (p c)) i (fun j => sE S σ j * P j) fun c a => by
    have e1 := ex_at s σ i c a S hs
    have e2 := hp c a
    generalize ex s σ c = z at e1 ⊢
    generalize p c = w at e2 ⊢
    pointwise
    rw [e1, e2]
  have ei := inv_at s σ i S hs
  unfold dd sDD
  generalize tot (fun c => mulf (ex s σ c) (p c)) = t at et ⊢
  generalize inv s σ = w at ei ⊢
  pointwise
  rw [et, ei]

include hs in
theorem pm_at : pm s σ c (ix2 a i) = sP S σ (key c a) := by
  have e1 := ex_at s σ i c a S hs
  have ei := inv_at s σ i S hs
  unfold pm rows64 sP
  generalize ex s σ c = z at e1 ⊢
  generalize inv s σ = w at ei ⊢
  pointwise
  rw [e1, ei]

include hs hp in
theorem dsm_at : dsm s p σ c (ix2 a i) = sG S P σ (key c a) := by
  have e1 := pm_at s σ i c a S hs
  have e2 := hp c a
  have ei := dd_at s p σ i S P hs hp
  unfold dsm rows64 sG
  generalize pm s σ c = z at e1 ⊢
  generalize p c = y at e2 ⊢
  generalize dd s p σ = w at ei ⊢
  pointwise
  rw [e1, e2, ei]

include hs hp in
theorem psd_at : psd s p σ (ix2 0 i) = sL S P σ := by
  have e1 := es_at s σ i S hs
  have e2 := inv_at s σ i S hs
  have ei := dd_at s p σ i S P hs hp
  unfold psd sL
  generalize es s σ = z at e1 ⊢
  generalize inv s σ = y at e2 ⊢
  generalize dd s p σ = w at ei ⊢
  pointwise
  rw [e1, e2, ei]

theorem cut_at (x : T S64x128 .f32) : cut x (ix4 0 0 a i) = x (ix2 a i) := by
  unfold cut
  pointwise

end chunks

section stages
variable (b : Blk) (k r c : Fin 4) (i : Fin 128) (j : Fin 256) (a : Fin 64)

/-- The scores' probabilities and their gradients of a step, by head. -/
def bP (b : Blk) (k r : Fin 4) (i : Fin 128) (j : Fin 256) : EReal := sP (sS' b k r i) (b.sk (qh k r)) j
def bG (b : Blk) (k r : Fin 4) (i : Fin 128) (j : Fin 256) : EReal := sG (sS' b k r i) (sD' b k r i) (b.sk (qh k r)) j
def bL (b : Blk) (k r : Fin 4) (i : Fin 128) : EReal := sL (sS' b k r i) (sD' b k r i) (b.sk (qh k r))

/-- Which list and which slot hold a key head's scores. -/
def Ls : Fin 4 → (Fin 4 → T S1x256x512 .f32) → List (St S1x2x256x512 .f32) := ![LS0, LS1, LS2, LS2]
def bs : Fin 4 → Fin 2 := ![0, 1, 0, 1]

theorem Ls_at (Y : Fin 4 → T S1x256x512 .f32) (p : Fin 512) : View.canon (Ls k Y) (ix4 0 (bs k) j p) = Y k (ix3 0 j p) := by
  fin_cases k
  · exact LS0_at j p Y
  · exact LS1_at j p Y
  · exact LS2_at0 j p Y
  · exact LS2_at1 j p Y

theorem sS_at : sS b (Ls k) (bs k) r c (ix2 a i) = sS' b k r i (key c a) :=
  (ld_at _ _ _ _ _ _ _).trans ((Ls_at k _ _ _).trans (sc_at k r i _ b))
theorem sD_at : sD b (Ls k) (bs k) r c (ix2 a i) = sD' b k r i (key c a) :=
  (ld_at _ _ _ _ _ _ _).trans ((Ls_at k _ _ _).trans (dpm_at k r i _ b))

theorem key_of : ∃ c a, j = key c a := ⟨⟨j.val / 64, by omega⟩, ⟨j.val % 64, by omega⟩, Fin.ext (by simp only [key]; omega)⟩

def hs4 : Fin 4 → Fin 4 → Fin 16 := ![h0, h1, h2, h3]
theorem hs4_eq : hs4 k r = qh k r := by revert k r; decide

theorem wP_at : wP b (Ls k) (bs k) (hs4 k) r c (ix4 0 0 a i) = bP b k r i (key c a) := by
  unfold wP
  rw [cut_at, pm_at _ _ _ _ _ (sS' b k r i) fun c a => sS_at b k r c i a, hs4_eq]
  rfl
theorem wD_at : wD b (Ls k) (bs k) (hs4 k) r c (ix4 0 0 a i) = bG b k r i (key c a) := by
  unfold wD
  rw [cut_at, dsm_at _ _ _ _ _ _ (sS' b k r i) (sD' b k r i) (fun c a => sS_at b k r c i a) fun c a => sD_at b k r c i a, hs4_eq]
  rfl

theorem pk_is0 : pk b 0 = ldm scM0_7.view (LP1 b) 0 := by
  sl_kernel_rfl
theorem pk_at0 : pk b 0 (ix2 (key c a) (col r i)) = wP b LS0 0 h0 r c (ix4 0 0 a i) := by
  rw [pk_is0, ldm_at, LP1, pcs_at]
theorem pk_is1 : pk b 1 = ldm scM0_7.view (LP2 b) 1 := by
  sl_kernel_rfl
theorem pk_at1 : pk b 1 (ix2 (key c a) (col r i)) = wP b LS1 1 h1 r c (ix4 0 0 a i) := by
  rw [pk_is1, ldm_at, LP2, pcs_at]
theorem pk_is2 : pk b 2 = ldm scM0_7.view (LP3 b) 0 := by
  sl_kernel_rfl
theorem pk_at2 : pk b 2 (ix2 (key c a) (col r i)) = wP b LS2 0 h2 r c (ix4 0 0 a i) := by
  rw [pk_is2, ldm_at, LP3, pcs_at]
theorem pk_is3 : pk b 3 = ldm scM0_7.view (LP4 b) 1 := by
  sl_kernel_rfl
theorem pk_at3 : pk b 3 (ix2 (key c a) (col r i)) = wP b LS2 1 h3 r c (ix4 0 0 a i) := by
  rw [pk_is3, ldm_at, LP4, pcs_at]
theorem pk_at : pk b k (ix2 j (col r i)) = bP b k r i j := by
  obtain ⟨c, a, rfl⟩ := key_of j
  rw [← wP_at]
  fin_cases k
  · exact pk_at0 b r c i a
  · exact pk_at1 b r c i a
  · exact pk_at2 b r c i a
  · exact pk_at3 b r c i a
theorem dk_is0 : dk b 0 = ldm scM0_8.view (LD1 b) 0 := by
  sl_kernel_rfl
theorem dk_at0 : dk b 0 (ix2 (key c a) (col r i)) = wD b LS0 0 h0 r c (ix4 0 0 a i) := by
  rw [dk_is0, ldm_at, LD1, pcs_at]
theorem dk_is1 : dk b 1 = ldm scM0_8.view (LD2 b) 1 := by
  sl_kernel_rfl
theorem dk_at1 : dk b 1 (ix2 (key c a) (col r i)) = wD b LS1 1 h1 r c (ix4 0 0 a i) := by
  rw [dk_is1, ldm_at, LD2, pcs_at]
theorem dk_is2 : dk b 2 = ldm scM0_8.view (LD3 b) 0 := by
  sl_kernel_rfl
theorem dk_at2 : dk b 2 (ix2 (key c a) (col r i)) = wD b LS2 0 h2 r c (ix4 0 0 a i) := by
  rw [dk_is2, ldm_at, LD3, pcs_at]
theorem dk_is3 : dk b 3 = ldm scM0_8.view (LD4 b) 1 := by
  sl_kernel_rfl
theorem dk_at3 : dk b 3 (ix2 (key c a) (col r i)) = wD b LS2 1 h3 r c (ix4 0 0 a i) := by
  rw [dk_is3, ldm_at, LD4, pcs_at]
theorem dk_at : dk b k (ix2 j (col r i)) = bG b k r i j := by
  obtain ⟨c, a, rfl⟩ := key_of j
  rw [← wD_at]
  fin_cases k
  · exact dk_at0 b r c i a
  · exact dk_at1 b r c i a
  · exact dk_at2 b r c i a
  · exact dk_at3 b r c i a
theorem pdr_at : pdr b (qh k r) (ix2 0 i) = bL b k r i := by
  rw [bL, ← psd_at _ _ _ i (sS' b k r i) (sD' b k r i) (fun c a => sS_at b k r c i a) fun c a => sD_at b k r c i a]
  fin_cases k <;> fin_cases r <;> rfl

end stages

end Cert.Attn
-- ==== Proof.AttnGrad.lean ====
module

public import proofs.«01_k».proof.Proof.AttnVal

/-!
The gradients of a grid step: of the rotated queries, of the keys and the values, back through the
rotation and the norm.
-/

@[expose] public section

set_option maxRecDepth 16384
noncomputable section

open Idealize.ShloMosaic Idealize.ShloMosaic.TcCoe Idealize.SL.Sem

namespace Cert.Attn
open Cert.AttnBwdIdeal Cert.AttnBwdIdeal.Gen Cert.Heads Cert.Finite Cert.Norm

/-- A scale of an eighth. -/
abbrev eighth : EReal := Ideal.ofBits .f32 0x3E000000#32

section products
variable (b : Blk) (k r : Fin 4) (i : Fin 128) (j : Fin 256) (d : Fin 64) (l : Fin 128)

/-- The gradient of a rotated query, and of a band's key and value. -/
def bDq (b : Blk) (i : Fin 128) (k r : Fin 4) (d : Fin 64) : EReal := (∑ j, bG b k r i j * hk b.kc j k d) * eighth
def bDk (b : Blk) (j : Fin 256) (k : Fin 4) (d : Fin 64) : EReal := ∑ r, ∑ i, bG b k r i j * Q b i (qh k r) d
def bDv (b : Blk) (j : Fin 256) (k : Fin 4) (d : Fin 64) : EReal := ∑ r, ∑ i, bP b k r i j * hq b.d i (qh k r) d

theorem dqm_at : dqm b k (ix2 (col r i) l) = bDq b i k r (pl l) := by
  have e1 := fun j => dk_at b k r i j
  have e2 := fun j => kd_at k j l b
  unfold dqm bDq
  generalize dk b k = z at e1 ⊢
  generalize kd b k = w at e2 ⊢
  pointwise
  simp only [e1, e2]

theorem un_at (z : T S512x128 .f32) (h : Fin 2) : un z h (ix3 0 i l) = z (ix2 (col ⟨2 * h.val + l.val / 64, by omega⟩ i) l) := by
  have e := pay8_at i l
  fin_cases h
  · show unA z (ix3 0 i l) = _
    unfold unA
    generalize k0_pay8 = m at e ⊢
    pointwise
    rw [e, sel_if]
    split_ifs <;> exact ixe z _ _ _ _ (by simp only [col]; omega) rfl
  · show unB z (ix3 0 i l) = _
    unfold unB
    generalize k0_pay8 = m at e ⊢
    pointwise
    rw [e, sel_if]
    split_ifs <;> exact ixe z _ _ _ _ (by simp only [col]; omega) rfl

theorem dqr_head : dqr b (ix3 0 i (lane (by decide) (qh k r) d)) = bDq b i k r d := by
  have e := dqr_at ⟨r.val % 2 * 64 + d.val, by omega⟩ i k b ⟨r.val / 2, by omega⟩
  rw [un_at] at e
  have e1 : cq k ⟨r.val / 2, by omega⟩ ⟨r.val % 2 * 64 + d.val, by omega⟩ = lane (by decide) (qh k r) d := Fin.ext (by simp only [cq, lane, qh]; omega)
  have e2 : (⟨2 * (⟨r.val / 2, by omega⟩ : Fin 2).val + (⟨r.val % 2 * 64 + d.val, by omega⟩ : Fin 128).val / 64, by dsimp only; omega⟩ : Fin 4) = r := Fin.ext (by dsimp only; omega)
  rw [← e1, e, e2, dqm_at]
  exact congrArg (bDq b i k r) (Fin.ext (by simp only [pl]; omega))

/-- The sum of a key head's four query heads, each in its own half of the lanes. -/
theorem prod_at (A : T S256x512 .bf16) (R : T S1x1x512x128 .bf16) (F : Fin 4 → Fin 128 → EReal) (X : Fin 4 → Fin 128 → Fin 64 → EReal)
    (hA : ∀ r i, A (ix2 j (col r i)) = F r i) (hR : ∀ r i l, R (ix4 0 0 (col r i) l) = if l.val / 64 = r.val % 2 then X r i (pl l) else 0) :
    matmul dot_S256x512_S512x128_S256x128_1_0_0_1_n_n none A (shapeCast S512x128 R shapeCasts_S1x1x512x128_S512x128) (constant (F := Ideal) S256x128 .f32 0x00000000#32) (ix2 j l)
      = ∑ r : Fin 4, if l.val / 64 = r.val % 2 then ∑ i, F r i * X r i (pl l) else 0 := by
  pointwise
  rw [← Fin.sum_mul_add_congr (S := 4) (n := 128) (F := fun r i => if l.val / 64 = r.val % 2 then F r i * X r i (pl l) else 0) (fun r i hl => by
    have e1 := hA r i
    have e2 := hR r i l
    simp only [col] at e1 e2
    rw [e1, e2, mul_ite, mul_zero]) rfl]
  refine Finset.sum_congr rfl fun r _ => ?_
  split_ifs
  · rfl
  · exact Finset.sum_const_zero

theorem fold_at (own : IVec S256x128 1) (z : T S256x128 .f32) (h : own (ix2 j l) = 1#1) :
    fold own z (ix2 j l) = z (ix2 j l) + z (ix2 j ⟨(l.val + 64) % 128, by omega⟩) := by
  have e := turn_at j l z
  unfold fold z256
  generalize turn z = w at e ⊢
  pointwise
  rw [h, e]
  rfl
theorem fold_off (own : IVec S256x128 1) (z : T S256x128 .f32) (h : own (ix2 j l) = 0#1) : fold own z (ix2 j l) = (0 : EReal) := by
  unfold fold z256
  generalize turn z = w
  pointwise
  rw [h]
  rfl

theorem addK_at (own : IVec S256x128 1) (A : T S256x512 .bf16) (R : T S1x1x512x128 .bf16) (F : Fin 4 → Fin 128 → EReal) (X : Fin 4 → Fin 128 → Fin 64 → EReal)
    (hA : ∀ r i, A (ix2 j (col r i)) = F r i) (hR : ∀ r i l, R (ix4 0 0 (col r i) l) = if l.val / 64 = r.val % 2 then X r i (pl l) else 0) (h : own (ix2 j l) = 1#1) :
    addK own A R (ix2 j l) = ∑ r, ∑ i, F r i * X r i (pl l) := by
  unfold addK
  rw [fold_at _ _ _ _ h, prod_at _ _ A R F X hA hR, prod_at _ _ A R F X hA hR, ← Finset.sum_add_distrib]
  refine Finset.sum_congr rfl fun r _ => ?_
  have e : pl (⟨(l.val + 64) % 128, by omega⟩ : Fin 128) = pl l := Fin.ext (by simp only [pl]; omega)
  rw [e]
  by_cases hl : l.val / 64 = r.val % 2
  · rw [if_pos hl, if_neg (by dsimp only; omega), add_zero]
  · rw [if_neg hl, if_pos (by dsimp only; omega), zero_add]

theorem own1_at : own1 (ix2 j l) = if l.val < 64 then 0#1 else 1#1 := by
  have e := pay9_at j l
  unfold own1
  generalize k0_pay9 = m at e ⊢
  pointwise
  rw [e]
  split_ifs <;> rfl

/-- The lanes of a band's gradient. -/
theorem LA_head (v : View sig .tc .vmem S1x256x256 .f32) (A : Fin 4 → T S256x512 .bf16) (R : Fin 4 → T S1x1x512x128 .bf16) (F : Fin 4 → Fin 4 → Fin 128 → EReal) (X : Fin 4 → Fin 4 → Fin 128 → Fin 64 → EReal)
    (hA : ∀ k r i, A k (ix2 j (col r i)) = F k r i) (hR : ∀ k r i l, R k (ix4 0 0 (col r i) l) = if l.val / 64 = r.val % 2 then X k r i (pl l) else 0) :
    View.canon (LA v A R) (ix3 0 j (lane (by decide) k d)) = ∑ r, ∑ i, F k r i * X k r i d := by
  have le : ∀ d : Fin 64, (⟨d.val, by omega⟩ : Fin 128).val < 64 := fun d => d.isLt
  have p0 : pl (⟨d.val, by omega⟩ : Fin 128) = d := Fin.ext (by simp only [pl]; omega)
  have p1 : pl (⟨64 + d.val, by omega⟩ : Fin 128) = d := Fin.ext (by simp only [pl]; omega)
  have on0 : k0_pay9 (ix2 j (⟨d.val, by omega⟩ : Fin 128)) = 1#1 := by rw [pay9_at, if_pos d.isLt]
  have on1 : own1 (ix2 j (⟨64 + d.val, by omega⟩ : Fin 128)) = 1#1 := by rw [own1_at, if_neg (by dsimp only; omega)]
  have off0 : own1 (ix2 j (⟨d.val, by omega⟩ : Fin 128)) = 0#1 := by rw [own1_at, if_pos d.isLt]
  have off1 : k0_pay9 (ix2 j (⟨64 + d.val, by omega⟩ : Fin 128)) = 0#1 := by rw [pay9_at, if_neg (by dsimp only; omega)]
  fin_cases k
  · have e : (lane (n := 256) (by decide) (0 : Fin 4) d) = ck 0 ⟨d.val, by omega⟩ := Fin.ext (by simp only [lane, ck]; omega)
    refine (congrArg (fun n => View.canon (LA v A R) (ix3 0 j n)) e).trans ((LA_at0 _ _ v A R).trans ?_)
    rw [addK_at _ _ _ _ _ _ _ (hA 0) (hR 0) on0, show addK own1 (A 1) (R 1) (ix2 j ⟨d.val, by omega⟩) = 0 from fold_off _ _ _ _ off0, add_zero, p0]
    rfl
  · have e : (lane (n := 256) (by decide) (1 : Fin 4) d) = ck 0 ⟨64 + d.val, by omega⟩ := Fin.ext (by simp only [lane, ck]; omega)
    refine (congrArg (fun n => View.canon (LA v A R) (ix3 0 j n)) e).trans ((LA_at0 _ _ v A R).trans ?_)
    rw [addK_at _ _ _ _ _ _ _ (hA 1) (hR 1) on1, show addK k0_pay9 (A 0) (R 0) (ix2 j ⟨64 + d.val, by omega⟩) = 0 from fold_off _ _ _ _ off1, zero_add, p1]
    rfl
  · have e : (lane (n := 256) (by decide) (2 : Fin 4) d) = ck 1 ⟨d.val, by omega⟩ := Fin.ext (by simp only [lane, ck]; omega)
    refine (congrArg (fun n => View.canon (LA v A R) (ix3 0 j n)) e).trans ((LA_at1 _ _ v A R).trans ?_)
    rw [addK_at _ _ _ _ _ _ _ (hA 2) (hR 2) on0, show addK own1 (A 3) (R 3) (ix2 j ⟨d.val, by omega⟩) = 0 from fold_off _ _ _ _ off0, add_zero, p0]
    rfl
  · have e : (lane (n := 256) (by decide) (3 : Fin 4) d) = ck 1 ⟨64 + d.val, by omega⟩ := Fin.ext (by simp only [lane, ck]; omega)
    refine (congrArg (fun n => View.canon (LA v A R) (ix3 0 j n)) e).trans ((LA_at1 _ _ v A R).trans ?_)
    rw [addK_at _ _ _ _ _ _ _ (hA 3) (hR 3) on1, show addK k0_pay9 (A 2) (R 2) (ix2 j ⟨64 + d.val, by omega⟩) = 0 from fold_off _ _ _ _ off1, zero_add, p1]
    rfl

variable (h : Fin 2)

theorem dkh_at : dkh b h (ix2 i (lane (by decide) k d)) = bDk b (hrow h i) k d :=
  (half_at _ _ h i _).trans (LA_head k _ d _ _ _ (fun k r i' => bG b k r i' (hrow h i)) (fun k r i d => Q b i (qh k r) d) (fun k r i => dk_at b k r i _) fun k r i l => qs_at k r i l b)
theorem dvh_at : dvh b h (ix2 i (lane (by decide) k d)) = bDv b (hrow h i) k d :=
  (half_at _ _ h i _).trans (LA_head k _ d _ _ _ (fun k r i' => bP b k r i' (hrow h i)) (fun k r i d => hq b.d i (qh k r) d) (fun k r i => pk_at b k r i _) fun k r i l => dos_at k r i l b)
end products

end Cert.Attn
-- ==== Proof.AttnRot.lean ====
module

public import proofs.«01_k».proof.Proof.AttnGrad

/-!
A grid step's queries and keys normalised and rotated, and the gradient back through both.
-/

@[expose] public section

set_option maxRecDepth 16384
noncomputable section

open Idealize.ShloMosaic Idealize.ShloMosaic.TcCoe Idealize.SL.Sem

namespace Cert.Attn
open Cert.AttnBwdIdeal Cert.AttnBwdIdeal.Gen Cert.Heads Cert.Finite Cert.Norm

/-- The lanes whose pair is thirty-two further on. -/
def lowHalf (b : BitVec 32) : BitVec 1 :=
  let w := Scalar.select (Scalar.cmpi CmpIPredicate.eq 64#32 0#32) 1#32 64#32
  IntOp.cmpi CmpIPredicate.slt
    (Scalar.select
      (IntOp.andi (IntOp.xori (IntOp.cmpi CmpIPredicate.slt (IntOp.remsi ArithUnit.vector b w) 0#32) (Scalar.cmpi CmpIPredicate.slt w 0#32))
        (IntOp.cmpi CmpIPredicate.ne (IntOp.remsi ArithUnit.vector b w) 0#32))
      (IntOp.addi (IntOp.remsi ArithUnit.vector b w) w) (IntOp.remsi ArithUnit.vector b w)) 32#32

theorem lowHalf_q : ∀ (h : Fin 16) (d : Fin 64), lowHalf (BitVec.ofNat 32 (lane (n := 1024) (by decide) h d).val) = if d.val < 32 then 1#1 else 0#1 := by decide +kernel
theorem lowHalf_k : ∀ (h : Fin 4) (d : Fin 64), lowHalf (BitVec.ofNat 32 (lane (n := 256) (by decide) h d).val) = if d.val < 32 then 1#1 else 0#1 := by decide +kernel

section tables
variable (C S : T S128x128 .f32) (p : Fin 128 → ℕ)
  (hc : ∀ r l, C (ix2 r l) = cs (p r) ⟨l.val % 32, Nat.mod_lt _ (Nat.succ_pos 31)⟩)
  (hs : ∀ r l, S (ix2 r l) = if l.val % 64 < 32 then -sn (p r) ⟨l.val % 32, Nat.mod_lt _ (Nat.succ_pos 31)⟩ else sn (p r) ⟨l.val % 32, Nat.mod_lt _ (Nat.succ_pos 31)⟩)
  (r : Fin 128) (l : Fin 1024)

include hc in
theorem table_cos : k0_pay10 (F := Ideal) C (ix2 r l) = cs (p r) ⟨l.val % 32, by omega⟩ := by
  pointwise [k0_pay10]
  split_ifs
  all_goals exact (hc _ _).trans (congrArg (cs (p r)) (Fin.ext (by (try dsimp only) <;> omega)))

include hs in
theorem table_sin : k0_pay11 (F := Ideal) S (ix2 r l) = if l.val % 64 < 32 then -sn (p r) ⟨l.val % 32, by omega⟩ else sn (p r) ⟨l.val % 32, by omega⟩ := by
  pointwise [k0_pay11]
  by_cases hl : l.val % 64 < 32
  · rw [if_pos hl]
    split_ifs
    all_goals exact (hs _ _).trans ((if_pos (by (try dsimp only) <;> omega)).trans (congrArg (fun j => -sn (p r) j) (Fin.ext (by (try dsimp only) <;> omega))))
  · rw [if_neg hl]
    split_ifs
    all_goals exact (hs _ _).trans ((if_neg (by (try dsimp only) <;> omega)).trans (congrArg (sn (p r)) (Fin.ext (by (try dsimp only) <;> omega))))

end tables

section queries
variable (b : Blk) (p : Fin 128 → ℕ)
  (hi : ∀ l j, b.iq (ix2 l j) = if l.val / 64 = j.val then 1 else 0) (hit : ∀ j l, b.iqt (ix2 j l) = if l.val / 64 = j.val then 1 else 0)
  (hc : ∀ r l, b.cs (ix2 r l) = cs (p r) ⟨l.val % 32, Nat.mod_lt _ (Nat.succ_pos 31)⟩)
  (hs : ∀ r l, b.sn (ix2 r l) = if l.val % 64 < 32 then -sn (p r) ⟨l.val % 32, Nat.mod_lt _ (Nat.succ_pos 31)⟩ else sn (p r) ⟨l.val % 32, Nat.mod_lt _ (Nat.succ_pos 31)⟩)
  (hx : ∀ j, IsReal (b.q j)) (r : Fin 128) (l : Fin 1024) (h : Fin 16) (d : Fin 64)

/-- The gain of a query head's lanes. -/
def hg (b : Blk) (h : Fin 16) (d : Fin 64) : EReal := b.g (ix2 0 (lane (by decide) h d))

include hi hit hx in
theorem rq_at : rq b (ix2 r (lane (by decide) h d)) = hr (hq b.q r h) := by
  unfold rq
  have hm := split_ind (H := 16) (by decide) (fun l => b.q (ix2 r l) * b.q (ix2 r l)) (fun l => b.iq (ix2 l ⟨h.val, by omega⟩)) h (fun l => hi l _) (fun d => (hx _).mul (hx _))
  have hv : Ideal.rsqrt (((∑ l, b.q (ix2 r l) * b.q (ix2 r l) * b.iq (ix2 l ⟨h.val, by omega⟩)) + ∑ l, (b.q (ix2 r l) * b.q (ix2 r l) - b.q (ix2 r l) * b.q (ix2 r l)) * b.iq (ix2 l ⟨h.val, by omega⟩)) * Ideal.ofBits .f32 0x3C800000#32 + eps) = hr (hq b.q r h) := by
    rw [hm, hr, hms, div_hw, inv_hw_eq]
    rfl
  pointwise [k0_pay17, k0_pay12, k0_pay13, k0_pay14, k0_pay15, k0_pay16]
  rw [split_pick (fun j => Ideal.rsqrt (((∑ l, b.q (ix2 r l) * b.q (ix2 r l) * b.iq (ix2 l j)) + ∑ l, (b.q (ix2 r l) * b.q (ix2 r l) - b.q (ix2 r l) * b.q (ix2 r l)) * b.iq (ix2 l j)) * Ideal.ofBits .f32 0x3C800000#32 + eps))
    (fun j => b.iqt (ix2 j (lane (by decide) h d))) ⟨h.val, by omega⟩ (fun j => by simp only [hit, lane, show (h.val * 64 + d.val) / 64 = h.val from by omega]) (by rw [hv]; exact hr_real fun d => hx _), hv]

include hi hit hc hs hx in
theorem qr_at : hq (qr b) r h d = rot (p r) (hnrm (hq b.q r h) (hg b h)) d := by
  have ec := table_cos b.cs p hc
  have es := table_sin b.sn p hs
  have er := fun d => rq_at b hi hit hx r h d
  unfold qr
  have e0 : ∀ l, k0_pay17 (F := Ideal) (k0_pay12 b.iq) (k0_pay13 b.iqt) (k0_pay15 b.q) (k0_pay16 b.q) l = rq b l := fun l => rfl
  generalize rq b = R at er e0
  generalize k0_pay10 (F := Ideal) b.cs = C at ec ⊢
  generalize k0_pay11 (F := Ideal) b.sn = S at es ⊢
  unfold k0_pay18 lanes hq
  generalize k0_pay17 (F := Ideal) (k0_pay12 b.iq) (k0_pay13 b.iqt) (k0_pay15 b.q) (k0_pay16 b.q) = R' at e0 ⊢
  obtain rfl : R' = R := funext e0
  pointwise
  generalize hm : IntOp.cmpi CmpIPredicate.slt _ 32#32 = m
  have key : m = if d.val < 32 then 1#1 else 0#1 := by
    rw [← hm]
    exact lowHalf_q h d
  rw [key]
  have eh : ∀ (l : Fin 1024) (d : Fin 64), l.val = h.val * 64 + d.val → b.q (ix2 r l) * R' (ix2 r l) * b.g (ix2 0 l) = hnrm (fun d => b.q (ix2 r (lane (by decide) h d))) (hg b h) d := fun l d hl => by
    obtain rfl : l = lane (by decide) h d := Fin.ext hl
    rw [er]
    rfl
  have := h.isLt
  rw [ec, es, eh _ d rfl, rot]
  by_cases hd : d.val < 32
  · rw [if_pos hd, dif_pos hd, if_pos (by simp only [lane]; omega), eh _ ⟨d.val + 32, by omega⟩ (by simp only [lane]; omega), sub_eq_add_neg, ← mul_neg]
    refine congrArg₂ (· + ·) (congrArg _ (congrArg (cs (p r)) (Fin.ext ?_))) (congrArg _ (congrArg (fun j => -sn (p r) j) (Fin.ext ?_))) <;>
      simp only [lane] <;> omega
  · rw [if_neg hd, dif_neg hd, if_neg (by simp only [lane]; omega)]
    refine congrArg₂ (· + ·) (congrArg _ (congrArg (cs (p r)) (Fin.ext ?_))) (congrArg₂ (· * ·) (eh _ ⟨d.val - 32, by omega⟩ ?_) (congrArg (sn (p r)) (Fin.ext ?_))) <;>
      simp only [lane] <;> omega

include hc hs in
theorem dtn_at : hq (dtn b) r h d = unrot (p r) (fun d => dqr b (ix3 0 r (lane (by decide) h d))) d := by
  have ec := table_cos b.cs p hc
  have es := table_sin b.sn p hs
  unfold dtn hq
  generalize dqr b = D
  generalize k0_pay10 (F := Ideal) b.cs = C at ec ⊢
  generalize k0_pay11 (F := Ideal) b.sn = S at es ⊢
  unfold k0_pay523 lanes
  pointwise
  generalize hm : IntOp.cmpi CmpIPredicate.slt _ 32#32 = m
  have key : m = if d.val < 32 then 1#1 else 0#1 := by
    rw [← hm]
    exact lowHalf_q h d
  rw [key]
  unfold unrot
  have := h.isLt
  rw [ec, es, es]
  by_cases hd : d.val < 32
  · rw [if_pos hd, dif_pos hd, if_neg (by simp only [lane]; omega)]
    refine congrArg₂ (· + ·) (congrArg _ (congrArg (cs (p r)) (Fin.ext ?_))) (congrArg₂ (· * ·) (congrArg D (congrArg (ix3 0 r) (Fin.ext ?_))) (congrArg (sn (p r)) (Fin.ext ?_))) <;>
      simp only [lane] <;> omega
  · rw [if_neg hd, dif_neg hd, if_pos (by simp only [lane]; omega : ((lane (by decide) h d : Fin 1024).val + 1024 - 32) % 1024 % 64 < 32)]
    refine congrArg₂ (· + ·) (congrArg _ (congrArg (cs (p r)) (Fin.ext ?_))) (congrArg₂ (· * ·) (congrArg D (congrArg (ix3 0 r) (Fin.ext ?_))) (congrArg (fun j => -sn (p r) j) (Fin.ext ?_))) <;>
      simp only [lane] <;> omega

include hi hit hx in
theorem dq_at (hgr : ∀ d, IsReal (hg b h d)) (hD : ∀ d, IsReal (hq (dtn b) r h d)) : dq b (ix2 r (lane (by decide) h d)) = hdnrm (hq b.q r h) (hg b h) (hq (dtn b) r h) d := by
  have er := fun d => rq_at b hi hit hx r h d
  unfold dq dn spreadQ splitQ
  generalize rq b = R at er ⊢
  generalize dtn b = D at hD ⊢
  pointwise [k0_pay12, k0_pay13]
  have hm := split_ind (H := 16) (by decide) (fun l => D (ix2 r l) * b.g (ix2 0 l) * b.q (ix2 r l)) (fun l => b.iq (ix2 l ⟨h.val, by omega⟩)) h (fun l => hi l _) (fun d => ((hD d).mul (hgr d)).mul (hx _))
  rw [split_pick (fun j => (∑ l, D (ix2 r l) * b.g (ix2 0 l) * b.q (ix2 r l) * b.iq (ix2 l j)) + ∑ l, (D (ix2 r l) * b.g (ix2 0 l) * b.q (ix2 r l) - D (ix2 r l) * b.g (ix2 0 l) * b.q (ix2 r l)) * b.iq (ix2 l j))
    (fun j => b.iqt (ix2 j (lane (by decide) h d))) ⟨h.val, by omega⟩ (fun j => by simp only [hit, lane, show (h.val * 64 + d.val) / 64 = h.val from by omega])
    (by rw [hm]; exact IsReal.sum _ _ fun d => ((hD d).mul (hgr d)).mul (hx _)), hm, hdnrm, div_hw, inv_hw_eq, er]
  rfl

include hi hit hx in
theorem dgain_at : dgain b (ix2 0 (lane (by decide) h d)) = ∑ r, hq (dtn b) r h d * (hq b.q r h d * hr (hq b.q r h)) := by
  have er := fun r d => rq_at b hi hit hx r h d
  unfold dgain
  generalize rq b = R at er ⊢
  generalize dtn b = D
  pointwise [er]
  rfl
end queries

section keys
variable (C S : T S128x128 .f32) (x : T S128x256 .f32) (g : T S1x256 .f32) (w : T S256x128 .bf16) (w' : T S128x256 .bf16) (p : Fin 128 → ℕ)
  (hi : ∀ l j, w (ix2 l j) = if l.val / 64 = j.val then 1 else 0) (hit : ∀ j l, w' (ix2 j l) = if l.val / 64 = j.val then 1 else 0)
  (hc : ∀ r l, C (ix2 r l) = cs (p r) ⟨l.val % 32, Nat.mod_lt _ (Nat.succ_pos 31)⟩)
  (hs : ∀ r l, S (ix2 r l) = if l.val % 64 < 32 then -sn (p r) ⟨l.val % 32, Nat.mod_lt _ (Nat.succ_pos 31)⟩ else sn (p r) ⟨l.val % 32, Nat.mod_lt _ (Nat.succ_pos 31)⟩)
  (hx : ∀ j, IsReal (x j)) (r : Fin 128) (l : Fin 256) (h : Fin 4) (d : Fin 64)

/-- A key head's lanes of a row, and its gain. -/
def kx (x : T S128x256 .f32) (r : Fin 128) (h : Fin 4) (d : Fin 64) : EReal := x (ix2 r (lane (by decide) h d))
def kg (g : T S1x256 .f32) (h : Fin 4) (d : Fin 64) : EReal := g (ix2 0 (lane (by decide) h d))

include hi hit hx in
theorem kn_at : k0_pay20 (F := Ideal) x g w w' (ix2 r (lane (by decide) h d)) = hnrm (kx x r h) (kg g h) d := by
  have hm := split_ind (H := 4) (by decide) (fun l => x (ix2 r l) * x (ix2 r l)) (fun l => w (ix2 l ⟨h.val, by omega⟩)) h (fun l => hi l _) (fun d => (hx _).mul (hx _))
  have hv : Ideal.rsqrt (((∑ l, x (ix2 r l) * x (ix2 r l) * w (ix2 l ⟨h.val, by omega⟩)) + ∑ l, (x (ix2 r l) * x (ix2 r l) - x (ix2 r l) * x (ix2 r l)) * w (ix2 l ⟨h.val, by omega⟩)) * Ideal.ofBits .f32 0x3C800000#32 + eps) = hr (kx x r h) := by
    rw [hm, hr, hms, div_hw, inv_hw_eq]
    rfl
  pointwise [k0_pay20]
  rw [split_pick (fun j => Ideal.rsqrt (((∑ l, x (ix2 r l) * x (ix2 r l) * w (ix2 l j)) + ∑ l, (x (ix2 r l) * x (ix2 r l) - x (ix2 r l) * x (ix2 r l)) * w (ix2 l j)) * Ideal.ofBits .f32 0x3C800000#32 + eps))
    (fun j => w' (ix2 j (lane (by decide) h d))) ⟨h.val, by omega⟩ (fun j => by simp only [hit, lane, show (h.val * 64 + d.val) / 64 = h.val from by omega]) (by rw [hv]; exact hr_real fun d => hx _), hv]
  rfl

include hi hit hc hs hx in
theorem kr_at : kx (kr C S x g w w') r h d = rot (p r) (hnrm (kx x r h) (kg g h)) d := by
  have en := fun d => kn_at x g w w' hi hit hx r h d
  have ec : ∀ l : Fin 256, k0_pay10 (F := Ideal) C (ix2 r ⟨l.val, by omega⟩) = cs (p r) ⟨l.val % 32, by omega⟩ := fun l => table_cos C p hc r ⟨l.val, by omega⟩
  have es : ∀ l : Fin 256, k0_pay11 (F := Ideal) S (ix2 r ⟨l.val, by omega⟩) = if l.val % 64 < 32 then -sn (p r) ⟨l.val % 32, by omega⟩ else sn (p r) ⟨l.val % 32, by omega⟩ := fun l => table_sin S p hs r ⟨l.val, by omega⟩
  unfold kr kx k0_pay21
  generalize k0_pay10 (F := Ideal) C = C' at ec ⊢
  generalize k0_pay11 (F := Ideal) S = S' at es ⊢
  generalize k0_pay20 (F := Ideal) x g w w' = n at en ⊢
  pointwise [k0_pay26, k0_pay19, k0_pay22, k0_pay23, k0_pay24, k0_pay25, k0_pay7]
  generalize hm : IntOp.cmpi CmpIPredicate.slt _ 32#32 = m
  have key : m = if d.val < 32 then 1#1 else 0#1 := by
    rw [← hm]
    exact lowHalf_k h d
  rw [key]
  have eh : ∀ (l : Fin 256) (d : Fin 64), l.val = h.val * 64 + d.val → n (ix2 r l) = hnrm (kx x r h) (kg g h) d := fun l d hl => by
    obtain rfl : l = lane (by decide) h d := Fin.ext hl
    exact en d
  have := h.isLt
  rw [ec, es, eh _ d rfl, rot]
  by_cases hd : d.val < 32
  · rw [if_pos hd, dif_pos hd, if_pos (by simp only [lane]; omega), eh _ ⟨d.val + 32, by omega⟩ (by simp only [lane]; omega), sub_eq_add_neg, ← mul_neg]
    refine congrArg₂ (· + ·) (congrArg _ (congrArg (cs (p r)) (Fin.ext ?_))) (congrArg _ (congrArg (fun j => -sn (p r) j) (Fin.ext ?_))) <;>
      simp only [lane] <;> omega
  · rw [if_neg hd, dif_neg hd, if_neg (by simp only [lane]; omega)]
    refine congrArg₂ (· + ·) (congrArg _ (congrArg (cs (p r)) (Fin.ext ?_))) (congrArg₂ (· * ·) (eh _ ⟨d.val - 32, by omega⟩ ?_) (congrArg (sn (p r)) (Fin.ext ?_))) <;>
      simp only [lane] <;> omega
end keys

end Cert.Attn
-- ==== Proof.AttnCase.lean ====
module

public import proofs.«01_k».proof.Proof.AttnBody
public import Idealize.ShloMosaic.Lib.VecWindow
public import Idealize.ShloMosaic.Lib.WholeRead

/-!
Each output block of a grid step, in each of the three cases the generated run tells apart, is the
step's function of the blocks it loads.
-/

@[expose] public section

set_option maxRecDepth 65536
noncomputable section

open Idealize.ShloMosaic Idealize.ShloMosaic.TcCoe Idealize.SL.Sem

namespace Cert.Attn
open Cert.AttnBwdIdeal Cert.AttnBwdIdeal.Gen

variable (m : (ℓ : Loc nD τ sig) → Buf (Elt Ideal) ℓ) (c : Dev nD)

/-- A whole block, loaded from its window. -/
def lo2 {sp : Space} {a b : Nat} {e : EltTy} {M : Memref sig .tc sp ⟨2, ![a, b]⟩ e} (h : M.IsWhole) (x : (⟨2, ![a, b]⟩ : Shape).Idx → Elt Ideal e)
    (hb : ∀ i, (![0, 0] : Fin 2 → Nat) i + (⟨2, ![a, b]⟩ : Shape).size i ≤ (⟨2, ![a, b]⟩ : Shape).size i) : (⟨2, ![a, b]⟩ : Shape).Idx → Elt Ideal e :=
  View.readAt (Elt Ideal) M.view (Rect.unit (s := ⟨2, ![a, b]⟩) ![0, 0] (⟨2, ![a, b]⟩ : Shape).size hb).toLoadRect (h.unread x)

theorem inbs : ∀ h : Fin 16, ∀ a, (![h.val] : Fin 1 → Nat) a + S1.size a ≤ S16.size a := by decide
theorem inbcar : ∀ a, (![128, 0] : Fin 2 → Nat) a + S128x256.size a ≤ S256x256.size a := by decide

/-- The step's own keys, rotated. -/
def krT (t : Fin cfg0.N) : T S128x256 .f32 :=
  kr (lo2 (hs0_7 t) (iblk m c 7 t) inb_S128x128_S128x128_0_0) (lo2 (hs0_8 t) (iblk m c 8 t) inb_S128x128_S128x128_0_0)
    (lo2 (hs0_3 t) (iblk m c 3 t) inb_S128x256_S128x256_0_0) (lo2 (hs0_6 t) (iblk m c 6 t) inb_S1x256_S1x256_0_0)
    (lo2 (hs0_11 t) (iblk m c 11 t) inb_S256x128_S256x128_0_0) (lo2 (hs0_12 t) (iblk m c 12 t) inb_S128x256_S128x256_0_0)
def vT (t : Fin cfg0.N) : T S128x256 .f32 := lo2 (hs0_4 t) (iblk m c 4 t) inb_S128x256_S128x256_0_0

/-- The step's loads, over the keys and values of its band. -/
def blkOf (t : Fin cfg0.N) (kc vc : T S256x256 .f32) : Blk where
  sk h := View.readAt (Elt Ideal) (ms0_0 t).view (Rect.unit (s := S16) ![h.val] S1.size (inbs h)).toLoadRect ((hs0_0 t).unread (iblk m c 0 t)) (Shape.Idx.first (s := S1) Nat.one_pos)
  d := lo2 (hs0_1 t) (iblk m c 1 t) inb_S128x1024_S128x1024_0_0
  q := lo2 (hs0_2 t) (iblk m c 2 t) inb_S128x1024_S128x1024_0_0
  g := lo2 (hs0_5 t) (iblk m c 5 t) inb_S1x1024_S1x1024_0_0
  cs := lo2 (hs0_7 t) (iblk m c 7 t) inb_S128x128_S128x128_0_0
  sn := lo2 (hs0_8 t) (iblk m c 8 t) inb_S128x128_S128x128_0_0
  iq := lo2 (hs0_9 t) (iblk m c 9 t) inb_S1024x128_S1024x128_0_0
  iqt := lo2 (hs0_10 t) (iblk m c 10 t) inb_S128x1024_S128x1024_0_0
  kc := kc
  vc := vc
  n := Scalar.addi (Scalar.muli (BitVec.ofNat 32 ((grid0.coords t) 1)) 1#32) 0#32

/-- The band after the step's own block is stored below the block before. -/
def band (M : Memref sig .tc .vmem S256x256 .f32) (h : M.IsWhole) (old : T S256x256 .f32) (own : T S128x256 .f32) : T S256x256 .f32 :=
  View.readAt (Elt Ideal) M.view (Rect.unit (s := S256x256) ![0, 0] S256x256.size inb_S256x256_S256x256_0_0).toLoadRect
    (M.view.writes (Elt Ideal) (h.unread old) [⟨Rect.unit (s := S256x256) ![128, 0] S128x256.size inbcar, shapeCast S128x256 own shapeCasts_S128x256_S128x256⟩])
/-- The same at the first block of an image, over zeros. -/
def band0 (M : Memref sig .tc .vmem S256x256 .f32) (own : T S128x256 .f32) : T S256x256 .f32 :=
  View.readCov (Val := Elt Ideal) M.view
    [⟨Rect.unit (s := S256x256) ![128, 0] S128x256.size inbcar, shapeCast S128x256 own shapeCasts_S128x256_S128x256⟩,
     ⟨Rect.unit (s := S256x256) ![0, 0] S256x256.size inb_S256x256_S256x256_0_0, shapeCast S256x256 (broadcast S256x256 (Scalar.ofBits (F := Ideal) .f32 0x00000000#32)) shapeCasts_S256x256_S256x256⟩]
    (Rect.unit (s := S256x256) ![0, 0] S256x256.size inb_S256x256_S256x256_0_0).toLoadRect

theorem before {t : Fin cfg0.N} : t.val - 1 < cfg0.N := Nat.lt_of_le_of_lt (Nat.sub_le _ _) t.isLt
def blkB (t : Fin cfg0.N) : Blk :=
  blkOf m c t (band scM0_0 (Memref.isWhole_whole _) (outsAt0 m c (t.val - 1) before).2.2.2.2.2.2.2.1 (krT m c t))
    (band scM0_1 (Memref.isWhole_whole _) (outsAt0 m c (t.val - 1) before).2.2.2.2.2.2.2.2 (vT m c t))
def blkA (t : Fin cfg0.N) : Blk := blkOf m c t (band0 scM0_0 (krT m c t)) (band0 scM0_1 (vT m c t))

/-- A block stored whole is what was stored. -/
theorem whole_read {sp : Space} {s : Shape} {e : EltTy} (v : View sig .tc sp s e) {o z : Fin s.rank → Nat} (hb : ∀ a, o a + z a ≤ s.size a) {L : List (St s e)} (ho : o = fun _ => 0) (hz : z = s.size)
    (w : (Rect.unit o z hb).shape.Idx → Elt Ideal e) (w' : s.Idx → Elt Ideal e) (h : HEq w w') :
    View.read (Elt Ideal) v (v.writes (Elt Ideal) v.junk (⟨Rect.unit o z hb, w⟩ :: L)) = w' := by
  subst ho hz
  rw [View.read_writes_full]
  exact eq_of_heq h

/-- The gain's partial sum standing before a step. -/
def old18 (t : Fin cfg0.N) : T S1x1024 .f32 := (outsAt0 m c (t.val - 1) before).2.2.2.2.2.1
def old19 (t : Fin cfg0.N) : T S16x128 .f32 := (outsAt0 m c (t.val - 1) before).2.2.2.2.2.2.1

theorem at13_B (t : Fin cfg0.N) (h0 : ¬t.val % 32 = 0) (h1 : ¬t.val % 16 = 0) : (outsAt0 m c t.val t.isLt).1 = dq (blkB m c t) := by
  rw [outsAt0_B m c t h0 h1]
  dsimp only
  unfold out0_B_13 kernelRun0_B
  dsimp only
  refine whole_read _ _ ?_ ?_ _ _ (heq_of_eq ?_)
  · decide
  · decide
  · sl_kernel_rfl

theorem at14_B (t : Fin cfg0.N) (h0 : ¬t.val % 32 = 0) (h1 : ¬t.val % 16 = 0) : (outsAt0 m c t.val t.isLt).2.1 = dkh (blkB m c t) 1 := by
  rw [outsAt0_B m c t h0 h1]
  dsimp only
  unfold out0_B_14 kernelRun0_B
  dsimp only
  refine whole_read _ _ ?_ ?_ _ _ (heq_of_eq ?_)
  · decide
  · decide
  · sl_kernel_rfl

theorem at15_B (t : Fin cfg0.N) (h0 : ¬t.val % 32 = 0) (h1 : ¬t.val % 16 = 0) : (outsAt0 m c t.val t.isLt).2.2.1 = dkh (blkB m c t) 0 := by
  rw [outsAt0_B m c t h0 h1]
  dsimp only
  unfold out0_B_15 kernelRun0_B
  dsimp only
  refine whole_read _ _ ?_ ?_ _ _ (heq_of_eq ?_)
  · decide
  · decide
  · sl_kernel_rfl

theorem at16_B (t : Fin cfg0.N) (h0 : ¬t.val % 32 = 0) (h1 : ¬t.val % 16 = 0) : (outsAt0 m c t.val t.isLt).2.2.2.1 = dvh (blkB m c t) 1 := by
  rw [outsAt0_B m c t h0 h1]
  dsimp only
  unfold out0_B_16 kernelRun0_B
  dsimp only
  refine whole_read _ _ ?_ ?_ _ _ (heq_of_eq ?_)
  · decide
  · decide
  · sl_kernel_rfl

theorem at17_B (t : Fin cfg0.N) (h0 : ¬t.val % 32 = 0) (h1 : ¬t.val % 16 = 0) : (outsAt0 m c t.val t.isLt).2.2.2.2.1 = dvh (blkB m c t) 0 := by
  rw [outsAt0_B m c t h0 h1]
  dsimp only
  unfold out0_B_17 kernelRun0_B
  dsimp only
  refine whole_read _ _ ?_ ?_ _ _ (heq_of_eq ?_)
  · decide
  · decide
  · sl_kernel_rfl

theorem at18_B (t : Fin cfg0.N) (h0 : ¬t.val % 32 = 0) (h1 : ¬t.val % 16 = 0) : (outsAt0 m c t.val t.isLt).2.2.2.2.2.1 = addf (shapeCast S1x1024 (lo2 (hs0_18 t) (old18 m c t) inb_S1x1024_S1x1024_0_0) shapeCasts_S1x1024_S1x1024) (dgain (blkB m c t)) := by
  rw [outsAt0_B m c t h0 h1]
  dsimp only
  unfold out0_B_18 kernelRun0_B
  dsimp only
  refine whole_read _ _ ?_ ?_ _ _ (heq_of_eq ?_)
  · decide
  · decide
  · sl_kernel_rfl

theorem at19_B (t : Fin cfg0.N) (h0 : ¬t.val % 32 = 0) (h1 : ¬t.val % 16 = 0) : (outsAt0 m c t.val t.isLt).2.2.2.2.2.2.1 = View.read (Elt Ideal) VO0_19 (VO0_19.writes (Elt Ideal) VO0_19.junk (rows19 (hs0_19 t) (old19 m c t) (blkB m c t))) := by
  rw [outsAt0_B m c t h0 h1]
  dsimp only
  unfold out0_B_19 kernelRun0_B
  dsimp only
  sl_kernel_rfl

theorem at13_C (t : Fin cfg0.N) (h0 : ¬t.val % 32 = 0) (h1 : t.val % 16 = 0) : (outsAt0 m c t.val t.isLt).1 = dq (blkA m c t) := by
  rw [outsAt0_C m c t h0 h1]
  dsimp only
  unfold out0_C_13 kernelRun0_C
  dsimp only
  refine whole_read _ _ ?_ ?_ _ _ (heq_of_eq ?_)
  · decide
  · decide
  · sl_kernel_rfl

theorem at14_C (t : Fin cfg0.N) (h0 : ¬t.val % 32 = 0) (h1 : t.val % 16 = 0) : (outsAt0 m c t.val t.isLt).2.1 = dkh (blkA m c t) 1 := by
  rw [outsAt0_C m c t h0 h1]
  dsimp only
  unfold out0_C_14 kernelRun0_C
  dsimp only
  refine whole_read _ _ ?_ ?_ _ _ (heq_of_eq ?_)
  · decide
  · decide
  · sl_kernel_rfl

theorem at15_C (t : Fin cfg0.N) (h0 : ¬t.val % 32 = 0) (h1 : t.val % 16 = 0) : (outsAt0 m c t.val t.isLt).2.2.1 = dkh (blkA m c t) 0 := by
  rw [outsAt0_C m c t h0 h1]
  dsimp only
  unfold out0_C_15 kernelRun0_C
  dsimp only
  refine whole_read _ _ ?_ ?_ _ _ (heq_of_eq ?_)
  · decide
  · decide
  · sl_kernel_rfl

theorem at16_C (t : Fin cfg0.N) (h0 : ¬t.val % 32 = 0) (h1 : t.val % 16 = 0) : (outsAt0 m c t.val t.isLt).2.2.2.1 = dvh (blkA m c t) 1 := by
  rw [outsAt0_C m c t h0 h1]
  dsimp only
  unfold out0_C_16 kernelRun0_C
  dsimp only
  refine whole_read _ _ ?_ ?_ _ _ (heq_of_eq ?_)
  · decide
  · decide
  · sl_kernel_rfl

theorem at17_C (t : Fin cfg0.N) (h0 : ¬t.val % 32 = 0) (h1 : t.val % 16 = 0) : (outsAt0 m c t.val t.isLt).2.2.2.2.1 = dvh (blkA m c t) 0 := by
  rw [outsAt0_C m c t h0 h1]
  dsimp only
  unfold out0_C_17 kernelRun0_C
  dsimp only
  refine whole_read _ _ ?_ ?_ _ _ (heq_of_eq ?_)
  · decide
  · decide
  · sl_kernel_rfl

theorem at18_C (t : Fin cfg0.N) (h0 : ¬t.val % 32 = 0) (h1 : t.val % 16 = 0) : (outsAt0 m c t.val t.isLt).2.2.2.2.2.1 = addf (shapeCast S1x1024 (lo2 (hs0_18 t) (old18 m c t) inb_S1x1024_S1x1024_0_0) shapeCasts_S1x1024_S1x1024) (dgain (blkA m c t)) := by
  rw [outsAt0_C m c t h0 h1]
  dsimp only
  unfold out0_C_18 kernelRun0_C
  dsimp only
  refine whole_read _ _ ?_ ?_ _ _ (heq_of_eq ?_)
  · decide
  · decide
  · sl_kernel_rfl

theorem at19_C (t : Fin cfg0.N) (h0 : ¬t.val % 32 = 0) (h1 : t.val % 16 = 0) : (outsAt0 m c t.val t.isLt).2.2.2.2.2.2.1 = View.read (Elt Ideal) VO0_19 (VO0_19.writes (Elt Ideal) VO0_19.junk (rows19 (hs0_19 t) (old19 m c t) (blkA m c t))) := by
  rw [outsAt0_C m c t h0 h1]
  dsimp only
  unfold out0_C_19 kernelRun0_C
  dsimp only
  sl_kernel_rfl

theorem at13_A (t : Fin cfg0.N) (h0 : t.val % 32 = 0) (h1 : t.val % 16 = 0) : (outsAt0 m c t.val t.isLt).1 = dq (blkA m c t) := by
  rw [outsAt0_A m c t h0 h1]
  dsimp only
  unfold out0_A_13 kernelRun0_A
  dsimp only
  refine whole_read _ _ ?_ ?_ _ _ (heq_of_eq ?_)
  · decide
  · decide
  · sl_kernel_rfl

theorem at14_A (t : Fin cfg0.N) (h0 : t.val % 32 = 0) (h1 : t.val % 16 = 0) : (outsAt0 m c t.val t.isLt).2.1 = dkh (blkA m c t) 1 := by
  rw [outsAt0_A m c t h0 h1]
  dsimp only
  unfold out0_A_14 kernelRun0_A
  dsimp only
  refine whole_read _ _ ?_ ?_ _ _ (heq_of_eq ?_)
  · decide
  · decide
  · sl_kernel_rfl

theorem at15_A (t : Fin cfg0.N) (h0 : t.val % 32 = 0) (h1 : t.val % 16 = 0) : (outsAt0 m c t.val t.isLt).2.2.1 = dkh (blkA m c t) 0 := by
  rw [outsAt0_A m c t h0 h1]
  dsimp only
  unfold out0_A_15 kernelRun0_A
  dsimp only
  refine whole_read _ _ ?_ ?_ _ _ (heq_of_eq ?_)
  · decide
  · decide
  · sl_kernel_rfl

theorem at16_A (t : Fin cfg0.N) (h0 : t.val % 32 = 0) (h1 : t.val % 16 = 0) : (outsAt0 m c t.val t.isLt).2.2.2.1 = dvh (blkA m c t) 1 := by
  rw [outsAt0_A m c t h0 h1]
  dsimp only
  unfold out0_A_16 kernelRun0_A
  dsimp only
  refine whole_read _ _ ?_ ?_ _ _ (heq_of_eq ?_)
  · decide
  · decide
  · sl_kernel_rfl

theorem at17_A (t : Fin cfg0.N) (h0 : t.val % 32 = 0) (h1 : t.val % 16 = 0) : (outsAt0 m c t.val t.isLt).2.2.2.2.1 = dvh (blkA m c t) 0 := by
  rw [outsAt0_A m c t h0 h1]
  dsimp only
  unfold out0_A_17 kernelRun0_A
  dsimp only
  refine whole_read _ _ ?_ ?_ _ _ (heq_of_eq ?_)
  · decide
  · decide
  · sl_kernel_rfl

theorem at18_A (t : Fin cfg0.N) (h0 : t.val % 32 = 0) (h1 : t.val % 16 = 0) : (outsAt0 m c t.val t.isLt).2.2.2.2.2.1 = addf (shapeCast S1x1024 (View.readCov (Val := Elt Ideal) (ms0_18 t).view [⟨Rect.unit (s := S1x1024) ![0, 0] S1x1024.size inb_S1x1024_S1x1024_0_0, broadcast S1x1024 (Scalar.ofBits (F := Ideal) .f32 0x00000000#32)⟩] (Rect.unit (s := S1x1024) ![0, 0] S1x1024.size inb_S1x1024_S1x1024_0_0).toLoadRect) shapeCasts_S1x1024_S1x1024) (dgain (blkA m c t)) := by
  rw [outsAt0_A m c t h0 h1]
  dsimp only
  unfold out0_A_18 kernelRun0_A
  dsimp only
  refine whole_read _ _ ?_ ?_ _ _ (heq_of_eq ?_)
  · decide
  · decide
  · sl_kernel_rfl

theorem at19_A (t : Fin cfg0.N) (h0 : t.val % 32 = 0) (h1 : t.val % 16 = 0) : (outsAt0 m c t.val t.isLt).2.2.2.2.2.2.1 = View.read (Elt Ideal) VO0_19 (VO0_19.writes (Elt Ideal) VO0_19.junk (first19 (ms0_19 t).view (blkA m c t))) := by
  rw [outsAt0_A m c t h0 h1]
  dsimp only
  unfold out0_A_19 kernelRun0_A
  dsimp only
  sl_kernel_rfl

end Cert.Attn
-- ==== Proof.AttnCarry.lean ====
module

public import proofs.«01_k».proof.Proof.AttnRot
public import proofs.«01_k».proof.Proof.AttnCase

/-!
The rows of keys and values a grid step leaves for the next one, and the band the next one reads.
-/

@[expose] public section

set_option maxRecDepth 65536
noncomputable section

open Idealize.ShloMosaic Idealize.ShloMosaic.TcCoe Idealize.SL.Sem
open Cert.Heads

namespace Cert.Attn
open Cert.AttnBwdIdeal Cert.AttnBwdIdeal.Gen

variable (m : (ℓ : Loc nD τ sig) → Buf (Elt Ideal) ℓ) (c : Dev nD)

/-- A block loaded whole is the block. -/
theorem lo2_eq {sp : Space} {a b : Nat} {e : EltTy} {M : Memref sig .tc sp ⟨2, ![a, b]⟩ e} (h : M.IsWhole) (x : (⟨2, ![a, b]⟩ : Shape).Idx → Elt Ideal e)
    (hb : ∀ i, (![0, 0] : Fin 2 → Nat) i + (⟨2, ![a, b]⟩ : Shape).size i ≤ (⟨2, ![a, b]⟩ : Shape).size i) : lo2 h x hb = x := by
  funext y
  refine (Memref.IsWhole.readAt_unread h x (Rect.unit (s := ⟨2, ![a, b]⟩) ![0, 0] (⟨2, ![a, b]⟩ : Shape).size hb).toLoadRect y).trans (congrArg x (funext fun i => Fin.ext ?_))
  show (![0, 0] : Fin 2 → Nat) i + 1 * (y i).val = (y i).val
  fin_cases i <;> simp

/-- The row of the block before's among the band's, and of the step's own. -/
def keyB (i : Fin 128) : Fin 256 := ⟨i.val, by omega⟩
def keyO (i : Fin 128) : Fin 256 := ⟨128 + i.val, by omega⟩

theorem cast_at (x : T S128x256 .f32) (i : Fin 128) (l : Fin 256) : shapeCast S128x256 x shapeCasts_S128x256_S128x256 (ix2 i l) = x (ix2 i l) := by
  pointwise

theorem band_own (M : Memref sig .tc .vmem S256x256 .f32) (h : M.IsWhole) (old : T S256x256 .f32) (own : T S128x256 .f32) (i : Fin 128) (l : Fin 256) :
    band M h old own (ix2 (keyO i) l) = own (ix2 i l) := by
  have e : (Rect.unit (s := S256x256) ![0, 0] S256x256.size inb_S256x256_S256x256_0_0).toLoadRect.idx (ix2 (keyO i) l) = (ix2 (keyO i) l : S256x256.Idx) := by
    funext a
    refine Fin.ext ?_
    fin_cases a <;> simp [LoadRect.idx, Rect.toLoadRect, Rect.unit, ix2]
  refine (congrArg (M.view.read (Elt Ideal) _) e).trans ?_
  refine (View.read_writes_cons_unit_of_mem M.view _ inbcar _ _ _ (ix2 i l) rfl fun a => ?_).trans (cast_at own i l)
  fin_cases a <;> simp [ix2, keyO]

theorem band_old (M : Memref sig .tc .vmem S256x256 .f32) (h : M.IsWhole) (old : T S256x256 .f32) (own : T S128x256 .f32) (i : Fin 128) (l : Fin 256) :
    band M h old own (ix2 (keyB i) l) = old (ix2 (keyB i) l) := by
  have e : (Rect.unit (s := S256x256) ![0, 0] S256x256.size inb_S256x256_S256x256_0_0).toLoadRect.idx (ix2 (keyB i) l) = (ix2 (keyB i) l : S256x256.Idx) := by
    funext a
    refine Fin.ext ?_
    fin_cases a <;> simp [LoadRect.idx, Rect.toLoadRect, Rect.unit, ix2]
  refine (congrArg (M.view.read (Elt Ideal) _) e).trans ?_
  refine (View.read_writes_cons_unit_of_not_mem M.view _ inbcar _ _ _ rfl 0 (Or.inl ?_)).trans ?_
  · exact i.isLt
  · exact congrFun (Memref.IsWhole.read_unread (Val := Elt Ideal) h old) _

theorem band0_own (M : Memref sig .tc .vmem S256x256 .f32) (own : T S128x256 .f32) (i : Fin 128) (l : Fin 256) :
    band0 M own (ix2 (keyO i) l) = own (ix2 i l) := by
  refine (unit_read (s := S256x256) _ (ix2 (keyO i) l) ![0, 0] S256x256.size inb_S256x256_S256x256_0_0 M.view (ix2 (keyO i) l) fun a => ?_).trans ?_
  · fin_cases a <;> simp [ix2]
  refine (unit_hit (s := S256x256) _ (ix2 (keyO i) l) ![128, 0] S128x256.size inbcar _ (ix2 i l) fun a => ?_).trans (cast_at own i l)
  fin_cases a <;> simp [ix2, keyO]

theorem zero_cast (y : S256x256.Idx) : shapeCast S256x256 (broadcast S256x256 (Scalar.ofBits (F := Ideal) .f32 0x00000000#32)) shapeCasts_S256x256_S256x256 y = (0 : EReal) :=
  Ideal.ofBits_zero .f32

theorem band0_old (M : Memref sig .tc .vmem S256x256 .f32) (own : T S128x256 .f32) (i : Fin 128) (l : Fin 256) :
    band0 M own (ix2 (keyB i) l) = (0 : EReal) := by
  refine (unit_read (s := S256x256) _ (ix2 (keyB i) l) ![0, 0] S256x256.size inb_S256x256_S256x256_0_0 M.view (ix2 (keyB i) l) fun a => ?_).trans ?_
  · fin_cases a <;> simp [ix2]
  refine (unit_miss (s := S256x256) _ (ix2 (keyB i) l) ![128, 0] S128x256.size inbcar _ 0 (Or.inl i.isLt)).trans ?_
  refine (unit_hit (s := S256x256) _ (ix2 (keyB i) l) ![0, 0] S256x256.size inb_S256x256_S256x256_0_0 _ (ix2 (keyB i) l) fun a => ?_).trans (zero_cast _)
  fin_cases a <;> simp [ix2]

/-- What a step leaves: the piece stored last holds its own rows. -/
theorem left_at {V : View sig .tc .vmem S256x256 .f32} {hb : ∀ a, (![0, 0] : Fin 2 → Nat) a + S128x256.size a ≤ S256x256.size a} {u : (Rect.unit (s := S256x256) ![0, 0] S128x256.size hb).shape.Idx → Elt Ideal .f32} {L : List (St S256x256 .f32)}
    (own : T S128x256 .f32) (i : Fin 128) (l : Fin 256) (hu : u = shapeCast S128x256 own shapeCasts_S128x256_S128x256) :
    View.read (Elt Ideal) V (V.writes (Elt Ideal) V.junk (⟨Rect.unit (s := S256x256) ![0, 0] S128x256.size hb, u⟩ :: L)) (ix2 (keyB i) l) = own (ix2 i l) := by
  refine (View.read_writes_junk_apply_eq_canon _ _ _).trans ?_
  subst hu
  refine (unit_hit (s := S256x256) _ (ix2 (keyB i) l) ![0, 0] S128x256.size hb _ (ix2 i l) fun a => ?_).trans (cast_at own i l)
  fin_cases a <;> simp [ix2, keyB]

theorem keys_A (t : Fin cfg0.N) (h0 : t.val % 32 = 0) (h1 : t.val % 16 = 0) (i : Fin 128) (l : Fin 256) : (outsAt0 m c t.val t.isLt).2.2.2.2.2.2.2.1 (ix2 (keyB i) l) = krT m c t (ix2 i l) := by
  rw [outsAt0_A m c t h0 h1]
  dsimp only
  unfold sout0_A_0 kernelRun0_A
  dsimp only
  exact left_at _ i l (by sl_kernel_rfl)

theorem values_A (t : Fin cfg0.N) (h0 : t.val % 32 = 0) (h1 : t.val % 16 = 0) (i : Fin 128) (l : Fin 256) : (outsAt0 m c t.val t.isLt).2.2.2.2.2.2.2.2 (ix2 (keyB i) l) = vT m c t (ix2 i l) := by
  rw [outsAt0_A m c t h0 h1]
  dsimp only
  unfold sout0_A_1 kernelRun0_A
  dsimp only
  exact left_at _ i l (by sl_kernel_rfl)

theorem keys_B (t : Fin cfg0.N) (h0 : ¬t.val % 32 = 0) (h1 : ¬t.val % 16 = 0) (i : Fin 128) (l : Fin 256) : (outsAt0 m c t.val t.isLt).2.2.2.2.2.2.2.1 (ix2 (keyB i) l) = krT m c t (ix2 i l) := by
  rw [outsAt0_B m c t h0 h1]
  dsimp only
  unfold sout0_B_0 kernelRun0_B
  dsimp only
  exact left_at _ i l (by sl_kernel_rfl)

theorem values_B (t : Fin cfg0.N) (h0 : ¬t.val % 32 = 0) (h1 : ¬t.val % 16 = 0) (i : Fin 128) (l : Fin 256) : (outsAt0 m c t.val t.isLt).2.2.2.2.2.2.2.2 (ix2 (keyB i) l) = vT m c t (ix2 i l) := by
  rw [outsAt0_B m c t h0 h1]
  dsimp only
  unfold sout0_B_1 kernelRun0_B
  dsimp only
  exact left_at _ i l (by sl_kernel_rfl)

theorem keys_C (t : Fin cfg0.N) (h0 : ¬t.val % 32 = 0) (h1 : t.val % 16 = 0) (i : Fin 128) (l : Fin 256) : (outsAt0 m c t.val t.isLt).2.2.2.2.2.2.2.1 (ix2 (keyB i) l) = krT m c t (ix2 i l) := by
  rw [outsAt0_C m c t h0 h1]
  dsimp only
  unfold sout0_C_0 kernelRun0_C
  dsimp only
  exact left_at _ i l (by sl_kernel_rfl)

theorem values_C (t : Fin cfg0.N) (h0 : ¬t.val % 32 = 0) (h1 : t.val % 16 = 0) (i : Fin 128) (l : Fin 256) : (outsAt0 m c t.val t.isLt).2.2.2.2.2.2.2.2 (ix2 (keyB i) l) = vT m c t (ix2 i l) := by
  rw [outsAt0_C m c t h0 h1]
  dsimp only
  unfold sout0_C_1 kernelRun0_C
  dsimp only
  exact left_at _ i l (by sl_kernel_rfl)

/-- After every step the carried rows are the step's own. -/
theorem keys_left (t : Fin cfg0.N) (i : Fin 128) (l : Fin 256) : (outsAt0 m c t.val t.isLt).2.2.2.2.2.2.2.1 (ix2 (keyB i) l) = krT m c t (ix2 i l) := by
  by_cases h0 : t.val % 32 = 0
  · exact keys_A m c t h0 (by omega) i l
  · by_cases h1 : t.val % 16 = 0
    · exact keys_C m c t h0 h1 i l
    · exact keys_B m c t h0 h1 i l
theorem values_left (t : Fin cfg0.N) (i : Fin 128) (l : Fin 256) : (outsAt0 m c t.val t.isLt).2.2.2.2.2.2.2.2 (ix2 (keyB i) l) = vT m c t (ix2 i l) := by
  by_cases h0 : t.val % 32 = 0
  · exact values_A m c t h0 (by omega) i l
  · by_cases h1 : t.val % 16 = 0
    · exact values_C m c t h0 h1 i l
    · exact values_B m c t h0 h1 i l
end Cert.Attn
-- ==== Proof.AttnSpec.lean ====
module

public import proofs.«01_k».proof.Proof.AttnRot

/-!
The gradients of the attention over the argument arrays: blocks of 128 queries against the 256 keys of
their own block and the block before, four query heads to a key head.
-/

@[expose] public section

noncomputable section

open Idealize.ShloMosaic
open Cert.Heads Cert.Finite

namespace Cert.Attn

section soft
variable {s p : Fin 256 → EReal} {σ : EReal} (hs : ∀ j, s j = ⊥ ∨ IsReal (s j)) (hσ : IsReal σ)

include hs hσ in
theorem sM_real : IsReal (sM s σ) := by
  obtain ⟨w, rfl⟩ := hσ
  have h1 : sM s w ≠ ⊥ := ne_of_gt (lt_of_lt_of_le (EReal.bot_lt_coe w) (le_max_right _ _))
  have h2 : sM s w ≠ ⊤ := by
    refine ne_of_lt (max_lt ?_ (EReal.coe_lt_top w))
    rw [fold_sup, Finset.sup_lt_iff bot_lt_top]
    intro j _
    rcases hs j with h | ⟨y, h⟩ <;> rw [h]
    · exact bot_lt_top
    · exact EReal.coe_lt_top y
  exact ⟨_, (EReal.coe_toReal h2 h1).symm⟩

include hs hσ in
/-- Over the greatest score every exponential is a real number; a hidden score's is zero, the sink's is positive. -/
theorem soft_real : ∃ (e : Fin 256 → ℝ) (z : ℝ), (∀ j, sE s σ j = e j) ∧ (∀ j, 0 ≤ e j) ∧ sEs s σ = z ∧ 0 < z := by
  obtain ⟨M, hM⟩ := sM_real hs hσ
  obtain ⟨w, rfl⟩ := hσ
  have h : ∀ j, ∃ r : ℝ, sE s w j = r ∧ 0 ≤ r := fun j => by
    unfold sE
    rw [hM]
    rcases hs j with h | ⟨y, h⟩ <;> rw [h]
    · exact ⟨0, rfl, le_refl _⟩
    · exact ⟨Real.exp (y - M), rfl, (Real.exp_pos _).le⟩
  choose e he h0 using h
  refine ⟨e, Real.exp (w - M), he, h0, ?_, Real.exp_pos _⟩
  unfold sEs
  rw [hM]
  rfl

theorem coe_sum {ι : Type} (t : Finset ι) (f : ι → ℝ) : (∑ i ∈ t, (f i : EReal)) = ((∑ i ∈ t, f i : ℝ) : EReal) := by
  classical
  induction t using Finset.induction_on with
  | empty => rfl
  | insert a t ha ih => rw [Finset.sum_insert ha, Finset.sum_insert ha, ih, EReal.coe_add]

include hs hσ in
/-- The probabilities and the gradients of the scores, as real numbers. -/
theorem soft_eq (hp : ∀ j, IsReal (p j)) : ∃ (e p' : Fin 256 → ℝ) (z Z : ℝ), (∀ j, sE s σ j = e j) ∧ (∀ j, p j = p' j) ∧ sEs s σ = z ∧ Z = (∑ j, e j) + z ∧ 0 < Z
    ∧ (∀ j, sP s σ j = ((e j * Z⁻¹ : ℝ) : EReal)) ∧ (∀ j, sG s p σ j = ((e j * Z⁻¹ * (p' j - (∑ i, e i * p' i) * Z⁻¹) : ℝ) : EReal))
    ∧ sL s p σ = ((z * Z⁻¹ * ((∑ i, e i * p' i) * Z⁻¹) : ℝ) : EReal) := by
  obtain ⟨e, z, he, h0, hz, hz0⟩ := soft_real hs hσ
  choose p' hp' using hp
  have hZ : 0 < (∑ j, e j) + z := add_pos_of_nonneg_of_pos (Finset.sum_nonneg fun j _ => h0 j) hz0
  have hI : sI s σ = ((((∑ j, e j) + z)⁻¹ : ℝ) : EReal) := by
    unfold sI
    simp only [he, hz]
    rw [coe_sum, ← EReal.coe_add, Ideal.div_coe hZ.ne', one_mul]
    norm_num
  have hP : ∀ j, sP s σ j = ((e j * ((∑ j, e j) + z)⁻¹ : ℝ) : EReal) := fun j => by
    unfold sP
    rw [he, hI, ← EReal.coe_mul]
  have hD : sDD s p σ = (((∑ i, e i * p' i) * ((∑ j, e j) + z)⁻¹ : ℝ) : EReal) := by
    unfold sDD
    simp only [he, hp', hI, ← EReal.coe_mul, coe_sum]
  refine ⟨e, p', z, _, he, hp', hz, rfl, hZ, hP, fun j => ?_, ?_⟩
  · unfold sG
    rw [hP, hp', hD, ← EReal.coe_sub, ← EReal.coe_mul]
  · unfold sL
    rw [hz, hI, hD, ← EReal.coe_mul, ← EReal.coe_mul]
end soft

/-- The argument arrays: the cotangent, the queries, the keys, the values, the two gains, the sinks. -/
structure In where
  ct : (⟨2, ![4096, 1024]⟩ : Shape).Idx → EReal
  q : (⟨2, ![4096, 1024]⟩ : Shape).Idx → EReal
  k : (⟨2, ![4096, 256]⟩ : Shape).Idx → EReal
  v : (⟨2, ![4096, 256]⟩ : Shape).Idx → EReal
  gq : (⟨2, ![1, 64]⟩ : Shape).Idx → EReal
  gk : (⟨2, ![1, 64]⟩ : Shape).Idx → EReal
  sk : (⟨2, ![1, 16]⟩ : Shape).Idx → EReal

/-- A block's row, and a row's block and place in it. -/
def rowA (t : Fin 32) (i : Fin 128) : Fin 4096 := ⟨t.val * 128 + i.val, by omega⟩
def tOf (r : Fin 4096) : Fin 32 := ⟨r.val / 128, by omega⟩
def iOf (r : Fin 4096) : Fin 128 := ⟨r.val % 128, by omega⟩
/-- A query head's key head, and its place among its four. -/
def kOf (H : Fin 16) : Fin 4 := ⟨H.val / 4, by omega⟩
def rOf (H : Fin 16) : Fin 4 := ⟨H.val % 4, by omega⟩

theorem row_of (r : Fin 4096) : rowA (tOf r) (iOf r) = r := Fin.ext (by simp only [rowA, tOf, iOf]; omega)
theorem tOf_row (t : Fin 32) (i : Fin 128) : tOf (rowA t i) = t := Fin.ext (by simp only [rowA, tOf]; omega)
theorem iOf_row (t : Fin 32) (i : Fin 128) : iOf (rowA t i) = i := Fin.ext (by simp only [rowA, iOf]; omega)
theorem qh_of (H : Fin 16) : qh (kOf H) (rOf H) = H := Fin.ext (by simp only [qh, kOf, rOf]; omega)
theorem kOf_qh (k r : Fin 4) : kOf (qh k r) = k := Fin.ext (by simp only [qh, kOf]; omega)
theorem rOf_qh (k r : Fin 4) : rOf (qh k r) = r := Fin.ext (by simp only [qh, rOf]; omega)

/-- Whether a query sees a key of its band. -/
def sees (n : ℕ) (j : Fin 256) (i : Fin 128) : BitVec 1 := if i.val < j.val ∧ j.val ≤ i.val + 128 ∧ (128 ≤ j.val ∨ 0 < n) then 1#1 else 0#1

/-- The rows of a band: the block before's (zeros at a sequence's start), then the block's own. -/
def bandA (f : Fin 4096 → Fin 4 → Fin 64 → EReal) (t : Fin 32) (j : Fin 256) (k : Fin 4) (d : Fin 64) : EReal :=
  if h : 128 ≤ j.val then f ⟨t.val * 128 + (j.val - 128), by omega⟩ k d
  else if t.val % 16 = 0 then 0 else f ⟨(t.val - 1) * 128 + j.val, by omega⟩ k d

namespace In
variable (x : In)

def ctRow (r : Fin 4096) (H : Fin 16) (d : Fin 64) : EReal := x.ct (ix2 r (lane (by decide) H d))
def qRow (r : Fin 4096) (H : Fin 16) (d : Fin 64) : EReal := x.q (ix2 r (lane (by decide) H d))
def kRow (r : Fin 4096) (k : Fin 4) (d : Fin 64) : EReal := x.k (ix2 r (lane (by decide) k d))
def vRow (r : Fin 4096) (k : Fin 4) (d : Fin 64) : EReal := x.v (ix2 r (lane (by decide) k d))
def gqR (d : Fin 64) : EReal := x.gq (ix2 0 d)
def gkR (d : Fin 64) : EReal := x.gk (ix2 0 d)
def skH (H : Fin 16) : EReal := x.sk (ix2 0 H)

/-- The rotated queries and keys. -/
def qN (r : Fin 4096) (H : Fin 16) : Fin 64 → EReal := rot (r.val % 2048) (hnrm (x.qRow r H) x.gqR)
def kN (r : Fin 4096) (k : Fin 4) : Fin 64 → EReal := rot (r.val % 2048) (hnrm (x.kRow r k) x.gkR)

/-- The scores, and the cotangent against the values. -/
def scS (t : Fin 32) (k r : Fin 4) (i : Fin 128) (j : Fin 256) : EReal :=
  if sees (t.val % 16) j i = 1#1 then ∑ d, bandA x.kN t j k d * (x.qN (rowA t i) (qh k r) d * eighth) else ⊥
def scD (t : Fin 32) (k r : Fin 4) (i : Fin 128) (j : Fin 256) : EReal := ∑ d, bandA x.vRow t j k d * x.ctRow (rowA t i) (qh k r) d

/-- The probabilities, the gradients of the scores, and the sink's share. -/
def P (t : Fin 32) (k r : Fin 4) (i : Fin 128) (j : Fin 256) : EReal := sP (x.scS t k r i) (x.skH (qh k r)) j
def G (t : Fin 32) (k r : Fin 4) (i : Fin 128) (j : Fin 256) : EReal := sG (x.scS t k r i) (x.scD t k r i) (x.skH (qh k r)) j
def L (t : Fin 32) (k r : Fin 4) (i : Fin 128) : EReal := sL (x.scS t k r i) (x.scD t k r i) (x.skH (qh k r))

/-- The gradients of the rotated queries and of a band's keys and values. -/
def dQ (t : Fin 32) (i : Fin 128) (k r : Fin 4) (d : Fin 64) : EReal := (∑ j, x.G t k r i j * bandA x.kN t j k d) * eighth
def dK (t : Fin 32) (j : Fin 256) (k : Fin 4) (d : Fin 64) : EReal := ∑ r, ∑ i, x.G t k r i j * (x.qN (rowA t i) (qh k r) d * eighth)
def dV (t : Fin 32) (j : Fin 256) (k : Fin 4) (d : Fin 64) : EReal := ∑ r, ∑ i, x.P t k r i j * x.ctRow (rowA t i) (qh k r) d

/-- The queries' gradient turned back. -/
def back (r : Fin 4096) (H : Fin 16) : Fin 64 → EReal := unrot (r.val % 2048) (x.dQ (tOf r) (iOf r) (kOf H) (rOf H))

/-- The results. -/
def dqArr (j : (⟨2, ![4096, 1024]⟩ : Shape).Idx) : EReal :=
  hdnrm (x.qRow (j 0) (hd (H := 16) (by decide) (j 1))) x.gqR (x.back (j 0) (hd (H := 16) (by decide) (j 1))) (pl (j 1))
/-- A band's own rows and the rows of the block before, of a gradient over bands. -/
def ownArr (f : Fin 32 → Fin 256 → Fin 4 → Fin 64 → EReal) (j : (⟨2, ![4096, 256]⟩ : Shape).Idx) : EReal :=
  f (tOf (j 0)) ⟨128 + (iOf (j 0)).val, by omega⟩ (hd (H := 4) (by decide) (j 1)) (pl (j 1))
def prevArr (f : Fin 32 → Fin 256 → Fin 4 → Fin 64 → EReal) (j : (⟨2, ![4096, 256]⟩ : Shape).Idx) : EReal :=
  f (tOf (j 0)) ⟨(iOf (j 0)).val, by omega⟩ (hd (H := 4) (by decide) (j 1)) (pl (j 1))
def dgHead (H : Fin 16) (d : Fin 64) : EReal := ∑ r, x.back r H d * (x.qRow r H d * hr (x.qRow r H))
def dsHead (H : Fin 16) : EReal := ∑ i : Fin 128, ∑ t : Fin 32, -x.L t (kOf H) (rOf H) i

/-- Every argument a real number. -/
structure Fin' : Prop where
  ct : ∀ j, IsReal (x.ct j)
  q : ∀ j, IsReal (x.q j)
  k : ∀ j, IsReal (x.k j)
  v : ∀ j, IsReal (x.v j)
  gq : ∀ j, IsReal (x.gq j)
  gk : ∀ j, IsReal (x.gk j)
  sk : ∀ j, IsReal (x.sk j)

variable {x} (h : x.Fin')
include h

theorem qN_real (r H d) : IsReal (x.qN r H d) := rot_real _ (fun d => ((h.q _).mul (hr_real fun d => h.q _)).mul (h.gq _)) d
theorem kN_real (r k d) : IsReal (x.kN r k d) := rot_real _ (fun d => ((h.k _).mul (hr_real fun d => h.k _)).mul (h.gk _)) d

omit h in
theorem band_real {f : Fin 4096 → Fin 4 → Fin 64 → EReal} (hf : ∀ r k d, IsReal (f r k d)) (t j k d) : IsReal (bandA f t j k d) := by
  unfold bandA
  split_ifs
  · exact hf _ _ _
  · exact real_zero
  · exact hf _ _ _

omit h in
theorem eighth_eq : eighth = ((1 / 8 : ℝ) : EReal) := by
  simp [Ideal.ofBits, Ideal.ieee]; rw [← EReal.coe_mul]; norm_num
omit h in
theorem eighth_real : IsReal eighth := ⟨_, eighth_eq⟩

theorem scS_real (t k r i j) : x.scS t k r i j = ⊥ ∨ IsReal (x.scS t k r i j) := by
  unfold scS
  split_ifs
  · exact Or.inr (IsReal.sum _ _ fun d => (band_real (kN_real h) ..).mul ((qN_real h ..).mul eighth_real))
  · exact Or.inl rfl
theorem scD_real (t k r i j) : IsReal (x.scD t k r i j) := IsReal.sum _ _ fun d => (band_real (fun r k d => h.v _) ..).mul (h.ct _)
theorem skH_real (H) : IsReal (x.skH H) := h.sk _

theorem P_real (t k r i j) : IsReal (x.P t k r i j) := by
  obtain ⟨e, p', z, Z, -, -, -, -, -, hP, -, -⟩ := soft_eq (scS_real h t k r i) (skH_real h (qh k r)) (scD_real h t k r i)
  exact ⟨_, hP j⟩
theorem G_real (t k r i j) : IsReal (x.G t k r i j) := by
  obtain ⟨e, p', z, Z, -, -, -, -, -, -, hG, -⟩ := soft_eq (scS_real h t k r i) (skH_real h (qh k r)) (scD_real h t k r i)
  exact ⟨_, hG j⟩
theorem L_real (t k r i) : IsReal (x.L t k r i) := by
  obtain ⟨e, p', z, Z, -, -, -, -, -, -, -, hL⟩ := soft_eq (scS_real h t k r i) (skH_real h (qh k r)) (scD_real h t k r i)
  exact ⟨_, hL⟩
theorem dQ_real (t i k r d) : IsReal (x.dQ t i k r d) := (IsReal.sum _ _ fun j => (G_real h ..).mul (band_real (kN_real h) ..)).mul eighth_real
theorem back_real (r H d) : IsReal (x.back r H d) := unrot_real _ (fun d => dQ_real h ..) d
end In
end Cert.Attn
-- ==== Proof.AttnStep.lean ====
module

public import proofs.«01_k».proof.Proof.AttnCarry
public import proofs.«01_k».proof.Proof.AttnSpec
public import proofs.«01_k».proof.Proof.Tables
public import Idealize.ShloMosaic.Lib.Pipeline.ValueKit
public import Idealize.ShloMosaic.Lib.Pointwise

/-!
A grid step's blocks as rows of the argument arrays, and its gradients as the arrays' gradients.
-/

@[expose] public section

set_option maxRecDepth 65536
noncomputable section

open Idealize.ShloMosaic Idealize.ShloMosaic.TcCoe Idealize.SL.Sem
open Cert.Heads Cert.Finite Cert.Tables

namespace Cert.Attn
open Cert.AttnBwdIdeal Cert.AttnBwdIdeal.Gen

variable (m : (ℓ : Loc nD τ sig) → Buf (Elt Ideal) ℓ) (c : Dev nD)

theorem idx : ∀ t : Fin cfg0.N, win0_0.index t = ![0] ∧ win0_1.index t = ![t.val, 0] ∧ win0_2.index t = ![t.val, 0]
    ∧ win0_3.index t = ![t.val, 0] ∧ win0_4.index t = ![t.val, 0] ∧ win0_5.index t = ![0, 0] ∧ win0_6.index t = ![0, 0]
    ∧ win0_7.index t = ![t.val % 16, 0] ∧ win0_8.index t = ![t.val % 16, 0] ∧ win0_9.index t = ![0, 0] ∧ win0_10.index t = ![0, 0]
    ∧ win0_11.index t = ![0, 0] ∧ win0_12.index t = ![0, 0] ∧ win0_13.index t = ![t.val, 0] ∧ win0_14.index t = ![t.val, 0]
    ∧ win0_15.index t = ![t.val, 0] ∧ win0_16.index t = ![t.val, 0] ∧ win0_17.index t = ![t.val, 0] ∧ win0_18.index t = ![0, 0] ∧ win0_19.index t = ![0, 0] :=
  (by decide +kernel : ∀ t : Fin grid0.N, _)

theorem coord : ∀ t : Fin cfg0.N, (grid0.coords t 1).val = t.val % 16 := (by decide +kernel : ∀ t : Fin grid0.N, _)

/-- A grid step's number, as a block of the arrays. -/
def tt (t : Fin cfg0.N) : Fin 32 := ⟨t.val, lt_of_lt_of_eq t.isLt N_0⟩

/-- The arguments as arrays. -/
def IN : In where
  ct := m ((c : Thread nD τ).loc main_arg0)
  q := m ((c : Thread nD τ).loc main_arg1)
  k := m ((c : Thread nD τ).loc main_arg2)
  v := m ((c : Thread nD τ).loc main_arg3)
  gq := m ((c : Thread nD τ).loc main_arg4)
  gk := m ((c : Thread nD τ).loc main_arg5)
  sk := m ((c : Thread nD τ).loc main_arg6)

section blocks
variable (t : Fin cfg0.N) (i : Fin 128)

theorem ct_blk (l : Fin 1024) : iblk m c 1 t (ix2 i l) = (m ((c : Thread nD τ).loc main_arg0)) (ix2 (rowA (tt t) i) l) := by unfold rowA tt; blk_point [iblk, V, idx t]
theorem q_blk (l : Fin 1024) : iblk m c 2 t (ix2 i l) = (m ((c : Thread nD τ).loc main_arg1)) (ix2 (rowA (tt t) i) l) := by unfold rowA tt; blk_point [iblk, V, idx t]
theorem k_blk (l : Fin 256) : iblk m c 3 t (ix2 i l) = (m ((c : Thread nD τ).loc main_arg2)) (ix2 (rowA (tt t) i) l) := by unfold rowA tt; blk_point [iblk, V, idx t]
theorem v_blk (l : Fin 256) : iblk m c 4 t (ix2 i l) = (m ((c : Thread nD τ).loc main_arg3)) (ix2 (rowA (tt t) i) l) := by unfold rowA tt; blk_point [iblk, V, idx t]

theorem V_cos : (V m c main_v21 : FVec Ideal S2048x128 .f32) = cosT := by show StableHlo.after hostOps0 (fun b => m (c, b)) (Proc.devRef .tc main_v21) = _; after_results; try rfl
theorem V_sin : (V m c main_v26 : FVec Ideal S2048x128 .f32) = sinT := by show StableHlo.after hostOps0 (fun b => m (c, b)) (Proc.devRef .tc main_v26) = _; after_results; try rfl
theorem V_indq : (V m c main_v36 : FVec Ideal S1024x128 .bf16) = truncf .bf16 (indT 16 1024 bcast_S16x128_S16x1x128_0_2 bcast_S16x1x128_S16x64x128_0_1_2 bcast_S_S16x128 shapeCasts_S16x64x128_S1024x128) bitsLt_bf16_f32 := by
  show StableHlo.after hostOps0 (fun b => m (c, b)) (Proc.devRef .tc main_v36) = _; after_results; try rfl
theorem V_indqt : (V m c main_v38 : FVec Ideal S128x1024 .bf16) = truncf .bf16 (transpose S128x1024 [1, 0] (indT 16 1024 bcast_S16x128_S16x1x128_0_2 bcast_S16x1x128_S16x64x128_0_1_2 bcast_S_S16x128 shapeCasts_S16x64x128_S1024x128) transposes_S1024x128_S128x1024_1_0) bitsLt_bf16_f32 := by
  show StableHlo.after hostOps0 (fun b => m (c, b)) (Proc.devRef .tc main_v38) = _; after_results; try rfl
theorem V_indk : (V m c main_v48 : FVec Ideal S256x128 .bf16) = truncf .bf16 (indT 4 256 bcast_S4x128_S4x1x128_0_2 bcast_S4x1x128_S4x64x128_0_1_2 bcast_S_S4x128 shapeCasts_S4x64x128_S256x128) bitsLt_bf16_f32 := by
  show StableHlo.after hostOps0 (fun b => m (c, b)) (Proc.devRef .tc main_v48) = _; after_results; try rfl
theorem V_indkt : (V m c main_v50 : FVec Ideal S128x256 .bf16) = truncf .bf16 (transpose S128x256 [1, 0] (indT 4 256 bcast_S4x128_S4x1x128_0_2 bcast_S4x1x128_S4x64x128_0_1_2 bcast_S_S4x128 shapeCasts_S4x64x128_S256x128) transposes_S256x128_S128x256_1_0) bitsLt_bf16_f32 := by
  show StableHlo.after hostOps0 (fun b => m (c, b)) (Proc.devRef .tc main_v50) = _; after_results; try rfl
theorem V_gainq : (V m c main_v53 : FVec Ideal S1x1024 .f32) = shapeCast S1x1024 (broadcastInDim S1x1x16x64 ![0, 1, 2, 3] bcast_S1x1x1x64_S1x1x16x64_0_1_2_3 (shapeCast S1x1x1x64 ((m ((c : Thread nD τ).loc main_arg4)) : FVec Ideal S1x64 .f32) shapeCasts_S1x64_S1x1x1x64)) shapeCasts_S1x1x16x64_S1x1024 := by
  show StableHlo.after hostOps0 (fun b => m (c, b)) (Proc.devRef .tc main_v53) = _; after_results; try rfl
theorem V_gaink : (V m c main_v56 : FVec Ideal S1x256 .f32) = shapeCast S1x256 (broadcastInDim S1x1x4x64 ![0, 1, 2, 3] bcast_S1x1x1x64_S1x1x4x64_0_1_2_3 (shapeCast S1x1x1x64 ((m ((c : Thread nD τ).loc main_arg5)) : FVec Ideal S1x64 .f32) shapeCasts_S1x64_S1x1x1x64)) shapeCasts_S1x1x4x64_S1x256 := by
  show StableHlo.after hostOps0 (fun b => m (c, b)) (Proc.devRef .tc main_v56) = _; after_results; try rfl
theorem V_sink : (V m c main_v57 : FVec Ideal S16 .f32) = shapeCast S16 ((m ((c : Thread nD τ).loc main_arg6)) : FVec Ideal S1x16 .f32) shapeCasts_S1x16_S16 := by
  show StableHlo.after hostOps0 (fun b => m (c, b)) (Proc.devRef .tc main_v57) = _; after_results; try rfl

/-- A row's position in its sequence. -/
def pos (t : Fin cfg0.N) (i : Fin 128) : ℕ := t.val % 16 * 128 + i.val
theorem row_pos : (rowA (tt t) i).val % 2048 = pos t i := by
  simp only [rowA, tt, pos]; omega

theorem cos_blk (l : Fin 128) : iblk m c 7 t (ix2 i l) = cs (pos t i) ⟨l.val % 32, by omega⟩ := by
  refine Eq.trans ?_ (cosT_at ⟨pos t i, by unfold pos; omega⟩ l)
  rw [← V_cos m c]
  unfold pos
  blk_ext [iblk, idx t]
theorem sin_blk (l : Fin 128) : iblk m c 8 t (ix2 i l) = if l.val % 64 < 32 then -sn (pos t i) ⟨l.val % 32, by omega⟩ else sn (pos t i) ⟨l.val % 32, by omega⟩ := by
  refine Eq.trans ?_ (sinT_at ⟨pos t i, by unfold pos; omega⟩ l)
  rw [← V_sin m c]
  unfold pos
  blk_ext [iblk, idx t]

theorem indq_blk (l : Fin 1024) (j : Fin 128) : iblk m c 9 t (ix2 l j) = (if l.val / 64 = j.val then 1 else 0 : EReal) := by
  refine Eq.trans ?_ (ind16_at bcast_S16x128_S16x1x128_0_2 bcast_S16x1x128_S16x64x128_0_1_2 bcast_S_S16x128 shapeCasts_S16x64x128_S1024x128 l j)
  refine Eq.trans ?_ (congrFun (V_indq m c) (ix2 l j))
  blk_ext [iblk, idx t]
theorem indqt_blk (l : Fin 1024) (j : Fin 128) : iblk m c 10 t (ix2 j l) = (if l.val / 64 = j.val then 1 else 0 : EReal) := by
  refine Eq.trans ?_ (ind16_at bcast_S16x128_S16x1x128_0_2 bcast_S16x1x128_S16x64x128_0_1_2 bcast_S_S16x128 shapeCasts_S16x64x128_S1024x128 l j)
  generalize hI : indT 16 1024 bcast_S16x128_S16x1x128_0_2 bcast_S16x1x128_S16x64x128_0_1_2 bcast_S_S16x128 shapeCasts_S16x64x128_S1024x128 = I
  have e := congrFun (V_indqt m c) (ix2 j l)
  rw [hI] at e
  refine Eq.trans (Eq.trans ?_ e) (by pointwise)
  blk_ext [iblk, idx t]
theorem indk_blk (l : Fin 256) (j : Fin 128) : iblk m c 11 t (ix2 l j) = (if l.val / 64 = j.val then 1 else 0 : EReal) := by
  refine Eq.trans ?_ (ind4_at bcast_S4x128_S4x1x128_0_2 bcast_S4x1x128_S4x64x128_0_1_2 bcast_S_S4x128 shapeCasts_S4x64x128_S256x128 l j)
  refine Eq.trans ?_ (congrFun (V_indk m c) (ix2 l j))
  blk_ext [iblk, idx t]
theorem indkt_blk (l : Fin 256) (j : Fin 128) : iblk m c 12 t (ix2 j l) = (if l.val / 64 = j.val then 1 else 0 : EReal) := by
  refine Eq.trans ?_ (ind4_at bcast_S4x128_S4x1x128_0_2 bcast_S4x1x128_S4x64x128_0_1_2 bcast_S_S4x128 shapeCasts_S4x64x128_S256x128 l j)
  generalize hI : indT 4 256 bcast_S4x128_S4x1x128_0_2 bcast_S4x1x128_S4x64x128_0_1_2 bcast_S_S4x128 shapeCasts_S4x64x128_S256x128 = I
  have e := congrFun (V_indkt m c) (ix2 j l)
  rw [hI] at e
  refine Eq.trans (Eq.trans ?_ e) (by pointwise)
  blk_ext [iblk, idx t]

theorem gq_blk (h : Fin 16) (d : Fin 64) : iblk m c 5 t (ix2 0 (lane (by decide) h d)) = (IN m c).gqR d := by
  have e : ∀ g : FVec Ideal S1x64 .f32, (shapeCast S1x1024 (broadcastInDim S1x1x16x64 ![0, 1, 2, 3] bcast_S1x1x1x64_S1x1x16x64_0_1_2_3 (shapeCast S1x1x1x64 g shapeCasts_S1x64_S1x1x1x64)) shapeCasts_S1x1x16x64_S1x1024 : FVec Ideal S1x1024 .f32) (ix2 0 (lane (by decide) h d)) = g (ix2 0 d) := by
    intro g
    pointwise [lane]
  refine Eq.trans ?_ (e _)
  refine Eq.trans ?_ (congrFun (V_gainq m c) (ix2 0 (lane (by decide) h d)))
  blk_ext [iblk, idx t]
theorem gk_blk (h : Fin 4) (d : Fin 64) : iblk m c 6 t (ix2 0 (lane (by decide) h d)) = (IN m c).gkR d := by
  have e : ∀ g : FVec Ideal S1x64 .f32, (shapeCast S1x256 (broadcastInDim S1x1x4x64 ![0, 1, 2, 3] bcast_S1x1x1x64_S1x1x4x64_0_1_2_3 (shapeCast S1x1x1x64 g shapeCasts_S1x64_S1x1x1x64)) shapeCasts_S1x1x4x64_S1x256 : FVec Ideal S1x256 .f32) (ix2 0 (lane (by decide) h d)) = g (ix2 0 d) := by
    intro g
    pointwise [lane]
  refine Eq.trans ?_ (e _)
  refine Eq.trans ?_ (congrFun (V_gaink m c) (ix2 0 (lane (by decide) h d)))
  blk_ext [iblk, idx t]
theorem sk_blk (h : Fin 16) : iblk m c 0 t (ix1 h) = (IN m c).skH h := by
  have e : ∀ g : FVec Ideal S1x16 .f32, (shapeCast S16 g shapeCasts_S1x16_S16 : FVec Ideal S16 .f32) (ix1 h) = g (ix2 0 h) := by
    intro g
    pointwise
  refine Eq.trans ?_ (e _)
  refine Eq.trans ?_ (congrFun (V_sink m c) (ix1 h))
  blk_ext [iblk, idx t]

theorem emb13 (l : Fin 1024) (f : (⟨2, ![4096, 1024]⟩ : Shape).Idx → EReal) : f ((win0_13.blk t).view.emb (ix2 i l)) = f (ix2 (rowA (tt t) i) l) := by
  unfold rowA tt; blk_ext [idx t]
theorem emb14 (l : Fin 256) (f : (⟨2, ![4096, 256]⟩ : Shape).Idx → EReal) : f ((win0_14.blk t).view.emb (ix2 i l)) = f (ix2 (rowA (tt t) i) l) := by
  unfold rowA tt; blk_ext [idx t]
theorem emb15 (l : Fin 256) (f : (⟨2, ![4096, 256]⟩ : Shape).Idx → EReal) : f ((win0_15.blk t).view.emb (ix2 i l)) = f (ix2 (rowA (tt t) i) l) := by
  unfold rowA tt; blk_ext [idx t]
theorem emb16 (l : Fin 256) (f : (⟨2, ![4096, 256]⟩ : Shape).Idx → EReal) : f ((win0_16.blk t).view.emb (ix2 i l)) = f (ix2 (rowA (tt t) i) l) := by
  unfold rowA tt; blk_ext [idx t]
theorem emb17 (l : Fin 256) (f : (⟨2, ![4096, 256]⟩ : Shape).Idx → EReal) : f ((win0_17.blk t).view.emb (ix2 i l)) = f (ix2 (rowA (tt t) i) l) := by
  unfold rowA tt; blk_ext [idx t]
end blocks
end Cert.Attn
-- ==== Proof.AttnFin.lean ====
module

public import proofs.«01_k».proof.Proof.AttnStep

/-!
The results of the kernel: every block written is the arrays' gradient there.
-/

@[expose] public section

set_option maxRecDepth 65536
noncomputable section

open Idealize.ShloMosaic Idealize.ShloMosaic.TcCoe Idealize.SL.Sem
open Cert.Heads Cert.Finite Cert.Tables

namespace Cert.Attn
open Cert.AttnBwdIdeal Cert.AttnBwdIdeal.Gen

section mask
/-- The visible keys, the test of the block's number apart. -/
def visW (w : BitVec 1) (j : Fin 256) (q : Fin 128) : BitVec 1 :=
  IntOp.andi (IntOp.andi (IntOp.cmpi .sge (IntOp.subi (IntOp.addi 128#32 (BitVec.ofNat 32 q.val)) (BitVec.ofNat 32 j.val)) 0#32)
    (IntOp.cmpi .slt (IntOp.subi (IntOp.addi 128#32 (BitVec.ofNat 32 q.val)) (BitVec.ofNat 32 j.val)) 128#32))
    (IntOp.ori (IntOp.cmpi .sge (BitVec.ofNat 32 j.val) 128#32) w)

theorem visW_eq : ∀ (j : Fin 256) (q : Fin 128), visW 0#1 j q = sees 0 j q ∧ visW 1#1 j q = sees 1 j q := by decide +kernel

theorem num_eq : ∀ n : Fin 16, Scalar.cmpi .sgt (Scalar.addi (Scalar.muli (BitVec.ofNat 32 n.val) 1#32) 0#32) 0#32 = if 0 < n.val then 1#1 else 0#1 := by decide +kernel

theorem sees_pos {n : ℕ} (h : 0 < n) (j q) : sees n j q = sees 1 j q := by simp [sees, h]

theorem vis_eq (n : Fin 16) (j : Fin 256) (q : Fin 128) : vis (Scalar.addi (Scalar.muli (BitVec.ofNat 32 n.val) 1#32) 0#32) j q = sees n.val j q := by
  show visW (Scalar.cmpi .sgt (Scalar.addi (Scalar.muli (BitVec.ofNat 32 n.val) 1#32) 0#32) 0#32) j q = _
  rw [num_eq]
  by_cases h : 0 < n.val
  · rw [if_pos h, (visW_eq j q).2, sees_pos h]
  · rw [if_neg h, (visW_eq j q).1, show n.val = 0 by omega]
end mask

variable (m : (ℓ : Loc nD τ sig) → Buf (Elt Ideal) ℓ) (c : Dev nD)

/-- The step's loads and its band, in every case. -/
def stp (t : Fin cfg0.N) : Blk := if t.val % 16 = 0 then blkA m c t else blkB m c t

section step
variable (t : Fin cfg0.N) (i : Fin 128) (H : Fin 16) (k r : Fin 4) (d : Fin 64) (j : Fin 256)

theorem stp_of : ∃ kc vc, stp m c t = blkOf m c t kc vc := by
  unfold stp
  split_ifs
  · exact ⟨_, _, rfl⟩
  · exact ⟨_, _, rfl⟩

theorem stp_iq (l j) : (stp m c t).iq (ix2 l j) = (if l.val / 64 = j.val then 1 else 0 : EReal) := by
  obtain ⟨kc, vc, e⟩ := stp_of m c t
  rw [e]
  exact (congrFun (lo2_eq (hs0_9 t) (iblk m c 9 t) _) _).trans (indq_blk m c t l j)
theorem stp_iqt (j l) : (stp m c t).iqt (ix2 j l) = (if l.val / 64 = j.val then 1 else 0 : EReal) := by
  obtain ⟨kc, vc, e⟩ := stp_of m c t
  rw [e]
  exact (congrFun (lo2_eq (hs0_10 t) (iblk m c 10 t) _) _).trans (indqt_blk m c t l j)
theorem stp_cs (r l) : (stp m c t).cs (ix2 r l) = cs (pos t r) ⟨l.val % 32, by omega⟩ := by
  obtain ⟨kc, vc, e⟩ := stp_of m c t
  rw [e]
  exact (congrFun (lo2_eq (hs0_7 t) (iblk m c 7 t) _) _).trans (cos_blk m c t r l)
theorem stp_sn (r l) : (stp m c t).sn (ix2 r l) = if l.val % 64 < 32 then -sn (pos t r) ⟨l.val % 32, by omega⟩ else sn (pos t r) ⟨l.val % 32, by omega⟩ := by
  obtain ⟨kc, vc, e⟩ := stp_of m c t
  rw [e]
  exact (congrFun (lo2_eq (hs0_8 t) (iblk m c 8 t) _) _).trans (sin_blk m c t r l)
theorem stp_q (l) : (stp m c t).q (ix2 i l) = (IN m c).q (ix2 (rowA (tt t) i) l) := by
  obtain ⟨kc, vc, e⟩ := stp_of m c t
  rw [e]
  exact (congrFun (lo2_eq (hs0_2 t) (iblk m c 2 t) _) _).trans (q_blk m c t i l)
theorem stp_d : hq (stp m c t).d i H = (IN m c).ctRow (rowA (tt t) i) H := by
  obtain ⟨kc, vc, e⟩ := stp_of m c t
  rw [e]
  funext d
  exact (congrFun (lo2_eq (hs0_1 t) (iblk m c 1 t) _) _).trans (ct_blk m c t i _)
theorem stp_qrow : hq (stp m c t).q i H = (IN m c).qRow (rowA (tt t) i) H := funext fun d => stp_q m c t i _
theorem stp_g : hg (stp m c t) H = (IN m c).gqR := by
  obtain ⟨kc, vc, e⟩ := stp_of m c t
  rw [e]
  funext d
  exact (congrFun (lo2_eq (hs0_5 t) (iblk m c 5 t) _) _).trans (gq_blk m c t H d)
theorem stp_sk : (stp m c t).sk H = (IN m c).skH H := by
  obtain ⟨kc, vc, e⟩ := stp_of m c t
  rw [e]
  refine (Memref.IsWhole.readAt_unread (Val := Elt Ideal) (hs0_0 t) (iblk m c 0 t) _ _).trans (Eq.trans (congrArg (iblk m c 0 t) (funext fun a => Fin.ext ?_)) (sk_blk m c t H))
  fin_cases a
  show H.val + 1 * 0 = H.val
  omega
theorem stp_n (j i) : vis (stp m c t).n j i = sees (t.val % 16) j i := by
  obtain ⟨kc, vc, e⟩ := stp_of m c t
  rw [e]
  show vis (Scalar.addi (Scalar.muli (BitVec.ofNat 32 ((grid0.coords t) 1).val) 1#32) 0#32) j i = _
  rw [coord t]
  exact vis_eq ⟨t.val % 16, by omega⟩ j i

variable (h : (IN m c).Fin')
include h

theorem own_key : krT m c t (ix2 i (lane (by decide) k d)) = (IN m c).kN (rowA (tt t) i) k d := by
  unfold krT
  simp only [lo2_eq]
  refine (kr_at (iblk m c 7 t) (iblk m c 8 t) (iblk m c 3 t) (iblk m c 6 t) (iblk m c 11 t) (iblk m c 12 t) (pos t) (fun l j => indk_blk m c t l j) (fun j l => indkt_blk m c t l j)
    (fun r l => cos_blk m c t r l) (fun r l => sin_blk m c t r l) (fun j => ?_) i k d).trans ?_
  · idx_vars j
    rw [k_blk]
    exact h.k _
  · have e1 : kx (iblk m c 3 t) i k = (IN m c).kRow (rowA (tt t) i) k := funext fun d => k_blk m c t i _
    have e2 : kg (iblk m c 6 t) k = (IN m c).gkR := funext fun d => gk_blk m c t k d
    rw [e1, e2, In.kN, row_pos]

omit h in
theorem own_value : vT m c t (ix2 i (lane (by decide) k d)) = (IN m c).vRow (rowA (tt t) i) k d :=
  (congrFun (lo2_eq (hs0_4 t) (iblk m c 4 t) _) _).trans (v_blk m c t i _)

omit h in
theorem key_cases (j : Fin 256) : (∃ i, j = keyB i) ∨ ∃ i, j = keyO i := by
  by_cases hj : j.val < 128
  · exact Or.inl ⟨⟨j.val, hj⟩, rfl⟩
  · exact Or.inr ⟨⟨j.val - 128, by omega⟩, Fin.ext (by simp only [keyO]; omega)⟩

omit h in
theorem bandA_own (f : Fin 4096 → Fin 4 → Fin 64 → EReal) (T : Fin 32) : bandA f T (keyO i) k d = f (rowA T i) k d := by
  unfold bandA
  rw [dif_pos (by simp only [keyO]; omega)]
  exact congrArg (fun r => f r k d) (Fin.ext (by simp only [rowA, keyO]; omega))
omit h in
theorem bandA_start (f : Fin 4096 → Fin 4 → Fin 64 → EReal) (T : Fin 32) (hT : T.val % 16 = 0) : bandA f T (keyB i) k d = 0 := by
  unfold bandA
  rw [dif_neg (by simp only [keyB]; omega), if_pos hT]
omit h in
theorem bandA_prev (f : Fin 4096 → Fin 4 → Fin 64 → EReal) (T : Fin 32) (hT : ¬T.val % 16 = 0) : bandA f T (keyB i) k d = f (rowA ⟨T.val - 1, by omega⟩ i) k d := by
  unfold bandA
  rw [dif_neg (by simp only [keyB]; omega), if_neg hT]
  rfl

omit h in
theorem blkOf_bands (kc vc : T S256x256 .f32) : (blkOf m c t kc vc).kc = kc ∧ (blkOf m c t kc vc).vc = vc := ⟨rfl, rfl⟩
omit h in
theorem band_A : (blkA m c t).kc = band0 scM0_0 (krT m c t) ∧ (blkA m c t).vc = band0 scM0_1 (vT m c t) := by
  unfold blkA
  exact blkOf_bands ..
omit h in
theorem band_B : (blkB m c t).kc = band scM0_0 (Memref.isWhole_whole _) (outsAt0 m c (t.val - 1) before).2.2.2.2.2.2.2.1 (krT m c t)
    ∧ (blkB m c t).vc = band scM0_1 (Memref.isWhole_whole _) (outsAt0 m c (t.val - 1) before).2.2.2.2.2.2.2.2 (vT m c t) := by
  unfold blkB
  exact blkOf_bands ..

theorem stp_kc : hk (stp m c t).kc j k d = bandA (IN m c).kN (tt t) j k d := by
  unfold stp hk
  rcases key_cases j with ⟨i, rfl⟩ | ⟨i, rfl⟩
  · split_ifs with h0
    · rw [(band_A m c t).1]; exact (band0_old ..).trans (bandA_start i k d _ (tt t) h0).symm
    · rw [(band_B m c t).1]; exact (band_old ..).trans ((keys_left m c ⟨t.val - 1, before⟩ i _).trans ((own_key m c ⟨t.val - 1, before⟩ i k d h).trans (bandA_prev i k d _ (tt t) h0).symm))
  · split_ifs with h0
    · rw [(band_A m c t).1]; exact (band0_own ..).trans ((own_key m c t i k d h).trans (bandA_own i k d _ (tt t)).symm)
    · rw [(band_B m c t).1]; exact (band_own ..).trans ((own_key m c t i k d h).trans (bandA_own i k d _ (tt t)).symm)

omit h in
theorem stp_vc : hk (stp m c t).vc j k d = bandA (IN m c).vRow (tt t) j k d := by
  unfold stp hk
  rcases key_cases j with ⟨i, rfl⟩ | ⟨i, rfl⟩
  · split_ifs with h0
    · rw [(band_A m c t).2]; exact (band0_old ..).trans (bandA_start i k d _ (tt t) h0).symm
    · rw [(band_B m c t).2]; exact (band_old ..).trans ((values_left m c ⟨t.val - 1, before⟩ i _).trans ((own_value m c ⟨t.val - 1, before⟩ i k d).trans (bandA_prev i k d _ (tt t) h0).symm))
  · split_ifs with h0
    · rw [(band_A m c t).2]; exact (band0_own ..).trans ((own_value m c t i k d).trans (bandA_own i k d _ (tt t)).symm)
    · rw [(band_B m c t).2]; exact (band_own ..).trans ((own_value m c t i k d).trans (bandA_own i k d _ (tt t)).symm)

theorem q_real (j) : IsReal ((stp m c t).q j) := by
  idx_vars j
  rw [stp_q]
  exact h.q _

theorem stp_Q : Q (stp m c t) i H d = (IN m c).qN (rowA (tt t) i) H d * eighth := by
  unfold Q
  rw [qr_at (stp m c t) (pos t) (stp_iq m c t) (stp_iqt m c t) (stp_cs m c t) (stp_sn m c t) (q_real m c t h) i H d, stp_qrow, stp_g, In.qN, row_pos]

theorem stp_S : sS' (stp m c t) k r i = (IN m c).scS (tt t) k r i := by
  funext j
  unfold sS' In.scS
  rw [stp_n]
  refine congrArg (fun z => if sees (t.val % 16) j i = 1#1 then z else ⊥) (Finset.sum_congr rfl fun d _ => ?_)
  rw [stp_kc m c t k d j h, stp_Q m c t i (qh k r) d h]
omit h in
theorem stp_D : sD' (stp m c t) k r i = (IN m c).scD (tt t) k r i := by
  funext j
  unfold sD' In.scD
  refine Finset.sum_congr rfl fun d _ => ?_
  rw [stp_vc m c t k d j, stp_d]

theorem stp_P : bP (stp m c t) k r i j = (IN m c).P (tt t) k r i j := by
  unfold bP In.P
  rw [stp_S m c t i k r h, stp_sk]
theorem stp_G : bG (stp m c t) k r i j = (IN m c).G (tt t) k r i j := by
  unfold bG In.G
  rw [stp_S m c t i k r h, stp_D m c t i k r, stp_sk]
theorem stp_L : bL (stp m c t) k r i = (IN m c).L (tt t) k r i := by
  unfold bL In.L
  rw [stp_S m c t i k r h, stp_D m c t i k r, stp_sk]

theorem stp_dQ : bDq (stp m c t) i k r d = (IN m c).dQ (tt t) i k r d := by
  unfold bDq In.dQ
  refine congrArg (· * eighth) (Finset.sum_congr rfl fun j _ => ?_)
  rw [stp_G m c t i k r j h, stp_kc m c t k d j h]
theorem stp_dK : bDk (stp m c t) j k d = (IN m c).dK (tt t) j k d := by
  unfold bDk In.dK
  refine Finset.sum_congr rfl fun r _ => Finset.sum_congr rfl fun i _ => ?_
  rw [stp_G m c t i k r j h, stp_Q m c t i (qh k r) d h]
theorem stp_dV : bDv (stp m c t) j k d = (IN m c).dV (tt t) j k d := by
  unfold bDv In.dV
  refine Finset.sum_congr rfl fun r _ => Finset.sum_congr rfl fun i _ => ?_
  rw [stp_P m c t i k r j h, stp_d]

theorem stp_back : hq (dtn (stp m c t)) i H = (IN m c).back (rowA (tt t) i) H := by
  funext d
  rw [dtn_at (stp m c t) (pos t) (stp_cs m c t) (stp_sn m c t) i H d, In.back, row_pos, tOf_row, iOf_row]
  refine congrArg (fun y => unrot (pos t i) y d) (funext fun d => ?_)
  have e := dqr_head (stp m c t) (kOf H) (rOf H) i d
  rw [qh_of] at e
  exact e.trans (stp_dQ m c t i (kOf H) (rOf H) d h)

/-- The step's results as the arrays' rows. -/
theorem res13 (l : Fin 1024) : dq (stp m c t) (ix2 i l) = (IN m c).dqArr (ix2 (rowA (tt t) i) l) := by
  have e := dq_at (stp m c t) (stp_iq m c t) (stp_iqt m c t) (q_real m c t h) i (hd (H := 16) (by decide) l) (pl l)
    (fun d => by rw [stp_g]; exact h.gq _) (fun d => by rw [stp_back m c t i _ h]; exact In.back_real h ..)
  rw [lane_hd] at e
  rw [e, stp_qrow, stp_g, stp_back m c t i _ h]
  rfl
theorem resK (half : Fin 2) (l : Fin 256) : dkh (stp m c t) half (ix2 i l) = (IN m c).dK (tt t) (hrow half i) (hd (H := 4) (by decide) l) (pl l) := by
  have e := dkh_at (b := stp m c t) (h := half) (i := i) (k := hd (H := 4) (by decide) l) (d := pl l)
  rw [lane_hd] at e
  exact e.trans (stp_dK m c t _ _ _ h)
theorem resV (half : Fin 2) (l : Fin 256) : dvh (stp m c t) half (ix2 i l) = (IN m c).dV (tt t) (hrow half i) (hd (H := 4) (by decide) l) (pl l) := by
  have e := dvh_at (b := stp m c t) (h := half) (i := i) (k := hd (H := 4) (by decide) l) (d := pl l)
  rw [lane_hd] at e
  exact e.trans (stp_dV m c t _ _ _ h)
theorem res18 (l : Fin 1024) : dgain (stp m c t) (ix2 0 l) = ∑ i : Fin 128, (IN m c).back (rowA (tt t) i) (hd (H := 16) (by decide) l) (pl l)
    * ((IN m c).qRow (rowA (tt t) i) (hd (H := 16) (by decide) l) (pl l) * hr ((IN m c).qRow (rowA (tt t) i) (hd (H := 16) (by decide) l))) := by
  have e := dgain_at (stp m c t) (stp_iq m c t) (stp_iqt m c t) (q_real m c t h) (hd (H := 16) (by decide) l) (pl l)
  rw [lane_hd] at e
  refine e.trans (Finset.sum_congr rfl fun i _ => ?_)
  rw [stp_back m c t i _ h, stp_qrow]
theorem res19 : pdr (stp m c t) H (ix2 0 i) = (IN m c).L (tt t) (kOf H) (rOf H) i := by
  have e := pdr_at (stp m c t) (kOf H) (rOf H) i
  rw [qh_of] at e
  exact e.trans (stp_L m c t i _ _ h)
end step
end Cert.Attn
-- ==== Proof.AttnOut.lean ====
module

public import proofs.«01_k».proof.Proof.AttnFin
public import Idealize.ShloMosaic.Lib.Claim

/-!
The arrays the kernel leaves: the blocks written once, the two sums over the grid, and the lines after the region.
-/

@[expose] public section

set_option maxRecDepth 65536
noncomputable section

open Idealize.ShloMosaic Idealize.ShloMosaic.TcCoe Idealize.SL.Sem
open Idealize.ShloMosaic.Pipeline (Dat)
open Cert.Heads Cert.Finite Cert.Tables

namespace Cert.Attn
open Cert.AttnBwdIdeal Cert.AttnBwdIdeal.Gen

variable (m : (ℓ : Loc nD τ sig) → Buf (Elt Ideal) ℓ) (c : Dev nD)

theorem stp_A (t : Fin cfg0.N) (h : t.val % 16 = 0) : stp m c t = blkA m c t := if_pos h
theorem stp_B (t : Fin cfg0.N) (h : ¬t.val % 16 = 0) : stp m c t = blkB m c t := if_neg h

/-- The last step. -/
def tEnd : Fin cfg0.N := ⟨31, lt_of_lt_of_eq (by decide) N_0.symm⟩

/-- The three cases of a step. -/
theorem cases3 (t : Fin cfg0.N) {p : Prop} (A : t.val % 32 = 0 → t.val % 16 = 0 → p) (B : ¬t.val % 32 = 0 → ¬t.val % 16 = 0 → p) (C : ¬t.val % 32 = 0 → t.val % 16 = 0 → p) : p := by
  by_cases h0 : t.val % 32 = 0
  · exact A h0 (by omega)
  · by_cases h1 : t.val % 16 = 0
    · exact C h0 h1
    · exact B h0 h1

section rows
variable (x : Blk) (H : Fin 16) (i : Fin 128) {M : Memref sig .tc .vmem S16x128 .f32} (hM : M.IsWhole) (old : T S16x128 .f32)

theorem row_sub (z p : T S1x128 .f32) : subf (shapeCast S1x128 z shapeCasts_S1x128_S1x128) p (ix2 0 i) = z (ix2 0 i) + -p (ix2 0 i) := by
  pointwise
  exact sub_eq_add_neg _ _

/-- A row of the sinks' sums: the piece stored there, whatever order the rows are stored in. -/
theorem rows_at (ks : List (Fin 16)) (h : H ∈ ks) : View.canon (ks.map (row19 hM old x)) (ix2 H i) = old (ix2 H i) + -pdr x H (ix2 0 i) := by
  induction ks with
  | nil => exact absurd h (List.not_mem_nil)
  | cons k ks ih =>
    by_cases e : H = k
    · subst e
      refine (unit_hit (s := S16x128) (ks.map (row19 hM old x)) (ix2 H i) ![H.val, 0] S1x128.size (inb19 H) _ (ix2 0 i) fun a => ?_).trans ((row_sub i _ _).trans (congrArg (· + _) ?_))
      · fin_cases a <;> simp [ix2]
      · refine (Memref.IsWhole.readAt_unread (Val := Elt Ideal) hM old _ _).trans (congrArg old (funext fun a => Fin.ext ?_))
        fin_cases a <;> simp [LoadRect.idx, Rect.toLoadRect, Rect.unit, ix2, r19]
    · refine (unit_miss (s := S16x128) (ks.map (row19 hM old x)) (ix2 H i) ![k.val, 0] S1x128.size (inb19 k) _ 0 ?_).trans (ih ((List.mem_cons.mp h).resolve_left e))
      have : H.val ≠ k.val := fun q => e (Fin.ext q)
      show H.val < k.val ∨ k.val + 1 ≤ H.val
      omega

/-- Rows stored one onto another's list, over zeros. -/
def over (v : View sig .tc .vmem S16x128 .f32) (ks : List (Fin 16)) : List (St S16x128 .f32) :=
  ks.foldr (fun k L => st19 v x k L)
    [⟨Rect.unit (s := S16x128) ![0, 0] S16x128.size inb_S16x128_S16x128_0_0, broadcast S16x128 (Scalar.ofBits (F := Ideal) .f32 0x00000000#32)⟩]

theorem over_at (v : View sig .tc .vmem S16x128 .f32) (ks : List (Fin 16)) (hd : ks.Nodup) (H : Fin 16) :
    View.canon (over x v ks) (ix2 H i) = if H ∈ ks then 0 + -pdr x H (ix2 0 i) else (0 : EReal) := by
  induction ks generalizing H with
  | nil =>
    rw [if_neg (List.not_mem_nil)]
    refine (unit_hit (s := S16x128) _ (ix2 H i) ![0, 0] S16x128.size inb_S16x128_S16x128_0_0 _ (ix2 H i) fun a => ?_).trans (Ideal.ofBits_zero .f32)
    fin_cases a <;> simp [ix2]
  | cons k ks ih =>
    have hk := List.nodup_cons.mp hd
    by_cases e : H = k
    · subst e
      rw [if_pos (List.mem_cons_self)]
      refine (unit_hit (s := S16x128) (over x v ks) (ix2 H i) ![H.val, 0] S1x128.size (inb19 H) _ (ix2 0 i) fun a => ?_).trans ((row_sub i _ _).trans (congrArg (· + _) ?_))
      · fin_cases a <;> simp [ix2]
      · refine (unit_read (s := S16x128) (over x v ks) (ix2 H i) ![H.val, 0] S1x128.size (inb19 H) v (ix2 0 i) fun a => ?_).trans ((ih hk.2 H).trans (if_neg hk.1))
        fin_cases a <;> simp [ix2]
    · refine (unit_miss (s := S16x128) (over x v ks) (ix2 H i) ![k.val, 0] S1x128.size (inb19 k) _ 0 ?_).trans ((ih hk.2 H).trans ?_)
      · have : H.val ≠ k.val := fun q => e (Fin.ext q)
        show H.val < k.val ∨ k.val + 1 ≤ H.val
        omega
      · simp only [List.mem_cons, e, false_or]

theorem rows19_at : View.read (Elt Ideal) VO0_19 (VO0_19.writes (Elt Ideal) VO0_19.junk (rows19 hM old x)) (ix2 H i) = old (ix2 H i) + -pdr x H (ix2 0 i) :=
  (View.read_writes_junk_apply_eq_canon _ _ _).trans (rows_at x H i hM old [15, 14, 13, 12, 11, 10, 9, 8, 7, 6, 5, 4, 3, 2, 1, 0] (by revert H; decide))
theorem first19_at (v : View sig .tc .vmem S16x128 .f32) : View.read (Elt Ideal) VO0_19 (VO0_19.writes (Elt Ideal) VO0_19.junk (first19 v x)) (ix2 H i) = 0 + -pdr x H (ix2 0 i) :=
  (View.read_writes_junk_apply_eq_canon _ _ _).trans ((over_at x i v [15, 14, 13, 12, 11, 10, 9, 8, 7, 6, 5, 4, 3, 2, 1, 0] (by decide) H).trans (if_pos (by revert H; decide)))
end rows

section finals
variable (h : (IN m c).Fin')
include h

omit h in
theorem at13 (t : Fin cfg0.N) : (outsAt0 m c t.val t.isLt).1 = dq (stp m c t) :=
  cases3 t (fun h0 h1 => (at13_A m c t h0 h1).trans (by rw [stp_A m c t h1])) (fun h0 h1 => (at13_B m c t h0 h1).trans (by rw [stp_B m c t h1])) fun h0 h1 => (at13_C m c t h0 h1).trans (by rw [stp_A m c t h1])

omit h in
theorem at14 (t : Fin cfg0.N) : (outsAt0 m c t.val t.isLt).2.1 = dkh (stp m c t) 1 :=
  cases3 t (fun h0 h1 => (at14_A m c t h0 h1).trans (by rw [stp_A m c t h1])) (fun h0 h1 => (at14_B m c t h0 h1).trans (by rw [stp_B m c t h1])) fun h0 h1 => (at14_C m c t h0 h1).trans (by rw [stp_A m c t h1])

omit h in
theorem at15 (t : Fin cfg0.N) : (outsAt0 m c t.val t.isLt).2.2.1 = dkh (stp m c t) 0 :=
  cases3 t (fun h0 h1 => (at15_A m c t h0 h1).trans (by rw [stp_A m c t h1])) (fun h0 h1 => (at15_B m c t h0 h1).trans (by rw [stp_B m c t h1])) fun h0 h1 => (at15_C m c t h0 h1).trans (by rw [stp_A m c t h1])

omit h in
theorem at16 (t : Fin cfg0.N) : (outsAt0 m c t.val t.isLt).2.2.2.1 = dvh (stp m c t) 1 :=
  cases3 t (fun h0 h1 => (at16_A m c t h0 h1).trans (by rw [stp_A m c t h1])) (fun h0 h1 => (at16_B m c t h0 h1).trans (by rw [stp_B m c t h1])) fun h0 h1 => (at16_C m c t h0 h1).trans (by rw [stp_A m c t h1])

omit h in
theorem at17 (t : Fin cfg0.N) : (outsAt0 m c t.val t.isLt).2.2.2.2.1 = dvh (stp m c t) 0 :=
  cases3 t (fun h0 h1 => (at17_A m c t h0 h1).trans (by rw [stp_A m c t h1])) (fun h0 h1 => (at17_B m c t h0 h1).trans (by rw [stp_B m c t h1])) fun h0 h1 => (at17_C m c t h0 h1).trans (by rw [stp_A m c t h1])

omit h m in
theorem own_eq (f : Fin 32 → Fin 256 → Fin 4 → Fin 64 → EReal) (T : Fin 32) (i : Fin 128) (l : Fin 256) (j : Fin 256) (hj : j.val = 128 * 1 + i.val) :
    f T j (hd (H := 4) (by decide) l) (pl l) = In.ownArr f (ix2 (rowA T i) l) := by
  exact congrArg₂ (fun T j => f T j _ _) (tOf_row T i).symm (Fin.ext (by have := congrArg Fin.val (iOf_row T i); show j.val = 128 + (iOf (rowA T i)).val; omega))
omit h m in
theorem prev_eq (f : Fin 32 → Fin 256 → Fin 4 → Fin 64 → EReal) (T : Fin 32) (i : Fin 128) (l : Fin 256) (j : Fin 256) (hj : j.val = 128 * 0 + i.val) :
    f T j (hd (H := 4) (by decide) l) (pl l) = In.prevArr f (ix2 (rowA T i) l) := by
  exact congrArg₂ (fun T j => f T j _ _) (tOf_row T i).symm (Fin.ext (by have := congrArg Fin.val (iOf_row T i); show j.val = (iOf (rowA T i)).val; omega))

theorem final13 : (dats m 0 c).arrAt 13 cfg0.N = (IN m c).dqArr := by
  refine (dats m 0 c).arrAt_eq_of_covers 13 _ (by decide +kernel) fun t _ y => ?_
  blk_simp
  rw [after0_13, at13 m c t]
  idx_vars y
  exact (res13 m c t y0 h y1).trans (emb13 t y0 y1 ((IN m c).dqArr)).symm

theorem final14 : (dats m 0 c).arrAt 14 cfg0.N = In.ownArr (IN m c).dK := by
  refine (dats m 0 c).arrAt_eq_of_covers 14 _ (by decide +kernel) fun t _ y => ?_
  blk_simp
  rw [after0_14, at14 m c t]
  idx_vars y
  exact ((resK m c t y0 h 1 y1).trans (own_eq _ _ _ _ _ rfl)).trans (emb14 t y0 y1 (In.ownArr (IN m c).dK)).symm

theorem final15 : (dats m 0 c).arrAt 15 cfg0.N = In.prevArr (IN m c).dK := by
  refine (dats m 0 c).arrAt_eq_of_covers 15 _ (by decide +kernel) fun t _ y => ?_
  blk_simp
  rw [after0_15, at15 m c t]
  idx_vars y
  exact ((resK m c t y0 h 0 y1).trans (prev_eq _ _ _ _ _ rfl)).trans (emb15 t y0 y1 (In.prevArr (IN m c).dK)).symm

theorem final16 : (dats m 0 c).arrAt 16 cfg0.N = In.ownArr (IN m c).dV := by
  refine (dats m 0 c).arrAt_eq_of_covers 16 _ (by decide +kernel) fun t _ y => ?_
  blk_simp
  rw [after0_16, at16 m c t]
  idx_vars y
  exact ((resV m c t y0 h 1 y1).trans (own_eq _ _ _ _ _ rfl)).trans (emb16 t y0 y1 (In.ownArr (IN m c).dV)).symm

theorem final17 : (dats m 0 c).arrAt 17 cfg0.N = In.prevArr (IN m c).dV := by
  refine (dats m 0 c).arrAt_eq_of_covers 17 _ (by decide +kernel) fun t _ y => ?_
  blk_simp
  rw [after0_17, at17 m c t]
  idx_vars y
  exact ((resV m c t y0 h 0 y1).trans (prev_eq _ _ _ _ _ rfl)).trans (emb17 t y0 y1 (In.prevArr (IN m c).dV)).symm

/-- The part of the gain's gradient a step adds. -/
def dgTile (t : Fin cfg0.N) (H : Fin 16) (d : Fin 64) : EReal :=
  ∑ i : Fin 128, (IN m c).back (rowA (tt t) i) H d * ((IN m c).qRow (rowA (tt t) i) H d * hr ((IN m c).qRow (rowA (tt t) i) H))

omit h m in
theorem add_cast (z w : T S1x1024 .f32) (l : Fin 1024) : addf (shapeCast S1x1024 z shapeCasts_S1x1024_S1x1024) w (ix2 0 l) = z (ix2 0 l) + w (ix2 0 l) := by pointwise

omit h m in
theorem zero18 (v : View sig .tc .vmem S1x1024 .f32) (l : Fin 1024) : View.readCov (Val := Elt Ideal) v [⟨Rect.unit (s := S1x1024) ![0, 0] S1x1024.size inb_S1x1024_S1x1024_0_0, broadcast S1x1024 (Scalar.ofBits (F := Ideal) .f32 0x00000000#32)⟩]
    (Rect.unit (s := S1x1024) ![0, 0] S1x1024.size inb_S1x1024_S1x1024_0_0).toLoadRect (ix2 0 l) = (0 : EReal) := by
  refine (unit_read (s := S1x1024) _ (ix2 0 l) ![0, 0] S1x1024.size inb_S1x1024_S1x1024_0_0 v (ix2 0 l) fun a => ?_).trans ?_
  · fin_cases a <;> simp [ix2]
  refine (unit_hit (s := S1x1024) _ (ix2 0 l) ![0, 0] S1x1024.size inb_S1x1024_S1x1024_0_0 _ (ix2 0 l) fun a => ?_).trans (Ideal.ofBits_zero .f32)
  fin_cases a <;> simp [ix2]

omit h m in
/-- The steps' rows together are all the rows. -/
theorem tile_sum (f : Fin 4096 → EReal) : ∑ t : Fin cfg0.N, ∑ i : Fin 128, f (rowA (tt t) i) = ∑ l : Fin 4096, f l :=
  Fin.sum_mul_add_congr (fun p r hl => rfl) (by rw [show cfg0.N = _ from N_0])

theorem step18 (t : Fin cfg0.N) (h0 : ¬t.val % 32 = 0) (l : Fin 1024) :
    (outsAt0 m c t.val t.isLt).2.2.2.2.2.1 (ix2 0 l) = (outsAt0 m c (t.val - 1) before).2.2.2.2.2.1 (ix2 0 l) + dgTile m c t (hd (H := 16) (by decide) l) (pl l) := by
  have e : (outsAt0 m c t.val t.isLt).2.2.2.2.2.1 = addf (shapeCast S1x1024 (lo2 (hs0_18 t) (old18 m c t) inb_S1x1024_S1x1024_0_0) shapeCasts_S1x1024_S1x1024) (dgain (stp m c t)) := by
    by_cases h1 : t.val % 16 = 0
    · rw [stp_A m c t h1]; exact at18_C m c t h0 h1
    · rw [stp_B m c t h1]; exact at18_B m c t h0 h1
  rw [e, add_cast, lo2_eq, res18 m c t h l]
  rfl

theorem final18 : (dats m 0 c).arrAt 18 cfg0.N = fun j : S1x1024.Idx => (IN m c).dgHead (hd (H := 16) (by decide) (j 1)) (pl (j 1)) := by
  refine (dats m 0 c).arrAt_eq_of_after_last 18 tEnd (by decide +kernel) _ fun j => ?_
  blk_simp
  rw [after0_18, Pipeline.eq_sum_fin_of_reset_step_apply_last (M := EReal) (fun n h => ((outsAt0 m c n h).2.2.2.2.2.1 : S1x1024.Idx → EReal)) 32 (fun _ => 0)
    (fun t j => dgTile m c t (hd (H := 16) (by decide) (j 1)) (pl (j 1)))
    (fun t h0 j => by
      idx_vars j
      obtain rfl : j0 = 0 := Subsingleton.elim _ _
      have h1 : t.val % 16 = 0 := by omega
      try dsimp only
      rw [at18_A m c t h0 h1, add_cast, zero18, ← stp_A m c t h1, res18 m c t h j1]
      rfl)
    (fun t h0 j => by
      idx_vars j
      obtain rfl : j0 = 0 := Subsingleton.elim _ _
      exact step18 m c h t h0 j1)
    (le_of_eq N_0) tEnd rfl j, zero_add]
  exact tile_sum fun r => (IN m c).back r (hd (H := 16) (by decide) (j 1)) (pl (j 1)) * ((IN m c).qRow r (hd (H := 16) (by decide) (j 1)) (pl (j 1)) * hr ((IN m c).qRow r (hd (H := 16) (by decide) (j 1))))

theorem step19 (t : Fin cfg0.N) (h0 : ¬t.val % 32 = 0) (H : Fin 16) (i : Fin 128) :
    (outsAt0 m c t.val t.isLt).2.2.2.2.2.2.1 (ix2 H i) = (outsAt0 m c (t.val - 1) before).2.2.2.2.2.2.1 (ix2 H i) + -(IN m c).L (tt t) (kOf H) (rOf H) i := by
  have e : (outsAt0 m c t.val t.isLt).2.2.2.2.2.2.1 = View.read (Elt Ideal) VO0_19 (VO0_19.writes (Elt Ideal) VO0_19.junk (rows19 (hs0_19 t) (old19 m c t) (stp m c t))) := by
    by_cases h1 : t.val % 16 = 0
    · rw [stp_A m c t h1]; exact at19_C m c t h0 h1
    · rw [stp_B m c t h1]; exact at19_B m c t h0 h1
  rw [e, rows19_at, res19 m c t i H h]
  rfl

theorem final19 : (dats m 0 c).arrAt 19 cfg0.N = fun j : S16x128.Idx => ∑ t : Fin 32, -(IN m c).L t (kOf (j 0)) (rOf (j 0)) (j 1) := by
  refine (dats m 0 c).arrAt_eq_of_after_last 19 tEnd (by decide +kernel) _ fun j => ?_
  blk_simp
  rw [after0_19]
  refine (Pipeline.eq_sum_fin_of_reset_step_apply_last (M := EReal) (fun n h => ((outsAt0 m c n h).2.2.2.2.2.2.1 : S16x128.Idx → EReal)) 32 (fun _ => 0)
    (fun t j => -(IN m c).L (tt t) (kOf (j 0)) (rOf (j 0)) (j 1))
    (fun t h0 j => by
      idx_vars j
      have h1 : t.val % 16 = 0 := by omega
      try dsimp only
      rw [at19_A m c t h0 h1, first19_at, ← stp_A m c t h1, res19 m c t j1 j0 h])
    (fun t h0 j => by
      idx_vars j
      exact step19 m c h t h0 j0 j1)
    (le_of_eq N_0) tEnd rfl j).trans ?_
  refine (zero_add _).trans ?_
  exact Fintype.sum_equiv (finCongr N_0) _ _ fun t => rfl

omit h m in
/-- The sum's array stands in one window alone, so the lines after the region read that window's array. -/
theorem arr18 (V : Valuation τ sig (Elt Ideal)) (A : (w : Fin (cfgs 0).W) → Buf (Elt Ideal) (((cfgs 0).spec w).arr.view.loc (c.tc : Thread nD τ))) :
    Pipeline.withArrays (cfgs 0).spec c V A (Proc.devRef .tc main_v58_5) = A 18 := by
  have u : ∀ w, Pipeline.arrRef (cfgs 0).spec w = main_v58_5 → w = 18 := by decide +kernel
  have h : ∃ w, Proc.devRef .tc (Pipeline.arrRef (cfgs 0).spec w) = Proc.devRef (τ := τ) .tc main_v58_5 := ⟨18, rfl⟩
  unfold Pipeline.withArrays
  rw [dif_pos h]
  have k : ∀ w (e : Proc.devRef .tc (Pipeline.arrRef (cfgs 0).spec w) = Proc.devRef (τ := τ) .tc main_v58_5),
      cast (congrArg (fun b : DevRef τ sig => b.ty.Contents (Elt Ideal)) e) (A w) = A 18 := by
    intro w e
    obtain rfl := u w (Proc.devRef_injective _ e)
    rfl
  exact k _ h.choose_spec

omit h m in
/-- The sum's array stands in one window alone, so the lines after the region read that window's array. -/
theorem arr19 (V : Valuation τ sig (Elt Ideal)) (A : (w : Fin (cfgs 0).W) → Buf (Elt Ideal) (((cfgs 0).spec w).arr.view.loc (c.tc : Thread nD τ))) :
    Pipeline.withArrays (cfgs 0).spec c V A (Proc.devRef .tc main_v58_6) = A 19 := by
  have u : ∀ w, Pipeline.arrRef (cfgs 0).spec w = main_v58_6 → w = 19 := by decide +kernel
  have h : ∃ w, Proc.devRef .tc (Pipeline.arrRef (cfgs 0).spec w) = Proc.devRef (τ := τ) .tc main_v58_6 := ⟨19, rfl⟩
  unfold Pipeline.withArrays
  rw [dif_pos h]
  have k : ∀ w (e : Proc.devRef .tc (Pipeline.arrRef (cfgs 0).spec w) = Proc.devRef (τ := τ) .tc main_v58_6),
      cast (congrArg (fun b : DevRef τ sig => b.ty.Contents (Elt Ideal)) e) (A w) = A 19 := by
    intro w e
    obtain rfl := u w (Proc.devRef_injective _ e)
    rfl
  exact k _ h.choose_spec

/-- The gain's gradient, its heads summed by the host's line. -/
theorem tail_gain : (Pipeline.afterTail₀ cfgs (dats m) 0 (V0 m) [hostOps1] c main_v60 : FVec Ideal S64 .f32) = fun j => ∑ H : Fin 16, (IN m c).dgHead H (j 0) := by
  unfold Pipeline.afterTail₀
  show StableHlo.after hostOps1 _ (Proc.devRef .tc main_v60) = _
  after_results
  have e : Pipeline.withArrays (cfgs 0).spec c (V0 m c) (fun w => (dats m 0 c).arrAt w (cfgs 0).N) (Proc.devRef .tc main_v58_5)
      = (dats m 0 c).arrAt 18 cfg0.N := arr18 c (V0 m c) _
  rw [e, final18 m c h]
  funext j
  idx_vars j
  pointwise
  refine Finset.sum_congr rfl fun H _ => ?_
  exact congrArg₂ ((IN m c).dgHead) (Fin.ext (by simp only [hd]; omega)) (Fin.ext (by simp only [pl]; omega))

/-- The sinks' gradient, its lanes summed by the host's line. -/
theorem tail_sink : (Pipeline.afterTail₀ cfgs (dats m) 0 (V0 m) [hostOps1] c main_v61 : FVec Ideal S16 .f32) = fun j => (IN m c).dsHead (j 0) := by
  unfold Pipeline.afterTail₀
  show StableHlo.after hostOps1 _ (Proc.devRef .tc main_v61) = _
  after_results
  have e : Pipeline.withArrays (cfgs 0).spec c (V0 m c) (fun w => (dats m 0 c).arrAt w (cfgs 0).N) (Proc.devRef .tc main_v58_6)
      = (dats m 0 c).arrAt 19 cfg0.N := arr19 c (V0 m c) _
  rw [e, final19 m c h]
  funext j
  idx_vars j
  pointwise
  rfl
end finals
end Cert.Attn
-- ==== Proof.AttnRefA.lean ====
module

public import proofs.«01_k».proof.Proof.Gen.AttnRefIdeal.Run
public import proofs.«01_k».proof.Proof.AttnSpec

/-!
The reference's forward lines at an index: the angles, the normed and turned keys and queries, the bands, the mask and the scores.
-/

@[expose] public section

set_option maxRecDepth 65536
noncomputable section

open Idealize.ShloMosaic Idealize.ShloMosaic.TcCoe Idealize.SL.Sem
open Cert.Norm Cert.Heads Cert.Finite Cert.Attn

namespace Cert.AttnRefIdeal.Stage
open Cert.AttnRefIdeal Cert.AttnRefIdeal.Gen Cert.AttnRefIdeal.Value

variable (V : Valuation τ sig (Elt Ideal))

/-- The reference's arguments. -/
def A : In where
  ct := (V (Proc.devRef .tc main_arg0) : FVec Ideal S4096x1024 .f32)
  q := (V (Proc.devRef .tc main_arg1) : FVec Ideal S4096x1024 .f32)
  k := (V (Proc.devRef .tc main_arg2) : FVec Ideal S4096x256 .f32)
  v := (V (Proc.devRef .tc main_arg3) : FVec Ideal S4096x256 .f32)
  gq := (V (Proc.devRef .tc main_arg4) : FVec Ideal S1x64 .f32)
  gk := (V (Proc.devRef .tc main_arg5) : FVec Ideal S1x64 .f32)
  sk := (V (Proc.devRef .tc main_arg6) : FVec Ideal S1x16 .f32)

/-- The row of a sequence's position, and the block of a sequence's block. -/
def rowBP (b : Fin 2) (p : Fin 2048) : Fin 4096 := ⟨b.val * 2048 + p.val, by omega⟩
def tBN (b : Fin 2) (n : Fin 16) : Fin 32 := ⟨b.val * 16 + n.val, by omega⟩

theorem rowBP_mod (b : Fin 2) (p : Fin 2048) : (rowBP b p).val % 2048 = p.val := by simp only [rowBP]; omega
theorem tBN_mod (b : Fin 2) (n : Fin 16) : (tBN b n).val % 16 = n.val := by simp only [tBN]; omega

variable (b : Fin 2) (p : Fin 2048) (n : Fin 16) (q : Fin 128) (c : Fin 256) (k r : Fin 4) (d : Fin 64) (H : Fin 16)

theorem v17_at (j : Fin 32) : res_main_v17 V (ix2 p j) = ang p.val j := by
  pointwise [res_main_v17, ang]
  rfl

theorem v19_at (j : Fin 32) : res_main_v19 V (ix4 0 p 0 j) = cs p.val j := by
  pointwise [res_main_v19, v17_at, cs]

theorem v21_at (j : Fin 32) : res_main_v21 V (ix4 0 p 0 j) = sn p.val j := by
  pointwise [res_main_v21, v17_at, sn]

theorem v77_at (j : Fin 32) : res_main_v77 V (ix2 p j) = ang p.val j := by
  pointwise [res_main_v77, ang]
  rfl

theorem v79_at (j : Fin 32) : res_main_v79 V (ix4 0 p 0 j) = cs p.val j := by
  pointwise [res_main_v79, v77_at, cs]

theorem v81_at (j : Fin 32) : res_main_v81 V (ix4 0 p 0 j) = sn p.val j := by
  pointwise [res_main_v81, v77_at, sn]

theorem v0_at : res_main_v0 V (ix4 b p k d) = (A V).kRow (rowBP b p) k d := by
  pointwise [res_main_v0, A, In.kRow, rowBP, lane]

theorem v34_at : res_main_v34 V (ix4 b p k d) = hnrm ((A V).kRow (rowBP b p) k) (A V).gkR d := by
  pointwise [res_main_v34, v0_at, hnrm, hr, hms, In.gkR, A]

theorem v59_at : res_main_v59 V (ix4 b p H d) = (A V).qRow (rowBP b p) H d := by
  pointwise [res_main_v59, A, In.qRow, rowBP, lane]

theorem v88_at : res_main_v88 V (ix4 b p H 0) = hms ((A V).qRow (rowBP b p) H) := by
  pointwise [res_main_v88, hms, v59_at]

theorem v89_at : res_main_v89 V (ix4 b p H 0) = hr ((A V).qRow (rowBP b p) H) := by
  pointwise [res_main_v89, hr, v88_at]

theorem v94_at : res_main_v94 V (ix4 b p H d) = (A V).qRow (rowBP b p) H d * hr ((A V).qRow (rowBP b p) H) := by
  pointwise [res_main_v94, v89_at, v59_at]

theorem v95_at : res_main_v95 V (ix4 0 0 0 d) = (A V).gqR d := by
  pointwise [res_main_v95, A, In.gqR]

theorem v97_at : res_main_v97 V (ix4 b p H d) = hnrm ((A V).qRow (rowBP b p) H) (A V).gqR d := by
  pointwise [res_main_v97, v94_at, v95_at, hnrm]

theorem v48_bp : res_main_v48 V (ix5 b n q k d) = rot (n.val * 128 + q.val) (hnrm ((A V).kRow (rowBP b ⟨n.val * 128 + q.val, by omega⟩) k) (A V).gkR) d := by
  pointwise [res_main_v48, res_main_v35, res_main_v36, v34_at, v19_at, v21_at, rot]
  by_cases hd : d.val < 32
  · rw [dif_pos hd, dif_pos hd]
    exact congrArg (_ - · * _) (congrArg (hnrm _ _) (Fin.ext (add_comm ..)))
  · rw [dif_neg hd, dif_neg hd]
    exact congrArg (· * _ + _) (congrArg (hnrm _ _) (Fin.ext (by dsimp only; omega)))

theorem rowBP_eq : rowBP b ⟨n.val * 128 + q.val, by omega⟩ = rowA (tBN b n) q := Fin.ext (by simp only [rowBP, rowA, tBN]; omega)
theorem rowA_mod : (rowA (tBN b n) q).val % 2048 = n.val * 128 + q.val := by simp only [rowA, tBN]; omega

theorem v48_at : res_main_v48 V (ix5 b n q k d) = (A V).kN (rowA (tBN b n) q) k d := by
  unfold In.kN
  rw [v48_bp, rowBP_eq, rowA_mod]

theorem v52_at : res_main_v52 V (ix5 b n c k d) = bandA (A V).kN (tBN b n) c k d := by
  pointwise [res_main_v52, v48_at, bandA]
  by_cases hc : c.val < 128
  · rw [dif_pos hc, dif_neg (by omega : ¬128 ≤ c.val), tBN_mod]
    by_cases hn : n.val < 1
    · rw [dif_pos hn, if_pos (by omega : n.val = 0)]
    · rw [dif_neg hn, if_neg (by omega : ¬n.val = 0)]
      exact congrArg ((A V).kN · k d) (Fin.ext (by simp only [rowA, tBN]; omega))
  · rw [dif_neg hc, dif_pos (by omega : 128 ≤ c.val)]
    exact congrArg ((A V).kN · k d) (Fin.ext (by simp only [rowA, tBN]))

theorem v54_at : res_main_v54 V (ix5 b n q k d) = (A V).vRow (rowA (tBN b n) q) k d := by
  pointwise [res_main_v54, A, In.vRow, rowA, tBN, lane]
  exact congrArg (V (Proc.devRef .tc main_arg3)) (congrArg (ix2 · _) (Fin.ext (by dsimp only; omega)))

theorem v58_at : res_main_v58 V (ix5 b n c k d) = bandA (A V).vRow (tBN b n) c k d := by
  pointwise [res_main_v58, v54_at, bandA]
  by_cases hc : c.val < 128
  · rw [dif_pos hc, dif_neg (by omega : ¬128 ≤ c.val), tBN_mod]
    by_cases hn : n.val < 1
    · rw [dif_pos hn, if_pos (by omega : n.val = 0)]
    · rw [dif_neg hn, if_neg (by omega : ¬n.val = 0)]
      exact congrArg ((A V).vRow · k d) (Fin.ext (by simp only [rowA, tBN]; omega))
  · rw [dif_neg hc, dif_pos (by omega : 128 ≤ c.val)]
    exact congrArg ((A V).vRow · k d) (Fin.ext (by simp only [rowA, tBN]))

theorem v111_bp : res_main_v111 V (ix6 b n q k r d) = rot (n.val * 128 + q.val) (hnrm ((A V).qRow (rowBP b ⟨n.val * 128 + q.val, by omega⟩) ⟨k.val * 4 + r.val, by omega⟩) (A V).gqR) d := by
  pointwise [res_main_v111, res_main_v98, res_main_v99, v97_at, v79_at, v81_at, rot]
  by_cases hd : d.val < 32
  · rw [dif_pos hd, dif_pos hd]
    exact congrArg (_ - · * _) (congrArg (hnrm _ _) (Fin.ext (add_comm ..)))
  · rw [dif_neg hd, dif_neg hd]
    exact congrArg (· * _ + _) (congrArg (hnrm _ _) (Fin.ext (by dsimp only; omega)))

theorem qh_eq : (⟨k.val * 4 + r.val, by omega⟩ : Fin 16) = qh k r := Fin.ext (by simp only [qh]; omega)

theorem v111_at : res_main_v111 V (ix6 b n q k r d) = (A V).qN (rowA (tBN b n) q) (qh k r) d := by
  unfold In.qN
  rw [v111_bp, rowBP_eq, rowA_mod, qh_eq]

theorem neg_inf_eq : Ideal.ofBits .f32 0xFF800000#32 = ⊥ := by simp [Ideal.ofBits, Ideal.ieee]

theorem near_eq : ∀ (c : Fin 256) (q : Fin 128), IntOp.andi
    (IntOp.cmpi .sge (IntOp.subi (IntOp.addi (128#32) (BitVec.ofNat 32 q.val)) (BitVec.ofNat 32 c.val)) 0#32)
    (IntOp.cmpi .slt (IntOp.subi (IntOp.addi (128#32) (BitVec.ofNat 32 q.val)) (BitVec.ofNat 32 c.val)) 128#32)
      = if q.val < c.val ∧ c.val ≤ q.val + 128 then 1#1 else 0#1 := by decide +kernel

theorem start_eq : ∀ (n : Fin 16) (c : Fin 256), IntOp.cmpi .sge (IntOp.addi (IntOp.muli (IntOp.subi (BitVec.ofNat 32 n.val) 1#32) 128#32) (BitVec.ofNat 32 c.val)) 0#32
      = if 128 ≤ c.val ∨ 0 < n.val then 1#1 else 0#1 := by decide +kernel

/-- A key of the band within the window, and not before the sequence's start. -/
theorem mask_eq : IntOp.andi (IntOp.andi
    (IntOp.cmpi .sge (IntOp.subi (IntOp.addi (128#32) (BitVec.ofNat 32 q.val)) (BitVec.ofNat 32 c.val)) 0#32)
    (IntOp.cmpi .slt (IntOp.subi (IntOp.addi (128#32) (BitVec.ofNat 32 q.val)) (BitVec.ofNat 32 c.val)) 128#32))
    (IntOp.cmpi .sge (IntOp.addi (IntOp.muli (IntOp.subi (BitVec.ofNat 32 n.val) 1#32) 128#32) (BitVec.ofNat 32 c.val)) 0#32) = sees n.val c q := by
  rw [near_eq, start_eq]
  unfold sees
  by_cases h1 : q.val < c.val ∧ c.val ≤ q.val + 128 <;> by_cases h2 : 128 ≤ c.val ∨ 0 < n.val
  · rw [if_pos h1, if_pos h2, if_pos ⟨h1.1, h1.2, h2⟩]; rfl
  · rw [if_pos h1, if_neg h2, if_neg fun h => h2 h.2.2]; rfl
  · rw [if_neg h1, if_pos h2, if_neg fun h => h1 ⟨h.1, h.2.1⟩]; rfl
  · rw [if_neg h1, if_neg h2, if_neg fun h => h2 h.2.2]; rfl

/-- A sum scaled by an eighth is the sum of the scaled terms. -/
theorem sum_eighth {ι : Type} (t : Finset ι) (f : ι → EReal) : (∑ i ∈ t, f i) * eighth = ∑ i ∈ t, f i * eighth := by
  classical
  have h0 : (0 : EReal) ≤ eighth := by rw [In.eighth_eq]; exact_mod_cast (by norm_num : (0 : ℝ) ≤ 1 / 8)
  have h1 : eighth ≠ ⊤ := by rw [In.eighth_eq]; exact EReal.coe_ne_top _
  induction t using Finset.induction_on with
  | empty => simp
  | insert a t ha ih => rw [Finset.sum_insert ha, Finset.sum_insert ha, EReal.right_distrib_of_nonneg_of_ne_top h0 h1, ih]

theorem v147_1_at : res_main_v147_1 V (ix6 b n k r q c) = sees n.val c q := by
  pointwise [res_main_v147_1, res_main_v124, res_main_v119]
  exact mask_eq n q c

theorem v147_0_at : res_main_v147_0 V (ix6 b n k r q c) = (A V).scS (tBN b n) k r q c := by
  pointwise [res_main_v147_0, v147_1_at, v52_at, v111_at, In.scS]
  rw [tBN_mod, sum_eighth]
  simp only [mul_assoc]
  unfold Scalar.select
  split_ifs with h0 h1
  · rfl
  · exact absurd h0 h1
  · exact absurd ‹_› h0
  · exact neg_inf_eq

theorem v196_at : res_main_v196 V (ix6 b n k d r q) = (A V).ctRow (rowA (tBN b n) q) (qh k r) d := by
  pointwise [res_main_v196, A, In.ctRow, rowA, tBN, lane, qh]
  exact congrArg (V (Proc.devRef .tc main_arg0)) (congrArg₂ ix2 (Fin.ext (by dsimp only; omega)) (Fin.ext (by dsimp only; omega)))

theorem v149_at : res_main_v149 V (ix6 0 0 k r 0 0) = (A V).skH (qh k r) := by
  pointwise [res_main_v149, A, In.skH, qh]
  exact congrArg (V (Proc.devRef .tc main_arg6)) (congrArg (ix2 _) (Fin.ext (by dsimp only; omega)))

end Cert.AttnRefIdeal.Stage
-- ==== Proof.AttnRefR.lean ====
module

public import proofs.«01_k».proof.Proof.AttnSpec
public import Idealize.ShloMosaic.Lib.IdealHost
public import Idealize.ShloMosaic.Lib.ValueIdxRank6

/-!
The host's sums and greatest values over axes of rank-six arrays, and the row of a softmax and its gradient as differentiation gives them.
-/

@[expose] public section

noncomputable section

open Idealize.ShloMosaic
open Cert.Finite Cert.Attn

namespace Cert.AttnRefIdeal.Stage

section sums
variable {n0 n1 n2 n3 n4 n5 : ℕ} (v : (⟨6, ![n0, n1, n2, n3, n4, n5]⟩ : Shape).Idx → EReal)

/-- A sum over the last axis. -/
theorem sum_last (h : (⟨6, ![n0, n1, n2, n3, n4, n5]⟩ : Shape).ReducesTo [5] ⟨5, ![n0, n1, n2, n3, n4]⟩) (z : EReal)
    (a : Fin n0) (b : Fin n1) (c : Fin n2) (d : Fin n3) (e : Fin n4) :
    Ideal.hostReduceAdd h v z (ix5 a b c d e) = z + ∑ f : Fin n5, v (ix6 a b c d e f) := by
  refine congrArg (z + ·) ?_
  rw [Finset.sum_filter_eq_sum_of_fiber _ (fun k : Fin n5 => ix6 a b c d e k) (fun _ _ e => congrFun e 5) (fun i => ?_) v]
  constructor
  · intro e
    refine ⟨i 5, funext fun x => Fin.ext ?_⟩
    match x with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => exact (congrArg Fin.val (congrFun e 4)).symm
    | ⟨5, _⟩ => rfl
  · rintro ⟨k, rfl⟩
    funext x
    fin_cases x <;> exact Fin.ext rfl

/-- A greatest value over the last axis. -/
theorem max_last (h : (⟨6, ![n0, n1, n2, n3, n4, n5]⟩ : Shape).ReducesTo [5] ⟨5, ![n0, n1, n2, n3, n4]⟩)
    (a : Fin n0) (b : Fin n1) (c : Fin n2) (d : Fin n3) (e : Fin n4) :
    Finset.fold max ⊥ v {i | h.drop i = ix5 a b c d e} = Finset.univ.fold max ⊥ fun f : Fin n5 => v (ix6 a b c d e f) := by
  show Finset.sup _ v = Finset.sup _ _
  refine le_antisymm (Finset.sup_le fun i hi => ?_) (Finset.sup_le fun f _ => Finset.le_sup (f := v) (Finset.mem_filter.mpr ⟨Finset.mem_univ _, ?_⟩))
  · have w := (Finset.mem_filter.mp hi).2
    have ei : i = ix6 a b c d e (i 5) := by
      refine funext fun x => Fin.ext ?_
      match x with
      | ⟨0, _⟩ => exact congrArg Fin.val (congrFun w 0)
      | ⟨1, _⟩ => exact congrArg Fin.val (congrFun w 1)
      | ⟨2, _⟩ => exact congrArg Fin.val (congrFun w 2)
      | ⟨3, _⟩ => exact congrArg Fin.val (congrFun w 3)
      | ⟨4, _⟩ => exact congrArg Fin.val (congrFun w 4)
      | ⟨5, _⟩ => rfl
    rw [ei]
    exact Finset.le_sup (f := fun f : Fin n5 => v (ix6 a b c d e f)) (Finset.mem_univ (i 5))
  · funext x
    fin_cases x <;> exact Fin.ext rfl

/-- A sum over the first two axes and the fifth, where the last has one place. -/
theorem sum_014 (v : (⟨6, ![n0, n1, n2, n3, n4, 1]⟩ : Shape).Idx → EReal) (h : (⟨6, ![n0, n1, n2, n3, n4, 1]⟩ : Shape).ReducesTo [0, 1, 4] ⟨3, ![n2, n3, 1]⟩) (z : EReal)
    (c : Fin n2) (d : Fin n3) :
    Ideal.hostReduceAdd h v z (ix3 c d 0) = z + ∑ a : Fin n0, ∑ b : Fin n1, ∑ e : Fin n4, v (ix6 a b c d e 0) := by
  refine congrArg (z + ·) ?_
  rw [Finset.sum_filter_eq_sum_of_fiber _ (fun k : Fin n0 × Fin n1 × Fin n4 => ix6 k.1 k.2.1 c d k.2.2 (0 : Fin 1))
    (fun _ _ e => Prod.ext (congrFun e 0) (Prod.ext (congrFun e 1) (congrFun e 4))) (fun i => ?_) v]
  · simp only [Fintype.sum_prod_type]
  · constructor
    · intro e
      refine ⟨(i 0, i 1, i 4), funext fun x => Fin.ext ?_⟩
      match x with
      | ⟨0, _⟩ => rfl
      | ⟨1, _⟩ => rfl
      | ⟨2, _⟩ => exact (congrArg Fin.val (congrFun e 0)).symm
      | ⟨3, _⟩ => exact (congrArg Fin.val (congrFun e 1)).symm
      | ⟨4, _⟩ => rfl
      | ⟨5, _⟩ => exact (congrArg Fin.val (congrFun e 2)).symm
    · rintro ⟨k, rfl⟩
      funext x
      fin_cases x <;> exact Fin.ext rfl

/-- A sum over axes of one place each. -/
theorem sum_ones (v : (⟨6, ![1, 1, n2, n3, 1, 1]⟩ : Shape).Idx → EReal) (h : (⟨6, ![1, 1, n2, n3, 1, 1]⟩ : Shape).ReducesTo [0, 1, 4, 5] ⟨2, ![n2, n3]⟩) (z : EReal)
    (c : Fin n2) (d : Fin n3) : Ideal.hostReduceAdd h v z (ix2 c d) = z + v (ix6 0 0 c d 0 0) := by
  refine congrArg (z + ·) ?_
  rw [Finset.sum_filter_eq_sum_of_fiber _ (fun _ : Fin 1 => ix6 (0 : Fin 1) (0 : Fin 1) c d (0 : Fin 1) (0 : Fin 1)) (fun _ _ _ => Subsingleton.elim _ _) (fun i => ?_) v]
  · exact Fin.sum_univ_one _
  · constructor
    · intro e
      refine ⟨0, funext fun x => ?_⟩
      match x with
      | ⟨0, _⟩ => exact Subsingleton.elim (α := Fin 1) _ _
      | ⟨1, _⟩ => exact Subsingleton.elim (α := Fin 1) _ _
      | ⟨2, _⟩ => exact (Fin.ext (congrArg Fin.val (congrFun e 0))).symm
      | ⟨3, _⟩ => exact (Fin.ext (congrArg Fin.val (congrFun e 1))).symm
      | ⟨4, _⟩ => exact Subsingleton.elim (α := Fin 1) _ _
      | ⟨5, _⟩ => exact Subsingleton.elim (α := Fin 1) _ _
    · rintro ⟨k, rfl⟩
      funext x
      fin_cases x <;> exact Fin.ext rfl
end sums

/-- Nothing over a count, given to the places counted, is nothing. -/
theorem zero_share (f : Fin 256 → EReal) (hf : ∀ j, 0 ≤ f j) (c : Fin 256) : Ideal.div 0 (∑ j, f j) * f c = 0 := by
  by_cases h : f c = 0
  · rw [h, mul_zero]
  · have h1 : (∑ j, f j) ≠ 0 := ne_of_gt (lt_of_lt_of_le (lt_of_le_of_ne (hf c) (Ne.symm h)) (Finset.single_le_sum (fun j _ => hf j) (Finset.mem_univ c)))
    rw [Ideal.zero_div h1, zero_mul]

section soft
variable {s p : Fin 256 → EReal} {σ : EReal} (hs : ∀ j, s j = ⊥ ∨ IsReal (s j)) (hσ : IsReal σ) (hp : ∀ j, IsReal (p j))

/-- The sum a row of exponentials is divided by. -/
def sZ (s : Fin 256 → EReal) (σ : EReal) : EReal := (∑ j, sE s σ j) + sEs s σ
/-- The gradient of the quotient's divisor. -/
def sN (s p : Fin 256 → EReal) (σ : EReal) : EReal := -∑ j, p j * Ideal.div 1 (sZ s σ * sZ s σ) * sE s σ j

include hs hσ hp in
theorem soft_ref : (∀ j, Ideal.div (sE s σ j) (sZ s σ) = sP s σ j) ∧ sN s p σ * sEs s σ = -sL s p σ
    ∧ (∀ j, (Ideal.div (p j) (sZ s σ) + sN s p σ) * sE s σ j = sG s p σ j) ∧ sL s p σ + ∑ j, -sG s p σ j = 0 := by
  obtain ⟨e, p', z, Z, he, hp', hz, hZ, hZ0, hP, hG, hL⟩ := soft_eq hs hσ hp
  have eZ : sZ s σ = (Z : EReal) := by
    unfold sZ
    simp only [he, hz]
    rw [coe_sum, ← EReal.coe_add, hZ]
  have eN : sN s p σ = ((-((∑ i, e i * p' i) * (Z⁻¹ * Z⁻¹)) : ℝ) : EReal) := by
    unfold sN
    rw [eZ, ← EReal.coe_mul, Ideal.div_coe (mul_pos hZ0 hZ0).ne', one_mul]
    simp only [he, hp', ← EReal.coe_mul, coe_sum]
    rw [← EReal.coe_neg, Finset.sum_mul]
    refine congrArg (fun x : ℝ => ((-x : ℝ) : EReal)) (Finset.sum_congr rfl fun i _ => ?_)
    rw [one_div, mul_inv]
    ring
  refine ⟨fun j => ?_, ?_, fun j => ?_, ?_⟩
  · rw [he, eZ, Ideal.div_coe hZ0.ne', hP, ← EReal.coe_mul, one_div]
  · rw [eN, hz, hL, ← EReal.coe_mul, ← EReal.coe_neg]
    refine congrArg _ ?_
    ring
  · rw [eN, eZ, he, hp', hG, Ideal.div_coe hZ0.ne', ← EReal.coe_mul, ← EReal.coe_add, ← EReal.coe_mul]
    refine congrArg _ ?_
    ring
  · simp only [hG, hL, ← EReal.coe_neg, coe_sum]
    rw [← EReal.coe_add, ← EReal.coe_zero]
    refine congrArg _ ?_
    have h1 : ∑ i, -(e i * Z⁻¹ * (p' i - (∑ j, e j * p' j) * Z⁻¹)) = -((∑ i, e i * p' i) * Z⁻¹) + (∑ i, e i) * Z⁻¹ * ((∑ j, e j * p' j) * Z⁻¹) := by
      rw [Finset.sum_mul, Finset.sum_mul, Finset.sum_mul, ← Finset.sum_neg_distrib, ← Finset.sum_add_distrib]
      exact Finset.sum_congr rfl fun i _ => by ring
    have h2 : (∑ i, e i) = Z - z := by rw [hZ]; ring
    have h3 : Z * Z⁻¹ = 1 := mul_inv_cancel₀ hZ0.ne'
    rw [h1, h2]
    linear_combination ((∑ i, e i * p' i) * Z⁻¹) * h3

/-- A hidden score's gradient is nothing. -/
theorem sG_hidden (s p : Fin 256 → EReal) (σ : EReal) (j : Fin 256) (h : s j = ⊥) : sG s p σ j = 0 := by
  have e : sE s σ j = 0 := by
    unfold sE
    rw [h, EReal.bot_sub]
    rfl
  unfold sG sP
  rw [e, zero_mul, zero_mul]

theorem sM_def (s : Fin 256 → EReal) (σ : EReal) : sM s σ = max (Finset.univ.fold max ⊥ s) σ := rfl
end soft
end Cert.AttnRefIdeal.Stage
-- ==== Proof.AttnRefB.lean ====
module

public import proofs.«01_k».proof.Proof.AttnRefA
public import proofs.«01_k».proof.Proof.AttnRefR

/-!
The reference's probabilities and the gradients of its scores at an index. The gradient through the row's greatest score is nothing:
it is a multiple of a sum that vanishes on real numbers.
-/

@[expose] public section

set_option maxRecDepth 65536
noncomputable section

open Idealize.ShloMosaic Idealize.ShloMosaic.TcCoe Idealize.SL.Sem
open Cert.Norm Cert.Heads Cert.Finite Cert.Attn

namespace Cert.AttnRefIdeal.Stage
open Cert.AttnRefIdeal Cert.AttnRefIdeal.Gen Cert.AttnRefIdeal.Value

variable (V : Valuation τ sig (Elt Ideal))
variable (b : Fin 2) (n : Fin 16) (q : Fin 128) (c : Fin 256) (k r : Fin 4) (d : Fin 64)

/-- A row of scores, its sink, and the row of the cotangent against the values. -/
def sS : Fin 256 → EReal := (A V).scS (tBN b n) k r q
def sK : EReal := (A V).skH (qh k r)
def sD : Fin 256 → EReal := (A V).scD (tBN b n) k r q

theorem s147_at : res_main_v147_0 V (ix6 b n k r q c) = sS V b n q k r c := v147_0_at ..
theorem s149_at : res_main_v149 V (ix6 0 0 k r 0 0) = sK V k r := v149_at ..

theorem sum5 (v : FVec Ideal S2x16x4x4x128x256 .f32) (z : EReal) : Ideal.hostReduceAdd reducesTo_S2x16x4x4x128x256_S2x16x4x4x128_d5 v z (ix5 b n k r q) = z + ∑ f : Fin 256, v (ix6 b n k r q f) :=
  sum_last v _ z b n k r q
theorem sum5' (v : FVec Ideal S2x16x4x4x128x1 .f32) (z : EReal) : Ideal.hostReduceAdd reducesTo_S2x16x4x4x128x1_S2x16x4x4x128_d5 v z (ix5 b n k r q) = z + v (ix6 b n k r q 0) :=
  (sum_last v _ z b n k r q).trans (congrArg (z + ·) (Fin.sum_univ_one _))
theorem max5 (v : FVec Ideal S2x16x4x4x128x256 .f32) : Finset.fold max ⊥ v {i | reducesTo_S2x16x4x4x128x256_S2x16x4x4x128_d5.drop i = ix5 b n k r q} = Finset.univ.fold max ⊥ fun f : Fin 256 => v (ix6 b n k r q f) :=
  max_last v _ b n k r q

theorem v150_at : res_main_v150 V (ix5 b n k r q) = Finset.univ.fold max ⊥ (sS V b n q k r) := by
  pointwise [res_main_v150]
  rw [neg_inf_eq]
  refine (max5 ..).trans ?_
  simp only [s147_at]

theorem v156_at : res_main_v156 V (ix6 b n k r q 0) = Finset.univ.fold max ⊥ (sS V b n q k r) := by
  rw [← v150_at]
  pointwise [res_main_v156]

theorem max_at (u : FVec Ideal S2x16x4x4x128x1 .f32) (v : FVec Ideal S1x1x4x4x1x1 .f32) :
    maximumf u (broadcastInDim S2x16x4x4x128x1 ![0, 1, 2, 3, 4, 5] bcast_S1x1x4x4x1x1_S2x16x4x4x128x1_0_1_2_3_4_5 v) (ix6 b n k r q 0) = max (u (ix6 b n k r q 0)) (v (ix6 0 0 k r 0 0)) := by
  pointwise

theorem v158_at : res_main_v158 V (ix6 b n k r q 0) = sM (sS V b n q k r) (sK V k r) := by
  rw [sM_def, ← v156_at, ← s149_at]
  exact max_at b n q k r (res_main_v156 V) (res_main_v149 V)

theorem v179_at : res_main_v179 V (ix6 b n k r q c) = sE (sS V b n q k r) (sK V k r) c := by
  unfold sE
  rw [← v158_at, ← s147_at]
  pointwise [res_main_v179]

theorem v184_at : res_main_v184 V (ix6 b n k r q 0) = sEs (sS V b n q k r) (sK V k r) := by
  unfold sEs
  rw [← v158_at, ← s149_at]
  pointwise [res_main_v184]

theorem v185_at : res_main_v185 V (ix6 b n k r q 0) = sZ (sS V b n q k r) (sK V k r) := by
  unfold sZ
  rw [← v184_at]
  pointwise [res_main_v185]
  rw [sum5, zero_add]
  simp only [v179_at]

theorem v197_at : res_main_v197 V (ix6 b n k r q c) = sD V b n q k r c := by
  pointwise [res_main_v197, v196_at, v58_at]
  exact Finset.sum_congr (M := EReal) rfl fun x _ => EReal.mul_comm ..

theorem v202_at : mulf (mulf (res_main_v197 V) (broadcastInDim S2x16x4x4x128x256 ![0, 1, 2, 3, 4, 5] bcast_S2x16x4x4x128x1_S2x16x4x4x128x256_0_1_2_3_4_5
    (Host.divf (broadcastInDim S2x16x4x4x128x1 ![] bcast_S_S2x16x4x4x128x1 (constant (F := Ideal) S_ FTy.f32 1065353216#32)) (mulf (res_main_v185 V) (res_main_v185 V)))))
    (res_main_v179 V) (ix6 b n k r q c) = sD V b n q k r c * Ideal.div 1 (sZ (sS V b n q k r) (sK V k r) * sZ (sS V b n q k r) (sK V k r)) * sE (sS V b n q k r) (sK V k r) c := by
  rw [← v197_at, ← v185_at, ← v179_at]
  pointwise

theorem v205_at : res_main_v205 V (ix6 b n k r q 0) = sN (sS V b n q k r) (sD V b n q k r) (sK V k r) := by
  unfold sN
  pointwise [res_main_v205]
  rw [sum5, zero_add]
  exact congrArg (fun z : EReal => -z) (Finset.sum_congr (M := EReal) rfl fun f _ => v202_at ..)

variable {V} (h : (A V).Fin')
include h

theorem row_ref : (∀ j, Ideal.div (sE (sS V b n q k r) (sK V k r) j) (sZ (sS V b n q k r) (sK V k r)) = (A V).P (tBN b n) k r q j)
    ∧ sN (sS V b n q k r) (sD V b n q k r) (sK V k r) * sEs (sS V b n q k r) (sK V k r) = -(A V).L (tBN b n) k r q
    ∧ (∀ j, (Ideal.div (sD V b n q k r j) (sZ (sS V b n q k r) (sK V k r)) + sN (sS V b n q k r) (sD V b n q k r) (sK V k r)) * sE (sS V b n q k r) (sK V k r) j = (A V).G (tBN b n) k r q j)
    ∧ (A V).L (tBN b n) k r q + ∑ j, -(A V).G (tBN b n) k r q j = 0 :=
  soft_ref (In.scS_real h (tBN b n) k r q) (In.skH_real h (qh k r)) (In.scD_real h (tBN b n) k r q)

theorem v187_at : res_main_v187 V (ix6 b n k r q c) = (A V).P (tBN b n) k r q c := by
  rw [← (row_ref b n q k r h).1 c, ← v179_at, ← v185_at]
  pointwise [res_main_v187]

theorem v208_at : res_main_v208 V (ix6 b n k r q 0) = -(A V).L (tBN b n) k r q := by
  rw [← (row_ref b n q k r h).2.1, ← v205_at, ← v184_at]
  pointwise [res_main_v208]

theorem v215_at : res_main_v215 V (ix6 b n k r q c) = (A V).G (tBN b n) k r q c := by
  rw [← (row_ref b n q k r h).2.2.1 c, ← v197_at, ← v185_at, ← v205_at, ← v179_at]
  pointwise [res_main_v215]
  rw [sum5']
  exact congrArg (fun z : EReal => (_ + z) * _) (zero_add (M := EReal) _)

theorem v219_at : res_main_v219 V (ix6 b n k r q 0) = (0 : EReal) := by
  rw [← (row_ref b n q k r h).2.2.2]
  have e : ∀ j, Host.negf (res_main_v215 V) (ix6 b n k r q j) = -(A V).G (tBN b n) k r q j := fun j => by
    rw [← v215_at b n q j k r h]
    rfl
  pointwise [res_main_v219]
  rw [sum5, zero_add, v208_at b n q k r h, neg_neg]
  exact congrArg (fun z : EReal => (A V).L (tBN b n) k r q + z) (Finset.sum_congr (M := EReal) rfl fun j _ => e j)

end Cert.AttnRefIdeal.Stage
-- ==== Proof.AttnRefC.lean ====
module

public import proofs.«01_k».proof.Proof.AttnRefB

/-!
The reference's gradients of a band's keys and values at an index.
-/

@[expose] public section

set_option maxRecDepth 65536
noncomputable section

open Idealize.ShloMosaic Idealize.ShloMosaic.TcCoe Idealize.SL.Sem
open Cert.Norm Cert.Heads Cert.Finite Cert.Attn

namespace Cert.AttnRefIdeal.Stage
open Cert.AttnRefIdeal Cert.AttnRefIdeal.Gen Cert.AttnRefIdeal.Value

variable {V : Valuation τ sig (Elt Ideal)}
variable (b : Fin 2) (n : Fin 16) (q : Fin 128) (c : Fin 256) (k r : Fin 4) (d : Fin 64)

theorem v154_nonneg : (0 : EReal) ≤ res_main_v154 V (ix6 b n k r q c) := by
  pointwise [res_main_v154]
  exact EReal.coe_nonneg.mpr (Nat.cast_nonneg _)

variable (h : (A V).Fin')
include h

theorem v199_at : res_main_v199 V (ix5 b n c k d) = (A V).dV (tBN b n) c k d := by
  pointwise [res_main_v199]
  refine Finset.sum_congr (M := EReal) rfl fun r _ => Finset.sum_congr (M := EReal) rfl fun q _ => ?_
  rw [v196_at, v187_at b n q c k r h]
  exact mul_comm _ _

theorem nothing (Y : FVec Ideal S2x16x4x4x128x1 .f32) : mulf (res_main_v219 V) Y (ix6 b n k r q 0) = (0 : EReal) := by
  pointwise
  rw [v219_at b n q k r h, zero_mul]

theorem v235_at : res_main_v235 V (ix6 b n k c q r) = (A V).G (tBN b n) k r q c * eighth := by
  pointwise [res_main_v235]
  rw [sum5, sum5', nothing b n q k r h, zero_add, zero_add, zero_share (fun f => res_main_v154 V (ix6 b n k r q f)) (fun f => v154_nonneg b n q f k r) c, add_zero,
    v215_at b n q c k r h, v147_1_at]
  unfold Scalar.select
  split_ifs with h0
  · rfl
  · have e : (A V).scS (tBN b n) k r q c = ⊥ := if_neg (by rw [tBN_mod]; exact h0)
    unfold In.G
    rw [sG_hidden _ _ _ _ e, zero_mul]

theorem v239_at : res_main_v239 V (ix5 b n c k d) = (A V).dK (tBN b n) c k d := by
  pointwise [res_main_v239]
  unfold In.dK
  rw [Finset.sum_comm]
  refine Finset.sum_congr (M := EReal) rfl fun r _ => Finset.sum_congr (M := EReal) rfl fun q _ => ?_
  rw [v235_at b n q c k r h, v111_at, mul_assoc, mul_comm eighth]

end Cert.AttnRefIdeal.Stage
-- ==== Proof.AttnRefD.lean ====
module

public import proofs.«01_k».proof.Proof.AttnRefC

/-!
The reference's results over its argument arrays.
-/

@[expose] public section

set_option maxRecDepth 65536
noncomputable section

open Idealize.ShloMosaic Idealize.ShloMosaic.TcCoe Idealize.SL.Sem
open Cert.Norm Cert.Heads Cert.Finite Cert.Attn

namespace Cert.AttnRefIdeal.Stage
open Cert.AttnRefIdeal Cert.AttnRefIdeal.Gen Cert.AttnRefIdeal.Value

variable {V : Valuation τ sig (Elt Ideal)}
variable (b : Fin 2) (p : Fin 2048) (H : Fin 16) (d : Fin 64)

theorem tOf_bp : tBN b ⟨p.val / 128, by omega⟩ = tOf (rowBP b p) := Fin.ext (by simp only [tBN, tOf, rowBP]; omega)
theorem iOf_bp : (⟨p.val % 128, by omega⟩ : Fin 128) = iOf (rowBP b p) := Fin.ext (by simp only [iOf, rowBP]; omega)
theorem rowBP_of (y : Fin 4096) : rowBP ⟨y.val / 2048, by omega⟩ ⟨y.val % 2048, by omega⟩ = y := Fin.ext (by simp only [rowBP]; omega)

/-- The parts of a band's gradients. -/
theorem own_eq (f : Fin 32 → Fin 256 → Fin 4 → Fin 64 → EReal) (v : FVec Ideal S2x16x256x4x64 .f32) (hv : ∀ b n c k d, v (ix5 b n c k d) = f (tBN b n) c k d) :
    (shapeCast S4096x256 (extractStridedSlice S2x16x128x4x64 ![0, 0, 128, 0, 0] v slices_S2x16x256x4x64_S2x16x128x4x64_0_0_128_0_0) shapeCasts_S2x16x128x4x64_S4096x256 : FVec Ideal S4096x256 .f32) = In.ownArr f := by
  funext y
  idx_vars y
  pointwise [hv]
  exact congrArg (fun T => f T _ _ _) (Fin.ext (by simp only [tBN, tOf]; change _ = y0.val / 128; omega))

theorem prev_eq (f : Fin 32 → Fin 256 → Fin 4 → Fin 64 → EReal) (v : FVec Ideal S2x16x256x4x64 .f32) (hv : ∀ b n c k d, v (ix5 b n c k d) = f (tBN b n) c k d) :
    (shapeCast S4096x256 (extractStridedSlice S2x16x128x4x64 ![0, 0, 0, 0, 0] v slices_S2x16x256x4x64_S2x16x128x4x64_0_0_0_0_0) shapeCasts_S2x16x128x4x64_S4096x256 : FVec Ideal S4096x256 .f32) = In.prevArr f := by
  funext y
  idx_vars y
  pointwise [hv]
  exact congrArg (fun T => f T _ _ _) (Fin.ext (by simp only [tBN, tOf]; change _ = y0.val / 128; omega))

/-- The turn back over any queries and any sines and cosines. -/
theorem rot_at (u : FVec Ideal S2x2048x16x64 .f32) (cB sB : FVec Ideal S1x2048x1x32 .f32) (Y : Fin 64 → EReal) (hu : ∀ d, u (ix4 b p H d) = Y d)
    (hc : ∀ j, cB (ix4 0 p 0 j) = cs p.val j) (hs : ∀ j, sB (ix4 0 p 0 j) = sn p.val j) :
    concatenate S2x2048x16x64 3 [⟨S2x2048x16x32, (addf (mulf (extractStridedSlice S2x2048x16x32 ![0, 0, 0, 32] u slices_S2x2048x16x64_S2x2048x16x32_0_0_0_32) (broadcastInDim S2x2048x16x32 ![0, 1, 2, 3] bcast_S1x2048x1x32_S2x2048x16x32_0_1_2_3 sB)) (mulf (extractStridedSlice S2x2048x16x32 ![0, 0, 0, 0] u slices_S2x2048x16x64_S2x2048x16x32_0_0_0_0) (broadcastInDim S2x2048x16x32 ![0, 1, 2, 3] bcast_S1x2048x1x32_S2x2048x16x32_0_1_2_3 cB)))⟩, ⟨S2x2048x16x32, (addf (mulf (extractStridedSlice S2x2048x16x32 ![0, 0, 0, 32] u slices_S2x2048x16x64_S2x2048x16x32_0_0_0_32) (broadcastInDim S2x2048x16x32 ![0, 1, 2, 3] bcast_S1x2048x1x32_S2x2048x16x32_0_1_2_3 cB)) (mulf (Host.negf (extractStridedSlice S2x2048x16x32 ![0, 0, 0, 0] u slices_S2x2048x16x64_S2x2048x16x32_0_0_0_0)) (broadcastInDim S2x2048x16x32 ![0, 1, 2, 3] bcast_S1x2048x1x32_S2x2048x16x32_0_1_2_3 sB)))⟩] concatenates_S2x2048x16x32_S2x2048x16x32_S2x2048x16x64_d3 (ix4 b p H d)
      = unrot p.val Y d := by
  unfold unrot
  pointwise [hu, hc, hs]
  by_cases hd : d.val < 32
  · rw [dif_pos hd, dif_pos hd, add_comm]
    exact congrArg (_ + · * _) (congrArg Y (Fin.ext (add_comm ..)))
  · rw [dif_neg hd, dif_neg hd, EReal.neg_mul, mul_neg]
    exact congrArg (· * _ + _) (congrArg Y (Fin.ext (by dsimp only; omega)))

theorem gain_at (X Y : FVec Ideal S2x2048x16x64 .f32) : Host.reduceAdd (shapeCast S1x1x1x64 (Host.reduceAdd (mulf X Y) (constant S_ .f32 0x00000000#32) reducesTo_S2x2048x16x64_S64_d0_1_2 h_S_) shapeCasts_S64_S1x1x1x64)
    (constant S_ .f32 0x00000000#32) reducesTo_S1x1x1x64_S64_d0_1_2 h_S_ (ix1 d) = ∑ b, ∑ p, ∑ H, X (ix4 b p H d) * Y (ix4 b p H d) := by
  pointwise
  rw [sum_rows, zero_add]
  simp only [Fin.sum_univ_one]
  pointwise
  rw [sum_rows, zero_add]
  rfl

theorem sink_at (X Y : FVec Ideal S2x16x4x4x128x1 .f32) (y : Fin 16) : shapeCast S16 (Host.reduceAdd (addf (shapeCast S1x1x4x4x1x1 (Host.reduceAdd X (constant S_ .f32 0x00000000#32) reducesTo_S2x16x4x4x128x1_S4x4x1_d0_1_4 h_S_) shapeCasts_S4x4x1_S1x1x4x4x1x1)
    (shapeCast S1x1x4x4x1x1 (Host.reduceAdd Y (constant S_ .f32 0x00000000#32) reducesTo_S2x16x4x4x128x1_S4x4x1_d0_1_4 h_S_) shapeCasts_S4x4x1_S1x1x4x4x1x1))
    (constant S_ .f32 0x00000000#32) reducesTo_S1x1x4x4x1x1_S4x4_d0_1_4_5 h_S_) shapeCasts_S4x4_S16 (ix1 y)
    = (∑ a, ∑ b, ∑ e, X (ix6 a b (kOf y) (rOf y) e 0)) + ∑ a, ∑ b, ∑ e, Y (ix6 a b (kOf y) (rOf y) e 0) := by
  pointwise
  refine (sum_ones _ _ _ (kOf y) (rOf y)).trans ?_
  rw [zero_add]
  pointwise
  exact congrArg₂ (fun x y : EReal => x + y) ((sum_014 X _ 0 (kOf y) (rOf y)).trans (zero_add (M := EReal) _)) ((sum_014 Y _ 0 (kOf y) (rOf y)).trans (zero_add (M := EReal) _))

variable (h : (A V).Fin')
include h

theorem v240_at : res_main_v240 V (ix4 b p H d) = (A V).dQ (tOf (rowBP b p)) (iOf (rowBP b p)) (kOf H) (rOf H) d := by
  pointwise [res_main_v240]
  unfold In.dQ
  rw [sum_eighth, ← tOf_bp, ← iOf_bp]
  refine Finset.sum_congr (M := EReal) rfl fun x _ => ?_
  rw [v235_at _ _ _ _ _ _ h, v52_at, mul_right_comm]
  rfl

theorem v254_at : res_main_v254 V (ix4 b p H d) = (A V).back (rowBP b p) H d := by
  unfold In.back
  rw [rowBP_mod]
  exact rot_at b p H d (res_main_v240 V) (res_main_v79 V) (res_main_v81 V) _ (fun d => v240_at b p H d h) (fun j => v79_at ..) (fun j => v81_at ..)

theorem v259_at : res_main_v259 V (ix4 b p H d) = (A V).back (rowBP b p) H d * (A V).gqR d := by
  rw [← v254_at b p H d h, ← v95_at]
  pointwise [res_main_v259]

theorem v270_at : res_main_v270 V (ix4 b p H d) = hdms ((A V).qRow (rowBP b p) H) (A V).gqR ((A V).back (rowBP b p) H) := by
  unfold hdms
  rw [← v89_at, ← v88_at]
  simp only [← v259_at b p H _ h, ← v59_at]
  pointwise [res_main_v270]
  rw [Fin.sum_univ_one]

/-- The queries' gradient. -/
theorem dq_eq : (truncf .bf16 (shapeCast S4096x1024 (addf (addf (mulf (res_main_v259 V) (broadcastInDim S2x2048x16x64 ![0, 1, 2, 3] bcast_S2x2048x16x1_S2x2048x16x64_0_1_2_3 (res_main_v89 V)))
    (mulf (res_main_v59 V) (res_main_v270 V))) (mulf (res_main_v270 V) (res_main_v59 V))) shapeCasts_S2x2048x16x64_S4096x1024) bitsLt_bf16_f32 : FVec Ideal S4096x1024 .bf16) = (A V).dqArr := by
  funext y
  idx_vars y
  pointwise
  rw [v259_at _ _ _ _ h, v270_at _ _ _ _ h, v89_at, v59_at, hdnrm_ref, rowBP_of]
  rfl

/-- The gain's gradient. -/
theorem dgain_eq : (Host.reduceAdd (shapeCast S1x1x1x64 (Host.reduceAdd (mulf (res_main_v94 V) (res_main_v254 V)) (constant S_ .f32 0x00000000#32) reducesTo_S2x2048x16x64_S64_d0_1_2 h_S_) shapeCasts_S64_S1x1x1x64)
    (constant S_ .f32 0x00000000#32) reducesTo_S1x1x1x64_S64_d0_1_2 h_S_ : FVec Ideal S64 .f32) = fun j : S64.Idx => ∑ H : Fin 16, (A V).dgHead H (j 0) := by
  funext y
  idx_vars y
  refine (gain_at y0 _ _).trans ?_
  simp only [v94_at, v254_at _ _ _ _ h]
  unfold In.dgHead
  rw [Finset.sum_comm (f := fun x r => (A V).back r x y0 * ((A V).qRow r x y0 * hr ((A V).qRow r x))),
    ← Fin.sum_mul_add_congr (S := 2) (n := 2048) (F := fun b p => ∑ h, (A V).qRow (rowBP b p) h y0 * hr ((A V).qRow (rowBP b p) h) * (A V).back (rowBP b p) h y0)
      (fun b p hl => Finset.sum_congr rfl fun h _ => mul_comm _ _) rfl]

/-- The sinks' gradient, whatever the shares of the part that is nothing. -/
theorem dsink_eq (Y : FVec Ideal S2x16x4x4x128x1 .f32) : (shapeCast S16 (Host.reduceAdd (addf (shapeCast S1x1x4x4x1x1 (Host.reduceAdd (res_main_v208 V) (constant S_ .f32 0x00000000#32) reducesTo_S2x16x4x4x128x1_S4x4x1_d0_1_4 h_S_) shapeCasts_S4x4x1_S1x1x4x4x1x1)
    (shapeCast S1x1x4x4x1x1 (Host.reduceAdd (mulf (res_main_v219 V) Y) (constant S_ .f32 0x00000000#32) reducesTo_S2x16x4x4x128x1_S4x4x1_d0_1_4 h_S_) shapeCasts_S4x4x1_S1x1x4x4x1x1))
    (constant S_ .f32 0x00000000#32) reducesTo_S1x1x4x4x1x1_S4x4_d0_1_4_5 h_S_) shapeCasts_S4x4_S16 : FVec Ideal S16 .f32) = fun j : S16.Idx => (A V).dsHead (j 0) := by
  funext y
  idx_vars y
  refine (sink_at _ _ y0).trans ?_
  simp only [nothing _ _ _ _ _ h, v208_at _ _ _ _ _ h, Finset.sum_const_zero, add_zero]
  unfold In.dsHead
  rw [Finset.sum_comm (f := fun i t => -(A V).L t (kOf y0) (rOf y0) i)]
  exact Fin.sum_mul_add_congr (S := 2) (n := 16) (F := fun b n => ∑ i, -(A V).L (tBN b n) (kOf y0) (rOf y0) i) (fun b n hl => rfl) rfl

end Cert.AttnRefIdeal.Stage
-- ==== Proof.AttnPair.lean ====
module

public import proofs.«01_k».proof.Proof.AttnOut
public import proofs.«01_k».proof.Proof.AttnRefD
public import proofs.«01_k».proof.Proof.Gen.AttnBwdIdeal.Frame
public import proofs.«01_k».proof.Proof.Gen.Pre_attn_finite
public import proofs.«01_k».proof.Defs
public import Idealize.ShloMosaic.Lib.Pipeline.ValueKit
public import Idealize.ShloMosaic.Lib.Pointwise
public import Idealize.ShloMosaic.Lib.Claim

/-!
The attention's gradients: the pair's value claim, and what the named mask stands for.
-/

@[expose] public section

set_option maxRecDepth 65536
noncomputable section

open Idealize.ShloMosaic Idealize.ShloMosaic.TcCoe Idealize.SL.Sem

namespace Cert.Attn
open Cert.Finite Cert.AttnRefIdeal.Stage

/-- The mask's name stands for the bottom element. -/
theorem preserves : Cert.preserves_AttnBwd_AttnBwdIdeal := IdealRules.named_const.statement _ _ _ _ _ rfl

/-- The reference's arrays are the kernel's where the memories agree. -/
theorem same (m : (ℓ : Loc Cert.AttnBwdIdeal.nD Cert.AttnBwdIdeal.τ Cert.AttnBwdIdeal.sig) → Buf (Elt Ideal) ℓ)
    (m' : (ℓ : Loc Cert.AttnRefIdeal.nD Cert.AttnRefIdeal.τ Cert.AttnRefIdeal.sig) → Buf (Elt Ideal) ℓ) (c : Dev Cert.AttnBwdIdeal.nD)
    (h : m' ((c.tc : Thread Cert.AttnRefIdeal.nD Cert.AttnRefIdeal.τ).loc Cert.AttnRefIdeal.main_arg0) = m ((c.tc : Thread Cert.AttnBwdIdeal.nD Cert.AttnBwdIdeal.τ).loc Cert.AttnBwdIdeal.main_arg0)
    ∧ m' ((c.tc : Thread Cert.AttnRefIdeal.nD Cert.AttnRefIdeal.τ).loc Cert.AttnRefIdeal.main_arg1) = m ((c.tc : Thread Cert.AttnBwdIdeal.nD Cert.AttnBwdIdeal.τ).loc Cert.AttnBwdIdeal.main_arg1)
    ∧ m' ((c.tc : Thread Cert.AttnRefIdeal.nD Cert.AttnRefIdeal.τ).loc Cert.AttnRefIdeal.main_arg2) = m ((c.tc : Thread Cert.AttnBwdIdeal.nD Cert.AttnBwdIdeal.τ).loc Cert.AttnBwdIdeal.main_arg2)
    ∧ m' ((c.tc : Thread Cert.AttnRefIdeal.nD Cert.AttnRefIdeal.τ).loc Cert.AttnRefIdeal.main_arg3) = m ((c.tc : Thread Cert.AttnBwdIdeal.nD Cert.AttnBwdIdeal.τ).loc Cert.AttnBwdIdeal.main_arg3)
    ∧ m' ((c.tc : Thread Cert.AttnRefIdeal.nD Cert.AttnRefIdeal.τ).loc Cert.AttnRefIdeal.main_arg4) = m ((c.tc : Thread Cert.AttnBwdIdeal.nD Cert.AttnBwdIdeal.τ).loc Cert.AttnBwdIdeal.main_arg4)
    ∧ m' ((c.tc : Thread Cert.AttnRefIdeal.nD Cert.AttnRefIdeal.τ).loc Cert.AttnRefIdeal.main_arg5) = m ((c.tc : Thread Cert.AttnBwdIdeal.nD Cert.AttnBwdIdeal.τ).loc Cert.AttnBwdIdeal.main_arg5)
    ∧ m' ((c.tc : Thread Cert.AttnRefIdeal.nD Cert.AttnRefIdeal.τ).loc Cert.AttnRefIdeal.main_arg6) = m ((c.tc : Thread Cert.AttnBwdIdeal.nD Cert.AttnBwdIdeal.τ).loc Cert.AttnBwdIdeal.main_arg6)) :
    A (StableHlo.launchContents m' c) = IN m c := by
  obtain ⟨h0, h1, h2, h3, h4, h5, h6⟩ := h
  unfold IN
  rw [← h0, ← h1, ← h2, ← h3, ← h4, ← h5, ← h6]
  rfl

theorem finite_of (m : (ℓ : Loc Cert.AttnBwdIdeal.nD Cert.AttnBwdIdeal.τ Cert.AttnBwdIdeal.sig) → Buf (Elt Ideal) ℓ) (hpre : Cert.Pre_AttnBwdIdeal_attn_finite m) (c : Dev Cert.AttnBwdIdeal.nD) : (IN m c).Fin' where
  ct := fun j => real_of_abs (congrFun (hpre c).1 j)
  q := fun j => real_of_abs (congrFun (hpre c).2.1 j)
  k := fun j => real_of_abs (congrFun (hpre c).2.2.1 j)
  v := fun j => real_of_abs (congrFun (hpre c).2.2.2.1 j)
  gq := fun j => real_of_abs (congrFun (hpre c).2.2.2.2.1 j)
  gk := fun j => real_of_abs (congrFun (hpre c).2.2.2.2.2.1 j)
  sk := fun j => real_of_abs (congrFun (hpre c).2.2.2.2.2.2 j)

/-- The reference's run, each result a function of the argument arrays. -/
theorem ref_run (m : (ℓ : Loc Cert.AttnRefIdeal.nD Cert.AttnRefIdeal.τ Cert.AttnRefIdeal.sig) → Buf (Elt Ideal) ℓ) (ρ : Dev Cert.AttnRefIdeal.nD → PrngReg) (h : ∀ c, (A (StableHlo.launchContents m c)).Fin') :
    θ_run (Cert.AttnRefIdeal.defs (F := Ideal)) (onTc (τ := Cert.AttnRefIdeal.τ) (Cert.AttnRefIdeal.main (F := Ideal))) ⟨m, fun _ => 0, ρ⟩ fun r => ∀ c : Dev Cert.AttnRefIdeal.nD,
      r.2.mem ((c.tc : Thread Cert.AttnRefIdeal.nD Cert.AttnRefIdeal.τ).loc Cert.AttnRefIdeal.main_v276) = (A (StableHlo.launchContents m c)).dqArr
      ∧ r.2.mem ((c.tc : Thread Cert.AttnRefIdeal.nD Cert.AttnRefIdeal.τ).loc Cert.AttnRefIdeal.main_v278) = In.ownArr (A (StableHlo.launchContents m c)).dK
      ∧ r.2.mem ((c.tc : Thread Cert.AttnRefIdeal.nD Cert.AttnRefIdeal.τ).loc Cert.AttnRefIdeal.main_v280) = In.prevArr (A (StableHlo.launchContents m c)).dK
      ∧ r.2.mem ((c.tc : Thread Cert.AttnRefIdeal.nD Cert.AttnRefIdeal.τ).loc Cert.AttnRefIdeal.main_v282) = In.ownArr (A (StableHlo.launchContents m c)).dV
      ∧ r.2.mem ((c.tc : Thread Cert.AttnRefIdeal.nD Cert.AttnRefIdeal.τ).loc Cert.AttnRefIdeal.main_v284) = In.prevArr (A (StableHlo.launchContents m c)).dV
      ∧ r.2.mem ((c.tc : Thread Cert.AttnRefIdeal.nD Cert.AttnRefIdeal.τ).loc Cert.AttnRefIdeal.main_v260) = (fun j : Cert.AttnRefIdeal.S64.Idx => ∑ H : Fin 16, (A (StableHlo.launchContents m c)).dgHead H (j 0))
      ∧ r.2.mem ((c.tc : Thread Cert.AttnRefIdeal.nD Cert.AttnRefIdeal.τ).loc Cert.AttnRefIdeal.main_v231) = (fun j : Cert.AttnRefIdeal.S16.Idx => (A (StableHlo.launchContents m c)).dsHead (j 0))
      ∧ r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6) :=
  (θ_run _ _ _).mono (fun r hr c => ⟨(hr c).1.trans (dq_eq (h c)),
      (hr c).2.1.trans (Cert.AttnRefIdeal.Stage.own_eq _ _ fun b n cc k d => v239_at b n cc k d (h c)),
      (hr c).2.2.1.trans (Cert.AttnRefIdeal.Stage.prev_eq _ _ fun b n cc k d => v239_at b n cc k d (h c)),
      (hr c).2.2.2.1.trans (Cert.AttnRefIdeal.Stage.own_eq _ _ fun b n cc k d => v199_at b n cc k d (h c)),
      (hr c).2.2.2.2.1.trans (Cert.AttnRefIdeal.Stage.prev_eq _ _ fun b n cc k d => v199_at b n cc k d (h c)),
      (hr c).2.2.2.2.2.1.trans (dgain_eq (h c)),
      (hr c).2.2.2.2.2.2.1.trans (dsink_eq (h c) _),
      (hr c).2.2.2.2.2.2.2⟩) (Cert.AttnRefIdeal.Value.run m ρ)

/-- The kernel's run, each result the same function of the argument arrays. -/
theorem ker_run (m : (ℓ : Loc Cert.AttnBwdIdeal.nD Cert.AttnBwdIdeal.τ Cert.AttnBwdIdeal.sig) → Buf (Elt Ideal) ℓ) (g : Dev Cert.AttnBwdIdeal.nD → PrngReg) (h : ∀ c, (IN m c).Fin') :
    θ_run (Cert.AttnBwdIdeal.defs (F := Ideal)) (onTc (τ := Cert.AttnBwdIdeal.τ) (Cert.AttnBwdIdeal.main (F := Ideal))) ⟨m, fun _ => 0, g⟩ fun r => ∀ c : Dev Cert.AttnBwdIdeal.nD,
      r.2.mem ((c.tc : Thread Cert.AttnBwdIdeal.nD Cert.AttnBwdIdeal.τ).loc Cert.AttnBwdIdeal.main_v58_0) = (IN m c).dqArr
      ∧ r.2.mem ((c.tc : Thread Cert.AttnBwdIdeal.nD Cert.AttnBwdIdeal.τ).loc Cert.AttnBwdIdeal.main_v58_1) = In.ownArr (IN m c).dK
      ∧ r.2.mem ((c.tc : Thread Cert.AttnBwdIdeal.nD Cert.AttnBwdIdeal.τ).loc Cert.AttnBwdIdeal.main_v58_2) = In.prevArr (IN m c).dK
      ∧ r.2.mem ((c.tc : Thread Cert.AttnBwdIdeal.nD Cert.AttnBwdIdeal.τ).loc Cert.AttnBwdIdeal.main_v58_3) = In.ownArr (IN m c).dV
      ∧ r.2.mem ((c.tc : Thread Cert.AttnBwdIdeal.nD Cert.AttnBwdIdeal.τ).loc Cert.AttnBwdIdeal.main_v58_4) = In.prevArr (IN m c).dV
      ∧ r.2.mem ((c.tc : Thread Cert.AttnBwdIdeal.nD Cert.AttnBwdIdeal.τ).loc Cert.AttnBwdIdeal.main_v60) = (fun j : Cert.AttnBwdIdeal.S64.Idx => ∑ H : Fin 16, (IN m c).dgHead H (j 0))
      ∧ r.2.mem ((c.tc : Thread Cert.AttnBwdIdeal.nD Cert.AttnBwdIdeal.τ).loc Cert.AttnBwdIdeal.main_v61) = (fun j : Cert.AttnBwdIdeal.S16.Idx => (IN m c).dsHead (j 0))
      ∧ r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3)
      ∧ r.2.mem ((c.tc : Thread Cert.AttnBwdIdeal.nD Cert.AttnBwdIdeal.τ).loc Cert.AttnBwdIdeal.main_arg4) = m ((c.tc : Thread Cert.AttnBwdIdeal.nD Cert.AttnBwdIdeal.τ).loc Cert.AttnBwdIdeal.main_arg4)
      ∧ r.2.mem ((c.tc : Thread Cert.AttnBwdIdeal.nD Cert.AttnBwdIdeal.τ).loc Cert.AttnBwdIdeal.main_arg5) = m ((c.tc : Thread Cert.AttnBwdIdeal.nD Cert.AttnBwdIdeal.τ).loc Cert.AttnBwdIdeal.main_arg5)
      ∧ r.2.mem ((c.tc : Thread Cert.AttnBwdIdeal.nD Cert.AttnBwdIdeal.τ).loc Cert.AttnBwdIdeal.main_arg6) = m ((c.tc : Thread Cert.AttnBwdIdeal.nD Cert.AttnBwdIdeal.τ).loc Cert.AttnBwdIdeal.main_arg6) := by
  refine (θ_run _ _ _).mono (fun r hr c => ?_) (θ_run_and (Cert.AttnBwdIdeal.Gen.run_main m g) (Cert.AttnBwdIdeal.Gen.unchanged m g))
  have a0 : r.2.mem ((c.tc : Thread Cert.AttnBwdIdeal.nD Cert.AttnBwdIdeal.τ).loc Cert.AttnBwdIdeal.main_v58_0) = (Cert.AttnBwdIdeal.Gen.dats m 0 c).arrAt 13 Cert.AttnBwdIdeal.cfg0.N := (hr.1 c).1 13
  have a1 : r.2.mem ((c.tc : Thread Cert.AttnBwdIdeal.nD Cert.AttnBwdIdeal.τ).loc Cert.AttnBwdIdeal.main_v58_1) = (Cert.AttnBwdIdeal.Gen.dats m 0 c).arrAt 14 Cert.AttnBwdIdeal.cfg0.N := (hr.1 c).1 14
  have a2 : r.2.mem ((c.tc : Thread Cert.AttnBwdIdeal.nD Cert.AttnBwdIdeal.τ).loc Cert.AttnBwdIdeal.main_v58_2) = (Cert.AttnBwdIdeal.Gen.dats m 0 c).arrAt 15 Cert.AttnBwdIdeal.cfg0.N := (hr.1 c).1 15
  have a3 : r.2.mem ((c.tc : Thread Cert.AttnBwdIdeal.nD Cert.AttnBwdIdeal.τ).loc Cert.AttnBwdIdeal.main_v58_3) = (Cert.AttnBwdIdeal.Gen.dats m 0 c).arrAt 16 Cert.AttnBwdIdeal.cfg0.N := (hr.1 c).1 16
  have a4 : r.2.mem ((c.tc : Thread Cert.AttnBwdIdeal.nD Cert.AttnBwdIdeal.τ).loc Cert.AttnBwdIdeal.main_v58_4) = (Cert.AttnBwdIdeal.Gen.dats m 0 c).arrAt 17 Cert.AttnBwdIdeal.cfg0.N := (hr.1 c).1 17
  have a5 := (hr.1 c).2 Cert.AttnBwdIdeal.main_v60 (Pipeline.mem_restRefs_of Cert.AttnBwdIdeal.main_v60 (by decide) (by decide))
  have a6 := (hr.1 c).2 Cert.AttnBwdIdeal.main_v61 (Pipeline.mem_restRefs_of Cert.AttnBwdIdeal.main_v61 (by decide) (by decide))
  exact ⟨a0.trans (final13 m c (h c)), a1.trans (final14 m c (h c)), a2.trans (final15 m c (h c)), a3.trans (final16 m c (h c)), a4.trans (final17 m c (h c)), a5.trans (tail_gain m c (h c)), a6.trans (tail_sink m c (h c)), hr.2 c⟩

/-- Over the extended reals, at finite arguments, the kernel's gradients are the reference's. -/
theorem algebraic : Cert.algebraic_AttnBwdIdeal_AttnRefIdeal_pre_attn_finite := by
  intro m g m' g' hpre hagree
  have hs := fun c => same m m' c (hagree c)
  have hf := fun c => finite_of m hpre c
  refine ⟨_, _, _, _, _, _, _, ker_run m g hf,
    (θ_run _ _ _).mono (fun r hr c => ?_) (ref_run m' g' fun c => (hs c).symm ▸ hf c)⟩
  have h := hr c
  rw [hs c] at h
  exact h

end Cert.Attn
-- ==== Proof.InprojFwd.lean ====
module

public import proofs.«01_k».proof.Proof.Gen.InprojFwdIdeal.Value
public import proofs.«01_k».proof.Proof.Norm
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

/-! The input projection `z = norm(x)·w_in`, its seven segments side by side, written row by row. -/
namespace Cert.InprojFwd
open Cert.Norm

/-- Token rows and their narrow segments, the norm's gain, the weights as stored and in four blocks of columns. -/
abbrev Row : Shape := ⟨2, ![4096, 1024]⟩
abbrev Narrow : Shape := ⟨2, ![4096, 256]⟩
abbrev Gain : Shape := ⟨2, ![1, 1024]⟩
abbrev Proj : Shape := ⟨3, ![1, 1024, 5632]⟩
abbrev Proj4 : Shape := ⟨3, ![4, 1024, 1408]⟩

def projOf (w : Proj.Idx → EReal) (k : Fin 1024) (l : Fin 5632) : EReal := w (ix3 0 k l)
def projOf4 (w : Proj4.Idx → EReal) (k : Fin 1024) (l : Fin 5632) : EReal := w (ix3 ⟨l.val / 1408, by omega⟩ k ⟨l.val % 1408, by omega⟩)

theorem projOf4_at (w : Proj4.Idx → EReal) (k : Fin 1024) (l : Fin 5632) (j : Fin 4) (q : Fin 1408) (h : l.val = j.val * 1408 + q.val) :
    projOf4 w k l = w (ix3 j k q) := by
  unfold projOf4
  rw [show (⟨l.val / 1408, by omega⟩ : Fin 4) = j from Fin.ext (by dsimp only; omega), show (⟨l.val % 1408, by omega⟩ : Fin 1408) = q from Fin.ext (by dsimp only; omega)]

section arrays
variable (x : Row.Idx → EReal) (g : Gain.Idx → EReal) (p : Fin 1024 → Fin 5632 → EReal)

def rowOf (r : Fin 4096) (k : Fin 1024) : EReal := x (ix2 r k)
def gainOf (k : Fin 1024) : EReal := g (ix2 0 k)

/-- A row of the projection; the normed rows; a wide and a narrow segment of the projection, from column `o`. -/
def zRow (r : Fin 4096) (l : Fin 5632) : EReal := ∑ k, nrm (rowOf x r) (gainOf g) k * p k l
def hArr (j : Row.Idx) : EReal := nrm (rowOf x (j 0)) (gainOf g) (j 1)
def wideArr (o : ℕ) (h : o + 1024 ≤ 5632) (j : Row.Idx) : EReal := zRow x g p (j 0) ⟨o + (j 1).val, by have := (j 1).isLt; have e : Row.size 1 = 1024 := rfl; omega⟩
def narrowArr (o : ℕ) (h : o + 256 ≤ 5632) (j : Narrow.Idx) : EReal := zRow x g p (j 0) ⟨o + (j 1).val, by have := (j 1).isLt; have e : Narrow.size 1 = 256 := rfl; omega⟩
end arrays

end Cert.InprojFwd

namespace Cert.InprojFwdIdeal.Value
open Cert.InprojFwdIdeal Cert.InprojFwdIdeal.Gen Cert.Norm Cert.InprojFwd

section payloads
variable (x : Vec Ideal S512x1024 .f32) (g : Vec Ideal S1x1024 .f32) (r : Fin 512)

theorem nrm_at (n : Fin 1024) : k0_pay9 (F := Ideal) x g (ix2 r n) = nrm (fun k => x (ix2 r k)) (fun k => g (ix2 0 k)) n := by
  pointwise [k0_pay9, nrm, rinv, ms]

variable (w : Vec Ideal S4x1024x1408 .bf16)

/-- A column of one block of the projection. -/
def col (j : Fin 4) (q : Fin 1408) : EReal := ∑ k, nrm (fun k => x (ix2 r k)) (fun k => g (ix2 0 k)) k * w (ix3 j k q)

theorem blk_at0 (q : Fin 1408) : k0_pay10 (F := Ideal) x g (View.ld w (Rect.unit (s := S4x1024x1408) ![0, 0, 0] ![1, 1024, 1408] inb_S4x1024x1408_S1x1024x1408_0_0_0)) (ix2 r q) = col x g r w 0 q := by
  pointwise [k0_pay10, nrm_at, col]

theorem blk_at1 (q : Fin 1408) : k0_pay13 (F := Ideal) x g (View.ld w (Rect.unit (s := S4x1024x1408) ![1, 0, 0] ![1, 1024, 1408] inb_S4x1024x1408_S1x1024x1408_1_0_0)) (ix2 r q) = col x g r w 1 q := by
  pointwise [k0_pay13, nrm_at, col]

theorem blk_at2 (q : Fin 1408) : k0_pay1 (F := Ideal) (k0_pay9 x g) (View.ld w (Rect.unit (s := S4x1024x1408) ![2, 0, 0] ![1, 1024, 1408] inb_S4x1024x1408_S1x1024x1408_2_0_0)) (ix2 r q) = col x g r w 2 q := by
  pointwise [k0_pay1, nrm_at, col]

theorem blk_at3 (q : Fin 1408) : k0_pay6 (F := Ideal) (k0_pay9 x g) (View.ld w (Rect.unit (s := S4x1024x1408) ![3, 0, 0] ![1, 1024, 1408] inb_S4x1024x1408_S1x1024x1408_3_0_0)) (ix2 r q) = col x g r w 3 q := by
  pointwise [k0_pay6, nrm_at, col]

theorem cut11_at (n : Fin 1024) : k0_pay11 (F := Ideal) x g (View.ld w (Rect.unit (s := S4x1024x1408) ![0, 0, 0] ![1, 1024, 1408] inb_S4x1024x1408_S1x1024x1408_0_0_0)) (ix2 r n) = col x g r w 0 ⟨n.val, by omega⟩ := by
  pointwise [k0_pay11, blk_at0]

theorem cut12_at (n : Fin 384) : k0_pay12 (F := Ideal) x g (View.ld w (Rect.unit (s := S4x1024x1408) ![0, 0, 0] ![1, 1024, 1408] inb_S4x1024x1408_S1x1024x1408_0_0_0)) (ix2 r n) = col x g r w 0 ⟨1024 + n.val, by omega⟩ := by
  pointwise [k0_pay12, blk_at0]

theorem cut14_at (n : Fin 640) : k0_pay14 (F := Ideal) x g (View.ld w (Rect.unit (s := S4x1024x1408) ![1, 0, 0] ![1, 1024, 1408] inb_S4x1024x1408_S1x1024x1408_1_0_0)) (ix2 r n) = col x g r w 1 ⟨n.val, by omega⟩ := by
  pointwise [k0_pay14, blk_at1]

theorem cut15_at (n : Fin 768) : k0_pay15 (F := Ideal) x g (View.ld w (Rect.unit (s := S4x1024x1408) ![1, 0, 0] ![1, 1024, 1408] inb_S4x1024x1408_S1x1024x1408_1_0_0)) (ix2 r n) = col x g r w 1 ⟨640 + n.val, by omega⟩ := by
  pointwise [k0_pay15, blk_at1]

theorem cut2_at (n : Fin 256) : k0_pay2 (F := Ideal) (k0_pay9 x g) (View.ld w (Rect.unit (s := S4x1024x1408) ![2, 0, 0] ![1, 1024, 1408] inb_S4x1024x1408_S1x1024x1408_2_0_0)) (ix2 r n) = col x g r w 2 ⟨n.val, by omega⟩ := by
  pointwise [k0_pay2, blk_at2]

theorem cut3_at (n : Fin 256) : k0_pay3 (F := Ideal) (k0_pay9 x g) (View.ld w (Rect.unit (s := S4x1024x1408) ![2, 0, 0] ![1, 1024, 1408] inb_S4x1024x1408_S1x1024x1408_2_0_0)) (ix2 r n) = col x g r w 2 ⟨256 + n.val, by omega⟩ := by
  pointwise [k0_pay3, blk_at2]

theorem cut4_at (n : Fin 256) : k0_pay4 (F := Ideal) (k0_pay9 x g) (View.ld w (Rect.unit (s := S4x1024x1408) ![2, 0, 0] ![1, 1024, 1408] inb_S4x1024x1408_S1x1024x1408_2_0_0)) (ix2 r n) = col x g r w 2 ⟨512 + n.val, by omega⟩ := by
  pointwise [k0_pay4, blk_at2]

theorem cut5_at (n : Fin 640) : k0_pay5 (F := Ideal) (k0_pay9 x g) (View.ld w (Rect.unit (s := S4x1024x1408) ![2, 0, 0] ![1, 1024, 1408] inb_S4x1024x1408_S1x1024x1408_2_0_0)) (ix2 r n) = col x g r w 2 ⟨768 + n.val, by omega⟩ := by
  pointwise [k0_pay5, blk_at2]

theorem cut7_at (n : Fin 384) : k0_pay7 (F := Ideal) (k0_pay9 x g) (View.ld w (Rect.unit (s := S4x1024x1408) ![3, 0, 0] ![1, 1024, 1408] inb_S4x1024x1408_S1x1024x1408_3_0_0)) (ix2 r n) = col x g r w 3 ⟨n.val, by omega⟩ := by
  pointwise [k0_pay7, blk_at3]

theorem cut8_at (n : Fin 1024) : k0_pay8 (F := Ideal) (k0_pay9 x g) (View.ld w (Rect.unit (s := S4x1024x1408) ![3, 0, 0] ![1, 1024, 1408] inb_S4x1024x1408_S1x1024x1408_3_0_0)) (ix2 r n) = col x g r w 3 ⟨384 + n.val, by omega⟩ := by
  pointwise [k0_pay8, blk_at3]

end payloads

theorem in_cols (r : Fin 512) (n : Fin 1024) (o w : ℕ) (inb : ∀ a, ![0, o] a + ![512, w] a ≤ S512x1024.size a) (h : o ≤ n.val ∧ n.val < o + w) :
    ix2 r n ∈ (Rect.unit (s := S512x1024) ![0, o] ![512, w] inb).set :=
  Rect.mem_set_unit.mpr fun c => by
    match c with
    | 0 => exact ⟨Nat.zero_le _, by show r.val < 0 + 512; omega⟩
    | 1 => exact h

variable (m : (ℓ : Loc nD τ sig) → Buf (Elt Ideal) ℓ)

theorem idx : ∀ t : Fin cfg0.N, win0_0.index t = ![t.val, 0] ∧ win0_1.index t = ![0, 0] ∧ win0_2.index t = ![0, 0, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![t.val, 0] ∧ win0_10.index t = ![t.val, 0] :=
  (by decide +kernel : ∀ t : Fin grid0.N, _)

/-- The array's row that is row `r` of tile `t`. -/
def row (t : Fin cfg0.N) (r : Fin 512) : Fin 4096 := ⟨t.val * 512 + r.val, by have h : t.val < 8 := lt_of_lt_of_eq t.isLt N_0; omega⟩

section blocks
variable (c : Dev nD) (t : Fin cfg0.N) (r : Fin 512)

theorem x_row : (fun k => iblk m c 0 t (ix2 r k)) = rowOf (V m c main_arg0) (row t r) := by
  funext k; unfold rowOf row; blk_point [iblk, idx t]

theorem g_row : (fun k => iblk m c 1 t (ix2 0 k)) = gainOf (V m c main_arg1) := by
  funext k; unfold gainOf; blk_point [iblk, idx t]

theorem w_blk (j : Fin 4) (k : Fin 1024) (q : Fin 1408) : iblk m c 2 t (ix3 j k q) = (V m c main_v3 : Proj4.Idx → EReal) (ix3 j k q) := by
  blk_point [iblk, idx t]

theorem emb3 (f : Row.Idx → EReal) (n : Fin 1024) : f ((win0_3.blk t).view.emb (ix2 r n)) = f (ix2 (row t r) n) := by
  unfold row; blk_ext [idx t]

theorem emb4 (f : Row.Idx → EReal) (n : Fin 1024) : f ((win0_4.blk t).view.emb (ix2 r n)) = f (ix2 (row t r) n) := by
  unfold row; blk_ext [idx t]

theorem emb5 (f : Row.Idx → EReal) (n : Fin 1024) : f ((win0_5.blk t).view.emb (ix2 r n)) = f (ix2 (row t r) n) := by
  unfold row; blk_ext [idx t]

theorem emb6 (f : Row.Idx → EReal) (n : Fin 1024) : f ((win0_6.blk t).view.emb (ix2 r n)) = f (ix2 (row t r) n) := by
  unfold row; blk_ext [idx t]

theorem emb7 (f : Narrow.Idx → EReal) (n : Fin 256) : f ((win0_7.blk t).view.emb (ix2 r n)) = f (ix2 (row t r) n) := by
  unfold row; blk_ext [idx t]

theorem emb8 (f : Narrow.Idx → EReal) (n : Fin 256) : f ((win0_8.blk t).view.emb (ix2 r n)) = f (ix2 (row t r) n) := by
  unfold row; blk_ext [idx t]

theorem emb9 (f : Row.Idx → EReal) (n : Fin 1024) : f ((win0_9.blk t).view.emb (ix2 r n)) = f (ix2 (row t r) n) := by
  unfold row; blk_ext [idx t]

theorem emb10 (f : Row.Idx → EReal) (n : Fin 1024) : f ((win0_10.blk t).view.emb (ix2 r n)) = f (ix2 (row t r) n) := by
  unfold row; blk_ext [idx t]

/-- The projection the kernel computes, from the blocks of weights the region reads. -/
abbrev zOf (r : Fin 4096) (l : Fin 5632) : EReal := zRow (V m c main_arg0) (V m c main_arg1) (projOf4 (V m c main_v3)) r l

/-- A column of block `j` is a column of the projection. -/
theorem col_eq (j : Fin 4) (q : Fin 1408) (l : Fin 5632) (h : l.val = j.val * 1408 + q.val) :
    col (iblk m c 0 t) (iblk m c 1 t) r (iblk m c 2 t) j q = zOf m c (row t r) l := by
  unfold col
  rw [x_row, g_row]
  show _ = ∑ k, nrm _ _ k * projOf4 _ k l
  refine Finset.sum_congr rfl fun k _ => ?_
  rw [w_blk]
  exact congrArg _ (projOf4_at _ k l j q h).symm
end blocks

/-- The normed rows. -/
theorem final3 (c : Dev nD) : (dats m 0 c).arrAt 3 (cfgs 0).N = hArr (V m c main_arg0) (V m c main_arg1) := by
  refine (dats m 0 c).arrAt_eq_of_covers 3 _ (by decide +kernel) fun t _ y => ?_
  blk_simp
  rw [after0_3]; unfold outsAt0; frame_out
  idx_vars y
  refine (nrm_at _ _ y0 y1).trans ?_
  rw [x_row, g_row]
  exact (emb3 t y0 (hArr (V m c main_arg0) (V m c main_arg1)) y1).symm

/-- The segment from column 0. -/
theorem final4 (c : Dev nD) : (dats m 0 c).arrAt 4 (cfgs 0).N = wideArr (V m c main_arg0) (V m c main_arg1) (projOf4 (V m c main_v3)) 0 (by norm_num) := by
  refine (dats m 0 c).arrAt_eq_of_covers 4 _ (by decide +kernel) fun t _ y => ?_
  blk_simp
  rw [after0_4]; unfold outsAt0; frame_out
  idx_vars y
  refine Eq.trans ?_ (emb4 t y0 (wideArr (V m c main_arg0) (V m c main_arg1) (projOf4 (V m c main_v3)) 0 (by norm_num)) y1).symm
  exact (cut11_at _ _ y0 _ y1).trans (col_eq m c t y0 0 _ ⟨0 + y1.val, by omega⟩ (by simp))

/-- The segment from column 1024. -/
theorem final5 (c : Dev nD) : (dats m 0 c).arrAt 5 (cfgs 0).N = wideArr (V m c main_arg0) (V m c main_arg1) (projOf4 (V m c main_v3)) 1024 (by norm_num) := by
  refine (dats m 0 c).arrAt_eq_of_covers 5 _ (by decide +kernel) fun t _ y => ?_
  blk_simp
  rw [after0_5]; unfold outsAt0; frame_out
  idx_vars y
  refine Eq.trans ?_ (emb5 t y0 (wideArr (V m c main_arg0) (V m c main_arg1) (projOf4 (V m c main_v3)) 1024 (by norm_num)) y1).symm
  have cov : ∃ p ∈ ([⟨Rect.unit (s := S512x1024) ![0, 384] ![512, 640] inb_S512x1024_S512x640_0_384, k0_pay14 (iblk m c 0 t) (iblk m c 1 t) (View.ld (iblk m c 2 t) (Rect.unit (s := S4x1024x1408) ![1, 0, 0] ![1, 1024, 1408] inb_S4x1024x1408_S1x1024x1408_1_0_0))⟩,
      ⟨Rect.unit (s := S512x1024) ![0, 0] ![512, 384] inb_S512x1024_S512x384_0_0, k0_pay12 (iblk m c 0 t) (iblk m c 1 t) (View.ld (iblk m c 2 t) (Rect.unit (s := S4x1024x1408) ![0, 0, 0] ![1, 1024, 1408] inb_S4x1024x1408_S1x1024x1408_0_0_0))⟩] : List (View.Piece (Elt Ideal) S512x1024 .f32)), ix2 y0 y1 ∈ p.1.set := by
    rcases lt_or_ge y1.val 384 with h | h
    · exact ⟨_, .tail _ (.head _), in_cols y0 y1 0 384 inb_S512x1024_S512x384_0_0 (by omega)⟩
    · exact ⟨_, .head _, in_cols y0 y1 384 640 inb_S512x1024_S512x640_0_384 (by omega)⟩
  canon_tiles x h using cov
  · idx_vars x
    obtain rfl : y0 = x0 := Fin.ext h0
    exact (cut14_at _ _ y0 _ x1).trans (col_eq m c t y0 1 _ ⟨1024 + y1.val, by omega⟩ (by simp at h1 ⊢; omega))
  · idx_vars x
    obtain rfl : y0 = x0 := Fin.ext h0
    exact (cut12_at _ _ y0 _ x1).trans (col_eq m c t y0 0 _ ⟨1024 + y1.val, by omega⟩ (by simp at h1 ⊢; omega))

/-- The segment from column 2048. -/
theorem final6 (c : Dev nD) : (dats m 0 c).arrAt 6 (cfgs 0).N = wideArr (V m c main_arg0) (V m c main_arg1) (projOf4 (V m c main_v3)) 2048 (by norm_num) := by
  refine (dats m 0 c).arrAt_eq_of_covers 6 _ (by decide +kernel) fun t _ y => ?_
  blk_simp
  rw [after0_6]; unfold outsAt0; frame_out
  idx_vars y
  refine Eq.trans ?_ (emb6 t y0 (wideArr (V m c main_arg0) (V m c main_arg1) (projOf4 (V m c main_v3)) 2048 (by norm_num)) y1).symm
  have cov : ∃ p ∈ ([⟨Rect.unit (s := S512x1024) ![0, 768] ![512, 256] inb_S512x1024_S512x256_0_768, k0_pay2 (k0_pay9 (iblk m c 0 t) (iblk m c 1 t)) (View.ld (iblk m c 2 t) (Rect.unit (s := S4x1024x1408) ![2, 0, 0] ![1, 1024, 1408] inb_S4x1024x1408_S1x1024x1408_2_0_0))⟩,
      ⟨Rect.unit (s := S512x1024) ![0, 0] ![512, 768] inb_S512x1024_S512x768_0_0, k0_pay15 (iblk m c 0 t) (iblk m c 1 t) (View.ld (iblk m c 2 t) (Rect.unit (s := S4x1024x1408) ![1, 0, 0] ![1, 1024, 1408] inb_S4x1024x1408_S1x1024x1408_1_0_0))⟩] : List (View.Piece (Elt Ideal) S512x1024 .f32)), ix2 y0 y1 ∈ p.1.set := by
    rcases lt_or_ge y1.val 768 with h | h
    · exact ⟨_, .tail _ (.head _), in_cols y0 y1 0 768 inb_S512x1024_S512x768_0_0 (by omega)⟩
    · exact ⟨_, .head _, in_cols y0 y1 768 256 inb_S512x1024_S512x256_0_768 (by omega)⟩
  canon_tiles x h using cov
  · idx_vars x
    obtain rfl : y0 = x0 := Fin.ext h0
    exact (cut2_at _ _ y0 _ x1).trans (col_eq m c t y0 2 _ ⟨2048 + y1.val, by omega⟩ (by simp at h1 ⊢; omega))
  · idx_vars x
    obtain rfl : y0 = x0 := Fin.ext h0
    exact (cut15_at _ _ y0 _ x1).trans (col_eq m c t y0 1 _ ⟨2048 + y1.val, by omega⟩ (by simp at h1 ⊢; omega))

/-- The segment from column 3072. -/
theorem final7 (c : Dev nD) : (dats m 0 c).arrAt 7 (cfgs 0).N = narrowArr (V m c main_arg0) (V m c main_arg1) (projOf4 (V m c main_v3)) 3072 (by norm_num) := by
  refine (dats m 0 c).arrAt_eq_of_covers 7 _ (by decide +kernel) fun t _ y => ?_
  blk_simp
  rw [after0_7]; unfold outsAt0; frame_out
  idx_vars y
  refine Eq.trans ?_ (emb7 t y0 (narrowArr (V m c main_arg0) (V m c main_arg1) (projOf4 (V m c main_v3)) 3072 (by norm_num)) y1).symm
  exact (cut3_at _ _ y0 _ y1).trans (col_eq m c t y0 2 _ ⟨3072 + y1.val, by omega⟩ (by simp; omega))

/-- The segment from column 3328. -/
theorem final8 (c : Dev nD) : (dats m 0 c).arrAt 8 (cfgs 0).N = narrowArr (V m c main_arg0) (V m c main_arg1) (projOf4 (V m c main_v3)) 3328 (by norm_num) := by
  refine (dats m 0 c).arrAt_eq_of_covers 8 _ (by decide +kernel) fun t _ y => ?_
  blk_simp
  rw [after0_8]; unfold outsAt0; frame_out
  idx_vars y
  refine Eq.trans ?_ (emb8 t y0 (narrowArr (V m c main_arg0) (V m c main_arg1) (projOf4 (V m c main_v3)) 3328 (by norm_num)) y1).symm
  exact (cut4_at _ _ y0 _ y1).trans (col_eq m c t y0 2 _ ⟨3328 + y1.val, by omega⟩ (by simp; omega))

/-- The segment from column 3584. -/
theorem final9 (c : Dev nD) : (dats m 0 c).arrAt 9 (cfgs 0).N = wideArr (V m c main_arg0) (V m c main_arg1) (projOf4 (V m c main_v3)) 3584 (by norm_num) := by
  refine (dats m 0 c).arrAt_eq_of_covers 9 _ (by decide +kernel) fun t _ y => ?_
  blk_simp
  rw [after0_9]; unfold outsAt0; frame_out
  idx_vars y
  refine Eq.trans ?_ (emb9 t y0 (wideArr (V m c main_arg0) (V m c main_arg1) (projOf4 (V m c main_v3)) 3584 (by norm_num)) y1).symm
  have cov : ∃ p ∈ ([⟨Rect.unit (s := S512x1024) ![0, 640] ![512, 384] inb_S512x1024_S512x384_0_640, k0_pay7 (k0_pay9 (iblk m c 0 t) (iblk m c 1 t)) (View.ld (iblk m c 2 t) (Rect.unit (s := S4x1024x1408) ![3, 0, 0] ![1, 1024, 1408] inb_S4x1024x1408_S1x1024x1408_3_0_0))⟩,
      ⟨Rect.unit (s := S512x1024) ![0, 0] ![512, 640] inb_S512x1024_S512x640_0_0, k0_pay5 (k0_pay9 (iblk m c 0 t) (iblk m c 1 t)) (View.ld (iblk m c 2 t) (Rect.unit (s := S4x1024x1408) ![2, 0, 0] ![1, 1024, 1408] inb_S4x1024x1408_S1x1024x1408_2_0_0))⟩] : List (View.Piece (Elt Ideal) S512x1024 .f32)), ix2 y0 y1 ∈ p.1.set := by
    rcases lt_or_ge y1.val 640 with h | h
    · exact ⟨_, .tail _ (.head _), in_cols y0 y1 0 640 inb_S512x1024_S512x640_0_0 (by omega)⟩
    · exact ⟨_, .head _, in_cols y0 y1 640 384 inb_S512x1024_S512x384_0_640 (by omega)⟩
  canon_tiles x h using cov
  · idx_vars x
    obtain rfl : y0 = x0 := Fin.ext h0
    exact (cut7_at _ _ y0 _ x1).trans (col_eq m c t y0 3 _ ⟨3584 + y1.val, by omega⟩ (by simp at h1 ⊢; omega))
  · idx_vars x
    obtain rfl : y0 = x0 := Fin.ext h0
    exact (cut5_at _ _ y0 _ x1).trans (col_eq m c t y0 2 _ ⟨3584 + y1.val, by omega⟩ (by simp at h1 ⊢; omega))

/-- The segment from column 4608. -/
theorem final10 (c : Dev nD) : (dats m 0 c).arrAt 10 (cfgs 0).N = wideArr (V m c main_arg0) (V m c main_arg1) (projOf4 (V m c main_v3)) 4608 (by norm_num) := by
  refine (dats m 0 c).arrAt_eq_of_covers 10 _ (by decide +kernel) fun t _ y => ?_
  blk_simp
  rw [after0_10]; unfold outsAt0; frame_out
  idx_vars y
  refine Eq.trans ?_ (emb10 t y0 (wideArr (V m c main_arg0) (V m c main_arg1) (projOf4 (V m c main_v3)) 4608 (by norm_num)) y1).symm
  exact (cut8_at _ _ y0 _ y1).trans (col_eq m c t y0 3 _ ⟨4608 + y1.val, by omega⟩ (by simp; omega))

/-- What the host has made of the weights. -/
theorem w_host (w : FVec Ideal S1x1024x5632 .f32) (j : Fin 4) (k : Fin 1024) (q : Fin 1408) :
    (transpose S4x1024x1408 [1, 0, 2] (shapeCast S1024x4x1408 (truncf .bf16 (shapeCast S1024x5632 w shapeCasts_S1x1024x5632_S1024x5632) bitsLt_bf16_f32) shapeCasts_S1024x5632_S1024x4x1408) transposes_S1024x4x1408_S4x1024x1408_1_0_2 : FVec Ideal S4x1024x1408 .bf16) (ix3 j k q)
      = w (ix3 0 k ⟨j.val * 1408 + q.val, by omega⟩) := by
  pointwise

theorem V_w (c : Dev nD) : projOf4 (V m c main_v3) = projOf (m ((c : Thread nD τ).loc main_arg2)) := by
  funext k l
  refine (w_host (m ((c : Thread nD τ).loc main_arg2)) ⟨l.val / 1408, by omega⟩ k ⟨l.val % 1408, by omega⟩).trans ?_
  show _ = m ((c : Thread nD τ).loc main_arg2) (ix3 0 k l)
  congr 2
  exact Fin.ext (by dsimp only; omega)

end Cert.InprojFwdIdeal.Value
-- ==== Proof.InprojFwdPair.lean ====
module

public import proofs.«01_k».proof.Proof.InprojFwd
public import proofs.«01_k».proof.Proof.Gen.InprojFwdRefIdeal.Run
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InprojFwdRefIdeal.Stage
open Cert.InprojFwdRefIdeal Cert.InprojFwdRefIdeal.Gen Cert.Norm Cert.InprojFwd

variable (a0 : FVec Ideal S4096x1024 .f32) (a1 : FVec Ideal S1x1024 .f32) (a2 : FVec Ideal S1x1024x5632 .f32)

/-- The inverse roots of the mean squares, the normed rows, and the projection. -/
def root : FVec Ideal S4096x1 .f32 :=
  Host.rsqrt (addf (Host.divf (broadcastInDim S4096x1 ![0] bcast_S4096_S4096x1_0 (Host.reduceAdd (mulf a0 a0) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))

def normed : FVec Ideal S4096x1024 .f32 :=
  mulf (mulf a0 (broadcastInDim S4096x1024 ![0, 1] bcast_S4096x1_S4096x1024_0_1 (root a0))) (broadcastInDim S4096x1024 ![0, 1] bcast_S1x1024_S4096x1024_0_1 (broadcastInDim S1x1024 ![1] bcast_S1024_S1x1024_1 (shapeCast S1024 a1 shapeCasts_S1x1024_S1024)))

def proj : FVec Ideal S4096x5632 .f32 :=
  Host.dotGeneral dot_S4096x1024_S1024x5632_S4096x5632_1_0_0_1_n_n none (normed a0 a1) (shapeCast S1024x5632 a2 shapeCasts_S1x1024x5632_S1024x5632)

variable (r : Fin 4096) (n : Fin 1024) (l : Fin 5632)

theorem root_at : root a0 (ix2 r 0) = rinv (rowOf a0 r) := by
  pointwise [root, rinv, ms, rowOf]

theorem normed_at : normed a0 a1 (ix2 r n) = nrm (rowOf a0 r) (gainOf a1) n := by
  pointwise [normed, root_at, nrm, gainOf, rowOf]

theorem proj_at : proj a0 a1 a2 (ix2 r l) = zRow a0 a1 (projOf a2) r l := by
  pointwise [proj, normed_at, zRow, projOf]

theorem normed_eq : (truncf .bf16 (normed a0 a1) bitsLt_bf16_f32 : FVec Ideal S4096x1024 .bf16) = hArr a0 a1 := by
  funext y; idx_vars y; exact normed_at ..

theorem seg0_eq : (extractStridedSlice S4096x1024 ![0, 0] (proj a0 a1 a2) slices_S4096x5632_S4096x1024_0_0 : FVec Ideal S4096x1024 .f32) = wideArr a0 a1 (projOf a2) 0 (by norm_num) := by
  funext y; idx_vars y; pointwise [proj_at, wideArr]

theorem seg1024_eq : (extractStridedSlice S4096x1024 ![0, 1024] (proj a0 a1 a2) slices_S4096x5632_S4096x1024_0_1024 : FVec Ideal S4096x1024 .f32) = wideArr a0 a1 (projOf a2) 1024 (by norm_num) := by
  funext y; idx_vars y; pointwise [proj_at, wideArr]

theorem seg2048_eq : (extractStridedSlice S4096x1024 ![0, 2048] (proj a0 a1 a2) slices_S4096x5632_S4096x1024_0_2048 : FVec Ideal S4096x1024 .f32) = wideArr a0 a1 (projOf a2) 2048 (by norm_num) := by
  funext y; idx_vars y; pointwise [proj_at, wideArr]

theorem seg3072_eq : (extractStridedSlice S4096x256 ![0, 3072] (proj a0 a1 a2) slices_S4096x5632_S4096x256_0_3072 : FVec Ideal S4096x256 .f32) = narrowArr a0 a1 (projOf a2) 3072 (by norm_num) := by
  funext y; idx_vars y; pointwise [proj_at, narrowArr]

theorem seg3328_eq : (extractStridedSlice S4096x256 ![0, 3328] (proj a0 a1 a2) slices_S4096x5632_S4096x256_0_3328 : FVec Ideal S4096x256 .f32) = narrowArr a0 a1 (projOf a2) 3328 (by norm_num) := by
  funext y; idx_vars y; pointwise [proj_at, narrowArr]

theorem seg3584_eq : (extractStridedSlice S4096x1024 ![0, 3584] (proj a0 a1 a2) slices_S4096x5632_S4096x1024_0_3584 : FVec Ideal S4096x1024 .f32) = wideArr a0 a1 (projOf a2) 3584 (by norm_num) := by
  funext y; idx_vars y; pointwise [proj_at, wideArr]

theorem seg4608_eq : (extractStridedSlice S4096x1024 ![0, 4608] (proj a0 a1 a2) slices_S4096x5632_S4096x1024_0_4608 : FVec Ideal S4096x1024 .f32) = wideArr a0 a1 (projOf a2) 4608 (by norm_num) := by
  funext y; idx_vars y; pointwise [proj_at, wideArr]

end Cert.InprojFwdRefIdeal.Stage

namespace Cert.InprojFwd
open Cert.InprojFwdRefIdeal.Stage

set_option maxHeartbeats 1600000 in
/-- Over the extended reals the kernel's eight arrays are the reference's. -/
theorem algebraic : Cert.algebraic_InprojFwdIdeal_InprojFwdRefIdeal := by
  pair_intro
  · run_from Cert.InprojFwdIdeal.Gen.run_main m g
  · run_from Cert.InprojFwdRefIdeal.Value.run m' g'
    · rw [Cert.InprojFwdIdeal.Value.final3, Cert.InprojFwdIdeal.Gen.V_main_arg0, Cert.InprojFwdIdeal.Gen.V_main_arg1]
      exact normed_eq _ _
    · rw [Cert.InprojFwdIdeal.Value.final4, Cert.InprojFwdIdeal.Value.V_w, Cert.InprojFwdIdeal.Gen.V_main_arg0, Cert.InprojFwdIdeal.Gen.V_main_arg1]
      exact seg0_eq _ _ _
    · rw [Cert.InprojFwdIdeal.Value.final5, Cert.InprojFwdIdeal.Value.V_w, Cert.InprojFwdIdeal.Gen.V_main_arg0, Cert.InprojFwdIdeal.Gen.V_main_arg1]
      exact seg1024_eq _ _ _
    · rw [Cert.InprojFwdIdeal.Value.final6, Cert.InprojFwdIdeal.Value.V_w, Cert.InprojFwdIdeal.Gen.V_main_arg0, Cert.InprojFwdIdeal.Gen.V_main_arg1]
      exact seg2048_eq _ _ _
    · rw [Cert.InprojFwdIdeal.Value.final7, Cert.InprojFwdIdeal.Value.V_w, Cert.InprojFwdIdeal.Gen.V_main_arg0, Cert.InprojFwdIdeal.Gen.V_main_arg1]
      exact seg3072_eq _ _ _
    · rw [Cert.InprojFwdIdeal.Value.final8, Cert.InprojFwdIdeal.Value.V_w, Cert.InprojFwdIdeal.Gen.V_main_arg0, Cert.InprojFwdIdeal.Gen.V_main_arg1]
      exact seg3328_eq _ _ _
    · rw [Cert.InprojFwdIdeal.Value.final9, Cert.InprojFwdIdeal.Value.V_w, Cert.InprojFwdIdeal.Gen.V_main_arg0, Cert.InprojFwdIdeal.Gen.V_main_arg1]
      exact seg3584_eq _ _ _
    · rw [Cert.InprojFwdIdeal.Value.final10, Cert.InprojFwdIdeal.Value.V_w, Cert.InprojFwdIdeal.Gen.V_main_arg0, Cert.InprojFwdIdeal.Gen.V_main_arg1]
      exact seg4608_eq _ _ _

end Cert.InprojFwd
-- ==== Proof.MergeFwd.lean ====
module

public import proofs.«01_k».proof.Proof.Gen.MergeFwdIdeal.Value
public import proofs.«01_k».proof.Proof.Gen.MergeFwdRefIdeal.Run
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

/-! The gated merge `merged = σ(gate_a)·(ya·w_rnn) + σ(gate_b)·(o·w_attn)` and `x1 = x + merged·w_out`, written at an index. -/
namespace Cert.MergeFwd

/-- Token rows, and the square weights as the layer stores them. -/
abbrev Row : Shape := ⟨2, ![4096, 1024]⟩
abbrev Wt : Shape := ⟨3, ![1, 1024, 1024]⟩

/-- The logistic function of a gate. -/
def gate (x : EReal) : EReal := Ideal.div 1 (1 + Ideal.exp (-x))

/-- A mixer's output through its projection, at row `r`, column `n`. -/
def proj (x : Row.Idx → EReal) (w : Wt.Idx → EReal) (r : Fin 4096) (n : Fin 1024) : EReal :=
  ∑ k : Fin 1024, x (ix2 r k) * w (ix3 0 k n)

/-- The merged mixers. -/
def merged (ya o ga gb : Row.Idx → EReal) (wr wa : Wt.Idx → EReal) (j : Row.Idx) : EReal :=
  gate (ga j) * proj ya wr (j 0) (j 1) + gate (gb j) * proj o wa (j 0) (j 1)

/-- The residual stream after the mixers. -/
def resid (x ya o ga gb : Row.Idx → EReal) (wr wa wo : Wt.Idx → EReal) (j : Row.Idx) : EReal :=
  x j + proj (merged ya o ga gb wr wa) wo (j 0) (j 1)

end Cert.MergeFwd

namespace Cert.MergeFwdIdeal.Value
open Cert.MergeFwdIdeal Cert.MergeFwdIdeal.Gen Cert.MergeFwd
variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![0, 0]
    ∧ win0_7.index t = ![0, 0] ∧ win0_8.index t = ![t.val, 0] ∧ win0_9.index t = ![t.val, 0] :=
  (by decide +kernel : ∀ t : Fin grid0.N, _)

/-- The array of the merged mixers. -/
theorem final9 (c : Dev nD) : (dats m 0 c).arrAt 9 (cfgs 0).N
    = merged (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 9 _ (by decide +kernel) fun t _ y => ?_
  blk_simp
  rw [after0_9]; frame_out
  idx_vars y
  pointwise [k0_pay2, merged, proj, gate, zero_sub]
  blk_point [iblk, V, idx t]

/-- The array of the residual stream after the mixers. -/
theorem final8 (c : Dev nD) : (dats m 0 c).arrAt 8 (cfgs 0).N
    = resid (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 8 _ (by decide +kernel) fun t _ y => ?_
  blk_simp
  rw [after0_8]; frame_out
  idx_vars y
  pointwise [k0_pay1, k0_pay2, k0_pay3, resid, merged, proj, gate, zero_sub]
  blk_point [iblk, V, idx t]

end Cert.MergeFwdIdeal.Value

namespace Cert.MergeFwd

open Cert.MergeFwdRefIdeal Cert.MergeFwdRefIdeal.Gen in
/-- The reference's logistic function at an index. -/
theorem ref_gate (g : FVec Ideal S4096x1024 .f32) (y) :
    (Host.divf (broadcastInDim S4096x1024 ![] bcast_S_S4096x1024 (constant S_ .f32 0x3F800000#32))
      (addf (broadcastInDim S4096x1024 ![] bcast_S_S4096x1024 (constant S_ .f32 0x3F800000#32)) (Host.exp (Host.negf g)))
        : FVec Ideal S4096x1024 .f32) y = gate (g y) := by
  pointwise [gate]

open Cert.MergeFwdRefIdeal Cert.MergeFwdRefIdeal.Gen in
/-- The reference's product with a weight at an index. -/
theorem ref_proj (x : FVec Ideal S4096x1024 .f32) (w : FVec Ideal S1x1024x1024 .f32) (y : Row.Idx) :
    (Host.dotGeneral dot_S4096x1024_S1024x1024_S4096x1024_1_0_0_1_n_n none x
      (shapeCast S1024x1024 w shapeCasts_S1x1024x1024_S1024x1024) : FVec Ideal S4096x1024 .f32) y = proj x w (y 0) (y 1) := by
  idx_vars y
  pointwise [proj]

open Cert.MergeFwdRefIdeal Cert.MergeFwdRefIdeal.Gen in
/-- The reference's gated sum of the two products. -/
theorem ref_merged (ga gb : FVec Ideal S4096x1024 .f32) (ya o : FVec Ideal S4096x1024 .f32) (wr wa : FVec Ideal S1x1024x1024 .f32) (y : Row.Idx) :
    (addf (mulf (Host.divf (broadcastInDim S4096x1024 ![] bcast_S_S4096x1024 (constant S_ .f32 0x3F800000#32)) (addf (broadcastInDim S4096x1024 ![] bcast_S_S4096x1024 (constant S_ .f32 0x3F800000#32)) (Host.exp (Host.negf ga))))
        (Host.dotGeneral dot_S4096x1024_S1024x1024_S4096x1024_1_0_0_1_n_n none ya (shapeCast S1024x1024 wr shapeCasts_S1x1024x1024_S1024x1024)))
      (mulf (Host.divf (broadcastInDim S4096x1024 ![] bcast_S_S4096x1024 (constant S_ .f32 0x3F800000#32)) (addf (broadcastInDim S4096x1024 ![] bcast_S_S4096x1024 (constant S_ .f32 0x3F800000#32)) (Host.exp (Host.negf gb))))
        (Host.dotGeneral dot_S4096x1024_S1024x1024_S4096x1024_1_0_0_1_n_n none o (shapeCast S1024x1024 wa shapeCasts_S1x1024x1024_S1024x1024)))
      : FVec Ideal S4096x1024 .f32) y = merged ya o ga gb wr wa y := by
  show (_ : EReal) * _ + _ * _ = _
  rw [ref_gate, ref_gate, ref_proj, ref_proj]
  rfl

set_option maxHeartbeats 800000 in
/-- Over the extended reals the kernel's two arrays are the reference's. -/
theorem algebraic : Cert.algebraic_MergeFwdIdeal_MergeFwdRefIdeal := by
  pair_intro
  · run_from Cert.MergeFwdIdeal.Gen.run_main m g
  · run_from Cert.MergeFwdRefIdeal.Value.run m' g'
    · rw [Cert.MergeFwdIdeal.Value.final8]
      exact funext fun y => congrArg₂ (fun a b : EReal => a + b) rfl ((ref_proj _ _ y).trans (congrArg (fun f => proj f _ (y 0) (y 1)) (funext fun k => ref_merged _ _ _ _ _ _ k)))
    · rw [Cert.MergeFwdIdeal.Value.final9]
      exact funext fun y => ref_merged _ _ _ _ _ _ y

end Cert.MergeFwd
-- ==== Proof.MlpFwd.lean ====
module

public import proofs.«01_k».proof.Proof.Gen.MlpFwdIdeal.Value
public import proofs.«01_k».proof.Proof.Norm
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

/-! The channel mixer `x2 = x1 + relu(norm(x1)·w_up)²·w_down`, written row by row. -/
namespace Cert.MlpFwd
open Cert.Norm

/-- Token rows, the norm's gain, the two weights as stored, the first one in four blocks of columns, and the hidden layer. -/
abbrev Row : Shape := ⟨2, ![4096, 1024]⟩
abbrev Gain : Shape := ⟨2, ![1, 1024]⟩
abbrev Up : Shape := ⟨3, ![1, 1024, 4096]⟩
abbrev Up4 : Shape := ⟨3, ![4, 1024, 1024]⟩
abbrev Down : Shape := ⟨3, ![1, 4096, 1024]⟩
abbrev Hid : Shape := ⟨2, ![4096, 4096]⟩

def upOf (w : Up.Idx → EReal) (k : Fin 1024) (l : Fin 4096) : EReal := w (ix3 0 k l)
def downOf (w : Down.Idx → EReal) (l : Fin 4096) (n : Fin 1024) : EReal := w (ix3 0 l n)
def upOf4 (w : Up4.Idx → EReal) (k : Fin 1024) (l : Fin 4096) : EReal := w (ix3 ⟨l.val / 1024, by omega⟩ k ⟨l.val % 1024, by omega⟩)

theorem upOf4_at (w : Up4.Idx → EReal) (k : Fin 1024) (l : Fin 4096) (j : Fin 4) (q : Fin 1024) (h : l.val = j.val * 1024 + q.val) :
    upOf4 w k l = w (ix3 j k q) := by
  unfold upOf4
  rw [show (⟨l.val / 1024, by omega⟩ : Fin 4) = j from Fin.ext (by dsimp only; omega), show (⟨l.val % 1024, by omega⟩ : Fin 1024) = q from Fin.ext (by dsimp only; omega)]

section rows
variable (x g : Fin 1024 → EReal) (wu : Fin 1024 → Fin 4096 → EReal) (wd : Fin 4096 → Fin 1024 → EReal)

/-- A row's hidden layer, its squared positive part, and the row the mixer returns. -/
def pre (l : Fin 4096) : EReal := ∑ k, nrm x g k * wu k l
def rel (z : EReal) : EReal := max z 0 * max z 0
def out (n : Fin 1024) : EReal := x n + ∑ l, rel (pre x g wu l) * wd l n
end rows

section arrays
variable (x : Row.Idx → EReal) (g : Gain.Idx → EReal) (wu : Fin 1024 → Fin 4096 → EReal) (wd : Fin 4096 → Fin 1024 → EReal)

def rowOf (r : Fin 4096) (k : Fin 1024) : EReal := x (ix2 r k)
def gainOf (k : Fin 1024) : EReal := g (ix2 0 k)

/-- The four arrays: the normed rows, the hidden layer before and after the squared rectifier, the rows returned. -/
def hmArr (j : Row.Idx) : EReal := nrm (rowOf x (j 0)) (gainOf g) (j 1)
def uArr (j : Hid.Idx) : EReal := pre (rowOf x (j 0)) (gainOf g) wu (j 1)
def actArr (j : Hid.Idx) : EReal := rel (uArr x g wu j)
def outArr (j : Row.Idx) : EReal := out (rowOf x (j 0)) (gainOf g) wu wd (j 1)
end arrays

end Cert.MlpFwd

namespace Cert.MlpFwdIdeal.Value
open Cert.MlpFwdIdeal Cert.MlpFwdIdeal.Gen Cert.Norm Cert.MlpFwd

section payloads
variable (x : Vec Ideal S256x1024 .f32) (g : Vec Ideal S1x1024 .f32) (r : Fin 256) (n : Fin 1024)

theorem nrm_at : k0_pay1 (F := Ideal) x g (ix2 r n) = nrm (fun k => x (ix2 r k)) (fun k => g (ix2 0 k)) n := by
  pointwise [k0_pay1, nrm, rinv, ms]

variable (w : Vec Ideal S4x1024x1024 .bf16)

/-- A column of one block of the hidden layer. -/
def col (j : Fin 4) : EReal := ∑ k, nrm (fun k => x (ix2 r k)) (fun k => g (ix2 0 k)) k * w (ix3 j k n)

theorem up_at0 : k0_pay2 (F := Ideal) x g (View.ld w (Rect.unit (s := S4x1024x1024) ![0, 0, 0] ![1, 1024, 1024] inb_S4x1024x1024_S1x1024x1024_0_0_0)) (ix2 r n) = col x g r n w 0 := by
  pointwise [k0_pay2, nrm_at, col]

theorem act_at0 : k0_pay3 (F := Ideal) x g (View.ld w (Rect.unit (s := S4x1024x1024) ![0, 0, 0] ![1, 1024, 1024] inb_S4x1024x1024_S1x1024x1024_0_0_0)) (ix2 r n) = rel (col x g r n w 0) := by
  pointwise [k0_pay3, up_at0, rel]

theorem up_at1 : k0_pay4 (F := Ideal) x g (View.ld w (Rect.unit (s := S4x1024x1024) ![1, 0, 0] ![1, 1024, 1024] inb_S4x1024x1024_S1x1024x1024_1_0_0)) (ix2 r n) = col x g r n w 1 := by
  pointwise [k0_pay4, nrm_at, col]

theorem act_at1 : k0_pay6 (F := Ideal) (k0_pay4 x g (View.ld w (Rect.unit (s := S4x1024x1024) ![1, 0, 0] ![1, 1024, 1024] inb_S4x1024x1024_S1x1024x1024_1_0_0))) k0_pay5 (ix2 r n) = rel (col x g r n w 1) := by
  pointwise [k0_pay6, k0_pay5, up_at1, rel]

theorem up_at2 : k0_pay7 (F := Ideal) (k0_pay1 x g) (View.ld w (Rect.unit (s := S4x1024x1024) ![2, 0, 0] ![1, 1024, 1024] inb_S4x1024x1024_S1x1024x1024_2_0_0)) (ix2 r n) = col x g r n w 2 := by
  pointwise [k0_pay7, nrm_at, col]

theorem act_at2 : k0_pay8 (F := Ideal) (k0_pay1 x g) (View.ld w (Rect.unit (s := S4x1024x1024) ![2, 0, 0] ![1, 1024, 1024] inb_S4x1024x1024_S1x1024x1024_2_0_0)) (ix2 r n) = rel (col x g r n w 2) := by
  pointwise [k0_pay8, up_at2, rel]

theorem up_at3 : k0_pay9 (F := Ideal) (k0_pay1 x g) (View.ld w (Rect.unit (s := S4x1024x1024) ![3, 0, 0] ![1, 1024, 1024] inb_S4x1024x1024_S1x1024x1024_3_0_0)) (ix2 r n) = col x g r n w 3 := by
  pointwise [k0_pay9, nrm_at, col]

theorem act_at3 : k0_pay10 (F := Ideal) (k0_pay1 x g) (View.ld w (Rect.unit (s := S4x1024x1024) ![3, 0, 0] ![1, 1024, 1024] inb_S4x1024x1024_S1x1024x1024_3_0_0)) (ix2 r n) = rel (col x g r n w 3) := by
  pointwise [k0_pay10, up_at3, rel]

theorem col_up (j : Fin 4) (q : Fin 1024) (l : Fin 4096) (h : l.val = j.val * 1024 + q.val) :
    col x g r q w j = pre (fun k => x (ix2 r k)) (fun k => g (ix2 0 k)) (upOf4 w) l :=
  Finset.sum_congr rfl fun k _ => congrArg _ (upOf4_at w k l j q h).symm

/-- The four stores of the squared rectifier's blocks, the last one first. -/
abbrev acts : List (View.Piece (Elt Ideal) S256x4096 .bf16) :=
  [⟨Rect.unit (s := S256x4096) ![0, 3072] ![256, 1024] inb_S256x4096_S256x1024_0_3072, k0_pay10 (k0_pay1 x g) (View.ld w (Rect.unit (s := S4x1024x1024) ![3, 0, 0] ![1, 1024, 1024] inb_S4x1024x1024_S1x1024x1024_3_0_0))⟩,
   ⟨Rect.unit (s := S256x4096) ![0, 2048] ![256, 1024] inb_S256x4096_S256x1024_0_2048, k0_pay8 (k0_pay1 x g) (View.ld w (Rect.unit (s := S4x1024x1024) ![2, 0, 0] ![1, 1024, 1024] inb_S4x1024x1024_S1x1024x1024_2_0_0))⟩,
   ⟨Rect.unit (s := S256x4096) ![0, 1024] ![256, 1024] inb_S256x4096_S256x1024_0_1024, k0_pay6 (k0_pay4 x g (View.ld w (Rect.unit (s := S4x1024x1024) ![1, 0, 0] ![1, 1024, 1024] inb_S4x1024x1024_S1x1024x1024_1_0_0))) k0_pay5⟩,
   ⟨Rect.unit (s := S256x4096) ![0, 0] ![256, 1024] inb_S256x4096_S256x1024_0_0, k0_pay3 x g (View.ld w (Rect.unit (s := S4x1024x1024) ![0, 0, 0] ![1, 1024, 1024] inb_S4x1024x1024_S1x1024x1024_0_0_0))⟩]

theorem acts_at (l : Fin 4096) : View.canon (acts x g w) (ix2 r l) = rel (pre (fun k => x (ix2 r k)) (fun k => g (ix2 0 k)) (upOf4 w) l) := by
  unfold acts
  canon_tiles x' h
  · idx_vars x'
    obtain rfl : r = x'0 := Fin.ext h0
    exact (act_at3 _ _ r x'1 _).trans (congrArg rel (col_up x g r w 3 x'1 l (by simpa using h1)))
  · idx_vars x'
    obtain rfl : r = x'0 := Fin.ext h0
    exact (act_at2 _ _ r x'1 _).trans (congrArg rel (col_up x g r w 2 x'1 l (by simpa using h1)))
  · idx_vars x'
    obtain rfl : r = x'0 := Fin.ext h0
    exact (act_at1 _ _ r x'1 _).trans (congrArg rel (col_up x g r w 1 x'1 l (by simpa using h1)))
  · idx_vars x'
    obtain rfl : r = x'0 := Fin.ext h0
    exact (act_at0 _ _ r x'1 _).trans (congrArg rel (col_up x g r w 0 x'1 l (by simpa using h1)))

theorem acts_read (v : View sig .tc .vmem S256x4096 .bf16) (l : Fin 4096) :
    (v.readCov (acts x g w) (Rect.unit (s := S256x4096) ![0, 0] ![256, 4096] inb_S256x4096_S256x4096_0_0).toLoadRect : Vec Ideal S256x4096 .bf16) (ix2 r l)
      = rel (pre (fun k => x (ix2 r k)) (fun k => g (ix2 0 k)) (upOf4 w) l) := by
  rw [View.readCov_eq_canon', ← acts_at]
  show View.ld (View.canon (acts x g w)) (Rect.unit (s := S256x4096) ![0, 0] ![256, 4096] inb_S256x4096_S256x4096_0_0) (ix2 r l) = _
  generalize View.canon (acts x g w) = d
  pointwise

theorem out_at (v : View sig .tc .vmem S256x4096 .bf16) (wd : Vec Ideal S4096x1024 .bf16) :
    k0_pay11 (F := Ideal) x (v.readCov (acts x g w) (Rect.unit (s := S256x4096) ![0, 0] ![256, 4096] inb_S256x4096_S256x4096_0_0).toLoadRect) wd (ix2 r n)
      = out (fun k => x (ix2 r k)) (fun k => g (ix2 0 k)) (upOf4 w) (fun l n => wd (ix2 l n)) n := by
  have h := acts_read x g r w v
  revert h
  generalize (v.readCov (acts x g w) (Rect.unit (s := S256x4096) ![0, 0] ![256, 4096] inb_S256x4096_S256x4096_0_0).toLoadRect : Vec Ideal S256x4096 .bf16) = d
  intro h
  pointwise [k0_pay11, out, h]

end payloads

variable (m : (ℓ : Loc nD τ sig) → Buf (Elt Ideal) ℓ)

theorem idx : ∀ t : Fin cfg0.N, win0_0.index t = ![t.val, 0] ∧ win0_1.index t = ![0, 0] ∧ win0_2.index t = ![0, 0, 0]
    ∧ win0_3.index t = ![0, 0] ∧ win0_4.index t = ![t.val, 0] ∧ win0_5.index t = ![t.val, 0] ∧ win0_6.index t = ![t.val, 0]
    ∧ win0_7.index t = ![t.val, 0] :=
  (by decide +kernel : ∀ t : Fin grid0.N, _)

/-- The array's row that is row `r` of tile `t`. -/
def row (t : Fin cfg0.N) (r : Fin 256) : Fin 4096 := ⟨t.val * 256 + r.val, by have h : t.val < 16 := lt_of_lt_of_eq t.isLt N_0; omega⟩

section blocks
variable (c : Dev nD) (t : Fin cfg0.N) (r : Fin 256)

theorem x_row : (fun k => iblk m c 0 t (ix2 r k)) = rowOf (V m c main_arg0) (row t r) := by
  funext k; unfold rowOf row; blk_point [iblk, idx t]

theorem g_row : (fun k => iblk m c 1 t (ix2 0 k)) = gainOf (V m c main_arg1) := by
  funext k; unfold gainOf; blk_point [iblk, idx t]

theorem wu_blk (j : Fin 4) (k q : Fin 1024) : iblk m c 2 t (ix3 j k q) = (V m c main_v3 : Up4.Idx → EReal) (ix3 j k q) := by
  blk_point [iblk, idx t]

theorem wd_blk (l : Fin 4096) (n : Fin 1024) : iblk m c 3 t (ix2 l n) = V m c main_v5 (ix2 l n) := by
  blk_point [iblk, idx t]

theorem wu_blk' : upOf4 (iblk m c 2 t) = upOf4 (V m c main_v3) := by
  funext k l; exact wu_blk m c t _ k _

theorem wd_blk' : (fun l n => iblk m c 3 t (ix2 l n)) = fun l n => V m c main_v5 (ix2 l n) := by
  funext l n; exact wd_blk m c t l n

theorem emb4 (f : Row.Idx → EReal) (n : Fin 1024) : f ((win0_4.blk t).view.emb (ix2 r n)) = f (ix2 (row t r) n) := by
  unfold row; blk_ext [idx t]

theorem emb5 (f : Row.Idx → EReal) (n : Fin 1024) : f ((win0_5.blk t).view.emb (ix2 r n)) = f (ix2 (row t r) n) := by
  unfold row; blk_ext [idx t]

theorem emb6 (f : Hid.Idx → EReal) (l : Fin 4096) : f ((win0_6.blk t).view.emb (ix2 r l)) = f (ix2 (row t r) l) := by
  unfold row; blk_ext [idx t]

theorem emb7 (f : Hid.Idx → EReal) (l : Fin 4096) : f ((win0_7.blk t).view.emb (ix2 r l)) = f (ix2 (row t r) l) := by
  unfold row; blk_ext [idx t]

/-- A column of block `j` is a column of the hidden layer. -/
theorem col_eq (j : Fin 4) (q : Fin 1024) (l : Fin 4096) (h : l.val = j.val * 1024 + q.val) :
    col (iblk m c 0 t) (iblk m c 1 t) r q (iblk m c 2 t) j = uArr (V m c main_arg0) (V m c main_arg1) (upOf4 (V m c main_v3)) (ix2 (row t r) l) := by
  unfold col
  rw [x_row, g_row]
  show _ = ∑ k, nrm _ _ k * upOf4 _ k l
  refine Finset.sum_congr rfl fun k _ => ?_
  rw [wu_blk]
  exact congrArg _ (upOf4_at _ k l j q h).symm
end blocks

/-- The normed rows. -/
theorem final5 (c : Dev nD) : (dats m 0 c).arrAt 5 (cfgs 0).N = hmArr (V m c main_arg0) (V m c main_arg1) := by
  refine (dats m 0 c).arrAt_eq_of_covers 5 _ (by decide +kernel) fun t _ y => ?_
  blk_simp
  rw [after0_5]; unfold outsAt0; frame_out
  idx_vars y
  refine (nrm_at _ _ y0 y1).trans ?_
  rw [x_row, g_row]
  exact (emb5 t y0 (hmArr (V m c main_arg0) (V m c main_arg1)) y1).symm

/-- The hidden layer before the rectifier. -/
theorem final6 (c : Dev nD) : (dats m 0 c).arrAt 6 (cfgs 0).N = uArr (V m c main_arg0) (V m c main_arg1) (upOf4 (V m c main_v3)) := by
  refine (dats m 0 c).arrAt_eq_of_covers 6 _ (by decide +kernel) fun t _ y => ?_
  blk_simp
  rw [after0_6]; unfold outsAt0; frame_out
  idx_vars y
  refine Eq.trans ?_ (emb6 t y0 (uArr (V m c main_arg0) (V m c main_arg1) (upOf4 (V m c main_v3))) y1).symm
  canon_tiles x h
  · idx_vars x
    obtain rfl : y0 = x0 := Fin.ext h0
    exact (up_at3 _ _ y0 x1 _).trans (col_eq m c t y0 3 x1 y1 (by simpa using h1))
  · idx_vars x
    obtain rfl : y0 = x0 := Fin.ext h0
    exact (up_at2 _ _ y0 x1 _).trans (col_eq m c t y0 2 x1 y1 (by simpa using h1))
  · idx_vars x
    obtain rfl : y0 = x0 := Fin.ext h0
    exact (up_at1 _ _ y0 x1 _).trans (col_eq m c t y0 1 x1 y1 (by simpa using h1))
  · idx_vars x
    obtain rfl : y0 = x0 := Fin.ext h0
    exact (up_at0 _ _ y0 x1 _).trans (col_eq m c t y0 0 x1 y1 (by simpa using h1))

/-- The hidden layer after the squared rectifier. -/
theorem final7 (c : Dev nD) : (dats m 0 c).arrAt 7 (cfgs 0).N = actArr (V m c main_arg0) (V m c main_arg1) (upOf4 (V m c main_v3)) := by
  refine (dats m 0 c).arrAt_eq_of_covers 7 _ (by decide +kernel) fun t _ y => ?_
  blk_simp
  rw [after0_7]; unfold outsAt0; frame_out
  idx_vars y
  refine Eq.trans ?_ (emb7 t y0 (actArr (V m c main_arg0) (V m c main_arg1) (upOf4 (V m c main_v3))) y1).symm
  canon_tiles x h
  · idx_vars x
    obtain rfl : y0 = x0 := Fin.ext h0
    exact (act_at3 _ _ y0 x1 _).trans (congrArg rel (col_eq m c t y0 3 x1 y1 (by simpa using h1)))
  · idx_vars x
    obtain rfl : y0 = x0 := Fin.ext h0
    exact (act_at2 _ _ y0 x1 _).trans (congrArg rel (col_eq m c t y0 2 x1 y1 (by simpa using h1)))
  · idx_vars x
    obtain rfl : y0 = x0 := Fin.ext h0
    exact (act_at1 _ _ y0 x1 _).trans (congrArg rel (col_eq m c t y0 1 x1 y1 (by simpa using h1)))
  · idx_vars x
    obtain rfl : y0 = x0 := Fin.ext h0
    exact (act_at0 _ _ y0 x1 _).trans (congrArg rel (col_eq m c t y0 0 x1 y1 (by simpa using h1)))

/-- The rows returned. -/
theorem final4 (c : Dev nD) : (dats m 0 c).arrAt 4 (cfgs 0).N = outArr (V m c main_arg0) (V m c main_arg1) (upOf4 (V m c main_v3)) (fun l n => V m c main_v5 (ix2 l n)) := by
  refine (dats m 0 c).arrAt_eq_of_covers 4 _ (by decide +kernel) fun t _ y => ?_
  blk_simp
  rw [after0_4]; unfold outsAt0; frame_out
  idx_vars y
  refine Eq.trans ?_ (emb4 t y0 (outArr (V m c main_arg0) (V m c main_arg1) (upOf4 (V m c main_v3)) (fun l n => V m c main_v5 (ix2 l n))) y1).symm
  refine (out_at _ _ y0 y1 _ _ _).trans ?_
  rw [x_row, g_row, wu_blk', wd_blk']
  rfl

/-- What the host has made of the two weights. -/
theorem up_host (w : FVec Ideal S1x1024x4096 .f32) (j : Fin 4) (k q : Fin 1024) :
    (transpose S4x1024x1024 [1, 0, 2] (shapeCast S1024x4x1024 (truncf .bf16 (shapeCast S1024x4096 w shapeCasts_S1x1024x4096_S1024x4096) bitsLt_bf16_f32) shapeCasts_S1024x4096_S1024x4x1024) transposes_S1024x4x1024_S4x1024x1024_1_0_2 : FVec Ideal S4x1024x1024 .bf16) (ix3 j k q)
      = w (ix3 0 k ⟨j.val * 1024 + q.val, by omega⟩) := by
  pointwise

theorem V_up (c : Dev nD) : upOf4 (V m c main_v3) = upOf (m ((c : Thread nD τ).loc main_arg2)) := by
  funext k l
  refine (up_host (m ((c : Thread nD τ).loc main_arg2)) ⟨l.val / 1024, by omega⟩ k ⟨l.val % 1024, by omega⟩).trans ?_
  show _ = m ((c : Thread nD τ).loc main_arg2) (ix3 0 k l)
  congr 2
  exact Fin.ext (by dsimp only; omega)

theorem down_host (w : FVec Ideal S1x4096x1024 .f32) (l : Fin 4096) (n : Fin 1024) :
    (truncf .bf16 (shapeCast S4096x1024 w shapeCasts_S1x4096x1024_S4096x1024) bitsLt_bf16_f32 : FVec Ideal S4096x1024 .bf16) (ix2 l n) = w (ix3 0 l n) := by
  pointwise

theorem V_down (c : Dev nD) : (fun l n => (V m c main_v5 : FVec Ideal S4096x1024 .bf16) (ix2 l n)) = downOf (m ((c : Thread nD τ).loc main_arg3)) := by
  funext l n
  exact down_host (m ((c : Thread nD τ).loc main_arg3)) l n

end Cert.MlpFwdIdeal.Value
-- ==== Proof.MlpFwdPair.lean ====
module

public import proofs.«01_k».proof.Proof.MlpFwd
public import proofs.«01_k».proof.Proof.Gen.MlpFwdRefIdeal.Run
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MlpFwdRefIdeal.Stage
open Cert.MlpFwdRefIdeal Cert.MlpFwdRefIdeal.Gen Cert.Norm Cert.MlpFwd

variable (a0 : FVec Ideal S4096x1024 .f32) (a1 : FVec Ideal S1x1024 .f32) (a2 : FVec Ideal S1x1024x4096 .f32) (a3 : FVec Ideal S1x4096x1024 .f32)

/-- The inverse roots of the mean squares, the normed rows, the hidden layer and its squared positive part, the rows returned. -/
def root : FVec Ideal S4096x1 .f32 :=
  Host.rsqrt (addf (Host.divf (broadcastInDim S4096x1 ![0] bcast_S4096_S4096x1_0 (Host.reduceAdd (mulf a0 a0) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))

def normed : FVec Ideal S4096x1024 .f32 :=
  mulf (mulf a0 (broadcastInDim S4096x1024 ![0, 1] bcast_S4096x1_S4096x1024_0_1 (root a0))) (broadcastInDim S4096x1024 ![0, 1] bcast_S1x1024_S4096x1024_0_1 (broadcastInDim S1x1024 ![1] bcast_S1024_S1x1024_1 (shapeCast S1024 a1 shapeCasts_S1x1024_S1024)))

def hidden : FVec Ideal S4096x4096 .f32 :=
  Host.dotGeneral dot_S4096x1024_S1024x4096_S4096x4096_1_0_0_1_n_n none (normed a0 a1) (shapeCast S1024x4096 a2 shapeCasts_S1x1024x4096_S1024x4096)

def pos : FVec Ideal S4096x4096 .f32 :=
  maximumf (hidden a0 a1 a2) (broadcastInDim S4096x4096 ![] bcast_S_S4096x4096 (constant S_ .f32 0x00000000#32))

def squared : FVec Ideal S4096x4096 .f32 := mulf (pos a0 a1 a2) (pos a0 a1 a2)

def rows : FVec Ideal S4096x1024 .f32 :=
  addf a0 (Host.dotGeneral dot_S4096x4096_S4096x1024_S4096x1024_1_0_0_1_n_n none (squared a0 a1 a2) (shapeCast S4096x1024 a3 shapeCasts_S1x4096x1024_S4096x1024))

variable (r : Fin 4096) (n : Fin 1024) (l : Fin 4096)

theorem root_at : root a0 (ix2 r 0) = rinv (rowOf a0 r) := by
  pointwise [root, rinv, ms, rowOf]

theorem normed_at : normed a0 a1 (ix2 r n) = nrm (rowOf a0 r) (gainOf a1) n := by
  pointwise [normed, root_at, nrm, gainOf, rowOf]

theorem hidden_at : hidden a0 a1 a2 (ix2 r l) = uArr a0 a1 (upOf a2) (ix2 r l) := by
  pointwise [hidden, normed_at, uArr, pre, upOf]

theorem squared_at : squared a0 a1 a2 (ix2 r l) = rel (uArr a0 a1 (upOf a2) (ix2 r l)) := by
  pointwise [squared, pos, hidden_at, rel]

theorem rows_at : rows a0 a1 a2 a3 (ix2 r n) = outArr a0 a1 (upOf a2) (downOf a3) (ix2 r n) := by
  pointwise [rows, squared_at, outArr, out, uArr, downOf, rowOf]

theorem normed_eq : (truncf .bf16 (normed a0 a1) bitsLt_bf16_f32 : FVec Ideal S4096x1024 .bf16) = hmArr a0 a1 := by
  funext y; idx_vars y; exact normed_at ..
theorem hidden_eq : hidden a0 a1 a2 = uArr a0 a1 (upOf a2) := by
  funext y; idx_vars y; exact hidden_at ..
theorem squared_eq : (truncf .bf16 (squared a0 a1 a2) bitsLt_bf16_f32 : FVec Ideal S4096x4096 .bf16) = actArr a0 a1 (upOf a2) := by
  funext y; idx_vars y; exact squared_at ..
theorem rows_eq : rows a0 a1 a2 a3 = outArr a0 a1 (upOf a2) (downOf a3) := by
  funext y; idx_vars y; exact rows_at ..
end Cert.MlpFwdRefIdeal.Stage

namespace Cert.MlpFwd
open Cert.MlpFwdRefIdeal.Stage

set_option maxHeartbeats 800000 in
/-- Over the extended reals the kernel's four arrays are the reference's. -/
theorem algebraic : Cert.algebraic_MlpFwdIdeal_MlpFwdRefIdeal := by
  pair_intro
  · run_from Cert.MlpFwdIdeal.Gen.run_main m g
  · run_from Cert.MlpFwdRefIdeal.Value.run m' g'
    · rw [Cert.MlpFwdIdeal.Value.final4, Cert.MlpFwdIdeal.Value.V_up, Cert.MlpFwdIdeal.Value.V_down, Cert.MlpFwdIdeal.Gen.V_main_arg0, Cert.MlpFwdIdeal.Gen.V_main_arg1]
      exact rows_eq _ _ _ _
    · rw [Cert.MlpFwdIdeal.Value.final5, Cert.MlpFwdIdeal.Gen.V_main_arg0, Cert.MlpFwdIdeal.Gen.V_main_arg1]
      exact normed_eq _ _
    · rw [Cert.MlpFwdIdeal.Value.final6, Cert.MlpFwdIdeal.Value.V_up, Cert.MlpFwdIdeal.Gen.V_main_arg0, Cert.MlpFwdIdeal.Gen.V_main_arg1]
      exact hidden_eq _ _ _
    · rw [Cert.MlpFwdIdeal.Value.final7, Cert.MlpFwdIdeal.Value.V_up, Cert.MlpFwdIdeal.Gen.V_main_arg0, Cert.MlpFwdIdeal.Gen.V_main_arg1]
      exact squared_eq _ _ _

end Cert.MlpFwd
-- ==== Proof.lean ====
module

public import proofs.«01_k».proof.Defs
public import proofs.«01_k».proof.Proof.Gen.MergeBwd
public import proofs.«01_k».proof.Proof.Gen.MergeBwd.Skeleton
public import proofs.«01_k».proof.Proof.Gen.MergeBwd.Launch
public import proofs.«01_k».proof.Proof.Gen.MergeBwd.Points
public import proofs.«01_k».proof.Proof.Gen.MergeBwd.Frame
public import proofs.«01_k».proof.Proof.Gen.MergeBwdIdeal
public import proofs.«01_k».proof.Proof.Gen.MergeBwdIdeal.Skeleton
public import proofs.«01_k».proof.Proof.Gen.MergeBwdIdeal.Launch
public import proofs.«01_k».proof.Proof.Gen.MergeBwdIdeal.Points
public import proofs.«01_k».proof.Proof.Gen.MergeBwdIdeal.Frame
public import proofs.«01_k».proof.Proof.Gen.MergeBwdIdeal.Value
public import proofs.«01_k».proof.Proof.Gen.MergeRefIdeal
public import proofs.«01_k».proof.Proof.Gen.PleLoss
public import proofs.«01_k».proof.Proof.Gen.PleLoss.Skeleton
public import proofs.«01_k».proof.Proof.Gen.PleLoss.Launch
public import proofs.«01_k».proof.Proof.Gen.PleLoss.Points
public import proofs.«01_k».proof.Proof.Gen.PleLoss.Frame
public import proofs.«01_k».proof.Proof.Gen.PleLossIdeal
public import proofs.«01_k».proof.Proof.Gen.PleLossIdeal.Skeleton
public import proofs.«01_k».proof.Proof.Gen.PleLossIdeal.Launch
public import proofs.«01_k».proof.Proof.Gen.PleLossIdeal.Points
public import proofs.«01_k».proof.Proof.Gen.PleLossIdeal.Frame
public import proofs.«01_k».proof.Proof.Gen.PleRefIdeal
public import proofs.«01_k».proof.Proof.Gen.PleRefIdeal.Run
public import proofs.«01_k».proof.Proof.Gen.MlpBwd
public import proofs.«01_k».proof.Proof.Gen.MlpBwd.Skeleton
public import proofs.«01_k».proof.Proof.Gen.MlpBwd.Launch
public import proofs.«01_k».proof.Proof.Gen.MlpBwd.Points
public import proofs.«01_k».proof.Proof.Gen.MlpBwd.Frame
public import proofs.«01_k».proof.Proof.Gen.MlpBwdIdeal
public import proofs.«01_k».proof.Proof.Gen.MlpBwdIdeal.Skeleton
public import proofs.«01_k».proof.Proof.Gen.MlpBwdIdeal.Launch
public import proofs.«01_k».proof.Proof.Gen.MlpBwdIdeal.Points
public import proofs.«01_k».proof.Proof.Gen.MlpBwdIdeal.Frame
public import proofs.«01_k».proof.Proof.Gen.MlpRefIdeal
public import proofs.«01_k».proof.Proof.Gen.MlpRefIdeal.Run
public import proofs.«01_k».proof.Proof.Gen.InprojBwd
public import proofs.«01_k».proof.Proof.Gen.InprojBwd.Skeleton
public import proofs.«01_k».proof.Proof.Gen.InprojBwd.Launch
public import proofs.«01_k».proof.Proof.Gen.InprojBwd.Points
public import proofs.«01_k».proof.Proof.Gen.InprojBwd.Frame
public import proofs.«01_k».proof.Proof.Gen.InprojBwdIdeal
public import proofs.«01_k».proof.Proof.Gen.InprojBwdIdeal.Skeleton
public import proofs.«01_k».proof.Proof.Gen.InprojBwdIdeal.Launch
public import proofs.«01_k».proof.Proof.Gen.InprojBwdIdeal.Points
public import proofs.«01_k».proof.Proof.Gen.InprojBwdIdeal.Frame
public import proofs.«01_k».proof.Proof.Gen.InprojRefIdeal
public import proofs.«01_k».proof.Proof.Gen.InprojRefIdeal.Run
public import proofs.«01_k».proof.Proof.Gen.KvBwd
public import proofs.«01_k».proof.Proof.Gen.KvBwd.Skeleton
public import proofs.«01_k».proof.Proof.Gen.KvBwd.Launch
public import proofs.«01_k».proof.Proof.Gen.KvBwd.Points
public import proofs.«01_k».proof.Proof.Gen.KvBwd.Frame
public import proofs.«01_k».proof.Proof.Gen.KvBwdIdeal
public import proofs.«01_k».proof.Proof.Gen.KvBwdIdeal.Skeleton
public import proofs.«01_k».proof.Proof.Gen.KvBwdIdeal.Launch
public import proofs.«01_k».proof.Proof.Gen.KvBwdIdeal.Points
public import proofs.«01_k».proof.Proof.Gen.KvBwdIdeal.Frame
public import proofs.«01_k».proof.Proof.Gen.Pre_kv_finite
public import proofs.«01_k».proof.Proof.Gen.KvRefIdeal
public import proofs.«01_k».proof.Proof.Gen.KvRefIdeal.Run
public import proofs.«01_k».proof.Proof.Gen.AttnBwd
public import proofs.«01_k».proof.Proof.Gen.AttnBwd.Skeleton
public import proofs.«01_k».proof.Proof.Gen.AttnBwd.Launch
public import proofs.«01_k».proof.Proof.Gen.AttnBwd.Points
public import proofs.«01_k».proof.Proof.Gen.AttnBwd.Frame
public import proofs.«01_k».proof.Proof.Gen.AttnBwdIdeal
public import proofs.«01_k».proof.Proof.Gen.AttnBwdIdeal.Skeleton
public import proofs.«01_k».proof.Proof.Gen.AttnBwdIdeal.Launch
public import proofs.«01_k».proof.Proof.Gen.AttnBwdIdeal.Points
public import proofs.«01_k».proof.Proof.Gen.AttnBwdIdeal.Frame
public import proofs.«01_k».proof.Proof.Gen.Pre_attn_finite
public import proofs.«01_k».proof.Proof.Gen.AttnRefIdeal
public import proofs.«01_k».proof.Proof.Gen.AttnRefIdeal.Run
public import proofs.«01_k».proof.Proof.Gen.InprojFwd
public import proofs.«01_k».proof.Proof.Gen.InprojFwd.Skeleton
public import proofs.«01_k».proof.Proof.Gen.InprojFwd.Launch
public import proofs.«01_k».proof.Proof.Gen.InprojFwd.Points
public import proofs.«01_k».proof.Proof.Gen.InprojFwd.Frame
public import proofs.«01_k».proof.Proof.Gen.InprojFwdIdeal
public import proofs.«01_k».proof.Proof.Gen.InprojFwdIdeal.Skeleton
public import proofs.«01_k».proof.Proof.Gen.InprojFwdIdeal.Launch
public import proofs.«01_k».proof.Proof.Gen.InprojFwdIdeal.Points
public import proofs.«01_k».proof.Proof.Gen.InprojFwdIdeal.Frame
public import proofs.«01_k».proof.Proof.Gen.InprojFwdIdeal.Value
public import proofs.«01_k».proof.Proof.Gen.InprojFwdRefIdeal
public import proofs.«01_k».proof.Proof.Gen.InprojFwdRefIdeal.Run
public import proofs.«01_k».proof.Proof.Gen.MergeFwd
public import proofs.«01_k».proof.Proof.Gen.MergeFwd.Skeleton
public import proofs.«01_k».proof.Proof.Gen.MergeFwd.Launch
public import proofs.«01_k».proof.Proof.Gen.MergeFwd.Points
public import proofs.«01_k».proof.Proof.Gen.MergeFwd.Frame
public import proofs.«01_k».proof.Proof.Gen.MergeFwdIdeal
public import proofs.«01_k».proof.Proof.Gen.MergeFwdIdeal.Skeleton
public import proofs.«01_k».proof.Proof.Gen.MergeFwdIdeal.Launch
public import proofs.«01_k».proof.Proof.Gen.MergeFwdIdeal.Points
public import proofs.«01_k».proof.Proof.Gen.MergeFwdIdeal.Frame
public import proofs.«01_k».proof.Proof.Gen.MergeFwdIdeal.Value
public import proofs.«01_k».proof.Proof.Gen.MergeFwdRefIdeal
public import proofs.«01_k».proof.Proof.Gen.MergeFwdRefIdeal.Run
public import proofs.«01_k».proof.Proof.Gen.MlpFwd
public import proofs.«01_k».proof.Proof.Gen.MlpFwd.Skeleton
public import proofs.«01_k».proof.Proof.Gen.MlpFwd.Launch
public import proofs.«01_k».proof.Proof.Gen.MlpFwd.Points
public import proofs.«01_k».proof.Proof.Gen.MlpFwd.Frame
public import proofs.«01_k».proof.Proof.Gen.MlpFwdIdeal
public import proofs.«01_k».proof.Proof.Gen.MlpFwdIdeal.Skeleton
public import proofs.«01_k».proof.Proof.Gen.MlpFwdIdeal.Launch
public import proofs.«01_k».proof.Proof.Gen.MlpFwdIdeal.Points
public import proofs.«01_k».proof.Proof.Gen.MlpFwdIdeal.Frame
public import proofs.«01_k».proof.Proof.Gen.MlpFwdIdeal.Value
public import proofs.«01_k».proof.Proof.Gen.MlpFwdRefIdeal
public import proofs.«01_k».proof.Proof.Gen.MlpFwdRefIdeal.Run
public import proofs.«01_k».proof.Proof.MergePair
public import proofs.«01_k».proof.Proof.PlePair
public import proofs.«01_k».proof.Proof.MlpPair
public import proofs.«01_k».proof.Proof.InprojPair
public import proofs.«01_k».proof.Proof.KvPair
public import proofs.«01_k».proof.Proof.AttnPair
public import proofs.«01_k».proof.Proof.InprojFwdPair
public import proofs.«01_k».proof.Proof.MergeFwd
public import proofs.«01_k».proof.Proof.MlpFwdPair
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem

/-- The reference of the Merge pair runs, changes no argument and ends with every counter at zero. -/
theorem merge_ref_frame : Cert.quiescent_MergeRefIdeal (hMergeRefIdeal := Cert.MergeRefIdeal.Gen.facts) := by
  intro m g _; hlo_run; all_goals first | (intro c; simp; done) | exact sem_eq_zero_of_no_sems (sig := Cert.MergeRefIdeal.sig) (by decide) _

/-- The reference of the Ple pair runs, changes no argument and ends with every counter at zero. -/
theorem ple_ref_frame : Cert.quiescent_PleRefIdeal (hPleRefIdeal := Cert.PleRefIdeal.Gen.facts) := by
  intro m g _; hlo_run; all_goals first | (intro c; simp; done) | exact sem_eq_zero_of_no_sems (sig := Cert.PleRefIdeal.sig) (by decide) _

/-- The reference of the Mlp pair runs, changes no argument and ends with every counter at zero. -/
theorem mlp_ref_frame : Cert.quiescent_MlpRefIdeal (hMlpRefIdeal := Cert.MlpRefIdeal.Gen.facts) := by
  intro m g _; hlo_run; all_goals first | (intro c; simp; done) | exact sem_eq_zero_of_no_sems (sig := Cert.MlpRefIdeal.sig) (by decide) _

/-- The reference of the Inproj pair runs, changes no argument and ends with every counter at zero. -/
theorem inproj_ref_frame : Cert.quiescent_InprojRefIdeal (hInprojRefIdeal := Cert.InprojRefIdeal.Gen.facts) := by
  intro m g _; hlo_run; all_goals first | (intro c; simp; done) | exact sem_eq_zero_of_no_sems (sig := Cert.InprojRefIdeal.sig) (by decide) _

/-- The reference of the Kv pair runs, changes no argument and ends with every counter at zero. -/
theorem kv_ref_frame : Cert.quiescent_KvRefIdeal (hKvRefIdeal := Cert.KvRefIdeal.Gen.facts) := by
  intro m g _; hlo_run; all_goals first | (intro c; simp; done) | exact sem_eq_zero_of_no_sems (sig := Cert.KvRefIdeal.sig) (by decide) _

/-- The reference of the Attn pair runs, changes no argument and ends with every counter at zero. -/
theorem attn_ref_frame : Cert.quiescent_AttnRefIdeal (hAttnRefIdeal := Cert.AttnRefIdeal.Gen.facts) := by
  intro m g _; hlo_run; all_goals first | (intro c; simp; done) | exact sem_eq_zero_of_no_sems (sig := Cert.AttnRefIdeal.sig) (by decide) _

/-- The reference of the InprojFwd pair runs, changes no argument and ends with every counter at zero. -/
theorem inprojfwd_ref_frame : Cert.quiescent_InprojFwdRefIdeal (hInprojFwdRefIdeal := Cert.InprojFwdRefIdeal.Gen.facts) := by
  intro m g _; hlo_run; all_goals first | (intro c; simp; done) | exact sem_eq_zero_of_no_sems (sig := Cert.InprojFwdRefIdeal.sig) (by decide) _

/-- The reference of the MergeFwd pair runs, changes no argument and ends with every counter at zero. -/
theorem mergefwd_ref_frame : Cert.quiescent_MergeFwdRefIdeal (hMergeFwdRefIdeal := Cert.MergeFwdRefIdeal.Gen.facts) := by
  intro m g _; hlo_run; all_goals first | (intro c; simp; done) | exact sem_eq_zero_of_no_sems (sig := Cert.MergeFwdRefIdeal.sig) (by decide) _

/-- The reference of the MlpFwd pair runs, changes no argument and ends with every counter at zero. -/
theorem mlpfwd_ref_frame : Cert.quiescent_MlpFwdRefIdeal (hMlpFwdRefIdeal := Cert.MlpFwdRefIdeal.Gen.facts) := by
  intro m g _; hlo_run; all_goals first | (intro c; simp; done) | exact sem_eq_zero_of_no_sems (sig := Cert.MlpFwdRefIdeal.sig) (by decide) _

theorem claim : Cert.Claim := ⟨Cert.MergeBwd.Gen.facts,
  Cert.MergeBwdIdeal.Gen.facts,
  Cert.MergeRefIdeal.Gen.facts,
  Cert.PleLoss.Gen.facts,
  Cert.PleLossIdeal.Gen.facts,
  Cert.PleRefIdeal.Gen.facts,
  Cert.MlpBwd.Gen.facts,
  Cert.MlpBwdIdeal.Gen.facts,
  Cert.MlpRefIdeal.Gen.facts,
  Cert.InprojBwd.Gen.facts,
  Cert.InprojBwdIdeal.Gen.facts,
  Cert.InprojRefIdeal.Gen.facts,
  Cert.KvBwd.Gen.facts,
  Cert.KvBwdIdeal.Gen.facts,
  Cert.KvRefIdeal.Gen.facts,
  Cert.AttnBwd.Gen.facts,
  Cert.AttnBwdIdeal.Gen.facts,
  Cert.AttnRefIdeal.Gen.facts,
  Cert.InprojFwd.Gen.facts,
  Cert.InprojFwdIdeal.Gen.facts,
  Cert.InprojFwdRefIdeal.Gen.facts,
  Cert.MergeFwd.Gen.facts,
  Cert.MergeFwdIdeal.Gen.facts,
  Cert.MergeFwdRefIdeal.Gen.facts,
  Cert.MlpFwd.Gen.facts,
  Cert.MlpFwdIdeal.Gen.facts,
  Cert.MlpFwdRefIdeal.Gen.facts,
  Cert.Pre_kv_finite.Gen.facts,
  Cert.Pre_attn_finite.Gen.facts,
  fun m ρ _ => Cert.MergeBwd.Gen.frame m ρ,
  fun m ρ _ => Cert.MergeBwdIdeal.Gen.frame m ρ,
  merge_ref_frame,
  fun m ρ _ => Cert.PleLoss.Gen.frame m ρ,
  fun m ρ _ => Cert.PleLossIdeal.Gen.frame m ρ,
  ple_ref_frame,
  fun m ρ _ => Cert.MlpBwd.Gen.frame m ρ,
  fun m ρ _ => Cert.MlpBwdIdeal.Gen.frame m ρ,
  mlp_ref_frame,
  fun m ρ _ => Cert.InprojBwd.Gen.frame m ρ,
  fun m ρ _ => Cert.InprojBwdIdeal.Gen.frame m ρ,
  inproj_ref_frame,
  fun m ρ _ => Cert.KvBwd.Gen.frame m ρ,
  fun m ρ _ => Cert.KvBwdIdeal.Gen.frame m ρ,
  fun m ρ _ => Cert.KvBwdIdeal.Gen.frame m ρ,
  kv_ref_frame,
  fun m ρ _ => kv_ref_frame m ρ trivial,
  fun m ρ _ => Cert.AttnBwd.Gen.frame m ρ,
  fun m ρ _ => Cert.AttnBwdIdeal.Gen.frame m ρ,
  fun m ρ _ => Cert.AttnBwdIdeal.Gen.frame m ρ,
  attn_ref_frame,
  fun m ρ _ => attn_ref_frame m ρ trivial,
  fun m ρ _ => Cert.InprojFwd.Gen.frame m ρ,
  fun m ρ _ => Cert.InprojFwdIdeal.Gen.frame m ρ,
  inprojfwd_ref_frame,
  fun m ρ _ => Cert.MergeFwd.Gen.frame m ρ,
  fun m ρ _ => Cert.MergeFwdIdeal.Gen.frame m ρ,
  mergefwd_ref_frame,
  fun m ρ _ => Cert.MlpFwd.Gen.frame m ρ,
  fun m ρ _ => Cert.MlpFwdIdeal.Gen.frame m ρ,
  mlpfwd_ref_frame,
  trivial,
  Cert.Merge.algebraic,
  trivial,
  Cert.Ple.algebraic,
  trivial,
  Cert.Mlp.algebraic,
  trivial,
  Cert.Inproj.algebraic,
  trivial,
  Cert.Kv.algebraic,
  Cert.Attn.preserves,
  Cert.Attn.algebraic,
  trivial,
  Cert.InprojFwd.algebraic,
  trivial,
  Cert.MergeFwd.algebraic,
  trivial,
  Cert.MlpFwd.algebraic⟩

end Cert.Proof

end
